-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v6)) (v3 : (c : Dev Cert.Kernel2Ideal.nD) → Buf (Elt Ideal) ((c.tc : Thread Cert.Kernel2Ideal.nD Cert.Kernel2Ideal.τ).loc Cert.Kernel2Ideal.main_v7)) (v4 : (c : Dev Cert.Kernel2Ideal.nD) → Buf (Elt Ideal) ((c.tc : Thread Cert.Kernel2Ideal.nD Cert.Kernel2Ideal.τ).loc Cert.Kernel2Ideal.main_v8)) (v5 : (c : Dev Cert.Kernel2Ideal.nD) → Buf (Elt Ideal) ((c.tc : Thread Cert.Kernel2Ideal.nD Cert.Kernel2Ideal.τ).loc Cert.Kernel2Ideal.main_v9)) (v6 : (c : Dev Cert.Kernel2Ideal.nD) → Buf (Elt Ideal) ((c.tc : Thread Cert.Kernel2Ideal.nD Cert.Kernel2Ideal.τ).loc Cert.Kernel2Ideal.main_v10)) (v7 : (c : Dev Cert.Kernel2Ideal.nD) → Buf (Elt Ideal) ((c.tc : Thread Cert.Kernel2Ideal.nD Cert.Kernel2Ideal.τ).loc Cert.Kernel2Ideal.main_v11)) (v8 : (c : Dev Cert.Kernel2Ideal.nD) → Buf (Elt Ideal) ((c.tc : Thread Cert.Kernel2Ideal.nD Cert.Kernel2Ideal.τ).loc Cert.Kernel2Ideal.main_v14)) (v9 : (c : Dev Cert.Kernel2Ideal.nD) → Buf (Elt Ideal) ((c.tc : Thread Cert.Kernel2Ideal.nD Cert.Kernel2Ideal.τ).loc Cert.Kernel2Ideal.main_v17)) (v10 : (c : Dev Cert.Kernel2Ideal.nD) → Buf (Elt Ideal) ((c.tc : Thread Cert.Kernel2Ideal.nD Cert.Kernel2Ideal.τ).loc Cert.Kernel2Ideal.main_v20)) (v11 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_v7) = v3 c
          ∧ r.2.mem ((c.tc : Thread Cert.Kernel2Ideal.nD Cert.Kernel2Ideal.τ).loc Cert.Kernel2Ideal.main_v8) = v4 c
          ∧ r.2.mem ((c.tc : Thread Cert.Kernel2Ideal.nD Cert.Kernel2Ideal.τ).loc Cert.Kernel2Ideal.main_v9) = v5 c
          ∧ r.2.mem ((c.tc : Thread Cert.Kernel2Ideal.nD Cert.Kernel2Ideal.τ).loc Cert.Kernel2Ideal.main_v10) = v6 c
          ∧ r.2.mem ((c.tc : Thread Cert.Kernel2Ideal.nD Cert.Kernel2Ideal.τ).loc Cert.Kernel2Ideal.main_v11) = v7 c
          ∧ r.2.mem ((c.tc : Thread Cert.Kernel2Ideal.nD Cert.Kernel2Ideal.τ).loc Cert.Kernel2Ideal.main_v14) = v8 c
          ∧ r.2.mem ((c.tc : Thread Cert.Kernel2Ideal.nD Cert.Kernel2Ideal.τ).loc Cert.Kernel2Ideal.main_v17) = v9 c
          ∧ r.2.mem ((c.tc : Thread Cert.Kernel2Ideal.nD Cert.Kernel2Ideal.τ).loc Cert.Kernel2Ideal.main_v20) = v10 c
          ∧ r.2.mem ((c.tc : Thread Cert.Kernel2Ideal.nD Cert.Kernel2Ideal.τ).loc Cert.Kernel2Ideal.main_v23) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_v32) = v4 c
          ∧ r.2.mem ((c.tc : Thread Cert.Reference2Ideal.nD Cert.Reference2Ideal.τ).loc Cert.Reference2Ideal.main_v33) = v5 c
          ∧ r.2.mem ((c.tc : Thread Cert.Reference2Ideal.nD Cert.Reference2Ideal.τ).loc Cert.Reference2Ideal.main_v34) = v6 c
          ∧ r.2.mem ((c.tc : Thread Cert.Reference2Ideal.nD Cert.Reference2Ideal.τ).loc Cert.Reference2Ideal.main_v35) = v7 c
          ∧ r.2.mem ((c.tc : Thread Cert.Reference2Ideal.nD Cert.Reference2Ideal.τ).loc Cert.Reference2Ideal.main_v37) = v8 c
          ∧ r.2.mem ((c.tc : Thread Cert.Reference2Ideal.nD Cert.Reference2Ideal.τ).loc Cert.Reference2Ideal.main_v39) = v9 c
          ∧ r.2.mem ((c.tc : Thread Cert.Reference2Ideal.nD Cert.Reference2Ideal.τ).loc Cert.Reference2Ideal.main_v40) = v10 c
          ∧ r.2.mem ((c.tc : Thread Cert.Reference2Ideal.nD Cert.Reference2Ideal.τ).loc Cert.Reference2Ideal.main_v41) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v43)) (v1 : (c : Dev Cert.Kernel4Ideal.nD) → Buf (Elt Ideal) ((c.tc : Thread Cert.Kernel4Ideal.nD Cert.Kernel4Ideal.τ).loc Cert.Kernel4Ideal.main_v44)) (v2 : (c : Dev Cert.Kernel4Ideal.nD) → Buf (Elt Ideal) ((c.tc : Thread Cert.Kernel4Ideal.nD Cert.Kernel4Ideal.τ).loc Cert.Kernel4Ideal.main_v45)) (v3 : (c : Dev Cert.Kernel4Ideal.nD) → Buf (Elt Ideal) ((c.tc : Thread Cert.Kernel4Ideal.nD Cert.Kernel4Ideal.τ).loc Cert.Kernel4Ideal.main_v46)) (v4 : (c : Dev Cert.Kernel4Ideal.nD) → Buf (Elt Ideal) ((c.tc : Thread Cert.Kernel4Ideal.nD Cert.Kernel4Ideal.τ).loc Cert.Kernel4Ideal.main_v47)) (v5 : (c : Dev Cert.Kernel4Ideal.nD) → Buf (Elt Ideal) ((c.tc : Thread Cert.Kernel4Ideal.nD Cert.Kernel4Ideal.τ).loc Cert.Kernel4Ideal.main_v48)) (v6 : (c : Dev Cert.Kernel4Ideal.nD) → Buf (Elt Ideal) ((c.tc : Thread Cert.Kernel4Ideal.nD Cert.Kernel4Ideal.τ).loc Cert.Kernel4Ideal.main_v49)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v43) = v0 c
          ∧ r.2.mem ((c.tc : Thread Cert.Kernel4Ideal.nD Cert.Kernel4Ideal.τ).loc Cert.Kernel4Ideal.main_v44) = v1 c
          ∧ r.2.mem ((c.tc : Thread Cert.Kernel4Ideal.nD Cert.Kernel4Ideal.τ).loc Cert.Kernel4Ideal.main_v45) = v2 c
          ∧ r.2.mem ((c.tc : Thread Cert.Kernel4Ideal.nD Cert.Kernel4Ideal.τ).loc Cert.Kernel4Ideal.main_v46) = v3 c
          ∧ r.2.mem ((c.tc : Thread Cert.Kernel4Ideal.nD Cert.Kernel4Ideal.τ).loc Cert.Kernel4Ideal.main_v47) = v4 c
          ∧ r.2.mem ((c.tc : Thread Cert.Kernel4Ideal.nD Cert.Kernel4Ideal.τ).loc Cert.Kernel4Ideal.main_v48) = v5 c
          ∧ r.2.mem ((c.tc : Thread Cert.Kernel4Ideal.nD Cert.Kernel4Ideal.τ).loc Cert.Kernel4Ideal.main_v49) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v93) = v1 c
          ∧ r.2.mem ((c.tc : Thread Cert.Reference4Ideal.nD Cert.Reference4Ideal.τ).loc Cert.Reference4Ideal.main_v95) = v2 c
          ∧ r.2.mem ((c.tc : Thread Cert.Reference4Ideal.nD Cert.Reference4Ideal.τ).loc Cert.Reference4Ideal.main_v97) = v3 c
          ∧ r.2.mem ((c.tc : Thread Cert.Reference4Ideal.nD Cert.Reference4Ideal.τ).loc Cert.Reference4Ideal.main_v102) = v4 c
          ∧ r.2.mem ((c.tc : Thread Cert.Reference4Ideal.nD Cert.Reference4Ideal.τ).loc Cert.Reference4Ideal.main_v103) = v5 c
          ∧ r.2.mem ((c.tc : Thread Cert.Reference4Ideal.nD Cert.Reference4Ideal.τ).loc Cert.Reference4Ideal.main_v104) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v5)) (v2 : (c : Dev Cert.Kernel6Ideal.nD) → Buf (Elt Ideal) ((c.tc : Thread Cert.Kernel6Ideal.nD Cert.Kernel6Ideal.τ).loc Cert.Kernel6Ideal.main_v6)) (v3 : (c : Dev Cert.Kernel6Ideal.nD) → Buf (Elt Ideal) ((c.tc : Thread Cert.Kernel6Ideal.nD Cert.Kernel6Ideal.τ).loc Cert.Kernel6Ideal.main_v7)) (v4 : (c : Dev Cert.Kernel6Ideal.nD) → Buf (Elt Ideal) ((c.tc : Thread Cert.Kernel6Ideal.nD Cert.Kernel6Ideal.τ).loc Cert.Kernel6Ideal.main_v8)) (v5 : (c : Dev Cert.Kernel6Ideal.nD) → Buf (Elt Ideal) ((c.tc : Thread Cert.Kernel6Ideal.nD Cert.Kernel6Ideal.τ).loc Cert.Kernel6Ideal.main_v9)) (v6 : (c : Dev Cert.Kernel6Ideal.nD) → Buf (Elt Ideal) ((c.tc : Thread Cert.Kernel6Ideal.nD Cert.Kernel6Ideal.τ).loc Cert.Kernel6Ideal.main_v10)) (v7 : (c : Dev Cert.Kernel6Ideal.nD) → Buf (Elt Ideal) ((c.tc : Thread Cert.Kernel6Ideal.nD Cert.Kernel6Ideal.τ).loc Cert.Kernel6Ideal.main_v11)) (v8 : (c : Dev Cert.Kernel6Ideal.nD) → Buf (Elt Ideal) ((c.tc : Thread Cert.Kernel6Ideal.nD Cert.Kernel6Ideal.τ).loc Cert.Kernel6Ideal.main_v14)) (v9 : (c : Dev Cert.Kernel6Ideal.nD) → Buf (Elt Ideal) ((c.tc : Thread Cert.Kernel6Ideal.nD Cert.Kernel6Ideal.τ).loc Cert.Kernel6Ideal.main_v17)) (v10 : (c : Dev Cert.Kernel6Ideal.nD) → Buf (Elt Ideal) ((c.tc : Thread Cert.Kernel6Ideal.nD Cert.Kernel6Ideal.τ).loc Cert.Kernel6Ideal.main_v20)) (v11 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_v6) = v2 c
          ∧ r.2.mem ((c.tc : Thread Cert.Kernel6Ideal.nD Cert.Kernel6Ideal.τ).loc Cert.Kernel6Ideal.main_v7) = v3 c
          ∧ r.2.mem ((c.tc : Thread Cert.Kernel6Ideal.nD Cert.Kernel6Ideal.τ).loc Cert.Kernel6Ideal.main_v8) = v4 c
          ∧ r.2.mem ((c.tc : Thread Cert.Kernel6Ideal.nD Cert.Kernel6Ideal.τ).loc Cert.Kernel6Ideal.main_v9) = v5 c
          ∧ r.2.mem ((c.tc : Thread Cert.Kernel6Ideal.nD Cert.Kernel6Ideal.τ).loc Cert.Kernel6Ideal.main_v10) = v6 c
          ∧ r.2.mem ((c.tc : Thread Cert.Kernel6Ideal.nD Cert.Kernel6Ideal.τ).loc Cert.Kernel6Ideal.main_v11) = v7 c
          ∧ r.2.mem ((c.tc : Thread Cert.Kernel6Ideal.nD Cert.Kernel6Ideal.τ).loc Cert.Kernel6Ideal.main_v14) = v8 c
          ∧ r.2.mem ((c.tc : Thread Cert.Kernel6Ideal.nD Cert.Kernel6Ideal.τ).loc Cert.Kernel6Ideal.main_v17) = v9 c
          ∧ r.2.mem ((c.tc : Thread Cert.Kernel6Ideal.nD Cert.Kernel6Ideal.τ).loc Cert.Kernel6Ideal.main_v20) = v10 c
          ∧ r.2.mem ((c.tc : Thread Cert.Kernel6Ideal.nD Cert.Kernel6Ideal.τ).loc Cert.Kernel6Ideal.main_v23) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_v32) = v4 c
          ∧ r.2.mem ((c.tc : Thread Cert.Reference6Ideal.nD Cert.Reference6Ideal.τ).loc Cert.Reference6Ideal.main_v33) = v5 c
          ∧ r.2.mem ((c.tc : Thread Cert.Reference6Ideal.nD Cert.Reference6Ideal.τ).loc Cert.Reference6Ideal.main_v34) = v6 c
          ∧ r.2.mem ((c.tc : Thread Cert.Reference6Ideal.nD Cert.Reference6Ideal.τ).loc Cert.Reference6Ideal.main_v35) = v7 c
          ∧ r.2.mem ((c.tc : Thread Cert.Reference6Ideal.nD Cert.Reference6Ideal.τ).loc Cert.Reference6Ideal.main_v36) = v8 c
          ∧ r.2.mem ((c.tc : Thread Cert.Reference6Ideal.nD Cert.Reference6Ideal.τ).loc Cert.Reference6Ideal.main_v37) = v9 c
          ∧ r.2.mem ((c.tc : Thread Cert.Reference6Ideal.nD Cert.Reference6Ideal.τ).loc Cert.Reference6Ideal.main_v38) = v10 c
          ∧ r.2.mem ((c.tc : Thread Cert.Reference6Ideal.nD Cert.Reference6Ideal.τ).loc Cert.Reference6Ideal.main_v39) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v47)) (v1 : (c : Dev Cert.Kernel7Ideal.nD) → Buf (Elt Ideal) ((c.tc : Thread Cert.Kernel7Ideal.nD Cert.Kernel7Ideal.τ).loc Cert.Kernel7Ideal.main_v48)) (v2 : (c : Dev Cert.Kernel7Ideal.nD) → Buf (Elt Ideal) ((c.tc : Thread Cert.Kernel7Ideal.nD Cert.Kernel7Ideal.τ).loc Cert.Kernel7Ideal.main_v49)) (v3 : (c : Dev Cert.Kernel7Ideal.nD) → Buf (Elt Ideal) ((c.tc : Thread Cert.Kernel7Ideal.nD Cert.Kernel7Ideal.τ).loc Cert.Kernel7Ideal.main_v50)) (v4 : (c : Dev Cert.Kernel7Ideal.nD) → Buf (Elt Ideal) ((c.tc : Thread Cert.Kernel7Ideal.nD Cert.Kernel7Ideal.τ).loc Cert.Kernel7Ideal.main_v51)) (v5 : (c : Dev Cert.Kernel7Ideal.nD) → Buf (Elt Ideal) ((c.tc : Thread Cert.Kernel7Ideal.nD Cert.Kernel7Ideal.τ).loc Cert.Kernel7Ideal.main_v52)) (v6 : (c : Dev Cert.Kernel7Ideal.nD) → Buf (Elt Ideal) ((c.tc : Thread Cert.Kernel7Ideal.nD Cert.Kernel7Ideal.τ).loc Cert.Kernel7Ideal.main_v53)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v47) = v0 c
          ∧ r.2.mem ((c.tc : Thread Cert.Kernel7Ideal.nD Cert.Kernel7Ideal.τ).loc Cert.Kernel7Ideal.main_v48) = v1 c
          ∧ r.2.mem ((c.tc : Thread Cert.Kernel7Ideal.nD Cert.Kernel7Ideal.τ).loc Cert.Kernel7Ideal.main_v49) = v2 c
          ∧ r.2.mem ((c.tc : Thread Cert.Kernel7Ideal.nD Cert.Kernel7Ideal.τ).loc Cert.Kernel7Ideal.main_v50) = v3 c
          ∧ r.2.mem ((c.tc : Thread Cert.Kernel7Ideal.nD Cert.Kernel7Ideal.τ).loc Cert.Kernel7Ideal.main_v51) = v4 c
          ∧ r.2.mem ((c.tc : Thread Cert.Kernel7Ideal.nD Cert.Kernel7Ideal.τ).loc Cert.Kernel7Ideal.main_v52) = v5 c
          ∧ r.2.mem ((c.tc : Thread Cert.Kernel7Ideal.nD Cert.Kernel7Ideal.τ).loc Cert.Kernel7Ideal.main_v53) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v95) = v1 c
          ∧ r.2.mem ((c.tc : Thread Cert.Reference7Ideal.nD Cert.Reference7Ideal.τ).loc Cert.Reference7Ideal.main_v97) = v2 c
          ∧ r.2.mem ((c.tc : Thread Cert.Reference7Ideal.nD Cert.Reference7Ideal.τ).loc Cert.Reference7Ideal.main_v99) = v3 c
          ∧ r.2.mem ((c.tc : Thread Cert.Reference7Ideal.nD Cert.Reference7Ideal.τ).loc Cert.Reference7Ideal.main_v104) = v4 c
          ∧ r.2.mem ((c.tc : Thread Cert.Reference7Ideal.nD Cert.Reference7Ideal.τ).loc Cert.Reference7Ideal.main_v88) = v5 c
          ∧ r.2.mem ((c.tc : Thread Cert.Reference7Ideal.nD Cert.Reference7Ideal.τ).loc Cert.Reference7Ideal.main_v89) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16x2048x512 : Shape := ⟨3, ![16, 2048, 512]⟩
abbrev S8x257 : Shape := ⟨2, ![8, 257]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S16x2048x512 .f32) (main_arg1 : FVec F S16x2048x512 .f32) (main_arg2 : FVec F S16x2048x512 .f32) (main_arg3 : FVec F S16x2048x512 .f32) (main_arg4 : FVec F S8x257 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S8x257 .f32 := Host.absf main_arg4
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_c_3 : IVec S_ 1 := constantI S_ 1 1#1
  let main_v12 : IVec S_ 1 := (fun x v => Host.reduce IntOp.andi x v reducesTo_S8x257_S_d0_1 h_S_) main_v11 main_c_3
  let main_v13 : IVec S_ 1 := andi main_v8 main_v12
  main_v13
-- ==== Kernel.lean ====
abbrev S16x2048x512 : Shape := ⟨3, ![16, 2048, 512]⟩
abbrev S8x257 : Shape := ⟨2, ![8, 257]⟩
abbrev S_ : Shape := ⟨0, ![]⟩
abbrev S128x640 : Shape := ⟨2, ![128, 640]⟩
abbrev S1x128x640 : Shape := ⟨3, ![1, 128, 640]⟩
abbrev S128x640x1 : Shape := ⟨3, ![128, 640, 1]⟩
abbrev S8x128x640 : Shape := ⟨3, ![8, 128, 640]⟩
abbrev S1024x640 : Shape := ⟨2, ![1024, 640]⟩
abbrev S1x2048x128 : Shape := ⟨3, ![1, 2048, 128]⟩
abbrev S256x640 : Shape := ⟨2, ![256, 640]⟩
abbrev S2x256x640 : Shape := ⟨3, ![2, 256, 640]⟩
abbrev S128x128 : Shape := ⟨2, ![128, 128]⟩
abbrev S1x128x128 : Shape := ⟨3, ![1, 128, 128]⟩
abbrev S256x128 : Shape := ⟨2, ![256, 128]⟩
abbrev S1x256x128 : Shape := ⟨3, ![1, 256, 128]⟩
abbrev S1x256x640 : Shape := ⟨3, ![1, 256, 640]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S256x256 : Shape := ⟨2, ![256, 256]⟩
abbrev S1x256x256 : Shape := ⟨3, ![1, 256, 256]⟩
abbrev S128x256 : Shape := ⟨2, ![128, 256]⟩
abbrev S32x256 : Shape := ⟨2, ![32, 256]⟩
abbrev S1x32x256 : Shape := ⟨3, ![1, 32, 256]⟩
abbrev S1x384x128 : Shape := ⟨3, ![1, 384, 128]⟩
abbrev S384x128 : Shape := ⟨2, ![384, 128]⟩
abbrev S256x384 : Shape := ⟨2, ![256, 384]⟩
abbrev S1x256x384 : Shape := ⟨3, ![1, 256, 384]⟩
abbrev S32x384 : Shape := ⟨2, ![32, 384]⟩
abbrev S1x32x384 : Shape := ⟨3, ![1, 32, 384]⟩
abbrev S1x512x128 : Shape := ⟨3, ![1, 512, 128]⟩
abbrev S512x128 : Shape := ⟨2, ![512, 128]⟩
abbrev S256x512 : Shape := ⟨2, ![256, 512]⟩
abbrev S1x256x512 : Shape := ⟨3, ![1, 256, 512]⟩
abbrev S384x256 : Shape := ⟨2, ![384, 256]⟩
abbrev S32x512 : Shape := ⟨2, ![32, 512]⟩
abbrev S1x32x512 : Shape := ⟨3, ![1, 32, 512]⟩
abbrev S1x640x128 : Shape := ⟨3, ![1, 640, 128]⟩
abbrev S640x128 : Shape := ⟨2, ![640, 128]⟩
abbrev S512x256 : Shape := ⟨2, ![512, 256]⟩
abbrev S32x640 : Shape := ⟨2, ![32, 640]⟩
abbrev S1x32x640 : Shape := ⟨3, ![1, 32, 640]⟩
abbrev S640x256 : Shape := ⟨2, ![640, 256]⟩

abbrev nBuf : Space → Nat
  | .hbm => 60
  | .vmem => 14
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S8x257, .f32⟩
  | .hbm, ⟨5, _⟩ => ⟨S_, .f32⟩
  | .hbm, ⟨6, _⟩ => ⟨S16x2048x512, .f32⟩
  | .hbm, ⟨7, _⟩ => ⟨S16x2048x512, .f32⟩
  | .hbm, ⟨8, _⟩ => ⟨S16x2048x512, .bf16⟩
  | .hbm, ⟨9, _⟩ => ⟨S16x2048x512, .bf16⟩
  | .hbm, ⟨10, _⟩ => ⟨S16x2048x512, .bf16⟩
  | .hbm, ⟨11, _⟩ => ⟨S16x2048x512, .f32⟩
  | .hbm, ⟨12, _⟩ => ⟨S16x2048x512, .f32⟩
  | .hbm, ⟨13, _⟩ => ⟨S_, .f32⟩
  | .hbm, ⟨14, _⟩ => ⟨S16x2048x512, .f32⟩
  | .hbm, ⟨15, _⟩ => ⟨S16x2048x512, .f32⟩
  | .hbm, ⟨16, _⟩ => ⟨S16x2048x512, .f32⟩
  | .hbm, ⟨17, _⟩ => ⟨S16x2048x512, .bf16⟩
  | .hbm, ⟨18, _⟩ => ⟨S128x640, .i32⟩
  | .hbm, ⟨19, _⟩ => ⟨S128x640, .i32⟩
  | .hbm, ⟨20, _⟩ => ⟨S_, .i32⟩
  | .hbm, ⟨21, _⟩ => ⟨S128x640, .i32⟩
  | .hbm, ⟨22, _⟩ => ⟨S128x640, .i32⟩
  | .hbm, ⟨23, _⟩ => ⟨S_, .i32⟩
  | .hbm, ⟨24, _⟩ => ⟨S128x640, .i32⟩
  | .hbm, ⟨25, _⟩ => ⟨S128x640, .i32⟩
  | .hbm, ⟨26, _⟩ => ⟨S_, .i32⟩
  | .hbm, ⟨27, _⟩ => ⟨S128x640, .i32⟩
  | .hbm, ⟨28, _⟩ => ⟨S128x640, .i32⟩
  | .hbm, ⟨29, _⟩ => ⟨S128x640, .i1⟩
  | .hbm, ⟨30, _⟩ => ⟨S_, .i32⟩
  | .hbm, ⟨31, _⟩ => ⟨S128x640, .i32⟩
  | .hbm, ⟨32, _⟩ => ⟨S128x640, .i32⟩
  | .hbm, ⟨33, _⟩ => ⟨S128x640, .i1⟩
  | .hbm, ⟨34, _⟩ => ⟨S128x640, .i1⟩
  | .hbm, ⟨35, _⟩ => ⟨S_, .i32⟩
  | .hbm, ⟨36, _⟩ => ⟨S128x640, .i32⟩
  | .hbm, ⟨37, _⟩ => ⟨S128x640, .i32⟩
  | .hbm, ⟨38, _⟩ => ⟨S128x640, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S128x640, .i32⟩
  | .hbm, ⟨43, _⟩ => ⟨S128x640, .i32⟩
  | .hbm, ⟨44, _⟩ => ⟨S_, .i32⟩
  | .hbm, ⟨45, _⟩ => ⟨S128x640, .i32⟩
  | .hbm, ⟨46, _⟩ => ⟨S128x640, .i32⟩
  | .hbm, ⟨47, _⟩ => ⟨S_, .i32⟩
  | .hbm, ⟨48, _⟩ => ⟨S128x640, .i32⟩
  | .hbm, ⟨49, _⟩ => ⟨S128x640, .i32⟩
  | .hbm, ⟨50, _⟩ => ⟨S1x128x640, .i1⟩
  | .hbm, ⟨51, _⟩ => ⟨S128x640x1, .i32⟩
  | .hbm, ⟨52, _⟩ => ⟨S8x128x640, .f32⟩
  | .hbm, ⟨53, _⟩ => ⟨S_, .f32⟩
  | .hbm, ⟨54, _⟩ => ⟨S_, .f32⟩
  | .hbm, ⟨55, _⟩ => ⟨S8x128x640, .i1⟩
  | .hbm, ⟨56, _⟩ => ⟨S8x128x640, .f32⟩
  | .hbm, ⟨57, _⟩ => ⟨S8x128x640, .f32⟩
  | .hbm, ⟨58, _⟩ => ⟨S1024x640, .f32⟩
  | .hbm, ⟨59, _⟩ => ⟨S16x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S256x640, .f32⟩
  | .local _ .vmem, ⟨9, _⟩ => ⟨S256x640, .f32⟩
  | .local _ .vmem, ⟨10, _⟩ => ⟨S1x2048x128, .bf16⟩
  | .local _ .vmem, ⟨11, _⟩ => ⟨S1x2048x128, .bf16⟩
  | .local _ .vmem, ⟨12, _⟩ => ⟨S2x256x640, .f32⟩
  | .local _ .vmem, ⟨13, _⟩ => ⟨S2x256x640, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_c_6 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_v31 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_576 : BitVec 32 := 0#32
  let c5_i32 : BitVec 32 := 5#32
  let v797 : BitVec 32 := Scalar.addi c0_i32_576 c5_i32
  let c1_i32_577 : BitVec 32 := 1#32
  ⟨c0_i32_576, v797, c1_i32_577⟩
def k0_mult1 (k0_t1 : Fin k0_t1_loop.trips) : BitVec 32 :=
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let c0_i32_691 : BitVec 32 := 0#32
  let v960 : BitVec 32 := Scalar.addi v959 c0_i32_691
  let c2_i32_692 : BitVec 32 := 2#32
  let v961 : BitVec 32 := Scalar.subi v960 c2_i32_692
  let c128_i32 : BitVec 32 := 128#32
  let v962 : BitVec 32 := Scalar.muli v961 c128_i32
  v962
def k0_mult2 (k0_t1 : Fin k0_t1_loop.trips) : BitVec 32 :=
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let c0_i32_691 : BitVec 32 := 0#32
  let v960 : BitVec 32 := Scalar.addi v959 c0_i32_691
  let c2_i32_692 : BitVec 32 := 2#32
  let v961 : BitVec 32 := Scalar.subi v960 c2_i32_692
  let c4_i32 : BitVec 32 := 4#32
  let v964 : BitVec 32 := Scalar.subi v961 c4_i32
  let c128_i32_693 : BitVec 32 := 128#32
  let v965 : BitVec 32 := Scalar.muli v964 c128_i32_693
  v965
def k0_off1 (k0_t1 : Fin k0_t1_loop.trips) (c0_i32_691 : BitVec 32) (c2_i32_692 : BitVec 32) : Fin 3 → Nat :=
  let c0_694 : Index := 0#32
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let v960 : BitVec 32 := Scalar.addi v959 c0_i32_691
  let v961 : BitVec 32 := Scalar.subi v960 c2_i32_692
  let c4_i32 : BitVec 32 := 4#32
  let v964 : BitVec 32 := Scalar.subi v961 c4_i32
  let c128_i32_693 : BitVec 32 := 128#32
  let v965 : BitVec 32 := Scalar.muli v964 c128_i32_693
  let v966 : BitVec 32 := v965
  let v967 : Index := Scalar.indexCast v966
  let c0_695 : Index := 0#32
  ![0, v967.toNat, 0]
def k0_off2 (k0_t1 : Fin k0_t1_loop.trips) (c0_i32_691 : BitVec 32) (c2_i32_692 : BitVec 32) : Fin 3 → Nat :=
  let c0_701 : Index := 0#32
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let v960 : BitVec 32 := Scalar.addi v959 c0_i32_691
  let v961 : BitVec 32 := Scalar.subi v960 c2_i32_692
  let c128_i32 : BitVec 32 := 128#32
  let v962 : BitVec 32 := Scalar.muli v961 c128_i32
  let v963 : BitVec 32 := v962
  let v984 : Index := Scalar.indexCast v963
  let c0_702 : Index := 0#32
  ![0, v984.toNat, 0]
def k0_mult3 (k0_t1 : Fin k0_t1_loop.trips) : BitVec 32 :=
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let c0_i32_691 : BitVec 32 := 0#32
  let v960 : BitVec 32 := Scalar.addi v959 c0_i32_691
  let c0_i32_793 : BitVec 32 := 0#32
  let v1106 : BitVec 32 := Scalar.subi v960 c0_i32_793
  let c128_i32_794 : BitVec 32 := 128#32
  let v1107 : BitVec 32 := Scalar.muli v1106 c128_i32_794
  v1107
def k0_mult4 (k0_t1 : Fin k0_t1_loop.trips) : BitVec 32 :=
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let c0_i32_691 : BitVec 32 := 0#32
  let v960 : BitVec 32 := Scalar.addi v959 c0_i32_691
  let c0_i32_793 : BitVec 32 := 0#32
  let v1106 : BitVec 32 := Scalar.subi v960 c0_i32_793
  let c4_i32_795 : BitVec 32 := 4#32
  let v1109 : BitVec 32 := Scalar.subi v1106 c4_i32_795
  let c128_i32_796 : BitVec 32 := 128#32
  let v1110 : BitVec 32 := Scalar.muli v1109 c128_i32_796
  v1110
def k0_mult5 (k0_t1 : Fin k0_t1_loop.trips) : BitVec 32 :=
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let c1_i32_811 : BitVec 32 := 1#32
  let v1137 : BitVec 32 := Scalar.addi v959 c1_i32_811
  let c2_i32_812 : BitVec 32 := 2#32
  let v1138 : BitVec 32 := Scalar.subi v1137 c2_i32_812
  let c128_i32_813 : BitVec 32 := 128#32
  let v1139 : BitVec 32 := Scalar.muli v1138 c128_i32_813
  v1139
def k0_mult6 (k0_t1 : Fin k0_t1_loop.trips) : BitVec 32 :=
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let c1_i32_811 : BitVec 32 := 1#32
  let v1137 : BitVec 32 := Scalar.addi v959 c1_i32_811
  let c2_i32_812 : BitVec 32 := 2#32
  let v1138 : BitVec 32 := Scalar.subi v1137 c2_i32_812
  let c4_i32_814 : BitVec 32 := 4#32
  let v1141 : BitVec 32 := Scalar.subi v1138 c4_i32_814
  let c128_i32_815 : BitVec 32 := 128#32
  let v1142 : BitVec 32 := Scalar.muli v1141 c128_i32_815
  v1142
def k0_mult7 (k0_t1 : Fin k0_t1_loop.trips) : BitVec 32 :=
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let c1_i32_811 : BitVec 32 := 1#32
  let v1137 : BitVec 32 := Scalar.addi v959 c1_i32_811
  let c0_i32_915 : BitVec 32 := 0#32
  let v1283 : BitVec 32 := Scalar.subi v1137 c0_i32_915
  let c128_i32_916 : BitVec 32 := 128#32
  let v1284 : BitVec 32 := Scalar.muli v1283 c128_i32_916
  v1284
def k0_mult8 (k0_t1 : Fin k0_t1_loop.trips) : BitVec 32 :=
  let c6_i32 : BitVec 32 := 6#32
  let c2_i32 : BitVec 32 := 2#32
  let c0_i32_576 : BitVec 32 := 0#32
  let c1_i32_577 : BitVec 32 := 1#32
  let arg10 : BitVec 32 := Scf.iv c0_i32_576 c1_i32_577 k0_t1
  let v958 : BitVec 32 := Scalar.muli c2_i32 arg10
  let v959 : BitVec 32 := Scalar.addi c6_i32 v958
  let c1_i32_811 : BitVec 32 := 1#32
  let v1137 : BitVec 32 := Scalar.addi v959 c1_i32_811
  let c0_i32_915 : BitVec 32 := 0#32
  let v1283 : BitVec 32 := Scalar.subi v1137 c0_i32_915
  let c4_i32_917 : BitVec 32 := 4#32
  let v1286 : BitVec 32 := Scalar.subi v1283 c4_i32_917
  let c128_i32_918 : BitVec 32 := 128#32
  let v1287 : BitVec 32 := Scalar.muli v1286 c128_i32_918
  v1287
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x2048x512 : Shape := ⟨3, ![16, 2048, 512]⟩
abbrev S8x257 : Shape := ⟨2, ![8, 257]⟩
abbrev S16x2048x8x64 : Shape := ⟨4, ![16, 2048, 8, 64]⟩
abbrev S2048x2048 : Shape := ⟨2, ![2048, 2048]⟩
abbrev S_ : Shape := ⟨0, ![]⟩
abbrev S16x8x2048x2048 : Shape := ⟨4, ![16, 8, 2048, 2048]⟩
abbrev S2048x2048x1 : Shape := ⟨3, ![2048, 2048, 1]⟩
abbrev S8x2048x2048 : Shape := ⟨3, ![8, 2048, 2048]⟩
abbrev S1x8x2048x2048 : Shape := ⟨4, ![1, 8, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S8x257, .f32⟩
  | .hbm, ⟨5, _⟩ => ⟨S16x2048x8x64, .f32⟩
  | .hbm, ⟨6, _⟩ => ⟨S16x2048x8x64, .f32⟩
  | .hbm, ⟨7, _⟩ => ⟨S16x2048x8x64, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S2048x2048, .i32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S_, .i32⟩
  | .hbm, ⟨32, _⟩ => ⟨S2048x2048, .i32⟩
  | .hbm, ⟨33, _⟩ => ⟨S2048x2048, .i32⟩
  | .hbm, ⟨34, _⟩ => ⟨S16x8x2048x2048, .f32⟩
  | .hbm, ⟨35, _⟩ => ⟨S_, .f32⟩
  | .hbm, ⟨36, _⟩ => ⟨S16x8x2048x2048, .f32⟩
  | .hbm, ⟨37, _⟩ => ⟨S16x8x2048x2048, .f32⟩
  | .hbm, ⟨38, _⟩ => ⟨S2048x2048x1, .i32⟩
  | .hbm, ⟨39, _⟩ => ⟨S8x2048x2048, .f32⟩
  | .hbm, ⟨40, _⟩ => ⟨S1x8x2048x2048, .f32⟩
  | .hbm, ⟨41, _⟩ => ⟨S16x8x2048x2048, .f32⟩
  | .hbm, ⟨42, _⟩ => ⟨S16x8x2048x2048, .f32⟩
  | .hbm, ⟨43, _⟩ => ⟨S_, .f32⟩
  | .hbm, ⟨44, _⟩ => ⟨S_, .f32⟩
  | .hbm, ⟨45, _⟩ => ⟨S16x8x2048x2048, .i1⟩
  | .hbm, ⟨46, _⟩ => ⟨S16x8x2048x2048, .f32⟩
  | .hbm, ⟨47, _⟩ => ⟨S16x8x2048x2048, .f32⟩
  | .hbm, ⟨48, _⟩ => ⟨S_, .f32⟩
  | .hbm, ⟨49, _⟩ => ⟨S16x8x2048, .f32⟩
  | .hbm, ⟨50, _⟩ => ⟨S16x8x2048x1, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S_, .f32⟩
  | .hbm, ⟨55, _⟩ => ⟨S16x8x2048, .f32⟩
  | .hbm, ⟨56, _⟩ => ⟨S16x8x2048x1, .f32⟩
  | .hbm, ⟨57, _⟩ => ⟨S16x8x2048x2048, .f32⟩
  | .hbm, ⟨58, _⟩ => ⟨S16x8x2048x2048, .f32⟩
  | .hbm, ⟨59, _⟩ => ⟨S16x8x64x2048, .f32⟩
  | .hbm, ⟨60, _⟩ => ⟨S16x2048x8x64, .f32⟩
  | .hbm, ⟨61, _⟩ => ⟨S16x2048x512, .f32⟩
  | .hbm, ⟨62, _⟩ => ⟨S16x2048x512, .f32⟩
  | .hbm, ⟨63, _⟩ => ⟨S16x2048x512, .f32⟩
  | .hbm, ⟨64, _⟩ => ⟨S_, .f32⟩
  | .hbm, ⟨65, _⟩ => ⟨S16x2048x512, .f32⟩
  | .hbm, ⟨66, _⟩ => ⟨S16x2048x512, .f32⟩
  | .hbm, ⟨67, _⟩ => ⟨S_, .f32⟩
  | .hbm, ⟨68, _⟩ => ⟨S16x2048x512, .f32⟩
  | .hbm, ⟨69, _⟩ => ⟨S16x2048x512, .f32⟩
  | .hbm, ⟨70, _⟩ => ⟨S16x2048x512, .f32⟩
  | .hbm, ⟨71, _⟩ => ⟨S16x2048x512, .f32⟩
  | .hbm, ⟨72, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_call3_v5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x4096 : Shape := ⟨2, ![1024, 4096]⟩
abbrev S32768x1024 : Shape := ⟨2, ![32768, 1024]⟩
abbrev S1x1024 : Shape := ⟨2, ![1, 1024]⟩
abbrev S32768x512 : Shape := ⟨2, ![32768, 512]⟩
abbrev S16x512x512 : Shape := ⟨3, ![16, 512, 512]⟩
abbrev S16x512x2048 : Shape := ⟨3, ![16, 512, 2048]⟩
abbrev S1024x1024 : Shape := ⟨2, ![1024, 1024]⟩
abbrev S1024x512 : Shape := ⟨2, ![1024, 512]⟩
abbrev S1x512x512 : Shape := ⟨3, ![1, 512, 512]⟩
abbrev S1x512x1024 : Shape := ⟨3, ![1, 512, 1024]⟩
abbrev S1024x1 : Shape := ⟨2, ![1024, 1]⟩
abbrev S512x1024 : Shape := ⟨2, ![512, 1024]⟩
abbrev S512x512 : Shape := ⟨2, ![512, 512]⟩
abbrev S16x2048x512 : Shape := ⟨3, ![16, 2048, 512]⟩
abbrev S16x8x64x1x512 : Shape := ⟨5, ![16, 8, 64, 1, 512]⟩
abbrev S16x1x512x8x64 : Shape := ⟨5, ![16, 1, 512, 8, 64]⟩
abbrev S16x512x8x64 : Shape := ⟨4, ![16, 512, 8, 64]⟩
abbrev S16x8x64x1x2048 : Shape := ⟨5, ![16, 8, 64, 1, 2048]⟩
abbrev S16x1x2048x8x64 : Shape := ⟨5, ![16, 1, 2048, 8, 64]⟩
abbrev S16x2048x8x64 : Shape := ⟨4, ![16, 2048, 8, 64]⟩

abbrev nBuf : Space → Nat
  | .hbm => 38
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S32768x1024, .f32⟩
  | .hbm, ⟨4, _⟩ => ⟨S1x1024, .f32⟩
  | .hbm, ⟨5, _⟩ => ⟨S1024x4096, .bf16⟩
  | .hbm, ⟨6, _⟩ => ⟨S32768x512, .bf16⟩
  | .hbm, ⟨7, _⟩ => ⟨S32768x512, .bf16⟩
  | .hbm, ⟨8, _⟩ => ⟨S32768x512, .bf16⟩
  | .hbm, ⟨9, _⟩ => ⟨S32768x512, .bf16⟩
  | .hbm, ⟨10, _⟩ => ⟨S32768x512, .bf16⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S16x512x512, .f32⟩
  | .hbm, ⟨15, _⟩ => ⟨S16x512x512, .f32⟩
  | .hbm, ⟨16, _⟩ => ⟨S16x512x2048, .f32⟩
  | .hbm, ⟨17, _⟩ => ⟨S16x512x2048, .f32⟩
  | .hbm, ⟨18, _⟩ => ⟨S16x2048x512, .bf16⟩
  | .hbm, ⟨19, _⟩ => ⟨S16x2048x512, .bf16⟩
  | .hbm, ⟨20, _⟩ => ⟨S16x2048x512, .bf16⟩
  | .hbm, ⟨21, _⟩ => ⟨S16x2048x512, .bf16⟩
  | .hbm, ⟨22, _⟩ => ⟨S16x2048x512, .bf16⟩
  | .hbm, ⟨23, _⟩ => ⟨S16x2048x512, .bf16⟩
  | .hbm, ⟨24, _⟩ => ⟨S16x2048x512, .bf16⟩
  | .hbm, ⟨25, _⟩ => ⟨S16x2048x512, .bf16⟩
  | .hbm, ⟨26, _⟩ => ⟨S16x8x64x1x512, .f32⟩
  | .hbm, ⟨27, _⟩ => ⟨S16x1x512x8x64, .f32⟩
  | .hbm, ⟨28, _⟩ => ⟨S16x512x8x64, .f32⟩
  | .hbm, ⟨29, _⟩ => ⟨S16x8x64x1x512, .f32⟩
  | .hbm, ⟨30, _⟩ => ⟨S16x1x512x8x64, .f32⟩
  | .hbm, ⟨31, _⟩ => ⟨S16x512x8x64, .f32⟩
  | .hbm, ⟨32, _⟩ => ⟨S16x8x64x1x2048, .f32⟩
  | .hbm, ⟨33, _⟩ => ⟨S16x1x2048x8x64, .f32⟩
  | .hbm, ⟨34, _⟩ => ⟨S16x2048x8x64, .f32⟩
  | .hbm, ⟨35, _⟩ => ⟨S16x8x64x1x2048, .f32⟩
  | .hbm, ⟨36, _⟩ => ⟨S16x1x2048x8x64, .f32⟩
  | .hbm, ⟨37, _⟩ => ⟨S16x2048x8x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev main_v3_9 : Ref sig .tc := ⟨.hbm, 15, rfl⟩
abbrev main_v3_10 : Ref sig .tc := ⟨.hbm, 16, rfl⟩
abbrev main_v3_11 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let v_true : BitVec 1 := 1#1
  let v13 : BitVec 1 := Scalar.xori v10 v_true
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16x2048x1024 : Shape := ⟨3, ![16, 2048, 1024]⟩
abbrev S1024 : Shape := ⟨1, ![1024]⟩
abbrev S1024x4096 : Shape := ⟨2, ![1024, 4096]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S16x2048x512 : Shape := ⟨3, ![16, 2048, 512]⟩
abbrev S16x512x512 : Shape := ⟨3, ![16, 512, 512]⟩
abbrev S16x512x8x64 : Shape := ⟨4, ![16, 512, 8, 64]⟩
abbrev S16x2048x8x64 : Shape := ⟨4, ![16, 2048, 8, 64]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x4096, .f32⟩
  | .hbm, ⟨20, _⟩ => ⟨S16x2048x512, .f32⟩
  | .hbm, ⟨21, _⟩ => ⟨S16x2048x512, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S_, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S16x2048x512, .f32⟩
  | .hbm, ⟨33, _⟩ => ⟨S_, .f32⟩
  | .hbm, ⟨34, _⟩ => ⟨S16x2048x512, .f32⟩
  | .hbm, ⟨35, _⟩ => ⟨S16x2048x512, .f32⟩
  | .hbm, ⟨36, _⟩ => ⟨S_, .f32⟩
  | .hbm, ⟨37, _⟩ => ⟨S16x2048x512, .f32⟩
  | .hbm, ⟨38, _⟩ => ⟨S16x2048x512, .f32⟩
  | .hbm, ⟨39, _⟩ => ⟨S16x2048x512, .f32⟩
  | .hbm, ⟨40, _⟩ => ⟨S_, .f32⟩
  | .hbm, ⟨41, _⟩ => ⟨S16x2048x512, .f32⟩
  | .hbm, ⟨42, _⟩ => ⟨S16x2048x512, .f32⟩
  | .hbm, ⟨43, _⟩ => ⟨S16x2048x512, .f32⟩
  | .hbm, ⟨44, _⟩ => ⟨S16x2048x512, .f32⟩
  | .hbm, ⟨45, _⟩ => ⟨S_, .f32⟩
  | .hbm, ⟨46, _⟩ => ⟨S16x2048x512, .f32⟩
  | .hbm, ⟨47, _⟩ => ⟨S16x2048x512, .f32⟩
  | .hbm, ⟨48, _⟩ => ⟨S_, .f32⟩
  | .hbm, ⟨49, _⟩ => ⟨S16x2048x512, .f32⟩
  | .hbm, ⟨50, _⟩ => ⟨S16x2048x512, .f32⟩
  | .hbm, ⟨51, _⟩ => ⟨S16x2048x512, .f32⟩
  | .hbm, ⟨52, _⟩ => ⟨S16x2048x512, .bf16⟩
  | .hbm, ⟨53, _⟩ => ⟨S16x2048x512, .bf16⟩
  | .hbm, ⟨54, _⟩ => ⟨S16x2048x512, .bf16⟩
  | .hbm, ⟨55, _⟩ => ⟨S16x2048x512, .bf16⟩
  | .hbm, ⟨56, _⟩ => ⟨S16x2048x512, .bf16⟩
  | .hbm, ⟨57, _⟩ => ⟨S16x2048x512, .bf16⟩
  | .hbm, ⟨58, _⟩ => ⟨S16x2048x512, .bf16⟩
  | .hbm, ⟨59, _⟩ => ⟨S16x2048x512, .bf16⟩
  | .hbm, ⟨60, _⟩ => ⟨S16x512x512, .f32⟩
  | .hbm, ⟨61, _⟩ => ⟨S16x512x8x64, .f32⟩
  | .hbm, ⟨62, _⟩ => ⟨S16x512x512, .f32⟩
  | .hbm, ⟨63, _⟩ => ⟨S16x512x8x64, .f32⟩
  | .hbm, ⟨64, _⟩ => ⟨S16x2048x8x64, .f32⟩
  | .hbm, ⟨65, _⟩ => ⟨S16x2048x8x64, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x1024 : Shape := ⟨2, ![1024, 1024]⟩
abbrev S1024 : Shape := ⟨1, ![1024]⟩
abbrev S32768x1024 : Shape := ⟨2, ![32768, 1024]⟩
abbrev S2x2x4x64x1024 : Shape := ⟨5, ![2, 2, 4, 64, 1024]⟩
abbrev S2x4x2x64x1024 : Shape := ⟨5, ![2, 4, 2, 64, 1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 14
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S16x2048x1024, .f32⟩
  | .hbm, ⟨4, _⟩ => ⟨S16x2048x1024, .bf16⟩
  | .hbm, ⟨5, _⟩ => ⟨S32768x1024, .bf16⟩
  | .hbm, ⟨6, _⟩ => ⟨S2x2x4x64x1024, .f32⟩
  | .hbm, ⟨7, _⟩ => ⟨S2x4x2x64x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S16x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x2048x1024 : Shape := ⟨3, ![16, 2048, 1024]⟩
abbrev S1024x1024 : Shape := ⟨2, ![1024, 1024]⟩
abbrev S1024 : Shape := ⟨1, ![1024]⟩
abbrev S16x2048x2x4x2x64 : Shape := ⟨6, ![16, 2048, 2, 4, 2, 64]⟩
abbrev S16x2048x2x2x4x64 : Shape := ⟨6, ![16, 2048, 2, 2, 4, 64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S16x2048x1024, .f32⟩
  | .hbm, ⟨4, _⟩ => ⟨S16x2048x2x4x2x64, .f32⟩
  | .hbm, ⟨5, _⟩ => ⟨S16x2048x2x2x4x64, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S16x2048x512 : Shape := ⟨3, ![16, 2048, 512]⟩
abbrev S1024x1024 : Shape := ⟨2, ![1024, 1024]⟩
abbrev S1024 : Shape := ⟨1, ![1024]⟩
abbrev S16x2048x1024 : Shape := ⟨3, ![16, 2048, 1024]⟩
abbrev S1024x2560 : Shape := ⟨2, ![1024, 2560]⟩
abbrev S1024x2x2x4x64 : Shape := ⟨5, ![1024, 2, 2, 4, 64]⟩
abbrev S1024x2x4x2x64 : Shape := ⟨5, ![1024, 2, 4, 2, 64]⟩
abbrev S1024x512 : Shape := ⟨2, ![1024, 512]⟩
abbrev S32768x512 : Shape := ⟨2, ![32768, 512]⟩
abbrev S1x1024 : Shape := ⟨2, ![1, 1024]⟩
abbrev S32768x1024 : Shape := ⟨2, ![32768, 1024]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S2048x128 : Shape := ⟨2, ![2048, 128]⟩
abbrev S32768x256 : Shape := ⟨2, ![32768, 256]⟩
abbrev S2048x256 : Shape := ⟨2, ![2048, 256]⟩
abbrev S1024x128 : Shape := ⟨2, ![1024, 128]⟩
abbrev S1024x256 : Shape := ⟨2, ![1024, 256]⟩
abbrev S128x256 : Shape := ⟨2, ![128, 256]⟩
abbrev S512x1024 : Shape := ⟨2, ![512, 1024]⟩
abbrev S1024x1 : Shape := ⟨2, ![1024, 1]⟩
abbrev S16x2048x256 : Shape := ⟨3, ![16, 2048, 256]⟩
abbrev S16x128x4x64 : Shape := ⟨4, ![16, 128, 4, 64]⟩

abbrev nBuf : Space → Nat
  | .hbm => 67
  | .vmem => 28
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S1024x1024, .f32⟩
  | .hbm, ⟨3, _⟩ => ⟨S1024, .f32⟩
  | .hbm, ⟨4, _⟩ => ⟨S16x2048x1024, .f32⟩
  | .hbm, ⟨5, _⟩ => ⟨S1024, .f32⟩
  | .hbm, ⟨6, _⟩ => ⟨S1024x2560, .f32⟩
  | .hbm, ⟨7, _⟩ => ⟨S1024x1024, .f32⟩
  | .hbm, ⟨8, _⟩ => ⟨S1024x2x2x4x64, .f32⟩
  | .hbm, ⟨9, _⟩ => ⟨S1024x2x4x2x64, .f32⟩
  | .hbm, ⟨10, _⟩ => ⟨S1024x1024, .f32⟩
  | .hbm, ⟨11, _⟩ => ⟨S1024x512, .f32⟩
  | .hbm, ⟨12, _⟩ => ⟨S1024x1024, .f32⟩
  | .hbm, ⟨13, _⟩ => ⟨S1024x2x2x4x64, .f32⟩
  | .hbm, ⟨14, _⟩ => ⟨S1024x2x4x2x64, .f32⟩
  | .hbm, ⟨15, _⟩ => ⟨S1024x1024, .f32⟩
  | .hbm, ⟨16, _⟩ => ⟨S1024x2560, .f32⟩
  | .hbm, ⟨17, _⟩ => ⟨S16x2048x512, .bf16⟩
  | .hbm, ⟨18, _⟩ => ⟨S32768x512, .bf16⟩
  | .hbm, ⟨19, _⟩ => ⟨S16x2048x512, .bf16⟩
  | .hbm, ⟨20, _⟩ => ⟨S32768x512, .bf16⟩
  | .hbm, ⟨21, _⟩ => ⟨S1024x1024, .bf16⟩
  | .hbm, ⟨22, _⟩ => ⟨S1x1024, .f32⟩
  | .hbm, ⟨23, _⟩ => ⟨S32768x1024, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S1x32, .f32⟩
  | .hbm, ⟨33, _⟩ => ⟨S4x32, .f32⟩
  | .hbm, ⟨34, _⟩ => ⟨S128, .f32⟩
  | .hbm, ⟨35, _⟩ => ⟨S1x128, .f32⟩
  | .hbm, ⟨36, _⟩ => ⟨S2048x128, .i32⟩
  | .hbm, ⟨37, _⟩ => ⟨S2048x128, .i32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S_, .i32⟩
  | .hbm, ⟨44, _⟩ => ⟨S2048x128, .i32⟩
  | .hbm, ⟨45, _⟩ => ⟨S2048x128, .i32⟩
  | .hbm, ⟨46, _⟩ => ⟨S_, .i32⟩
  | .hbm, ⟨47, _⟩ => ⟨S2048x128, .i32⟩
  | .hbm, ⟨48, _⟩ => ⟨S2048x128, .i1⟩
  | .hbm, ⟨49, _⟩ => ⟨S2048x128, .f32⟩
  | .hbm, ⟨50, _⟩ => ⟨S2048x128, .f32⟩
  | .hbm, ⟨51, _⟩ => ⟨S1x1024, .f32⟩
  | .hbm, ⟨52, _⟩ => ⟨S1024x2560, .bf16⟩
  | .hbm, ⟨53, _⟩ => ⟨S32768x1024, .f32⟩
  | .hbm, ⟨54, _⟩ => ⟨S32768x1024, .bf16⟩
  | .hbm, ⟨55, _⟩ => ⟨S32768x256, .bf16⟩
  | .hbm, ⟨56, _⟩ => ⟨S32768x256, .bf16⟩
  | .hbm, ⟨57, _⟩ => ⟨S32768x1024, .bf16⟩
  | .hbm, ⟨58, _⟩ => ⟨S2048x256, .f32⟩
  | .hbm, ⟨59, _⟩ => ⟨S2048x256, .f32⟩
  | .hbm, ⟨60, _⟩ => ⟨S16x2048x1024, .f32⟩
  | .hbm, ⟨61, _⟩ => ⟨S16x2048x1024, .bf16⟩
  | .hbm, ⟨62, _⟩ => ⟨S16x2048x256, .bf16⟩
  | .hbm, ⟨63, _⟩ => ⟨S16x2048x256, .bf16⟩
  | .hbm, ⟨64, _⟩ => ⟨S16x2048x1024, .bf16⟩
  | .hbm, ⟨65, _⟩ => ⟨S16x128x4x64, .f32⟩
  | .hbm, ⟨66, _⟩ => ⟨S16x128x4x64, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x2560, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x1024, .bf16⟩
  | .local _ .vmem, ⟨23, _⟩ => ⟨S1024x1024, .bf16⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_c_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev main_v42_3 : Ref sig .tc := ⟨.hbm, 56, rfl⟩
abbrev main_v42_4 : Ref sig .tc := ⟨.hbm, 57, rfl⟩
abbrev main_v42_5 : Ref sig .tc := ⟨.hbm, 58, rfl⟩
abbrev main_v42_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_15 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16x2048x512 : Shape := ⟨3, ![16, 2048, 512]⟩
abbrev S1024x1024 : Shape := ⟨2, ![1024, 1024]⟩
abbrev S1024 : Shape := ⟨1, ![1024]⟩
abbrev S16x2048x1024 : Shape := ⟨3, ![16, 2048, 1024]⟩
abbrev S1024x2560 : Shape := ⟨2, ![1024, 2560]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2560 : Shape := ⟨3, ![16, 2048, 2560]⟩
abbrev S16x2048x256 : Shape := ⟨3, ![16, 2048, 256]⟩
abbrev S16x2048x16x64 : Shape := ⟨4, ![16, 2048, 16, 64]⟩
abbrev S16x2048x16x32 : Shape := ⟨4, ![16, 2048, 16, 32]⟩
abbrev S1x2048x1x32 : Shape := ⟨4, ![1, 2048, 1, 32]⟩
abbrev S16x2048x4x64 : Shape := ⟨4, ![16, 2048, 4, 64]⟩
abbrev S16x2048x4x32 : Shape := ⟨4, ![16, 2048, 4, 32]⟩
abbrev S16x2048x2x2x4x64 : Shape := ⟨6, ![16, 2048, 2, 2, 4, 64]⟩
abbrev S16x2048x2x4x2x64 : Shape := ⟨6, ![16, 2048, 2, 4, 2, 64]⟩
abbrev S16x128x4x64 : Shape := ⟨4, ![16, 128, 4, 64]⟩

abbrev nBuf : Space → Nat
  | .hbm => 129
  | .vmem => 0
  | .smem => 0
  | _ => 0

abbrev hbmTy0_0 (i : Nat) : BufTy := match i % 128 with
  | 0 => ⟨S16x2048x512, .f32⟩
  | 1 => ⟨S16x2048x512, .f32⟩
  | 2 => ⟨S1024x1024, .f32⟩
  | 3 => ⟨S1024, .f32⟩
  | 4 => ⟨S16x2048x1024, .f32⟩
  | 5 => ⟨S1024, .f32⟩
  | 6 => ⟨S1024x2560, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S2048, .i32⟩
  | 16 => ⟨S2048, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S2048x32, .f32⟩
  | 23 => ⟨S2048x1x32, .f32⟩
  | 24 => ⟨S2048x32, .f32⟩
  | 25 => ⟨S2048x1x32, .f32⟩
  | 26 => ⟨S16x2048x1024, .f32⟩
  | 27 => ⟨S16x2048x1024, .f32⟩
  | 28 => ⟨S16x2048x1024, .f32⟩
  | 29 => ⟨S_, .f32⟩
  | 30 => ⟨S16x2048, .f32⟩
  | 31 => ⟨S16x2048x1, .f32⟩
  | 32 => ⟨S_, .f32⟩
  | 33 => ⟨S16x2048x1, .f32⟩
  | 34 => ⟨S16x2048x1, .f32⟩
  | 35 => ⟨S_, .f32⟩
  | 36 => ⟨S16x2048x1, .f32⟩
  | 37 => ⟨S16x2048x1, .f32⟩
  | 38 => ⟨S16x2048x1, .f32⟩
  | 39 => ⟨S16x2048x1024, .f32⟩
  | 40 => ⟨S16x2048x1024, .f32⟩
  | 41 => ⟨S1x1x1024, .f32⟩
  | 42 => ⟨S16x2048x1024, .f32⟩
  | 43 => ⟨S16x2048x1024, .f32⟩
  | 44 => ⟨S16x2048x1024, .f32⟩
  | 45 => ⟨S16x2048x1024, .f32⟩
  | 46 => ⟨S_, .f32⟩
  | 47 => ⟨S16x2048, .f32⟩
  | 48 => ⟨S16x2048x1, .f32⟩
  | 49 => ⟨S_, .f32⟩
  | 50 => ⟨S16x2048x1, .f32⟩
  | 51 => ⟨S16x2048x1, .f32⟩
  | 52 => ⟨S_, .f32⟩
  | 53 => ⟨S16x2048x1, .f32⟩
  | 54 => ⟨S16x2048x1, .f32⟩
  | 55 => ⟨S16x2048x1, .f32⟩
  | 56 => ⟨S16x2048x1024, .f32⟩
  | 57 => ⟨S16x2048x1024, .f32⟩
  | 58 => ⟨S1x1x1024, .f32⟩
  | 59 => ⟨S16x2048x1024, .f32⟩
  | 60 => ⟨S16x2048x1024, .f32⟩
  | 61 => ⟨S16x2048x2560, .f32⟩
  | 62 => ⟨S16x2048x1024, .f32⟩
  | 63 => ⟨S16x2048x256, .f32⟩
  | 64 => ⟨S16x2048x256, .f32⟩
  | 65 => ⟨S16x2048x1024, .f32⟩
  | 66 => ⟨S16x2048x16x64, .f32⟩
  | 67 => ⟨S16x2048x16x32, .f32⟩
  | 68 => ⟨S16x2048x16x32, .f32⟩
  | 69 => ⟨S1x2048x1x32, .f32⟩
  | 70 => ⟨S16x2048x16x32, .f32⟩
  | 71 => ⟨S16x2048x16x32, .f32⟩
  | 72 => ⟨S1x2048x1x32, .f32⟩
  | 73 => ⟨S16x2048x16x32, .f32⟩
  | 74 => ⟨S16x2048x16x32, .f32⟩
  | 75 => ⟨S16x2048x16x32, .f32⟩
  | 76 => ⟨S1x2048x1x32, .f32⟩
  | 77 => ⟨S16x2048x16x32, .f32⟩
  | 78 => ⟨S16x2048x16x32, .f32⟩
  | 79 => ⟨S1x2048x1x32, .f32⟩
  | 80 => ⟨S16x2048x16x32, .f32⟩
  | 81 => ⟨S16x2048x16x32, .f32⟩
  | 82 => ⟨S16x2048x16x32, .f32⟩
  | 83 => ⟨S16x2048x16x64, .f32⟩
  | 84 => ⟨S16x2048x4x64, .f32⟩
  | 85 => ⟨S16x2048x4x32, .f32⟩
  | 86 => ⟨S16x2048x4x32, .f32⟩
  | 87 => ⟨S1x2048x1x32, .f32⟩
  | 88 => ⟨S16x2048x4x32, .f32⟩
  | 89 => ⟨S16x2048x4x32, .f32⟩
  | 90 => ⟨S1x2048x1x32, .f32⟩
  | 91 => ⟨S16x2048x4x32, .f32⟩
  | 92 => ⟨S16x2048x4x32, .f32⟩
  | 93 => ⟨S16x2048x4x32, .f32⟩
  | 94 => ⟨S1x2048x1x32, .f32⟩
  | 95 => ⟨S16x2048x4x32, .f32⟩
  | 96 => ⟨S16x2048x4x32, .f32⟩
  | 97 => ⟨S1x2048x1x32, .f32⟩
  | 98 => ⟨S16x2048x4x32, .f32⟩
  | 99 => ⟨S16x2048x4x32, .f32⟩
  | 100 => ⟨S16x2048x4x32, .f32⟩
  | 101 => ⟨S16x2048x4x64, .f32⟩
  | 102 => ⟨S16x2048x4x64, .f32⟩
  | 103 => ⟨S_, .f32⟩
  | 104 => ⟨S16x2048x16x64, .f32⟩
  | 105 => ⟨S16x2048x16x64, .f32⟩
  | 106 => ⟨S16x2048x2x2x4x64, .f32⟩
  | 107 => ⟨S16x2048x2x4x2x64, .f32⟩
  | 108 => ⟨S16x2048x1024, .f32⟩
  | 109 => ⟨S16x2048x1024, .bf16⟩
  | 110 => ⟨S16x2048x256, .f32⟩
  | 111 => ⟨S16x2048x256, .bf16⟩
  | 112 => ⟨S16x2048x256, .f32⟩
  | 113 => ⟨S16x2048x256, .bf16⟩
  | 114 => ⟨S16x2048x1024, .f32⟩
  | 115 => ⟨S16x2048x1024, .f32⟩
  | 116 => ⟨S_, .f32⟩
  | 117 => ⟨S16x2048x1024, .f32⟩
  | 118 => ⟨S16x2048x1024, .f32⟩
  | 119 => ⟨S_, .f32⟩
  | 120 => ⟨S16x2048x1024, .f32⟩
  | 121 => ⟨S16x2048x1024, .f32⟩
  | 122 => ⟨S16x2048x1024, .f32⟩
  | 123 => ⟨S16x2048x2x2x4x64, .f32⟩
  | 124 => ⟨S16x2048x2x4x2x64, .f32⟩
  | 125 => ⟨S16x2048x1024, .f32⟩
  | 126 => ⟨S16x2048x1024, .bf16⟩
  | 127 => ⟨S16x128x4x64, .f32⟩
  | _ => ⟨S16x2048x512, .f32⟩

abbrev hbmTy0_1 (i : Nat) : BufTy := match i % 128 with
  | 0 => ⟨S16x128x4x64, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_7 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_call0_v0 : Ref sig .tc := ⟨.hbm, 114, rfl⟩
abbrev main_call0_v1 : Ref sig .tc := ⟨.hbm, 115, rfl⟩
abbrev main_call0_cst : Ref sig .tc := ⟨.hbm, 116, rfl⟩
abbrev main_call0_v2 : Ref sig .tc := ⟨.hbm, 117, rfl⟩
abbrev main_call0_v3 : Ref sig .tc := ⟨.hbm, 118, rfl⟩
abbrev main_call0_cst_0 : Ref sig .tc := ⟨.hbm, 119, rfl⟩
abbrev main_call0_v4 : Ref sig .tc := ⟨.hbm, 120, rfl⟩
abbrev main_call0_v5 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩

abbrev nD : Nat := 1
abbrev τ : Topo := Topo.v7x

variable {F : FTy → Type} [FloatOps F]
-- ==== Kernel5.lean ====
abbrev S8x32x1024 : Shape := ⟨3, ![8, 32, 1024]⟩
abbrev S1024x1024 : Shape := ⟨2, ![1024, 1024]⟩
abbrev S1024 : Shape := ⟨1, ![1024]⟩
abbrev S256x1024 : Shape := ⟨2, ![256, 1024]⟩
abbrev S2x2x4x64x1024 : Shape := ⟨5, ![2, 2, 4, 64, 1024]⟩
abbrev S2x4x2x64x1024 : Shape := ⟨5, ![2, 4, 2, 64, 1024]⟩
abbrev S1x1024 : Shape := ⟨2, ![1, 1024]⟩
abbrev S256 : Shape := ⟨1, ![256]⟩
abbrev S256x1 : Shape := ⟨2, ![256, 1]⟩

abbrev nBuf : Space → Nat
  | .hbm => 14
  | .vmem => 5
  | .smem => 0
  | _ => 0

abbrev bufTy : (tb : Table) → Fin (tcTables nBuf tb) → BufTy
  | .hbm, ⟨0, _⟩ => ⟨S8x32x1024, .f32⟩
  | .hbm, ⟨1, _⟩ => ⟨S1024x1024, .f32⟩
  | .hbm, ⟨2, _⟩ => ⟨S1024, .f32⟩
  | .hbm, ⟨3, _⟩ => ⟨S8x32x1024, .f32⟩
  | .hbm, ⟨4, _⟩ => ⟨S8x32x1024, .bf16⟩
  | .hbm, ⟨5, _⟩ => ⟨S256x1024, .bf16⟩
  | .hbm, ⟨6, _⟩ => ⟨S2x2x4x64x1024, .f32⟩
  | .hbm, ⟨7, _⟩ => ⟨S2x4x2x64x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S256x1024, .f32⟩
  | .hbm, ⟨12, _⟩ => ⟨S256x1024, .f32⟩
  | .hbm, ⟨13, _⟩ => ⟨S8x32x1024, .f32⟩
  | .local _ .vmem, ⟨0, _⟩ => ⟨S256x1024, .bf16⟩
  | .local _ .vmem, ⟨1, _⟩ => ⟨S1024x1024, .bf16⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference5Ideal.lean ====
abbrev S8x32x1024 : Shape := ⟨3, ![8, 32, 1024]⟩
abbrev S1024x1024 : Shape := ⟨2, ![1024, 1024]⟩
abbrev S1024 : Shape := ⟨1, ![1024]⟩
abbrev S8x32x2x4x2x64 : Shape := ⟨6, ![8, 32, 2, 4, 2, 64]⟩
abbrev S8x32x2x2x4x64 : Shape := ⟨6, ![8, 32, 2, 2, 4, 64]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1024x1024, .f32⟩
  | .hbm, ⟨2, _⟩ => ⟨S1024, .f32⟩
  | .hbm, ⟨3, _⟩ => ⟨S8x32x1024, .f32⟩
  | .hbm, ⟨4, _⟩ => ⟨S8x32x2x4x2x64, .f32⟩
  | .hbm, ⟨5, _⟩ => ⟨S8x32x2x2x4x64, .f32⟩
  | .hbm, ⟨6, _⟩ => ⟨S8x32x1024, .f32⟩
  | .hbm, ⟨7, _⟩ => ⟨S8x32x1024, .f32⟩
  | .hbm, ⟨8, _⟩ => ⟨S8x32x1024, .f32⟩
  | .hbm, ⟨9, _⟩ => ⟨S_, .f32⟩
  | .hbm, ⟨10, _⟩ => ⟨S8x32, .f32⟩
  | .hbm, ⟨11, _⟩ => ⟨S8x32x1, .f32⟩
  | .hbm, ⟨12, _⟩ => ⟨S_, .f32⟩
  | .hbm, ⟨13, _⟩ => ⟨S8x32x1, .f32⟩
  | .hbm, ⟨14, _⟩ => ⟨S8x32x1, .f32⟩
  | .hbm, ⟨15, _⟩ => ⟨S_, .f32⟩
  | .hbm, ⟨16, _⟩ => ⟨S8x32x1, .f32⟩
  | .hbm, ⟨17, _⟩ => ⟨S8x32x1, .f32⟩
  | .hbm, ⟨18, _⟩ => ⟨S8x32x1, .f32⟩
  | .hbm, ⟨19, _⟩ => ⟨S8x32x1024, .f32⟩
  | .hbm, ⟨20, _⟩ => ⟨S8x32x1024, .f32⟩
  | .hbm, ⟨21, _⟩ => ⟨S1x1x1024, .f32⟩
  | .hbm, ⟨22, _⟩ => ⟨S8x32x1024, .f32⟩
  | .hbm, ⟨23, _⟩ => ⟨S8x32x1024, .f32⟩
  | .hbm, ⟨24, _⟩ => ⟨S8x32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S8x32x1024 : Shape := ⟨3, ![8, 32, 1024]⟩
abbrev S1024 : Shape := ⟨1, ![1024]⟩
abbrev S1024x4096 : Shape := ⟨2, ![1024, 4096]⟩
abbrev S256x1024 : Shape := ⟨2, ![256, 1024]⟩
abbrev S1x1024 : Shape := ⟨2, ![1, 1024]⟩
abbrev S256x512 : Shape := ⟨2, ![256, 512]⟩
abbrev S1x512x256 : Shape := ⟨3, ![1, 512, 256]⟩
abbrev S256 : Shape := ⟨1, ![256]⟩
abbrev S256x1 : Shape := ⟨2, ![256, 1]⟩
abbrev S1024x512 : Shape := ⟨2, ![1024, 512]⟩
abbrev S512x256 : Shape := ⟨2, ![512, 256]⟩
abbrev S8x32x512 : Shape := ⟨3, ![8, 32, 512]⟩
abbrev S1x8x64x8x32 : Shape := ⟨5, ![1, 8, 64, 8, 32]⟩
abbrev S1x8x32x8x64 : Shape := ⟨5, ![1, 8, 32, 8, 64]⟩
abbrev S8x32x8x64 : Shape := ⟨4, ![8, 32, 8, 64]⟩

abbrev nBuf : Space → Nat
  | .hbm => 38
  | .vmem => 15
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024x4096, .f32⟩
  | .hbm, ⟨3, _⟩ => ⟨S256x1024, .f32⟩
  | .hbm, ⟨4, _⟩ => ⟨S1x1024, .f32⟩
  | .hbm, ⟨5, _⟩ => ⟨S1024x4096, .bf16⟩
  | .hbm, ⟨6, _⟩ => ⟨S256x512, .bf16⟩
  | .hbm, ⟨7, _⟩ => ⟨S256x512, .bf16⟩
  | .hbm, ⟨8, _⟩ => ⟨S256x512, .bf16⟩
  | .hbm, ⟨9, _⟩ => ⟨S256x512, .bf16⟩
  | .hbm, ⟨10, _⟩ => ⟨S256x512, .bf16⟩
  | .hbm, ⟨11, _⟩ => ⟨S256x512, .bf16⟩
  | .hbm, ⟨12, _⟩ => ⟨S256x512, .bf16⟩
  | .hbm, ⟨13, _⟩ => ⟨S256x512, .bf16⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S1x512x256, .f32⟩
  | .hbm, ⟨18, _⟩ => ⟨S8x32x512, .bf16⟩
  | .hbm, ⟨19, _⟩ => ⟨S8x32x512, .bf16⟩
  | .hbm, ⟨20, _⟩ => ⟨S8x32x512, .bf16⟩
  | .hbm, ⟨21, _⟩ => ⟨S8x32x512, .bf16⟩
  | .hbm, ⟨22, _⟩ => ⟨S8x32x512, .bf16⟩
  | .hbm, ⟨23, _⟩ => ⟨S8x32x512, .bf16⟩
  | .hbm, ⟨24, _⟩ => ⟨S8x32x512, .bf16⟩
  | .hbm, ⟨25, _⟩ => ⟨S8x32x512, .bf16⟩
  | .hbm, ⟨26, _⟩ => ⟨S1x8x64x8x32, .f32⟩
  | .hbm, ⟨27, _⟩ => ⟨S1x8x32x8x64, .f32⟩
  | .hbm, ⟨28, _⟩ => ⟨S8x32x8x64, .f32⟩
  | .hbm, ⟨29, _⟩ => ⟨S1x8x64x8x32, .f32⟩
  | .hbm, ⟨30, _⟩ => ⟨S1x8x32x8x64, .f32⟩
  | .hbm, ⟨31, _⟩ => ⟨S8x32x8x64, .f32⟩
  | .hbm, ⟨32, _⟩ => ⟨S1x8x64x8x32, .f32⟩
  | .hbm, ⟨33, _⟩ => ⟨S1x8x32x8x64, .f32⟩
  | .hbm, ⟨34, _⟩ => ⟨S8x32x8x64, .f32⟩
  | .hbm, ⟨35, _⟩ => ⟨S1x8x64x8x32, .f32⟩
  | .hbm, ⟨36, _⟩ => ⟨S1x8x32x8x64, .f32⟩
  | .hbm, ⟨37, _⟩ => ⟨S8x32x8x64, .f32⟩
  | .local _ .vmem, ⟨0, _⟩ => ⟨S256x1024, .f32⟩
  | .local _ .vmem, ⟨1, _⟩ => ⟨S1x1024, .f32⟩
  | .local _ .vmem, ⟨2, _⟩ => ⟨S1024x4096, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev main_v3_9 : Ref sig .tc := ⟨.hbm, 15, rfl⟩
abbrev main_v3_10 : Ref sig .tc := ⟨.hbm, 16, rfl⟩
abbrev main_v3_11 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_13 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_14 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference6Ideal.lean ====
abbrev S8x32x1024 : Shape := ⟨3, ![8, 32, 1024]⟩
abbrev S1024 : Shape := ⟨1, ![1024]⟩
abbrev S1024x4096 : Shape := ⟨2, ![1024, 4096]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S8x32x4096 : Shape := ⟨3, ![8, 32, 4096]⟩
abbrev S8x32x512 : Shape := ⟨3, ![8, 32, 512]⟩
abbrev S8x32x8x64 : Shape := ⟨4, ![8, 32, 8, 64]⟩

abbrev nBuf : Space → Nat
  | .hbm => 64
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024x4096, .f32⟩
  | .hbm, ⟨3, _⟩ => ⟨S8x32x1024, .f32⟩
  | .hbm, ⟨4, _⟩ => ⟨S_, .f32⟩
  | .hbm, ⟨5, _⟩ => ⟨S8x32, .f32⟩
  | .hbm, ⟨6, _⟩ => ⟨S8x32x1, .f32⟩
  | .hbm, ⟨7, _⟩ => ⟨S_, .f32⟩
  | .hbm, ⟨8, _⟩ => ⟨S8x32x1, .f32⟩
  | .hbm, ⟨9, _⟩ => ⟨S8x32x1, .f32⟩
  | .hbm, ⟨10, _⟩ => ⟨S_, .f32⟩
  | .hbm, ⟨11, _⟩ => ⟨S8x32x1, .f32⟩
  | .hbm, ⟨12, _⟩ => ⟨S8x32x1, .f32⟩
  | .hbm, ⟨13, _⟩ => ⟨S8x32x1, .f32⟩
  | .hbm, ⟨14, _⟩ => ⟨S8x32x1024, .f32⟩
  | .hbm, ⟨15, _⟩ => ⟨S8x32x1024, .f32⟩
  | .hbm, ⟨16, _⟩ => ⟨S1x1x1024, .f32⟩
  | .hbm, ⟨17, _⟩ => ⟨S8x32x1024, .f32⟩
  | .hbm, ⟨18, _⟩ => ⟨S8x32x1024, .f32⟩
  | .hbm, ⟨19, _⟩ => ⟨S8x32x4096, .f32⟩
  | .hbm, ⟨20, _⟩ => ⟨S8x32x512, .f32⟩
  | .hbm, ⟨21, _⟩ => ⟨S8x32x512, .f32⟩
  | .hbm, ⟨22, _⟩ => ⟨S8x32x512, .f32⟩
  | .hbm, ⟨23, _⟩ => ⟨S8x32x512, .f32⟩
  | .hbm, ⟨24, _⟩ => ⟨S8x32x512, .f32⟩
  | .hbm, ⟨25, _⟩ => ⟨S8x32x512, .f32⟩
  | .hbm, ⟨26, _⟩ => ⟨S8x32x512, .f32⟩
  | .hbm, ⟨27, _⟩ => ⟨S8x32x512, .f32⟩
  | .hbm, ⟨28, _⟩ => ⟨S_, .f32⟩
  | .hbm, ⟨29, _⟩ => ⟨S8x32x512, .f32⟩
  | .hbm, ⟨30, _⟩ => ⟨S8x32x512, .f32⟩
  | .hbm, ⟨31, _⟩ => ⟨S8x32x512, .f32⟩
  | .hbm, ⟨32, _⟩ => ⟨S8x32x512, .f32⟩
  | .hbm, ⟨33, _⟩ => ⟨S_, .f32⟩
  | .hbm, ⟨34, _⟩ => ⟨S8x32x512, .f32⟩
  | .hbm, ⟨35, _⟩ => ⟨S8x32x512, .f32⟩
  | .hbm, ⟨36, _⟩ => ⟨S_, .f32⟩
  | .hbm, ⟨37, _⟩ => ⟨S8x32x512, .f32⟩
  | .hbm, ⟨38, _⟩ => ⟨S8x32x512, .f32⟩
  | .hbm, ⟨39, _⟩ => ⟨S8x32x512, .f32⟩
  | .hbm, ⟨40, _⟩ => ⟨S_, .f32⟩
  | .hbm, ⟨41, _⟩ => ⟨S8x32x512, .f32⟩
  | .hbm, ⟨42, _⟩ => ⟨S8x32x512, .f32⟩
  | .hbm, ⟨43, _⟩ => ⟨S8x32x512, .f32⟩
  | .hbm, ⟨44, _⟩ => ⟨S8x32x512, .f32⟩
  | .hbm, ⟨45, _⟩ => ⟨S_, .f32⟩
  | .hbm, ⟨46, _⟩ => ⟨S8x32x512, .f32⟩
  | .hbm, ⟨47, _⟩ => ⟨S8x32x512, .f32⟩
  | .hbm, ⟨48, _⟩ => ⟨S_, .f32⟩
  | .hbm, ⟨49, _⟩ => ⟨S8x32x512, .f32⟩
  | .hbm, ⟨50, _⟩ => ⟨S8x32x512, .f32⟩
  | .hbm, ⟨51, _⟩ => ⟨S8x32x512, .f32⟩
  | .hbm, ⟨52, _⟩ => ⟨S8x32x512, .bf16⟩
  | .hbm, ⟨53, _⟩ => ⟨S8x32x512, .bf16⟩
  | .hbm, ⟨54, _⟩ => ⟨S8x32x512, .bf16⟩
  | .hbm, ⟨55, _⟩ => ⟨S8x32x512, .bf16⟩
  | .hbm, ⟨56, _⟩ => ⟨S8x32x512, .bf16⟩
  | .hbm, ⟨57, _⟩ => ⟨S8x32x512, .bf16⟩
  | .hbm, ⟨58, _⟩ => ⟨S8x32x512, .bf16⟩
  | .hbm, ⟨59, _⟩ => ⟨S8x32x512, .bf16⟩
  | .hbm, ⟨60, _⟩ => ⟨S8x32x8x64, .f32⟩
  | .hbm, ⟨61, _⟩ => ⟨S8x32x8x64, .f32⟩
  | .hbm, ⟨62, _⟩ => ⟨S8x32x8x64, .f32⟩
  | .hbm, ⟨63, _⟩ => ⟨S8x32x8x64, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel7.lean ====
abbrev S8x32x512 : Shape := ⟨3, ![8, 32, 512]⟩
abbrev S1024x1024 : Shape := ⟨2, ![1024, 1024]⟩
abbrev S1024 : Shape := ⟨1, ![1024]⟩
abbrev S8x32x1024 : Shape := ⟨3, ![8, 32, 1024]⟩
abbrev S1024x2560 : Shape := ⟨2, ![1024, 2560]⟩
abbrev S1024x2x2x4x64 : Shape := ⟨5, ![1024, 2, 2, 4, 64]⟩
abbrev S1024x2x4x2x64 : Shape := ⟨5, ![1024, 2, 4, 2, 64]⟩
abbrev S1024x512 : Shape := ⟨2, ![1024, 512]⟩
abbrev S256x512 : Shape := ⟨2, ![256, 512]⟩
abbrev S1x1024 : Shape := ⟨2, ![1, 1024]⟩
abbrev S256x1024 : Shape := ⟨2, ![256, 1024]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S256x128 : Shape := ⟨2, ![256, 128]⟩
abbrev S256x256 : Shape := ⟨2, ![256, 256]⟩
abbrev S512x1024 : Shape := ⟨2, ![512, 1024]⟩
abbrev S256 : Shape := ⟨1, ![256]⟩
abbrev S256x1 : Shape := ⟨2, ![256, 1]⟩
abbrev S1024x256 : Shape := ⟨2, ![1024, 256]⟩
abbrev S8x32x256 : Shape := ⟨3, ![8, 32, 256]⟩
abbrev S8x32x4x64 : Shape := ⟨4, ![8, 32, 4, 64]⟩

abbrev nBuf : Space → Nat
  | .hbm => 73
  | .vmem => 16
  | .smem => 0
  | _ => 0

abbrev bufTy : (tb : Table) → Fin (tcTables nBuf tb) → BufTy
  | .hbm, ⟨0, _⟩ => ⟨S8x32x512, .f32⟩
  | .hbm, ⟨1, _⟩ => ⟨S8x32x512, .f32⟩
  | .hbm, ⟨2, _⟩ => ⟨S1024x1024, .f32⟩
  | .hbm, ⟨3, _⟩ => ⟨S1024, .f32⟩
  | .hbm, ⟨4, _⟩ => ⟨S8x32x1024, .f32⟩
  | .hbm, ⟨5, _⟩ => ⟨S1024, .f32⟩
  | .hbm, ⟨6, _⟩ => ⟨S1024x2560, .f32⟩
  | .hbm, ⟨7, _⟩ => ⟨S1024x1024, .f32⟩
  | .hbm, ⟨8, _⟩ => ⟨S1024x2x2x4x64, .f32⟩
  | .hbm, ⟨9, _⟩ => ⟨S1024x2x4x2x64, .f32⟩
  | .hbm, ⟨10, _⟩ => ⟨S1024x1024, .f32⟩
  | .hbm, ⟨11, _⟩ => ⟨S1024x512, .f32⟩
  | .hbm, ⟨12, _⟩ => ⟨S1024x1024, .f32⟩
  | .hbm, ⟨13, _⟩ => ⟨S1024x2x2x4x64, .f32⟩
  | .hbm, ⟨14, _⟩ => ⟨S1024x2x4x2x64, .f32⟩
  | .hbm, ⟨15, _⟩ => ⟨S1024x1024, .f32⟩
  | .hbm, ⟨16, _⟩ => ⟨S1024x2560, .f32⟩
  | .hbm, ⟨17, _⟩ => ⟨S8x32x512, .bf16⟩
  | .hbm, ⟨18, _⟩ => ⟨S256x512, .bf16⟩
  | .hbm, ⟨19, _⟩ => ⟨S8x32x512, .bf16⟩
  | .hbm, ⟨20, _⟩ => ⟨S256x512, .bf16⟩
  | .hbm, ⟨21, _⟩ => ⟨S1024x1024, .bf16⟩
  | .hbm, ⟨22, _⟩ => ⟨S1x1024, .f32⟩
  | .hbm, ⟨23, _⟩ => ⟨S256x1024, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S1x32, .f32⟩
  | .hbm, ⟨33, _⟩ => ⟨S4x32, .f32⟩
  | .hbm, ⟨34, _⟩ => ⟨S128, .f32⟩
  | .hbm, ⟨35, _⟩ => ⟨S1x128, .f32⟩
  | .hbm, ⟨36, _⟩ => ⟨S256x128, .i32⟩
  | .hbm, ⟨37, _⟩ => ⟨S256x128, .i32⟩
  | .hbm, ⟨38, _⟩ => ⟨S_, .i32⟩
  | .hbm, ⟨39, _⟩ => ⟨S256x128, .i32⟩
  | .hbm, ⟨40, _⟩ => ⟨S256x128, .i32⟩
  | .hbm, ⟨41, _⟩ => ⟨S_, .i32⟩
  | .hbm, ⟨42, _⟩ => ⟨S256x128, .i32⟩
  | .hbm, ⟨43, _⟩ => ⟨S256x128, .i32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S256x128, .f32⟩
  | .hbm, ⟨49, _⟩ => ⟨S_, .i32⟩
  | .hbm, ⟨50, _⟩ => ⟨S256x128, .i32⟩
  | .hbm, ⟨51, _⟩ => ⟨S256x128, .i32⟩
  | .hbm, ⟨52, _⟩ => ⟨S_, .i32⟩
  | .hbm, ⟨53, _⟩ => ⟨S256x128, .i32⟩
  | .hbm, ⟨54, _⟩ => ⟨S256x128, .i1⟩
  | .hbm, ⟨55, _⟩ => ⟨S256x128, .f32⟩
  | .hbm, ⟨56, _⟩ => ⟨S256x128, .f32⟩
  | .hbm, ⟨57, _⟩ => ⟨S1x1024, .f32⟩
  | .hbm, ⟨58, _⟩ => ⟨S1024x2560, .bf16⟩
  | .hbm, ⟨59, _⟩ => ⟨S256x1024, .f32⟩
  | .hbm, ⟨60, _⟩ => ⟨S256x1024, .bf16⟩
  | .hbm, ⟨61, _⟩ => ⟨S256x256, .bf16⟩
  | .hbm, ⟨62, _⟩ => ⟨S256x256, .bf16⟩
  | .hbm, ⟨63, _⟩ => ⟨S256x1024, .bf16⟩
  | .hbm, ⟨64, _⟩ => ⟨S256x256, .f32⟩
  | .hbm, ⟨65, _⟩ => ⟨S256x256, .f32⟩
  | .hbm, ⟨66, _⟩ => ⟨S8x32x1024, .f32⟩
  | .hbm, ⟨67, _⟩ => ⟨S8x32x1024, .bf16⟩
  | .hbm, ⟨68, _⟩ => ⟨S8x32x256, .bf16⟩
  | .hbm, ⟨69, _⟩ => ⟨S8x32x256, .bf16⟩
  | .hbm, ⟨70, _⟩ => ⟨S8x32x1024, .bf16⟩
  | .hbm, ⟨71, _⟩ => ⟨S8x32x4x64, .f32⟩
  | .hbm, ⟨72, _⟩ => ⟨S8x32x4x64, .f32⟩
  | .local _ .vmem, ⟨0, _⟩ => ⟨S256x512, .bf16⟩
  | .local _ .vmem, ⟨1, _⟩ => ⟨S256x512, .bf16⟩
  | .local _ .vmem, ⟨2, _⟩ => ⟨S1024x1024, .bf16⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | .local _ .vmem, ⟨6, _⟩ => ⟨S1024x2560, .bf16⟩
  | .local _ .vmem, ⟨7, _⟩ => ⟨S256x128, .f32⟩
  | .local _ .vmem, ⟨8, _⟩ => ⟨S256x128, .f32⟩
  | .local _ .vmem, ⟨9, _⟩ => ⟨S256x1024, .f32⟩
  | .local _ .vmem, ⟨10, _⟩ => ⟨S256x1024, .bf16⟩
  | .local _ .vmem, ⟨11, _⟩ => ⟨S256x256, .bf16⟩
  | .local _ .vmem, ⟨12, _⟩ => ⟨S256x256, .bf16⟩
  | .local _ .vmem, ⟨13, _⟩ => ⟨S256x1024, .bf16⟩
  | .local _ .vmem, ⟨14, _⟩ => ⟨S256x256, .f32⟩
  | .local _ .vmem, ⟨15, _⟩ => ⟨S256x256, .f32⟩
  | _, _ => ⟨S8x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_2 : Ref sig .tc := ⟨.hbm, 49, rfl⟩
abbrev main_v38 : Ref sig .tc := ⟨.hbm, 50, rfl⟩
abbrev main_v39 : Ref sig .tc := ⟨.hbm, 51, rfl⟩
abbrev main_c_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v46_3 : Ref sig .tc := ⟨.hbm, 62, rfl⟩
abbrev main_v46_4 : Ref sig .tc := ⟨.hbm, 63, rfl⟩
abbrev main_v46_5 : Ref sig .tc := ⟨.hbm, 64, rfl⟩
abbrev main_v46_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_15 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference7Ideal.lean ====
abbrev S8x32x512 : Shape := ⟨3, ![8, 32, 512]⟩
abbrev S1024x1024 : Shape := ⟨2, ![1024, 1024]⟩
abbrev S1024 : Shape := ⟨1, ![1024]⟩
abbrev S8x32x1024 : Shape := ⟨3, ![8, 32, 1024]⟩
abbrev S1024x2560 : Shape := ⟨2, ![1024, 2560]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x1x32 : Shape := ⟨3, ![32, 1, 32]⟩
abbrev S8x32 : Shape := ⟨2, ![8, 32]⟩
abbrev S8x32x1 : Shape := ⟨3, ![8, 32, 1]⟩
abbrev S1x1x1024 : Shape := ⟨3, ![1, 1, 1024]⟩
abbrev S8x32x2560 : Shape := ⟨3, ![8, 32, 2560]⟩
abbrev S8x32x256 : Shape := ⟨3, ![8, 32, 256]⟩
abbrev S8x32x16x64 : Shape := ⟨4, ![8, 32, 16, 64]⟩
abbrev S8x32x16x32 : Shape := ⟨4, ![8, 32, 16, 32]⟩
abbrev S1x32x1x32 : Shape := ⟨4, ![1, 32, 1, 32]⟩
abbrev S8x32x4x64 : Shape := ⟨4, ![8, 32, 4, 64]⟩
abbrev S8x32x4x32 : Shape := ⟨4, ![8, 32, 4, 32]⟩
abbrev S8x32x2x2x4x64 : Shape := ⟨6, ![8, 32, 2, 2, 4, 64]⟩
abbrev S8x32x2x4x2x64 : Shape := ⟨6, ![8, 32, 2, 4, 2, 64]⟩

abbrev nBuf : Space → Nat
  | .hbm => 130
  | .vmem => 0
  | .smem => 0
  | _ => 0

abbrev hbmTy0_0 (i : Nat) : BufTy := match i % 128 with
  | 0 => ⟨S8x32x512, .f32⟩
  | 1 => ⟨S8x32x512, .f32⟩
  | 2 => ⟨S1024x1024, .f32⟩
  | 3 => ⟨S1024, .f32⟩
  | 4 => ⟨S8x32x1024, .f32⟩
  | 5 => ⟨S1024, .f32⟩
  | 6 => ⟨S1024x2560, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .i32⟩
  | 16 => ⟨S_, .i32⟩
  | 17 => ⟨S32, .i32⟩
  | 18 => ⟨S32, .i32⟩
  | 19 => ⟨S32, .f32⟩
  | 20 => ⟨S32x1, .f32⟩
  | 21 => ⟨S1x32, .f32⟩
  | 22 => ⟨S32x32, .f32⟩
  | 23 => ⟨S32x32, .f32⟩
  | 24 => ⟨S32x32, .f32⟩
  | 25 => ⟨S32x32, .f32⟩
  | 26 => ⟨S32x1x32, .f32⟩
  | 27 => ⟨S32x32, .f32⟩
  | 28 => ⟨S32x1x32, .f32⟩
  | 29 => ⟨S8x32x1024, .f32⟩
  | 30 => ⟨S8x32x1024, .f32⟩
  | 31 => ⟨S8x32x1024, .f32⟩
  | 32 => ⟨S_, .f32⟩
  | 33 => ⟨S8x32, .f32⟩
  | 34 => ⟨S8x32x1, .f32⟩
  | 35 => ⟨S_, .f32⟩
  | 36 => ⟨S8x32x1, .f32⟩
  | 37 => ⟨S8x32x1, .f32⟩
  | 38 => ⟨S_, .f32⟩
  | 39 => ⟨S8x32x1, .f32⟩
  | 40 => ⟨S8x32x1, .f32⟩
  | 41 => ⟨S8x32x1, .f32⟩
  | 42 => ⟨S8x32x1024, .f32⟩
  | 43 => ⟨S8x32x1024, .f32⟩
  | 44 => ⟨S1x1x1024, .f32⟩
  | 45 => ⟨S8x32x1024, .f32⟩
  | 46 => ⟨S8x32x1024, .f32⟩
  | 47 => ⟨S8x32x1024, .f32⟩
  | 48 => ⟨S8x32x1024, .f32⟩
  | 49 => ⟨S_, .f32⟩
  | 50 => ⟨S8x32, .f32⟩
  | 51 => ⟨S8x32x1, .f32⟩
  | 52 => ⟨S_, .f32⟩
  | 53 => ⟨S8x32x1, .f32⟩
  | 54 => ⟨S8x32x1, .f32⟩
  | 55 => ⟨S_, .f32⟩
  | 56 => ⟨S8x32x1, .f32⟩
  | 57 => ⟨S8x32x1, .f32⟩
  | 58 => ⟨S8x32x1, .f32⟩
  | 59 => ⟨S8x32x1024, .f32⟩
  | 60 => ⟨S8x32x1024, .f32⟩
  | 61 => ⟨S1x1x1024, .f32⟩
  | 62 => ⟨S8x32x1024, .f32⟩
  | 63 => ⟨S8x32x1024, .f32⟩
  | 64 => ⟨S8x32x2560, .f32⟩
  | 65 => ⟨S8x32x1024, .f32⟩
  | 66 => ⟨S8x32x256, .f32⟩
  | 67 => ⟨S8x32x256, .f32⟩
  | 68 => ⟨S8x32x1024, .f32⟩
  | 69 => ⟨S8x32x16x64, .f32⟩
  | 70 => ⟨S8x32x16x32, .f32⟩
  | 71 => ⟨S8x32x16x32, .f32⟩
  | 72 => ⟨S1x32x1x32, .f32⟩
  | 73 => ⟨S8x32x16x32, .f32⟩
  | 74 => ⟨S8x32x16x32, .f32⟩
  | 75 => ⟨S1x32x1x32, .f32⟩
  | 76 => ⟨S8x32x16x32, .f32⟩
  | 77 => ⟨S8x32x16x32, .f32⟩
  | 78 => ⟨S8x32x16x32, .f32⟩
  | 79 => ⟨S1x32x1x32, .f32⟩
  | 80 => ⟨S8x32x16x32, .f32⟩
  | 81 => ⟨S8x32x16x32, .f32⟩
  | 82 => ⟨S1x32x1x32, .f32⟩
  | 83 => ⟨S8x32x16x32, .f32⟩
  | 84 => ⟨S8x32x16x32, .f32⟩
  | 85 => ⟨S8x32x16x32, .f32⟩
  | 86 => ⟨S8x32x16x64, .f32⟩
  | 87 => ⟨S8x32x4x64, .f32⟩
  | 88 => ⟨S8x32x4x32, .f32⟩
  | 89 => ⟨S8x32x4x32, .f32⟩
  | 90 => ⟨S1x32x1x32, .f32⟩
  | 91 => ⟨S8x32x4x32, .f32⟩
  | 92 => ⟨S8x32x4x32, .f32⟩
  | 93 => ⟨S1x32x1x32, .f32⟩
  | 94 => ⟨S8x32x4x32, .f32⟩
  | 95 => ⟨S8x32x4x32, .f32⟩
  | 96 => ⟨S8x32x4x32, .f32⟩
  | 97 => ⟨S1x32x1x32, .f32⟩
  | 98 => ⟨S8x32x4x32, .f32⟩
  | 99 => ⟨S8x32x4x32, .f32⟩
  | 100 => ⟨S1x32x1x32, .f32⟩
  | 101 => ⟨S8x32x4x32, .f32⟩
  | 102 => ⟨S8x32x4x32, .f32⟩
  | 103 => ⟨S8x32x4x32, .f32⟩
  | 104 => ⟨S8x32x4x64, .f32⟩
  | 105 => ⟨S8x32x4x64, .f32⟩
  | 106 => ⟨S_, .f32⟩
  | 107 => ⟨S8x32x16x64, .f32⟩
  | 108 => ⟨S8x32x16x64, .f32⟩
  | 109 => ⟨S8x32x2x2x4x64, .f32⟩
  | 110 => ⟨S8x32x2x4x2x64, .f32⟩
  | 111 => ⟨S8x32x1024, .f32⟩
  | 112 => ⟨S8x32x1024, .bf16⟩
  | 113 => ⟨S8x32x256, .f32⟩
  | 114 => ⟨S8x32x256, .bf16⟩
  | 115 => ⟨S8x32x256, .f32⟩
  | 116 => ⟨S8x32x256, .bf16⟩
  | 117 => ⟨S8x32x1024, .f32⟩
  | 118 => ⟨S8x32x1024, .f32⟩
  | 119 => ⟨S_, .f32⟩
  | 120 => ⟨S8x32x1024, .f32⟩
  | 121 => ⟨S8x32x1024, .f32⟩
  | 122 => ⟨S_, .f32⟩
  | 123 => ⟨S8x32x1024, .f32⟩
  | 124 => ⟨S8x32x1024, .f32⟩
  | 125 => ⟨S8x32x1024, .f32⟩
  | 126 => ⟨S8x32x2x2x4x64, .f32⟩
  | 127 => ⟨S8x32x2x4x2x64, .f32⟩
  | _ => ⟨S8x32x512, .f32⟩

abbrev hbmTy0_1 (i : Nat) : BufTy := match i % 128 with
  | 0 => ⟨S8x32x1024, .f32⟩
  | 1 => ⟨S8x32x1024, .bf16⟩
  | _ => ⟨S8x32x512, .f32⟩

abbrev hbmTy (i : Nat) : BufTy := match i / 128 with
  | 0 => hbmTy0_0 i
  | 1 => hbmTy0_1 i
  | _ => ⟨S8x32x512, .f32⟩

abbrev bufTy : (tb : Table) → Fin (tcTables nBuf tb) → BufTy
  | .hbm, ⟨i, _⟩ => hbmTy i
  | _, _ => ⟨S8x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_7 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_call0_v0 : Ref sig .tc := ⟨.hbm, 117, rfl⟩
abbrev main_call0_v1 : Ref sig .tc := ⟨.hbm, 118, rfl⟩
abbrev main_call0_cst : Ref sig .tc := ⟨.hbm, 119, rfl⟩
abbrev main_call0_v2 : Ref sig .tc := ⟨.hbm, 120, rfl⟩
abbrev main_call0_v3 : Ref sig .tc := ⟨.hbm, 121, rfl⟩
abbrev main_call0_cst_0 : Ref sig .tc := ⟨.hbm, 122, rfl⟩
abbrev main_call0_v4 : Ref sig .tc := ⟨.hbm, 123, rfl⟩
abbrev main_call0_v5 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩

abbrev nD : Nat := 1
abbrev τ : Topo := Topo.v7x

variable {F : FTy → Type} [FloatOps F]
-- ==== Proof.AttnA.FrameI.lean ====
/-
  The frame of the attention kernel as `KernelIdeal` prints it: on whole staging memrefs the body runs, leaving its
  five input blocks as they were; nothing is said here of what it leaves in the result's block or in its two scratch
  buffers. The pipeline's run then leaves every argument as launched and every semaphore counter at zero.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

abbrev 𝒱₀ : Variants := Variants.none

variable (m : (ℓ : Loc nD τ sig) → Buf (Elt F) ℓ) (ρ : Dev nD → PrngReg)

set_option maxHeartbeats 40000000 in
set_option sl_exec.squeezeSlice true in
/-- The body on any whole memrefs, the scratch buffers and the result's block at any contents before and after. -/
theorem body_runs (c : Dev nD) (i : grid0.Coords)
    (M0 : Memref sig .tc .vmem S1x2048x128 .bf16) (h0 : M0.IsWhole)
    (M1 : Memref sig .tc .vmem S1x2048x128 .bf16) (h1 : M1.IsWhole)
    (M2 : Memref sig .tc .vmem S1x2048x128 .bf16) (h2 : M2.IsWhole)
    (M3 : Memref sig .tc .vmem S1x2048x128 .bf16) (h3 : M3.IsWhole)
    (M4 : Memref sig .tc .vmem S256x640 .f32) (h4 : M4.IsWhole)
    (M5 : Memref sig .tc .vmem S1x2048x128 .bf16) (h5 : M5.IsWhole)
    (M6 : Memref sig .tc .vmem S2x256x640 .f32) (h6 : M6.IsWhole)
    (M7 : Memref sig .tc .vmem S2x256x640 .bf16) (h7 : M7.IsWhole)
    (x0 x1 x2 x3 : Vec F S1x2048x128 .bf16) (x4 : Vec F S256x640 .f32)
    (E : Set ℕ) (K : PUnit → sProp 𝕄) :
    iprop(owns (c : Thread nD τ) M0 fullShare x0 ∗ owns (c : Thread nD τ) M1 fullShare x1
        ∗ owns (c : Thread nD τ) M2 fullShare x2 ∗ owns (c : Thread nD τ) M3 fullShare x3
        ∗ owns (c : Thread nD τ) M4 fullShare x4 ∗ (∃ d, owns (c : Thread nD τ) M5 fullShare d)
        ∗ (∃ d, owns (c : Thread nD τ) M6 fullShare d) ∗ (∃ d, owns (c : Thread nD τ) M7 fullShare d)
        ∗ (iprop(owns (c : Thread nD τ) M0 fullShare x0 ∗ owns (c : Thread nD τ) M1 fullShare x1
          ∗ owns (c : Thread nD τ) M2 fullShare x2 ∗ owns (c : Thread nD τ) M3 fullShare x3
          ∗ owns (c : Thread nD τ) M4 fullShare x4 ∗ (∃ d, owns (c : Thread nD τ) M5 fullShare d)
          ∗ (∃ d, owns (c : Thread nD τ) M6 fullShare d)
          ∗ (∃ d, owns (c : Thread nD τ) M7 fullShare d)) -∗ K ⟨⟩))
      ⊢ wp frame (wpE (defs₀ (F := F)) 𝒱₀ c none) E
          (cc0_attn_a i M0 h0 M1 h1 M2 h2 M3 h3 M4 h4 M5 h5 M6 h6 M7 h7) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := h0.eq_unread hf0; obtain rfl := h1.eq_unread hf1
  obtain rfl := h2.eq_unread hf2; obtain rfl := h3.eq_unread hf3; obtain rfl := h4.eq_unread hf4
  sl_unfold [cc0_attn_a]
  sl_exec
  sl_step
  iapply Hk
  isplitl [H0]; · iexists _; isplitr; · ipureintro; exact h0.read_unread _
                  iexact H0
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; iexists _; isplitr; swap; · iexact H5
                  ipureintro; rfl
  isplitl [H6]; · iexists _; iexists _; isplitr; swap; · iexact H6
                  ipureintro; rfl
  iexists _; iexists _; isplitr; swap; · iexact H7
  ipureintro; rfl

/-- The result's window, of which the frame says nothing. -/
abbrev forget : Fin cfg0.W → Bool
  | ⟨0, _⟩ => false
  | ⟨1, _⟩ => false
  | ⟨2, _⟩ => false
  | ⟨3, _⟩ => false
  | ⟨4, _⟩ => false
  | ⟨5, _⟩ => true

/-- The proof data: each input's buffer at its block, the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body's obligation at every point, the result's window forgotten. -/
theorem body_obligation (c : Dev nD) :
    BodyObligation (dats (F := F) m 0 c) (defs₀ (F := F)) 𝒱₀ () Set.univ forget := fun t => by
  rw [bigSep_W0, bigSep_W0]
  sl_whnfR [defs₀, Defs.onTc]
  simp only [before0_0, before0_1, before0_2, before0_3, before0_4, forget]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  simp only [after0_0, after0_1, after0_2, after0_3, after0_4]
  unfold Pipeline.ΦA
  rw [scopedRest0_eq]
  iintro ⟨⟨⟨⟨%f6, H6⟩, ⟨%f7, H7⟩⟩, Hr⟩, Ho, ⟨%d0, H0⟩, ⟨%d1, H1⟩, ⟨%d2, H2⟩, ⟨%d3, H3⟩, ⟨%d4, H4⟩, ⟨%d5, H5⟩⟩
  have hb := fun K => body_runs (F := F) c (grid0.coords t) _ (hstage0_0 (cfg0.slots t 0)) _ (hstage0_1 (cfg0.slots t 1)) _ (hstage0_2 (cfg0.slots t 2)) _ (hstage0_3 (cfg0.slots t 3)) _ (hstage0_4 (cfg0.slots t 4)) _ (hstage0_5 (cfg0.slots t 5)) _ (Memref.isWhole_whole cc0_scratch0) _ (Memref.isWhole_whole cc0_scratch1) (iblk m c 0 t) (iblk m c 1 t) (iblk m c 2 t) (iblk m c 3 t) (iblk m c 4 t) Set.univ K
  simp only [owns_whole] at hb
  iapply (hb _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%g6, H6⟩, ⟨%g7, H7⟩⟩
  isplitl [H6 H7 Hr]
  · isplitl [H6 H7]
    · isplitl [H6]; · iexists _; iexact H6
      iexists _; iexact H7
    iexact Hr
  isplitl [Ho]; · iexact Ho
  isplitl [H0]; · iexact H0
  isplitl [H1]; · iexact H1
  isplitl [H2]; · iexact H2
  isplitl [H3]; · iexact H3
  isplitl [H4]; · iexact H4
  iexists _; iexact H5

set_option backward.isDefEq.respectTransparency.types false in
/-- Every weakly fair execution of @main terminates, with every buffer that is no window's array as launched and every
    semaphore counter at zero. -/
theorem run_frame : θ_run defs (onTc (τ := τ) (main (F := F))) (s₀ m ρ)
    (fun r => Pipeline.RDat.FramePost (cfgs 0) (fun c => (dats m 0 c).toRForget forget) (V m) r ∧ r.2.sem = fun _ => 0) :=
  Pipeline.θ_run_frame_forget (Q' := _) cfgs (dats m) (0 : Fin 1) launch0 defs₀ 𝒱₀ forget m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The frame claim's conclusion, at any float instance. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_frame m ρ)

end Cert.KernelIdeal.Attn

end
-- ==== Proof.AttnA.Reference.lean ====
/-
  The attention reference's run: it ends with its arguments as launched, its result at the operations' composed term, and no
  semaphore counter but zero, since it has none.
-/
module

public import proofs.«01_k».proof.Proof.Gen.ReferenceIdeal.Run
public import Idealize.ShloMosaic.Lib.Quiescent
public import Idealize.ShloMosaic.PureOps.Ideal

@[expose] public section

noncomputable section

namespace Cert.ReferenceIdeal.Attn

open Cert.ReferenceIdeal Cert.ReferenceIdeal.Gen
open Idealize.ShloMosaic Idealize.ShloMosaic.TcCoe Idealize.SL.Sem

/-- The frame claim's conclusion. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Cert.ReferenceIdeal.Value.run m ρ)

end Cert.ReferenceIdeal.Attn

end
-- ==== Proof.AttnA.Words.lean ====
/-
  The words of the attention mask and of the relative-position table: a column gather read at an index, the mask as a
  statement about chunk numbers, and the clipped distance, which both programs compute from equal words.
-/
module

public import Idealize.ShloMosaic.Lib.ValueIdxCore
public import Idealize.ShloMosaic.Lib.Routing.Words
public import Idealize.ShloMosaic.Lib.Pointwise

@[expose] public section

noncomputable section

namespace Cert.KernelIdeal.Attn

open Idealize.ShloMosaic

/-- A gather of columns of an `[H, K]` operand, one column number per `(i, j)`. -/
abbrev colDims (H K M N : Nat)
    (wf : GatherDims.WF ⟨2, ![H, K]⟩ ⟨3, ![M, N, 1]⟩ ⟨3, ![H, M, N]⟩ [0] [1] [] [1] [] 2 ![H, 1]) :
    GatherDims ⟨2, ![H, K]⟩ ⟨3, ![M, N, 1]⟩ ⟨3, ![H, M, N]⟩ where
  offsetDims := [0]
  collapsedSliceDims := [1]
  operandBatchingDims := []
  startIndicesBatchingDims := []
  startIndexMap := [1]
  indexVectorDim := 2
  sliceSizes := ![H, 1]
  wf := wf

/-- Element `(h, i, j)` of the gather: row `h` at the column number of `(i, j)`, read signed and clamped. -/
theorem gather_col {α : Type} {H K M N w : Nat} (hK : 0 < K)
    (wf : GatherDims.WF ⟨2, ![H, K]⟩ ⟨3, ![M, N, 1]⟩ ⟨3, ![H, M, N]⟩ [0] [1] [] [1] [] 2 ![H, 1])
    (x : (⟨2, ![H, K]⟩ : Shape).Idx → α) (idx : IVec ⟨3, ![M, N, 1]⟩ w) (h : Fin H) (i : Fin M) (j : Fin N) :
    Host.gather (colDims H K M N wf) x idx (ix3 h i j)
      = x (ix2 h ⟨min (idx (ix3 i j 0)).toInt.toNat (K - 1), by omega⟩) := by
  unfold Host.gather
  congr 1
  funext a
  refine Fin.ext ?_
  show (colDims H K M N wf).start (ix3 h i j) idx a + (colDims H K M N wf).batchCoord (ix3 h i j) a
      + (colDims H K M N wf).offCoord (ix3 h i j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show (0 : Fin 2) ∉ (colDims H K M N wf).startIndexMap from fun h => by simp at h)]
    simp only [Nat.zero_add]
    unfold GatherDims.offCoord
    rw [dif_pos ((GatherDims.mem_sKept _ _).2 ⟨fun h => by simp at h, List.not_mem_nil⟩)]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims H K M N wf).startIndexMap from List.mem_singleton.mpr rfl)]
    have hsi : (colDims H K M N wf).siIdx (ix3 h i j) ⟨List.idxOf (1 : Fin 2) (colDims H K M N wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl

/-- The table column of a distance word: clipped to `[-128, 128]` and shifted. -/
def colOf (w : BitVec 32) : Fin 257 :=
  ⟨min (IntOp.addi (IntOp.minsi 128#32 (IntOp.maxsi 4294967168#32 w)) 128#32).toInt.toNat (257 - 1), by omega⟩

theorem toInt_ofNat_small {a : ℕ} (h : a < 2 ^ 31) : (BitVec.ofNat 32 a).toInt = a := by
  rw [BitVec.toInt_eq_toNat_of_lt] <;> simp [BitVec.toNat_ofNat] <;> omega

theorem toInt_sub8 {b : ℕ} (h : b < 2 ^ 31) : (IntOp.subi (BitVec.ofNat 32 b) 8#32).toInt = (b : ℤ) - 8 := by
  show (BitVec.ofNat 32 b - 8#32).toInt = _
  rw [BitVec.toInt_sub, toInt_ofNat_small h]
  show ((b : ℤ) - 8).bmod (2 ^ 32) = _
  apply Int.bmod_eq_of_le <;> omega

/-- The mask of both programs, at chunk numbers `a` of the key and `b` of the query: the key's chunk is the query's or one of the eight before. -/
theorem mask_word {a b : ℕ} (ha : a < 2 ^ 30) (hb : b < 2 ^ 30) :
    IntOp.andi (IntOp.cmpi CmpIPredicate.sle (BitVec.ofNat 32 a) (BitVec.ofNat 32 b))
      (IntOp.cmpi CmpIPredicate.sge (BitVec.ofNat 32 a) (IntOp.subi (BitVec.ofNat 32 b) 8#32))
      = BitVec.ofBool (decide (a ≤ b ∧ b ≤ a + 8)) := by
  have e1 : IntOp.cmpi CmpIPredicate.sle (BitVec.ofNat 32 a) (BitVec.ofNat 32 b) = BitVec.ofBool (decide (a ≤ b)) := by
    unfold IntOp.cmpi
    simp only [BitVec.sle, toInt_ofNat_small (show a < 2 ^ 31 by omega), toInt_ofNat_small (show b < 2 ^ 31 by omega)]
    congr 1
    simp
  have e2 : IntOp.cmpi CmpIPredicate.sge (BitVec.ofNat 32 a) (IntOp.subi (BitVec.ofNat 32 b) 8#32) = BitVec.ofBool (decide (b ≤ a + 8)) := by
    unfold IntOp.cmpi
    simp only [BitVec.sle, toInt_ofNat_small (show a < 2 ^ 31 by omega), toInt_sub8 (show b < 2 ^ 31 by omega)]
    congr 1
    rw [decide_eq_decide]
    omega
  rw [e1, e2]
  by_cases h1 : a ≤ b <;> by_cases h2 : b ≤ a + 8 <;> simp [h1, h2] <;> rfl

theorem select_ofBool {V : Type} (p : Prop) [Decidable p] (x y : V) : Scalar.select (BitVec.ofBool (decide p)) x y = if p then x else y := by
  by_cases h : p <;> simp [h] <;> rfl

/-- The distance words of both programs are equal where the distances are. -/
theorem dist_word {s j i q : ℕ} (h : s + q = 512 + i + j) :
    IntOp.subi (IntOp.addi 512#32 (BitVec.ofNat 32 i)) (BitVec.ofNat 32 q) = IntOp.subi (BitVec.ofNat 32 s) (BitVec.ofNat 32 j) := by
  show (512#32 + BitVec.ofNat 32 i) - BitVec.ofNat 32 q = BitVec.ofNat 32 s - BitVec.ofNat 32 j
  have e : BitVec.ofNat 32 s + BitVec.ofNat 32 q = 512#32 + BitVec.ofNat 32 i + BitVec.ofNat 32 j := by
    rw [← BitVec.ofNat_add, ← BitVec.ofNat_add, ← BitVec.ofNat_add, h]
  exact (sub_eq_sub_iff_add_eq_add.2 e).symm

end Cert.KernelIdeal.Attn
-- ==== Proof.AttnA.Scores.lean ====
/-
  Masked attention written once over plain arrays: the score of a query row against a key row, with minus infinity
  outside the nine chunks a query sees, and the gate.
-/
module

public import proofs.«01_k».proof.Proof.AttnA.Words
public import Idealize.ShloMosaic.PureOps.Ideal

@[expose] public section

noncomputable section

namespace Cert.KernelIdeal.Attn

open Idealize.ShloMosaic

/-- An array of 16 batches of 2048 rows of 512 lanes. -/
abbrev Rows := (⟨3, ![16, 2048, 512]⟩ : Shape).Idx → EReal
/-- The table of relative-position biases. -/
abbrev Table := (⟨2, ![8, 257]⟩ : Shape).Idx → EReal

/-- The score scale. -/
def sc : EReal := Ideal.ofBits .f32 1040187392#32

/-- The gate of one element. -/
def silu (g : EReal) : EReal := Ideal.div g (1 + Ideal.exp (-g))

theorem ofBits_ninf : Ideal.ofBits .f32 4286578688#32 = (⊥ : EReal) := by
  simp [Ideal.ofBits, Ideal.ieee]

/-- The scale is one eighth. -/
theorem sc_eq : sc = (((1 / 8 : ℝ)) : EReal) := by
  unfold sc
  simp [Ideal.ofBits, Ideal.ieee]
  rw [← EReal.coe_mul]
  norm_num

/-- Lane `x` of the head that lane `l` belongs to. -/
def headLane (l : Fin 512) (x : Fin 64) : Fin 512 := ⟨l.val / 64 * 64 + x.val, by omega⟩

/-- Key row `j` is seen from query row `s`. -/
def Seen (s j : ℕ) : Prop := j / 64 ≤ s / 64 ∧ s / 64 ≤ j / 64 + 8

instance (s j : ℕ) : Decidable (Seen s j) := by unfold Seen; infer_instance

/-- The score of query row `s` against key row `j`, for the head of lane `l`. -/
def score (Q K : Rows) (T : Table) (b : Fin 16) (s : Fin 2048) (l : Fin 512) (j : Fin 2048) : EReal :=
  if Seen s.val j.val then
    (∑ x : Fin 64, Q (ix3 b s (headLane l x)) * K (ix3 b j (headLane l x))) * sc
      + T (ix2 ⟨l.val / 64, by omega⟩ (colOf (IntOp.subi (BitVec.ofNat 32 s.val) (BitVec.ofNat 32 j.val))))
  else ⊥

/-- One element of the attention's gated result. -/
def attnVal (Q K Vv G : Rows) (T : Table) (b : Fin 16) (s : Fin 2048) (l : Fin 512) : EReal :=
  (∑ j : Fin 2048, Vv (ix3 b j l) *
      Ideal.div (Ideal.exp (score Q K T b s l j - Finset.univ.fold max ⊥ (score Q K T b s l)))
        (∑ j : Fin 2048, Ideal.exp (score Q K T b s l j - Finset.univ.fold max ⊥ (score Q K T b s l))))
    * silu (G (ix3 b s l))

theorem one_add_exp_ne_zero (x : EReal) : 1 + Ideal.exp x ≠ 0 := by
  have h : 0 ≤ Ideal.exp x := by
    induction x with
    | bot => exact le_refl _
    | top => exact le_top
    | coe r => exact EReal.coe_nonneg.mpr (Real.exp_pos r).le
  have h1 : (1 : EReal) ≤ 1 + Ideal.exp x := le_add_of_nonneg_right h
  intro h0
  rw [h0] at h1
  exact absurd h1 (by norm_num)

/-- The gate written as a product. -/
theorem mul_sigmoid (g : EReal) : g * Ideal.div 1 (1 + Ideal.exp (-g)) = silu g := by
  unfold silu Ideal.div
  rw [if_neg (one_add_exp_ne_zero _), if_neg (one_add_exp_ne_zero _), one_mul]

end Cert.KernelIdeal.Attn
-- ==== Proof.AttnA.Band.lean ====
/-
  A row of softmax whose scores are minus infinity outside a window: summed over the window alone, with weights 2^(x/ln 2)
  and one division at the end, it equals the row over all keys with weights e^x, each divided first.
-/
module

public import Idealize.ShloMosaic.PureOps.Ideal
public import Idealize.ShloMosaic.Lib.Pointwise

@[expose] public section

noncomputable section

namespace Cert.KernelIdeal.Attn

open Idealize.ShloMosaic

/-- The factor between base-two and natural exponents. -/
def κ2 : EReal := (((Real.log 2)⁻¹ : ℝ) : EReal)

theorem log2_pos : 0 < Real.log 2 := Real.log_pos (by norm_num)

/-- A score is minus infinity or real; its natural weight against the real maximum `μ`. -/
def wgt (μ : ℝ) (x : EReal) : ℝ := if x = ⊥ then 0 else Real.exp (x.toReal - μ)

theorem wgt_nonneg (μ : ℝ) (x : EReal) : 0 ≤ wgt μ x := by
  unfold wgt; split
  · exact le_rfl
  · exact (Real.exp_pos _).le

theorem exp_wgt (μ : ℝ) (x : EReal) (hx : x ≠ ⊤) : Ideal.exp (x - (μ : EReal)) = ((wgt μ x : ℝ) : EReal) := by
  unfold wgt
  induction x using EReal.rec with
  | bot => rw [if_pos rfl, EReal.bot_sub]; rfl
  | top => exact absurd rfl hx
  | coe r =>
    rw [if_neg (EReal.coe_ne_bot r), EReal.toReal_coe, ← EReal.coe_sub]
    rfl

theorem exp2_wgt (μ : ℝ) (x : EReal) (hx : x ≠ ⊤) :
    Ideal.exp2 (x * κ2 - (μ : EReal) * κ2) = ((wgt μ x : ℝ) : EReal) := by
  unfold wgt κ2
  have hp : 0 < (Real.log 2)⁻¹ := inv_pos.2 log2_pos
  induction x using EReal.rec with
  | bot =>
    rw [EReal.bot_mul_coe_of_pos hp, ← EReal.coe_mul, EReal.bot_sub, if_pos rfl]
    rfl
  | top => exact absurd rfl hx
  | coe r =>
    rw [if_neg (EReal.coe_ne_bot r), EReal.toReal_coe, ← EReal.coe_mul, ← EReal.coe_mul, ← EReal.coe_sub]
    show ((Real.rpow 2 _ : ℝ) : EReal) = _
    congr 1
    show (2 : ℝ) ^ (r * (Real.log 2)⁻¹ - μ * (Real.log 2)⁻¹) = _
    rw [Real.rpow_def_of_pos (by norm_num)]
    congr 1
    field_simp [log2_pos.ne']

/-- The largest entry of a row, as a real number, when no entry is plus infinity and some entry is real. -/
theorem fold_max_real {ι : Type} [Fintype ι] (L : ι → EReal) (ht : ∀ j, L j ≠ ⊤) (j0 : ι) (h0 : L j0 ≠ ⊥) :
    ∃ μ : ℝ, Finset.univ.fold max ⊥ L = (μ : EReal) ∧ ∃ j, L j = (μ : EReal) := by
  have e : Finset.univ.fold max ⊥ L = Finset.univ.sup L := rfl
  obtain ⟨j, -, hj⟩ := Finset.exists_mem_eq_sup (Finset.univ : Finset ι) ⟨j0, Finset.mem_univ _⟩ L
  have hb : L j ≠ ⊥ := by
    intro hb
    have : L j0 ≤ Finset.univ.sup L := Finset.le_sup (Finset.mem_univ _)
    rw [hj, hb] at this
    exact h0 (le_bot_iff.1 this)
  refine ⟨(L j).toReal, ?_, j, ?_⟩
  · rw [e, hj, EReal.coe_toReal (ht j) hb]
  · rw [EReal.coe_toReal (ht j) hb]

/-- Scaling by a positive real keeps the maximum. -/
theorem fold_max_scale {ι : Type} [Fintype ι] (L : ι → EReal) :
    Finset.univ.fold max ⊥ (fun j => L j * κ2) = Finset.univ.fold max ⊥ L * κ2 := by
  have hp : (0:EReal) ≤ κ2 := by
    unfold κ2; exact_mod_cast (inv_pos.2 log2_pos).le
  have hm : Monotone fun x : EReal => x * κ2 := fun a b h => mul_le_mul_of_nonneg_right h hp
  have hb : (⊥ : EReal) * κ2 = ⊥ := EReal.bot_mul_coe_of_pos (inv_pos.2 log2_pos)
  have := Finset.fold_hom (op := max) (op' := max) (m := fun x : EReal => x * κ2) (b := (⊥ : EReal)) (s := Finset.univ)
    (f := L) (fun x y => hm.map_max)
  rw [← this]
  show _ = _
  simp only [hb]

theorem coe_sum {ι : Type} [Fintype ι] (f : ι → ℝ) : ∑ j, ((f j : ℝ) : EReal) = ((∑ j, f j : ℝ) : EReal) := by
  induction (Finset.univ : Finset ι) using Finset.cons_induction with
  | empty => simp
  | cons a s h ih => rw [Finset.sum_cons, Finset.sum_cons, ih, EReal.coe_add]

/-- A positive real factor moves into a sum. -/
theorem sum_mul_pos {ι : Type} [Fintype ι] (f : ι → EReal) (r : ℝ) (hr : 0 ≤ r) :
    (∑ j, f j) * (r : EReal) = ∑ j, f j * (r : EReal) := by
  induction (Finset.univ : Finset ι) using Finset.cons_induction with
  | empty => simp
  | cons a s h ih =>
    rw [Finset.sum_cons, Finset.sum_cons, ← ih]
    exact EReal.right_distrib_of_nonneg_of_ne_top (by exact_mod_cast hr) (EReal.coe_ne_top r) _ _

/-- The banded row equals the whole row. -/
theorem band_softmax {ι J : Type} [Fintype ι] [Fintype J] (e : ι → J) (he : Function.Injective e) (L : J → EReal) (v : J → EReal)
    (ht : ∀ j, L j ≠ ⊤) (hoff : ∀ j, (∀ c, e c ≠ j) → L j = ⊥) (c0 : ι) (h0 : L (e c0) ≠ ⊥) :
    Ideal.div (∑ c, Ideal.exp2 (L (e c) * κ2 - Finset.univ.fold max ⊥ (fun c => L (e c) * κ2)) * v (e c))
        (∑ c, Ideal.exp2 (L (e c) * κ2 - Finset.univ.fold max ⊥ (fun c => L (e c) * κ2)))
      = ∑ j, v j * Ideal.div (Ideal.exp (L j - Finset.univ.fold max ⊥ L)) (∑ j, Ideal.exp (L j - Finset.univ.fold max ⊥ L)) := by
  have hM : Finset.univ.fold max ⊥ (fun c => L (e c)) = Finset.univ.fold max ⊥ L := by
    show Finset.univ.sup (fun c => L (e c)) = Finset.univ.sup L
    apply le_antisymm
    · exact Finset.sup_le fun c _ => Finset.le_sup (f := L) (Finset.mem_univ (e c))
    · refine Finset.sup_le fun j _ => ?_
      by_cases h : ∃ c, e c = j
      · obtain ⟨c, rfl⟩ := h
        exact Finset.le_sup (f := fun c => L (e c)) (Finset.mem_univ c)
      · rw [hoff j (fun c hc => h ⟨c, hc⟩)]; exact bot_le
  obtain ⟨μ, hμ, jm, hjm⟩ := fold_max_real L ht (e c0) h0
  rw [fold_max_scale, hM, hμ]
  simp only [fun c => exp2_wgt μ (L (e c)) (ht _), fun j => exp_wgt μ (L j) (ht j), coe_sum]
  have hz : ∀ j, j ∉ Set.range e → wgt μ (L j) = 0 := fun j hj => by
    rw [hoff j (fun c hc => hj ⟨c, hc⟩)]; simp [wgt]
  have hD : (∑ c, wgt μ (L (e c))) = ∑ j, wgt μ (L j) :=
    Fintype.sum_of_injective e he _ _ hz (fun _ => rfl)
  have hN : (∑ c, ((wgt μ (L (e c)) : ℝ) : EReal) * v (e c)) = ∑ j, ((wgt μ (L j) : ℝ) : EReal) * v j :=
    Fintype.sum_of_injective e he _ _ (fun j hj => by rw [hz j hj]; simp) (fun _ => rfl)
  have hpos : 0 < ∑ j, wgt μ (L j) := by
    have h1 : wgt μ (L jm) = 1 := by rw [hjm]; simp [wgt]
    have h2 := Finset.single_le_sum (f := fun j => wgt μ (L j)) (fun j _ => wgt_nonneg μ (L j)) (Finset.mem_univ jm)
    simp only [h1] at h2
    linarith
  rw [hD, hN]
  generalize (∑ j, wgt μ (L j)) = D at hpos
  have hd : ∀ x : EReal, Ideal.div x (D : EReal) = x * ((D⁻¹ : ℝ) : EReal) := fun x => by
    unfold Ideal.div
    rw [if_neg (by exact_mod_cast hpos.ne'), ← EReal.coe_inv]
  simp only [hd]
  rw [sum_mul_pos _ _ (inv_pos.2 hpos).le]
  refine Finset.sum_congr rfl fun j _ => ?_
  rw [mul_comm (((wgt μ (L j) : ℝ) : EReal)) (v j), mul_assoc]

end Cert.KernelIdeal.Attn
-- ==== Proof.AttnA.Finite.lean ====
/-
  The precondition read back: where it is all ones, the queries, the keys and the table hold real numbers, so every
  score of a seen key is a real number.
-/
module

public import proofs.«01_k».proof.Defs
public import proofs.«01_k».proof.Proof.AttnA.Scores
public import proofs.«01_k».proof.Proof.AttnA.Band
public import Idealize.ShloMosaic.Lib.ReduceAll
public import Idealize.ShloMosaic.Lib.Affine

@[expose] public section

noncomputable section

namespace Cert.Pre_finite

open Idealize.ShloMosaic

/-- The side conditions the precondition's operations state. -/
instance facts : Facts where
  bcast_S_S16x2048x512 := by decide
  reducesTo_S16x2048x512_S_d0_1_2 := by decide
  h_S_ := by decide
  bcast_S_S8x257 := by decide
  reducesTo_S8x257_S_d0_1 := by decide

theorem lt_top_of_cmp {x : EReal} (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => exact ⟨r, rfl⟩

instance : Subsingleton S_.Idx := ⟨fun a b => funext fun i => i.elim0⟩

/-- The precondition says that these three arrays hold real numbers. -/
theorem real_of_fn (a0 a1 a2 a3 : FVec Ideal S16x2048x512 .f32) (a4 : FVec Ideal S8x257 .f32)
    (h : fn (F := Ideal) a0 a1 a2 a3 a4 = fun _ => 1#1) :
    (∀ i, ∃ r : ℝ, (a0 i : EReal) = r) ∧ (∀ i, ∃ r : ℝ, (a1 i : EReal) = r) ∧ (∀ i, ∃ r : ℝ, (a4 i : EReal) = r) := by
  have h0 := congrFun h ix0
  unfold fn at h0
  obtain ⟨h01, h4⟩ := IntOp.andi_eq_one.1 h0
  obtain ⟨h0, h1⟩ := IntOp.andi_eq_one.1 h01
  exact ⟨fun i => lt_top_of_cmp (Host.reduce_andi_all _ _ _ _ ix0 h0 i),
    fun i => lt_top_of_cmp (Host.reduce_andi_all _ _ _ _ ix0 h1 i),
    fun i => lt_top_of_cmp (Host.reduce_andi_all _ _ _ _ ix0 h4 i)⟩

end Cert.Pre_finite

namespace Cert.KernelIdeal.Attn

open Idealize.ShloMosaic

/-- With real queries, keys and table, the score of a seen key is a real number. -/
theorem score_real (Q K : Rows) (T : Table) (hQ : ∀ i, ∃ r : ℝ, Q i = r) (hK : ∀ i, ∃ r : ℝ, K i = r) (hT : ∀ i, ∃ r : ℝ, T i = r)
    (b : Fin 16) (s : Fin 2048) (l : Fin 512) (j : Fin 2048) (h : Seen s.val j.val) : ∃ r : ℝ, score Q K T b s l j = r := by
  choose q hq using hQ
  choose k hk using hK
  choose t ht using hT
  unfold score
  rw [if_pos h]
  simp only [hq, hk, ht, sc_eq, ← EReal.coe_mul]
  rw [coe_sum, ← EReal.coe_mul, ← EReal.coe_add]
  exact ⟨_, rfl⟩

theorem score_ne_top (Q K : Rows) (T : Table) (hQ : ∀ i, ∃ r : ℝ, Q i = r) (hK : ∀ i, ∃ r : ℝ, K i = r) (hT : ∀ i, ∃ r : ℝ, T i = r)
    (b : Fin 16) (s : Fin 2048) (l : Fin 512) (j : Fin 2048) : score Q K T b s l j ≠ ⊤ := by
  by_cases h : Seen s.val j.val
  · obtain ⟨r, e⟩ := score_real Q K T hQ hK hT b s l j h
    rw [e]
    exact EReal.coe_ne_top r
  · unfold score
    rw [if_neg h]
    exact bot_ne_top

theorem score_self_ne_bot (Q K : Rows) (T : Table) (hQ : ∀ i, ∃ r : ℝ, Q i = r) (hK : ∀ i, ∃ r : ℝ, K i = r) (hT : ∀ i, ∃ r : ℝ, T i = r)
    (b : Fin 16) (s : Fin 2048) (l : Fin 512) : score Q K T b s l s ≠ ⊥ := by
  obtain ⟨r, e⟩ := score_real Q K T hQ hK hT b s l s (by unfold Seen; omega)
  rw [e]
  exact EReal.coe_ne_bot r

end Cert.KernelIdeal.Attn
-- ==== Proof.AttnA.Spec.lean ====
/-
  What one block's run of the attention kernel holds, index by index, over the reals: the scaled scores of a query
  block, their softmax weights (not yet divided), and the gated output rows; and the printed payloads read at an index
  as these functions, one lemma per width of the key window.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import Idealize.ShloMosaic.Lib.WholeRead

@[expose] public section

noncomputable section

namespace Cert.KernelIdeal.Attn

open Cert.KernelIdeal Cert.KernelIdeal.Gen
open Idealize.ShloMosaic

/-- Row `r` of a `[1, 2048, 128]` block. -/
def row3 (x : Vec Ideal S1x2048x128 .bf16) (r : ℕ) (d : Fin 128) : EReal := if h : r < 2048 then x (ix3 0 ⟨r, h⟩ d) else 0
/-- Column `c` of the bias block. -/
def row2 (b : Vec Ideal S256x640 .f32) (r : Fin 256) (c : ℕ) : EReal := if h : c < 640 then b (ix2 r ⟨c, h⟩) else 0

/-- The number of keys query block `m` looks at. -/
def Wd (m : ℕ) : ℕ := min (m + 1) 5 * 128
/-- The first of these keys. -/
def K0 (m : ℕ) : ℕ := (m - 4) * 128
/-- The bias column of the first of these keys. -/
def B0 (m : ℕ) : ℕ := (4 - m) * 128

/-- Entry `(r, d)` of the stacked queries: rows below 128 keep the first head's 64 lanes, the others the second head's. -/
def qmask (r : Fin 256) (d : Fin 128) (q : EReal) : EReal := if (r.val < 128 ↔ d.val < 64) then q else 0

/-- The scaled score of stacked row `r` of query block `m` against its key `c`. -/
def sval (x0 x1 : Vec Ideal S1x2048x128 .bf16) (x4 : Vec Ideal S256x640 .f32) (m : ℕ) (r : Fin 256) (c : ℕ) : EReal :=
  (∑ d : Fin 128, qmask r d (row3 x0 (m * 128 + r.val % 128) d) * row3 x1 (K0 m + c) d + row2 x4 r (B0 m + c))
    * (((Real.log 2)⁻¹ : ℝ) : EReal)

/-- The largest scaled score of the row. -/
def smax (x0 x1 : Vec Ideal S1x2048x128 .bf16) (x4 : Vec Ideal S256x640 .f32) (m : ℕ) (r : Fin 256) : EReal :=
  Finset.univ.fold max ⊥ fun c : Fin (Wd m) => sval x0 x1 x4 m r c.val

/-- The undivided softmax weight. -/
def pval (x0 x1 : Vec Ideal S1x2048x128 .bf16) (x4 : Vec Ideal S256x640 .f32) (m : ℕ) (r : Fin 256) (c : ℕ) : EReal :=
  Ideal.exp2 (sval x0 x1 x4 m r c - smax x0 x1 x4 m r)

/-- The attention output of stacked row `r`, lane `d`. -/
def nval (x0 x1 x2 : Vec Ideal S1x2048x128 .bf16) (x4 : Vec Ideal S256x640 .f32) (m : ℕ) (r : Fin 256) (d : Fin 128) : EReal :=
  Ideal.div (∑ c : Fin (Wd m), pval x0 x1 x4 m r c.val * row3 x2 (K0 m + c.val) d) (∑ c : Fin (Wd m), pval x0 x1 x4 m r c.val)

/-- The gated output at row `i` of query block `m`, lane `d`. -/
def oval (x0 x1 x2 x3 : Vec Ideal S1x2048x128 .bf16) (x4 : Vec Ideal S256x640 .f32) (m : ℕ) (i d : Fin 128) : EReal :=
  (if d.val < 64 then nval x0 x1 x2 x4 m ⟨i.val, by omega⟩ d else nval x0 x1 x2 x4 m ⟨128 + i.val, by omega⟩ d)
    * row3 x3 (m * 128 + i.val) d

/-- Slot `σ` of the score scratch holds block `m`'s scaled scores. -/
def HS (x0 x1 : Vec Ideal S1x2048x128 .bf16) (x4 : Vec Ideal S256x640 .f32) (X : S2x256x640.Idx → EReal) (σ : Fin 2) (m : ℕ) : Prop :=
  ∀ (r : Fin 256) (c : Fin 640), c.val < Wd m → X (ix3 σ r c) = sval x0 x1 x4 m r c.val
/-- Slot `σ` of the weight scratch holds block `m`'s weights. -/
def HP (x0 x1 : Vec Ideal S1x2048x128 .bf16) (x4 : Vec Ideal S256x640 .f32) (X : S2x256x640.Idx → EReal) (σ : Fin 2) (m : ℕ) : Prop :=
  ∀ (r : Fin 256) (c : Fin 640), c.val < Wd m → X (ix3 σ r c) = pval x0 x1 x4 m r c.val
/-- The first `m` query blocks of the output are done. -/
def HO (x0 x1 x2 x3 : Vec Ideal S1x2048x128 .bf16) (x4 : Vec Ideal S256x640 .f32) (X : S1x2048x128.Idx → EReal) (m : ℕ) : Prop :=
  ∀ (n : ℕ) (hn : n < m) (i d : Fin 128) (h : n * 128 + i.val < 2048),
    X (ix3 0 ⟨n * 128 + i.val, h⟩ d) = oval x0 x1 x2 x3 x4 n i d

theorem low_at (i d : Fin 128) : k0_pay27 (ix2 i d) = if d.val < 64 then 1#1 else 0#1 := by
  pointwise [k0_pay27]
  have h := d.isLt
  have : (BitVec.ofNat 32 d.val).toInt = d.val := by
    rw [BitVec.toInt_eq_toNat_of_lt] <;> simp [BitVec.toNat_ofNat] <;> omega
  by_cases hd : d.val < 64 <;> simp [IntOp.cmpi, BitVec.slt, this, hd]

theorem ofBits_neg_inf : Ideal.ofBits .f32 0xFF800000#32 = (⊥ : EReal) := by
  simp [Ideal.ofBits, Ideal.ieee]

theorem select_one {V : Type} (a b : V) : Scalar.select 1#1 a b = a := rfl
theorem select_zero {V : Type} (a b : V) : Scalar.select 0#1 a b = b := rfl
theorem xor_one_one : IntOp.xori 1#1 1#1 = 0#1 := rfl
theorem xor_zero_one : IntOp.xori 0#1 1#1 = 1#1 := rfl

/-- The two halves of the stacked queries, as one masked entry. -/
theorem qstack (q : Vec Ideal S1x128x128 .bf16) (r : Fin 256) (d : Fin 128) :
    (if h : r.val < 128 then Scalar.select (k0_pay27 (ix2 ⟨r.val, h⟩ d)) (q (ix3 0 ⟨r.val, h⟩ d)) (0 : EReal)
      else Scalar.select (IntOp.xori (k0_pay27 (ix2 (n0 := 128) ⟨r.val - 128, by omega⟩ d)) 1#1)
        (q (ix3 0 ⟨r.val - 128, by omega⟩ d)) 0)
      = qmask r d (q (ix3 0 ⟨r.val % 128, Nat.mod_lt _ (by decide)⟩ d)) := by
  unfold qmask
  have hr := r.isLt
  by_cases h : r.val < 128
  · have e : r.val % 128 = r.val := Nat.mod_eq_of_lt h
    by_cases hd : d.val < 64 <;> simp [h, hd, low_at, select_one, select_zero, e]
  · have e : r.val % 128 = r.val - 128 := by omega
    by_cases hd : d.val < 64 <;> simp [h, hd, low_at, select_one, select_zero, xor_one_one, xor_zero_one, e]

/-- A load of `W` rows of a block held whole. -/
theorem load_rows (M : Memref sig .tc .vmem S1x2048x128 .bf16) (h : M.IsWhole) (x : Vec Ideal S1x2048x128 .bf16)
    {W : ℕ} {off : Fin 3 → ℕ} (k : ℕ) (hoff : off = ![0, k, 0]) (inb : ∀ a, off a + (⟨3, ![1, W, 128]⟩ : Shape).size a ≤ S1x2048x128.size a)
    (c : Fin W) (d : Fin 128) :
    M.view.readAt (Elt Ideal) (Rect.unit (s := S1x2048x128) off (⟨3, ![1, W, 128]⟩ : Shape).size inb).toLoadRect (h.unread x) (ix3 0 c d)
      = row3 x (k + c.val) d := by
  subst hoff
  have hc : k + c.val < 2048 := by
    have := inb 1
    have h1 : k + W ≤ 2048 := this
    have := c.isLt; omega
  refine (h.readAt_unread x _ _).trans ?_
  rw [row3, dif_pos hc]
  refine congrArg x (funext fun a => Fin.ext ?_)
  match a with
  | ⟨0, _⟩ => rfl
  | ⟨1, _⟩ => show k + 1 * c.val = k + c.val; omega
  | ⟨2, _⟩ => show 0 + 1 * d.val = d.val; omega

/-- A load of `W` columns of the bias block. -/
theorem load_bias (M : Memref sig .tc .vmem S256x640 .f32) (h : M.IsWhole) (x : Vec Ideal S256x640 .f32)
    {W : ℕ} {off : Fin 2 → ℕ} (b : ℕ) (hoff : off = ![0, b]) (inb : ∀ a, off a + (⟨2, ![256, W]⟩ : Shape).size a ≤ S256x640.size a)
    (r : Fin 256) (c : Fin W) :
    M.view.readAt (Elt Ideal) (Rect.unit (s := S256x640) off (⟨2, ![256, W]⟩ : Shape).size inb).toLoadRect (h.unread x) (ix2 r c)
      = row2 x r (b + c.val) := by
  subst hoff
  have hc : b + c.val < 640 := by
    have := inb 1
    have h1 : b + W ≤ 640 := this
    have := c.isLt; omega
  refine (h.readAt_unread x _ _).trans ?_
  rw [row2, dif_pos hc]
  refine congrArg x (funext fun a => Fin.ext ?_)
  match a with
  | ⟨0, _⟩ => show 0 + 1 * r.val = r.val; omega
  | ⟨1, _⟩ => show b + 1 * c.val = b + c.val; omega

/-- A load of a slot's first `W` columns of the weight scratch. -/
theorem load_slot (M : Memref sig .tc .vmem S2x256x640 .bf16) (f : M.view.ty.Contents (Elt Ideal))
    {W : ℕ} (hW : W ≤ 640) {off : Fin 3 → ℕ} (σ : Fin 2) (hoff : off = ![σ.val, 0, 0])
    (inb : ∀ a, off a + (⟨3, ![1, 256, W]⟩ : Shape).size a ≤ S2x256x640.size a) (r : Fin 256) (c : Fin W) :
    M.view.readAt (Elt Ideal) (Rect.unit (s := S2x256x640) off (⟨3, ![1, 256, W]⟩ : Shape).size inb).toLoadRect f (ix3 0 r c)
      = M.view.read (Elt Ideal) f (ix3 σ r ⟨c.val, by omega⟩) := by
  subst hoff
  refine congrArg (M.view.read (Elt Ideal) f) (funext fun a => Fin.ext ?_)
  match a with
  | ⟨0, _⟩ => rfl
  | ⟨1, _⟩ => show 0 + 1 * r.val = r.val; omega
  | ⟨2, _⟩ => show 0 + 1 * c.val = c.val; omega

/-- A load of 32 rows and `W` columns through a slot of the score scratch. -/
theorem load_strip (M : Memref sig .tc .vmem S2x256x640 .f32) (f : M.view.ty.Contents (Elt Ideal))
    {W : ℕ} (hW : W ≤ 640) (σ : Fin 2) (r0 : ℕ) (hr0 : r0 + 32 ≤ 256)
    (inb0 : ∀ a, (![σ.val, 0, 0] : Fin 3 → ℕ) a + S1x256x640.size a ≤ S2x256x640.size a)
    (inb : ∀ a, (![r0, 0] : Fin 2 → ℕ) a + (⟨2, ![32, W]⟩ : Shape).size a ≤ S256x640.size a) {h0 hs h1 hR}
    (i : Fin 32) (c : Fin W) :
    (LoadRect.valAlong (lr := (Rect.unit (s := S256x640) ![r0, 0] (⟨2, ![32, W]⟩ : Shape).size inb).toLoadRect) hR
      (M.view.readAt (Elt Ideal) ((Rect.unit (s := S2x256x640) ![σ.val, 0, 0] S1x256x640.size inb0).withinL
        ((Rect.unit (s := S256x640) ![r0, 0] (⟨2, ![32, W]⟩ : Shape).size inb).toLoadRect.consLift ![1, 256, 640] h0 hs) h1) f)) (ix2 i c)
      = M.view.read (Elt Ideal) f (ix3 σ ⟨r0 + i.val, by omega⟩ ⟨c.val, by omega⟩) := by
  have hx : Shape.reshapeEquiv hR (ix2 i c) = Fin.cons ⟨0, Nat.one_pos⟩ (ix2 i c) :=
    Shape.reshapeEquiv_cons_one (d := (⟨2, ![32, W]⟩ : Shape).size) _ _
  show M.view.readAt _ _ _ (Shape.reshapeEquiv hR (ix2 i c)) = _
  rw [hx]
  refine congrArg (M.view.read (Elt Ideal) f) (funext fun a => Fin.ext ?_)
  match a with
  | ⟨0, _⟩ => show σ.val + 0 + 1 * 0 = σ.val; omega
  | ⟨1, _⟩ => show 0 + r0 + 1 * i.val = r0 + i.val; omega
  | ⟨2, _⟩ => show 0 + 0 + 1 * c.val = c.val; omega

/-! ### Windows of 128 keys -/

theorem qk_at128 (q : Vec Ideal S1x128x128 .bf16) (k : Vec Ideal S1x128x128 .bf16) (b : Vec Ideal S256x128 .f32)
    (r : Fin 256) (c : Fin 128) :
    k0_pay28 (F := Ideal) q k b (ix3 0 r c)
      = (∑ d : Fin 128, qmask r d (q (ix3 0 ⟨r.val % 128, Nat.mod_lt _ (by decide)⟩ d)) * k (ix3 0 c d)
          + b (ix2 r c)) * (((Real.log 2)⁻¹ : ℝ) : EReal) := by
  simp only [← qstack]
  pointwise [k0_pay28, k0_pay40, k0_pay39]
  rfl

theorem sm_at128 (v : Vec Ideal S32x128 .f32) (i : Fin 32) (j : Fin 128) :
    k0_pay31 (F := Ideal) v (ix3 0 i j) = Ideal.exp2 (v (ix2 i j) - Finset.univ.fold max ⊥ fun c : Fin 128 => v (ix2 i c)) := by
  pointwise [k0_pay31]
  rw [ofBits_neg_inf]
  rfl

theorem pv_at128 (v : Vec Ideal S1x128x128 .bf16) (p : Vec Ideal S1x256x128 .bf16) (g : Vec Ideal S1x128x128 .bf16)
    (i d : Fin 128) :
    k0_pay41 (F := Ideal) k0_pay27 v p g (ix3 0 i d)
      = (if d.val < 64 then
          Ideal.div (∑ c : Fin 128, p (ix3 0 ⟨i.val, by omega⟩ c) * v (ix3 0 c d)) (∑ c : Fin 128, p (ix3 0 ⟨i.val, by omega⟩ c))
        else Ideal.div (∑ c : Fin 128, p (ix3 0 ⟨128 + i.val, by omega⟩ c) * v (ix3 0 c d)) (∑ c : Fin 128, p (ix3 0 ⟨128 + i.val, by omega⟩ c)))
        * g (ix3 0 i d) := by
  pointwise [k0_pay41, k0_pay66, k0_pay79, k0_pay80]
  rw [low_at]
  split <;> rfl

/-! ### Windows of 256 keys -/

theorem qk_at256 (q : Vec Ideal S1x128x128 .bf16) (k : Vec Ideal S1x256x128 .bf16) (b : Vec Ideal S256x256 .f32)
    (r : Fin 256) (c : Fin 256) :
    (k0_pay40 (F := Ideal) (k0_pay39 k0_pay27 q k b)) (ix3 0 r c)
      = (∑ d : Fin 128, qmask r d (q (ix3 0 ⟨r.val % 128, Nat.mod_lt _ (by decide)⟩ d)) * k (ix3 0 c d)
          + b (ix2 r c)) * (((Real.log 2)⁻¹ : ℝ) : EReal) := by
  simp only [← qstack]
  pointwise [k0_pay40, k0_pay39]
  rfl

theorem sm_at256 (v : Vec Ideal S32x256 .f32) (i : Fin 32) (j : Fin 256) :
    k0_pay44 (F := Ideal) v (ix3 0 i j) = Ideal.exp2 (v (ix2 i j) - Finset.univ.fold max ⊥ fun c : Fin 256 => v (ix2 i c)) := by
  pointwise [k0_pay44]
  rw [ofBits_neg_inf]
  rfl

theorem pv_at256 (v : Vec Ideal S1x256x128 .bf16) (p : Vec Ideal S1x256x256 .bf16) (g : Vec Ideal S1x128x128 .bf16)
    (i d : Fin 128) :
    k0_pay54 (F := Ideal) k0_pay27 v p g (ix3 0 i d)
      = (if d.val < 64 then
          Ideal.div (∑ c : Fin 256, p (ix3 0 ⟨i.val, by omega⟩ c) * v (ix3 0 c d)) (∑ c : Fin 256, p (ix3 0 ⟨i.val, by omega⟩ c))
        else Ideal.div (∑ c : Fin 256, p (ix3 0 ⟨128 + i.val, by omega⟩ c) * v (ix3 0 c d)) (∑ c : Fin 256, p (ix3 0 ⟨128 + i.val, by omega⟩ c)))
        * g (ix3 0 i d) := by
  pointwise [k0_pay54, k0_pay66, k0_pay79, k0_pay80]
  rw [low_at]
  split <;> rfl

/-! ### Windows of 384 keys -/

theorem qk_at384 (q : Vec Ideal S1x128x128 .bf16) (k : Vec Ideal S1x384x128 .bf16) (b : Vec Ideal S256x384 .f32)
    (r : Fin 256) (c : Fin 384) :
    k0_pay53 (F := Ideal) k0_pay27 q k b (ix3 0 r c)
      = (∑ d : Fin 128, qmask r d (q (ix3 0 ⟨r.val % 128, Nat.mod_lt _ (by decide)⟩ d)) * k (ix3 0 c d)
          + b (ix2 r c)) * (((Real.log 2)⁻¹ : ℝ) : EReal) := by
  simp only [← qstack]
  pointwise [k0_pay53, k0_pay40, k0_pay39]
  rfl

theorem sm_at384 (v : Vec Ideal S32x384 .f32) (i : Fin 32) (j : Fin 384) :
    k0_pay57 (F := Ideal) v (ix3 0 i j) = Ideal.exp2 (v (ix2 i j) - Finset.univ.fold max ⊥ fun c : Fin 384 => v (ix2 i c)) := by
  pointwise [k0_pay57]
  rw [ofBits_neg_inf]
  rfl

theorem pv_at384 (v : Vec Ideal S1x384x128 .bf16) (p : Vec Ideal S1x256x384 .bf16) (g : Vec Ideal S1x128x128 .bf16)
    (i d : Fin 128) :
    k0_pay67 (F := Ideal) k0_pay27 (k0_pay66 v) p g (ix3 0 i d)
      = (if d.val < 64 then
          Ideal.div (∑ c : Fin 384, p (ix3 0 ⟨i.val, by omega⟩ c) * v (ix3 0 c d)) (∑ c : Fin 384, p (ix3 0 ⟨i.val, by omega⟩ c))
        else Ideal.div (∑ c : Fin 384, p (ix3 0 ⟨128 + i.val, by omega⟩ c) * v (ix3 0 c d)) (∑ c : Fin 384, p (ix3 0 ⟨128 + i.val, by omega⟩ c)))
        * g (ix3 0 i d) := by
  pointwise [k0_pay67, k0_pay66, k0_pay79, k0_pay80]
  rw [low_at]
  split <;> rfl

/-! ### Windows of 512 keys -/

theorem qk_at512 (q : Vec Ideal S1x128x128 .bf16) (k : Vec Ideal S1x512x128 .bf16) (b : Vec Ideal S256x512 .f32)
    (r : Fin 256) (c : Fin 512) :
    k0_pay65 (F := Ideal) k0_pay27 q k b (ix3 0 r c)
      = (∑ d : Fin 128, qmask r d (q (ix3 0 ⟨r.val % 128, Nat.mod_lt _ (by decide)⟩ d)) * k (ix3 0 c d)
          + b (ix2 r c)) * (((Real.log 2)⁻¹ : ℝ) : EReal) := by
  simp only [← qstack]
  pointwise [k0_pay65, k0_pay40, k0_pay39]
  rfl

theorem sm_at512 (v : Vec Ideal S32x512 .f32) (i : Fin 32) (j : Fin 512) :
    k0_pay68 (F := Ideal) v (ix3 0 i j) = Ideal.exp2 (v (ix2 i j) - Finset.univ.fold max ⊥ fun c : Fin 512 => v (ix2 i c)) := by
  pointwise [k0_pay68]
  rw [ofBits_neg_inf]
  rfl

theorem pv_at512 (v : Vec Ideal S1x512x128 .bf16) (p : Vec Ideal S1x256x512 .bf16) (g : Vec Ideal S1x128x128 .bf16)
    (i d : Fin 128) :
    k0_pay81 (F := Ideal) k0_pay27 (k0_pay79 p) (k0_pay80 v) g (ix3 0 i d)
      = (if d.val < 64 then
          Ideal.div (∑ c : Fin 512, p (ix3 0 ⟨i.val, by omega⟩ c) * v (ix3 0 c d)) (∑ c : Fin 512, p (ix3 0 ⟨i.val, by omega⟩ c))
        else Ideal.div (∑ c : Fin 512, p (ix3 0 ⟨128 + i.val, by omega⟩ c) * v (ix3 0 c d)) (∑ c : Fin 512, p (ix3 0 ⟨128 + i.val, by omega⟩ c)))
        * g (ix3 0 i d) := by
  pointwise [k0_pay81, k0_pay66, k0_pay79, k0_pay80]
  rw [low_at]
  split <;> rfl

/-! ### Windows of 640 keys -/

theorem qk_at640 (q : Vec Ideal S1x128x128 .bf16) (k : Vec Ideal S1x640x128 .bf16) (b : Vec Ideal S256x640 .f32)
    (r : Fin 256) (c : Fin 640) :
    k0_pay93 (F := Ideal) k0_pay27 q k b (ix3 0 r c)
      = (∑ d : Fin 128, qmask r d (q (ix3 0 ⟨r.val % 128, Nat.mod_lt _ (by decide)⟩ d)) * k (ix3 0 c d)
          + b (ix2 r c)) * (((Real.log 2)⁻¹ : ℝ) : EReal) := by
  simp only [← qstack]
  pointwise [k0_pay93, k0_pay40, k0_pay39]
  rfl

theorem sm_at640 (v : Vec Ideal S32x640 .f32) (i : Fin 32) (j : Fin 640) :
    k0_pay3 (F := Ideal) v (ix3 0 i j) = Ideal.exp2 (v (ix2 i j) - Finset.univ.fold max ⊥ fun c : Fin 640 => v (ix2 i c)) := by
  pointwise [k0_pay3]
  rw [ofBits_neg_inf]
  rfl

theorem pv_at640 (v : Vec Ideal S1x640x128 .bf16) (p : Vec Ideal S1x256x640 .bf16) (g : Vec Ideal S1x128x128 .bf16)
    (i d : Fin 128) :
    k0_pay2 (F := Ideal) k0_pay27 v p g (ix3 0 i d)
      = (if d.val < 64 then
          Ideal.div (∑ c : Fin 640, p (ix3 0 ⟨i.val, by omega⟩ c) * v (ix3 0 c d)) (∑ c : Fin 640, p (ix3 0 ⟨i.val, by omega⟩ c))
        else Ideal.div (∑ c : Fin 640, p (ix3 0 ⟨128 + i.val, by omega⟩ c) * v (ix3 0 c d)) (∑ c : Fin 640, p (ix3 0 ⟨128 + i.val, by omega⟩ c)))
        * g (ix3 0 i d) := by
  pointwise [k0_pay2, k0_pay66, k0_pay79, k0_pay80]
  rw [low_at]
  split <;> rfl

end Cert.KernelIdeal.Attn

end
-- ==== Proof.AttnA.Stages.lean ====
/-
  One stage of the attention kernel's software pipeline at a time: what a stage stores, in terms of the functions of
  `Spec`, when what it loads is what the stages before it stored.
-/
module

public import proofs.«01_k».proof.Proof.AttnA.Spec

@[expose] public section

noncomputable section

namespace Cert.KernelIdeal.Attn

open Cert.KernelIdeal Cert.KernelIdeal.Gen
open Idealize.ShloMosaic

variable {x0 x1 x2 x3 : Vec Ideal S1x2048x128 .bf16} {x4 : Vec Ideal S256x640 .f32}

/-- Eight strips of 32 rows make up a slot: an entry of the slot reads the strip its row lies in. -/
theorem strips_read (M : Memref sig .tc .vmem S2x256x640 .bf16) (f : M.view.ty.Contents (Elt Ideal)) {W : ℕ} (σ : Fin 2)
    (G : Fin 256 → ℕ → EReal)
    {i0 i1 i2 i3 i4 i5 i6 i7}
    (w0 w1 w2 w3 w4 w5 w6 w7 : (⟨3, ![1, 32, W]⟩ : Shape).Idx → EReal)
    (e0 : ∀ (i : Fin 32) (j : Fin W), w0 (ix3 0 i j) = G ⟨0 + i.val, by omega⟩ j.val)
    (e1 : ∀ (i : Fin 32) (j : Fin W), w1 (ix3 0 i j) = G ⟨32 + i.val, by omega⟩ j.val)
    (e2 : ∀ (i : Fin 32) (j : Fin W), w2 (ix3 0 i j) = G ⟨64 + i.val, by omega⟩ j.val)
    (e3 : ∀ (i : Fin 32) (j : Fin W), w3 (ix3 0 i j) = G ⟨96 + i.val, by omega⟩ j.val)
    (e4 : ∀ (i : Fin 32) (j : Fin W), w4 (ix3 0 i j) = G ⟨128 + i.val, by omega⟩ j.val)
    (e5 : ∀ (i : Fin 32) (j : Fin W), w5 (ix3 0 i j) = G ⟨160 + i.val, by omega⟩ j.val)
    (e6 : ∀ (i : Fin 32) (j : Fin W), w6 (ix3 0 i j) = G ⟨192 + i.val, by omega⟩ j.val)
    (e7 : ∀ (i : Fin 32) (j : Fin W), w7 (ix3 0 i j) = G ⟨224 + i.val, by omega⟩ j.val)
    (r : Fin 256) (c : Fin 640) (hc : c.val < W) :
    M.view.read (Elt Ideal) (M.view.writes (Elt Ideal) f [
      (⟨Rect.unit (s := S2x256x640) ![σ.val, 224, 0] (⟨3, ![1, 32, W]⟩ : Shape).size i7, w7⟩ : View.Piece (Elt Ideal) S2x256x640 .bf16),
      (⟨Rect.unit (s := S2x256x640) ![σ.val, 192, 0] (⟨3, ![1, 32, W]⟩ : Shape).size i6, w6⟩ : View.Piece (Elt Ideal) S2x256x640 .bf16),
      (⟨Rect.unit (s := S2x256x640) ![σ.val, 160, 0] (⟨3, ![1, 32, W]⟩ : Shape).size i5, w5⟩ : View.Piece (Elt Ideal) S2x256x640 .bf16),
      (⟨Rect.unit (s := S2x256x640) ![σ.val, 128, 0] (⟨3, ![1, 32, W]⟩ : Shape).size i4, w4⟩ : View.Piece (Elt Ideal) S2x256x640 .bf16),
      (⟨Rect.unit (s := S2x256x640) ![σ.val, 96, 0] (⟨3, ![1, 32, W]⟩ : Shape).size i3, w3⟩ : View.Piece (Elt Ideal) S2x256x640 .bf16),
      (⟨Rect.unit (s := S2x256x640) ![σ.val, 64, 0] (⟨3, ![1, 32, W]⟩ : Shape).size i2, w2⟩ : View.Piece (Elt Ideal) S2x256x640 .bf16),
      (⟨Rect.unit (s := S2x256x640) ![σ.val, 32, 0] (⟨3, ![1, 32, W]⟩ : Shape).size i1, w1⟩ : View.Piece (Elt Ideal) S2x256x640 .bf16),
      (⟨Rect.unit (s := S2x256x640) ![σ.val, 0, 0] (⟨3, ![1, 32, W]⟩ : Shape).size i0, w0⟩ : View.Piece (Elt Ideal) S2x256x640 .bf16)
      ]) (ix3 σ r c) = G r c.val := by
  have hr := r.isLt
  by_cases h7 : 224 ≤ r.val
  · refine (View.read_writes_cons_unit_of_mem M.view f _ w7 _ (ix3 σ r c) (ix3 0 ⟨r.val - 224, by omega⟩ ⟨c.val, hc⟩) rfl fun a => ?_).trans ?_
    · match a with
      | ⟨0, _⟩ => show σ.val = σ.val + 0; omega
      | ⟨1, _⟩ => show r.val = 224 + (r.val - 224); omega
      | ⟨2, _⟩ => show c.val = 0 + c.val; omega
    · refine (e7 _ _).trans (congrArg (fun r => G r c.val) (Fin.ext ?_))
      show 224 + (r.val - 224) = r.val; omega
  refine (View.read_writes_cons_unit_of_not_mem M.view f _ w7 _ (ix3 σ r c) rfl 1 (.inl ?_)).trans ?_
  · show r.val < 224; omega
  by_cases h6 : 192 ≤ r.val
  · refine (View.read_writes_cons_unit_of_mem M.view f _ w6 _ (ix3 σ r c) (ix3 0 ⟨r.val - 192, by omega⟩ ⟨c.val, hc⟩) rfl fun a => ?_).trans ?_
    · match a with
      | ⟨0, _⟩ => show σ.val = σ.val + 0; omega
      | ⟨1, _⟩ => show r.val = 192 + (r.val - 192); omega
      | ⟨2, _⟩ => show c.val = 0 + c.val; omega
    · refine (e6 _ _).trans (congrArg (fun r => G r c.val) (Fin.ext ?_))
      show 192 + (r.val - 192) = r.val; omega
  refine (View.read_writes_cons_unit_of_not_mem M.view f _ w6 _ (ix3 σ r c) rfl 1 (.inl ?_)).trans ?_
  · show r.val < 192; omega
  by_cases h5 : 160 ≤ r.val
  · refine (View.read_writes_cons_unit_of_mem M.view f _ w5 _ (ix3 σ r c) (ix3 0 ⟨r.val - 160, by omega⟩ ⟨c.val, hc⟩) rfl fun a => ?_).trans ?_
    · match a with
      | ⟨0, _⟩ => show σ.val = σ.val + 0; omega
      | ⟨1, _⟩ => show r.val = 160 + (r.val - 160); omega
      | ⟨2, _⟩ => show c.val = 0 + c.val; omega
    · refine (e5 _ _).trans (congrArg (fun r => G r c.val) (Fin.ext ?_))
      show 160 + (r.val - 160) = r.val; omega
  refine (View.read_writes_cons_unit_of_not_mem M.view f _ w5 _ (ix3 σ r c) rfl 1 (.inl ?_)).trans ?_
  · show r.val < 160; omega
  by_cases h4 : 128 ≤ r.val
  · refine (View.read_writes_cons_unit_of_mem M.view f _ w4 _ (ix3 σ r c) (ix3 0 ⟨r.val - 128, by omega⟩ ⟨c.val, hc⟩) rfl fun a => ?_).trans ?_
    · match a with
      | ⟨0, _⟩ => show σ.val = σ.val + 0; omega
      | ⟨1, _⟩ => show r.val = 128 + (r.val - 128); omega
      | ⟨2, _⟩ => show c.val = 0 + c.val; omega
    · refine (e4 _ _).trans (congrArg (fun r => G r c.val) (Fin.ext ?_))
      show 128 + (r.val - 128) = r.val; omega
  refine (View.read_writes_cons_unit_of_not_mem M.view f _ w4 _ (ix3 σ r c) rfl 1 (.inl ?_)).trans ?_
  · show r.val < 128; omega
  by_cases h3 : 96 ≤ r.val
  · refine (View.read_writes_cons_unit_of_mem M.view f _ w3 _ (ix3 σ r c) (ix3 0 ⟨r.val - 96, by omega⟩ ⟨c.val, hc⟩) rfl fun a => ?_).trans ?_
    · match a with
      | ⟨0, _⟩ => show σ.val = σ.val + 0; omega
      | ⟨1, _⟩ => show r.val = 96 + (r.val - 96); omega
      | ⟨2, _⟩ => show c.val = 0 + c.val; omega
    · refine (e3 _ _).trans (congrArg (fun r => G r c.val) (Fin.ext ?_))
      show 96 + (r.val - 96) = r.val; omega
  refine (View.read_writes_cons_unit_of_not_mem M.view f _ w3 _ (ix3 σ r c) rfl 1 (.inl ?_)).trans ?_
  · show r.val < 96; omega
  by_cases h2 : 64 ≤ r.val
  · refine (View.read_writes_cons_unit_of_mem M.view f _ w2 _ (ix3 σ r c) (ix3 0 ⟨r.val - 64, by omega⟩ ⟨c.val, hc⟩) rfl fun a => ?_).trans ?_
    · match a with
      | ⟨0, _⟩ => show σ.val = σ.val + 0; omega
      | ⟨1, _⟩ => show r.val = 64 + (r.val - 64); omega
      | ⟨2, _⟩ => show c.val = 0 + c.val; omega
    · refine (e2 _ _).trans (congrArg (fun r => G r c.val) (Fin.ext ?_))
      show 64 + (r.val - 64) = r.val; omega
  refine (View.read_writes_cons_unit_of_not_mem M.view f _ w2 _ (ix3 σ r c) rfl 1 (.inl ?_)).trans ?_
  · show r.val < 64; omega
  by_cases h1 : 32 ≤ r.val
  · refine (View.read_writes_cons_unit_of_mem M.view f _ w1 _ (ix3 σ r c) (ix3 0 ⟨r.val - 32, by omega⟩ ⟨c.val, hc⟩) rfl fun a => ?_).trans ?_
    · match a with
      | ⟨0, _⟩ => show σ.val = σ.val + 0; omega
      | ⟨1, _⟩ => show r.val = 32 + (r.val - 32); omega
      | ⟨2, _⟩ => show c.val = 0 + c.val; omega
    · refine (e1 _ _).trans (congrArg (fun r => G r c.val) (Fin.ext ?_))
      show 32 + (r.val - 32) = r.val; omega
  refine (View.read_writes_cons_unit_of_not_mem M.view f _ w1 _ (ix3 σ r c) rfl 1 (.inl ?_)).trans ?_
  · show r.val < 32; omega
  refine (View.read_writes_cons_unit_of_mem M.view f _ w0 _ (ix3 σ r c) (ix3 0 ⟨r.val, by omega⟩ ⟨c.val, hc⟩) rfl fun a => ?_).trans ?_
  · match a with
    | ⟨0, _⟩ => show σ.val = σ.val + 0; omega
    | ⟨1, _⟩ => show r.val = 0 + r.val; omega
    | ⟨2, _⟩ => show c.val = 0 + c.val; omega
  · refine (e0 _ _).trans (congrArg (fun r => G r c.val) (Fin.ext ?_))
    show 0 + r.val = r.val; omega

/-- A row strip's weights, from its scores. -/
theorem pval_of {W m : ℕ} (hW : Wd m = W) (v : Fin W → EReal) (r : Fin 256) (hv : ∀ j : Fin W, v j = sval x0 x1 x4 m r j.val) (j : Fin W) :
    Ideal.exp2 (v j - Finset.univ.fold max ⊥ fun c : Fin W => v c) = pval x0 x1 x4 m r j.val := by
  subst hW
  rw [pval, smax, hv j, show v = fun c => sval x0 x1 x4 m r c.val from funext hv]

/-- An output row's attention value, from its weights and values. -/
theorem nval_of {W m : ℕ} (hW : Wd m = W) (p v : Fin W → EReal) (r : Fin 256) (d : Fin 128)
    (hp : ∀ c : Fin W, p c = pval x0 x1 x4 m r c.val) (hv : ∀ c : Fin W, v c = row3 x2 (K0 m + c.val) d) :
    Ideal.div (∑ c : Fin W, p c * v c) (∑ c : Fin W, p c) = nval x0 x1 x2 x4 m r d := by
  subst hW
  rw [nval, show p = fun c => pval x0 x1 x4 m r c.val from funext hp, show v = fun c => row3 x2 (K0 m + c.val) d from funext hv]

/-- A store of a query block's output rows adds that block to those done. -/
theorem HO_store (M : Memref sig .tc .vmem S1x2048x128 .bf16) (f : M.view.ty.Contents (Elt Ideal)) {m : ℕ}
    (hf : HO x0 x1 x2 x3 x4 (M.view.read (Elt Ideal) f) m) {off : Fin 3 → ℕ} (hoff : off = ![0, m * 128, 0]) {inb}
    (w : S1x128x128.Idx → EReal) (hw : ∀ i d : Fin 128, w (ix3 0 i d) = oval x0 x1 x2 x3 x4 m i d) :
    HO x0 x1 x2 x3 x4 (M.view.read (Elt Ideal) (M.view.writes (Elt Ideal) f
      [(⟨Rect.unit (s := S1x2048x128) off S1x128x128.size inb, w⟩ : View.Piece (Elt Ideal) S1x2048x128 .bf16)])) (m + 1) := by
  intro n hn i d h
  rcases Nat.lt_or_eq_of_le (Nat.le_of_lt_succ hn) with hn | rfl
  · refine (View.read_writes_cons_unit_of_not_mem M.view f inb w [] _ hoff 1 (.inl ?_)).trans (hf n hn i d h)
    show n * 128 + i.val < m * 128
    have := i.isLt; omega
  · refine (View.read_writes_cons_unit_of_mem M.view f inb w [] _ (ix3 0 i d) hoff fun a => ?_).trans (hw i d)
    match a with
    | ⟨0, _⟩ => rfl
    | ⟨1, _⟩ => rfl
    | ⟨2, _⟩ => show d.val = 0 + d.val; omega

/-! ### Windows of 128 keys -/

/-- The scores' store. -/
theorem qk_store128 (M : Memref sig .tc .vmem S2x256x640 .f32) (f : M.view.ty.Contents (Elt Ideal)) {m : ℕ} (hW : Wd m = 128)
    (σ : Fin 2) {off : Fin 3 → ℕ} (hoff : off = ![σ.val, 0, 0]) {inb}
    (q : Vec Ideal S1x128x128 .bf16) (k : Vec Ideal S1x128x128 .bf16) (b : Vec Ideal S256x128 .f32)
    (hq : ∀ i d : Fin 128, q (ix3 0 i d) = row3 x0 (m * 128 + i.val) d)
    (hk : ∀ (c : Fin 128) (d : Fin 128), k (ix3 0 c d) = row3 x1 (K0 m + c.val) d)
    (hb : ∀ (r : Fin 256) (c : Fin 128), b (ix2 r c) = row2 x4 r (B0 m + c.val)) :
    HS x0 x1 x4 (M.view.read (Elt Ideal) (M.view.writes (Elt Ideal) f
      [(⟨Rect.unit (s := S2x256x640) off S1x256x128.size inb, k0_pay28 (F := Ideal) q k b⟩ : View.Piece (Elt Ideal) S2x256x640 .f32)])) σ m := by
  intro r c hc
  rw [hW] at hc
  refine (View.read_writes_cons_unit_of_mem M.view f inb _ [] _ (ix3 0 r ⟨c.val, hc⟩) hoff fun a => ?_).trans ?_
  · match a with
    | ⟨0, _⟩ => show σ.val = σ.val + 0; omega
    | ⟨1, _⟩ => show r.val = 0 + r.val; omega
    | ⟨2, _⟩ => show c.val = 0 + c.val; omega
  · rw [qk_at128, sval]
    simp only [hq, hk, hb]

/-- The weights' eight stores. -/
theorem sm_store128 (M : Memref sig .tc .vmem S2x256x640 .bf16) (f : M.view.ty.Contents (Elt Ideal)) {m : ℕ} (hW : Wd m = 128)
    (σ : Fin 2) {i0 i1 i2 i3 i4 i5 i6 i7} (v0 v1 v2 v3 v4 v5 v6 v7 : Vec Ideal S32x128 .f32)
    (e0 : ∀ (i : Fin 32) (j : Fin 128), v0 (ix2 i j) = sval x0 x1 x4 m ⟨0 + i.val, by omega⟩ j.val)
    (e1 : ∀ (i : Fin 32) (j : Fin 128), v1 (ix2 i j) = sval x0 x1 x4 m ⟨32 + i.val, by omega⟩ j.val)
    (e2 : ∀ (i : Fin 32) (j : Fin 128), v2 (ix2 i j) = sval x0 x1 x4 m ⟨64 + i.val, by omega⟩ j.val)
    (e3 : ∀ (i : Fin 32) (j : Fin 128), v3 (ix2 i j) = sval x0 x1 x4 m ⟨96 + i.val, by omega⟩ j.val)
    (e4 : ∀ (i : Fin 32) (j : Fin 128), v4 (ix2 i j) = sval x0 x1 x4 m ⟨128 + i.val, by omega⟩ j.val)
    (e5 : ∀ (i : Fin 32) (j : Fin 128), v5 (ix2 i j) = sval x0 x1 x4 m ⟨160 + i.val, by omega⟩ j.val)
    (e6 : ∀ (i : Fin 32) (j : Fin 128), v6 (ix2 i j) = sval x0 x1 x4 m ⟨192 + i.val, by omega⟩ j.val)
    (e7 : ∀ (i : Fin 32) (j : Fin 128), v7 (ix2 i j) = sval x0 x1 x4 m ⟨224 + i.val, by omega⟩ j.val)
    : HP x0 x1 x4 (M.view.read (Elt Ideal) (M.view.writes (Elt Ideal) f [
      (⟨Rect.unit (s := S2x256x640) ![σ.val, 224, 0] S1x32x128.size i7, k0_pay31 (F := Ideal) v7⟩ : View.Piece (Elt Ideal) S2x256x640 .bf16),
      (⟨Rect.unit (s := S2x256x640) ![σ.val, 192, 0] S1x32x128.size i6, k0_pay31 (F := Ideal) v6⟩ : View.Piece (Elt Ideal) S2x256x640 .bf16),
      (⟨Rect.unit (s := S2x256x640) ![σ.val, 160, 0] S1x32x128.size i5, k0_pay31 (F := Ideal) v5⟩ : View.Piece (Elt Ideal) S2x256x640 .bf16),
      (⟨Rect.unit (s := S2x256x640) ![σ.val, 128, 0] S1x32x128.size i4, k0_pay31 (F := Ideal) v4⟩ : View.Piece (Elt Ideal) S2x256x640 .bf16),
      (⟨Rect.unit (s := S2x256x640) ![σ.val, 96, 0] S1x32x128.size i3, k0_pay31 (F := Ideal) v3⟩ : View.Piece (Elt Ideal) S2x256x640 .bf16),
      (⟨Rect.unit (s := S2x256x640) ![σ.val, 64, 0] S1x32x128.size i2, k0_pay31 (F := Ideal) v2⟩ : View.Piece (Elt Ideal) S2x256x640 .bf16),
      (⟨Rect.unit (s := S2x256x640) ![σ.val, 32, 0] S1x32x128.size i1, k0_pay31 (F := Ideal) v1⟩ : View.Piece (Elt Ideal) S2x256x640 .bf16),
      (⟨Rect.unit (s := S2x256x640) ![σ.val, 0, 0] S1x32x128.size i0, k0_pay31 (F := Ideal) v0⟩ : View.Piece (Elt Ideal) S2x256x640 .bf16)
      ])) σ m := by
  intro r c hc
  rw [hW] at hc
  refine strips_read M f σ (pval x0 x1 x4 m) _ _ _ _ _ _ _ _ ?_ ?_ ?_ ?_ ?_ ?_ ?_ ?_ r c hc
  · exact fun i j => (sm_at128 v0 i j).trans (pval_of hW (fun j => v0 (ix2 i j)) _ (e0 i) j)
  · exact fun i j => (sm_at128 v1 i j).trans (pval_of hW (fun j => v1 (ix2 i j)) _ (e1 i) j)
  · exact fun i j => (sm_at128 v2 i j).trans (pval_of hW (fun j => v2 (ix2 i j)) _ (e2 i) j)
  · exact fun i j => (sm_at128 v3 i j).trans (pval_of hW (fun j => v3 (ix2 i j)) _ (e3 i) j)
  · exact fun i j => (sm_at128 v4 i j).trans (pval_of hW (fun j => v4 (ix2 i j)) _ (e4 i) j)
  · exact fun i j => (sm_at128 v5 i j).trans (pval_of hW (fun j => v5 (ix2 i j)) _ (e5 i) j)
  · exact fun i j => (sm_at128 v6 i j).trans (pval_of hW (fun j => v6 (ix2 i j)) _ (e6 i) j)
  · exact fun i j => (sm_at128 v7 i j).trans (pval_of hW (fun j => v7 (ix2 i j)) _ (e7 i) j)

/-- The output rows' store. -/
theorem pv_store128 (M : Memref sig .tc .vmem S1x2048x128 .bf16) (f : M.view.ty.Contents (Elt Ideal)) {m : ℕ} (hW : Wd m = 128)
    (hf : HO x0 x1 x2 x3 x4 (M.view.read (Elt Ideal) f) m) {off : Fin 3 → ℕ} (hoff : off = ![0, m * 128, 0]) {inb}
    (v : Vec Ideal S1x128x128 .bf16) (p : Vec Ideal S1x256x128 .bf16) (g : Vec Ideal S1x128x128 .bf16)
    (hv : ∀ (c : Fin 128) (d : Fin 128), v (ix3 0 c d) = row3 x2 (K0 m + c.val) d)
    (hp : ∀ (r : Fin 256) (c : Fin 128), p (ix3 0 r c) = pval x0 x1 x4 m r c.val)
    (hg : ∀ i d : Fin 128, g (ix3 0 i d) = row3 x3 (m * 128 + i.val) d) :
    HO x0 x1 x2 x3 x4 (M.view.read (Elt Ideal) (M.view.writes (Elt Ideal) f
      [(⟨Rect.unit (s := S1x2048x128) off S1x128x128.size inb, k0_pay41 (F := Ideal) k0_pay27 v p g⟩ : View.Piece (Elt Ideal) S1x2048x128 .bf16)])) (m + 1) := by
  refine HO_store M f hf hoff _ fun i d => ?_
  rw [pv_at128, oval, hg]
  rw [nval_of (x2 := x2) hW (fun c => p (ix3 0 _ c)) (fun c => v (ix3 0 c d)) _ d (hp _) (fun c => hv c d),
    nval_of (x2 := x2) hW (fun c => p (ix3 0 _ c)) (fun c => v (ix3 0 c d)) _ d (hp _) (fun c => hv c d)]

/-! ### Windows of 256 keys -/

/-- The scores' store. -/
theorem qk_store256 (M : Memref sig .tc .vmem S2x256x640 .f32) (f : M.view.ty.Contents (Elt Ideal)) {m : ℕ} (hW : Wd m = 256)
    (σ : Fin 2) {off : Fin 3 → ℕ} (hoff : off = ![σ.val, 0, 0]) {inb}
    (q : Vec Ideal S1x128x128 .bf16) (k : Vec Ideal S1x256x128 .bf16) (b : Vec Ideal S256x256 .f32)
    (hq : ∀ i d : Fin 128, q (ix3 0 i d) = row3 x0 (m * 128 + i.val) d)
    (hk : ∀ (c : Fin 256) (d : Fin 128), k (ix3 0 c d) = row3 x1 (K0 m + c.val) d)
    (hb : ∀ (r : Fin 256) (c : Fin 256), b (ix2 r c) = row2 x4 r (B0 m + c.val)) :
    HS x0 x1 x4 (M.view.read (Elt Ideal) (M.view.writes (Elt Ideal) f
      [(⟨Rect.unit (s := S2x256x640) off S1x256x256.size inb, k0_pay40 (F := Ideal) (k0_pay39 k0_pay27 q k b)⟩ : View.Piece (Elt Ideal) S2x256x640 .f32)])) σ m := by
  intro r c hc
  rw [hW] at hc
  refine (View.read_writes_cons_unit_of_mem M.view f inb _ [] _ (ix3 0 r ⟨c.val, hc⟩) hoff fun a => ?_).trans ?_
  · match a with
    | ⟨0, _⟩ => show σ.val = σ.val + 0; omega
    | ⟨1, _⟩ => show r.val = 0 + r.val; omega
    | ⟨2, _⟩ => show c.val = 0 + c.val; omega
  · rw [qk_at256, sval]
    simp only [hq, hk, hb]

/-- The weights' eight stores. -/
theorem sm_store256 (M : Memref sig .tc .vmem S2x256x640 .bf16) (f : M.view.ty.Contents (Elt Ideal)) {m : ℕ} (hW : Wd m = 256)
    (σ : Fin 2) {i0 i1 i2 i3 i4 i5 i6 i7} (v0 v1 v2 v3 v4 v5 v6 v7 : Vec Ideal S32x256 .f32)
    (e0 : ∀ (i : Fin 32) (j : Fin 256), v0 (ix2 i j) = sval x0 x1 x4 m ⟨0 + i.val, by omega⟩ j.val)
    (e1 : ∀ (i : Fin 32) (j : Fin 256), v1 (ix2 i j) = sval x0 x1 x4 m ⟨32 + i.val, by omega⟩ j.val)
    (e2 : ∀ (i : Fin 32) (j : Fin 256), v2 (ix2 i j) = sval x0 x1 x4 m ⟨64 + i.val, by omega⟩ j.val)
    (e3 : ∀ (i : Fin 32) (j : Fin 256), v3 (ix2 i j) = sval x0 x1 x4 m ⟨96 + i.val, by omega⟩ j.val)
    (e4 : ∀ (i : Fin 32) (j : Fin 256), v4 (ix2 i j) = sval x0 x1 x4 m ⟨128 + i.val, by omega⟩ j.val)
    (e5 : ∀ (i : Fin 32) (j : Fin 256), v5 (ix2 i j) = sval x0 x1 x4 m ⟨160 + i.val, by omega⟩ j.val)
    (e6 : ∀ (i : Fin 32) (j : Fin 256), v6 (ix2 i j) = sval x0 x1 x4 m ⟨192 + i.val, by omega⟩ j.val)
    (e7 : ∀ (i : Fin 32) (j : Fin 256), v7 (ix2 i j) = sval x0 x1 x4 m ⟨224 + i.val, by omega⟩ j.val)
    : HP x0 x1 x4 (M.view.read (Elt Ideal) (M.view.writes (Elt Ideal) f [
      (⟨Rect.unit (s := S2x256x640) ![σ.val, 224, 0] S1x32x256.size i7, k0_pay44 (F := Ideal) v7⟩ : View.Piece (Elt Ideal) S2x256x640 .bf16),
      (⟨Rect.unit (s := S2x256x640) ![σ.val, 192, 0] S1x32x256.size i6, k0_pay44 (F := Ideal) v6⟩ : View.Piece (Elt Ideal) S2x256x640 .bf16),
      (⟨Rect.unit (s := S2x256x640) ![σ.val, 160, 0] S1x32x256.size i5, k0_pay44 (F := Ideal) v5⟩ : View.Piece (Elt Ideal) S2x256x640 .bf16),
      (⟨Rect.unit (s := S2x256x640) ![σ.val, 128, 0] S1x32x256.size i4, k0_pay44 (F := Ideal) v4⟩ : View.Piece (Elt Ideal) S2x256x640 .bf16),
      (⟨Rect.unit (s := S2x256x640) ![σ.val, 96, 0] S1x32x256.size i3, k0_pay44 (F := Ideal) v3⟩ : View.Piece (Elt Ideal) S2x256x640 .bf16),
      (⟨Rect.unit (s := S2x256x640) ![σ.val, 64, 0] S1x32x256.size i2, k0_pay44 (F := Ideal) v2⟩ : View.Piece (Elt Ideal) S2x256x640 .bf16),
      (⟨Rect.unit (s := S2x256x640) ![σ.val, 32, 0] S1x32x256.size i1, k0_pay44 (F := Ideal) v1⟩ : View.Piece (Elt Ideal) S2x256x640 .bf16),
      (⟨Rect.unit (s := S2x256x640) ![σ.val, 0, 0] S1x32x256.size i0, k0_pay44 (F := Ideal) v0⟩ : View.Piece (Elt Ideal) S2x256x640 .bf16)
      ])) σ m := by
  intro r c hc
  rw [hW] at hc
  refine strips_read M f σ (pval x0 x1 x4 m) _ _ _ _ _ _ _ _ ?_ ?_ ?_ ?_ ?_ ?_ ?_ ?_ r c hc
  · exact fun i j => (sm_at256 v0 i j).trans (pval_of hW (fun j => v0 (ix2 i j)) _ (e0 i) j)
  · exact fun i j => (sm_at256 v1 i j).trans (pval_of hW (fun j => v1 (ix2 i j)) _ (e1 i) j)
  · exact fun i j => (sm_at256 v2 i j).trans (pval_of hW (fun j => v2 (ix2 i j)) _ (e2 i) j)
  · exact fun i j => (sm_at256 v3 i j).trans (pval_of hW (fun j => v3 (ix2 i j)) _ (e3 i) j)
  · exact fun i j => (sm_at256 v4 i j).trans (pval_of hW (fun j => v4 (ix2 i j)) _ (e4 i) j)
  · exact fun i j => (sm_at256 v5 i j).trans (pval_of hW (fun j => v5 (ix2 i j)) _ (e5 i) j)
  · exact fun i j => (sm_at256 v6 i j).trans (pval_of hW (fun j => v6 (ix2 i j)) _ (e6 i) j)
  · exact fun i j => (sm_at256 v7 i j).trans (pval_of hW (fun j => v7 (ix2 i j)) _ (e7 i) j)

/-- The output rows' store. -/
theorem pv_store256 (M : Memref sig .tc .vmem S1x2048x128 .bf16) (f : M.view.ty.Contents (Elt Ideal)) {m : ℕ} (hW : Wd m = 256)
    (hf : HO x0 x1 x2 x3 x4 (M.view.read (Elt Ideal) f) m) {off : Fin 3 → ℕ} (hoff : off = ![0, m * 128, 0]) {inb}
    (v : Vec Ideal S1x256x128 .bf16) (p : Vec Ideal S1x256x256 .bf16) (g : Vec Ideal S1x128x128 .bf16)
    (hv : ∀ (c : Fin 256) (d : Fin 128), v (ix3 0 c d) = row3 x2 (K0 m + c.val) d)
    (hp : ∀ (r : Fin 256) (c : Fin 256), p (ix3 0 r c) = pval x0 x1 x4 m r c.val)
    (hg : ∀ i d : Fin 128, g (ix3 0 i d) = row3 x3 (m * 128 + i.val) d) :
    HO x0 x1 x2 x3 x4 (M.view.read (Elt Ideal) (M.view.writes (Elt Ideal) f
      [(⟨Rect.unit (s := S1x2048x128) off S1x128x128.size inb, k0_pay54 (F := Ideal) k0_pay27 v p g⟩ : View.Piece (Elt Ideal) S1x2048x128 .bf16)])) (m + 1) := by
  refine HO_store M f hf hoff _ fun i d => ?_
  rw [pv_at256, oval, hg]
  rw [nval_of (x2 := x2) hW (fun c => p (ix3 0 _ c)) (fun c => v (ix3 0 c d)) _ d (hp _) (fun c => hv c d),
    nval_of (x2 := x2) hW (fun c => p (ix3 0 _ c)) (fun c => v (ix3 0 c d)) _ d (hp _) (fun c => hv c d)]

/-! ### Windows of 384 keys -/

/-- The scores' store. -/
theorem qk_store384 (M : Memref sig .tc .vmem S2x256x640 .f32) (f : M.view.ty.Contents (Elt Ideal)) {m : ℕ} (hW : Wd m = 384)
    (σ : Fin 2) {off : Fin 3 → ℕ} (hoff : off = ![σ.val, 0, 0]) {inb}
    (q : Vec Ideal S1x128x128 .bf16) (k : Vec Ideal S1x384x128 .bf16) (b : Vec Ideal S256x384 .f32)
    (hq : ∀ i d : Fin 128, q (ix3 0 i d) = row3 x0 (m * 128 + i.val) d)
    (hk : ∀ (c : Fin 384) (d : Fin 128), k (ix3 0 c d) = row3 x1 (K0 m + c.val) d)
    (hb : ∀ (r : Fin 256) (c : Fin 384), b (ix2 r c) = row2 x4 r (B0 m + c.val)) :
    HS x0 x1 x4 (M.view.read (Elt Ideal) (M.view.writes (Elt Ideal) f
      [(⟨Rect.unit (s := S2x256x640) off S1x256x384.size inb, k0_pay53 (F := Ideal) k0_pay27 q k b⟩ : View.Piece (Elt Ideal) S2x256x640 .f32)])) σ m := by
  intro r c hc
  rw [hW] at hc
  refine (View.read_writes_cons_unit_of_mem M.view f inb _ [] _ (ix3 0 r ⟨c.val, hc⟩) hoff fun a => ?_).trans ?_
  · match a with
    | ⟨0, _⟩ => show σ.val = σ.val + 0; omega
    | ⟨1, _⟩ => show r.val = 0 + r.val; omega
    | ⟨2, _⟩ => show c.val = 0 + c.val; omega
  · rw [qk_at384, sval]
    simp only [hq, hk, hb]

/-- The weights' eight stores. -/
theorem sm_store384 (M : Memref sig .tc .vmem S2x256x640 .bf16) (f : M.view.ty.Contents (Elt Ideal)) {m : ℕ} (hW : Wd m = 384)
    (σ : Fin 2) {i0 i1 i2 i3 i4 i5 i6 i7} (v0 v1 v2 v3 v4 v5 v6 v7 : Vec Ideal S32x384 .f32)
    (e0 : ∀ (i : Fin 32) (j : Fin 384), v0 (ix2 i j) = sval x0 x1 x4 m ⟨0 + i.val, by omega⟩ j.val)
    (e1 : ∀ (i : Fin 32) (j : Fin 384), v1 (ix2 i j) = sval x0 x1 x4 m ⟨32 + i.val, by omega⟩ j.val)
    (e2 : ∀ (i : Fin 32) (j : Fin 384), v2 (ix2 i j) = sval x0 x1 x4 m ⟨64 + i.val, by omega⟩ j.val)
    (e3 : ∀ (i : Fin 32) (j : Fin 384), v3 (ix2 i j) = sval x0 x1 x4 m ⟨96 + i.val, by omega⟩ j.val)
    (e4 : ∀ (i : Fin 32) (j : Fin 384), v4 (ix2 i j) = sval x0 x1 x4 m ⟨128 + i.val, by omega⟩ j.val)
    (e5 : ∀ (i : Fin 32) (j : Fin 384), v5 (ix2 i j) = sval x0 x1 x4 m ⟨160 + i.val, by omega⟩ j.val)
    (e6 : ∀ (i : Fin 32) (j : Fin 384), v6 (ix2 i j) = sval x0 x1 x4 m ⟨192 + i.val, by omega⟩ j.val)
    (e7 : ∀ (i : Fin 32) (j : Fin 384), v7 (ix2 i j) = sval x0 x1 x4 m ⟨224 + i.val, by omega⟩ j.val)
    : HP x0 x1 x4 (M.view.read (Elt Ideal) (M.view.writes (Elt Ideal) f [
      (⟨Rect.unit (s := S2x256x640) ![σ.val, 224, 0] S1x32x384.size i7, k0_pay57 (F := Ideal) v7⟩ : View.Piece (Elt Ideal) S2x256x640 .bf16),
      (⟨Rect.unit (s := S2x256x640) ![σ.val, 192, 0] S1x32x384.size i6, k0_pay57 (F := Ideal) v6⟩ : View.Piece (Elt Ideal) S2x256x640 .bf16),
      (⟨Rect.unit (s := S2x256x640) ![σ.val, 160, 0] S1x32x384.size i5, k0_pay57 (F := Ideal) v5⟩ : View.Piece (Elt Ideal) S2x256x640 .bf16),
      (⟨Rect.unit (s := S2x256x640) ![σ.val, 128, 0] S1x32x384.size i4, k0_pay57 (F := Ideal) v4⟩ : View.Piece (Elt Ideal) S2x256x640 .bf16),
      (⟨Rect.unit (s := S2x256x640) ![σ.val, 96, 0] S1x32x384.size i3, k0_pay57 (F := Ideal) v3⟩ : View.Piece (Elt Ideal) S2x256x640 .bf16),
      (⟨Rect.unit (s := S2x256x640) ![σ.val, 64, 0] S1x32x384.size i2, k0_pay57 (F := Ideal) v2⟩ : View.Piece (Elt Ideal) S2x256x640 .bf16),
      (⟨Rect.unit (s := S2x256x640) ![σ.val, 32, 0] S1x32x384.size i1, k0_pay57 (F := Ideal) v1⟩ : View.Piece (Elt Ideal) S2x256x640 .bf16),
      (⟨Rect.unit (s := S2x256x640) ![σ.val, 0, 0] S1x32x384.size i0, k0_pay57 (F := Ideal) v0⟩ : View.Piece (Elt Ideal) S2x256x640 .bf16)
      ])) σ m := by
  intro r c hc
  rw [hW] at hc
  refine strips_read M f σ (pval x0 x1 x4 m) _ _ _ _ _ _ _ _ ?_ ?_ ?_ ?_ ?_ ?_ ?_ ?_ r c hc
  · exact fun i j => (sm_at384 v0 i j).trans (pval_of hW (fun j => v0 (ix2 i j)) _ (e0 i) j)
  · exact fun i j => (sm_at384 v1 i j).trans (pval_of hW (fun j => v1 (ix2 i j)) _ (e1 i) j)
  · exact fun i j => (sm_at384 v2 i j).trans (pval_of hW (fun j => v2 (ix2 i j)) _ (e2 i) j)
  · exact fun i j => (sm_at384 v3 i j).trans (pval_of hW (fun j => v3 (ix2 i j)) _ (e3 i) j)
  · exact fun i j => (sm_at384 v4 i j).trans (pval_of hW (fun j => v4 (ix2 i j)) _ (e4 i) j)
  · exact fun i j => (sm_at384 v5 i j).trans (pval_of hW (fun j => v5 (ix2 i j)) _ (e5 i) j)
  · exact fun i j => (sm_at384 v6 i j).trans (pval_of hW (fun j => v6 (ix2 i j)) _ (e6 i) j)
  · exact fun i j => (sm_at384 v7 i j).trans (pval_of hW (fun j => v7 (ix2 i j)) _ (e7 i) j)

/-- The output rows' store. -/
theorem pv_store384 (M : Memref sig .tc .vmem S1x2048x128 .bf16) (f : M.view.ty.Contents (Elt Ideal)) {m : ℕ} (hW : Wd m = 384)
    (hf : HO x0 x1 x2 x3 x4 (M.view.read (Elt Ideal) f) m) {off : Fin 3 → ℕ} (hoff : off = ![0, m * 128, 0]) {inb}
    (v : Vec Ideal S1x384x128 .bf16) (p : Vec Ideal S1x256x384 .bf16) (g : Vec Ideal S1x128x128 .bf16)
    (hv : ∀ (c : Fin 384) (d : Fin 128), v (ix3 0 c d) = row3 x2 (K0 m + c.val) d)
    (hp : ∀ (r : Fin 256) (c : Fin 384), p (ix3 0 r c) = pval x0 x1 x4 m r c.val)
    (hg : ∀ i d : Fin 128, g (ix3 0 i d) = row3 x3 (m * 128 + i.val) d) :
    HO x0 x1 x2 x3 x4 (M.view.read (Elt Ideal) (M.view.writes (Elt Ideal) f
      [(⟨Rect.unit (s := S1x2048x128) off S1x128x128.size inb, k0_pay67 (F := Ideal) k0_pay27 (k0_pay66 v) p g⟩ : View.Piece (Elt Ideal) S1x2048x128 .bf16)])) (m + 1) := by
  refine HO_store M f hf hoff _ fun i d => ?_
  rw [pv_at384, oval, hg]
  rw [nval_of (x2 := x2) hW (fun c => p (ix3 0 _ c)) (fun c => v (ix3 0 c d)) _ d (hp _) (fun c => hv c d),
    nval_of (x2 := x2) hW (fun c => p (ix3 0 _ c)) (fun c => v (ix3 0 c d)) _ d (hp _) (fun c => hv c d)]

/-! ### Windows of 512 keys -/

/-- The scores' store. -/
theorem qk_store512 (M : Memref sig .tc .vmem S2x256x640 .f32) (f : M.view.ty.Contents (Elt Ideal)) {m : ℕ} (hW : Wd m = 512)
    (σ : Fin 2) {off : Fin 3 → ℕ} (hoff : off = ![σ.val, 0, 0]) {inb}
    (q : Vec Ideal S1x128x128 .bf16) (k : Vec Ideal S1x512x128 .bf16) (b : Vec Ideal S256x512 .f32)
    (hq : ∀ i d : Fin 128, q (ix3 0 i d) = row3 x0 (m * 128 + i.val) d)
    (hk : ∀ (c : Fin 512) (d : Fin 128), k (ix3 0 c d) = row3 x1 (K0 m + c.val) d)
    (hb : ∀ (r : Fin 256) (c : Fin 512), b (ix2 r c) = row2 x4 r (B0 m + c.val)) :
    HS x0 x1 x4 (M.view.read (Elt Ideal) (M.view.writes (Elt Ideal) f
      [(⟨Rect.unit (s := S2x256x640) off S1x256x512.size inb, k0_pay65 (F := Ideal) k0_pay27 q k b⟩ : View.Piece (Elt Ideal) S2x256x640 .f32)])) σ m := by
  intro r c hc
  rw [hW] at hc
  refine (View.read_writes_cons_unit_of_mem M.view f inb _ [] _ (ix3 0 r ⟨c.val, hc⟩) hoff fun a => ?_).trans ?_
  · match a with
    | ⟨0, _⟩ => show σ.val = σ.val + 0; omega
    | ⟨1, _⟩ => show r.val = 0 + r.val; omega
    | ⟨2, _⟩ => show c.val = 0 + c.val; omega
  · rw [qk_at512, sval]
    simp only [hq, hk, hb]

/-- The weights' eight stores. -/
theorem sm_store512 (M : Memref sig .tc .vmem S2x256x640 .bf16) (f : M.view.ty.Contents (Elt Ideal)) {m : ℕ} (hW : Wd m = 512)
    (σ : Fin 2) {i0 i1 i2 i3 i4 i5 i6 i7} (v0 v1 v2 v3 v4 v5 v6 v7 : Vec Ideal S32x512 .f32)
    (e0 : ∀ (i : Fin 32) (j : Fin 512), v0 (ix2 i j) = sval x0 x1 x4 m ⟨0 + i.val, by omega⟩ j.val)
    (e1 : ∀ (i : Fin 32) (j : Fin 512), v1 (ix2 i j) = sval x0 x1 x4 m ⟨32 + i.val, by omega⟩ j.val)
    (e2 : ∀ (i : Fin 32) (j : Fin 512), v2 (ix2 i j) = sval x0 x1 x4 m ⟨64 + i.val, by omega⟩ j.val)
    (e3 : ∀ (i : Fin 32) (j : Fin 512), v3 (ix2 i j) = sval x0 x1 x4 m ⟨96 + i.val, by omega⟩ j.val)
    (e4 : ∀ (i : Fin 32) (j : Fin 512), v4 (ix2 i j) = sval x0 x1 x4 m ⟨128 + i.val, by omega⟩ j.val)
    (e5 : ∀ (i : Fin 32) (j : Fin 512), v5 (ix2 i j) = sval x0 x1 x4 m ⟨160 + i.val, by omega⟩ j.val)
    (e6 : ∀ (i : Fin 32) (j : Fin 512), v6 (ix2 i j) = sval x0 x1 x4 m ⟨192 + i.val, by omega⟩ j.val)
    (e7 : ∀ (i : Fin 32) (j : Fin 512), v7 (ix2 i j) = sval x0 x1 x4 m ⟨224 + i.val, by omega⟩ j.val)
    : HP x0 x1 x4 (M.view.read (Elt Ideal) (M.view.writes (Elt Ideal) f [
      (⟨Rect.unit (s := S2x256x640) ![σ.val, 224, 0] S1x32x512.size i7, k0_pay68 (F := Ideal) v7⟩ : View.Piece (Elt Ideal) S2x256x640 .bf16),
      (⟨Rect.unit (s := S2x256x640) ![σ.val, 192, 0] S1x32x512.size i6, k0_pay68 (F := Ideal) v6⟩ : View.Piece (Elt Ideal) S2x256x640 .bf16),
      (⟨Rect.unit (s := S2x256x640) ![σ.val, 160, 0] S1x32x512.size i5, k0_pay68 (F := Ideal) v5⟩ : View.Piece (Elt Ideal) S2x256x640 .bf16),
      (⟨Rect.unit (s := S2x256x640) ![σ.val, 128, 0] S1x32x512.size i4, k0_pay68 (F := Ideal) v4⟩ : View.Piece (Elt Ideal) S2x256x640 .bf16),
      (⟨Rect.unit (s := S2x256x640) ![σ.val, 96, 0] S1x32x512.size i3, k0_pay68 (F := Ideal) v3⟩ : View.Piece (Elt Ideal) S2x256x640 .bf16),
      (⟨Rect.unit (s := S2x256x640) ![σ.val, 64, 0] S1x32x512.size i2, k0_pay68 (F := Ideal) v2⟩ : View.Piece (Elt Ideal) S2x256x640 .bf16),
      (⟨Rect.unit (s := S2x256x640) ![σ.val, 32, 0] S1x32x512.size i1, k0_pay68 (F := Ideal) v1⟩ : View.Piece (Elt Ideal) S2x256x640 .bf16),
      (⟨Rect.unit (s := S2x256x640) ![σ.val, 0, 0] S1x32x512.size i0, k0_pay68 (F := Ideal) v0⟩ : View.Piece (Elt Ideal) S2x256x640 .bf16)
      ])) σ m := by
  intro r c hc
  rw [hW] at hc
  refine strips_read M f σ (pval x0 x1 x4 m) _ _ _ _ _ _ _ _ ?_ ?_ ?_ ?_ ?_ ?_ ?_ ?_ r c hc
  · exact fun i j => (sm_at512 v0 i j).trans (pval_of hW (fun j => v0 (ix2 i j)) _ (e0 i) j)
  · exact fun i j => (sm_at512 v1 i j).trans (pval_of hW (fun j => v1 (ix2 i j)) _ (e1 i) j)
  · exact fun i j => (sm_at512 v2 i j).trans (pval_of hW (fun j => v2 (ix2 i j)) _ (e2 i) j)
  · exact fun i j => (sm_at512 v3 i j).trans (pval_of hW (fun j => v3 (ix2 i j)) _ (e3 i) j)
  · exact fun i j => (sm_at512 v4 i j).trans (pval_of hW (fun j => v4 (ix2 i j)) _ (e4 i) j)
  · exact fun i j => (sm_at512 v5 i j).trans (pval_of hW (fun j => v5 (ix2 i j)) _ (e5 i) j)
  · exact fun i j => (sm_at512 v6 i j).trans (pval_of hW (fun j => v6 (ix2 i j)) _ (e6 i) j)
  · exact fun i j => (sm_at512 v7 i j).trans (pval_of hW (fun j => v7 (ix2 i j)) _ (e7 i) j)

/-- The output rows' store. -/
theorem pv_store512 (M : Memref sig .tc .vmem S1x2048x128 .bf16) (f : M.view.ty.Contents (Elt Ideal)) {m : ℕ} (hW : Wd m = 512)
    (hf : HO x0 x1 x2 x3 x4 (M.view.read (Elt Ideal) f) m) {off : Fin 3 → ℕ} (hoff : off = ![0, m * 128, 0]) {inb}
    (v : Vec Ideal S1x512x128 .bf16) (p : Vec Ideal S1x256x512 .bf16) (g : Vec Ideal S1x128x128 .bf16)
    (hv : ∀ (c : Fin 512) (d : Fin 128), v (ix3 0 c d) = row3 x2 (K0 m + c.val) d)
    (hp : ∀ (r : Fin 256) (c : Fin 512), p (ix3 0 r c) = pval x0 x1 x4 m r c.val)
    (hg : ∀ i d : Fin 128, g (ix3 0 i d) = row3 x3 (m * 128 + i.val) d) :
    HO x0 x1 x2 x3 x4 (M.view.read (Elt Ideal) (M.view.writes (Elt Ideal) f
      [(⟨Rect.unit (s := S1x2048x128) off S1x128x128.size inb, k0_pay81 (F := Ideal) k0_pay27 (k0_pay79 p) (k0_pay80 v) g⟩ : View.Piece (Elt Ideal) S1x2048x128 .bf16)])) (m + 1) := by
  refine HO_store M f hf hoff _ fun i d => ?_
  rw [pv_at512, oval, hg]
  rw [nval_of (x2 := x2) hW (fun c => p (ix3 0 _ c)) (fun c => v (ix3 0 c d)) _ d (hp _) (fun c => hv c d),
    nval_of (x2 := x2) hW (fun c => p (ix3 0 _ c)) (fun c => v (ix3 0 c d)) _ d (hp _) (fun c => hv c d)]

/-! ### Windows of 640 keys -/

/-- The scores' store. -/
theorem qk_store640 (M : Memref sig .tc .vmem S2x256x640 .f32) (f : M.view.ty.Contents (Elt Ideal)) {m : ℕ} (hW : Wd m = 640)
    (σ : Fin 2) {off : Fin 3 → ℕ} (hoff : off = ![σ.val, 0, 0]) {inb}
    (q : Vec Ideal S1x128x128 .bf16) (k : Vec Ideal S1x640x128 .bf16) (b : Vec Ideal S256x640 .f32)
    (hq : ∀ i d : Fin 128, q (ix3 0 i d) = row3 x0 (m * 128 + i.val) d)
    (hk : ∀ (c : Fin 640) (d : Fin 128), k (ix3 0 c d) = row3 x1 (K0 m + c.val) d)
    (hb : ∀ (r : Fin 256) (c : Fin 640), b (ix2 r c) = row2 x4 r (B0 m + c.val)) :
    HS x0 x1 x4 (M.view.read (Elt Ideal) (M.view.writes (Elt Ideal) f
      [(⟨Rect.unit (s := S2x256x640) off S1x256x640.size inb, k0_pay93 (F := Ideal) k0_pay27 q k b⟩ : View.Piece (Elt Ideal) S2x256x640 .f32)])) σ m := by
  intro r c hc
  rw [hW] at hc
  refine (View.read_writes_cons_unit_of_mem M.view f inb _ [] _ (ix3 0 r ⟨c.val, hc⟩) hoff fun a => ?_).trans ?_
  · match a with
    | ⟨0, _⟩ => show σ.val = σ.val + 0; omega
    | ⟨1, _⟩ => show r.val = 0 + r.val; omega
    | ⟨2, _⟩ => show c.val = 0 + c.val; omega
  · rw [qk_at640, sval]
    simp only [hq, hk, hb]

/-- The weights' eight stores. -/
theorem sm_store640 (M : Memref sig .tc .vmem S2x256x640 .bf16) (f : M.view.ty.Contents (Elt Ideal)) {m : ℕ} (hW : Wd m = 640)
    (σ : Fin 2) {i0 i1 i2 i3 i4 i5 i6 i7} (v0 v1 v2 v3 v4 v5 v6 v7 : Vec Ideal S32x640 .f32)
    (e0 : ∀ (i : Fin 32) (j : Fin 640), v0 (ix2 i j) = sval x0 x1 x4 m ⟨0 + i.val, by omega⟩ j.val)
    (e1 : ∀ (i : Fin 32) (j : Fin 640), v1 (ix2 i j) = sval x0 x1 x4 m ⟨32 + i.val, by omega⟩ j.val)
    (e2 : ∀ (i : Fin 32) (j : Fin 640), v2 (ix2 i j) = sval x0 x1 x4 m ⟨64 + i.val, by omega⟩ j.val)
    (e3 : ∀ (i : Fin 32) (j : Fin 640), v3 (ix2 i j) = sval x0 x1 x4 m ⟨96 + i.val, by omega⟩ j.val)
    (e4 : ∀ (i : Fin 32) (j : Fin 640), v4 (ix2 i j) = sval x0 x1 x4 m ⟨128 + i.val, by omega⟩ j.val)
    (e5 : ∀ (i : Fin 32) (j : Fin 640), v5 (ix2 i j) = sval x0 x1 x4 m ⟨160 + i.val, by omega⟩ j.val)
    (e6 : ∀ (i : Fin 32) (j : Fin 640), v6 (ix2 i j) = sval x0 x1 x4 m ⟨192 + i.val, by omega⟩ j.val)
    (e7 : ∀ (i : Fin 32) (j : Fin 640), v7 (ix2 i j) = sval x0 x1 x4 m ⟨224 + i.val, by omega⟩ j.val)
    : HP x0 x1 x4 (M.view.read (Elt Ideal) (M.view.writes (Elt Ideal) f [
      (⟨Rect.unit (s := S2x256x640) ![σ.val, 224, 0] S1x32x640.size i7, k0_pay3 (F := Ideal) v7⟩ : View.Piece (Elt Ideal) S2x256x640 .bf16),
      (⟨Rect.unit (s := S2x256x640) ![σ.val, 192, 0] S1x32x640.size i6, k0_pay3 (F := Ideal) v6⟩ : View.Piece (Elt Ideal) S2x256x640 .bf16),
      (⟨Rect.unit (s := S2x256x640) ![σ.val, 160, 0] S1x32x640.size i5, k0_pay3 (F := Ideal) v5⟩ : View.Piece (Elt Ideal) S2x256x640 .bf16),
      (⟨Rect.unit (s := S2x256x640) ![σ.val, 128, 0] S1x32x640.size i4, k0_pay3 (F := Ideal) v4⟩ : View.Piece (Elt Ideal) S2x256x640 .bf16),
      (⟨Rect.unit (s := S2x256x640) ![σ.val, 96, 0] S1x32x640.size i3, k0_pay3 (F := Ideal) v3⟩ : View.Piece (Elt Ideal) S2x256x640 .bf16),
      (⟨Rect.unit (s := S2x256x640) ![σ.val, 64, 0] S1x32x640.size i2, k0_pay3 (F := Ideal) v2⟩ : View.Piece (Elt Ideal) S2x256x640 .bf16),
      (⟨Rect.unit (s := S2x256x640) ![σ.val, 32, 0] S1x32x640.size i1, k0_pay3 (F := Ideal) v1⟩ : View.Piece (Elt Ideal) S2x256x640 .bf16),
      (⟨Rect.unit (s := S2x256x640) ![σ.val, 0, 0] S1x32x640.size i0, k0_pay3 (F := Ideal) v0⟩ : View.Piece (Elt Ideal) S2x256x640 .bf16)
      ])) σ m := by
  intro r c hc
  rw [hW] at hc
  refine strips_read M f σ (pval x0 x1 x4 m) _ _ _ _ _ _ _ _ ?_ ?_ ?_ ?_ ?_ ?_ ?_ ?_ r c hc
  · exact fun i j => (sm_at640 v0 i j).trans (pval_of hW (fun j => v0 (ix2 i j)) _ (e0 i) j)
  · exact fun i j => (sm_at640 v1 i j).trans (pval_of hW (fun j => v1 (ix2 i j)) _ (e1 i) j)
  · exact fun i j => (sm_at640 v2 i j).trans (pval_of hW (fun j => v2 (ix2 i j)) _ (e2 i) j)
  · exact fun i j => (sm_at640 v3 i j).trans (pval_of hW (fun j => v3 (ix2 i j)) _ (e3 i) j)
  · exact fun i j => (sm_at640 v4 i j).trans (pval_of hW (fun j => v4 (ix2 i j)) _ (e4 i) j)
  · exact fun i j => (sm_at640 v5 i j).trans (pval_of hW (fun j => v5 (ix2 i j)) _ (e5 i) j)
  · exact fun i j => (sm_at640 v6 i j).trans (pval_of hW (fun j => v6 (ix2 i j)) _ (e6 i) j)
  · exact fun i j => (sm_at640 v7 i j).trans (pval_of hW (fun j => v7 (ix2 i j)) _ (e7 i) j)

/-- The output rows' store. -/
theorem pv_store640 (M : Memref sig .tc .vmem S1x2048x128 .bf16) (f : M.view.ty.Contents (Elt Ideal)) {m : ℕ} (hW : Wd m = 640)
    (hf : HO x0 x1 x2 x3 x4 (M.view.read (Elt Ideal) f) m) {off : Fin 3 → ℕ} (hoff : off = ![0, m * 128, 0]) {inb}
    (v : Vec Ideal S1x640x128 .bf16) (p : Vec Ideal S1x256x640 .bf16) (g : Vec Ideal S1x128x128 .bf16)
    (hv : ∀ (c : Fin 640) (d : Fin 128), v (ix3 0 c d) = row3 x2 (K0 m + c.val) d)
    (hp : ∀ (r : Fin 256) (c : Fin 640), p (ix3 0 r c) = pval x0 x1 x4 m r c.val)
    (hg : ∀ i d : Fin 128, g (ix3 0 i d) = row3 x3 (m * 128 + i.val) d) :
    HO x0 x1 x2 x3 x4 (M.view.read (Elt Ideal) (M.view.writes (Elt Ideal) f
      [(⟨Rect.unit (s := S1x2048x128) off S1x128x128.size inb, k0_pay2 (F := Ideal) k0_pay27 v p g⟩ : View.Piece (Elt Ideal) S1x2048x128 .bf16)])) (m + 1) := by
  refine HO_store M f hf hoff _ fun i d => ?_
  rw [pv_at640, oval, hg]
  rw [nval_of (x2 := x2) hW (fun c => p (ix3 0 _ c)) (fun c => v (ix3 0 c d)) _ d (hp _) (fun c => hv c d),
    nval_of (x2 := x2) hW (fun c => p (ix3 0 _ c)) (fun c => v (ix3 0 c d)) _ d (hp _) (fun c => hv c d)]

end Cert.KernelIdeal.Attn

end
-- ==== Proof.AttnA.Trip.lean ====
/-
  One trip of the attention kernel's loop over query blocks, over the reals: two steps of its software pipeline.
-/
module

public import proofs.«01_k».proof.Proof.AttnA.Stages
public import Idealize.ShloMosaic.Lib.Tactic

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's resource algebra: the frame kit's, at the reals. -/
local notation "𝕄" => MT nD τ sig Unit (Elt Ideal) ℕ (UR sig nD τ) ℕ

/-- A buffer held at some contents is held at contents that are equal to them: gives a long list of stores a name. -/
theorem pts_ex {s : Shape} {e : EltTy} (c : Dev nD) (M : Memref sig .tc .vmem s e) (f : M.view.ty.Contents (Elt Ideal)) :
    ((M.view.loc (c : Thread nD τ) ↦[M.view.set]{fullShare} f) : sProp 𝕄)
      ⊢ iprop(∃ g : M.view.ty.Contents (Elt Ideal), ⌜g = f⌝ ∗ (M.view.loc (c : Thread nD τ) ↦[M.view.set]{fullShare} g)) := by
  iintro H
  iexists f
  isplitr
  · ipureintro; rfl
  · iexact H

theorem Wd_late (m : ℕ) (h : 4 ≤ m) : Wd m = 640 := by unfold Wd; omega

theorem off1_02 : ∀ k : Fin k0_t1_loop.trips, k0_off1 k 0#32 2#32 = ![0, K0 (4 + 2 * k.val), 0] := by decide
theorem off1_00 : ∀ k : Fin k0_t1_loop.trips, k0_off1 k 0#32 0#32 = ![0, K0 (6 + 2 * k.val), 0] := by decide
theorem off1_12 : ∀ k : Fin k0_t1_loop.trips, k0_off1 k 1#32 2#32 = ![0, K0 (5 + 2 * k.val), 0] := by decide
theorem off1_10 : ∀ k : Fin k0_t1_loop.trips, k0_off1 k 1#32 0#32 = ![0, K0 (7 + 2 * k.val), 0] := by decide
theorem off2_02 : ∀ k : Fin k0_t1_loop.trips, k0_off2 k 0#32 2#32 = ![0, (4 + 2 * k.val) * 128, 0] := by decide
theorem off2_00 : ∀ k : Fin k0_t1_loop.trips, k0_off2 k 0#32 0#32 = ![0, (6 + 2 * k.val) * 128, 0] := by decide
theorem off2_12 : ∀ k : Fin k0_t1_loop.trips, k0_off2 k 1#32 2#32 = ![0, (5 + 2 * k.val) * 128, 0] := by decide
theorem off2_10 : ∀ k : Fin k0_t1_loop.trips, k0_off2 k 1#32 0#32 = ![0, (7 + 2 * k.val) * 128, 0] := by decide

set_option maxHeartbeats 40000000 in
set_option sl_exec.squeezeSlice true in
/-- One trip: two query blocks' outputs done, two more blocks' scores taken. -/
theorem trip_runs (c : Dev nD) (i : grid0.Coords)
    (M0 : Memref sig .tc .vmem S1x2048x128 .bf16) (h0 : M0.IsWhole)
    (M1 : Memref sig .tc .vmem S1x2048x128 .bf16) (h1 : M1.IsWhole)
    (M2 : Memref sig .tc .vmem S1x2048x128 .bf16) (h2 : M2.IsWhole)
    (M3 : Memref sig .tc .vmem S1x2048x128 .bf16) (h3 : M3.IsWhole)
    (M4 : Memref sig .tc .vmem S256x640 .f32) (h4 : M4.IsWhole)
    (M5 : Memref sig .tc .vmem S1x2048x128 .bf16) (h5 : M5.IsWhole)
    (M6 : Memref sig .tc .vmem S2x256x640 .f32) (h6 : M6.IsWhole)
    (M7 : Memref sig .tc .vmem S2x256x640 .bf16) (h7 : M7.IsWhole)
    (x0 x1 x2 x3 : Vec Ideal S1x2048x128 .bf16) (x4 : Vec Ideal S256x640 .f32)
    (v773 : FVec Ideal S32x640 .bf16) (k : Fin k0_t1_loop.trips) (f5 : M5.view.ty.Contents (Elt Ideal))
    (f6 : M6.view.ty.Contents (Elt Ideal)) (f7 : M7.view.ty.Contents (Elt Ideal))
    (s5 : HO x0 x1 x2 x3 x4 (M5.view.read (Elt Ideal) f5) (4 + 2 * k.val))
    (s6 : HS x0 x1 x4 (M6.view.read (Elt Ideal) f6) 1 (5 + 2 * k.val))
    (s7 : HP x0 x1 x4 (M7.view.read (Elt Ideal) f7) 0 (4 + 2 * k.val))
    (E : Set ℕ) (K : Unit → sProp 𝕄) :
    iprop((M0.view.loc (c : Thread nD τ) ↦[M0.view.set]{fullShare} h0.unread x0) ∗ (M1.view.loc (c : Thread nD τ) ↦[M1.view.set]{fullShare} h1.unread x1)
     ∗ (M2.view.loc (c : Thread nD τ) ↦[M2.view.set]{fullShare} h2.unread x2) ∗ (M3.view.loc (c : Thread nD τ) ↦[M3.view.set]{fullShare} h3.unread x3)
     ∗ (M4.view.loc (c : Thread nD τ) ↦[M4.view.set]{fullShare} h4.unread x4) ∗ (M5.view.loc (c : Thread nD τ) ↦[M5.view.set]{fullShare} f5)
     ∗ (M6.view.loc (c : Thread nD τ) ↦[M6.view.set]{fullShare} f6) ∗ (M7.view.loc (c : Thread nD τ) ↦[M7.view.set]{fullShare} f7)
     ∗ (iprop((M0.view.loc (c : Thread nD τ) ↦[M0.view.set]{fullShare} h0.unread x0) ∗ (M1.view.loc (c : Thread nD τ) ↦[M1.view.set]{fullShare} h1.unread x1)
     ∗ (M2.view.loc (c : Thread nD τ) ↦[M2.view.set]{fullShare} h2.unread x2) ∗ (M3.view.loc (c : Thread nD τ) ↦[M3.view.set]{fullShare} h3.unread x3)
     ∗ (M4.view.loc (c : Thread nD τ) ↦[M4.view.set]{fullShare} h4.unread x4)
     ∗ (∃ f : M5.view.ty.Contents (Elt Ideal), ⌜HO x0 x1 x2 x3 x4 (M5.view.read (Elt Ideal) f) (4 + 2 * (k.val + 1))⌝ ∗ (M5.view.loc (c : Thread nD τ) ↦[M5.view.set]{fullShare} f))
     ∗ (∃ f : M6.view.ty.Contents (Elt Ideal), ⌜HS x0 x1 x4 (M6.view.read (Elt Ideal) f) 1 (5 + 2 * (k.val + 1))⌝ ∗ (M6.view.loc (c : Thread nD τ) ↦[M6.view.set]{fullShare} f))
     ∗ (∃ f : M7.view.ty.Contents (Elt Ideal), ⌜HP x0 x1 x4 (M7.view.read (Elt Ideal) f) 0 (4 + 2 * (k.val + 1))⌝ ∗ (M7.view.loc (c : Thread nD τ) ↦[M7.view.set]{fullShare} f))) -∗ K ⟨⟩))
      ⊢ wp frame (wpE (defs₀ (F := Ideal)) Variants.none c none) E
          (k0_t1_body i M0 h0 M1 h1 M2 h2 M3 h3 M4 h4 M5 h5 M6 h6 M7 h7 k0_pay27 v773 k ()) K := by
  unfold k0_t1_body
  iintro ⟨H0, H1, H2, H3, H4, H5, H6, H7, HK⟩
  have w4 := Wd_late (4 + 2 * k.val) (by omega)
  have w5 := Wd_late (5 + 2 * k.val) (by omega)
  have w6 := Wd_late (6 + 2 * k.val) (by omega)
  have w7 := Wd_late (7 + 2 * k.val) (by omega)
  set_option sl_exec.maxSteps 46 in sl_exec
  ihave ⟨%g5, %e5, H5⟩ := (pts_ex c M5 _) $$ H5
  have s5n : HO x0 x1 x2 x3 x4 (M5.view.read (Elt Ideal) g5) ((4 + 2 * k.val) + 1) := by
    rw [e5]
    exact pv_store640 M5 _ w4 s5 (off2_02 k) _ _ _ (fun c d => load_rows M2 h2 x2 (K0 (4 + 2 * k.val)) (off1_02 k) _ c d)
      (fun r c => (load_slot M7 _ (by decide) 0 rfl _ r c).trans (s7 _ _ (by rw [w4]; exact c.isLt)))
      (fun i d => load_rows M3 h3 x3 ((4 + 2 * k.val) * 128) (off2_02 k) _ i d)
  ihave ⟨%g7, %e7, H7⟩ := (pts_ex c M7 _) $$ H7
  have s7n : HP x0 x1 x4 (M7.view.read (Elt Ideal) g7) 1 (5 + 2 * k.val) := by
    rw [e7]
    exact sm_store640 M7 _ w5 1 _ _ _ _ _ _ _ _
      (fun i j => (load_strip M6 _ (by decide) 1 0 (by decide) _ _ i j).trans (s6 _ _ (by rw [w5]; exact j.isLt)))
      (fun i j => (load_strip M6 _ (by decide) 1 32 (by decide) _ _ i j).trans (s6 _ _ (by rw [w5]; exact j.isLt)))
      (fun i j => (load_strip M6 _ (by decide) 1 64 (by decide) _ _ i j).trans (s6 _ _ (by rw [w5]; exact j.isLt)))
      (fun i j => (load_strip M6 _ (by decide) 1 96 (by decide) _ _ i j).trans (s6 _ _ (by rw [w5]; exact j.isLt)))
      (fun i j => (load_strip M6 _ (by decide) 1 128 (by decide) _ _ i j).trans (s6 _ _ (by rw [w5]; exact j.isLt)))
      (fun i j => (load_strip M6 _ (by decide) 1 160 (by decide) _ _ i j).trans (s6 _ _ (by rw [w5]; exact j.isLt)))
      (fun i j => (load_strip M6 _ (by decide) 1 192 (by decide) _ _ i j).trans (s6 _ _ (by rw [w5]; exact j.isLt)))
      (fun i j => (load_strip M6 _ (by decide) 1 224 (by decide) _ _ i j).trans (s6 _ _ (by rw [w5]; exact j.isLt)))
  ihave ⟨%g6, %e6, H6⟩ := (pts_ex c M6 _) $$ H6
  have s6n : HS x0 x1 x4 (M6.view.read (Elt Ideal) g6) 0 (6 + 2 * k.val) := by
    rw [e6]
    exact qk_store640 M6 _ w6 0 rfl _ _ _ (fun i d => load_rows M0 h0 x0 ((6 + 2 * k.val) * 128) (off2_00 k) _ i d)
      (fun c d => load_rows M1 h1 x1 (K0 (6 + 2 * k.val)) (off1_00 k) _ c d) (fun r c => load_bias M4 h4 x4 (B0 (6 + 2 * k.val)) (show _ = ![0, B0 (6 + 2 * k.val)] by rw [B0, show 4 - (6 + 2 * k.val) = 0 by omega]) _ r c)
  rw [show 4 + 2 * k.val + 1 = 5 + 2 * k.val by omega] at s5n
  clear e5 s5 e7 s7 e6 s6
  rename' s5n => s5, s7n => s7, s6n => s6
  sl_exec
  ihave ⟨%g5, %e5, H5⟩ := (pts_ex c M5 _) $$ H5
  have s5n : HO x0 x1 x2 x3 x4 (M5.view.read (Elt Ideal) g5) ((5 + 2 * k.val) + 1) := by
    rw [e5]
    exact pv_store640 M5 _ w5 s5 (off2_12 k) _ _ _ (fun c d => load_rows M2 h2 x2 (K0 (5 + 2 * k.val)) (off1_12 k) _ c d)
      (fun r c => (load_slot M7 _ (by decide) 1 rfl _ r c).trans (s7 _ _ (by rw [w5]; exact c.isLt)))
      (fun i d => load_rows M3 h3 x3 ((5 + 2 * k.val) * 128) (off2_12 k) _ i d)
  ihave ⟨%g7, %e7, H7⟩ := (pts_ex c M7 _) $$ H7
  have s7n : HP x0 x1 x4 (M7.view.read (Elt Ideal) g7) 0 (6 + 2 * k.val) := by
    rw [e7]
    exact sm_store640 M7 _ w6 0 _ _ _ _ _ _ _ _
      (fun i j => (load_strip M6 _ (by decide) 0 0 (by decide) _ _ i j).trans (s6 _ _ (by rw [w6]; exact j.isLt)))
      (fun i j => (load_strip M6 _ (by decide) 0 32 (by decide) _ _ i j).trans (s6 _ _ (by rw [w6]; exact j.isLt)))
      (fun i j => (load_strip M6 _ (by decide) 0 64 (by decide) _ _ i j).trans (s6 _ _ (by rw [w6]; exact j.isLt)))
      (fun i j => (load_strip M6 _ (by decide) 0 96 (by decide) _ _ i j).trans (s6 _ _ (by rw [w6]; exact j.isLt)))
      (fun i j => (load_strip M6 _ (by decide) 0 128 (by decide) _ _ i j).trans (s6 _ _ (by rw [w6]; exact j.isLt)))
      (fun i j => (load_strip M6 _ (by decide) 0 160 (by decide) _ _ i j).trans (s6 _ _ (by rw [w6]; exact j.isLt)))
      (fun i j => (load_strip M6 _ (by decide) 0 192 (by decide) _ _ i j).trans (s6 _ _ (by rw [w6]; exact j.isLt)))
      (fun i j => (load_strip M6 _ (by decide) 0 224 (by decide) _ _ i j).trans (s6 _ _ (by rw [w6]; exact j.isLt)))
  ihave ⟨%g6, %e6, H6⟩ := (pts_ex c M6 _) $$ H6
  have s6n : HS x0 x1 x4 (M6.view.read (Elt Ideal) g6) 1 (7 + 2 * k.val) := by
    rw [e6]
    exact qk_store640 M6 _ w7 1 rfl _ _ _ (fun i d => load_rows M0 h0 x0 ((7 + 2 * k.val) * 128) (off2_10 k) _ i d)
      (fun c d => load_rows M1 h1 x1 (K0 (7 + 2 * k.val)) (off1_10 k) _ c d) (fun r c => load_bias M4 h4 x4 (B0 (7 + 2 * k.val)) (show _ = ![0, B0 (7 + 2 * k.val)] by rw [B0, show 4 - (7 + 2 * k.val) = 0 by omega]) _ r c)
  sl_step
  iapply HK
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact (show 5 + 2 * k.val + 1 = 4 + 2 * (k.val + 1) by omega) ▸ s5n
  isplitl [H6]
  · iexists _; isplitr; swap; · iexact H6
    ipureintro; exact (show 7 + 2 * k.val = 5 + 2 * (k.val + 1) by omega) ▸ s6n
  iexists _; isplitr; swap; · iexact H7
  ipureintro; exact (show 6 + 2 * k.val = 4 + 2 * (k.val + 1) by omega) ▸ s7n

end Cert.KernelIdeal.Attn

end
-- ==== Proof.AttnA.Body.lean ====
/-
  The attention kernel's body over the reals: from its five input blocks, the whole output block.
-/
module

public import proofs.«01_k».proof.Proof.AttnA.Trip
public import Idealize.ShloMosaic.Lib.Tactic

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's resource algebra: the frame kit's, at the reals. -/
local notation "𝕄" => MT nD τ sig Unit (Elt Ideal) ℕ (UR sig nD τ) ℕ

/-- Before trip `n` of the loop: the inputs as they came; `4 + 2n` query blocks done; the next block's weights in the first
    slot, the scores of the block after it in the second. -/
def inv (c : Dev nD)
    (M0 : Memref sig .tc .vmem S1x2048x128 .bf16) (h0 : M0.IsWhole)
    (M1 : Memref sig .tc .vmem S1x2048x128 .bf16) (h1 : M1.IsWhole)
    (M2 : Memref sig .tc .vmem S1x2048x128 .bf16) (h2 : M2.IsWhole)
    (M3 : Memref sig .tc .vmem S1x2048x128 .bf16) (h3 : M3.IsWhole)
    (M4 : Memref sig .tc .vmem S256x640 .f32) (h4 : M4.IsWhole)
    (M5 : Memref sig .tc .vmem S1x2048x128 .bf16) (h5 : M5.IsWhole)
    (M6 : Memref sig .tc .vmem S2x256x640 .f32) (h6 : M6.IsWhole)
    (M7 : Memref sig .tc .vmem S2x256x640 .bf16) (h7 : M7.IsWhole)
    (x0 x1 x2 x3 : Vec Ideal S1x2048x128 .bf16) (x4 : Vec Ideal S256x640 .f32)
    (n : ℕ) (_ : Unit) : sProp 𝕄 :=
  iprop((M0.view.loc (c : Thread nD τ) ↦[M0.view.set]{fullShare} h0.unread x0) ∗ (M1.view.loc (c : Thread nD τ) ↦[M1.view.set]{fullShare} h1.unread x1) ∗ (M2.view.loc (c : Thread nD τ) ↦[M2.view.set]{fullShare} h2.unread x2) ∗ (M3.view.loc (c : Thread nD τ) ↦[M3.view.set]{fullShare} h3.unread x3) ∗ (M4.view.loc (c : Thread nD τ) ↦[M4.view.set]{fullShare} h4.unread x4)
    ∗ (∃ f : M5.view.ty.Contents (Elt Ideal), ⌜HO x0 x1 x2 x3 x4 (M5.view.read (Elt Ideal) f) (4 + 2 * n)⌝ ∗ (M5.view.loc (c : Thread nD τ) ↦[M5.view.set]{fullShare} f)) ∗ (∃ f : M6.view.ty.Contents (Elt Ideal), ⌜HS x0 x1 x4 (M6.view.read (Elt Ideal) f) 1 (5 + 2 * n)⌝ ∗ (M6.view.loc (c : Thread nD τ) ↦[M6.view.set]{fullShare} f)) ∗ (∃ f : M7.view.ty.Contents (Elt Ideal), ⌜HP x0 x1 x4 (M7.view.read (Elt Ideal) f) 0 (4 + 2 * n)⌝ ∗ (M7.view.loc (c : Thread nD τ) ↦[M7.view.set]{fullShare} f)))

set_option maxHeartbeats 40000000 in
set_option sl_exec.squeezeSlice true in
/-- The body: the output block ends with all sixteen query blocks' rows, the scratch with something. -/
theorem body_value (c : Dev nD) (i : grid0.Coords)
    (M0 : Memref sig .tc .vmem S1x2048x128 .bf16) (h0 : M0.IsWhole)
    (M1 : Memref sig .tc .vmem S1x2048x128 .bf16) (h1 : M1.IsWhole)
    (M2 : Memref sig .tc .vmem S1x2048x128 .bf16) (h2 : M2.IsWhole)
    (M3 : Memref sig .tc .vmem S1x2048x128 .bf16) (h3 : M3.IsWhole)
    (M4 : Memref sig .tc .vmem S256x640 .f32) (h4 : M4.IsWhole)
    (M5 : Memref sig .tc .vmem S1x2048x128 .bf16) (h5 : M5.IsWhole)
    (M6 : Memref sig .tc .vmem S2x256x640 .f32) (h6 : M6.IsWhole)
    (M7 : Memref sig .tc .vmem S2x256x640 .bf16) (h7 : M7.IsWhole)
    (x0 x1 x2 x3 : Vec Ideal S1x2048x128 .bf16) (x4 : Vec Ideal S256x640 .f32)
    (f5 : M5.view.ty.Contents (Elt Ideal)) (f6 : M6.view.ty.Contents (Elt Ideal)) (f7 : M7.view.ty.Contents (Elt Ideal))
    (E : Set ℕ) (K : PUnit → sProp 𝕄) :
    iprop((M0.view.loc (c : Thread nD τ) ↦[M0.view.set]{fullShare} h0.unread x0) ∗ (M1.view.loc (c : Thread nD τ) ↦[M1.view.set]{fullShare} h1.unread x1) ∗ (M2.view.loc (c : Thread nD τ) ↦[M2.view.set]{fullShare} h2.unread x2) ∗ (M3.view.loc (c : Thread nD τ) ↦[M3.view.set]{fullShare} h3.unread x3) ∗ (M4.view.loc (c : Thread nD τ) ↦[M4.view.set]{fullShare} h4.unread x4) ∗ (M5.view.loc (c : Thread nD τ) ↦[M5.view.set]{fullShare} f5) ∗ (M6.view.loc (c : Thread nD τ) ↦[M6.view.set]{fullShare} f6) ∗ (M7.view.loc (c : Thread nD τ) ↦[M7.view.set]{fullShare} f7)
      ∗ (iprop((M0.view.loc (c : Thread nD τ) ↦[M0.view.set]{fullShare} h0.unread x0) ∗ (M1.view.loc (c : Thread nD τ) ↦[M1.view.set]{fullShare} h1.unread x1) ∗ (M2.view.loc (c : Thread nD τ) ↦[M2.view.set]{fullShare} h2.unread x2) ∗ (M3.view.loc (c : Thread nD τ) ↦[M3.view.set]{fullShare} h3.unread x3) ∗ (M4.view.loc (c : Thread nD τ) ↦[M4.view.set]{fullShare} h4.unread x4)
        ∗ (∃ f : M5.view.ty.Contents (Elt Ideal), ⌜HO x0 x1 x2 x3 x4 (M5.view.read (Elt Ideal) f) 16⌝ ∗ (M5.view.loc (c : Thread nD τ) ↦[M5.view.set]{fullShare} f))
        ∗ (∃ f : M6.view.ty.Contents (Elt Ideal), (M6.view.loc (c : Thread nD τ) ↦[M6.view.set]{fullShare} f)) ∗ (∃ f : M7.view.ty.Contents (Elt Ideal), (M7.view.loc (c : Thread nD τ) ↦[M7.view.set]{fullShare} f))) -∗ K ⟨⟩))
      ⊢ wp frame (wpE (defs₀ (F := Ideal)) Variants.none c none) E
          (cc0_attn_a i M0 h0 M1 h1 M2 h2 M3 h3 M4 h4 M5 h5 M6 h6 M7 h7) K := by
  iintro ⟨H0, H1, H2, H3, H4, H5, H6, H7, HK⟩
  sl_unfold [cc0_attn_a]
  have s5 : HO x0 x1 x2 x3 x4 (M5.view.read (Elt Ideal) f5) 0 := fun n hn => absurd hn (Nat.not_lt_zero n)
  have w0 : Wd (0) = 128 := rfl
  have w1 : Wd (1) = 256 := rfl
  have w2 : Wd (2) = 384 := rfl
  have w3 : Wd (3) = 512 := rfl
  have w4 : Wd (4) = 640 := rfl
  have w5 : Wd (5) = 640 := rfl
  have w14 : Wd (14) = 640 := rfl
  have w15 : Wd (15) = 640 := rfl
  set_option sl_exec.maxSteps 9 in sl_exec
  ihave ⟨%g6, %e6, H6⟩ := (pts_ex c M6 _) $$ H6
  have s6n : HS x0 x1 x4 (M6.view.read (Elt Ideal) g6) 0 (0) := by
    rw [e6]
    exact qk_store128 M6 _ w0 0 rfl _ _ _ (fun i d => load_rows M0 h0 x0 ((0) * 128) rfl _ i d)
      (fun c d => load_rows M1 h1 x1 (K0 (0)) rfl _ c d) (fun r c => load_bias M4 h4 x4 (B0 (0)) rfl _ r c)
  clear e6
  rename' s6n => s6
  set_option sl_exec.maxSteps 40 in sl_exec
  ihave ⟨%g7, %e7, H7⟩ := (pts_ex c M7 _) $$ H7
  have s7n : HP x0 x1 x4 (M7.view.read (Elt Ideal) g7) 0 (0) := by
    rw [e7]
    exact sm_store128 M7 _ w0 0 _ _ _ _ _ _ _ _
      (fun i j => (load_strip M6 _ (by decide) 0 0 (by decide) _ _ i j).trans (s6 _ _ (by rw [w0]; exact j.isLt)))
      (fun i j => (load_strip M6 _ (by decide) 0 32 (by decide) _ _ i j).trans (s6 _ _ (by rw [w0]; exact j.isLt)))
      (fun i j => (load_strip M6 _ (by decide) 0 64 (by decide) _ _ i j).trans (s6 _ _ (by rw [w0]; exact j.isLt)))
      (fun i j => (load_strip M6 _ (by decide) 0 96 (by decide) _ _ i j).trans (s6 _ _ (by rw [w0]; exact j.isLt)))
      (fun i j => (load_strip M6 _ (by decide) 0 128 (by decide) _ _ i j).trans (s6 _ _ (by rw [w0]; exact j.isLt)))
      (fun i j => (load_strip M6 _ (by decide) 0 160 (by decide) _ _ i j).trans (s6 _ _ (by rw [w0]; exact j.isLt)))
      (fun i j => (load_strip M6 _ (by decide) 0 192 (by decide) _ _ i j).trans (s6 _ _ (by rw [w0]; exact j.isLt)))
      (fun i j => (load_strip M6 _ (by decide) 0 224 (by decide) _ _ i j).trans (s6 _ _ (by rw [w0]; exact j.isLt)))
  ihave ⟨%g6, %e6, H6⟩ := (pts_ex c M6 _) $$ H6
  have s6n : HS x0 x1 x4 (M6.view.read (Elt Ideal) g6) 1 (1) := by
    rw [e6]
    exact qk_store256 M6 _ w1 1 rfl _ _ _ (fun i d => load_rows M0 h0 x0 ((1) * 128) rfl _ i d)
      (fun c d => load_rows M1 h1 x1 (K0 (1)) rfl _ c d) (fun r c => load_bias M4 h4 x4 (B0 (1)) rfl _ r c)
  clear e7 e6 s6
  rename' s7n => s7, s6n => s6
  set_option sl_exec.maxSteps 43 in sl_exec
  ihave ⟨%g5, %e5, H5⟩ := (pts_ex c M5 _) $$ H5
  have s5n : HO x0 x1 x2 x3 x4 (M5.view.read (Elt Ideal) g5) ((0) + 1) := by
    rw [e5]
    exact pv_store128 M5 _ w0 s5 rfl _ _ _ (fun c d => load_rows M2 h2 x2 (K0 (0)) rfl _ c d)
      (fun r c => (load_slot M7 _ (by decide) 0 rfl _ r c).trans (s7 _ _ (by rw [w0]; exact c.isLt)))
      (fun i d => load_rows M3 h3 x3 ((0) * 128) rfl _ i d)
  ihave ⟨%g7, %e7, H7⟩ := (pts_ex c M7 _) $$ H7
  have s7n : HP x0 x1 x4 (M7.view.read (Elt Ideal) g7) 1 (1) := by
    rw [e7]
    exact sm_store256 M7 _ w1 1 _ _ _ _ _ _ _ _
      (fun i j => (load_strip M6 _ (by decide) 1 0 (by decide) _ _ i j).trans (s6 _ _ (by rw [w1]; exact j.isLt)))
      (fun i j => (load_strip M6 _ (by decide) 1 32 (by decide) _ _ i j).trans (s6 _ _ (by rw [w1]; exact j.isLt)))
      (fun i j => (load_strip M6 _ (by decide) 1 64 (by decide) _ _ i j).trans (s6 _ _ (by rw [w1]; exact j.isLt)))
      (fun i j => (load_strip M6 _ (by decide) 1 96 (by decide) _ _ i j).trans (s6 _ _ (by rw [w1]; exact j.isLt)))
      (fun i j => (load_strip M6 _ (by decide) 1 128 (by decide) _ _ i j).trans (s6 _ _ (by rw [w1]; exact j.isLt)))
      (fun i j => (load_strip M6 _ (by decide) 1 160 (by decide) _ _ i j).trans (s6 _ _ (by rw [w1]; exact j.isLt)))
      (fun i j => (load_strip M6 _ (by decide) 1 192 (by decide) _ _ i j).trans (s6 _ _ (by rw [w1]; exact j.isLt)))
      (fun i j => (load_strip M6 _ (by decide) 1 224 (by decide) _ _ i j).trans (s6 _ _ (by rw [w1]; exact j.isLt)))
  ihave ⟨%g6, %e6, H6⟩ := (pts_ex c M6 _) $$ H6
  have s6n : HS x0 x1 x4 (M6.view.read (Elt Ideal) g6) 0 (2) := by
    rw [e6]
    exact qk_store384 M6 _ w2 0 rfl _ _ _ (fun i d => load_rows M0 h0 x0 ((2) * 128) rfl _ i d)
      (fun c d => load_rows M1 h1 x1 (K0 (2)) rfl _ c d) (fun r c => load_bias M4 h4 x4 (B0 (2)) rfl _ r c)
  clear e5 s5 e7 s7 e6 s6
  rename' s5n => s5, s7n => s7, s6n => s6
  set_option sl_exec.maxSteps 45 in sl_exec
  ihave ⟨%g5, %e5, H5⟩ := (pts_ex c M5 _) $$ H5
  have s5n : HO x0 x1 x2 x3 x4 (M5.view.read (Elt Ideal) g5) ((1) + 1) := by
    rw [e5]
    exact pv_store256 M5 _ w1 s5 rfl _ _ _ (fun c d => load_rows M2 h2 x2 (K0 (1)) rfl _ c d)
      (fun r c => (load_slot M7 _ (by decide) 1 rfl _ r c).trans (s7 _ _ (by rw [w1]; exact c.isLt)))
      (fun i d => load_rows M3 h3 x3 ((1) * 128) rfl _ i d)
  ihave ⟨%g7, %e7, H7⟩ := (pts_ex c M7 _) $$ H7
  have s7n : HP x0 x1 x4 (M7.view.read (Elt Ideal) g7) 0 (2) := by
    rw [e7]
    exact sm_store384 M7 _ w2 0 _ _ _ _ _ _ _ _
      (fun i j => (load_strip M6 _ (by decide) 0 0 (by decide) _ _ i j).trans (s6 _ _ (by rw [w2]; exact j.isLt)))
      (fun i j => (load_strip M6 _ (by decide) 0 32 (by decide) _ _ i j).trans (s6 _ _ (by rw [w2]; exact j.isLt)))
      (fun i j => (load_strip M6 _ (by decide) 0 64 (by decide) _ _ i j).trans (s6 _ _ (by rw [w2]; exact j.isLt)))
      (fun i j => (load_strip M6 _ (by decide) 0 96 (by decide) _ _ i j).trans (s6 _ _ (by rw [w2]; exact j.isLt)))
      (fun i j => (load_strip M6 _ (by decide) 0 128 (by decide) _ _ i j).trans (s6 _ _ (by rw [w2]; exact j.isLt)))
      (fun i j => (load_strip M6 _ (by decide) 0 160 (by decide) _ _ i j).trans (s6 _ _ (by rw [w2]; exact j.isLt)))
      (fun i j => (load_strip M6 _ (by decide) 0 192 (by decide) _ _ i j).trans (s6 _ _ (by rw [w2]; exact j.isLt)))
      (fun i j => (load_strip M6 _ (by decide) 0 224 (by decide) _ _ i j).trans (s6 _ _ (by rw [w2]; exact j.isLt)))
  ihave ⟨%g6, %e6, H6⟩ := (pts_ex c M6 _) $$ H6
  have s6n : HS x0 x1 x4 (M6.view.read (Elt Ideal) g6) 1 (3) := by
    rw [e6]
    exact qk_store512 M6 _ w3 1 rfl _ _ _ (fun i d => load_rows M0 h0 x0 ((3) * 128) rfl _ i d)
      (fun c d => load_rows M1 h1 x1 (K0 (3)) rfl _ c d) (fun r c => load_bias M4 h4 x4 (B0 (3)) rfl _ r c)
  clear e5 s5 e7 s7 e6 s6
  rename' s5n => s5, s7n => s7, s6n => s6
  set_option sl_exec.maxSteps 45 in sl_exec
  ihave ⟨%g5, %e5, H5⟩ := (pts_ex c M5 _) $$ H5
  have s5n : HO x0 x1 x2 x3 x4 (M5.view.read (Elt Ideal) g5) ((2) + 1) := by
    rw [e5]
    exact pv_store384 M5 _ w2 s5 rfl _ _ _ (fun c d => load_rows M2 h2 x2 (K0 (2)) rfl _ c d)
      (fun r c => (load_slot M7 _ (by decide) 0 rfl _ r c).trans (s7 _ _ (by rw [w2]; exact c.isLt)))
      (fun i d => load_rows M3 h3 x3 ((2) * 128) rfl _ i d)
  ihave ⟨%g7, %e7, H7⟩ := (pts_ex c M7 _) $$ H7
  have s7n : HP x0 x1 x4 (M7.view.read (Elt Ideal) g7) 1 (3) := by
    rw [e7]
    exact sm_store512 M7 _ w3 1 _ _ _ _ _ _ _ _
      (fun i j => (load_strip M6 _ (by decide) 1 0 (by decide) _ _ i j).trans (s6 _ _ (by rw [w3]; exact j.isLt)))
      (fun i j => (load_strip M6 _ (by decide) 1 32 (by decide) _ _ i j).trans (s6 _ _ (by rw [w3]; exact j.isLt)))
      (fun i j => (load_strip M6 _ (by decide) 1 64 (by decide) _ _ i j).trans (s6 _ _ (by rw [w3]; exact j.isLt)))
      (fun i j => (load_strip M6 _ (by decide) 1 96 (by decide) _ _ i j).trans (s6 _ _ (by rw [w3]; exact j.isLt)))
      (fun i j => (load_strip M6 _ (by decide) 1 128 (by decide) _ _ i j).trans (s6 _ _ (by rw [w3]; exact j.isLt)))
      (fun i j => (load_strip M6 _ (by decide) 1 160 (by decide) _ _ i j).trans (s6 _ _ (by rw [w3]; exact j.isLt)))
      (fun i j => (load_strip M6 _ (by decide) 1 192 (by decide) _ _ i j).trans (s6 _ _ (by rw [w3]; exact j.isLt)))
      (fun i j => (load_strip M6 _ (by decide) 1 224 (by decide) _ _ i j).trans (s6 _ _ (by rw [w3]; exact j.isLt)))
  ihave ⟨%g6, %e6, H6⟩ := (pts_ex c M6 _) $$ H6
  have s6n : HS x0 x1 x4 (M6.view.read (Elt Ideal) g6) 0 (4) := by
    rw [e6]
    exact qk_store640 M6 _ w4 0 rfl _ _ _ (fun i d => load_rows M0 h0 x0 ((4) * 128) rfl _ i d)
      (fun c d => load_rows M1 h1 x1 (K0 (4)) rfl _ c d) (fun r c => load_bias M4 h4 x4 (B0 (4)) rfl _ r c)
  clear e5 s5 e7 s7 e6 s6
  rename' s5n => s5, s7n => s7, s6n => s6
  set_option sl_exec.maxSteps 45 in sl_exec
  ihave ⟨%g5, %e5, H5⟩ := (pts_ex c M5 _) $$ H5
  have s5n : HO x0 x1 x2 x3 x4 (M5.view.read (Elt Ideal) g5) ((3) + 1) := by
    rw [e5]
    exact pv_store512 M5 _ w3 s5 rfl _ _ _ (fun c d => load_rows M2 h2 x2 (K0 (3)) rfl _ c d)
      (fun r c => (load_slot M7 _ (by decide) 1 rfl _ r c).trans (s7 _ _ (by rw [w3]; exact c.isLt)))
      (fun i d => load_rows M3 h3 x3 ((3) * 128) rfl _ i d)
  ihave ⟨%g7, %e7, H7⟩ := (pts_ex c M7 _) $$ H7
  have s7n : HP x0 x1 x4 (M7.view.read (Elt Ideal) g7) 0 (4) := by
    rw [e7]
    exact sm_store640 M7 _ w4 0 _ _ _ _ _ _ _ _
      (fun i j => (load_strip M6 _ (by decide) 0 0 (by decide) _ _ i j).trans (s6 _ _ (by rw [w4]; exact j.isLt)))
      (fun i j => (load_strip M6 _ (by decide) 0 32 (by decide) _ _ i j).trans (s6 _ _ (by rw [w4]; exact j.isLt)))
      (fun i j => (load_strip M6 _ (by decide) 0 64 (by decide) _ _ i j).trans (s6 _ _ (by rw [w4]; exact j.isLt)))
      (fun i j => (load_strip M6 _ (by decide) 0 96 (by decide) _ _ i j).trans (s6 _ _ (by rw [w4]; exact j.isLt)))
      (fun i j => (load_strip M6 _ (by decide) 0 128 (by decide) _ _ i j).trans (s6 _ _ (by rw [w4]; exact j.isLt)))
      (fun i j => (load_strip M6 _ (by decide) 0 160 (by decide) _ _ i j).trans (s6 _ _ (by rw [w4]; exact j.isLt)))
      (fun i j => (load_strip M6 _ (by decide) 0 192 (by decide) _ _ i j).trans (s6 _ _ (by rw [w4]; exact j.isLt)))
      (fun i j => (load_strip M6 _ (by decide) 0 224 (by decide) _ _ i j).trans (s6 _ _ (by rw [w4]; exact j.isLt)))
  ihave ⟨%g6, %e6, H6⟩ := (pts_ex c M6 _) $$ H6
  have s6n : HS x0 x1 x4 (M6.view.read (Elt Ideal) g6) 1 (5) := by
    rw [e6]
    exact qk_store640 M6 _ w5 1 rfl _ _ _ (fun i d => load_rows M0 h0 x0 ((5) * 128) rfl _ i d)
      (fun c d => load_rows M1 h1 x1 (K0 (5)) rfl _ c d) (fun r c => load_bias M4 h4 x4 (B0 (5)) rfl _ r c)
  clear e5 s5 e7 s7 e6 s6
  rename' s5n => s5, s7n => s7, s6n => s6
  sl_exec
  sl_for (inv c M0 h0 M1 h1 M2 h2 M3 h3 M4 h4 M5 h5 M6 h6 M7 h7 x0 x1 x2 x3 x4) $$ [H0 H1 H2 H3 H4 H5 H6 H7]
  case region =>
    intro k _
    unfold inv
    iintro ⟨H0, H1, H2, H3, H4, ⟨%g5, %s5, H5⟩, ⟨%g6, %s6, H6⟩, ⟨%g7, %s7, H7⟩⟩
    iapply (trip_runs c i M0 h0 M1 h1 M2 h2 M3 h3 M4 h4 M5 h5 M6 h6 M7 h7 x0 x1 x2 x3 x4 _ k g5 g6 g7 s5 s6 s7)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro H
    iexact H
  · unfold inv
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact s5
    isplitl [H6]
    · iexists _; isplitr; swap; · iexact H6
      ipureintro; exact s6
    iexists _; isplitr; swap; · iexact H7
    ipureintro; exact s7
  clear s5 s6 s7
  unfold inv
  iintro %_ ⟨H0, H1, H2, H3, H4, ⟨%g5, %s5, H5⟩, ⟨%g6, %s6, H6⟩, ⟨%g7, %s7, H7⟩⟩
  replace s5 : HO x0 x1 x2 x3 x4 (M5.view.read (Elt Ideal) g5) 14 := s5
  replace s6 : HS x0 x1 x4 (M6.view.read (Elt Ideal) g6) 1 15 := s6
  replace s7 : HP x0 x1 x4 (M7.view.read (Elt Ideal) g7) 0 14 := s7
  have k14 : (![0, 1280, 0] : Fin 3 → ℕ) = ![0, K0 (14), 0] := by norm_num [K0]
  have k15 : (![0, 1408, 0] : Fin 3 → ℕ) = ![0, K0 (15), 0] := by norm_num [K0]
  have o14 : (![0, 1792, 0] : Fin 3 → ℕ) = ![0, (14) * 128, 0] := by norm_num
  have o15 : (![0, 1920, 0] : Fin 3 → ℕ) = ![0, (15) * 128, 0] := by norm_num
  set_option sl_exec.maxSteps 38 in sl_exec
  ihave ⟨%g5, %e5, H5⟩ := (pts_ex c M5 _) $$ H5
  have s5n : HO x0 x1 x2 x3 x4 (M5.view.read (Elt Ideal) g5) ((14) + 1) := by
    rw [e5]
    exact pv_store640 M5 _ w14 s5 o14 (M2.view.readAt (Elt Ideal) (Rect.unit (s := S1x2048x128) ![0, 1280, 0] S1x640x128.size inb_S1x2048x128_S1x640x128_0_1280_0).toLoadRect (h2.unread x2))
      (M7.view.readAt (Elt Ideal) (Rect.unit (s := S2x256x640) ![0, 0, 0] S1x256x640.size inb_S2x256x640_S1x256x640_0_0_0).toLoadRect g7)
      (M3.view.readAt (Elt Ideal) (Rect.unit (s := S1x2048x128) ![0, 1792, 0] S1x128x128.size inb_S1x2048x128_S1x128x128_0_1792_0).toLoadRect (h3.unread x3)) (fun c d => load_rows M2 h2 x2 (K0 (14)) k14 _ c d)
      (fun r c => (load_slot M7 _ (by decide) 0 rfl _ r c).trans (s7 _ _ (by rw [w14]; exact c.isLt)))
      (fun i d => load_rows M3 h3 x3 ((14) * 128) o14 _ i d)
  ihave ⟨%g7, %e7, H7⟩ := (pts_ex c M7 _) $$ H7
  have s7n : HP x0 x1 x4 (M7.view.read (Elt Ideal) g7) 1 (15) := by
    rw [e7]
    exact sm_store640 M7 _ w15 1 _ _ _ _ _ _ _ _
      (fun i j => (load_strip M6 _ (by decide) 1 0 (by decide) _ _ i j).trans (s6 _ _ (by rw [w15]; exact j.isLt)))
      (fun i j => (load_strip M6 _ (by decide) 1 32 (by decide) _ _ i j).trans (s6 _ _ (by rw [w15]; exact j.isLt)))
      (fun i j => (load_strip M6 _ (by decide) 1 64 (by decide) _ _ i j).trans (s6 _ _ (by rw [w15]; exact j.isLt)))
      (fun i j => (load_strip M6 _ (by decide) 1 96 (by decide) _ _ i j).trans (s6 _ _ (by rw [w15]; exact j.isLt)))
      (fun i j => (load_strip M6 _ (by decide) 1 128 (by decide) _ _ i j).trans (s6 _ _ (by rw [w15]; exact j.isLt)))
      (fun i j => (load_strip M6 _ (by decide) 1 160 (by decide) _ _ i j).trans (s6 _ _ (by rw [w15]; exact j.isLt)))
      (fun i j => (load_strip M6 _ (by decide) 1 192 (by decide) _ _ i j).trans (s6 _ _ (by rw [w15]; exact j.isLt)))
      (fun i j => (load_strip M6 _ (by decide) 1 224 (by decide) _ _ i j).trans (s6 _ _ (by rw [w15]; exact j.isLt)))
  clear e5 e7 s5 s7
  rename' s5n => s5, s7n => s7
  sl_exec
  ihave ⟨%g5, %e5, H5⟩ := (pts_ex c M5 _) $$ H5
  have s5n : HO x0 x1 x2 x3 x4 (M5.view.read (Elt Ideal) g5) ((15) + 1) := by
    rw [e5]
    exact pv_store640 M5 _ w15 s5 o15 (M2.view.readAt (Elt Ideal) (Rect.unit (s := S1x2048x128) ![0, 1408, 0] S1x640x128.size inb_S1x2048x128_S1x640x128_0_1408_0).toLoadRect (h2.unread x2))
      (M7.view.readAt (Elt Ideal) (Rect.unit (s := S2x256x640) ![1, 0, 0] S1x256x640.size inb_S2x256x640_S1x256x640_1_0_0).toLoadRect g7)
      (M3.view.readAt (Elt Ideal) (Rect.unit (s := S1x2048x128) ![0, 1920, 0] S1x128x128.size inb_S1x2048x128_S1x128x128_0_1920_0).toLoadRect (h3.unread x3)) (fun c d => load_rows M2 h2 x2 (K0 (15)) k15 _ c d)
      (fun r c => (load_slot M7 _ (by decide) 1 rfl _ r c).trans (s7 _ _ (by rw [w15]; exact c.isLt)))
      (fun i d => load_rows M3 h3 x3 ((15) * 128) o15 _ i d)
  sl_step
  iapply HK
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact s5n
  isplitl [H6]; · iexists _; iexact H6
  iexists _; iexact H7

end Cert.KernelIdeal.Attn

end
-- ==== Proof.AttnA.ValueI.lean ====
/-
  The run of the attention kernel over the reals with its result named: at every grid point the body leaves in the
  result's block the gated attention rows of the point's input blocks.
-/
module

public import proofs.«01_k».proof.Proof.AttnA.FrameI
public import proofs.«01_k».proof.Proof.AttnA.Body

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

/-- The proof's resource algebra, over the reals. -/
local notation "𝕄" => MT nD τ sig Unit (Elt Ideal) ℕ (UR sig nD τ) ℕ

variable (m : (ℓ : Loc nD τ sig) → Buf (Elt Ideal) ℓ) (ρ : Dev nD → PrngReg)

/-- The block the body leaves: row `s`, lane `d` of the gated attention of its input blocks. -/
def obk (x0 x1 x2 x3 : Vec Ideal S1x2048x128 .bf16) (x4 : Vec Ideal S256x640 .f32) : Vec Ideal S1x2048x128 .bf16 :=
  fun y => oval x0 x1 x2 x3 x4 ((y 1).val / 128) ⟨(y 1).val % 128, Nat.mod_lt _ (by decide)⟩ (y 2)

theorem eq_obk {x0 x1 x2 x3 : Vec Ideal S1x2048x128 .bf16} {x4 : Vec Ideal S256x640 .f32} {X : S1x2048x128.Idx → EReal}
    (h : HO x0 x1 x2 x3 x4 X 16) : X = obk x0 x1 x2 x3 x4 := by
  funext y
  have h1 : (y 1).val < 2048 := (y 1).isLt
  have h2 := h ((y 1).val / 128) (by omega) ⟨(y 1).val % 128, Nat.mod_lt _ (by decide)⟩ (y 2) (by
    show (y 1).val / 128 * 128 + (y 1).val % 128 < 2048; omega)
  unfold obk
  rw [← h2]
  congr 1
  funext a
  match a with
  | ⟨0, _⟩ => exact Fin.ext (by have : (y 0).val < 1 := (y 0).isLt; show (y 0).val = 0; omega)
  | ⟨1, _⟩ => exact Fin.ext (by show (y 1).val = (y 1).val / 128 * 128 + (y 1).val % 128; omega)
  | ⟨2, _⟩ => rfl

set_option maxHeartbeats 4000000 in
/-- The body on whole memrefs, its result's block named. -/
theorem body_owns (c : Dev nD) (i : grid0.Coords)
    (M0 : Memref sig .tc .vmem S1x2048x128 .bf16) (h0 : M0.IsWhole)
    (M1 : Memref sig .tc .vmem S1x2048x128 .bf16) (h1 : M1.IsWhole)
    (M2 : Memref sig .tc .vmem S1x2048x128 .bf16) (h2 : M2.IsWhole)
    (M3 : Memref sig .tc .vmem S1x2048x128 .bf16) (h3 : M3.IsWhole)
    (M4 : Memref sig .tc .vmem S256x640 .f32) (h4 : M4.IsWhole)
    (M5 : Memref sig .tc .vmem S1x2048x128 .bf16) (h5 : M5.IsWhole)
    (M6 : Memref sig .tc .vmem S2x256x640 .f32) (h6 : M6.IsWhole)
    (M7 : Memref sig .tc .vmem S2x256x640 .bf16) (h7 : M7.IsWhole)
    (x0 x1 x2 x3 : Vec Ideal S1x2048x128 .bf16) (x4 : Vec Ideal S256x640 .f32)
    (E : Set ℕ) (K : PUnit → sProp 𝕄) :
    iprop(owns (c : Thread nD τ) M0 fullShare x0 ∗ owns (c : Thread nD τ) M1 fullShare x1
        ∗ owns (c : Thread nD τ) M2 fullShare x2 ∗ owns (c : Thread nD τ) M3 fullShare x3
        ∗ owns (c : Thread nD τ) M4 fullShare x4 ∗ (∃ d, owns (c : Thread nD τ) M5 fullShare d)
        ∗ (∃ d, owns (c : Thread nD τ) M6 fullShare d) ∗ (∃ d, owns (c : Thread nD τ) M7 fullShare d)
        ∗ (iprop(owns (c : Thread nD τ) M0 fullShare x0 ∗ owns (c : Thread nD τ) M1 fullShare x1
          ∗ owns (c : Thread nD τ) M2 fullShare x2 ∗ owns (c : Thread nD τ) M3 fullShare x3
          ∗ owns (c : Thread nD τ) M4 fullShare x4 ∗ owns (c : Thread nD τ) M5 fullShare (obk x0 x1 x2 x3 x4)
          ∗ (∃ d, owns (c : Thread nD τ) M6 fullShare d)
          ∗ (∃ d, owns (c : Thread nD τ) M7 fullShare d)) -∗ K ⟨⟩))
      ⊢ wp frame (wpE (defs₀ (F := Ideal)) 𝒱₀ c none) E
          (cc0_attn_a i M0 h0 M1 h1 M2 h2 M3 h3 M4 h4 M5 h5 M6 h6 M7 h7) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := h0.eq_unread hf0; obtain rfl := h1.eq_unread hf1
  obtain rfl := h2.eq_unread hf2; obtain rfl := h3.eq_unread hf3; obtain rfl := h4.eq_unread hf4
  iapply (body_value c i M0 h0 M1 h1 M2 h2 M3 h3 M4 h4 M5 h5 M6 h6 M7 h7 x0 x1 x2 x3 x4 f5 f6 f7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, ⟨%g5, %e5, H5⟩, ⟨%g6, H6⟩, ⟨%g7, H7⟩⟩
  iapply Hk
  isplitl [H0]; · iexists _; isplitr; · ipureintro; exact h0.read_unread _
                  iexact H0
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists g5; isplitr; · ipureintro; exact eq_obk e5
                  iexact H5
  isplitl [H6]; · iexists _; iexists g6; isplitr; swap; · iexact H6
                  ipureintro; rfl
  iexists _; iexists g7; isplitr; swap; · iexact H7
  ipureintro; rfl

/-- The proof data: each input's buffer at its block, the result's at the block the body leaves. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => obk (iblk m c 0 t) (iblk m c 1 t) (iblk m c 2 t) (iblk m c 3 t) (iblk m c 4 t)
  Φ _ := Pipeline.ΦA spec0 c
  q _ := fullShare
  owed _ := 0

theorem vA_eq (c : Dev nD) (w : Fin cfg0.W) : (vdats m 0 c).A w = V m c (Pipeline.arrRef spec0 w) := by dsimp only [vdats]
theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t
    = obk (iblk m c 0 t) (iblk m c 1 t) (iblk m c 2 t) (iblk m c 3 t) (iblk m c 4 t) := by dsimp only [vdats]
theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d

/-- The body's obligation at every point. -/
theorem vbody_obligation (c : Dev nD) :
    BodyObligation (vdats m 0 c) (defs₀ (F := Ideal)) 𝒱₀ () Set.univ := fun t => by
  rw [bigSep_W0, bigSep_W0]
  sl_whnfR [defs₀, Defs.onTc]
  simp only [vbefore_0, vbefore_1, vbefore_2, vbefore_3, vbefore_4]
  rw [show (vdats m 0 c).Φ t.succ = (vdats m 0 c).Φ t.castSucc from rfl,
    show (vdats m 0 c).owesAt () t.succ = (vdats m 0 c).owesAt () t.castSucc from rfl,
    show (vdats m 0 c).Φ t.castSucc = Pipeline.ΦA spec0 c from rfl]
  simp only [vafter_0, vafter_1, vafter_2, vafter_3, vafter_4, vafter_5]
  unfold Pipeline.ΦA
  rw [scopedRest0_eq]
  iintro ⟨⟨⟨⟨%f6, H6⟩, ⟨%f7, H7⟩⟩, Hr⟩, Ho, ⟨%d0, H0⟩, ⟨%d1, H1⟩, ⟨%d2, H2⟩, ⟨%d3, H3⟩, ⟨%d4, H4⟩, ⟨%d5, H5⟩⟩
  have hb := fun K => body_owns c (grid0.coords t) _ (hstage0_0 (cfg0.slots t 0)) _ (hstage0_1 (cfg0.slots t 1)) _ (hstage0_2 (cfg0.slots t 2)) _ (hstage0_3 (cfg0.slots t 3)) _ (hstage0_4 (cfg0.slots t 4)) _ (hstage0_5 (cfg0.slots t 5)) _ (Memref.isWhole_whole cc0_scratch0) _ (Memref.isWhole_whole cc0_scratch1) (iblk m c 0 t) (iblk m c 1 t) (iblk m c 2 t) (iblk m c 3 t) (iblk m c 4 t) Set.univ K
  simp only [owns_whole] at hb
  iapply (hb _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, ⟨%g6, H6⟩, ⟨%g7, H7⟩⟩
  isplitl [H6 H7 Hr]
  · isplitl [H6 H7]
    · isplitl [H6]; · iexists _; iexact H6
      iexists _; iexact H7
    iexact Hr
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- Every weakly fair execution of @main terminates, the result's array at the blocks written back and every semaphore
    counter at zero. -/
theorem vrun : θ_run defs (onTc (τ := τ) (main (F := Ideal))) (s₀ m ρ)
    (fun r => Pipeline.FramePost cfgs (vdats m) 0 (V m) r ∧ r.2.sem = fun _ => 0) :=
  Pipeline.θ_run_frame (Q' := _) cfgs (vdats m) (0 : Fin 1) launch0 defs₀ 𝒱₀ m ρ main
    (hbody := fun c => (vbody_obligation m c).loose) (hshare := fun c => (vdats m 0 c).share_full fun _ => rfl)
    (howed := fun _ _ => rfl) (V := V m) (hmain := hmain m 𝒱₀) (hA := vA_eq m) (hΦ := fun _ _ => rfl)

end Cert.KernelIdeal.Attn
-- ==== Proof.AttnA.Blocks.lean ====
/-
  The result array of the attention kernel, index by index: batch `b`, row `s`, lane `l` lies in the block of head pair
  `l / 128`, at lane `l % 128`.
-/
module

public import proofs.«01_k».proof.Proof.AttnA.ValueI
public import proofs.«01_k».proof.Proof.Gen.KernelIdeal.Points
public import Idealize.ShloMosaic.Lib.Pipeline.Covers

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- Batch `b`'s rows of head pair `p`. -/
def blk3 (X : Vec Ideal S16x2048x512 .bf16) (p : Fin 4) (b : Fin 16) : Vec Ideal S1x2048x128 .bf16 :=
  fun y => X (ix3 b (y 1) ⟨p.val * 128 + (y 2).val, by have : (y 2).val < 128 := (y 2).isLt; omega⟩)
/-- The bias rows of head pair `p`. -/
def blk2 (B : Vec Ideal S1024x640 .f32) (p : Fin 4) : Vec Ideal S256x640 .f32 :=
  fun y => B (ix2 ⟨p.val * 256 + (y 0).val, by have : (y 0).val < 256 := (y 0).isLt; omega⟩ (y 1))

/-- The block index of the windows on `[16, 2048, 512]` arrays. -/
theorem tr5 (i : grid0.Coords) : cc0_transform_5 i 0 = (i 1).val ∧ cc0_transform_5 i 1 = 0 ∧ cc0_transform_5 i 2 = (i 0).val := by
  have h0 : (i 0).val < 4 := (i 0).isLt
  have h1 : (i 1).val < 16 := (i 1).isLt
  refine ⟨?_, rfl, ?_⟩
  · show (BitVec.ofNat 32 (i 1).val).toNat = _
    rw [BitVec.toNat_ofNat]; omega
  · show (BitVec.ofNat 32 (i 0).val).toNat = _
    rw [BitVec.toNat_ofNat]; omega
theorem tr4 (i : grid0.Coords) : cc0_transform_4 i 0 = (i 0).val ∧ cc0_transform_4 i 1 = 0 := by
  have h0 : (i 0).val < 4 := (i 0).isLt
  refine ⟨?_, rfl⟩
  show (BitVec.ofNat 32 (i 0).val).toNat = _
  rw [BitVec.toNat_ofNat]; omega

/-- Where an index of the result's block lies. -/
def at5 (t : Fin cfg0.N) (y : S1x2048x128.Idx) : S16x2048x512.Idx :=
  ix3 (n0 := 16) (n1 := 2048) (n2 := 512) (grid0.coords t 1) (y 1) ⟨(grid0.coords t 0).val * 128 + (y 2).val, by
        have h : (y 2).val < 128 := (y 2).isLt
        have h' : (grid0.coords t 0).val < 4 := (grid0.coords t 0).isLt
        omega⟩
theorem emb5 (t : Fin cfg0.N) (y : S1x2048x128.Idx) : ((cfg0.win 5).blk t).view.emb y = at5 t y := by
  obtain ⟨e0, e1, e2⟩ := tr5 (grid0.coords t)
  have hy0 : (y 0).val < 1 := (y 0).isLt
  unfold at5
  funext a; apply Fin.ext
  match a with
  | ⟨0, _⟩ => show cc0_transform_5 (grid0.coords t) (0 : Fin 3) * 1 + 1 * (y 0).val = (grid0.coords t 1).val; rw [e0]; omega
  | ⟨1, _⟩ => show cc0_transform_5 (grid0.coords t) (1 : Fin 3) * 2048 + 1 * (y 1).val = (y 1).val; rw [e1]; omega
  | ⟨2, _⟩ => show cc0_transform_5 (grid0.coords t) (2 : Fin 3) * 128 + 1 * (y 2).val = (grid0.coords t 0).val * 128 + (y 2).val; rw [e2]; omega
/-- Where an index of the bias block lies. -/
def at4 (t : Fin cfg0.N) (y : S256x640.Idx) : S1024x640.Idx :=
  ix2 (n0 := 1024) (n1 := 640) ⟨(grid0.coords t 0).val * 256 + (y 0).val, by
        have h : (y 0).val < 256 := (y 0).isLt
        have h' : (grid0.coords t 0).val < 4 := (grid0.coords t 0).isLt
        omega⟩ (y 1)
theorem emb4 (t : Fin cfg0.N) (y : S256x640.Idx) : ((cfg0.win 4).blk t).view.emb y = at4 t y := by
  obtain ⟨e0, e1⟩ := tr4 (grid0.coords t)
  unfold at4
  funext a; apply Fin.ext
  match a with
  | ⟨0, _⟩ => show cc0_transform_4 (grid0.coords t) (0 : Fin 2) * 256 + 1 * (y 0).val = (grid0.coords t 0).val * 256 + (y 0).val; rw [e0]; omega
  | ⟨1, _⟩ => show cc0_transform_4 (grid0.coords t) (1 : Fin 2) * 640 + 1 * (y 1).val = (y 1).val; rw [e1]; omega

theorem iblk_0 (c : Dev nD) (t : Fin cfg0.N) : iblk m c 0 t = blk3 (V m c main_v2) (grid0.coords t 0) (grid0.coords t 1) :=
  funext fun y => congrArg (V m c main_v2) (emb5 t y)
theorem iblk_1 (c : Dev nD) (t : Fin cfg0.N) : iblk m c 1 t = blk3 (V m c main_v3) (grid0.coords t 0) (grid0.coords t 1) :=
  funext fun y => congrArg (V m c main_v3) (emb5 t y)
theorem iblk_2 (c : Dev nD) (t : Fin cfg0.N) : iblk m c 2 t = blk3 (V m c main_v4) (grid0.coords t 0) (grid0.coords t 1) :=
  funext fun y => congrArg (V m c main_v4) (emb5 t y)
theorem iblk_3 (c : Dev nD) (t : Fin cfg0.N) : iblk m c 3 t = blk3 (V m c main_v10) (grid0.coords t 0) (grid0.coords t 1) :=
  funext fun y => congrArg (V m c main_v10) (emb5 t y)
theorem iblk_4 (c : Dev nD) (t : Fin cfg0.N) : iblk m c 4 t = blk2 (V m c main_v33) (grid0.coords t 0) :=
  funext fun y => congrArg (V m c main_v33) (emb4 t y)

/-- The block of head pair `p` of batch `b` of the result. -/
def oblk (c : Dev nD) (p : Fin 4) (b : Fin 16) : Vec Ideal S1x2048x128 .bf16 :=
  obk (blk3 (V m c main_v2) p b) (blk3 (V m c main_v3) p b) (blk3 (V m c main_v4) p b) (blk3 (V m c main_v10) p b)
    (blk2 (V m c main_v33) p)
/-- The head pair of lane `l`. -/
def pairOf (l : Fin 512) : Fin 4 := ⟨l.val / 128, by omega⟩
/-- Its lane in the block. -/
def laneOf (l : Fin 512) : Fin 128 := ⟨l.val % 128, Nat.mod_lt _ (by decide)⟩

/-- The result array: its element at batch `i 0`, row `i 1`, lane `i 2`. -/
def result (c : Dev nD) : Vec Ideal S16x2048x512 .bf16 := fun i =>
  oblk m c (pairOf (i 2)) (i 0) (ix3 0 (i 1) (laneOf (i 2)))

theorem result_at5 (c : Dev nD) (t : Fin cfg0.N) (y : S1x2048x128.Idx) :
    result m c (at5 t y) = oblk m c (grid0.coords t 0) (grid0.coords t 1) y := by
  have hy0 : (y 0).val < 1 := (y 0).isLt
  have hy2 : (y 2).val < 128 := (y 2).isLt
  have h' : (grid0.coords t 0).val < 4 := (grid0.coords t 0).isLt
  have ep : pairOf (at5 t y 2) = grid0.coords t 0 := Fin.ext (by
    show ((grid0.coords t 0).val * 128 + (y 2).val) / 128 = (grid0.coords t 0).val; omega)
  have ey : (ix3 (n0 := 1) 0 (at5 t y 1) (laneOf (at5 t y 2)) : S1x2048x128.Idx) = y := by
    funext a; apply Fin.ext
    match a with
    | ⟨0, _⟩ => show 0 = (y 0).val; omega
    | ⟨1, _⟩ => rfl
    | ⟨2, _⟩ => show ((grid0.coords t 0).val * 128 + (y 2).val) % 128 = (y 2).val; omega
  unfold result
  rw [ep, ey]
  rfl

theorem flushed5 (c : Dev nD) (t : Fin cfg0.N) :
    (vdats m 0 c).flushed 5 t = ((cfg0.win 5).blk t).view.read (Elt Ideal) (result m c) := by
  show (cfg0.win 5).cut (grid0.coords t) ((vdats m 0 c).after 5 t) = _
  rw [vafter_5, iblk_0, iblk_1, iblk_2, iblk_3, iblk_4]
  funext y
  show oblk m c (grid0.coords t 0) (grid0.coords t 1) y = result m c (((cfg0.win 5).blk t).view.emb y)
  rw [emb5]
  exact (result_at5 m c t y).symm

theorem covered5 (i : S16x2048x512.Idx) :
    ∃ t : Fin cfg0.N, (cfg0.win 5).flush t = true ∧ i ∈ ((cfg0.win 5).blk t).view.set := by
  have h2 : (i 2).val < 512 := (i 2).isLt
  obtain ⟨t, ht⟩ := grid0.coords_surjective (fun a => match a with
    | ⟨0, _⟩ => (⟨(i 2).val / 128, by omega⟩ : Fin 4)
    | ⟨1, _⟩ => (⟨(i 0).val, (i 0).isLt⟩ : Fin 16))
  have h0 : (grid0.coords t 0).val = (i 2).val / 128 := by rw [ht]
  have h1 : (grid0.coords t 1).val = (i 0).val := by rw [ht]
  refine ⟨t, flush0_5 t, ?_⟩
  have h := ((cfg0.win 5).blk t).view.emb_mem_set (ix3 (n0 := 1) (n1 := 2048) (n2 := 128) 0 (i 1) ⟨(i 2).val % 128, Nat.mod_lt _ (by decide)⟩)
  rw [emb5] at h
  have e : at5 t (ix3 (n0 := 1) (n1 := 2048) (n2 := 128) 0 (i 1) ⟨(i 2).val % 128, Nat.mod_lt _ (by decide)⟩) = i := by
    funext a; apply Fin.ext
    match a with
    | ⟨0, _⟩ => exact h1
    | ⟨1, _⟩ => rfl
    | ⟨2, _⟩ =>
      show (grid0.coords t 0).val * 128 + (i 2).val % 128 = (i 2).val
      omega
  rw [e] at h
  exact h

/-- The result array after the run. -/
theorem final5 (c : Dev nD) : (vdats m 0 c).arrAt 5 cfg0.N = result m c :=
  (vdats m 0 c).arrAt_eq_of_cover 5 (result m c) (fun t _ => flushed5 m c t) covered5

/-- The run with the result named and the arguments kept. -/
theorem result_run (ρ : Dev nD → PrngReg) : θ_run defs (onTc (τ := τ) (main (F := Ideal))) ⟨m, fun _ => 0, ρ⟩ (fun r => (∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).1 5).trans (final5 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (vrun m ρ)

end Cert.KernelIdeal.Attn
-- ==== Proof.AttnA.Host.lean ====
/-
  The kernel's input arrays as the host prepares them, read at an index: scaled queries, keys, values, the gate's
  `silu`, and the bias block of each head with minus infinity where the mask is off.
-/
module

public import proofs.«01_k».proof.Proof.Gen.KernelIdeal.Frame
public import proofs.«01_k».proof.Proof.AttnA.Scores
public import Idealize.ShloMosaic.Lib.StableHlo.ReadAt

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ)

theorem V_v2 (c : Dev nD) (b : Fin 16) (s : Fin 2048) (l : Fin 512) :
    V m c main_v2 (ix3 b s l) = (show EReal from m ((c.tc : Thread nD τ).loc main_arg0) (ix3 b s l)) * sc := by
  unfold V
  simp only [hostOps0, hostOps0_1, hostOps0_2, hostOps0_3, hostOps0_4, hostOps0_5, hostOps0_6, List.flatten_cons, List.flatten_nil, List.append_nil, List.cons_append, List.nil_append]
  after_reads_at
  rfl

theorem V_v3 (c : Dev nD) (b : Fin 16) (s : Fin 2048) (l : Fin 512) :
    V m c main_v3 (ix3 b s l) = (m ((c.tc : Thread nD τ).loc main_arg1) (ix3 b s l) : EReal) := by
  unfold V
  simp only [hostOps0, hostOps0_1, hostOps0_2, hostOps0_3, hostOps0_4, hostOps0_5, hostOps0_6, List.flatten_cons, List.flatten_nil, List.append_nil, List.cons_append, List.nil_append]
  after_reads_at

theorem V_v4 (c : Dev nD) (b : Fin 16) (s : Fin 2048) (l : Fin 512) :
    V m c main_v4 (ix3 b s l) = (m ((c.tc : Thread nD τ).loc main_arg2) (ix3 b s l) : EReal) := by
  unfold V
  simp only [hostOps0, hostOps0_1, hostOps0_2, hostOps0_3, hostOps0_4, hostOps0_5, hostOps0_6, List.flatten_cons, List.flatten_nil, List.append_nil, List.cons_append, List.nil_append]
  after_reads_at

theorem V_v10 (c : Dev nD) (b : Fin 16) (s : Fin 2048) (l : Fin 512) :
    V m c main_v10 (ix3 b s l) = silu (m ((c.tc : Thread nD τ).loc main_arg3) (ix3 b s l) : EReal) := by
  unfold V
  simp only [hostOps0, hostOps0_1, hostOps0_2, hostOps0_3, hostOps0_4, hostOps0_5, hostOps0_6, List.flatten_cons, List.flatten_nil, List.append_nil, List.cons_append, List.nil_append]
  after_reads_at
  rfl

/-- Row `i` of head `h`'s bias block at column `q`. -/
def biasVal (T : Vec Ideal S8x257 .f32) (h : Fin 8) (i q : ℕ) : EReal :=
  if q / 64 ≤ 8 + i / 64 ∧ 8 + i / 64 ≤ q / 64 + 8 then
    T (ix2 h (colOf (IntOp.subi (IntOp.addi 512#32 (BitVec.ofNat 32 i)) (BitVec.ofNat 32 q)))) else ⊥

theorem V_v33 (c : Dev nD) (r : Fin 1024) (q : Fin 640) :
    V m c main_v33 (ix2 r q) = biasVal (m ((c.tc : Thread nD τ).loc main_arg4)) ⟨r.val / 128, by omega⟩ (r.val % 128) q.val := by
  have hr := r.isLt
  have hq := q.isLt
  unfold V
  simp only [hostOps0, hostOps0_1, hostOps0_2, hostOps0_3, hostOps0_4, hostOps0_5, hostOps0_6, List.flatten_cons, List.flatten_nil, List.append_nil, List.cons_append, List.nil_append]
  after_reads_at
  rw [show (64#32 : BitVec 32) = BitVec.ofNat 32 64 from rfl,
    Routing.divsi_word .host (show q.val < 2 ^ 31 by omega) (by norm_num) (by norm_num),
    Routing.divsi_word .host (show r.val % 128 < 2 ^ 31 by omega) (by norm_num) (by norm_num),
    show IntOp.addi 8#32 (BitVec.ofNat 32 (r.val % 128 / 64)) = BitVec.ofNat 32 (8 + r.val % 128 / 64) from (BitVec.ofNat_add _ _).symm,
    mask_word (by omega) (by omega), select_ofBool]
  unfold biasVal
  have hg := gather_col (H := 8) (K := 257) (M := 128) (N := 640) (w := 32) (by norm_num) gather_S8x257_S128x640x1_S8x128x640_0_1_n_n_1_2_81_wf
    (m (c, Proc.tc.devRef main_arg4))
  congr 1
  · refine (hg _ _ _ _).trans ?_
    rfl

end Cert.KernelIdeal.Attn
-- ==== Proof.AttnA.KVal.lean ====
/-
  The kernel's windowed scores are the masked scores on the window, so its output element is the masked attention's.
-/
module

public import proofs.«01_k».proof.Proof.AttnA.Spec
public import proofs.«01_k».proof.Proof.AttnA.Band
public import proofs.«01_k».proof.Proof.AttnA.Blocks
public import proofs.«01_k».proof.Proof.AttnA.Host

@[expose] public section

noncomputable section

namespace Cert.KernelIdeal.Attn

open Cert.KernelIdeal Cert.KernelIdeal.Gen
open Idealize.ShloMosaic

theorem row3_blk3 (X : Vec Ideal S16x2048x512 .bf16) (p : Fin 4) (b : Fin 16) (r : ℕ) (hr : r < 2048) (d : Fin 128) :
    row3 (blk3 X p b) r d = X (ix3 b ⟨r, hr⟩ ⟨p.val * 128 + d.val, by omega⟩) := by
  unfold row3
  rw [dif_pos hr]
  rfl

theorem row2_blk2 (B : Vec Ideal S1024x640 .f32) (p : Fin 4) (r : Fin 256) (q : ℕ) (hq : q < 640) :
    row2 (blk2 B p) r q = B (ix2 ⟨p.val * 256 + r.val, by omega⟩ ⟨q, hq⟩) := by
  unfold row2
  rw [dif_pos hq]
  rfl

/-- The first lane of the stacked row's head. -/
def off (r : Fin 256) : ℕ := if r.val < 128 then 0 else 64

theorem off_le (r : Fin 256) : off r ≤ 64 := by unfold off; split <;> omega

/-- The masked sum over the pair's 128 lanes is the sum over the head's 64. -/
theorem head_sum (f g : Fin 128 → EReal) (r : Fin 256) :
    ∑ d : Fin 128, qmask r d (f d) * g d
      = ∑ x : Fin 64, f ⟨off r + x.val, by have := off_le r; omega⟩ * g ⟨off r + x.val, by have := off_le r; omega⟩ := by
  symm
  refine Fintype.sum_of_injective (fun x : Fin 64 => (⟨off r + x.val, by have := off_le r; omega⟩ : Fin 128)) ?_ _ _ ?_ ?_
  · intro x y h
    have := congrArg Fin.val h
    exact Fin.ext (by simpa using this)
  · intro d hd
    have hn : ¬ (r.val < 128 ↔ d.val < 64) := by
      intro h
      apply hd
      by_cases hr : r.val < 128
      · have := h.mp hr
        exact ⟨⟨d.val, this⟩, Fin.ext (by simp [off, hr])⟩
      · have h2 : ¬ d.val < 64 := fun h' => hr (h.mpr h')
        exact ⟨⟨d.val - 64, by omega⟩, Fin.ext (by simp [off, hr]; omega)⟩
    unfold qmask
    rw [if_neg hn, zero_mul]
  · intro x
    unfold qmask
    rw [if_pos]
    have hx := x.isLt
    unfold off
    by_cases hr : r.val < 128
    · simp [hr]
    · simp [hr]

/-- The head of a row of the bias block. -/
def headOf (r : Fin 1024) : Fin 8 := ⟨r.val / 128, by omega⟩

section
variable (Q K Vv G : Rows) (T : Table) (Q' K' V' G' : Vec Ideal S16x2048x512 .bf16) (B : Vec Ideal S1024x640 .f32)
variable (hQ : ∀ b s l, Q' (ix3 b s l) = Q (ix3 b s l) * sc) (hK : ∀ b s l, K' (ix3 b s l) = K (ix3 b s l))
variable (hV : ∀ b s l, V' (ix3 b s l) = Vv (ix3 b s l)) (hG : ∀ b s l, G' (ix3 b s l) = silu (G (ix3 b s l)))
variable (hB : ∀ (r : Fin 1024) (q : Fin 640), B (ix2 r q) = biasVal T (headOf r) (r.val % 128) q.val)

include hQ hK hB in
/-- The scaled score of a stacked row against a key of its window. -/
theorem sval_eq (p : Fin 4) (b : Fin 16) (s : Fin 2048) (l : Fin 512) (n : ℕ) (r : Fin 256) (c : ℕ) (hc : c < Wd n)
    (hs : s.val = n * 128 + r.val % 128) (hp : l.val / 64 * 64 = p.val * 128 + off r) (hj : K0 n + c < 2048) :
    sval (blk3 Q' p b) (blk3 K' p b) (blk2 B p) n r c = score Q K T b s l ⟨K0 n + c, hj⟩ * κ2 := by
  have hr := r.isLt
  have hsl := s.isLt
  have ho : (p.val * 256 + r.val) / 128 = l.val / 64 := by
    unfold off at hp
    split at hp <;> omega
  have hq : B0 n + c < 640 := by unfold B0; unfold Wd at hc; omega
  unfold sval
  refine congrArg (· * κ2) ?_
  rw [row2_blk2 _ _ _ _ hq, hB, head_sum]
  unfold biasVal score headOf
  have hiff : ((B0 n + c) / 64 ≤ 8 + (p.val * 256 + r.val) % 128 / 64 ∧ 8 + (p.val * 256 + r.val) % 128 / 64 ≤ (B0 n + c) / 64 + 8)
      ↔ Seen s.val (K0 n + c) := by
    unfold Seen B0 K0
    unfold Wd at hc
    omega
  by_cases h : Seen s.val (K0 n + c)
  · rw [if_pos (hiff.mpr h), if_pos h]
    have hw : IntOp.subi (IntOp.addi 512#32 (BitVec.ofNat 32 ((p.val * 256 + r.val) % 128))) (BitVec.ofNat 32 (B0 n + c))
        = IntOp.subi (BitVec.ofNat 32 s.val) (BitVec.ofNat 32 (K0 n + c)) := dist_word (by unfold B0 K0; omega)
    have hT : T (ix2 (⟨(p.val * 256 + r.val) / 128, by omega⟩ : Fin 8) (colOf (IntOp.subi (IntOp.addi 512#32 (BitVec.ofNat 32 ((p.val * 256 + r.val) % 128))) (BitVec.ofNat 32 (B0 n + c)))))
        = T (ix2 (⟨l.val / 64, by omega⟩ : Fin 8) (colOf (IntOp.subi (BitVec.ofNat 32 s.val) (BitVec.ofNat 32 (K0 n + c))))) := by
      rw [hw]
      exact congrArg (fun z : Fin 8 => T (ix2 z _)) (Fin.ext ho)
    refine congrArg₂ (· + ·) ?_ hT
    rw [sc_eq, sum_mul_pos _ _ (by norm_num)]
    refine Finset.sum_congr rfl fun x _ => ?_
    have hl : (⟨p.val * 128 + (off r + x.val), by have := off_le r; omega⟩ : Fin 512) = headLane l x :=
      Fin.ext (by show p.val * 128 + (off r + x.val) = l.val / 64 * 64 + x.val; omega)
    rw [row3_blk3 _ _ _ _ (by omega), row3_blk3 _ _ _ _ hj, hQ, hK, ← sc_eq]
    have hs' : (⟨n * 128 + r.val % 128, by omega⟩ : Fin 2048) = s := Fin.ext hs.symm
    rw [hs']
    show Q (ix3 b s ⟨p.val * 128 + (off r + x.val), _⟩) * sc * K (ix3 b _ ⟨p.val * 128 + (off r + x.val), _⟩) = _
    rw [hl, mul_right_comm]
  · rw [if_neg (fun h' => h (hiff.mp h')), if_neg h, EReal.add_bot]

include hQ hK hV hB in
/-- The attention output of a stacked row at a lane. -/
theorem nval_eq (p : Fin 4) (b : Fin 16) (s : Fin 2048) (l : Fin 512) (n : ℕ) (hn : n < 16) (r : Fin 256) (d : Fin 128)
    (hs : s.val = n * 128 + r.val % 128) (hp : l.val / 64 * 64 = p.val * 128 + off r) (hl : l.val = p.val * 128 + d.val)
    (ht : ∀ j, score Q K T b s l j ≠ ⊤) (h0 : score Q K T b s l s ≠ ⊥) :
    nval (blk3 Q' p b) (blk3 K' p b) (blk3 V' p b) (blk2 B p) n r d
      = ∑ j : Fin 2048, Vv (ix3 b j l) * Ideal.div (Ideal.exp (score Q K T b s l j - Finset.univ.fold max ⊥ (score Q K T b s l)))
          (∑ j : Fin 2048, Ideal.exp (score Q K T b s l j - Finset.univ.fold max ⊥ (score Q K T b s l))) := by
  have hw : K0 n + Wd n = (n + 1) * 128 := by unfold K0 Wd; omega
  have hr := r.isLt
  let e : Fin (Wd n) → Fin 2048 := fun c => ⟨K0 n + c.val, by have := c.isLt; omega⟩
  have hsv : ∀ c : Fin (Wd n), sval (blk3 Q' p b) (blk3 K' p b) (blk2 B p) n r c.val = score Q K T b s l (e c) * κ2 :=
    fun c => sval_eq Q K T Q' K' B hQ hK hB p b s l n r c.val c.isLt hs hp _
  have hvv : ∀ c : Fin (Wd n), row3 (blk3 V' p b) (K0 n + c.val) d = Vv (ix3 b (e c) l) := fun c => by
    rw [row3_blk3 _ _ _ _ (by have := c.isLt; omega), hV]
    exact congrArg (fun z : Fin 512 => Vv (ix3 b (e c) z)) (Fin.ext hl.symm)
  unfold nval pval smax
  simp only [hsv, hvv]
  refine band_softmax e ?_ (score Q K T b s l) (fun j => Vv (ix3 b j l)) ht ?_ ⟨s.val - K0 n, by unfold K0 at hw ⊢; omega⟩ ?_
  · intro x y h
    have := congrArg Fin.val h
    exact Fin.ext (by simpa [e] using this)
  · intro j hj
    unfold score
    rw [if_neg]
    intro hseen
    unfold Seen at hseen
    have hk : K0 n ≤ j.val ∧ j.val < K0 n + Wd n := by
      rw [hw]
      unfold K0
      omega
    exact hj ⟨j.val - K0 n, by omega⟩ (Fin.ext (by show K0 n + (j.val - K0 n) = j.val; omega))
  · have : e ⟨s.val - K0 n, by unfold K0 at hw ⊢; omega⟩ = s :=
      Fin.ext (by show K0 n + (s.val - K0 n) = s.val; unfold K0; omega)
    rw [this]
    exact h0

include hQ hK hV hG hB in
/-- The kernel's output element. -/
theorem obk_eq (b : Fin 16) (s : Fin 2048) (l : Fin 512)
    (ht : ∀ j, score Q K T b s l j ≠ ⊤) (h0 : score Q K T b s l s ≠ ⊥) :
    obk (blk3 Q' (pairOf l) b) (blk3 K' (pairOf l) b) (blk3 V' (pairOf l) b) (blk3 G' (pairOf l) b) (blk2 B (pairOf l))
        (ix3 0 s (laneOf l)) = attnVal Q K Vv G T b s l := by
  have hs := s.isLt
  have hl := l.isLt
  show oval _ _ _ _ _ (s.val / 128) ⟨s.val % 128, _⟩ (laneOf l) = _
  unfold oval attnVal
  have hg : row3 (blk3 G' (pairOf l) b) (s.val / 128 * 128 + s.val % 128) (laneOf l) = silu (G (ix3 b s l)) := by
    rw [row3_blk3 _ _ _ _ (by omega), hG]
    refine congrArg silu (congrArg₂ (fun (y : Fin 2048) (z : Fin 512) => G (ix3 b y z)) (Fin.ext ?_) (Fin.ext ?_))
    · show s.val / 128 * 128 + s.val % 128 = s.val; omega
    · show l.val / 128 * 128 + l.val % 128 = l.val; omega
  refine congrArg₂ (· * ·) ?_ hg
  split
  · rename_i h
    have h' : l.val % 128 < 64 := h
    refine nval_eq Q K Vv T Q' K' V' B hQ hK hV hB (pairOf l) b s l (s.val / 128) (by omega) _ (laneOf l) ?_ ?_ ?_ ht h0
    · show s.val = s.val / 128 * 128 + s.val % 128 % 128; omega
    · show l.val / 64 * 64 = l.val / 128 * 128 + off _
      unfold off
      rw [if_pos (by show s.val % 128 < 128; omega)]; omega
    · show l.val = l.val / 128 * 128 + l.val % 128; omega
  · rename_i h
    have h' : ¬ l.val % 128 < 64 := h
    refine nval_eq Q K Vv T Q' K' V' B hQ hK hV hB (pairOf l) b s l (s.val / 128) (by omega) _ (laneOf l) ?_ ?_ ?_ ht h0
    · show s.val = s.val / 128 * 128 + (128 + s.val % 128) % 128; omega
    · show l.val / 64 * 64 = l.val / 128 * 128 + off _
      unfold off
      rw [if_neg (by show ¬ 128 + s.val % 128 < 128; omega)]; omega
    · show l.val = l.val / 128 * 128 + l.val % 128; omega

end

end Cert.KernelIdeal.Attn
-- ==== Proof.AttnA.RefVal.lean ====
/-
  The attention reference's result, read at an index.
-/
module

public import proofs.«01_k».proof.Proof.AttnA.Reference
public import proofs.«01_k».proof.Proof.AttnA.Scores
public import Idealize.ShloMosaic.Lib.Pointwise

@[expose] public section

set_option maxRecDepth 16384

noncomputable section

namespace Cert.ReferenceIdeal.Attn

open Cert.ReferenceIdeal Cert.ReferenceIdeal.Gen Cert.ReferenceIdeal.Value
open Cert.KernelIdeal.Attn (score silu Rows gather_col mask_word select_ofBool ofBits_ninf attnVal mul_sigmoid)
open Idealize.ShloMosaic Idealize.ShloMosaic.TcCoe Idealize.SL.Sem

/-- The reference's masked score, as it is computed, is `score`. -/
theorem score_word (Q K : Rows) (T : Cert.KernelIdeal.Attn.Table) (b : Fin 16) (s : Fin 2048) (l : Fin 512) (x : Fin 2048) :
    Scalar.select
      (IntOp.andi
        (IntOp.cmpi CmpIPredicate.sle (IntOp.divsi ArithUnit.host (BitVec.ofNat 32 x.val) 64#32)
          (IntOp.divsi ArithUnit.host (BitVec.ofNat 32 s.val) 64#32))
        (IntOp.cmpi CmpIPredicate.sge (IntOp.divsi ArithUnit.host (BitVec.ofNat 32 x.val) 64#32)
          (IntOp.subi (IntOp.divsi ArithUnit.host (BitVec.ofNat 32 s.val) 64#32) 8#32)))
      ((∑ x_1 : Fin 64, Q (ix3 b s ⟨l.val / 64 * 64 + x_1.val, by omega⟩) * K (ix3 b x ⟨l.val / 64 * 64 + x_1.val, by omega⟩))
          * Ideal.ofBits FTy.f32 1040187392#32 +
        Host.gather gather_S8x257_S2048x2048x1_S8x2048x2048_0_1_n_n_1_2_81 T
          (broadcastInDim S2048x2048x1 ![0, 1] bcast_S2048x2048_S2048x2048x1_0_1
            (addi
              (minsi (broadcastInDim S2048x2048 ![] bcast_S_S2048x2048 (id (constantI S_ 32 128#32)))
                (maxsi (broadcastInDim S2048x2048 ![] bcast_S_S2048x2048 (id (constantI S_ 32 4294967168#32)))
                  (subi (iotaInDim S2048x2048 32 0) (iotaInDim S2048x2048 32 1))))
              (broadcastInDim S2048x2048 ![] bcast_S_S2048x2048 (constantI S_ 32 128#32))))
          (ix3 ⟨l.val / 64, by omega⟩ s x))
      (id (constant (F := Ideal) S_ FTy.f32 4286578688#32) ix0) = score Q K T b s l x := by
  have hs := s.isLt
  have hx := x.isLt
  rw [show (64#32 : BitVec 32) = BitVec.ofNat 32 64 from rfl,
    Routing.divsi_word .host (show x.val < 2 ^ 31 by omega) (by norm_num) (by norm_num),
    Routing.divsi_word .host (show s.val < 2 ^ 31 by omega) (by norm_num) (by norm_num),
    mask_word (by omega) (by omega), select_ofBool]
  unfold score Cert.KernelIdeal.Attn.Seen
  have hg := gather_col (H := 8) (K := 257) (M := 2048) (N := 2048) (w := 32) (by norm_num) gather_S8x257_S2048x2048x1_S8x2048x2048_0_1_n_n_1_2_81_wf T
  have e := hg (broadcastInDim S2048x2048x1 ![0, 1] bcast_S2048x2048_S2048x2048x1_0_1
            (addi
              (minsi (broadcastInDim S2048x2048 ![] bcast_S_S2048x2048 (id (constantI S_ 32 128#32)))
                (maxsi (broadcastInDim S2048x2048 ![] bcast_S_S2048x2048 (id (constantI S_ 32 4294967168#32)))
                  (subi (iotaInDim S2048x2048 32 0) (iotaInDim S2048x2048 32 1))))
              (broadcastInDim S2048x2048 ![] bcast_S_S2048x2048 (constantI S_ 32 128#32)))) ⟨l.val / 64, by omega⟩ s x
  have e0 : (id (constant (F := Ideal) S_ FTy.f32 4286578688#32) ix0 : EReal) = ⊥ := ofBits_ninf
  rw [e0]
  exact congrArg (fun z => ite _ (_ + z) (⊥ : EReal)) e

set_option maxHeartbeats 4000000 in
/-- The reference's result at an index. -/
theorem res_at (m : (ℓ : Loc nD τ sig) → Buf (Elt Ideal) ℓ) (c : Dev nD) (b : Fin 16) (s : Fin 2048) (l : Fin 512) :
    (res_main_v40 m c : S16x2048x512.Idx → EReal) (ix3 b s l)
      = attnVal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b s l := by
  pointwise [res_main_v40]
  have hw := score_word (m ((c.tc : Thread nD τ).loc main_arg0)) (m ((c.tc : Thread nD τ).loc main_arg1)) (m ((c.tc : Thread nD τ).loc main_arg4)) b s l
  simp only [hw, ofBits_ninf]
  exact congrArg (_ * ·) (mul_sigmoid _)

end Cert.ReferenceIdeal.Attn
-- ==== Proof.AttnA.Value.lean ====
/-
  The kernel's result array is the reference's, and both programs leave it: the value claim.
-/
module

public import proofs.«01_k».proof.Proof.AttnA.Finite
public import proofs.«01_k».proof.Proof.AttnA.KVal
public import proofs.«01_k».proof.Proof.AttnA.RefVal

@[expose] public section

noncomputable section

namespace Cert.KernelIdeal.Attn

open Cert.KernelIdeal Cert.KernelIdeal.Gen
open Idealize.ShloMosaic Idealize.SL.Sem

/-- The kernel's result at an index. -/
theorem result_at (m : (ℓ : Loc nD τ sig) → Buf (Elt Ideal) ℓ) (hp : Cert.Pre_KernelIdeal_finite m) (c : Dev nD)
    (b : Fin 16) (s : Fin 2048) (l : Fin 512) :
    (result m c : S16x2048x512.Idx → EReal) (ix3 b s l)
      = attnVal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b s l := by
  obtain ⟨hQ, hK, hT⟩ := Cert.Pre_finite.real_of_fn _ _ _ _ _ (hp c)
  exact obk_eq (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (V m c main_v2) (V m c main_v3) (V m c main_v4) (V m c main_v10) (V m c main_v33)
    (V_v2 m c) (V_v3 m c) (V_v4 m c) (V_v10 m c) (V_v33 m c) b s l
    (fun j => score_ne_top _ _ _ hQ hK hT b s l j) (score_self_ne_bot _ _ _ hQ hK hT b s l)

/-- The two result arrays are equal when the arguments are. -/
theorem result_eq (m : (ℓ : Loc nD τ sig) → Buf (Elt Ideal) ℓ) (hp : Cert.Pre_KernelIdeal_finite m)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    Cert.ReferenceIdeal.Value.res_main_v40 m' c = result m c := by
  funext i
  obtain ⟨b, s, l, rfl⟩ : ∃ (b : Fin 16) (s : Fin 2048) (l : Fin 512), i = ix3 b s l :=
    ⟨i 0, i 1, i 2, funext fun a => match a with | ⟨0, _⟩ => rfl | ⟨1, _⟩ => rfl | ⟨2, _⟩ => rfl⟩
  refine (Cert.ReferenceIdeal.Attn.res_at m' c b s l).trans ?_
  rw [h0, h1, h2, h3, h4]
  exact (result_at m hp c b s l).symm

/-- The kernel computes the reference over the reals. -/
theorem value : Cert.algebraic_KernelIdeal_ReferenceIdeal_pre_finite := fun m g m' g' hp hm =>
  ⟨fun c => result m c,
    (θ_run defs _ _).mono (fun _ h => h.1) (result_run m g),
    (θ_run Cert.ReferenceIdeal.defs _ _).mono
      (fun _ h c => ⟨(h c).1.trans (result_eq m hp m' c (hm c).1 (hm c).2.1 (hm c).2.2.1 (hm c).2.2.2.1 (hm c).2.2.2.2), (h c).2⟩)
      (Cert.ReferenceIdeal.Value.run m' g')⟩

end Cert.KernelIdeal.Attn
-- ==== Proof.ProjAB.Pay.lean ====
/-
  What the projection kernel's body computes, element by element: the row of `x` scaled by the reciprocal root of its mean
  square and by the gain, multiplied into a column of the weights. Every block the body stores is such an element, scaled
  (the queries), gated (the gates), or in another order of the axes (the cached heads).
-/
module

public import proofs.«01_k».proof.Proof.Gen.Kernel2Ideal.Skeleton
public import Idealize.ShloMosaic.Lib.Pointwise

@[expose] public section

noncomputable section

namespace Cert.Kernel2Ideal.Proj

open Cert.Kernel2Ideal Cert.Kernel2Ideal.Gen
open Idealize.ShloMosaic

/-- The reciprocal root mean square of a row. -/
def rms (x : Fin 1024 → EReal) : EReal :=
  Ideal.rsqrt (Ideal.div (∑ k, x k * x k) (Ideal.ofBits FTy.f32 1149239296#32) + Ideal.ofBits FTy.f32 897988541#32)
/-- One element of the projection: a normalized row times a column. -/
def proj (x g w : Fin 1024 → EReal) : EReal := ∑ k, x k * rms x * g k * w k
/-- Row `r` of a block's last half. -/
def tailRow (r : Fin 512) : Fin 1024 := ⟨512 + r.val, by omega⟩
/-- The query scale. -/
def scale : EReal := Ideal.ofBits FTy.f32 1043900987#32
/-- The gate of a value. -/
def silu (u : EReal) : EReal := Ideal.div u (1 + Ideal.exp (-u))

theorem pay8 (x : Vec Ideal S1024x1024 .f32) (g : Vec Ideal S1x1024 .f32) (r k : Fin 1024) :
    k0_pay8 (F := Ideal) x g (ix2 r k) = (x (ix2 r k) * rms (fun j => x (ix2 r j)) * g (ix2 0 k) : EReal) := by
  pointwise [k0_pay8]
  rfl
theorem pay20 (x : Vec Ideal S1024x1024 .f32) (g : Vec Ideal S1x1024 .f32) (r k : Fin 1024) :
    k0_pay20 (F := Ideal) x g (ix2 r k) = (x (ix2 r k) * rms (fun j => x (ix2 r j)) * g (ix2 0 k) : EReal) := by
  pointwise [k0_pay20]
  rfl
theorem pay9 (x : Vec Ideal S1024x1024 .f32) (g : Vec Ideal S1x1024 .f32) (w : Vec Ideal S1024x512 .bf16) (r : Fin 1024) (l : Fin 512) :
    k0_pay9 (F := Ideal) x g w (ix2 r l) = (silu (proj (fun k => x (ix2 r k)) (fun k => g (ix2 0 k)) (fun k => w (ix2 k l))) : EReal) := by
  pointwise [k0_pay9]
  simp only [pay8]
  rw [zero_sub]
  rfl
theorem pay21 (x : Vec Ideal S1024x1024 .f32) (g : Vec Ideal S1x1024 .f32) (w : Vec Ideal S1024x512 .bf16) (r : Fin 1024) (l : Fin 512) :
    k0_pay21 (F := Ideal) x g w (ix2 r l) = (silu (proj (fun k => x (ix2 r k)) (fun k => g (ix2 0 k)) (fun k => w (ix2 k l))) : EReal) := by
  pointwise [k0_pay21]
  simp only [pay20]
  rw [zero_sub]
  rfl
theorem pay10 (x : Vec Ideal S1024x1024 .f32) (g : Vec Ideal S1x1024 .f32) (w : Vec Ideal S1024x512 .bf16) (r : Fin 1024) (l : Fin 512) :
    k0_pay10 (F := Ideal) x g w (ix2 r l) = (silu (proj (fun k => x (ix2 r k)) (fun k => g (ix2 0 k)) (fun k => w (ix2 k l))) : EReal) := by
  pointwise [k0_pay10]
  simp only [pay8]
  rw [zero_sub]
  rfl
theorem pay22 (x : Vec Ideal S1024x1024 .f32) (g : Vec Ideal S1x1024 .f32) (w : Vec Ideal S1024x512 .bf16) (r : Fin 1024) (l : Fin 512) :
    k0_pay22 (F := Ideal) x g w (ix2 r l) = (silu (proj (fun k => x (ix2 r k)) (fun k => g (ix2 0 k)) (fun k => w (ix2 k l))) : EReal) := by
  pointwise [k0_pay22]
  simp only [pay20]
  rw [zero_sub]
  rfl
theorem pay12 (x : Vec Ideal S1024x1024 .f32) (g : Vec Ideal S1x1024 .f32) (w : Vec Ideal S1024x512 .bf16) (r : Fin 1024) (l : Fin 512) :
    k0_pay12 (F := Ideal) (k0_pay8 x g) w (ix2 r l) = (proj (fun k => x (ix2 r k)) (fun k => g (ix2 0 k)) (fun k => w (ix2 k l)) : EReal) := by
  pointwise [k0_pay12, k0_pay11]
  simp only [pay8]
  rfl
theorem pay15 (x : Vec Ideal S1024x1024 .f32) (g : Vec Ideal S1x1024 .f32) (w : Vec Ideal S1024x512 .bf16) (r : Fin 1024) (l : Fin 512) :
    k0_pay15 (F := Ideal) (k0_pay8 x g) w (ix2 r l) = (proj (fun k => x (ix2 r k)) (fun k => g (ix2 0 k)) (fun k => w (ix2 k l)) : EReal) := by
  pointwise [k0_pay15, k0_pay14]
  simp only [pay8]
  rfl
theorem pay18 (x : Vec Ideal S1024x1024 .f32) (g : Vec Ideal S1x1024 .f32) (w : Vec Ideal S1024x512 .bf16) (r : Fin 1024) (l : Fin 512) :
    k0_pay18 (F := Ideal) (k0_pay8 x g) w (ix2 r l) = (proj (fun k => x (ix2 r k)) (fun k => g (ix2 0 k)) (fun k => w (ix2 k l)) : EReal) := by
  pointwise [k0_pay18, k0_pay17]
  simp only [pay8]
  rfl
theorem pay2 (x : Vec Ideal S1024x1024 .f32) (g : Vec Ideal S1x1024 .f32) (w : Vec Ideal S1024x512 .bf16) (r : Fin 1024) (l : Fin 512) :
    k0_pay2 (F := Ideal) (k0_pay8 x g) w (ix2 r l) = (proj (fun k => x (ix2 r k)) (fun k => g (ix2 0 k)) (fun k => w (ix2 k l)) : EReal) := by
  pointwise [k0_pay2, k0_pay1]
  simp only [pay8]
  rfl
theorem pay24 (x : Vec Ideal S1024x1024 .f32) (g : Vec Ideal S1x1024 .f32) (w : Vec Ideal S1024x512 .bf16) (r : Fin 1024) (l : Fin 512) :
    k0_pay24 (F := Ideal) (k0_pay20 x g) w (ix2 r l) = (proj (fun k => x (ix2 r k)) (fun k => g (ix2 0 k)) (fun k => w (ix2 k l)) : EReal) := by
  pointwise [k0_pay24, k0_pay23]
  simp only [pay20]
  rfl
theorem pay27 (x : Vec Ideal S1024x1024 .f32) (g : Vec Ideal S1x1024 .f32) (w : Vec Ideal S1024x512 .bf16) (r : Fin 1024) (l : Fin 512) :
    k0_pay27 (F := Ideal) (k0_pay20 x g) w (ix2 r l) = (proj (fun k => x (ix2 r k)) (fun k => g (ix2 0 k)) (fun k => w (ix2 k l)) : EReal) := by
  pointwise [k0_pay27, k0_pay26]
  simp only [pay20]
  rfl
theorem pay29 (x : Vec Ideal S1024x1024 .f32) (g : Vec Ideal S1x1024 .f32) (w : Vec Ideal S1024x512 .bf16) (r : Fin 1024) (l : Fin 512) :
    k0_pay29 (F := Ideal) (k0_pay20 x g) w (ix2 r l) = (proj (fun k => x (ix2 r k)) (fun k => g (ix2 0 k)) (fun k => w (ix2 k l)) : EReal) := by
  pointwise [k0_pay29]
  simp only [pay20]
  rfl
theorem pay30 (x : Vec Ideal S1024x1024 .f32) (g : Vec Ideal S1x1024 .f32) (w : Vec Ideal S1024x512 .bf16) (r : Fin 1024) (l : Fin 512) :
    k0_pay30 (F := Ideal) (k0_pay20 x g) w (ix2 r l) = (proj (fun k => x (ix2 r k)) (fun k => g (ix2 0 k)) (fun k => w (ix2 k l)) : EReal) := by
  pointwise [k0_pay30]
  simp only [pay20]
  rfl
theorem pay4 (x : Vec Ideal S1024x1024 .f32) (g : Vec Ideal S1x1024 .f32) (w : Vec Ideal S1024x512 .bf16) (r : Fin 1024) (l : Fin 512) :
    k0_pay4 (F := Ideal) (k0_pay8 x g) w (ix2 r l) = (proj (fun k => x (ix2 r k)) (fun k => g (ix2 0 k)) (fun k => w (ix2 k l)) * scale : EReal) := by
  pointwise [k0_pay4]
  simp only [pay8]
  rfl
theorem pay5 (x : Vec Ideal S1024x1024 .f32) (g : Vec Ideal S1x1024 .f32) (w : Vec Ideal S1024x512 .bf16) (r : Fin 1024) (l : Fin 512) :
    k0_pay5 (F := Ideal) (k0_pay8 x g) w (ix2 r l) = (proj (fun k => x (ix2 r k)) (fun k => g (ix2 0 k)) (fun k => w (ix2 k l)) * scale : EReal) := by
  pointwise [k0_pay5]
  simp only [pay8]
  rfl
theorem pay6 (x : Vec Ideal S1024x1024 .f32) (g : Vec Ideal S1x1024 .f32) (w : Vec Ideal S1024x512 .bf16) (r : Fin 1024) (l : Fin 512) :
    k0_pay6 (F := Ideal) (k0_pay20 x g) w (ix2 r l) = (proj (fun k => x (ix2 r k)) (fun k => g (ix2 0 k)) (fun k => w (ix2 k l)) * scale : EReal) := by
  pointwise [k0_pay6]
  simp only [pay20]
  rfl
theorem pay7 (x : Vec Ideal S1024x1024 .f32) (g : Vec Ideal S1x1024 .f32) (w : Vec Ideal S1024x512 .bf16) (r : Fin 1024) (l : Fin 512) :
    k0_pay7 (F := Ideal) (k0_pay20 x g) w (ix2 r l) = (proj (fun k => x (ix2 r k)) (fun k => g (ix2 0 k)) (fun k => w (ix2 k l)) * scale : EReal) := by
  pointwise [k0_pay7]
  simp only [pay20]
  rfl
theorem pay13 (x : Vec Ideal S1024x1024 .f32) (g : Vec Ideal S1x1024 .f32) (w : Vec Ideal S1024x512 .bf16) (r : Fin 1024) (l : Fin 512) :
    k0_pay13 (F := Ideal) (k0_pay8 x g) w (ix3 0 l r) = (proj (fun k => x (ix2 r k)) (fun k => g (ix2 0 k)) (fun k => w (ix2 k l)) : EReal) := by
  pointwise [k0_pay13, k0_pay11]
  simp only [pay8]
  rfl
theorem pay16 (x : Vec Ideal S1024x1024 .f32) (g : Vec Ideal S1x1024 .f32) (w : Vec Ideal S1024x512 .bf16) (r : Fin 1024) (l : Fin 512) :
    k0_pay16 (F := Ideal) (k0_pay8 x g) w (ix3 0 l r) = (proj (fun k => x (ix2 r k)) (fun k => g (ix2 0 k)) (fun k => w (ix2 k l)) : EReal) := by
  pointwise [k0_pay16, k0_pay14]
  simp only [pay8]
  rfl
theorem pay25 (x : Vec Ideal S1024x1024 .f32) (g : Vec Ideal S1x1024 .f32) (w : Vec Ideal S1024x512 .bf16) (r : Fin 1024) (l : Fin 512) :
    k0_pay25 (F := Ideal) (k0_pay20 x g) w (ix3 0 l r) = (proj (fun k => x (ix2 r k)) (fun k => g (ix2 0 k)) (fun k => w (ix2 k l)) : EReal) := by
  pointwise [k0_pay25, k0_pay23]
  simp only [pay20]
  rfl
theorem pay28 (x : Vec Ideal S1024x1024 .f32) (g : Vec Ideal S1x1024 .f32) (w : Vec Ideal S1024x512 .bf16) (r : Fin 1024) (l : Fin 512) :
    k0_pay28 (F := Ideal) (k0_pay20 x g) w (ix3 0 l r) = (proj (fun k => x (ix2 r k)) (fun k => g (ix2 0 k)) (fun k => w (ix2 k l)) : EReal) := by
  pointwise [k0_pay28, k0_pay26]
  simp only [pay20]
  rfl
theorem pay3 (x : Vec Ideal S1024x1024 .f32) (g : Vec Ideal S1x1024 .f32) (w : Vec Ideal S1024x512 .bf16) (r : Fin 512) (l : Fin 512) :
    k0_pay3 (F := Ideal) (k0_pay8 x g) w (ix3 0 l r) = (proj (fun k => x (ix2 (tailRow r) k)) (fun k => g (ix2 0 k)) (fun k => w (ix2 k l)) : EReal) := by
  pointwise [k0_pay3, k0_pay1]
  simp only [pay8]
  rfl
theorem pay19 (x : Vec Ideal S1024x1024 .f32) (g : Vec Ideal S1x1024 .f32) (w : Vec Ideal S1024x512 .bf16) (r : Fin 512) (l : Fin 512) :
    k0_pay19 (F := Ideal) (k0_pay8 x g) w (ix3 0 l r) = (proj (fun k => x (ix2 (tailRow r) k)) (fun k => g (ix2 0 k)) (fun k => w (ix2 k l)) : EReal) := by
  pointwise [k0_pay19, k0_pay17]
  simp only [pay8]
  rfl

end Cert.Kernel2Ideal.Proj
-- ==== Proof.ProjAB.Out.lean ====
/-
  What one run of the projection kernel's body leaves in each output block, in its two cases: a point that starts a batch
  writes no cached tail, the point that ends it does.
-/
module

public import proofs.«01_k».proof.Proof.ProjAB.Pay
public import proofs.«01_k».proof.Proof.Gen.Kernel2Ideal.Frame
public import Idealize.ShloMosaic.Lib.Pipeline.Value
public import Idealize.ShloMosaic.Lib.Tactic

@[expose] public section

noncomputable section

namespace Cert.Kernel2Ideal.Proj

open Cert.Kernel2Ideal Cert.Kernel2Ideal.Gen
open Idealize.ShloMosaic Idealize.ShloMosaic.TcCoe

/-- Column `l` of the 512 columns of part `p` of the weights. -/
def colOf (p : Fin 8) (l : Fin 512) : Fin 4096 := ⟨p.val * 512 + l.val, by omega⟩
/-- The columns of part `p`. -/
def cols (p : Fin 8) (w : Vec Ideal S1024x4096 .bf16) : Vec Ideal S1024x512 .bf16 := fun y => w (ix2 (y 0) (colOf p (y 1)))

theorem hz2 : (![0, 0] : Fin 2 → ℕ) = fun _ => 0 := funext fun a => match a with | ⟨0, _⟩ => rfl | ⟨1, _⟩ => rfl
theorem hz3 : (![0, 0, 0] : Fin 3 → ℕ) = fun _ => 0 :=
  funext fun a => match a with | ⟨0, _⟩ => rfl | ⟨1, _⟩ => rfl | ⟨2, _⟩ => rfl

/-- A load of 512 columns at offset `512 p` is the columns of part `p`. -/
theorem ld_cols (p : Fin 8) (off : Fin 2 → ℕ) (h0 : off 0 = 0) (h1 : off 1 = p.val * 512)
    (inb : ∀ a, off a + (![1024, 512] : Fin 2 → ℕ) a ≤ S1024x4096.size a) (x2 : Vec Ideal S1024x4096 .bf16) :
    View.ld (Val := Elt Ideal) (e' := .bf16) x2 (Rect.unit (s := S1024x4096) off ![1024, 512] inb) = cols p x2 := by
  funext y
  show x2 ((Rect.unit (s := S1024x4096) off ![1024, 512] inb).emb y) = x2 (ix2 (n0 := 1024) (n1 := 4096) (y 0) (colOf p (y 1)))
  congr 1
  funext a; apply Fin.ext
  match a with
  | ⟨0, _⟩ => show off 0 + 1 * (y 0).val = (y 0).val; rw [h0]; omega
  | ⟨1, _⟩ => show off 1 + 1 * (y 1).val = p.val * 512 + (y 1).val; rw [h1]; omega

variable (c : Dev nD) (i : grid0.Coords)
  (a1 : Memref sig .tc .vmem S1024x1024 .f32) (h1 : a1.IsWhole)
  (a2 : Memref sig .tc .vmem S1x1024 .f32) (h2 : a2.IsWhole)
  (a3 : Memref sig .tc .vmem S1024x4096 .bf16) (h3 : a3.IsWhole)
  (a4 : Memref sig .tc .vmem S1024x512 .bf16) (h4 : a4.IsWhole)
  (a5 : Memref sig .tc .vmem S1024x512 .bf16) (h5 : a5.IsWhole)
  (a6 : Memref sig .tc .vmem S1024x512 .bf16) (h6 : a6.IsWhole)
  (a7 : Memref sig .tc .vmem S1024x512 .bf16) (h7 : a7.IsWhole)
  (a8 : Memref sig .tc .vmem S1024x512 .bf16) (h8 : a8.IsWhole)
  (a9 : Memref sig .tc .vmem S1024x512 .bf16) (h9 : a9.IsWhole)
  (a10 : Memref sig .tc .vmem S1024x512 .bf16) (h10 : a10.IsWhole)
  (a11 : Memref sig .tc .vmem S1024x512 .bf16) (h11 : a11.IsWhole)
  (a12 : Memref sig .tc .vmem S1x512x512 .f32) (h12 : a12.IsWhole)
  (a13 : Memref sig .tc .vmem S1x512x512 .f32) (h13 : a13.IsWhole)
  (a14 : Memref sig .tc .vmem S1x512x1024 .f32) (h14 : a14.IsWhole)
  (a15 : Memref sig .tc .vmem S1x512x1024 .f32) (h15 : a15.IsWhole)
  (x0 : Vec Ideal S1024x1024 .f32) (x1 : Vec Ideal S1x1024 .f32) (x2 : Vec Ideal S1024x4096 .bf16)

theorem outA_3 (hc0 : ¬cond0_0 i) (hc1 : cond0_1 i) : out0_A_3 (F := Ideal) c i a1 h1 a2 h2 a3 h3 a4 h4 a5 h5 a6 h6 a7 h7 a8 h8 a9 h9 a10 h10 a11 h11 a12 h12 a13 h13 a14 h14 a15 h15 hc0 hc1 x0 x1 x2 = k0_pay6 (k0_pay20 x0 x1) (cols 0 x2) := by
  unfold out0_A_3
  rw [View.read_writes_eq_canon _ _ _ (cover0_A_3 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 0 _ (by rfl) (by rfl) _ x2

theorem outA_4 (hc0 : ¬cond0_0 i) (hc1 : cond0_1 i) : out0_A_4 (F := Ideal) c i a1 h1 a2 h2 a3 h3 a4 h4 a5 h5 a6 h6 a7 h7 a8 h8 a9 h9 a10 h10 a11 h11 a12 h12 a13 h13 a14 h14 a15 h15 hc0 hc1 x0 x1 x2 = k0_pay29 (k0_pay20 x0 x1) (cols 1 x2) := by
  unfold out0_A_4
  rw [View.read_writes_eq_canon _ _ _ (cover0_A_4 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 1 _ (by rfl) (by rfl) _ x2

theorem outA_5 (hc0 : ¬cond0_0 i) (hc1 : cond0_1 i) : out0_A_5 (F := Ideal) c i a1 h1 a2 h2 a3 h3 a4 h4 a5 h5 a6 h6 a7 h7 a8 h8 a9 h9 a10 h10 a11 h11 a12 h12 a13 h13 a14 h14 a15 h15 hc0 hc1 x0 x1 x2 = k0_pay30 (k0_pay20 x0 x1) (cols 2 x2) := by
  unfold out0_A_5
  rw [View.read_writes_eq_canon _ _ _ (cover0_A_5 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 2 _ (by rfl) (by rfl) _ x2

theorem outA_6 (hc0 : ¬cond0_0 i) (hc1 : cond0_1 i) : out0_A_6 (F := Ideal) c i a1 h1 a2 h2 a3 h3 a4 h4 a5 h5 a6 h6 a7 h7 a8 h8 a9 h9 a10 h10 a11 h11 a12 h12 a13 h13 a14 h14 a15 h15 hc0 hc1 x0 x1 x2 = k0_pay21 x0 x1 (cols 3 x2) := by
  unfold out0_A_6
  rw [View.read_writes_eq_canon _ _ _ (cover0_A_6 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 3 _ (by rfl) (by rfl) _ x2

theorem outA_7 (hc0 : ¬cond0_0 i) (hc1 : cond0_1 i) : out0_A_7 (F := Ideal) c i a1 h1 a2 h2 a3 h3 a4 h4 a5 h5 a6 h6 a7 h7 a8 h8 a9 h9 a10 h10 a11 h11 a12 h12 a13 h13 a14 h14 a15 h15 hc0 hc1 x0 x1 x2 = k0_pay7 (k0_pay20 x0 x1) (cols 4 x2) := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 4 _ (by rfl) (by rfl) _ x2

theorem outA_8 (hc0 : ¬cond0_0 i) (hc1 : cond0_1 i) : out0_A_8 (F := Ideal) c i a1 h1 a2 h2 a3 h3 a4 h4 a5 h5 a6 h6 a7 h7 a8 h8 a9 h9 a10 h10 a11 h11 a12 h12 a13 h13 a14 h14 a15 h15 hc0 hc1 x0 x1 x2 = k0_pay24 (k0_pay20 x0 x1) (cols 5 x2) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 5 _ (by rfl) (by rfl) _ x2

theorem outA_9 (hc0 : ¬cond0_0 i) (hc1 : cond0_1 i) : out0_A_9 (F := Ideal) c i a1 h1 a2 h2 a3 h3 a4 h4 a5 h5 a6 h6 a7 h7 a8 h8 a9 h9 a10 h10 a11 h11 a12 h12 a13 h13 a14 h14 a15 h15 hc0 hc1 x0 x1 x2 = k0_pay27 (k0_pay20 x0 x1) (cols 6 x2) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 6 _ (by rfl) (by rfl) _ x2

theorem outA_10 (hc0 : ¬cond0_0 i) (hc1 : cond0_1 i) : out0_A_10 (F := Ideal) c i a1 h1 a2 h2 a3 h3 a4 h4 a5 h5 a6 h6 a7 h7 a8 h8 a9 h9 a10 h10 a11 h11 a12 h12 a13 h13 a14 h14 a15 h15 hc0 hc1 x0 x1 x2 = k0_pay22 x0 x1 (cols 7 x2) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 7 _ (by rfl) (by rfl) _ x2

theorem outA_13 (hc0 : ¬cond0_0 i) (hc1 : cond0_1 i) : out0_A_13 (F := Ideal) c i a1 h1 a2 h2 a3 h3 a4 h4 a5 h5 a6 h6 a7 h7 a8 h8 a9 h9 a10 h10 a11 h11 a12 h12 a13 h13 a14 h14 a15 h15 hc0 hc1 x0 x1 x2 = k0_pay25 (k0_pay20 x0 x1) (cols 5 x2) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz3]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 5 _ (by rfl) (by rfl) _ x2

theorem outA_14 (hc0 : ¬cond0_0 i) (hc1 : cond0_1 i) : out0_A_14 (F := Ideal) c i a1 h1 a2 h2 a3 h3 a4 h4 a5 h5 a6 h6 a7 h7 a8 h8 a9 h9 a10 h10 a11 h11 a12 h12 a13 h13 a14 h14 a15 h15 hc0 hc1 x0 x1 x2 = k0_pay28 (k0_pay20 x0 x1) (cols 6 x2) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc0 hc1 x0 x1 x2)]
  unfold kernelRun0_A
  dsimp only
  rw [View.canon_unit_zero hz3]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 6 _ (by rfl) (by rfl) _ x2

theorem outB_3 (hc0 : cond0_0 i) (hc1 : ¬cond0_1 i) : out0_B_3 (F := Ideal) c i a1 h1 a2 h2 a3 h3 a4 h4 a5 h5 a6 h6 a7 h7 a8 h8 a9 h9 a10 h10 a11 h11 a12 h12 a13 h13 a14 h14 a15 h15 hc0 hc1 x0 x1 x2 = k0_pay4 (k0_pay8 x0 x1) (cols 0 x2) := by
  unfold out0_B_3
  rw [View.read_writes_eq_canon _ _ _ (cover0_B_3 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 0 _ (by rfl) (by rfl) _ x2

theorem outB_4 (hc0 : cond0_0 i) (hc1 : ¬cond0_1 i) : out0_B_4 (F := Ideal) c i a1 h1 a2 h2 a3 h3 a4 h4 a5 h5 a6 h6 a7 h7 a8 h8 a9 h9 a10 h10 a11 h11 a12 h12 a13 h13 a14 h14 a15 h15 hc0 hc1 x0 x1 x2 = k0_pay18 (k0_pay8 x0 x1) (cols 1 x2) := by
  unfold out0_B_4
  rw [View.read_writes_eq_canon _ _ _ (cover0_B_4 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 1 _ (by rfl) (by rfl) _ x2

theorem outB_5 (hc0 : cond0_0 i) (hc1 : ¬cond0_1 i) : out0_B_5 (F := Ideal) c i a1 h1 a2 h2 a3 h3 a4 h4 a5 h5 a6 h6 a7 h7 a8 h8 a9 h9 a10 h10 a11 h11 a12 h12 a13 h13 a14 h14 a15 h15 hc0 hc1 x0 x1 x2 = k0_pay2 (k0_pay8 x0 x1) (cols 2 x2) := by
  unfold out0_B_5
  rw [View.read_writes_eq_canon _ _ _ (cover0_B_5 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 2 _ (by rfl) (by rfl) _ x2

theorem outB_6 (hc0 : cond0_0 i) (hc1 : ¬cond0_1 i) : out0_B_6 (F := Ideal) c i a1 h1 a2 h2 a3 h3 a4 h4 a5 h5 a6 h6 a7 h7 a8 h8 a9 h9 a10 h10 a11 h11 a12 h12 a13 h13 a14 h14 a15 h15 hc0 hc1 x0 x1 x2 = k0_pay9 x0 x1 (cols 3 x2) := by
  unfold out0_B_6
  rw [View.read_writes_eq_canon _ _ _ (cover0_B_6 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 3 _ (by rfl) (by rfl) _ x2

theorem outB_7 (hc0 : cond0_0 i) (hc1 : ¬cond0_1 i) : out0_B_7 (F := Ideal) c i a1 h1 a2 h2 a3 h3 a4 h4 a5 h5 a6 h6 a7 h7 a8 h8 a9 h9 a10 h10 a11 h11 a12 h12 a13 h13 a14 h14 a15 h15 hc0 hc1 x0 x1 x2 = k0_pay5 (k0_pay8 x0 x1) (cols 4 x2) := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 4 _ (by rfl) (by rfl) _ x2

theorem outB_8 (hc0 : cond0_0 i) (hc1 : ¬cond0_1 i) : out0_B_8 (F := Ideal) c i a1 h1 a2 h2 a3 h3 a4 h4 a5 h5 a6 h6 a7 h7 a8 h8 a9 h9 a10 h10 a11 h11 a12 h12 a13 h13 a14 h14 a15 h15 hc0 hc1 x0 x1 x2 = k0_pay12 (k0_pay8 x0 x1) (cols 5 x2) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 5 _ (by rfl) (by rfl) _ x2

theorem outB_9 (hc0 : cond0_0 i) (hc1 : ¬cond0_1 i) : out0_B_9 (F := Ideal) c i a1 h1 a2 h2 a3 h3 a4 h4 a5 h5 a6 h6 a7 h7 a8 h8 a9 h9 a10 h10 a11 h11 a12 h12 a13 h13 a14 h14 a15 h15 hc0 hc1 x0 x1 x2 = k0_pay15 (k0_pay8 x0 x1) (cols 6 x2) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 6 _ (by rfl) (by rfl) _ x2

theorem outB_10 (hc0 : cond0_0 i) (hc1 : ¬cond0_1 i) : out0_B_10 (F := Ideal) c i a1 h1 a2 h2 a3 h3 a4 h4 a5 h5 a6 h6 a7 h7 a8 h8 a9 h9 a10 h10 a11 h11 a12 h12 a13 h13 a14 h14 a15 h15 hc0 hc1 x0 x1 x2 = k0_pay10 x0 x1 (cols 7 x2) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz2]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 7 _ (by rfl) (by rfl) _ x2

theorem outB_11 (hc0 : cond0_0 i) (hc1 : ¬cond0_1 i) : out0_B_11 (F := Ideal) c i a1 h1 a2 h2 a3 h3 a4 h4 a5 h5 a6 h6 a7 h7 a8 h8 a9 h9 a10 h10 a11 h11 a12 h12 a13 h13 a14 h14 a15 h15 hc0 hc1 x0 x1 x2 = k0_pay19 (k0_pay8 x0 x1) (cols 1 x2) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz3]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 1 _ (by rfl) (by rfl) _ x2

theorem outB_12 (hc0 : cond0_0 i) (hc1 : ¬cond0_1 i) : out0_B_12 (F := Ideal) c i a1 h1 a2 h2 a3 h3 a4 h4 a5 h5 a6 h6 a7 h7 a8 h8 a9 h9 a10 h10 a11 h11 a12 h12 a13 h13 a14 h14 a15 h15 hc0 hc1 x0 x1 x2 = k0_pay3 (k0_pay8 x0 x1) (cols 2 x2) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz3]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 2 _ (by rfl) (by rfl) _ x2

theorem outB_13 (hc0 : cond0_0 i) (hc1 : ¬cond0_1 i) : out0_B_13 (F := Ideal) c i a1 h1 a2 h2 a3 h3 a4 h4 a5 h5 a6 h6 a7 h7 a8 h8 a9 h9 a10 h10 a11 h11 a12 h12 a13 h13 a14 h14 a15 h15 hc0 hc1 x0 x1 x2 = k0_pay13 (k0_pay8 x0 x1) (cols 5 x2) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz3]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 5 _ (by rfl) (by rfl) _ x2

theorem outB_14 (hc0 : cond0_0 i) (hc1 : ¬cond0_1 i) : out0_B_14 (F := Ideal) c i a1 h1 a2 h2 a3 h3 a4 h4 a5 h5 a6 h6 a7 h7 a8 h8 a9 h9 a10 h10 a11 h11 a12 h12 a13 h13 a14 h14 a15 h15 hc0 hc1 x0 x1 x2 = k0_pay16 (k0_pay8 x0 x1) (cols 6 x2) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 hc0 hc1 x0 x1 x2)]
  unfold kernelRun0_B
  dsimp only
  rw [View.canon_unit_zero hz3]
  sl_unfold_words
  simp only [View.readAt_eq_ld, h1.read_unread, h2.read_unread, h3.read_unread, View.ld_unit_zero (S := S1024x1024) hz2,
    View.ld_unit_zero (S := S1x1024) hz2, shapeCast_self]
  congr 1
  exact ld_cols 6 _ (by rfl) (by rfl) _ x2

end Cert.Kernel2Ideal.Proj
-- ==== Proof.ProjAB.Blocks.lean ====
/-
  The projection kernel's twelve result arrays, index by index: row `r` of a flat result lies in the block of point
  `r / 1024`; a batch's cached arrays lie in the blocks of its points.
-/
module

public import proofs.«01_k».proof.Proof.ProjAB.Out
public import proofs.«01_k».proof.Proof.Gen.Kernel2Ideal.Points
public import Idealize.ShloMosaic.Lib.Pipeline.Covers

@[expose] public section

set_option maxRecDepth 16384

noncomputable section

namespace Cert.Kernel2Ideal.Proj

open Cert.Kernel2Ideal Cert.Kernel2Ideal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- Row `r` of point `t`'s rows. -/
def rowAt (t : Fin cfg0.N) (r : Fin 1024) : Fin 32768 := ⟨t.val * 1024 + r.val, by have h : t.val < 32 := t.isLt; omega⟩
/-- Row `s` of batch `b`, among all rows. -/
def rowOf (b : Fin 16) (s : Fin 2048) : Fin 32768 := ⟨b.val * 2048 + s.val, by omega⟩
/-- Row `j` of a batch's last 512. -/
def lateRow (j : Fin 512) : Fin 2048 := ⟨1536 + j.val, by omega⟩
/-- The batch of point `t`. -/
def batchAt (t : Fin cfg0.N) : Fin 16 := ⟨t.val / 2, by have h : t.val < 32 := t.isLt; omega⟩
/-- The place in its batch of row `r` of point `t`. -/
def placeAt (t : Fin cfg0.N) (r : Fin 1024) : Fin 2048 := ⟨t.val % 2 * 1024 + r.val, by omega⟩

/-- Element `l` of part `p` of row `r`'s projection, from the arrays the call is given. -/
def pr (c : Dev nD) (p : Fin 8) (r : Fin 32768) (l : Fin 512) : EReal :=
  proj (fun k => V m c main_v0 (ix2 r k)) (fun k => V m c main_v1 (ix2 0 k)) (fun k => V m c main_v2 (ix2 k (colOf p l)))

theorem tr0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)
theorem tr11 : ∀ t : Fin cfg0.N, cc0_transform_11 (grid0.coords t) 0 = t.val / 2 ∧ cc0_transform_11 (grid0.coords t) 1 = 0 ∧ cc0_transform_11 (grid0.coords t) 2 = 0 :=
  (by decide +kernel : ∀ t : Fin grid0.N, cc0_transform_11 (grid0.coords t) 0 = t.val / 2 ∧ cc0_transform_11 (grid0.coords t) 1 = 0 ∧ cc0_transform_11 (grid0.coords t) 2 = 0)
theorem tr13 : ∀ t : Fin cfg0.N, cc0_transform_13 (grid0.coords t) 0 = t.val / 2 ∧ cc0_transform_13 (grid0.coords t) 1 = 0 ∧ cc0_transform_13 (grid0.coords t) 2 = t.val % 2 :=
  (by decide +kernel : ∀ t : Fin grid0.N, cc0_transform_13 (grid0.coords t) 0 = t.val / 2 ∧ cc0_transform_13 (grid0.coords t) 1 = 0 ∧ cc0_transform_13 (grid0.coords t) 2 = t.val % 2)

/-- Where an index of the block of rows lies. -/
theorem emb0 (t : Fin cfg0.N) (r k : Fin 1024) : ((cfg0.win 0).blk t).view.emb (ix2 (n0 := 1024) (n1 := 1024) r k) = ix2 (n0 := 32768) (n1 := 1024) (rowAt t r) k := by
  obtain ⟨e0, e1⟩ := tr0 t
  funext a; apply Fin.ext
  match a with
  | ⟨0, _⟩ => show cc0_transform_0 (grid0.coords t) (0 : Fin 2) * 1024 + 1 * r.val = t.val * 1024 + r.val; rw [e0]; omega
  | ⟨1, _⟩ => show cc0_transform_0 (grid0.coords t) (1 : Fin 2) * 1024 + 1 * k.val = k.val; rw [e1]; omega
theorem emb1 (t : Fin cfg0.N) (k : Fin 1024) : ((cfg0.win 1).blk t).view.emb (ix2 (n0 := 1) (n1 := 1024) 0 k) = ix2 (n0 := 1) (n1 := 1024) 0 k := by
  funext a; apply Fin.ext
  match a with
  | ⟨0, _⟩ => rfl
  | ⟨1, _⟩ => show 0 * 1024 + 1 * k.val = k.val; omega
theorem emb2 (t : Fin cfg0.N) (k : Fin 1024) (n : Fin 4096) : ((cfg0.win 2).blk t).view.emb (ix2 (n0 := 1024) (n1 := 4096) k n) = ix2 (n0 := 1024) (n1 := 4096) k n := by
  funext a; apply Fin.ext
  match a with
  | ⟨0, _⟩ => show 0 * 1024 + 1 * k.val = k.val; omega
  | ⟨1, _⟩ => show 0 * 4096 + 1 * n.val = n.val; omega
theorem emb3 (t : Fin cfg0.N) (r : Fin 1024) (l : Fin 512) : ((cfg0.win 3).blk t).view.emb (ix2 (n0 := 1024) (n1 := 512) r l) = ix2 (n0 := 32768) (n1 := 512) (rowAt t r) l := by
  obtain ⟨e0, e1⟩ := tr0 t
  funext a; apply Fin.ext
  match a with
  | ⟨0, _⟩ => show cc0_transform_0 (grid0.coords t) (0 : Fin 2) * 1024 + 1 * r.val = t.val * 1024 + r.val; rw [e0]; omega
  | ⟨1, _⟩ => show cc0_transform_0 (grid0.coords t) (1 : Fin 2) * 512 + 1 * l.val = l.val; rw [e1]; omega
theorem emb11 (t : Fin cfg0.N) (l j : Fin 512) : ((cfg0.win 11).blk t).view.emb (ix3 (n0 := 1) (n1 := 512) (n2 := 512) 0 l j) = ix3 (n0 := 16) (n1 := 512) (n2 := 512) (batchAt t) l j := by
  obtain ⟨e0, e1, e2⟩ := tr11 t
  funext a; apply Fin.ext
  match a with
  | ⟨0, _⟩ => show cc0_transform_11 (grid0.coords t) (0 : Fin 3) * 1 + 1 * 0 = t.val / 2; rw [e0]; omega
  | ⟨1, _⟩ => show cc0_transform_11 (grid0.coords t) (1 : Fin 3) * 512 + 1 * l.val = l.val; rw [e1]; omega
  | ⟨2, _⟩ => show cc0_transform_11 (grid0.coords t) (2 : Fin 3) * 512 + 1 * j.val = j.val; rw [e2]; omega
theorem emb13 (t : Fin cfg0.N) (l : Fin 512) (r : Fin 1024) : ((cfg0.win 13).blk t).view.emb (ix3 (n0 := 1) (n1 := 512) (n2 := 1024) 0 l r) = ix3 (n0 := 16) (n1 := 512) (n2 := 2048) (batchAt t) l (placeAt t r) := by
  obtain ⟨e0, e1, e2⟩ := tr13 t
  funext a; apply Fin.ext
  match a with
  | ⟨0, _⟩ => show cc0_transform_13 (grid0.coords t) (0 : Fin 3) * 1 + 1 * 0 = t.val / 2; rw [e0]; omega
  | ⟨1, _⟩ => show cc0_transform_13 (grid0.coords t) (1 : Fin 3) * 512 + 1 * l.val = l.val; rw [e1]; omega
  | ⟨2, _⟩ => show cc0_transform_13 (grid0.coords t) (2 : Fin 3) * 1024 + 1 * r.val = t.val % 2 * 1024 + r.val; rw [e2]; omega

theorem iblk0_at (c : Dev nD) (t : Fin cfg0.N) (r k : Fin 1024) :
    iblk m c 0 t (ix2 (n0 := 1024) (n1 := 1024) r k) = V m c main_v0 (ix2 (n0 := 32768) (n1 := 1024) (rowAt t r) k) :=
  congrArg (V m c main_v0) (emb0 t r k)
theorem iblk1_at (c : Dev nD) (t : Fin cfg0.N) (k : Fin 1024) :
    iblk m c 1 t (ix2 (n0 := 1) (n1 := 1024) 0 k) = V m c main_v1 (ix2 (n0 := 1) (n1 := 1024) 0 k) :=
  congrArg (V m c main_v1) (emb1 t k)
theorem iblk2_at (c : Dev nD) (t : Fin cfg0.N) (k : Fin 1024) (n : Fin 4096) :
    iblk m c 2 t (ix2 (n0 := 1024) (n1 := 4096) k n) = V m c main_v2 (ix2 (n0 := 1024) (n1 := 4096) k n) :=
  congrArg (V m c main_v2) (emb2 t k n)

/-- A block's projection is the arrays'. -/
theorem blk_proj (c : Dev nD) (t : Fin cfg0.N) (p : Fin 8) (r : Fin 1024) (l : Fin 512) :
    proj (fun k => iblk m c 0 t (ix2 (n0 := 1024) (n1 := 1024) r k)) (fun k => iblk m c 1 t (ix2 (n0 := 1) (n1 := 1024) 0 k))
      (fun k => cols p (iblk m c 2 t) (ix2 (n0 := 1024) (n1 := 512) k l)) = pr m c p (rowAt t r) l := by
  exact congr (congr (congrArg proj (funext fun k => iblk0_at m c t r k)) (funext fun k => iblk1_at m c t k))
    (funext fun k => iblk2_at m c t k (colOf p l))

theorem rowAt_place (t : Fin cfg0.N) (r : Fin 1024) : rowOf (batchAt t) (placeAt t r) = rowAt t r :=
  Fin.ext (by show t.val / 2 * 2048 + (t.val % 2 * 1024 + r.val) = t.val * 1024 + r.val; omega)
theorem rowAt_tail (t : Fin cfg0.N) (h : t.val % 2 = 1) (j : Fin 512) : rowOf (batchAt t) (lateRow j) = rowAt t (tailRow j) :=
  Fin.ext (by show t.val / 2 * 2048 + (1536 + j.val) = t.val * 1024 + (512 + j.val); omega)

/-- The array of output 3. -/
def G3 (c : Dev nD) : Vec Ideal S32768x512 .bf16 := fun i => (pr m c 0 (i 0) (i 1) * scale : EReal)
theorem flushed3 (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  funext y
  obtain ⟨r, l, rfl⟩ : ∃ (r : Fin 1024) (l : Fin 512), (y : S1024x512.Idx) = ix2 r l := ⟨y 0, y 1, funext fun a => match a with | ⟨0, _⟩ => rfl | ⟨1, _⟩ => rfl⟩
  refine Eq.trans ?_ (congrArg (G3 m c) (emb3 t r l)).symm
  show (outsAt0 m c t.val t.isLt).1 (ix2 r l) = (pr m c 0 (rowAt t r) l * scale : EReal)
  rcases Nat.mod_two_eq_zero_or_one t.val with h | h
  · have h0 : ¬t.val % 2 = 1 := by omega
    rw [outsAt0_A m c t h0 h]
    dsimp only
    rw [outA_3]
    rw [pay6, blk_proj]
  · have h1 : ¬t.val % 2 = 0 := by omega
    rw [outsAt0_B m c t h h1]
    dsimp only
    rw [outB_3]
    rw [pay4, blk_proj]
theorem covered3 (i : S32768x512.Idx) :
    ∃ t : Fin cfg0.N, (cfg0.win 3).flush t = true ∧ i ∈ ((cfg0.win 3).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_3 _, ?_⟩
  have h := ((cfg0.win 3).blk t).view.emb_mem_set (ix2 (n0 := 1024) (n1 := 512) ⟨(i 0).val % 1024, Nat.mod_lt _ (by decide)⟩ (i 1))
  have e : ((cfg0.win 3).blk t).view.emb (ix2 (n0 := 1024) (n1 := 512) ⟨(i 0).val % 1024, Nat.mod_lt _ (by decide)⟩ (i 1)) = i := (emb3 t ⟨(i 0).val % 1024, Nat.mod_lt _ (by decide)⟩ (i 1)).trans (show ix2 (n0 := 32768) (n1 := 512) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final3 (c : Dev nD) : (dats m 0 c).arrAt 3 cfg0.N = G3 m c :=
  (dats m 0 c).arrAt_eq_of_cover 3 (G3 m c) (fun t _ => flushed3 m c t) covered3

/-- The array of output 4. -/
def G4 (c : Dev nD) : Vec Ideal S32768x512 .bf16 := fun i => (pr m c 1 (i 0) (i 1) : EReal)
theorem flushed4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext y
  obtain ⟨r, l, rfl⟩ : ∃ (r : Fin 1024) (l : Fin 512), (y : S1024x512.Idx) = ix2 r l := ⟨y 0, y 1, funext fun a => match a with | ⟨0, _⟩ => rfl | ⟨1, _⟩ => rfl⟩
  refine Eq.trans ?_ (congrArg (G4 m c) (emb3 t r l)).symm
  show (outsAt0 m c t.val t.isLt).2.1 (ix2 r l) = (pr m c 1 (rowAt t r) l : EReal)
  rcases Nat.mod_two_eq_zero_or_one t.val with h | h
  · have h0 : ¬t.val % 2 = 1 := by omega
    rw [outsAt0_A m c t h0 h]
    dsimp only
    rw [outA_4]
    rw [pay29, blk_proj]
  · have h1 : ¬t.val % 2 = 0 := by omega
    rw [outsAt0_B m c t h h1]
    dsimp only
    rw [outB_4]
    rw [pay18, blk_proj]
theorem covered4 (i : S32768x512.Idx) :
    ∃ t : Fin cfg0.N, (cfg0.win 4).flush t = true ∧ i ∈ ((cfg0.win 4).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_4 _, ?_⟩
  have h := ((cfg0.win 4).blk t).view.emb_mem_set (ix2 (n0 := 1024) (n1 := 512) ⟨(i 0).val % 1024, Nat.mod_lt _ (by decide)⟩ (i 1))
  have e : ((cfg0.win 4).blk t).view.emb (ix2 (n0 := 1024) (n1 := 512) ⟨(i 0).val % 1024, Nat.mod_lt _ (by decide)⟩ (i 1)) = i := (emb3 t ⟨(i 0).val % 1024, Nat.mod_lt _ (by decide)⟩ (i 1)).trans (show ix2 (n0 := 32768) (n1 := 512) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final4 (c : Dev nD) : (dats m 0 c).arrAt 4 cfg0.N = G4 m c :=
  (dats m 0 c).arrAt_eq_of_cover 4 (G4 m c) (fun t _ => flushed4 m c t) covered4

/-- The array of output 5. -/
def G5 (c : Dev nD) : Vec Ideal S32768x512 .bf16 := fun i => (pr m c 2 (i 0) (i 1) : EReal)
theorem flushed5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext y
  obtain ⟨r, l, rfl⟩ : ∃ (r : Fin 1024) (l : Fin 512), (y : S1024x512.Idx) = ix2 r l := ⟨y 0, y 1, funext fun a => match a with | ⟨0, _⟩ => rfl | ⟨1, _⟩ => rfl⟩
  refine Eq.trans ?_ (congrArg (G5 m c) (emb3 t r l)).symm
  show (outsAt0 m c t.val t.isLt).2.2.1 (ix2 r l) = (pr m c 2 (rowAt t r) l : EReal)
  rcases Nat.mod_two_eq_zero_or_one t.val with h | h
  · have h0 : ¬t.val % 2 = 1 := by omega
    rw [outsAt0_A m c t h0 h]
    dsimp only
    rw [outA_5]
    rw [pay30, blk_proj]
  · have h1 : ¬t.val % 2 = 0 := by omega
    rw [outsAt0_B m c t h h1]
    dsimp only
    rw [outB_5]
    rw [pay2, blk_proj]
theorem covered5 (i : S32768x512.Idx) :
    ∃ t : Fin cfg0.N, (cfg0.win 5).flush t = true ∧ i ∈ ((cfg0.win 5).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_5 _, ?_⟩
  have h := ((cfg0.win 5).blk t).view.emb_mem_set (ix2 (n0 := 1024) (n1 := 512) ⟨(i 0).val % 1024, Nat.mod_lt _ (by decide)⟩ (i 1))
  have e : ((cfg0.win 5).blk t).view.emb (ix2 (n0 := 1024) (n1 := 512) ⟨(i 0).val % 1024, Nat.mod_lt _ (by decide)⟩ (i 1)) = i := (emb3 t ⟨(i 0).val % 1024, Nat.mod_lt _ (by decide)⟩ (i 1)).trans (show ix2 (n0 := 32768) (n1 := 512) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final5 (c : Dev nD) : (dats m 0 c).arrAt 5 cfg0.N = G5 m c :=
  (dats m 0 c).arrAt_eq_of_cover 5 (G5 m c) (fun t _ => flushed5 m c t) covered5

/-- The array of output 6. -/
def G6 (c : Dev nD) : Vec Ideal S32768x512 .bf16 := fun i => (silu (pr m c 3 (i 0) (i 1)) : EReal)
theorem flushed6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext y
  obtain ⟨r, l, rfl⟩ : ∃ (r : Fin 1024) (l : Fin 512), (y : S1024x512.Idx) = ix2 r l := ⟨y 0, y 1, funext fun a => match a with | ⟨0, _⟩ => rfl | ⟨1, _⟩ => rfl⟩
  refine Eq.trans ?_ (congrArg (G6 m c) (emb3 t r l)).symm
  show (outsAt0 m c t.val t.isLt).2.2.2.1 (ix2 r l) = (silu (pr m c 3 (rowAt t r) l) : EReal)
  rcases Nat.mod_two_eq_zero_or_one t.val with h | h
  · have h0 : ¬t.val % 2 = 1 := by omega
    rw [outsAt0_A m c t h0 h]
    dsimp only
    rw [outA_6]
    rw [pay21, blk_proj]
  · have h1 : ¬t.val % 2 = 0 := by omega
    rw [outsAt0_B m c t h h1]
    dsimp only
    rw [outB_6]
    rw [pay9, blk_proj]
theorem covered6 (i : S32768x512.Idx) :
    ∃ t : Fin cfg0.N, (cfg0.win 6).flush t = true ∧ i ∈ ((cfg0.win 6).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_6 _, ?_⟩
  have h := ((cfg0.win 6).blk t).view.emb_mem_set (ix2 (n0 := 1024) (n1 := 512) ⟨(i 0).val % 1024, Nat.mod_lt _ (by decide)⟩ (i 1))
  have e : ((cfg0.win 6).blk t).view.emb (ix2 (n0 := 1024) (n1 := 512) ⟨(i 0).val % 1024, Nat.mod_lt _ (by decide)⟩ (i 1)) = i := (emb3 t ⟨(i 0).val % 1024, Nat.mod_lt _ (by decide)⟩ (i 1)).trans (show ix2 (n0 := 32768) (n1 := 512) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final6 (c : Dev nD) : (dats m 0 c).arrAt 6 cfg0.N = G6 m c :=
  (dats m 0 c).arrAt_eq_of_cover 6 (G6 m c) (fun t _ => flushed6 m c t) covered6

/-- The array of output 7. -/
def G7 (c : Dev nD) : Vec Ideal S32768x512 .bf16 := fun i => (pr m c 4 (i 0) (i 1) * scale : EReal)
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext y
  obtain ⟨r, l, rfl⟩ : ∃ (r : Fin 1024) (l : Fin 512), (y : S1024x512.Idx) = ix2 r l := ⟨y 0, y 1, funext fun a => match a with | ⟨0, _⟩ => rfl | ⟨1, _⟩ => rfl⟩
  refine Eq.trans ?_ (congrArg (G7 m c) (emb3 t r l)).symm
  show (outsAt0 m c t.val t.isLt).2.2.2.2.1 (ix2 r l) = (pr m c 4 (rowAt t r) l * scale : EReal)
  rcases Nat.mod_two_eq_zero_or_one t.val with h | h
  · have h0 : ¬t.val % 2 = 1 := by omega
    rw [outsAt0_A m c t h0 h]
    dsimp only
    rw [outA_7]
    rw [pay7, blk_proj]
  · have h1 : ¬t.val % 2 = 0 := by omega
    rw [outsAt0_B m c t h h1]
    dsimp only
    rw [outB_7]
    rw [pay5, blk_proj]
theorem covered7 (i : S32768x512.Idx) :
    ∃ t : Fin cfg0.N, (cfg0.win 7).flush t = true ∧ i ∈ ((cfg0.win 7).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_7 _, ?_⟩
  have h := ((cfg0.win 7).blk t).view.emb_mem_set (ix2 (n0 := 1024) (n1 := 512) ⟨(i 0).val % 1024, Nat.mod_lt _ (by decide)⟩ (i 1))
  have e : ((cfg0.win 7).blk t).view.emb (ix2 (n0 := 1024) (n1 := 512) ⟨(i 0).val % 1024, Nat.mod_lt _ (by decide)⟩ (i 1)) = i := (emb3 t ⟨(i 0).val % 1024, Nat.mod_lt _ (by decide)⟩ (i 1)).trans (show ix2 (n0 := 32768) (n1 := 512) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final7 (c : Dev nD) : (dats m 0 c).arrAt 7 cfg0.N = G7 m c :=
  (dats m 0 c).arrAt_eq_of_cover 7 (G7 m c) (fun t _ => flushed7 m c t) covered7

/-- The array of output 8. -/
def G8 (c : Dev nD) : Vec Ideal S32768x512 .bf16 := fun i => (pr m c 5 (i 0) (i 1) : EReal)
theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  funext y
  obtain ⟨r, l, rfl⟩ : ∃ (r : Fin 1024) (l : Fin 512), (y : S1024x512.Idx) = ix2 r l := ⟨y 0, y 1, funext fun a => match a with | ⟨0, _⟩ => rfl | ⟨1, _⟩ => rfl⟩
  refine Eq.trans ?_ (congrArg (G8 m c) (emb3 t r l)).symm
  show (outsAt0 m c t.val t.isLt).2.2.2.2.2.1 (ix2 r l) = (pr m c 5 (rowAt t r) l : EReal)
  rcases Nat.mod_two_eq_zero_or_one t.val with h | h
  · have h0 : ¬t.val % 2 = 1 := by omega
    rw [outsAt0_A m c t h0 h]
    dsimp only
    rw [outA_8]
    rw [pay24, blk_proj]
  · have h1 : ¬t.val % 2 = 0 := by omega
    rw [outsAt0_B m c t h h1]
    dsimp only
    rw [outB_8]
    rw [pay12, blk_proj]
theorem covered8 (i : S32768x512.Idx) :
    ∃ t : Fin cfg0.N, (cfg0.win 8).flush t = true ∧ i ∈ ((cfg0.win 8).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_8 _, ?_⟩
  have h := ((cfg0.win 8).blk t).view.emb_mem_set (ix2 (n0 := 1024) (n1 := 512) ⟨(i 0).val % 1024, Nat.mod_lt _ (by decide)⟩ (i 1))
  have e : ((cfg0.win 8).blk t).view.emb (ix2 (n0 := 1024) (n1 := 512) ⟨(i 0).val % 1024, Nat.mod_lt _ (by decide)⟩ (i 1)) = i := (emb3 t ⟨(i 0).val % 1024, Nat.mod_lt _ (by decide)⟩ (i 1)).trans (show ix2 (n0 := 32768) (n1 := 512) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final8 (c : Dev nD) : (dats m 0 c).arrAt 8 cfg0.N = G8 m c :=
  (dats m 0 c).arrAt_eq_of_cover 8 (G8 m c) (fun t _ => flushed8 m c t) covered8

/-- The array of output 9. -/
def G9 (c : Dev nD) : Vec Ideal S32768x512 .bf16 := fun i => (pr m c 6 (i 0) (i 1) : EReal)
theorem flushed9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  funext y
  obtain ⟨r, l, rfl⟩ : ∃ (r : Fin 1024) (l : Fin 512), (y : S1024x512.Idx) = ix2 r l := ⟨y 0, y 1, funext fun a => match a with | ⟨0, _⟩ => rfl | ⟨1, _⟩ => rfl⟩
  refine Eq.trans ?_ (congrArg (G9 m c) (emb3 t r l)).symm
  show (outsAt0 m c t.val t.isLt).2.2.2.2.2.2.1 (ix2 r l) = (pr m c 6 (rowAt t r) l : EReal)
  rcases Nat.mod_two_eq_zero_or_one t.val with h | h
  · have h0 : ¬t.val % 2 = 1 := by omega
    rw [outsAt0_A m c t h0 h]
    dsimp only
    rw [outA_9]
    rw [pay27, blk_proj]
  · have h1 : ¬t.val % 2 = 0 := by omega
    rw [outsAt0_B m c t h h1]
    dsimp only
    rw [outB_9]
    rw [pay15, blk_proj]
theorem covered9 (i : S32768x512.Idx) :
    ∃ t : Fin cfg0.N, (cfg0.win 9).flush t = true ∧ i ∈ ((cfg0.win 9).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_9 _, ?_⟩
  have h := ((cfg0.win 9).blk t).view.emb_mem_set (ix2 (n0 := 1024) (n1 := 512) ⟨(i 0).val % 1024, Nat.mod_lt _ (by decide)⟩ (i 1))
  have e : ((cfg0.win 9).blk t).view.emb (ix2 (n0 := 1024) (n1 := 512) ⟨(i 0).val % 1024, Nat.mod_lt _ (by decide)⟩ (i 1)) = i := (emb3 t ⟨(i 0).val % 1024, Nat.mod_lt _ (by decide)⟩ (i 1)).trans (show ix2 (n0 := 32768) (n1 := 512) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final9 (c : Dev nD) : (dats m 0 c).arrAt 9 cfg0.N = G9 m c :=
  (dats m 0 c).arrAt_eq_of_cover 9 (G9 m c) (fun t _ => flushed9 m c t) covered9

/-- The array of output 10. -/
def G10 (c : Dev nD) : Vec Ideal S32768x512 .bf16 := fun i => (silu (pr m c 7 (i 0) (i 1)) : EReal)
theorem flushed10 (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  funext y
  obtain ⟨r, l, rfl⟩ : ∃ (r : Fin 1024) (l : Fin 512), (y : S1024x512.Idx) = ix2 r l := ⟨y 0, y 1, funext fun a => match a with | ⟨0, _⟩ => rfl | ⟨1, _⟩ => rfl⟩
  refine Eq.trans ?_ (congrArg (G10 m c) (emb3 t r l)).symm
  show (outsAt0 m c t.val t.isLt).2.2.2.2.2.2.2.1 (ix2 r l) = (silu (pr m c 7 (rowAt t r) l) : EReal)
  rcases Nat.mod_two_eq_zero_or_one t.val with h | h
  · have h0 : ¬t.val % 2 = 1 := by omega
    rw [outsAt0_A m c t h0 h]
    dsimp only
    rw [outA_10]
    rw [pay22, blk_proj]
  · have h1 : ¬t.val % 2 = 0 := by omega
    rw [outsAt0_B m c t h h1]
    dsimp only
    rw [outB_10]
    rw [pay10, blk_proj]
theorem covered10 (i : S32768x512.Idx) :
    ∃ t : Fin cfg0.N, (cfg0.win 10).flush t = true ∧ i ∈ ((cfg0.win 10).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_10 _, ?_⟩
  have h := ((cfg0.win 10).blk t).view.emb_mem_set (ix2 (n0 := 1024) (n1 := 512) ⟨(i 0).val % 1024, Nat.mod_lt _ (by decide)⟩ (i 1))
  have e : ((cfg0.win 10).blk t).view.emb (ix2 (n0 := 1024) (n1 := 512) ⟨(i 0).val % 1024, Nat.mod_lt _ (by decide)⟩ (i 1)) = i := (emb3 t ⟨(i 0).val % 1024, Nat.mod_lt _ (by decide)⟩ (i 1)).trans (show ix2 (n0 := 32768) (n1 := 512) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final10 (c : Dev nD) : (dats m 0 c).arrAt 10 cfg0.N = G10 m c :=
  (dats m 0 c).arrAt_eq_of_cover 10 (G10 m c) (fun t _ => flushed10 m c t) covered10

/-- The array of output 11. -/
def G11 (c : Dev nD) : Vec Ideal S16x512x512 .f32 := fun i => (pr m c 1 (rowOf (i 0) (lateRow (i 2))) (i 1) : EReal)
theorem flushed11 (c : Dev nD) (t : Fin cfg0.N) (hodd : t.val % 2 = 1) :
    (dats m 0 c).flushed 11 t = ((cfg0.win 11).blk t).view.read (Elt Ideal) (G11 m c) := by
  show (cfg0.win 11).cut (grid0.coords t) ((dats m 0 c).after 11 t) = _
  rw [after0_11]
  funext y
  obtain ⟨l, j, rfl⟩ : ∃ (l : Fin 512) (j : Fin 512), (y : S1x512x512.Idx) = ix3 0 l j := ⟨y 1, y 2, funext fun a => match a with | ⟨0, _⟩ => Fin.ext (by have h : (y 0).val < 1 := (y 0).isLt; show (y 0).val = 0; omega) | ⟨1, _⟩ => rfl | ⟨2, _⟩ => rfl⟩
  refine Eq.trans ?_ (congrArg (G11 m c) (emb11 t l j)).symm
  show (outsAt0 m c t.val t.isLt).2.2.2.2.2.2.2.2.1 (ix3 0 l j) = (pr m c 1 (rowOf (batchAt t) (lateRow j)) l : EReal)
  rcases Nat.mod_two_eq_zero_or_one t.val with h | h
  · omega
  · have h1 : ¬t.val % 2 = 0 := by omega
    rw [outsAt0_B m c t h h1]
    dsimp only
    rw [outB_11]
    rw [rowAt_tail t h]
    rw [pay19, blk_proj]
theorem covered11 (i : S16x512x512.Idx) :
    ∃ t : Fin cfg0.N, (cfg0.win 11).flush t = true ∧ i ∈ ((cfg0.win 11).blk t).view.set := by
  have h0 : (i 0).val < 16 := (i 0).isLt
  obtain ⟨t, ht⟩ : ∃ t : Fin cfg0.N, t.val = (i 0).val * 2 + 1 := ⟨⟨(i 0).val * 2 + 1, by show _ < 32; omega⟩, rfl⟩
  refine ⟨t, (flush0_11 _).mpr (by omega), ?_⟩
  have h := ((cfg0.win 11).blk t).view.emb_mem_set (ix3 (n0 := 1) (n1 := 512) (n2 := 512) 0 (i 1) (i 2))
  have e : ((cfg0.win 11).blk t).view.emb (ix3 (n0 := 1) (n1 := 512) (n2 := 512) 0 (i 1) (i 2)) = i := (emb11 t (i 1) (i 2)).trans (show ix3 (n0 := 16) (n1 := 512) (n2 := 512) (batchAt t) (i 1) (i 2) = i from by
    funext a; apply Fin.ext
    match a with
    | ⟨0, _⟩ => show t.val / 2 = (i 0).val; omega
    | ⟨1, _⟩ => rfl
    | ⟨2, _⟩ => rfl)
  rw [e] at h
  exact h
theorem final11 (c : Dev nD) : (dats m 0 c).arrAt 11 cfg0.N = G11 m c :=
  (dats m 0 c).arrAt_eq_of_cover 11 (G11 m c) (fun t hf => flushed11 m c t ((flush0_11 t).mp hf)) covered11

/-- The array of output 12. -/
def G12 (c : Dev nD) : Vec Ideal S16x512x512 .f32 := fun i => (pr m c 2 (rowOf (i 0) (lateRow (i 2))) (i 1) : EReal)
theorem flushed12 (c : Dev nD) (t : Fin cfg0.N) (hodd : t.val % 2 = 1) :
    (dats m 0 c).flushed 12 t = ((cfg0.win 12).blk t).view.read (Elt Ideal) (G12 m c) := by
  show (cfg0.win 12).cut (grid0.coords t) ((dats m 0 c).after 12 t) = _
  rw [after0_12]
  funext y
  obtain ⟨l, j, rfl⟩ : ∃ (l : Fin 512) (j : Fin 512), (y : S1x512x512.Idx) = ix3 0 l j := ⟨y 1, y 2, funext fun a => match a with | ⟨0, _⟩ => Fin.ext (by have h : (y 0).val < 1 := (y 0).isLt; show (y 0).val = 0; omega) | ⟨1, _⟩ => rfl | ⟨2, _⟩ => rfl⟩
  refine Eq.trans ?_ (congrArg (G12 m c) (emb11 t l j)).symm
  show (outsAt0 m c t.val t.isLt).2.2.2.2.2.2.2.2.2.1 (ix3 0 l j) = (pr m c 2 (rowOf (batchAt t) (lateRow j)) l : EReal)
  rcases Nat.mod_two_eq_zero_or_one t.val with h | h
  · omega
  · have h1 : ¬t.val % 2 = 0 := by omega
    rw [outsAt0_B m c t h h1]
    dsimp only
    rw [outB_12]
    rw [rowAt_tail t h]
    rw [pay3, blk_proj]
theorem covered12 (i : S16x512x512.Idx) :
    ∃ t : Fin cfg0.N, (cfg0.win 12).flush t = true ∧ i ∈ ((cfg0.win 12).blk t).view.set := by
  have h0 : (i 0).val < 16 := (i 0).isLt
  obtain ⟨t, ht⟩ : ∃ t : Fin cfg0.N, t.val = (i 0).val * 2 + 1 := ⟨⟨(i 0).val * 2 + 1, by show _ < 32; omega⟩, rfl⟩
  refine ⟨t, (flush0_12 _).mpr (by omega), ?_⟩
  have h := ((cfg0.win 12).blk t).view.emb_mem_set (ix3 (n0 := 1) (n1 := 512) (n2 := 512) 0 (i 1) (i 2))
  have e : ((cfg0.win 12).blk t).view.emb (ix3 (n0 := 1) (n1 := 512) (n2 := 512) 0 (i 1) (i 2)) = i := (emb11 t (i 1) (i 2)).trans (show ix3 (n0 := 16) (n1 := 512) (n2 := 512) (batchAt t) (i 1) (i 2) = i from by
    funext a; apply Fin.ext
    match a with
    | ⟨0, _⟩ => show t.val / 2 = (i 0).val; omega
    | ⟨1, _⟩ => rfl
    | ⟨2, _⟩ => rfl)
  rw [e] at h
  exact h
theorem final12 (c : Dev nD) : (dats m 0 c).arrAt 12 cfg0.N = G12 m c :=
  (dats m 0 c).arrAt_eq_of_cover 12 (G12 m c) (fun t hf => flushed12 m c t ((flush0_12 t).mp hf)) covered12

/-- The array of output 13. -/
def G13 (c : Dev nD) : Vec Ideal S16x512x2048 .f32 := fun i => (pr m c 5 (rowOf (i 0) (i 2)) (i 1) : EReal)
theorem flushed13 (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  funext y
  obtain ⟨l, r, rfl⟩ : ∃ (l : Fin 512) (r : Fin 1024), (y : S1x512x1024.Idx) = ix3 0 l r := ⟨y 1, y 2, funext fun a => match a with | ⟨0, _⟩ => Fin.ext (by have h : (y 0).val < 1 := (y 0).isLt; show (y 0).val = 0; omega) | ⟨1, _⟩ => rfl | ⟨2, _⟩ => rfl⟩
  refine Eq.trans ?_ (congrArg (G13 m c) (emb13 t l r)).symm
  show (outsAt0 m c t.val t.isLt).2.2.2.2.2.2.2.2.2.2.1 (ix3 0 l r) = (pr m c 5 (rowOf (batchAt t) (placeAt t r)) l : EReal)
  rcases Nat.mod_two_eq_zero_or_one t.val with h | h
  · have h0 : ¬t.val % 2 = 1 := by omega
    rw [outsAt0_A m c t h0 h]
    dsimp only
    rw [outA_13]
    rw [rowAt_place]
    rw [pay25, blk_proj]
  · have h1 : ¬t.val % 2 = 0 := by omega
    rw [outsAt0_B m c t h h1]
    dsimp only
    rw [outB_13]
    rw [rowAt_place]
    rw [pay13, blk_proj]
theorem covered13 (i : S16x512x2048.Idx) :
    ∃ t : Fin cfg0.N, (cfg0.win 13).flush t = true ∧ i ∈ ((cfg0.win 13).blk t).view.set := by
  have h0 : (i 0).val < 16 := (i 0).isLt
  have h2 : (i 2).val < 2048 := (i 2).isLt
  obtain ⟨t, ht⟩ : ∃ t : Fin cfg0.N, t.val = (i 0).val * 2 + (i 2).val / 1024 := ⟨⟨(i 0).val * 2 + (i 2).val / 1024, by show _ < 32; omega⟩, rfl⟩
  refine ⟨t, flush0_13 _, ?_⟩
  have h := ((cfg0.win 13).blk t).view.emb_mem_set (ix3 (n0 := 1) (n1 := 512) (n2 := 1024) 0 (i 1) ⟨(i 2).val % 1024, Nat.mod_lt _ (by decide)⟩)
  have e : ((cfg0.win 13).blk t).view.emb (ix3 (n0 := 1) (n1 := 512) (n2 := 1024) 0 (i 1) ⟨(i 2).val % 1024, Nat.mod_lt _ (by decide)⟩) = i := (emb13 t (i 1) ⟨(i 2).val % 1024, Nat.mod_lt _ (by decide)⟩).trans (show ix3 (n0 := 16) (n1 := 512) (n2 := 2048) (batchAt t) (i 1) (placeAt t ⟨(i 2).val % 1024, Nat.mod_lt _ (by decide)⟩) = i from by
    funext a; apply Fin.ext
    match a with
    | ⟨0, _⟩ => show t.val / 2 = (i 0).val; omega
    | ⟨1, _⟩ => rfl
    | ⟨2, _⟩ => show t.val % 2 * 1024 + (i 2).val % 1024 = (i 2).val; omega)
  rw [e] at h
  exact h
theorem final13 (c : Dev nD) : (dats m 0 c).arrAt 13 cfg0.N = G13 m c :=
  (dats m 0 c).arrAt_eq_of_cover 13 (G13 m c) (fun t _ => flushed13 m c t) covered13

/-- The array of output 14. -/
def G14 (c : Dev nD) : Vec Ideal S16x512x2048 .f32 := fun i => (pr m c 6 (rowOf (i 0) (i 2)) (i 1) : EReal)
theorem flushed14 (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  funext y
  obtain ⟨l, r, rfl⟩ : ∃ (l : Fin 512) (r : Fin 1024), (y : S1x512x1024.Idx) = ix3 0 l r := ⟨y 1, y 2, funext fun a => match a with | ⟨0, _⟩ => Fin.ext (by have h : (y 0).val < 1 := (y 0).isLt; show (y 0).val = 0; omega) | ⟨1, _⟩ => rfl | ⟨2, _⟩ => rfl⟩
  refine Eq.trans ?_ (congrArg (G14 m c) (emb13 t l r)).symm
  show (outsAt0 m c t.val t.isLt).2.2.2.2.2.2.2.2.2.2.2 (ix3 0 l r) = (pr m c 6 (rowOf (batchAt t) (placeAt t r)) l : EReal)
  rcases Nat.mod_two_eq_zero_or_one t.val with h | h
  · have h0 : ¬t.val % 2 = 1 := by omega
    rw [outsAt0_A m c t h0 h]
    dsimp only
    rw [outA_14]
    rw [rowAt_place]
    rw [pay28, blk_proj]
  · have h1 : ¬t.val % 2 = 0 := by omega
    rw [outsAt0_B m c t h h1]
    dsimp only
    rw [outB_14]
    rw [rowAt_place]
    rw [pay16, blk_proj]
theorem covered14 (i : S16x512x2048.Idx) :
    ∃ t : Fin cfg0.N, (cfg0.win 14).flush t = true ∧ i ∈ ((cfg0.win 14).blk t).view.set := by
  have h0 : (i 0).val < 16 := (i 0).isLt
  have h2 : (i 2).val < 2048 := (i 2).isLt
  obtain ⟨t, ht⟩ : ∃ t : Fin cfg0.N, t.val = (i 0).val * 2 + (i 2).val / 1024 := ⟨⟨(i 0).val * 2 + (i 2).val / 1024, by show _ < 32; omega⟩, rfl⟩
  refine ⟨t, flush0_14 _, ?_⟩
  have h := ((cfg0.win 14).blk t).view.emb_mem_set (ix3 (n0 := 1) (n1 := 512) (n2 := 1024) 0 (i 1) ⟨(i 2).val % 1024, Nat.mod_lt _ (by decide)⟩)
  have e : ((cfg0.win 14).blk t).view.emb (ix3 (n0 := 1) (n1 := 512) (n2 := 1024) 0 (i 1) ⟨(i 2).val % 1024, Nat.mod_lt _ (by decide)⟩) = i := (emb13 t (i 1) ⟨(i 2).val % 1024, Nat.mod_lt _ (by decide)⟩).trans (show ix3 (n0 := 16) (n1 := 512) (n2 := 2048) (batchAt t) (i 1) (placeAt t ⟨(i 2).val % 1024, Nat.mod_lt _ (by decide)⟩) = i from by
    funext a; apply Fin.ext
    match a with
    | ⟨0, _⟩ => show t.val / 2 = (i 0).val; omega
    | ⟨1, _⟩ => rfl
    | ⟨2, _⟩ => show t.val % 2 * 1024 + (i 2).val % 1024 = (i 2).val; omega)
  rw [e] at h
  exact h
theorem final14 (c : Dev nD) : (dats m 0 c).arrAt 14 cfg0.N = G14 m c :=
  (dats m 0 c).arrAt_eq_of_cover 14 (G14 m c) (fun t _ => flushed14 m c t) covered14

end Cert.Kernel2Ideal.Proj
-- ==== Proof.ProjAB.Host.lean ====
/-
  The host's operations around the projection kernel, read at an index: what it is given, and what becomes of its results.
-/
module

public import proofs.«01_k».proof.Proof.ProjAB.Blocks
public import Idealize.ShloMosaic.Lib.StableHlo.ReadAt
public import Idealize.ShloMosaic.Lib.Pointwise

@[expose] public section

noncomputable section

namespace Cert.Kernel2Ideal.Proj

open Cert.Kernel2Ideal Cert.Kernel2Ideal.Gen
open Idealize.ShloMosaic Idealize.ShloMosaic.TcCoe
open Idealize.SL Idealize.SL.Sem

variable (m : (ℓ : Loc nD τ sig) → Buf (Elt Ideal) ℓ)

/-- Lane `d` of head `h`. -/
def laneAt (h : Fin 8) (d : Fin 64) : Fin 512 := ⟨h.val * 64 + d.val, by omega⟩

theorem V_v0 (c : Dev nD) (b : Fin 16) (s : Fin 2048) (k : Fin 1024) :
    V m c main_v0 (ix2 (rowOf b s) k) = (m ((c.tc : Thread nD τ).loc main_arg0) (ix3 b s k) : EReal) := by
  unfold V
  after_reads_at
  have hb := b.isLt
  have hs := s.isLt
  have e : (ix3 ⟨(rowOf b s).val / 2048, by have := (rowOf b s).isLt; omega⟩ ⟨(rowOf b s).val % 2048, Nat.mod_lt _ (by decide)⟩ k : S16x2048x1024.Idx)
      = ix3 b s k := by
    funext a; apply Fin.ext
    match a with
    | ⟨0, _⟩ => show (b.val * 2048 + s.val) / 2048 = b.val; omega
    | ⟨1, _⟩ => show (b.val * 2048 + s.val) % 2048 = s.val; omega
    | ⟨2, _⟩ => rfl
  exact congrArg (m (c, Proc.tc.devRef main_arg0)) e
theorem V_v1 (c : Dev nD) (k : Fin 1024) :
    V m c main_v1 (ix2 0 k) = (m ((c.tc : Thread nD τ).loc main_arg1) (ix1 k) : EReal) := by
  unfold V
  after_reads_at
theorem V_v2 (c : Dev nD) (k : Fin 1024) (n : Fin 4096) :
    V m c main_v2 (ix2 k n) = (m ((c.tc : Thread nD τ).loc main_arg2) (ix2 k n) : EReal) := by
  unfold V
  after_reads_at

theorem arr_inj : Function.Injective (Pipeline.arrRef spec0) := by decide

/-- The arrays at the region's end. -/
def Z (c : Dev nD) : Valuation τ sig (Elt Ideal) :=
  Pipeline.withArrays spec0 c (V0 m c) fun w => (dats m 0 c).arrAt w cfg0.N

theorem Z_3 (c : Dev nD) : Z m c (Proc.devRef .tc main_v3_0) = G3 m c :=
  (Pipeline.withArrays_arr spec0 arr_inj c (V0 m c) (fun w => (dats m 0 c).arrAt w cfg0.N) 3).trans (final3 m c)
theorem Z_4 (c : Dev nD) : Z m c (Proc.devRef .tc main_v3_1) = G4 m c :=
  (Pipeline.withArrays_arr spec0 arr_inj c (V0 m c) (fun w => (dats m 0 c).arrAt w cfg0.N) 4).trans (final4 m c)
theorem Z_5 (c : Dev nD) : Z m c (Proc.devRef .tc main_v3_2) = G5 m c :=
  (Pipeline.withArrays_arr spec0 arr_inj c (V0 m c) (fun w => (dats m 0 c).arrAt w cfg0.N) 5).trans (final5 m c)
theorem Z_6 (c : Dev nD) : Z m c (Proc.devRef .tc main_v3_3) = G6 m c :=
  (Pipeline.withArrays_arr spec0 arr_inj c (V0 m c) (fun w => (dats m 0 c).arrAt w cfg0.N) 6).trans (final6 m c)
theorem Z_7 (c : Dev nD) : Z m c (Proc.devRef .tc main_v3_4) = G7 m c :=
  (Pipeline.withArrays_arr spec0 arr_inj c (V0 m c) (fun w => (dats m 0 c).arrAt w cfg0.N) 7).trans (final7 m c)
theorem Z_8 (c : Dev nD) : Z m c (Proc.devRef .tc main_v3_5) = G8 m c :=
  (Pipeline.withArrays_arr spec0 arr_inj c (V0 m c) (fun w => (dats m 0 c).arrAt w cfg0.N) 8).trans (final8 m c)
theorem Z_9 (c : Dev nD) : Z m c (Proc.devRef .tc main_v3_6) = G9 m c :=
  (Pipeline.withArrays_arr spec0 arr_inj c (V0 m c) (fun w => (dats m 0 c).arrAt w cfg0.N) 9).trans (final9 m c)
theorem Z_10 (c : Dev nD) : Z m c (Proc.devRef .tc main_v3_7) = G10 m c :=
  (Pipeline.withArrays_arr spec0 arr_inj c (V0 m c) (fun w => (dats m 0 c).arrAt w cfg0.N) 10).trans (final10 m c)
theorem Z_11 (c : Dev nD) : Z m c (Proc.devRef .tc main_v3_8) = G11 m c :=
  (Pipeline.withArrays_arr spec0 arr_inj c (V0 m c) (fun w => (dats m 0 c).arrAt w cfg0.N) 11).trans (final11 m c)
theorem Z_12 (c : Dev nD) : Z m c (Proc.devRef .tc main_v3_9) = G12 m c :=
  (Pipeline.withArrays_arr spec0 arr_inj c (V0 m c) (fun w => (dats m 0 c).arrAt w cfg0.N) 12).trans (final12 m c)
theorem Z_13 (c : Dev nD) : Z m c (Proc.devRef .tc main_v3_10) = G13 m c :=
  (Pipeline.withArrays_arr spec0 arr_inj c (V0 m c) (fun w => (dats m 0 c).arrAt w cfg0.N) 13).trans (final13 m c)
theorem Z_14 (c : Dev nD) : Z m c (Proc.devRef .tc main_v3_11) = G14 m c :=
  (Pipeline.withArrays_arr spec0 arr_inj c (V0 m c) (fun w => (dats m 0 c).arrAt w cfg0.N) 14).trans (final14 m c)
theorem tail_4 (c : Dev nD) (b : Fin 16) (s : Fin 2048) (l : Fin 512) :
    Pipeline.afterTail₀ cfgs (dats m) 0 (V0 m) [hostOps1] c main_v4 (ix3 b s l) = (pr m c 0 (rowOf b s) l * scale : EReal) := by
  have h0 : (StableHlo.after ([hostOps1] : List (List (HloOp τ sig (Elt Ideal)))).flatten (Z m c) (Proc.devRef .tc main_v4) (ix3 b s l) : EReal)
      = Z m c (Proc.devRef .tc main_v3_0) (ix2 (rowOf b s) l) := by
    generalize Z m c = Y
    simp only [hostOps1, List.flatten_cons, List.flatten_nil, List.append_nil, List.cons_append, List.nil_append]
    after_reads_at
    rfl
  refine Eq.trans h0 ?_
  rw [Z_3]
  rfl
theorem tail_5 (c : Dev nD) (b : Fin 16) (s : Fin 2048) (l : Fin 512) :
    Pipeline.afterTail₀ cfgs (dats m) 0 (V0 m) [hostOps1] c main_v5 (ix3 b s l) = (pr m c 1 (rowOf b s) l : EReal) := by
  have h0 : (StableHlo.after ([hostOps1] : List (List (HloOp τ sig (Elt Ideal)))).flatten (Z m c) (Proc.devRef .tc main_v5) (ix3 b s l) : EReal)
      = Z m c (Proc.devRef .tc main_v3_1) (ix2 (rowOf b s) l) := by
    generalize Z m c = Y
    simp only [hostOps1, List.flatten_cons, List.flatten_nil, List.append_nil, List.cons_append, List.nil_append]
    after_reads_at
    rfl
  refine Eq.trans h0 ?_
  rw [Z_4]
  rfl
theorem tail_6 (c : Dev nD) (b : Fin 16) (s : Fin 2048) (l : Fin 512) :
    Pipeline.afterTail₀ cfgs (dats m) 0 (V0 m) [hostOps1] c main_v6 (ix3 b s l) = (pr m c 2 (rowOf b s) l : EReal) := by
  have h0 : (StableHlo.after ([hostOps1] : List (List (HloOp τ sig (Elt Ideal)))).flatten (Z m c) (Proc.devRef .tc main_v6) (ix3 b s l) : EReal)
      = Z m c (Proc.devRef .tc main_v3_2) (ix2 (rowOf b s) l) := by
    generalize Z m c = Y
    simp only [hostOps1, List.flatten_cons, List.flatten_nil, List.append_nil, List.cons_append, List.nil_append]
    after_reads_at
    rfl
  refine Eq.trans h0 ?_
  rw [Z_5]
  rfl
theorem tail_7 (c : Dev nD) (b : Fin 16) (s : Fin 2048) (l : Fin 512) :
    Pipeline.afterTail₀ cfgs (dats m) 0 (V0 m) [hostOps1] c main_v7 (ix3 b s l) = (silu (pr m c 3 (rowOf b s) l) : EReal) := by
  have h0 : (StableHlo.after ([hostOps1] : List (List (HloOp τ sig (Elt Ideal)))).flatten (Z m c) (Proc.devRef .tc main_v7) (ix3 b s l) : EReal)
      = Z m c (Proc.devRef .tc main_v3_3) (ix2 (rowOf b s) l) := by
    generalize Z m c = Y
    simp only [hostOps1, List.flatten_cons, List.flatten_nil, List.append_nil, List.cons_append, List.nil_append]
    after_reads_at
    rfl
  refine Eq.trans h0 ?_
  rw [Z_6]
  rfl
theorem tail_8 (c : Dev nD) (b : Fin 16) (s : Fin 2048) (l : Fin 512) :
    Pipeline.afterTail₀ cfgs (dats m) 0 (V0 m) [hostOps1] c main_v8 (ix3 b s l) = (pr m c 4 (rowOf b s) l * scale : EReal) := by
  have h0 : (StableHlo.after ([hostOps1] : List (List (HloOp τ sig (Elt Ideal)))).flatten (Z m c) (Proc.devRef .tc main_v8) (ix3 b s l) : EReal)
      = Z m c (Proc.devRef .tc main_v3_4) (ix2 (rowOf b s) l) := by
    generalize Z m c = Y
    simp only [hostOps1, List.flatten_cons, List.flatten_nil, List.append_nil, List.cons_append, List.nil_append]
    after_reads_at
    rfl
  refine Eq.trans h0 ?_
  rw [Z_7]
  rfl
theorem tail_9 (c : Dev nD) (b : Fin 16) (s : Fin 2048) (l : Fin 512) :
    Pipeline.afterTail₀ cfgs (dats m) 0 (V0 m) [hostOps1] c main_v9 (ix3 b s l) = (pr m c 5 (rowOf b s) l : EReal) := by
  have h0 : (StableHlo.after ([hostOps1] : List (List (HloOp τ sig (Elt Ideal)))).flatten (Z m c) (Proc.devRef .tc main_v9) (ix3 b s l) : EReal)
      = Z m c (Proc.devRef .tc main_v3_5) (ix2 (rowOf b s) l) := by
    generalize Z m c = Y
    simp only [hostOps1, List.flatten_cons, List.flatten_nil, List.append_nil, List.cons_append, List.nil_append]
    after_reads_at
    rfl
  refine Eq.trans h0 ?_
  rw [Z_8]
  rfl
theorem tail_10 (c : Dev nD) (b : Fin 16) (s : Fin 2048) (l : Fin 512) :
    Pipeline.afterTail₀ cfgs (dats m) 0 (V0 m) [hostOps1] c main_v10 (ix3 b s l) = (pr m c 6 (rowOf b s) l : EReal) := by
  have h0 : (StableHlo.after ([hostOps1] : List (List (HloOp τ sig (Elt Ideal)))).flatten (Z m c) (Proc.devRef .tc main_v10) (ix3 b s l) : EReal)
      = Z m c (Proc.devRef .tc main_v3_6) (ix2 (rowOf b s) l) := by
    generalize Z m c = Y
    simp only [hostOps1, List.flatten_cons, List.flatten_nil, List.append_nil, List.cons_append, List.nil_append]
    after_reads_at
    rfl
  refine Eq.trans h0 ?_
  rw [Z_9]
  rfl
theorem tail_11 (c : Dev nD) (b : Fin 16) (s : Fin 2048) (l : Fin 512) :
    Pipeline.afterTail₀ cfgs (dats m) 0 (V0 m) [hostOps1] c main_v11 (ix3 b s l) = (silu (pr m c 7 (rowOf b s) l) : EReal) := by
  have h0 : (StableHlo.after ([hostOps1] : List (List (HloOp τ sig (Elt Ideal)))).flatten (Z m c) (Proc.devRef .tc main_v11) (ix3 b s l) : EReal)
      = Z m c (Proc.devRef .tc main_v3_7) (ix2 (rowOf b s) l) := by
    generalize Z m c = Y
    simp only [hostOps1, List.flatten_cons, List.flatten_nil, List.append_nil, List.cons_append, List.nil_append]
    after_reads_at
    rfl
  refine Eq.trans h0 ?_
  rw [Z_10]
  rfl
theorem tail_14 (c : Dev nD) (b : Fin 16) (j : Fin 512) (h : Fin 8) (d : Fin 64) :
    Pipeline.afterTail₀ cfgs (dats m) 0 (V0 m) [hostOps1] c main_v14 (ix4 b j h d) = (pr m c 1 (rowOf b (lateRow j)) (laneAt h d) : EReal) := by
  have h0 : (StableHlo.after ([hostOps1] : List (List (HloOp τ sig (Elt Ideal)))).flatten (Z m c) (Proc.devRef .tc main_v14) (ix4 b j h d) : EReal)
      = Z m c (Proc.devRef .tc main_v3_8) (ix3 b (laneAt h d) j) := by
    generalize Z m c = Y
    simp only [hostOps1, List.flatten_cons, List.flatten_nil, List.append_nil, List.cons_append, List.nil_append]
    after_reads_at
    rfl
  refine Eq.trans h0 ?_
  rw [Z_11]
  rfl
theorem tail_17 (c : Dev nD) (b : Fin 16) (j : Fin 512) (h : Fin 8) (d : Fin 64) :
    Pipeline.afterTail₀ cfgs (dats m) 0 (V0 m) [hostOps1] c main_v17 (ix4 b j h d) = (pr m c 2 (rowOf b (lateRow j)) (laneAt h d) : EReal) := by
  have h0 : (StableHlo.after ([hostOps1] : List (List (HloOp τ sig (Elt Ideal)))).flatten (Z m c) (Proc.devRef .tc main_v17) (ix4 b j h d) : EReal)
      = Z m c (Proc.devRef .tc main_v3_9) (ix3 b (laneAt h d) j) := by
    generalize Z m c = Y
    simp only [hostOps1, List.flatten_cons, List.flatten_nil, List.append_nil, List.cons_append, List.nil_append]
    after_reads_at
    rfl
  refine Eq.trans h0 ?_
  rw [Z_12]
  rfl
theorem tail_20 (c : Dev nD) (b : Fin 16) (s : Fin 2048) (h : Fin 8) (d : Fin 64) :
    Pipeline.afterTail₀ cfgs (dats m) 0 (V0 m) [hostOps1] c main_v20 (ix4 b s h d) = (pr m c 5 (rowOf b s) (laneAt h d) : EReal) := by
  have h0 : (StableHlo.after ([hostOps1] : List (List (HloOp τ sig (Elt Ideal)))).flatten (Z m c) (Proc.devRef .tc main_v20) (ix4 b s h d) : EReal)
      = Z m c (Proc.devRef .tc main_v3_10) (ix3 b (laneAt h d) s) := by
    generalize Z m c = Y
    simp only [hostOps1, List.flatten_cons, List.flatten_nil, List.append_nil, List.cons_append, List.nil_append]
    after_reads_at
    rfl
  refine Eq.trans h0 ?_
  rw [Z_13]
  rfl
theorem tail_23 (c : Dev nD) (b : Fin 16) (s : Fin 2048) (h : Fin 8) (d : Fin 64) :
    Pipeline.afterTail₀ cfgs (dats m) 0 (V0 m) [hostOps1] c main_v23 (ix4 b s h d) = (pr m c 6 (rowOf b s) (laneAt h d) : EReal) := by
  have h0 : (StableHlo.after ([hostOps1] : List (List (HloOp τ sig (Elt Ideal)))).flatten (Z m c) (Proc.devRef .tc main_v23) (ix4 b s h d) : EReal)
      = Z m c (Proc.devRef .tc main_v3_11) (ix3 b (laneAt h d) s) := by
    generalize Z m c = Y
    simp only [hostOps1, List.flatten_cons, List.flatten_nil, List.append_nil, List.cons_append, List.nil_append]
    after_reads_at
    rfl
  refine Eq.trans h0 ?_
  rw [Z_14]
  rfl

end Cert.Kernel2Ideal.Proj
-- ==== Proof.ProjAB.RefVal.lean ====
/-
  The projection reference, element by element: a row of `x` scaled by the reciprocal root of its mean square and by the
  gain, times a column of the weights.
-/
module

public import proofs.«01_k».proof.Proof.ProjAB.Pay
public import proofs.«01_k».proof.Proof.AttnA.Scores
public import proofs.«01_k».proof.Proof.Gen.Reference2Ideal.Run
public import Idealize.ShloMosaic.Lib.Pointwise
public import Idealize.ShloMosaic.Lib.Quiescent

@[expose] public section

noncomputable section

namespace Cert.Reference2Ideal.Proj

open Cert.Reference2Ideal Cert.Reference2Ideal.Gen
open Idealize.ShloMosaic Idealize.ShloMosaic.TcCoe Idealize.SL.Sem
open Cert.Kernel2Ideal.Proj (rms proj scale silu)

/-- The frame claim's conclusion. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2.2.2.2.2.2.2.2.2, sem_eq_zero_of_no_sems (by decide) r.2⟩) (Cert.Reference2Ideal.Value.run m ρ)

variable (X : Vec Ideal S16x2048x1024 .f32) (g : Vec Ideal S1024 .f32) (W : Vec Ideal S1024x4096 .f32)

/-- Column `l` of part `p` of the weights. -/
def colOf (p : Fin 8) (l : Fin 512) : Fin 4096 := ⟨p.val * 512 + l.val, by omega⟩
/-- Element `l` of part `p` of the projection of row `s` of batch `b`. -/
def el (p : Fin 8) (b : Fin 16) (s : Fin 2048) (l : Fin 512) : EReal :=
  proj (fun k => X (ix3 b s k)) (fun k => g (ix1 k)) (fun k => W (ix2 k (colOf p l)))
/-- Row `j` of the last 512. -/
def lateRow (j : Fin 512) : Fin 2048 := ⟨1536 + j.val, by omega⟩
/-- Lane `d` of head `h`. -/
def laneAt (h : Fin 8) (d : Fin 64) : Fin 512 := ⟨h.val * 64 + d.val, by omega⟩

/-- The projection, whole. -/
def uT : FVec Ideal S16x2048x4096 .f32 := Host.dotGeneral (φ₂ := .f32) dot_S16x2048x1024_S1024x4096_S16x2048x4096_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) W

theorem uT_at (b : Fin 16) (s : Fin 2048) (n : Fin 4096) :
    uT X g W (ix3 b s n) = proj (fun k => X (ix3 b s k)) (fun k => g (ix1 k)) (fun k => W (ix2 k n)) := by
  pointwise [uT]
  rfl

/-- The result `main_v28`. -/
def res0 : FVec Ideal S16x2048x512 .bf16 := truncf .bf16 (mulf (extractStridedSlice S16x2048x512 ![0, 0, 0] (uT X g W) slices_S16x2048x4096_S16x2048x512_0_0_0) (broadcastInDim S16x2048x512 ![] bcast_S_S16x2048x512 (constant S_ .f32 0x3E38AA3B#32))) bitsLt_bf16_f32
theorem res0_at (b : Fin 16) (s : Fin 2048) (l : Fin 512) : (res0 X g W (ix3 b s l) : EReal) = el X g W 0 b s l * scale := by
  pointwise [res0]
  simp only [uT_at]
  have e : (⟨l.val, by omega⟩ : Fin 4096) = colOf 0 l := Fin.ext (by show l.val = 0 * 512 + l.val; omega)
  simp only [e]
  rfl

/-- The result `main_v29`. -/
def res1 : FVec Ideal S16x2048x512 .bf16 := truncf .bf16 (extractStridedSlice S16x2048x512 ![0, 0, 512] (uT X g W) slices_S16x2048x4096_S16x2048x512_0_0_512) bitsLt_bf16_f32
theorem res1_at (b : Fin 16) (s : Fin 2048) (l : Fin 512) : (res1 X g W (ix3 b s l) : EReal) = el X g W 1 b s l := by
  pointwise [res1]
  simp only [uT_at]
  rfl

/-- The result `main_v30`. -/
def res2 : FVec Ideal S16x2048x512 .bf16 := truncf .bf16 (extractStridedSlice S16x2048x512 ![0, 0, 1024] (uT X g W) slices_S16x2048x4096_S16x2048x512_0_0_1024) bitsLt_bf16_f32
theorem res2_at (b : Fin 16) (s : Fin 2048) (l : Fin 512) : (res2 X g W (ix3 b s l) : EReal) = el X g W 2 b s l := by
  pointwise [res2]
  simp only [uT_at]
  rfl

/-- The result `main_v31`. -/
def res3 : FVec Ideal S16x2048x512 .bf16 := truncf .bf16 (mulf (extractStridedSlice S16x2048x512 ![0, 0, 1536] (uT X g W) slices_S16x2048x4096_S16x2048x512_0_0_1536) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 1536] (uT X g W) slices_S16x2048x4096_S16x2048x512_0_0_1536)))))) bitsLt_bf16_f32
theorem res3_at (b : Fin 16) (s : Fin 2048) (l : Fin 512) : (res3 X g W (ix3 b s l) : EReal) = silu (el X g W 3 b s l) := by
  pointwise [res3]
  simp only [uT_at]
  rw [Cert.KernelIdeal.Attn.mul_sigmoid]
  rfl

/-- The result `main_v32`. -/
def res4 : FVec Ideal S16x2048x512 .bf16 := truncf .bf16 (mulf (extractStridedSlice S16x2048x512 ![0, 0, 2048] (uT X g W) slices_S16x2048x4096_S16x2048x512_0_0_2048) (broadcastInDim S16x2048x512 ![] bcast_S_S16x2048x512 (constant S_ .f32 0x3E38AA3B#32))) bitsLt_bf16_f32
theorem res4_at (b : Fin 16) (s : Fin 2048) (l : Fin 512) : (res4 X g W (ix3 b s l) : EReal) = el X g W 4 b s l * scale := by
  pointwise [res4]
  simp only [uT_at]
  rfl

/-- The result `main_v33`. -/
def res5 : FVec Ideal S16x2048x512 .bf16 := truncf .bf16 (extractStridedSlice S16x2048x512 ![0, 0, 2560] (uT X g W) slices_S16x2048x4096_S16x2048x512_0_0_2560) bitsLt_bf16_f32
theorem res5_at (b : Fin 16) (s : Fin 2048) (l : Fin 512) : (res5 X g W (ix3 b s l) : EReal) = el X g W 5 b s l := by
  pointwise [res5]
  simp only [uT_at]
  rfl

/-- The result `main_v34`. -/
def res6 : FVec Ideal S16x2048x512 .bf16 := truncf .bf16 (extractStridedSlice S16x2048x512 ![0, 0, 3072] (uT X g W) slices_S16x2048x4096_S16x2048x512_0_0_3072) bitsLt_bf16_f32
theorem res6_at (b : Fin 16) (s : Fin 2048) (l : Fin 512) : (res6 X g W (ix3 b s l) : EReal) = el X g W 6 b s l := by
  pointwise [res6]
  simp only [uT_at]
  rfl

/-- The result `main_v35`. -/
def res7 : FVec Ideal S16x2048x512 .bf16 := truncf .bf16 (mulf (extractStridedSlice S16x2048x512 ![0, 0, 3584] (uT X g W) slices_S16x2048x4096_S16x2048x512_0_0_3584) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 3584] (uT X g W) slices_S16x2048x4096_S16x2048x512_0_0_3584)))))) bitsLt_bf16_f32
theorem res7_at (b : Fin 16) (s : Fin 2048) (l : Fin 512) : (res7 X g W (ix3 b s l) : EReal) = silu (el X g W 7 b s l) := by
  pointwise [res7]
  simp only [uT_at]
  rw [Cert.KernelIdeal.Attn.mul_sigmoid]
  rfl

/-- The result `main_v37`. -/
def res8 : FVec Ideal S16x512x8x64 .f32 := shapeCast S16x512x8x64 (extractStridedSlice S16x512x512 ![0, 1536, 0] (extractStridedSlice S16x2048x512 ![0, 0, 512] (uT X g W) slices_S16x2048x4096_S16x2048x512_0_0_512) slices_S16x2048x512_S16x512x512_0_1536_0) shapeCasts_S16x512x512_S16x512x8x64
theorem res8_at (b : Fin 16) (s : Fin 512) (h : Fin 8) (d : Fin 64) : (res8 X g W (ix4 b s h d) : EReal) = el X g W 1 b (lateRow s) (laneAt h d) := by
  pointwise [res8]
  simp only [uT_at]
  rfl

/-- The result `main_v39`. -/
def res9 : FVec Ideal S16x512x8x64 .f32 := shapeCast S16x512x8x64 (extractStridedSlice S16x512x512 ![0, 1536, 0] (extractStridedSlice S16x2048x512 ![0, 0, 1024] (uT X g W) slices_S16x2048x4096_S16x2048x512_0_0_1024) slices_S16x2048x512_S16x512x512_0_1536_0) shapeCasts_S16x512x512_S16x512x8x64
theorem res9_at (b : Fin 16) (s : Fin 512) (h : Fin 8) (d : Fin 64) : (res9 X g W (ix4 b s h d) : EReal) = el X g W 2 b (lateRow s) (laneAt h d) := by
  pointwise [res9]
  simp only [uT_at]
  rfl

/-- The result `main_v40`. -/
def res10 : FVec Ideal S16x2048x8x64 .f32 := shapeCast S16x2048x8x64 (extractStridedSlice S16x2048x512 ![0, 0, 2560] (uT X g W) slices_S16x2048x4096_S16x2048x512_0_0_2560) shapeCasts_S16x2048x512_S16x2048x8x64
theorem res10_at (b : Fin 16) (s : Fin 2048) (h : Fin 8) (d : Fin 64) : (res10 X g W (ix4 b s h d) : EReal) = el X g W 5 b s (laneAt h d) := by
  pointwise [res10]
  simp only [uT_at]
  rfl

/-- The result `main_v41`. -/
def res11 : FVec Ideal S16x2048x8x64 .f32 := shapeCast S16x2048x8x64 (extractStridedSlice S16x2048x512 ![0, 0, 3072] (uT X g W) slices_S16x2048x4096_S16x2048x512_0_0_3072) shapeCasts_S16x2048x512_S16x2048x8x64
theorem res11_at (b : Fin 16) (s : Fin 2048) (h : Fin 8) (d : Fin 64) : (res11 X g W (ix4 b s h d) : EReal) = el X g W 6 b s (laneAt h d) := by
  pointwise [res11]
  simp only [uT_at]
  rfl

end Cert.Reference2Ideal.Proj
-- ==== Proof.ProjAB.Value.lean ====
/-
  The projection kernel's twelve results are the reference's, and both programs leave them: the second value claim.
-/
module

public import proofs.«01_k».proof.Defs
public import proofs.«01_k».proof.Proof.ProjAB.Host
public import proofs.«01_k».proof.Proof.ProjAB.RefVal

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem

theorem app3 {α β γ δ : Type} (f : α → β → γ → δ) {a a' : α} {b b' : β} {c c' : γ} (h1 : a = a') (h2 : b = b') (h3 : c = c') :
    f a b c = f a' b' c' := by rw [h1, h2, h3]

/-- An element of the kernel's projection is the reference's. -/
theorem pr_eq (m : (ℓ : Loc nD τ sig) → Buf (Elt Ideal) ℓ) (c : Dev nD) (p : Fin 8) (b : Fin 16) (s : Fin 2048) (l : Fin 512) :
    pr m c p (rowOf b s) l = Cert.Reference2Ideal.Proj.el (m ((c.tc : Thread nD τ).loc main_arg0)) (m ((c.tc : Thread nD τ).loc main_arg1))
      (m ((c.tc : Thread nD τ).loc main_arg2)) p b s l := by
  have e := app3 proj (funext fun k => V_v0 m c b s k) (funext fun k => V_v1 m c k) (funext fun k => V_v2 m c k (colOf p l))
  exact e

theorem val0 (m : (ℓ : Loc nD τ sig) → Buf (Elt Ideal) ℓ) (c : Dev nD) :
    Pipeline.afterTail₀ cfgs (dats m) 0 (V0 m) [hostOps1] c main_v4 = Cert.Reference2Ideal.Proj.res0 (m ((c.tc : Thread nD τ).loc main_arg0)) (m ((c.tc : Thread nD τ).loc main_arg1)) (m ((c.tc : Thread nD τ).loc main_arg2)) := by
  funext i
  obtain ⟨b, s, l, rfl⟩ : ∃ (b : Fin 16) (s : Fin 2048) (l : Fin 512), (i : S16x2048x512.Idx) = ix3 b s l :=
    ⟨i 0, i 1, i 2, funext fun a => match a with | ⟨0, _⟩ => rfl | ⟨1, _⟩ => rfl | ⟨2, _⟩ => rfl⟩
  refine (tail_4 m c b s l).trans (Eq.trans ?_ (Cert.Reference2Ideal.Proj.res0_at (m ((c.tc : Thread nD τ).loc main_arg0)) (m ((c.tc : Thread nD τ).loc main_arg1)) (m ((c.tc : Thread nD τ).loc main_arg2)) b s l).symm)
  rw [pr_eq]
theorem val1 (m : (ℓ : Loc nD τ sig) → Buf (Elt Ideal) ℓ) (c : Dev nD) :
    Pipeline.afterTail₀ cfgs (dats m) 0 (V0 m) [hostOps1] c main_v5 = Cert.Reference2Ideal.Proj.res1 (m ((c.tc : Thread nD τ).loc main_arg0)) (m ((c.tc : Thread nD τ).loc main_arg1)) (m ((c.tc : Thread nD τ).loc main_arg2)) := by
  funext i
  obtain ⟨b, s, l, rfl⟩ : ∃ (b : Fin 16) (s : Fin 2048) (l : Fin 512), (i : S16x2048x512.Idx) = ix3 b s l :=
    ⟨i 0, i 1, i 2, funext fun a => match a with | ⟨0, _⟩ => rfl | ⟨1, _⟩ => rfl | ⟨2, _⟩ => rfl⟩
  refine (tail_5 m c b s l).trans (Eq.trans ?_ (Cert.Reference2Ideal.Proj.res1_at (m ((c.tc : Thread nD τ).loc main_arg0)) (m ((c.tc : Thread nD τ).loc main_arg1)) (m ((c.tc : Thread nD τ).loc main_arg2)) b s l).symm)
  rw [pr_eq]
theorem val2 (m : (ℓ : Loc nD τ sig) → Buf (Elt Ideal) ℓ) (c : Dev nD) :
    Pipeline.afterTail₀ cfgs (dats m) 0 (V0 m) [hostOps1] c main_v6 = Cert.Reference2Ideal.Proj.res2 (m ((c.tc : Thread nD τ).loc main_arg0)) (m ((c.tc : Thread nD τ).loc main_arg1)) (m ((c.tc : Thread nD τ).loc main_arg2)) := by
  funext i
  obtain ⟨b, s, l, rfl⟩ : ∃ (b : Fin 16) (s : Fin 2048) (l : Fin 512), (i : S16x2048x512.Idx) = ix3 b s l :=
    ⟨i 0, i 1, i 2, funext fun a => match a with | ⟨0, _⟩ => rfl | ⟨1, _⟩ => rfl | ⟨2, _⟩ => rfl⟩
  refine (tail_6 m c b s l).trans (Eq.trans ?_ (Cert.Reference2Ideal.Proj.res2_at (m ((c.tc : Thread nD τ).loc main_arg0)) (m ((c.tc : Thread nD τ).loc main_arg1)) (m ((c.tc : Thread nD τ).loc main_arg2)) b s l).symm)
  rw [pr_eq]
theorem val3 (m : (ℓ : Loc nD τ sig) → Buf (Elt Ideal) ℓ) (c : Dev nD) :
    Pipeline.afterTail₀ cfgs (dats m) 0 (V0 m) [hostOps1] c main_v7 = Cert.Reference2Ideal.Proj.res3 (m ((c.tc : Thread nD τ).loc main_arg0)) (m ((c.tc : Thread nD τ).loc main_arg1)) (m ((c.tc : Thread nD τ).loc main_arg2)) := by
  funext i
  obtain ⟨b, s, l, rfl⟩ : ∃ (b : Fin 16) (s : Fin 2048) (l : Fin 512), (i : S16x2048x512.Idx) = ix3 b s l :=
    ⟨i 0, i 1, i 2, funext fun a => match a with | ⟨0, _⟩ => rfl | ⟨1, _⟩ => rfl | ⟨2, _⟩ => rfl⟩
  refine (tail_7 m c b s l).trans (Eq.trans ?_ (Cert.Reference2Ideal.Proj.res3_at (m ((c.tc : Thread nD τ).loc main_arg0)) (m ((c.tc : Thread nD τ).loc main_arg1)) (m ((c.tc : Thread nD τ).loc main_arg2)) b s l).symm)
  rw [pr_eq]
theorem val4 (m : (ℓ : Loc nD τ sig) → Buf (Elt Ideal) ℓ) (c : Dev nD) :
    Pipeline.afterTail₀ cfgs (dats m) 0 (V0 m) [hostOps1] c main_v8 = Cert.Reference2Ideal.Proj.res4 (m ((c.tc : Thread nD τ).loc main_arg0)) (m ((c.tc : Thread nD τ).loc main_arg1)) (m ((c.tc : Thread nD τ).loc main_arg2)) := by
  funext i
  obtain ⟨b, s, l, rfl⟩ : ∃ (b : Fin 16) (s : Fin 2048) (l : Fin 512), (i : S16x2048x512.Idx) = ix3 b s l :=
    ⟨i 0, i 1, i 2, funext fun a => match a with | ⟨0, _⟩ => rfl | ⟨1, _⟩ => rfl | ⟨2, _⟩ => rfl⟩
  refine (tail_8 m c b s l).trans (Eq.trans ?_ (Cert.Reference2Ideal.Proj.res4_at (m ((c.tc : Thread nD τ).loc main_arg0)) (m ((c.tc : Thread nD τ).loc main_arg1)) (m ((c.tc : Thread nD τ).loc main_arg2)) b s l).symm)
  rw [pr_eq]
theorem val5 (m : (ℓ : Loc nD τ sig) → Buf (Elt Ideal) ℓ) (c : Dev nD) :
    Pipeline.afterTail₀ cfgs (dats m) 0 (V0 m) [hostOps1] c main_v9 = Cert.Reference2Ideal.Proj.res5 (m ((c.tc : Thread nD τ).loc main_arg0)) (m ((c.tc : Thread nD τ).loc main_arg1)) (m ((c.tc : Thread nD τ).loc main_arg2)) := by
  funext i
  obtain ⟨b, s, l, rfl⟩ : ∃ (b : Fin 16) (s : Fin 2048) (l : Fin 512), (i : S16x2048x512.Idx) = ix3 b s l :=
    ⟨i 0, i 1, i 2, funext fun a => match a with | ⟨0, _⟩ => rfl | ⟨1, _⟩ => rfl | ⟨2, _⟩ => rfl⟩
  refine (tail_9 m c b s l).trans (Eq.trans ?_ (Cert.Reference2Ideal.Proj.res5_at (m ((c.tc : Thread nD τ).loc main_arg0)) (m ((c.tc : Thread nD τ).loc main_arg1)) (m ((c.tc : Thread nD τ).loc main_arg2)) b s l).symm)
  rw [pr_eq]
theorem val6 (m : (ℓ : Loc nD τ sig) → Buf (Elt Ideal) ℓ) (c : Dev nD) :
    Pipeline.afterTail₀ cfgs (dats m) 0 (V0 m) [hostOps1] c main_v10 = Cert.Reference2Ideal.Proj.res6 (m ((c.tc : Thread nD τ).loc main_arg0)) (m ((c.tc : Thread nD τ).loc main_arg1)) (m ((c.tc : Thread nD τ).loc main_arg2)) := by
  funext i
  obtain ⟨b, s, l, rfl⟩ : ∃ (b : Fin 16) (s : Fin 2048) (l : Fin 512), (i : S16x2048x512.Idx) = ix3 b s l :=
    ⟨i 0, i 1, i 2, funext fun a => match a with | ⟨0, _⟩ => rfl | ⟨1, _⟩ => rfl | ⟨2, _⟩ => rfl⟩
  refine (tail_10 m c b s l).trans (Eq.trans ?_ (Cert.Reference2Ideal.Proj.res6_at (m ((c.tc : Thread nD τ).loc main_arg0)) (m ((c.tc : Thread nD τ).loc main_arg1)) (m ((c.tc : Thread nD τ).loc main_arg2)) b s l).symm)
  rw [pr_eq]
theorem val7 (m : (ℓ : Loc nD τ sig) → Buf (Elt Ideal) ℓ) (c : Dev nD) :
    Pipeline.afterTail₀ cfgs (dats m) 0 (V0 m) [hostOps1] c main_v11 = Cert.Reference2Ideal.Proj.res7 (m ((c.tc : Thread nD τ).loc main_arg0)) (m ((c.tc : Thread nD τ).loc main_arg1)) (m ((c.tc : Thread nD τ).loc main_arg2)) := by
  funext i
  obtain ⟨b, s, l, rfl⟩ : ∃ (b : Fin 16) (s : Fin 2048) (l : Fin 512), (i : S16x2048x512.Idx) = ix3 b s l :=
    ⟨i 0, i 1, i 2, funext fun a => match a with | ⟨0, _⟩ => rfl | ⟨1, _⟩ => rfl | ⟨2, _⟩ => rfl⟩
  refine (tail_11 m c b s l).trans (Eq.trans ?_ (Cert.Reference2Ideal.Proj.res7_at (m ((c.tc : Thread nD τ).loc main_arg0)) (m ((c.tc : Thread nD τ).loc main_arg1)) (m ((c.tc : Thread nD τ).loc main_arg2)) b s l).symm)
  rw [pr_eq]
theorem val8 (m : (ℓ : Loc nD τ sig) → Buf (Elt Ideal) ℓ) (c : Dev nD) :
    Pipeline.afterTail₀ cfgs (dats m) 0 (V0 m) [hostOps1] c main_v14 = Cert.Reference2Ideal.Proj.res8 (m ((c.tc : Thread nD τ).loc main_arg0)) (m ((c.tc : Thread nD τ).loc main_arg1)) (m ((c.tc : Thread nD τ).loc main_arg2)) := by
  funext i
  obtain ⟨b, s, h, d, rfl⟩ : ∃ (b : Fin 16) (s : Fin 512) (h : Fin 8) (d : Fin 64), (i : S16x512x8x64.Idx) = ix4 b s h d :=
    ⟨i 0, i 1, i 2, i 3, funext fun a => match a with | ⟨0, _⟩ => rfl | ⟨1, _⟩ => rfl | ⟨2, _⟩ => rfl | ⟨3, _⟩ => rfl⟩
  refine (tail_14 m c b s h d).trans (Eq.trans ?_ (Cert.Reference2Ideal.Proj.res8_at (m ((c.tc : Thread nD τ).loc main_arg0)) (m ((c.tc : Thread nD τ).loc main_arg1)) (m ((c.tc : Thread nD τ).loc main_arg2)) b s h d).symm)
  rw [pr_eq]
  rfl
theorem val9 (m : (ℓ : Loc nD τ sig) → Buf (Elt Ideal) ℓ) (c : Dev nD) :
    Pipeline.afterTail₀ cfgs (dats m) 0 (V0 m) [hostOps1] c main_v17 = Cert.Reference2Ideal.Proj.res9 (m ((c.tc : Thread nD τ).loc main_arg0)) (m ((c.tc : Thread nD τ).loc main_arg1)) (m ((c.tc : Thread nD τ).loc main_arg2)) := by
  funext i
  obtain ⟨b, s, h, d, rfl⟩ : ∃ (b : Fin 16) (s : Fin 512) (h : Fin 8) (d : Fin 64), (i : S16x512x8x64.Idx) = ix4 b s h d :=
    ⟨i 0, i 1, i 2, i 3, funext fun a => match a with | ⟨0, _⟩ => rfl | ⟨1, _⟩ => rfl | ⟨2, _⟩ => rfl | ⟨3, _⟩ => rfl⟩
  refine (tail_17 m c b s h d).trans (Eq.trans ?_ (Cert.Reference2Ideal.Proj.res9_at (m ((c.tc : Thread nD τ).loc main_arg0)) (m ((c.tc : Thread nD τ).loc main_arg1)) (m ((c.tc : Thread nD τ).loc main_arg2)) b s h d).symm)
  rw [pr_eq]
  rfl
theorem val10 (m : (ℓ : Loc nD τ sig) → Buf (Elt Ideal) ℓ) (c : Dev nD) :
    Pipeline.afterTail₀ cfgs (dats m) 0 (V0 m) [hostOps1] c main_v20 = Cert.Reference2Ideal.Proj.res10 (m ((c.tc : Thread nD τ).loc main_arg0)) (m ((c.tc : Thread nD τ).loc main_arg1)) (m ((c.tc : Thread nD τ).loc main_arg2)) := by
  funext i
  obtain ⟨b, s, h, d, rfl⟩ : ∃ (b : Fin 16) (s : Fin 2048) (h : Fin 8) (d : Fin 64), (i : S16x2048x8x64.Idx) = ix4 b s h d :=
    ⟨i 0, i 1, i 2, i 3, funext fun a => match a with | ⟨0, _⟩ => rfl | ⟨1, _⟩ => rfl | ⟨2, _⟩ => rfl | ⟨3, _⟩ => rfl⟩
  refine (tail_20 m c b s h d).trans (Eq.trans ?_ (Cert.Reference2Ideal.Proj.res10_at (m ((c.tc : Thread nD τ).loc main_arg0)) (m ((c.tc : Thread nD τ).loc main_arg1)) (m ((c.tc : Thread nD τ).loc main_arg2)) b s h d).symm)
  rw [pr_eq]
  rfl
theorem val11 (m : (ℓ : Loc nD τ sig) → Buf (Elt Ideal) ℓ) (c : Dev nD) :
    Pipeline.afterTail₀ cfgs (dats m) 0 (V0 m) [hostOps1] c main_v23 = Cert.Reference2Ideal.Proj.res11 (m ((c.tc : Thread nD τ).loc main_arg0)) (m ((c.tc : Thread nD τ).loc main_arg1)) (m ((c.tc : Thread nD τ).loc main_arg2)) := by
  funext i
  obtain ⟨b, s, h, d, rfl⟩ : ∃ (b : Fin 16) (s : Fin 2048) (h : Fin 8) (d : Fin 64), (i : S16x2048x8x64.Idx) = ix4 b s h d :=
    ⟨i 0, i 1, i 2, i 3, funext fun a => match a with | ⟨0, _⟩ => rfl | ⟨1, _⟩ => rfl | ⟨2, _⟩ => rfl | ⟨3, _⟩ => rfl⟩
  refine (tail_23 m c b s h d).trans (Eq.trans ?_ (Cert.Reference2Ideal.Proj.res11_at (m ((c.tc : Thread nD τ).loc main_arg0)) (m ((c.tc : Thread nD τ).loc main_arg1)) (m ((c.tc : Thread nD τ).loc main_arg2)) b s h d).symm)
  rw [pr_eq]
  rfl

/-- The kernel's call computes the reference over the reals. -/
theorem value : Cert.algebraic_Kernel2Ideal_Reference2Ideal := fun m g m' g' _ hm =>
  ⟨fun c => Cert.Reference2Ideal.Proj.res0 (m ((c.tc : Thread nD τ).loc main_arg0)) (m ((c.tc : Thread nD τ).loc main_arg1)) (m ((c.tc : Thread nD τ).loc main_arg2)),
    fun c => Cert.Reference2Ideal.Proj.res1 (m ((c.tc : Thread nD τ).loc main_arg0)) (m ((c.tc : Thread nD τ).loc main_arg1)) (m ((c.tc : Thread nD τ).loc main_arg2)),
    fun c => Cert.Reference2Ideal.Proj.res2 (m ((c.tc : Thread nD τ).loc main_arg0)) (m ((c.tc : Thread nD τ).loc main_arg1)) (m ((c.tc : Thread nD τ).loc main_arg2)),
    fun c => Cert.Reference2Ideal.Proj.res3 (m ((c.tc : Thread nD τ).loc main_arg0)) (m ((c.tc : Thread nD τ).loc main_arg1)) (m ((c.tc : Thread nD τ).loc main_arg2)),
    fun c => Cert.Reference2Ideal.Proj.res4 (m ((c.tc : Thread nD τ).loc main_arg0)) (m ((c.tc : Thread nD τ).loc main_arg1)) (m ((c.tc : Thread nD τ).loc main_arg2)),
    fun c => Cert.Reference2Ideal.Proj.res5 (m ((c.tc : Thread nD τ).loc main_arg0)) (m ((c.tc : Thread nD τ).loc main_arg1)) (m ((c.tc : Thread nD τ).loc main_arg2)),
    fun c => Cert.Reference2Ideal.Proj.res6 (m ((c.tc : Thread nD τ).loc main_arg0)) (m ((c.tc : Thread nD τ).loc main_arg1)) (m ((c.tc : Thread nD τ).loc main_arg2)),
    fun c => Cert.Reference2Ideal.Proj.res7 (m ((c.tc : Thread nD τ).loc main_arg0)) (m ((c.tc : Thread nD τ).loc main_arg1)) (m ((c.tc : Thread nD τ).loc main_arg2)),
    fun c => Cert.Reference2Ideal.Proj.res8 (m ((c.tc : Thread nD τ).loc main_arg0)) (m ((c.tc : Thread nD τ).loc main_arg1)) (m ((c.tc : Thread nD τ).loc main_arg2)),
    fun c => Cert.Reference2Ideal.Proj.res9 (m ((c.tc : Thread nD τ).loc main_arg0)) (m ((c.tc : Thread nD τ).loc main_arg1)) (m ((c.tc : Thread nD τ).loc main_arg2)),
    fun c => Cert.Reference2Ideal.Proj.res10 (m ((c.tc : Thread nD τ).loc main_arg0)) (m ((c.tc : Thread nD τ).loc main_arg1)) (m ((c.tc : Thread nD τ).loc main_arg2)),
    fun c => Cert.Reference2Ideal.Proj.res11 (m ((c.tc : Thread nD τ).loc main_arg0)) (m ((c.tc : Thread nD τ).loc main_arg1)) (m ((c.tc : Thread nD τ).loc main_arg2)),
    (θ_run defs _ _).mono (fun _ h c => ⟨((h c).2 main_v4 (Pipeline.mem_restRefs_of main_v4 (by decide) (by decide))).trans (val0 m c),
      ((h c).2 main_v5 (Pipeline.mem_restRefs_of main_v5 (by decide) (by decide))).trans (val1 m c),
      ((h c).2 main_v6 (Pipeline.mem_restRefs_of main_v6 (by decide) (by decide))).trans (val2 m c),
      ((h c).2 main_v7 (Pipeline.mem_restRefs_of main_v7 (by decide) (by decide))).trans (val3 m c),
      ((h c).2 main_v8 (Pipeline.mem_restRefs_of main_v8 (by decide) (by decide))).trans (val4 m c),
      ((h c).2 main_v9 (Pipeline.mem_restRefs_of main_v9 (by decide) (by decide))).trans (val5 m c),
      ((h c).2 main_v10 (Pipeline.mem_restRefs_of main_v10 (by decide) (by decide))).trans (val6 m c),
      ((h c).2 main_v11 (Pipeline.mem_restRefs_of main_v11 (by decide) (by decide))).trans (val7 m c),
      ((h c).2 main_v14 (Pipeline.mem_restRefs_of main_v14 (by decide) (by decide))).trans (val8 m c),
      ((h c).2 main_v17 (Pipeline.mem_restRefs_of main_v17 (by decide) (by decide))).trans (val9 m c),
      ((h c).2 main_v20 (Pipeline.mem_restRefs_of main_v20 (by decide) (by decide))).trans (val10 m c),
      ((h c).2 main_v23 (Pipeline.mem_restRefs_of main_v23 (by decide) (by decide))).trans (val11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
      (run_main m g),
    (θ_run Cert.Reference2Ideal.defs _ _).mono (fun _ h c => ⟨(h c).1.trans (app3 Cert.Reference2Ideal.Proj.res0 (hm c).1 (hm c).2.1 (hm c).2.2),
      (h c).2.1.trans (app3 Cert.Reference2Ideal.Proj.res1 (hm c).1 (hm c).2.1 (hm c).2.2),
      (h c).2.2.1.trans (app3 Cert.Reference2Ideal.Proj.res2 (hm c).1 (hm c).2.1 (hm c).2.2),
      (h c).2.2.2.1.trans (app3 Cert.Reference2Ideal.Proj.res3 (hm c).1 (hm c).2.1 (hm c).2.2),
      (h c).2.2.2.2.1.trans (app3 Cert.Reference2Ideal.Proj.res4 (hm c).1 (hm c).2.1 (hm c).2.2),
      (h c).2.2.2.2.2.1.trans (app3 Cert.Reference2Ideal.Proj.res5 (hm c).1 (hm c).2.1 (hm c).2.2),
      (h c).2.2.2.2.2.2.1.trans (app3 Cert.Reference2Ideal.Proj.res6 (hm c).1 (hm c).2.1 (hm c).2.2),
      (h c).2.2.2.2.2.2.2.1.trans (app3 Cert.Reference2Ideal.Proj.res7 (hm c).1 (hm c).2.1 (hm c).2.2),
      (h c).2.2.2.2.2.2.2.2.1.trans (app3 Cert.Reference2Ideal.Proj.res8 (hm c).1 (hm c).2.1 (hm c).2.2),
      (h c).2.2.2.2.2.2.2.2.2.1.trans (app3 Cert.Reference2Ideal.Proj.res9 (hm c).1 (hm c).2.1 (hm c).2.2),
      (h c).2.2.2.2.2.2.2.2.2.2.1.trans (app3 Cert.Reference2Ideal.Proj.res10 (hm c).1 (hm c).2.1 (hm c).2.2),
      (h c).2.2.2.2.2.2.2.2.2.2.2.1.trans (app3 Cert.Reference2Ideal.Proj.res11 (hm c).1 (hm c).2.1 (hm c).2.2),
      (h c).2.2.2.2.2.2.2.2.2.2.2.2⟩)
      (Cert.Reference2Ideal.Value.run m' g')⟩

end Cert.Kernel2Ideal.Proj
-- ==== Proof.Merge.Kern.lean ====
/-
  The merge kernel's result, element by element: a row of the gated attention output times the output weights, scaled by
  the reciprocal root of its mean square and by the gain, added to the row of `x`.
-/
module

public import proofs.«01_k».proof.Proof.ProjAB.Pay
public import proofs.«01_k».proof.Proof.Gen.Kernel3Ideal.Frame
public import proofs.«01_k».proof.Proof.Gen.Kernel3Ideal.Points
public import Idealize.ShloMosaic.Lib.Pipeline.Value
public import Idealize.ShloMosaic.Lib.Pipeline.Covers
public import Idealize.ShloMosaic.Lib.StableHlo.ReadAt
public import Idealize.ShloMosaic.Lib.Pointwise
public import Idealize.ShloMosaic.Lib.Tactic

@[expose] public section

set_option maxRecDepth 16384

noncomputable section

namespace Cert.Kernel3Ideal.Mrg

open Cert.Kernel3Ideal Cert.Kernel3Ideal.Gen
open Idealize.ShloMosaic Idealize.ShloMosaic.TcCoe
open Idealize.SL Idealize.SL.Sem
open Idealize.ShloMosaic.Pipeline (Dat Cfg Window)
open Cert.Kernel2Ideal.Proj (rms)

/-- One element of a merged row. -/
def merged (x h g : Fin 1024 → EReal) (n : Fin 1024) : EReal := x n + h n * rms h * g n
/-- A row times the weights. -/
def times (a : Fin 1024 → EReal) (w : Fin 1024 → Fin 1024 → EReal) (n : Fin 1024) : EReal := ∑ k, a k * w k n

theorem pay1 (a : Vec Ideal S2048x1024 .bf16) (w : Vec Ideal S1024x1024 .bf16) (x : Vec Ideal S2048x1024 .f32)
    (g : Vec Ideal S1x1024 .f32) (r : Fin 2048) (n : Fin 1024) :
    k0_pay1 (F := Ideal) a w x g (ix2 r n)
      = (merged (fun k => x (ix2 r k)) (times (fun k => a (ix2 r k)) (fun k n => w (ix2 k n))) (fun k => g (ix2 0 k)) n : EReal) := by
  pointwise [k0_pay1]
  rfl

theorem hz2 : (![0, 0] : Fin 2 → ℕ) = fun _ => 0 := funext fun a => match a with | ⟨0, _⟩ => rfl | ⟨1, _⟩ => rfl

theorem out (a : Vec Ideal S2048x1024 .bf16) (w : Vec Ideal S1024x1024 .bf16) (g : Vec Ideal S1x1024 .f32)
    (x : Vec Ideal S2048x1024 .f32) : out0_4 (F := Ideal) a w g x = k0_pay1 a w x g := by
  unfold out0_4 r0_0
  rw [View.canon_unit_zero hz2]
  unfold r0_1 r0_2
  simp only [View.ld_unit_zero (S := S2048x1024) hz2, View.ld_unit_zero (S := S1024x1024) hz2, View.ld_unit_zero (S := S1x1024) hz2]

variable (m : (ℓ : Loc nD τ sig) → Buf (Elt Ideal) ℓ)

/-- Row `r` of point `t`'s rows. -/
def rowAt (t : Fin cfg0.N) (r : Fin 2048) : Fin 32768 := ⟨t.val * 2048 + r.val, by have h : t.val < 16 := t.isLt; omega⟩
/-- Row `s` of batch `b`, among all rows. -/
def rowOf (b : Fin 16) (s : Fin 2048) : Fin 32768 := ⟨b.val * 2048 + s.val, by omega⟩

theorem tr0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)

theorem emb0 (t : Fin cfg0.N) (r : Fin 2048) (k : Fin 1024) : ((cfg0.win 0).blk t).view.emb (ix2 (n0 := 2048) (n1 := 1024) r k) = ix2 (n0 := 32768) (n1 := 1024) (rowAt t r) k := by
  obtain ⟨e0, e1⟩ := tr0 t
  funext a; apply Fin.ext
  match a with
  | ⟨0, _⟩ => show cc0_transform_0 (grid0.coords t) (0 : Fin 2) * 2048 + 1 * r.val = t.val * 2048 + r.val; rw [e0]; omega
  | ⟨1, _⟩ => show cc0_transform_0 (grid0.coords t) (1 : Fin 2) * 1024 + 1 * k.val = k.val; rw [e1]; omega
theorem emb1 (t : Fin cfg0.N) (k n : Fin 1024) : ((cfg0.win 1).blk t).view.emb (ix2 (n0 := 1024) (n1 := 1024) k n) = ix2 (n0 := 1024) (n1 := 1024) k n := by
  funext a; apply Fin.ext
  match a with
  | ⟨0, _⟩ => show 0 * 1024 + 1 * k.val = k.val; omega
  | ⟨1, _⟩ => show 0 * 1024 + 1 * n.val = n.val; omega
theorem emb2 (t : Fin cfg0.N) (k : Fin 1024) : ((cfg0.win 2).blk t).view.emb (ix2 (n0 := 1) (n1 := 1024) 0 k) = ix2 (n0 := 1) (n1 := 1024) 0 k := by
  funext a; apply Fin.ext
  match a with
  | ⟨0, _⟩ => rfl
  | ⟨1, _⟩ => show 0 * 1024 + 1 * k.val = k.val; omega

theorem iblk0_at (c : Dev nD) (t : Fin cfg0.N) (r : Fin 2048) (k : Fin 1024) :
    iblk m c 0 t (ix2 (n0 := 2048) (n1 := 1024) r k) = V m c main_v1 (ix2 (n0 := 32768) (n1 := 1024) (rowAt t r) k) :=
  congrArg (V m c main_v1) (emb0 t r k)
theorem iblk1_at (c : Dev nD) (t : Fin cfg0.N) (k n : Fin 1024) :
    iblk m c 1 t (ix2 (n0 := 1024) (n1 := 1024) k n) = V m c main_v5 (ix2 (n0 := 1024) (n1 := 1024) k n) :=
  congrArg (V m c main_v5) (emb1 t k n)
theorem iblk2_at (c : Dev nD) (t : Fin cfg0.N) (k : Fin 1024) :
    iblk m c 2 t (ix2 (n0 := 1) (n1 := 1024) 0 k) = V m c main_v6 (ix2 (n0 := 1) (n1 := 1024) 0 k) :=
  congrArg (V m c main_v6) (emb2 t k)
theorem iblk3_at (c : Dev nD) (t : Fin cfg0.N) (r : Fin 2048) (k : Fin 1024) :
    iblk m c 3 t (ix2 (n0 := 2048) (n1 := 1024) r k) = V m c main_v7 (ix2 (n0 := 32768) (n1 := 1024) (rowAt t r) k) :=
  congrArg (V m c main_v7) (emb0 t r k)

theorem merged_congr {x x' h h' g g' : Fin 1024 → EReal} (n : Fin 1024) (h1 : x = x') (h2 : h = h') (h3 : g = g') :
    merged x h g n = merged x' h' g' n := by rw [h1, h2, h3]
theorem times_congr {a a' : Fin 1024 → EReal} {w w' : Fin 1024 → Fin 1024 → EReal} (h1 : a = a') (h2 : w = w') :
    times a w = times a' w' := by rw [h1, h2]

/-- The result array. -/
def G4 (c : Dev nD) : Vec Ideal S32768x1024 .f32 := fun i =>
  (merged (fun k => V m c main_v7 (ix2 (i 0) k)) (times (fun k => V m c main_v1 (ix2 (i 0) k)) (fun k n => V m c main_v5 (ix2 k n)))
    (fun k => V m c main_v6 (ix2 0 k)) (i 1) : EReal)
theorem flushed4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, out]
  funext y
  obtain ⟨r, n, rfl⟩ : ∃ (r : Fin 2048) (n : Fin 1024), (y : S2048x1024.Idx) = ix2 r n := ⟨y 0, y 1, funext fun a => match a with | ⟨0, _⟩ => rfl | ⟨1, _⟩ => rfl⟩
  refine Eq.trans ?_ (congrArg (G4 m c) (emb0 t r n)).symm
  refine Eq.trans (pay1 _ _ _ _ r n) ?_
  have e := merged_congr n (funext fun k => iblk3_at m c t r k)
    (times_congr (funext fun k => iblk0_at m c t r k) (funext fun k => funext fun n => iblk1_at m c t k n)) (funext fun k => iblk2_at m c t k)
  exact e
theorem covered4 (i : S32768x1024.Idx) :
    ∃ t : Fin cfg0.N, (cfg0.win 4).flush t = true ∧ i ∈ ((cfg0.win 4).blk t).view.set := by
  have h0 : (i 0).val < 32768 := (i 0).isLt
  obtain ⟨t, ht⟩ : ∃ t : Fin cfg0.N, t.val = (i 0).val / 2048 := ⟨⟨(i 0).val / 2048, by show _ < 16; omega⟩, rfl⟩
  refine ⟨t, flush0_4 _, ?_⟩
  have h := ((cfg0.win 4).blk t).view.emb_mem_set (ix2 (n0 := 2048) (n1 := 1024) ⟨(i 0).val % 2048, Nat.mod_lt _ (by decide)⟩ (i 1))
  have e : ((cfg0.win 4).blk t).view.emb (ix2 (n0 := 2048) (n1 := 1024) ⟨(i 0).val % 2048, Nat.mod_lt _ (by decide)⟩ (i 1)) = i := (emb0 t ⟨(i 0).val % 2048, Nat.mod_lt _ (by decide)⟩ (i 1)).trans (show ix2 (n0 := 32768) (n1 := 1024) (rowAt t ⟨(i 0).val % 2048, Nat.mod_lt _ (by decide)⟩) (i 1) = i from by
    funext a; apply Fin.ext
    match a with
    | ⟨0, _⟩ => show t.val * 2048 + (i 0).val % 2048 = (i 0).val; omega
    | ⟨1, _⟩ => rfl)
  rw [e] at h
  exact h
theorem final4 (c : Dev nD) : (dats m 0 c).arrAt 4 cfg0.N = G4 m c :=
  (dats m 0 c).arrAt_eq_of_cover 4 (G4 m c) (fun t _ => flushed4 m c t) covered4

/-! The host's operations around the call. -/

/-- The place in head order of place `k` in the order of pairs. -/
def unpair (k : Fin 1024) : Fin 1024 :=
  ⟨k.val / 512 * 512 + k.val / 64 % 2 * 256 + k.val / 128 % 4 * 64 + k.val % 64, by omega⟩
/-- The place in the order of pairs of place `k` in head order. -/
def pair (k : Fin 1024) : Fin 1024 :=
  ⟨k.val / 512 * 512 + k.val / 64 % 4 * 128 + k.val / 256 % 2 * 64 + k.val % 64, by omega⟩
theorem unpair_pair : ∀ k : Fin 1024, unpair (pair k) = k := by decide +kernel
theorem pair_unpair : ∀ k : Fin 1024, pair (unpair k) = k := by decide +kernel

/-- A sum in the order of pairs is a sum in head order. -/
theorem times_unpair (a : Fin 1024 → EReal) (w : Fin 1024 → Fin 1024 → EReal) :
    times a (fun k n => w (unpair k) n) = times (fun k => a (pair k)) w := by
  funext n
  unfold times
  refine Eq.trans (Equiv.sum_comp (⟨pair, unpair, unpair_pair, pair_unpair⟩ : Fin 1024 ≃ Fin 1024) (fun k => a k * w (unpair k) n)).symm ?_
  refine Finset.sum_congr rfl fun k _ => ?_
  show a (pair k) * w (unpair (pair k)) n = _
  rw [unpair_pair]

theorem V_v1 (c : Dev nD) (b : Fin 16) (s : Fin 2048) (k : Fin 1024) :
    V m c main_v1 (ix2 (rowOf b s) k) = (m ((c.tc : Thread nD τ).loc main_arg0) (ix3 b s k) : EReal) := by
  unfold V
  after_reads_at
  have hb := b.isLt
  have hs := s.isLt
  have e : (ix3 ⟨(rowOf b s).val / 2048, by have := (rowOf b s).isLt; omega⟩ ⟨(rowOf b s).val % 2048, Nat.mod_lt _ (by decide)⟩ k : S16x2048x1024.Idx)
      = ix3 b s k := by
    funext a; apply Fin.ext
    match a with
    | ⟨0, _⟩ => show (b.val * 2048 + s.val) / 2048 = b.val; omega
    | ⟨1, _⟩ => show (b.val * 2048 + s.val) % 2048 = s.val; omega
    | ⟨2, _⟩ => rfl
  exact congrArg (m (c, Proc.tc.devRef main_arg0)) e
theorem V_v7 (c : Dev nD) (b : Fin 16) (s : Fin 2048) (k : Fin 1024) :
    V m c main_v7 (ix2 (rowOf b s) k) = (m ((c.tc : Thread nD τ).loc main_arg3) (ix3 b s k) : EReal) := by
  unfold V
  after_reads_at
  have hb := b.isLt
  have hs := s.isLt
  have e : (ix3 ⟨(rowOf b s).val / 2048, by have := (rowOf b s).isLt; omega⟩ ⟨(rowOf b s).val % 2048, Nat.mod_lt _ (by decide)⟩ k : S16x2048x1024.Idx)
      = ix3 b s k := by
    funext a; apply Fin.ext
    match a with
    | ⟨0, _⟩ => show (b.val * 2048 + s.val) / 2048 = b.val; omega
    | ⟨1, _⟩ => show (b.val * 2048 + s.val) % 2048 = s.val; omega
    | ⟨2, _⟩ => rfl
  exact congrArg (m (c, Proc.tc.devRef main_arg3)) e
theorem V_v6 (c : Dev nD) (k : Fin 1024) :
    V m c main_v6 (ix2 0 k) = (m ((c.tc : Thread nD τ).loc main_arg2) (ix1 k) : EReal) := by
  unfold V
  after_reads_at
theorem V_v5 (c : Dev nD) (k n : Fin 1024) :
    V m c main_v5 (ix2 k n) = (m ((c.tc : Thread nD τ).loc main_arg1) (ix2 (unpair k) n) : EReal) := by
  unfold V
  after_reads_at
  rfl

theorem arr_inj : Function.Injective (Pipeline.arrRef spec0) := by decide

/-- The arrays at the region's end. -/
def Z (c : Dev nD) : Valuation τ sig (Elt Ideal) :=
  Pipeline.withArrays spec0 c (V0 m c) fun w => (dats m 0 c).arrAt w cfg0.N
theorem Z_4 (c : Dev nD) : Z m c (Proc.devRef .tc main_v8) = G4 m c :=
  (Pipeline.withArrays_arr spec0 arr_inj c (V0 m c) (fun w => (dats m 0 c).arrAt w cfg0.N) 4).trans (final4 m c)
theorem tail_9 (c : Dev nD) (b : Fin 16) (s : Fin 2048) (n : Fin 1024) :
    Pipeline.afterTail₀ cfgs (dats m) 0 (V0 m) [hostOps1] c main_v9 (ix3 b s n) = (G4 m c (ix2 (rowOf b s) n) : EReal) := by
  have h0 : (StableHlo.after ([hostOps1] : List (List (HloOp τ sig (Elt Ideal)))).flatten (Z m c) (Proc.devRef .tc main_v9) (ix3 b s n) : EReal)
      = Z m c (Proc.devRef .tc main_v8) (ix2 (rowOf b s) n) := by
    generalize Z m c = Y
    simp only [hostOps1, List.flatten_cons, List.flatten_nil, List.append_nil, List.cons_append, List.nil_append]
    after_reads_at
    rfl
  refine Eq.trans h0 ?_
  rw [Z_4]

end Cert.Kernel3Ideal.Mrg
-- ==== Proof.Merge.Value.lean ====
/-
  The merge reference, element by element, and the third value claim: the merge kernel's result is the reference's.
-/
module

public import proofs.«01_k».proof.Defs
public import proofs.«01_k».proof.Proof.Merge.Kern
public import proofs.«01_k».proof.Proof.Gen.Reference3Ideal.Run
public import Idealize.ShloMosaic.Lib.Quiescent

@[expose] public section

set_option maxRecDepth 16384

noncomputable section

namespace Cert.Reference3Ideal.Mrg

open Cert.Reference3Ideal Cert.Reference3Ideal.Gen
open Idealize.ShloMosaic Idealize.ShloMosaic.TcCoe Idealize.SL.Sem
open Cert.Kernel3Ideal.Mrg (merged times pair)

/-- The frame claim's conclusion. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Cert.Reference3Ideal.Value.run m ρ)

variable (O : Vec Ideal S16x2048x1024 .f32) (W : Vec Ideal S1024x1024 .f32) (g : Vec Ideal S1024 .f32) (X : Vec Ideal S16x2048x1024 .f32)

/-- The attention output times the output weights, whole. -/
def hT : FVec Ideal S16x2048x1024 .f32 := Host.dotGeneral (φ₁ := .f32) (φ₂ := .f32) dot_S16x2048x1024_S1024x1024_S16x2048x1024_2_0_01_1_n_n none (shapeCast S16x2048x1024 (transpose S16x2048x2x2x4x64 [0, 1, 2, 4, 3, 5] (shapeCast S16x2048x2x4x2x64 O shapeCasts_S16x2048x1024_S16x2048x2x4x2x64) transposes_S16x2048x2x4x2x64_S16x2048x2x2x4x64_0_1_2_4_3_5) shapeCasts_S16x2048x2x2x4x64_S16x2048x1024) W

theorem hT_at (b : Fin 16) (s : Fin 2048) (n : Fin 1024) :
    hT O W (ix3 b s n) = times (fun k => O (ix3 b s (pair k))) (fun k n => W (ix2 k n)) n := by
  pointwise [hT]
  rfl

/-- The result `main_v17`. -/
def res : FVec Ideal S16x2048x1024 .f32 := addf X (mulf (mulf (hT O W) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (hT O W) (hT O W)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g)))
theorem res_at (b : Fin 16) (s : Fin 2048) (n : Fin 1024) : (res O W g X (ix3 b s n) : EReal)
    = merged (fun k => X (ix3 b s k)) (times (fun k => O (ix3 b s (pair k))) (fun k n => W (ix2 k n))) (fun k => g (ix1 k)) n := by
  pointwise [res]
  simp only [hT_at]
  rfl

end Cert.Reference3Ideal.Mrg

namespace Cert.Kernel3Ideal.Mrg

open Cert.Kernel3Ideal Cert.Kernel3Ideal.Gen
open Idealize.ShloMosaic Idealize.ShloMosaic.TcCoe Idealize.SL.Sem

theorem app4 {α β γ δ ε : Type} (f : α → β → γ → δ → ε) {a a' : α} {b b' : β} {c c' : γ} {d d' : δ} (h1 : a = a') (h2 : b = b')
    (h3 : c = c') (h4 : d = d') : f a b c d = f a' b' c' d' := by rw [h1, h2, h3, h4]

theorem val (m : (ℓ : Loc nD τ sig) → Buf (Elt Ideal) ℓ) (c : Dev nD) :
    Pipeline.afterTail₀ cfgs (dats m) 0 (V0 m) [hostOps1] c main_v9 = Cert.Reference3Ideal.Mrg.res (m ((c.tc : Thread nD τ).loc main_arg0)) (m ((c.tc : Thread nD τ).loc main_arg1)) (m ((c.tc : Thread nD τ).loc main_arg2)) (m ((c.tc : Thread nD τ).loc main_arg3)) := by
  funext i
  obtain ⟨b, s, n, rfl⟩ : ∃ (b : Fin 16) (s : Fin 2048) (n : Fin 1024), (i : S16x2048x1024.Idx) = ix3 b s n :=
    ⟨i 0, i 1, i 2, funext fun a => match a with | ⟨0, _⟩ => rfl | ⟨1, _⟩ => rfl | ⟨2, _⟩ => rfl⟩
  refine (tail_9 m c b s n).trans (Eq.trans ?_ (Cert.Reference3Ideal.Mrg.res_at (m ((c.tc : Thread nD τ).loc main_arg0)) (m ((c.tc : Thread nD τ).loc main_arg1)) (m ((c.tc : Thread nD τ).loc main_arg2)) (m ((c.tc : Thread nD τ).loc main_arg3)) b s n).symm)
  have e := merged_congr n (funext fun k => V_v7 m c b s k)
    ((times_congr (funext fun k => V_v1 m c b s k) (funext fun k => funext fun n => V_v5 m c k n)).trans
      (times_unpair (fun k => m ((c.tc : Thread nD τ).loc main_arg0) (ix3 b s k)) (fun k n => m ((c.tc : Thread nD τ).loc main_arg1) (ix2 k n))))
    (funext fun k => V_v6 m c k)
  exact e

/-- The last merge computes the reference over the reals. -/
theorem value : Cert.algebraic_Kernel3Ideal_Reference3Ideal := fun m g m' g' _ hm =>
  ⟨fun c => Cert.Reference3Ideal.Mrg.res (m ((c.tc : Thread nD τ).loc main_arg0)) (m ((c.tc : Thread nD τ).loc main_arg1)) (m ((c.tc : Thread nD τ).loc main_arg2)) (m ((c.tc : Thread nD τ).loc main_arg3)),
    (θ_run defs _ _).mono (fun _ h c => ⟨((h c).2 main_v9 (Pipeline.mem_restRefs_of main_v9 (by decide) (by decide))).trans (val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
      (run_main m g),
    (θ_run Cert.Reference3Ideal.defs _ _).mono (fun _ h c => ⟨(h c).1.trans (app4 Cert.Reference3Ideal.Mrg.res (hm c).1 (hm c).2.1 (hm c).2.2.1 (hm c).2.2.2), (h c).2⟩)
      (Cert.Reference3Ideal.Value.run m' g')⟩

end Cert.Kernel3Ideal.Mrg
-- ==== Proof.MergeC.Pay.lean ====
/-
  What the body of the merge into mixer C's inputs computes, element by element. A stored row is the residual row plus the
  normalized output projection; the row after it is normalized again and multiplied into a column of the input weights;
  queries and keys are turned, each element with its mate half a head away, by the position's cosine and sine.
-/
module

public import proofs.«01_k».proof.Proof.Gen.Kernel4Ideal.Skeleton
public import proofs.«01_k».proof.Proof.Merge.Kern

@[expose] public section

noncomputable section

namespace Cert.Kernel4Ideal.MrgC

open Cert.Kernel4Ideal Cert.Kernel4Ideal.Gen
open Cert.Kernel2Ideal.Proj (rms proj silu scale)
open Cert.Kernel3Ideal.Mrg (merged)
open Idealize.ShloMosaic

/-- The lane half a head away from lane `l`: the other element of the pair that is turned. -/
def mate (l : Fin 128) : Fin 128 := if h : l.val % 64 < 32 then ⟨l.val + 32, by omega⟩ else ⟨l.val - 32, by omega⟩
/-- Row `k` of the first half of the output weights. -/
def lo (k : Fin 512) : Fin 1024 := ⟨k.val, by omega⟩
/-- Row `k` of the second half of the output weights. -/
def hi (k : Fin 512) : Fin 1024 := ⟨512 + k.val, by omega⟩
/-- The output projection of the two mixers' rows side by side, at one column. -/
def outp (a b : Fin 512 → EReal) (w : Fin 1024 → Fin 1024 → EReal) (n : Fin 1024) : EReal :=
  ∑ k, a k * w (lo k) n + ∑ k, b k * w (hi k) n
/-- A pair's element turned by its angle's cosine and (signed) sine. -/
def turn (u m c s : EReal) : EReal := u * c + m * s
/-- Lane `l` of the `n`-th 128 lanes of 512 columns. -/
def lane (n : Fin 4) (l : Fin 128) : Fin 512 := ⟨128 * n.val + l.val, by omega⟩
theorem lane_zero (l : Fin 128) : lane 0 l = ⟨l.val, by omega⟩ := Fin.ext (by show 128 * 0 + l.val = l.val; omega)
/-- Lane `l` of the `n`-th 128 lanes of 256 columns. -/
def lane2 (n : Fin 2) (l : Fin 128) : Fin 256 := ⟨128 * n.val + l.val, by omega⟩
/-- Row `r` of a block's last 128 rows. -/
def tailRow (r : Fin 128) : Fin 1024 := ⟨896 + r.val, by omega⟩

theorem pay3 (a : Vec Ideal S1024x512 .bf16) (w0 : Vec Ideal S512x1024 .bf16) (b : Vec Ideal S1024x512 .bf16) (w1 : Vec Ideal S512x1024 .bf16)
    (x : Vec Ideal S1024x1024 .f32) (g : Vec Ideal S1x1024 .f32) (r n : Fin 1024) :
    k0_pay3 (F := Ideal) a w0 b w1 x g (ix2 r n)
      = (merged (fun k => x (ix2 r k))
          (fun j => ∑ k : Fin 512, (a (ix2 r k) : EReal) * (w0 (ix2 k j) : EReal) + ∑ k : Fin 512, (b (ix2 r k) : EReal) * (w1 (ix2 k j) : EReal))
          (fun k => g (ix2 0 k)) n : EReal) := by
  pointwise [k0_pay3]
  rfl
theorem pay4 (a : Vec Ideal S1024x512 .bf16) (w0 : Vec Ideal S512x1024 .bf16) (b : Vec Ideal S1024x512 .bf16) (w1 : Vec Ideal S512x1024 .bf16)
    (x : Vec Ideal S1024x1024 .f32) (g : Vec Ideal S1x1024 .f32) (g2 : Vec Ideal S1x1024 .f32) (r n : Fin 1024) :
    k0_pay5 (F := Ideal) (k0_pay3 a w0 b w1 x g) (k0_pay4 a w0 b w1 x g) g2 (ix2 r n)
      = ((k0_pay3 (F := Ideal) a w0 b w1 x g (ix2 r n) : EReal)
          * rms (fun k => k0_pay3 (F := Ideal) a w0 b w1 x g (ix2 r k)) * g2 (ix2 0 n) : EReal) := by
  pointwise [k0_pay5, k0_pay4]
  rfl
theorem pay6 (c : Vec Ideal S1024x128 .f32) : k0_pay6 (F := Ideal) c = c := by
  funext j
  rw [← ix2_eta j]
  pointwise [k0_pay6]
theorem pay7 (c : Vec Ideal S1024x128 .f32) : k0_pay7 (F := Ideal) c = c := by
  funext j
  rw [← ix2_eta j]
  pointwise [k0_pay7]

/-- The mask of the first halves of heads, at a lane. -/
theorem mask_lane : ∀ l : Fin 128, (k0_pay8 (ix2 0 l) : BitVec 1) = if l.val % 64 < 32 then 1#1 else 0#1 := by
  intro l
  pointwise [k0_pay8]
  revert l
  decide +kernel
theorem mask_row (r : Fin 1024) (l : Fin 128) : (k0_pay8 (ix2 r l) : BitVec 1) = k0_pay8 (ix2 0 l) := by
  pointwise [k0_pay8]

/-- The turn of a block of 128 lanes, as the body writes it. -/
def rope (v cs sn : FVec Ideal S1024x128 .f32) : FVec Ideal S1024x128 .f32 :=
  addf (mulf v cs) (mulf (select k0_pay8 (dynamicRotate 1 96#32 none v rotates_S1024x128_d1) (dynamicRotate 1 32#32 none v rotates_S1024x128_d1)) sn)

theorem rope_at (v cs sn : FVec Ideal S1024x128 .f32) (r : Fin 1024) (l : Fin 128) :
    rope v cs sn (ix2 r l) = turn (v (ix2 r l)) (v (ix2 r (mate l))) (cs (ix2 r l)) (sn (ix2 r l)) := by
  unfold rope turn mate
  pointwise
  rw [mask_row, mask_lane]
  by_cases h : l.val % 64 < 32
  · have e : (⟨(l.val + 128 - 96) % 128, Nat.mod_lt _ (by decide)⟩ : Fin 128) = ⟨l.val + 32, by omega⟩ := Fin.ext (by show (l.val + 128 - 96) % 128 = l.val + 32; omega)
    rw [if_pos h, dif_pos h, e]
    rfl
  · have e : (⟨(l.val + 128 - 32) % 128, Nat.mod_lt _ (by decide)⟩ : Fin 128) = ⟨l.val - 32, by omega⟩ := Fin.ext (by show (l.val + 128 - 32) % 128 = l.val - 32; omega)
    rw [if_neg h, dif_neg h, e]
    rfl

theorem pay12 (cs sn : Vec Ideal S1024x128 .f32) (v : Vec Ideal S1024x512 .f32) (r : Fin 1024) (l : Fin 128) :
    k0_pay12 (F := Ideal) cs sn k0_pay8 v (ix2 r l)
      = (turn (v (ix2 r (lane 1 l))) (v (ix2 r (lane 1 (mate l)))) (cs (ix2 r l)) (sn (ix2 r l)) * scale : EReal) := by
  have e : k0_pay12 (F := Ideal) cs sn k0_pay8 v (ix2 r l)
      = (rope (extractStridedSlice S1024x128 ![0, 128] v slices_S1024x512_o0_128_S1024x128) cs sn (ix2 r l) * scale : EReal) := rfl
  rw [e, rope_at]
  pointwise
  rfl
theorem pay13 (cs sn : Vec Ideal S1024x128 .f32) (v : Vec Ideal S1024x512 .f32) (r : Fin 1024) (l : Fin 128) :
    k0_pay13 (F := Ideal) cs sn k0_pay8 v (ix2 r l)
      = (turn (v (ix2 r (lane 2 l))) (v (ix2 r (lane 2 (mate l)))) (cs (ix2 r l)) (sn (ix2 r l)) * scale : EReal) := by
  have e : k0_pay13 (F := Ideal) cs sn k0_pay8 v (ix2 r l)
      = (rope (extractStridedSlice S1024x128 ![0, 256] v slices_S1024x512_o0_256_S1024x128) cs sn (ix2 r l) * scale : EReal) := rfl
  rw [e, rope_at]
  pointwise
  rfl
theorem pay14 (cs sn : Vec Ideal S1024x128 .f32) (v : Vec Ideal S1024x512 .f32) (r : Fin 1024) (l : Fin 128) :
    k0_pay14 (F := Ideal) cs sn k0_pay8 v (ix2 r l)
      = (turn (v (ix2 r (lane 3 l))) (v (ix2 r (lane 3 (mate l)))) (cs (ix2 r l)) (sn (ix2 r l)) * scale : EReal) := by
  have e : k0_pay14 (F := Ideal) cs sn k0_pay8 v (ix2 r l)
      = (rope (extractStridedSlice S1024x128 ![0, 384] v slices_S1024x512_o0_384_S1024x128) cs sn (ix2 r l) * scale : EReal) := rfl
  rw [e, rope_at]
  pointwise
  rfl
theorem pay11 (y : Vec Ideal S1024x1024 .f32) (q : Vec Ideal S1024x1 .f32) (g : Vec Ideal S1x1024 .f32) (cs sn : Vec Ideal S1024x128 .f32) (w : Vec Ideal S1024x512 .bf16) (r : Fin 1024) (l : Fin 128) :
    k0_pay11 (F := Ideal) (k0_pay10 y q g cs sn w) (Scalar.ofBits .f32 0x3E38AA3B#32) (ix2 r l)
      = (turn (k0_pay9 (F := Ideal) y q g w (ix2 r (lane 0 l))) (k0_pay9 (F := Ideal) y q g w (ix2 r (lane 0 (mate l)))) (cs (ix2 r l)) (sn (ix2 r l)) * scale : EReal) := by
  have e : k0_pay11 (F := Ideal) (k0_pay10 y q g cs sn w) (Scalar.ofBits .f32 0x3E38AA3B#32) (ix2 r l)
      = (rope (extractStridedSlice S1024x128 ![0, 0] (k0_pay9 y q g w) slices_S1024x512_o0_0_S1024x128) (k0_pay6 cs) (k0_pay7 sn) (ix2 r l) * scale : EReal) := rfl
  rw [e, rope_at, pay6, pay7]
  generalize k0_pay9 y q g w = v
  pointwise
  rw [lane_zero, lane_zero]
/-- A row of the normalized rows into a column of the weights. -/
def rowcol (X : Fin 1024 → EReal) (w : Fin 1024 → EReal) : EReal := ∑ k, X k * w k
theorem pay9 (y : Vec Ideal S1024x1024 .f32) (q : Vec Ideal S1024x1 .f32) (g : Vec Ideal S1x1024 .f32) (w : Vec Ideal S1024x512 .bf16) (r : Fin 1024) (l : Fin 512) :
    k0_pay9 (F := Ideal) y q g w (ix2 r l) = (rowcol (fun k => k0_pay5 (F := Ideal) y q g (ix2 r k)) (fun k => w (ix2 k l)) : EReal) := by
  unfold k0_pay9
  generalize k0_pay5 y q g = X
  pointwise
  rfl
theorem pay15 (X : Vec Ideal S1024x1024 .bf16) (w : Vec Ideal S1024x512 .bf16) (r : Fin 1024) (l : Fin 512) :
    k0_pay15 (F := Ideal) X w (ix2 r l) = (rowcol (fun k => X (ix2 r k)) (fun k => w (ix2 k l)) : EReal) := by
  pointwise [k0_pay15]
  rfl
theorem pay26 (X : Vec Ideal S1024x1024 .bf16) (w : Vec Ideal S1024x256 .bf16) (r : Fin 1024) (l : Fin 256) :
    k0_pay26 (F := Ideal) X w (ix2 r l) = (rowcol (fun k => X (ix2 r k)) (fun k => w (ix2 k l)) : EReal) := by
  pointwise [k0_pay26]
  rfl
theorem pay27 (X : Vec Ideal S1024x1024 .bf16) (w : Vec Ideal S1024x256 .bf16) (r : Fin 1024) (l : Fin 256) :
    k0_pay27 (F := Ideal) X w (ix2 r l) = (rowcol (fun k => X (ix2 r k)) (fun k => w (ix2 k l)) : EReal) := pay26 X w r l
theorem pay28 (X : Vec Ideal S1024x1024 .bf16) (w : Vec Ideal S1024x256 .bf16) (r : Fin 128) (l : Fin 256) :
    k0_pay28 (F := Ideal) X w (ix2 r l) = (rowcol (fun k => X (ix2 (tailRow r) k)) (fun k => w (ix2 k l)) : EReal) := by
  pointwise [k0_pay28, k0_pay26]
  rfl
theorem pay1 (X : Vec Ideal S1024x1024 .bf16) (w : Vec Ideal S1024x512 .bf16) (r : Fin 1024) (l : Fin 512) :
    k0_pay1 (F := Ideal) X w (ix2 r l) = (silu (rowcol (fun k => X (ix2 r k)) (fun k => w (ix2 k l))) : EReal) := by
  pointwise [k0_pay1]
  rw [zero_sub]
  rfl
theorem pay2 (X : Vec Ideal S1024x1024 .bf16) (w : Vec Ideal S1024x512 .bf16) (r : Fin 1024) (l : Fin 512) :
    k0_pay2 (F := Ideal) X w (ix2 r l) = (silu (rowcol (fun k => X (ix2 r k)) (fun k => w (ix2 k l))) : EReal) := by
  pointwise [k0_pay2]
  rw [zero_sub]
  rfl
theorem pay16 (X : Vec Ideal S1024x1024 .bf16) (cs sn : Vec Ideal S1024x128 .f32) (w : Vec Ideal S1024x512 .bf16) (r : Fin 1024) (l : Fin 128) :
    k0_pay16 (F := Ideal) X cs sn k0_pay8 w (ix2 r l)
      = (turn (k0_pay15 (F := Ideal) X w (ix2 r (lane 0 l))) (k0_pay15 (F := Ideal) X w (ix2 r (lane 0 (mate l)))) (cs (ix2 r l)) (sn (ix2 r l)) * scale : EReal) := by
  have e : k0_pay16 (F := Ideal) X cs sn k0_pay8 w (ix2 r l)
      = (rope (extractStridedSlice S1024x128 ![0, 0] (k0_pay15 X w) slices_S1024x512_o0_0_S1024x128) cs sn (ix2 r l) * scale : EReal) := rfl
  rw [e, rope_at]
  generalize k0_pay15 X w = v
  pointwise
  rw [lane_zero, lane_zero]
theorem pay17 (X : Vec Ideal S1024x1024 .bf16) (cs sn : Vec Ideal S1024x128 .f32) (w : Vec Ideal S1024x512 .bf16) (r : Fin 1024) (l : Fin 128) :
    k0_pay17 (F := Ideal) X cs sn k0_pay8 w (ix2 r l)
      = (turn (k0_pay15 (F := Ideal) X w (ix2 r (lane 1 l))) (k0_pay15 (F := Ideal) X w (ix2 r (lane 1 (mate l)))) (cs (ix2 r l)) (sn (ix2 r l)) * scale : EReal) := by
  have e : k0_pay17 (F := Ideal) X cs sn k0_pay8 w (ix2 r l)
      = (rope (extractStridedSlice S1024x128 ![0, 128] (k0_pay15 X w) slices_S1024x512_o0_128_S1024x128) cs sn (ix2 r l) * scale : EReal) := rfl
  rw [e, rope_at]
  generalize k0_pay15 X w = v
  pointwise
  rfl
theorem pay18 (X : Vec Ideal S1024x1024 .bf16) (cs sn : Vec Ideal S1024x128 .f32) (w : Vec Ideal S1024x512 .bf16) (r : Fin 1024) (l : Fin 128) :
    k0_pay18 (F := Ideal) X cs sn k0_pay8 w (ix2 r l)
      = (turn (k0_pay15 (F := Ideal) X w (ix2 r (lane 2 l))) (k0_pay15 (F := Ideal) X w (ix2 r (lane 2 (mate l)))) (cs (ix2 r l)) (sn (ix2 r l)) * scale : EReal) := by
  have e : k0_pay18 (F := Ideal) X cs sn k0_pay8 w (ix2 r l)
      = (rope (extractStridedSlice S1024x128 ![0, 256] (k0_pay15 X w) slices_S1024x512_o0_256_S1024x128) cs sn (ix2 r l) * scale : EReal) := rfl
  rw [e, rope_at]
  generalize k0_pay15 X w = v
  pointwise
  rfl
theorem pay22 (X : Vec Ideal S1024x1024 .bf16) (cs sn : Vec Ideal S1024x128 .f32) (w : Vec Ideal S1024x512 .bf16) (r : Fin 1024) (l : Fin 128) :
    k0_pay22 (F := Ideal) cs sn k0_pay8 (k0_pay19 X w) (k0_pay20 X w) (k0_pay21 X w) (ix2 r l)
      = (turn (k0_pay15 (F := Ideal) X w (ix2 r (lane 3 l))) (k0_pay15 (F := Ideal) X w (ix2 r (lane 3 (mate l)))) (cs (ix2 r l)) (sn (ix2 r l)) * scale : EReal) := by
  have e : k0_pay22 (F := Ideal) cs sn k0_pay8 (k0_pay19 X w) (k0_pay20 X w) (k0_pay21 X w) (ix2 r l)
      = (rope (extractStridedSlice S1024x128 ![0, 384] (k0_pay15 X w) slices_S1024x512_o0_384_S1024x128) cs sn (ix2 r l) * scale : EReal) := rfl
  rw [e, rope_at]
  generalize k0_pay15 X w = v
  pointwise
  rfl
/-- The keys' block: two halves of 128 lanes, each turned. -/
theorem pay23 (X : Vec Ideal S1024x1024 .bf16) (cs sn : Vec Ideal S1024x128 .f32) (w : Vec Ideal S1024x256 .bf16) (r : Fin 1024) (n : Fin 2) (l : Fin 128) :
    k0_pay23 (F := Ideal) X cs sn k0_pay8 w (ix2 r (lane2 n l))
      = (turn (k0_pay26 (F := Ideal) X w (ix2 r (lane2 n l))) (k0_pay26 (F := Ideal) X w (ix2 r (lane2 n (mate l)))) (cs (ix2 r l)) (sn (ix2 r l)) : EReal) := by
  have e : k0_pay23 (F := Ideal) X cs sn k0_pay8 w
      = concatenate S1024x256 1 [⟨S1024x128, rope (extractStridedSlice S1024x128 ![0, 0] (k0_pay26 X w) slices_S1024x256_o0_0_S1024x128) cs sn⟩,
          ⟨S1024x128, rope (extractStridedSlice S1024x128 ![0, 128] (k0_pay26 X w) slices_S1024x256_o0_128_S1024x128) cs sn⟩] concatenates_S1024x128_S1024x128_S1024x256_d1 := rfl
  rw [e]
  generalize k0_pay26 X w = v
  have h0 := rope_at (extractStridedSlice S1024x128 ![0, 0] v slices_S1024x256_o0_0_S1024x128) cs sn r l
  have h1 := rope_at (extractStridedSlice S1024x128 ![0, 128] v slices_S1024x256_o0_128_S1024x128) cs sn r l
  revert h0 h1
  generalize rope (extractStridedSlice S1024x128 ![0, 0] v slices_S1024x256_o0_0_S1024x128) cs sn = A
  generalize rope (extractStridedSlice S1024x128 ![0, 128] v slices_S1024x256_o0_128_S1024x128) cs sn = B
  pointwise
  intro h0 h1
  obtain h | h : n = 0 ∨ n = 1 := by omega
  · subst h
    have e : ∀ l : Fin 128, lane2 0 l = ⟨l.val, by omega⟩ := fun l => Fin.ext (by show 128 * 0 + l.val = l.val; omega)
    rw [e, e, dif_pos l.isLt]
    exact h0
  · subst h
    have hn : ¬ (lane2 1 l).val < 128 := by show ¬ 128 * 1 + l.val < 128; omega
    have e : (⟨(lane2 1 l).val - 128, by have := (lane2 1 l).isLt; omega⟩ : Fin 128) = l := Fin.ext (by show 128 * 1 + l.val - 128 = l.val; omega)
    rw [dif_neg hn, e]
    exact h1

end Cert.Kernel4Ideal.MrgC
-- ==== Proof.MergeC.Out.lean ====
/-
  What one run of the body leaves in each of its seven output blocks, from the blocks it reads: the residual row; the turned
  and scaled queries, stored in eight tiles of 128 lanes; the turned keys; the values; the gates, stored in two tiles; and the
  last 128 rows of the keys and of the values.
-/
module

public import proofs.«01_k».proof.Proof.MergeC.Pay
public import proofs.«01_k».proof.Proof.Gen.Kernel4Ideal.Frame
public import Idealize.ShloMosaic.Lib.Pipeline.Value
public import Idealize.ShloMosaic.Lib.Pipeline.ValueKit.Tiles

@[expose] public section

noncomputable section

namespace Cert.Kernel4Ideal.MrgC

open Cert.Kernel4Ideal Cert.Kernel4Ideal.Gen
open Cert.Kernel2Ideal.Proj (rms proj silu scale)
open Cert.Kernel3Ideal.Mrg (merged)
open Idealize.ShloMosaic

theorem hz2 : (![0, 0] : Fin 2 → ℕ) = fun _ => 0 := funext fun a => match a with | ⟨0, _⟩ => rfl | ⟨1, _⟩ => rfl

/-- The lane of a column of the input weights, within its 128. -/
def laneOf (c : Fin 2560) : Fin 128 := ⟨c.val % 128, by omega⟩
/-- The column half a head away from column `c`. -/
def mateOf (c : Fin 2560) : Fin 2560 := if h : c.val % 64 < 32 then ⟨c.val + 32, by omega⟩ else ⟨c.val - 32, by omega⟩
/-- Column `c` of a row of products, turned by the row's cosines and sines. -/
def turned (P : Fin 2560 → EReal) (cs sn : Fin 128 → EReal) (c : Fin 2560) : EReal :=
  turn (P c) (P (mateOf c)) (cs (laneOf c)) (sn (laneOf c))

theorem turned_eq (P : Fin 2560 → EReal) (cs sn : Fin 128 → EReal) (c a b : Fin 2560) (off : ℕ) (l : Fin 128) (ho : off % 128 = 0)
    (hc : c.val = off + l.val) (ha : a.val = off + l.val) (hb : b.val = off + (mate l).val) :
    turn (P a) (P b) (cs l) (sn l) = turned P cs sn c := by
  have e1 : a = c := Fin.ext (ha.trans hc.symm)
  have e2 : l = laneOf c := Fin.ext (by show l.val = c.val % 128; omega)
  have e3 : b = mateOf c := by
    apply Fin.ext
    rw [hb]
    unfold mate mateOf
    by_cases h : l.val % 64 < 32
    · have h' : c.val % 64 < 32 := by omega
      rw [dif_pos h, dif_pos h']
      show off + (l.val + 32) = c.val + 32
      omega
    · have h' : ¬ c.val % 64 < 32 := by omega
      rw [dif_neg h, dif_neg h']
      show off + (l.val - 32) = c.val - 32
      omega
  unfold turned
  rw [e1, e3, ← e2]

/-- Query column `c` of the input weights. -/
def qcol (c : Fin 1024) : Fin 2560 := ⟨c.val, by omega⟩
/-- Key column `c` of the input weights. -/
def kcol (c : Fin 256) : Fin 2560 := ⟨1024 + c.val, by omega⟩
/-- Value column `c` of the input weights. -/
def vcol (c : Fin 256) : Fin 2560 := ⟨1280 + c.val, by omega⟩
/-- Gate column `c` of the input weights. -/
def gcol (c : Fin 1024) : Fin 2560 := ⟨1536 + c.val, by omega⟩

section
variable (x0 x1 : Vec Ideal S1024x512 .bf16) (x2 : Vec Ideal S1024x1024 .bf16) (x3 : Vec Ideal S1x1024 .f32)
  (x4 : Vec Ideal S1024x1024 .f32) (x5 : Vec Ideal S1x1024 .f32) (x6 : Vec Ideal S1024x2560 .bf16) (x7 x8 : Vec Ideal S1024x128 .f32)

/-- The residual row `r` of the blocks. -/
def yb (r n : Fin 1024) : EReal :=
  merged (fun k => x4 (ix2 r k)) (outp (fun k => x0 (ix2 r k)) (fun k => x1 (ix2 r k)) (fun k j => x2 (ix2 k j))) (fun k => x3 (ix2 0 k)) n
/-- The normalized residual row `r` into column `c` of the input weights. -/
def pb (r : Fin 1024) (c : Fin 2560) : EReal :=
  proj (yb x0 x1 x2 x3 x4 r) (fun k => x5 (ix2 0 k)) (fun k => x6 (ix2 k c))

theorem y_at (r n : Fin 1024) : k0_pay29 (F := Ideal) x0 x1 x2 x3 x4 x5 x6 x7 x8 (ix2 r n) = yb x0 x1 x2 x3 x4 r n := by
  have l0 : ∀ x : Vec Ideal S1024x512 .bf16, View.ld (Val := Elt Ideal) (e' := .bf16) x r0_0 = x := fun x => by
    unfold r0_0; rw [View.ld_unit_zero (S := S1024x512) hz2]
  have l3 : View.ld (Val := Elt Ideal) (e' := .f32) x4 r0_3 = x4 := by
    unfold r0_3; rw [View.ld_unit_zero (S := S1024x1024) hz2]
  have l4 : View.ld (Val := Elt Ideal) (e' := .f32) x3 r0_4 = x3 := by
    unfold r0_4; rw [View.ld_unit_zero (S := S1x1024) hz2]
  unfold k0_pay29
  rw [pay3, l0, l0, l3, l4]
  have e1 : ∀ k j, View.ld (Val := Elt Ideal) (e' := .bf16) x2 r0_1 (ix2 k j) = x2 (ix2 (lo k) j) := fun k j =>
    View.ld_unit_apply_of (Val := Elt Ideal) (e := .bf16) x2 _ _ _ _ (ix2 (lo k) j) fun a =>
      match a with | ⟨0, _⟩ => (Nat.zero_add _).symm | ⟨1, _⟩ => (Nat.zero_add _).symm
  have e2 : ∀ k j, View.ld (Val := Elt Ideal) (e' := .bf16) x2 r0_2 (ix2 k j) = x2 (ix2 (hi k) j) := fun k j =>
    View.ld_unit_apply_of (Val := Elt Ideal) (e := .bf16) x2 _ _ _ _ (ix2 (hi k) j) fun a =>
      match a with | ⟨0, _⟩ => rfl | ⟨1, _⟩ => (Nat.zero_add _).symm
  simp only [e1, e2]
  rfl

theorem x_at (r n : Fin 1024) : k0_pay31 (F := Ideal) x0 x1 x2 x3 x4 x5 x6 x7 x8 (ix2 r n)
    = (yb x0 x1 x2 x3 x4 r n * rms (yb x0 x1 x2 x3 x4 r) * x5 (ix2 0 n) : EReal) := by
  have h := pay4 (View.ld x0 r0_0) (View.ld x2 r0_1) (View.ld x1 r0_0) (View.ld x2 r0_2) (View.ld x4 r0_3) (View.ld x3 r0_4) (View.ld x5 r0_4) r n
  have hy := y_at x0 x1 x2 x3 x4 x5 x6 x7 x8 r
  unfold k0_pay29 at hy
  simp only [hy] at h
  refine Eq.trans h ?_
  unfold r0_4
  rw [View.ld_unit_zero (S := S1x1024) hz2]

theorem row_w (off : ℕ) (inb) (r : Fin 1024) (l : Fin 512) (h : off + l.val < 2560) :
    rowcol (fun k => k0_pay31 (F := Ideal) x0 x1 x2 x3 x4 x5 x6 x7 x8 (ix2 r k)) (fun k => View.ld (Val := Elt Ideal) (e' := .bf16) x6 (Rect.unit (s := S1024x2560) ![0, off] S1024x512.size inb) (ix2 k l))
      = pb x0 x1 x2 x3 x4 x5 x6 r ⟨off + l.val, h⟩ := by
  have e1 : ∀ k : Fin 1024, View.ld (Val := Elt Ideal) (e' := .bf16) x6 (Rect.unit (s := S1024x2560) ![0, off] S1024x512.size inb) (ix2 k l) = x6 (ix2 k ⟨off + l.val, h⟩) := fun k =>
    View.ld_unit_apply_of (Val := Elt Ideal) (e := .bf16) x6 _ _ _ _ (ix2 k ⟨off + l.val, h⟩) fun a =>
      match a with | ⟨0, _⟩ => (Nat.zero_add _).symm | ⟨1, _⟩ => rfl
  simp only [e1, x_at]
  rfl
theorem row_n (off : ℕ) (inb) (r : Fin 1024) (l : Fin 256) (h : off + l.val < 2560) :
    rowcol (fun k => k0_pay31 (F := Ideal) x0 x1 x2 x3 x4 x5 x6 x7 x8 (ix2 r k)) (fun k => View.ld (Val := Elt Ideal) (e' := .bf16) x6 (Rect.unit (s := S1024x2560) ![0, off] S1024x256.size inb) (ix2 k l))
      = pb x0 x1 x2 x3 x4 x5 x6 r ⟨off + l.val, h⟩ := by
  have e1 : ∀ k : Fin 1024, View.ld (Val := Elt Ideal) (e' := .bf16) x6 (Rect.unit (s := S1024x2560) ![0, off] S1024x256.size inb) (ix2 k l) = x6 (ix2 k ⟨off + l.val, h⟩) := fun k =>
    View.ld_unit_apply_of (Val := Elt Ideal) (e := .bf16) x6 _ _ _ _ (ix2 k ⟨off + l.val, h⟩) fun a =>
      match a with | ⟨0, _⟩ => (Nat.zero_add _).symm | ⟨1, _⟩ => rfl
  simp only [e1, x_at]
  rfl
theorem cos_eq : k0_pay32 (F := Ideal) x0 x1 x2 x3 x4 x5 x6 x7 x8 = x7 := by
  unfold k0_pay32 r0_5
  rw [pay6, View.ld_unit_zero (S := S1024x128) hz2]
theorem sin_eq : k0_pay33 (F := Ideal) x0 x1 x2 x3 x4 x5 x6 x7 x8 = x8 := by
  unfold k0_pay33 r0_5
  rw [pay7, View.ld_unit_zero (S := S1024x128) hz2]

theorem out9 (r n : Fin 1024) : out0_9 (F := Ideal) x0 x1 x2 x3 x4 x5 x6 x7 x8 (ix2 r n) = yb x0 x1 x2 x3 x4 r n := by
  unfold out0_9
  rw [View.canon_unit_zero hz2]
  exact y_at x0 x1 x2 x3 x4 x5 x6 x7 x8 r n

theorem out12 (r : Fin 1024) (l : Fin 256) : out0_12 (F := Ideal) x0 x1 x2 x3 x4 x5 x6 x7 x8 (ix2 r l) = pb x0 x1 x2 x3 x4 x5 x6 r (vcol l) := by
  unfold out0_12
  rw [View.canon_unit_zero hz2, pay27]
  exact row_n x0 x1 x2 x3 x4 x5 x6 x7 x8 1280 _ r l _
theorem out15 (r : Fin 128) (l : Fin 256) : out0_15 (F := Ideal) x0 x1 x2 x3 x4 x5 x6 x7 x8 (ix2 r l) = pb x0 x1 x2 x3 x4 x5 x6 (tailRow r) (vcol l) := by
  unfold out0_15
  rw [View.canon_unit_zero hz2, pay28]
  exact row_n x0 x1 x2 x3 x4 x5 x6 x7 x8 1280 _ (tailRow r) l _

theorem key_at (r : Fin 1024) (l : Fin 256) :
    k0_pay23 (F := Ideal) (k0_pay31 x0 x1 x2 x3 x4 x5 x6 x7 x8) x7 x8 k0_pay8 (View.ld x6 r0_16) (ix2 r l)
      = turned (pb x0 x1 x2 x3 x4 x5 x6 r) (fun j => x7 (ix2 r j)) (fun j => x8 (ix2 r j)) (kcol l) := by
  obtain ⟨n, j, rfl⟩ : ∃ n j, l = lane2 n j :=
    ⟨⟨l.val / 128, by omega⟩, ⟨l.val % 128, by omega⟩, Fin.ext (by show l.val = 128 * (l.val / 128) + l.val % 128; omega)⟩
  rw [pay23, pay26, pay26, row_n x0 x1 x2 x3 x4 x5 x6 x7 x8 1024 _ r _ (by have := (lane2 n j).isLt; omega), row_n x0 x1 x2 x3 x4 x5 x6 x7 x8 1024 _ r _ (by have := (lane2 n (mate j)).isLt; omega)]
  exact turned_eq (pb x0 x1 x2 x3 x4 x5 x6 r) (fun j => x7 (ix2 r j)) (fun j => x8 (ix2 r j)) (kcol (lane2 n j)) _ _ (1024 + 128 * n.val) j (by omega)
    (by show 1024 + (128 * n.val + j.val) = _; omega) (by show 1024 + (128 * n.val + j.val) = _; omega)
    (by show 1024 + (128 * n.val + (mate j).val) = _; omega)
theorem out11 (r : Fin 1024) (l : Fin 256) : out0_11 (F := Ideal) x0 x1 x2 x3 x4 x5 x6 x7 x8 (ix2 r l)
    = turned (pb x0 x1 x2 x3 x4 x5 x6 r) (fun j => x7 (ix2 r j)) (fun j => x8 (ix2 r j)) (kcol l) := by
  unfold out0_11
  rw [View.canon_unit_zero hz2, cos_eq, sin_eq]
  exact key_at x0 x1 x2 x3 x4 x5 x6 x7 x8 r l
theorem out14 (r : Fin 128) (l : Fin 256) : out0_14 (F := Ideal) x0 x1 x2 x3 x4 x5 x6 x7 x8 (ix2 r l)
    = turned (pb x0 x1 x2 x3 x4 x5 x6 (tailRow r)) (fun j => x7 (ix2 (tailRow r) j)) (fun j => x8 (ix2 (tailRow r) j)) (kcol l) := by
  unfold out0_14
  rw [View.canon_unit_zero hz2, cos_eq, sin_eq, ← key_at]
  have h : ∀ K : FVec Ideal S1024x256 .f32, extractStridedSlice S128x256 ![896, 0] K slices_S1024x256_o896_0_S128x256 (ix2 r l) = K (ix2 (tailRow r) l) := by
    intro K
    pointwise
    rfl
  exact h (k0_pay23 (F := Ideal) (k0_pay31 x0 x1 x2 x3 x4 x5 x6 x7 x8) x7 x8 k0_pay8 (View.ld x6 r0_16))

theorem out13 (y : S1024x1024.Idx) : out0_13 (F := Ideal) x0 x1 x2 x3 x4 x5 x6 x7 x8 y = silu (pb x0 x1 x2 x3 x4 x5 x6 (y 0) (gcol (y 1))) := by
  canon_tiles x h using cover0_13 (F := Ideal) _ _ y
  · obtain ⟨r, l, rfl⟩ : ∃ r l, x = ix2 r l := ⟨x 0, x 1, eq_ix2 x⟩
    have e0 : y 0 = r := Fin.ext h0
    have e1 : (⟨2048 + l.val, by omega⟩ : Fin 2560) = gcol (y 1) := Fin.ext (by
      have h1' : (y 1).val = 512 + l.val := h1
      show 2048 + l.val = 1536 + (y 1).val
      omega)
    rw [pay2, e0, ← e1, row_w x0 x1 x2 x3 x4 x5 x6 x7 x8 2048 _ r l _]
  · obtain ⟨r, l, rfl⟩ : ∃ r l, x = ix2 r l := ⟨x 0, x 1, eq_ix2 x⟩
    have e0 : y 0 = r := Fin.ext h0
    have e1 : (⟨1536 + l.val, by omega⟩ : Fin 2560) = gcol (y 1) := Fin.ext (by
      have h1' : (y 1).val = 0 + l.val := h1.trans (Nat.zero_add _).symm
      show 1536 + l.val = 1536 + (y 1).val
      omega)
    rw [pay1, e0, ← e1, row_w x0 x1 x2 x3 x4 x5 x6 x7 x8 1536 _ r l _]

theorem q_fin (y : S1024x1024.Idx) (r : Fin 1024) (l : Fin 128) (off : ℕ) (a b : Fin 2560) (h0 : (y 0).val = r.val) (h1 : (y 1).val = off + l.val)
    (ho : off % 128 = 0) (ha : a.val = off + l.val) (hb : b.val = off + (mate l).val) :
    (turn (pb x0 x1 x2 x3 x4 x5 x6 r a) (pb x0 x1 x2 x3 x4 x5 x6 r b) (x7 (ix2 r l)) (x8 (ix2 r l)) * scale : EReal)
      = turned (pb x0 x1 x2 x3 x4 x5 x6 (y 0)) (fun j => x7 (ix2 (y 0) j)) (fun j => x8 (ix2 (y 0) j)) (qcol (y 1)) * scale := by
  have e0 : y 0 = r := Fin.ext h0
  rw [e0]
  exact congrArg (fun z : EReal => z * scale) (turned_eq (pb x0 x1 x2 x3 x4 x5 x6 r) (fun j => x7 (ix2 r j)) (fun j => x8 (ix2 r j)) (qcol (y 1)) a b off l ho h1 ha hb)
theorem q0_at (r : Fin 1024) (l : Fin 512) :
    k0_pay9 (F := Ideal) (k0_pay29 x0 x1 x2 x3 x4 x5 x6 x7 x8) (k0_pay30 x0 x1 x2 x3 x4 x5 x6 x7 x8) (View.ld x5 r0_4) (View.ld x6 r0_6) (ix2 r l) = pb x0 x1 x2 x3 x4 x5 x6 r ⟨0 + l.val, by omega⟩ :=
  (pay9 _ _ _ _ r l).trans (row_w x0 x1 x2 x3 x4 x5 x6 x7 x8 0 _ r l _)
theorem q1_at (r : Fin 1024) (l : Fin 512) :
    k0_pay15 (F := Ideal) (k0_pay31 x0 x1 x2 x3 x4 x5 x6 x7 x8) (View.ld x6 r0_11) (ix2 r l) = pb x0 x1 x2 x3 x4 x5 x6 r ⟨512 + l.val, by omega⟩ :=
  (pay15 _ _ r l).trans (row_w x0 x1 x2 x3 x4 x5 x6 x7 x8 512 _ r l _)

theorem out10 (y : S1024x1024.Idx) : out0_10 (F := Ideal) x0 x1 x2 x3 x4 x5 x6 x7 x8 y
    = turned (pb x0 x1 x2 x3 x4 x5 x6 (y 0)) (fun j => x7 (ix2 (y 0) j)) (fun j => x8 (ix2 (y 0) j)) (qcol (y 1)) * scale := by
  unfold out0_10
  rw [cos_eq, sin_eq]
  canon_tiles x h using cover0_10 (F := Ideal) _ _ _ _ _ _ _ _ y
  · obtain ⟨r, l, rfl⟩ : ∃ r l, x = ix2 r l := ⟨x 0, x 1, eq_ix2 x⟩
    refine Eq.trans (pay22 (k0_pay31 x0 x1 x2 x3 x4 x5 x6 x7 x8) x7 x8 (View.ld x6 r0_11) r l) ?_
    rw [q1_at, q1_at]
    exact q_fin x0 x1 x2 x3 x4 x5 x6 x7 x8 y r l 896 _ _ h0 h1 (by decide)
      (by show 512 + (128 * 3 + l.val) = 896 + l.val; omega) (by show 512 + (128 * 3 + (mate l).val) = 896 + (mate l).val; omega)
  · obtain ⟨r, l, rfl⟩ : ∃ r l, x = ix2 r l := ⟨x 0, x 1, eq_ix2 x⟩
    refine Eq.trans (pay18 (k0_pay31 x0 x1 x2 x3 x4 x5 x6 x7 x8) x7 x8 (View.ld x6 r0_11) r l) ?_
    rw [q1_at, q1_at]
    exact q_fin x0 x1 x2 x3 x4 x5 x6 x7 x8 y r l 768 _ _ h0 h1 (by decide)
      (by show 512 + (128 * 2 + l.val) = 768 + l.val; omega) (by show 512 + (128 * 2 + (mate l).val) = 768 + (mate l).val; omega)
  · obtain ⟨r, l, rfl⟩ : ∃ r l, x = ix2 r l := ⟨x 0, x 1, eq_ix2 x⟩
    refine Eq.trans (pay17 (k0_pay31 x0 x1 x2 x3 x4 x5 x6 x7 x8) x7 x8 (View.ld x6 r0_11) r l) ?_
    rw [q1_at, q1_at]
    exact q_fin x0 x1 x2 x3 x4 x5 x6 x7 x8 y r l 640 _ _ h0 h1 (by decide)
      (by show 512 + (128 * 1 + l.val) = 640 + l.val; omega) (by show 512 + (128 * 1 + (mate l).val) = 640 + (mate l).val; omega)
  · obtain ⟨r, l, rfl⟩ : ∃ r l, x = ix2 r l := ⟨x 0, x 1, eq_ix2 x⟩
    refine Eq.trans (pay16 (k0_pay31 x0 x1 x2 x3 x4 x5 x6 x7 x8) x7 x8 (View.ld x6 r0_11) r l) ?_
    rw [q1_at, q1_at]
    exact q_fin x0 x1 x2 x3 x4 x5 x6 x7 x8 y r l 512 _ _ h0 h1 (by decide)
      (by show 512 + (128 * 0 + l.val) = 512 + l.val; omega) (by show 512 + (128 * 0 + (mate l).val) = 512 + (mate l).val; omega)
  · obtain ⟨r, l, rfl⟩ : ∃ r l, x = ix2 r l := ⟨x 0, x 1, eq_ix2 x⟩
    refine Eq.trans (pay14 x7 x8 (k0_pay35 x0 x1 x2 x3 x4 x5 x6 x7 x8) r l) ?_
    unfold k0_pay35
    rw [q0_at, q0_at]
    exact q_fin x0 x1 x2 x3 x4 x5 x6 x7 x8 y r l 384 _ _ h0 h1 (by decide)
      (by show 0 + (128 * 3 + l.val) = 384 + l.val; omega) (by show 0 + (128 * 3 + (mate l).val) = 384 + (mate l).val; omega)
  · obtain ⟨r, l, rfl⟩ : ∃ r l, x = ix2 r l := ⟨x 0, x 1, eq_ix2 x⟩
    refine Eq.trans (pay13 x7 x8 (k0_pay35 x0 x1 x2 x3 x4 x5 x6 x7 x8) r l) ?_
    unfold k0_pay35
    rw [q0_at, q0_at]
    exact q_fin x0 x1 x2 x3 x4 x5 x6 x7 x8 y r l 256 _ _ h0 h1 (by decide)
      (by show 0 + (128 * 2 + l.val) = 256 + l.val; omega) (by show 0 + (128 * 2 + (mate l).val) = 256 + (mate l).val; omega)
  · obtain ⟨r, l, rfl⟩ : ∃ r l, x = ix2 r l := ⟨x 0, x 1, eq_ix2 x⟩
    refine Eq.trans (pay12 x7 x8 (k0_pay35 x0 x1 x2 x3 x4 x5 x6 x7 x8) r l) ?_
    unfold k0_pay35
    rw [q0_at, q0_at]
    exact q_fin x0 x1 x2 x3 x4 x5 x6 x7 x8 y r l 128 _ _ h0 h1 (by decide)
      (by show 0 + (128 * 1 + l.val) = 128 + l.val; omega) (by show 0 + (128 * 1 + (mate l).val) = 128 + (mate l).val; omega)
  · obtain ⟨r, l, rfl⟩ : ∃ r l, x = ix2 r l := ⟨x 0, x 1, eq_ix2 x⟩
    refine Eq.trans (pay11 (k0_pay29 x0 x1 x2 x3 x4 x5 x6 x7 x8) (k0_pay30 x0 x1 x2 x3 x4 x5 x6 x7 x8) (View.ld x5 r0_4) (View.ld x7 r0_5) (View.ld x8 r0_5) (View.ld x6 r0_6) r l) ?_
    rw [q0_at, q0_at]
    unfold r0_5
    rw [View.ld_unit_zero (S := S1024x128) hz2, View.ld_unit_zero (S := S1024x128) hz2]
    exact q_fin x0 x1 x2 x3 x4 x5 x6 x7 x8 y r l 0 _ _ h0 (h1.trans (Nat.zero_add _).symm) (by decide)
      (by show 0 + (128 * 0 + l.val) = 0 + l.val; omega) (by show 0 + (128 * 0 + (mate l).val) = 0 + (mate l).val; omega)
end

end Cert.Kernel4Ideal.MrgC
-- ==== Proof.MergeC.Blocks.lean ====
/-
  The seven result arrays of the merge into mixer C's inputs, index by index: row `r` of a result lies in the block of point
  `r / 1024`; a batch's cached rows are written back by the point that ends the batch.
-/
module

public import proofs.«01_k».proof.Proof.MergeC.Out
public import proofs.«01_k».proof.Proof.Gen.Kernel4Ideal.Points
public import Idealize.ShloMosaic.Lib.Pipeline.Covers

@[expose] public section

set_option maxRecDepth 16384

noncomputable section

namespace Cert.Kernel4Ideal.MrgC

open Cert.Kernel4Ideal Cert.Kernel4Ideal.Gen
open Idealize.ShloMosaic Idealize.ShloMosaic.TcCoe
open Idealize.SL Idealize.SL.Sem
open Idealize.ShloMosaic.Pipeline (Dat Cfg Window)
open Cert.Kernel2Ideal.Proj (rms proj silu scale)
open Cert.Kernel3Ideal.Mrg (merged rowOf)

variable (m : (ℓ : Loc nD τ sig) → Buf (Elt Ideal) ℓ)

/-- Row `r` of point `t`'s rows. -/
def rowAt (t : Fin cfg0.N) (r : Fin 1024) : Fin 32768 := ⟨t.val * 1024 + r.val, by have h : t.val < 32 := t.isLt; omega⟩
/-- The place of a row in its batch. -/
def placeOf (r : Fin 32768) : Fin 2048 := ⟨r.val % 2048, by omega⟩
/-- The place in its batch of row `r` of point `t`. -/
def placeAt (t : Fin cfg0.N) (r : Fin 1024) : Fin 2048 := ⟨t.val % 2 * 1024 + r.val, by omega⟩
/-- Row `j` of the cached rows, among all rows: a batch's last 128. -/
def lateOf (j : Fin 2048) : Fin 32768 := ⟨j.val / 128 * 2048 + 1920 + j.val % 128, by omega⟩
/-- Row `r` of the cached rows of point `t`'s batch. -/
def cacheAt (t : Fin cfg0.N) (r : Fin 128) : Fin 2048 := ⟨t.val / 2 * 128 + r.val, by have h : t.val < 32 := t.isLt; omega⟩

/-- Residual row `r`, from the arrays the call is given. -/
def ya (c : Dev nD) (r : Fin 32768) (n : Fin 1024) : EReal :=
  merged (fun k => V m c main_v16 (ix2 r k))
    (outp (fun k => V m c main_v11 (ix2 r k)) (fun k => V m c main_v13 (ix2 r k)) (fun k j => V m c main_v14 (ix2 k j)))
    (fun k => V m c main_v15 (ix2 0 k)) n
/-- The normalized residual row `r` into column `l` of the input weights. -/
def pa (c : Dev nD) (r : Fin 32768) (l : Fin 2560) : EReal :=
  proj (ya m c r) (fun k => V m c main_v40 (ix2 0 k)) (fun k => V m c main_v41 (ix2 k l))
/-- Column `l` of row `r`, turned by the angles of the row's place in its batch. -/
def ta (c : Dev nD) (r : Fin 32768) (l : Fin 2560) : EReal :=
  turned (pa m c r) (fun j => V m c main_v33 (ix2 (placeOf r) j)) (fun j => V m c main_v39 (ix2 (placeOf r) j)) l

theorem tr0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)
theorem tr7 : ∀ t : Fin cfg0.N, cc0_transform_7 (grid0.coords t) 0 = t.val % 2 ∧ cc0_transform_7 (grid0.coords t) 1 = 0 :=
  (by decide +kernel : ∀ t : Fin grid0.N, cc0_transform_7 (grid0.coords t) 0 = t.val % 2 ∧ cc0_transform_7 (grid0.coords t) 1 = 0)
theorem tr14 : ∀ t : Fin cfg0.N, cc0_transform_14 (grid0.coords t) 0 = t.val / 2 ∧ cc0_transform_14 (grid0.coords t) 1 = 0 :=
  (by decide +kernel : ∀ t : Fin grid0.N, cc0_transform_14 (grid0.coords t) 0 = t.val / 2 ∧ cc0_transform_14 (grid0.coords t) 1 = 0)

/-- Where an index of a block of 512-wide rows lies. -/
theorem emb0 (t : Fin cfg0.N) (r : Fin 1024) (k : Fin 512) : ((cfg0.win 0).blk t).view.emb (ix2 (n0 := 1024) (n1 := 512) r k) = ix2 (n0 := 32768) (n1 := 512) (rowAt t r) k := by
  obtain ⟨e0, e1⟩ := tr0 t
  funext a; apply Fin.ext
  match a with
  | ⟨0, _⟩ => show cc0_transform_0 (grid0.coords t) (0 : Fin 2) * 1024 + 1 * r.val = t.val * 1024 + r.val; rw [e0]; omega
  | ⟨1, _⟩ => show cc0_transform_0 (grid0.coords t) (1 : Fin 2) * 512 + 1 * k.val = k.val; rw [e1]; omega
/-- Where an index of a block of 1024-wide rows lies. -/
theorem emb4 (t : Fin cfg0.N) (r : Fin 1024) (k : Fin 1024) : ((cfg0.win 4).blk t).view.emb (ix2 (n0 := 1024) (n1 := 1024) r k) = ix2 (n0 := 32768) (n1 := 1024) (rowAt t r) k := by
  obtain ⟨e0, e1⟩ := tr0 t
  funext a; apply Fin.ext
  match a with
  | ⟨0, _⟩ => show cc0_transform_0 (grid0.coords t) (0 : Fin 2) * 1024 + 1 * r.val = t.val * 1024 + r.val; rw [e0]; omega
  | ⟨1, _⟩ => show cc0_transform_0 (grid0.coords t) (1 : Fin 2) * 1024 + 1 * k.val = k.val; rw [e1]; omega
/-- Where an index of a block of 256-wide rows lies. -/
theorem emb11 (t : Fin cfg0.N) (r : Fin 1024) (k : Fin 256) : ((cfg0.win 11).blk t).view.emb (ix2 (n0 := 1024) (n1 := 256) r k) = ix2 (n0 := 32768) (n1 := 256) (rowAt t r) k := by
  obtain ⟨e0, e1⟩ := tr0 t
  funext a; apply Fin.ext
  match a with
  | ⟨0, _⟩ => show cc0_transform_0 (grid0.coords t) (0 : Fin 2) * 1024 + 1 * r.val = t.val * 1024 + r.val; rw [e0]; omega
  | ⟨1, _⟩ => show cc0_transform_0 (grid0.coords t) (1 : Fin 2) * 256 + 1 * k.val = k.val; rw [e1]; omega
/-- Where an index of a block of angles lies. -/
theorem emb7 (t : Fin cfg0.N) (r : Fin 1024) (k : Fin 128) : ((cfg0.win 7).blk t).view.emb (ix2 (n0 := 1024) (n1 := 128) r k) = ix2 (n0 := 2048) (n1 := 128) (placeAt t r) k := by
  obtain ⟨e0, e1⟩ := tr7 t
  funext a; apply Fin.ext
  match a with
  | ⟨0, _⟩ => show cc0_transform_7 (grid0.coords t) (0 : Fin 2) * 1024 + 1 * r.val = t.val % 2 * 1024 + r.val; rw [e0]; omega
  | ⟨1, _⟩ => show cc0_transform_7 (grid0.coords t) (1 : Fin 2) * 128 + 1 * k.val = k.val; rw [e1]; omega
/-- Where an index of a block of cached rows lies. -/
theorem emb14 (t : Fin cfg0.N) (r : Fin 128) (k : Fin 256) : ((cfg0.win 14).blk t).view.emb (ix2 (n0 := 128) (n1 := 256) r k) = ix2 (n0 := 2048) (n1 := 256) (cacheAt t r) k := by
  obtain ⟨e0, e1⟩ := tr14 t
  funext a; apply Fin.ext
  match a with
  | ⟨0, _⟩ => show cc0_transform_14 (grid0.coords t) (0 : Fin 2) * 128 + 1 * r.val = t.val / 2 * 128 + r.val; rw [e0]; omega
  | ⟨1, _⟩ => show cc0_transform_14 (grid0.coords t) (1 : Fin 2) * 256 + 1 * k.val = k.val; rw [e1]; omega
theorem emb2 (t : Fin cfg0.N) (k : Fin 1024) (n : Fin 1024) : ((cfg0.win 2).blk t).view.emb (ix2 (n0 := 1024) (n1 := 1024) k n) = ix2 (n0 := 1024) (n1 := 1024) k n := by
  funext a; apply Fin.ext
  match a with
  | ⟨0, _⟩ => show 0 * 1024 + 1 * k.val = k.val; omega
  | ⟨1, _⟩ => show 0 * 1024 + 1 * n.val = n.val; omega
theorem emb6 (t : Fin cfg0.N) (k : Fin 1024) (n : Fin 2560) : ((cfg0.win 6).blk t).view.emb (ix2 (n0 := 1024) (n1 := 2560) k n) = ix2 (n0 := 1024) (n1 := 2560) k n := by
  funext a; apply Fin.ext
  match a with
  | ⟨0, _⟩ => show 0 * 1024 + 1 * k.val = k.val; omega
  | ⟨1, _⟩ => show 0 * 2560 + 1 * n.val = n.val; omega
theorem emb3 (t : Fin cfg0.N) (k : Fin 1024) : ((cfg0.win 3).blk t).view.emb (ix2 (n0 := 1) (n1 := 1024) 0 k) = ix2 (n0 := 1) (n1 := 1024) 0 k := by
  funext a; apply Fin.ext
  match a with
  | ⟨0, _⟩ => rfl
  | ⟨1, _⟩ => show 0 * 1024 + 1 * k.val = k.val; omega

theorem iblk0_at (c : Dev nD) (t : Fin cfg0.N) (r : Fin 1024) (k : Fin 512) :
    iblk m c 0 t (ix2 (n0 := 1024) (n1 := 512) r k) = V m c main_v11 (ix2 (n0 := 32768) (n1 := 512) (rowAt t r) k) :=
  congrArg (V m c main_v11) (emb0 t r k)
theorem iblk1_at (c : Dev nD) (t : Fin cfg0.N) (r : Fin 1024) (k : Fin 512) :
    iblk m c 1 t (ix2 (n0 := 1024) (n1 := 512) r k) = V m c main_v13 (ix2 (n0 := 32768) (n1 := 512) (rowAt t r) k) :=
  congrArg (V m c main_v13) (emb0 t r k)
theorem iblk4_at (c : Dev nD) (t : Fin cfg0.N) (r : Fin 1024) (k : Fin 1024) :
    iblk m c 4 t (ix2 (n0 := 1024) (n1 := 1024) r k) = V m c main_v16 (ix2 (n0 := 32768) (n1 := 1024) (rowAt t r) k) :=
  congrArg (V m c main_v16) (emb4 t r k)
theorem iblk2_at (c : Dev nD) (t : Fin cfg0.N) (r : Fin 1024) (k : Fin 1024) :
    iblk m c 2 t (ix2 (n0 := 1024) (n1 := 1024) r k) = V m c main_v14 (ix2 (n0 := 1024) (n1 := 1024) r k) :=
  congrArg (V m c main_v14) (emb2 t r k)
theorem iblk6_at (c : Dev nD) (t : Fin cfg0.N) (r : Fin 1024) (k : Fin 2560) :
    iblk m c 6 t (ix2 (n0 := 1024) (n1 := 2560) r k) = V m c main_v41 (ix2 (n0 := 1024) (n1 := 2560) r k) :=
  congrArg (V m c main_v41) (emb6 t r k)
theorem iblk7_at (c : Dev nD) (t : Fin cfg0.N) (r : Fin 1024) (k : Fin 128) :
    iblk m c 7 t (ix2 (n0 := 1024) (n1 := 128) r k) = V m c main_v33 (ix2 (n0 := 2048) (n1 := 128) (placeAt t r) k) :=
  congrArg (V m c main_v33) (emb7 t r k)
theorem iblk8_at (c : Dev nD) (t : Fin cfg0.N) (r : Fin 1024) (k : Fin 128) :
    iblk m c 8 t (ix2 (n0 := 1024) (n1 := 128) r k) = V m c main_v39 (ix2 (n0 := 2048) (n1 := 128) (placeAt t r) k) :=
  congrArg (V m c main_v39) (emb7 t r k)
theorem iblk3_at (c : Dev nD) (t : Fin cfg0.N) (k : Fin 1024) :
    iblk m c 3 t (ix2 (n0 := 1) (n1 := 1024) 0 k) = V m c main_v15 (ix2 (n0 := 1) (n1 := 1024) 0 k) :=
  congrArg (V m c main_v15) (emb3 t k)
theorem iblk5_at (c : Dev nD) (t : Fin cfg0.N) (k : Fin 1024) :
    iblk m c 5 t (ix2 (n0 := 1) (n1 := 1024) 0 k) = V m c main_v40 (ix2 (n0 := 1) (n1 := 1024) 0 k) :=
  congrArg (V m c main_v40) (emb3 t k)

/-- A block's residual row is the arrays'. -/
theorem yb_eq (c : Dev nD) (t : Fin cfg0.N) (r : Fin 1024) : yb (iblk m c 0 t) (iblk m c 1 t) (iblk m c 2 t) (iblk m c 3 t) (iblk m c 4 t) r = ya m c (rowAt t r) := by
  have e := congr (congr (congrArg merged (funext fun k => iblk4_at m c t r k))
    (congr (congr (congrArg outp (funext fun k => iblk0_at m c t r k)) (funext fun k => iblk1_at m c t r k)) (funext fun k => funext fun j => iblk2_at m c t k j)))
    (funext fun k => iblk3_at m c t k)
  exact e
/-- A block's row of products is the arrays'. -/
theorem pb_eq (c : Dev nD) (t : Fin cfg0.N) (r : Fin 1024) : pb (iblk m c 0 t) (iblk m c 1 t) (iblk m c 2 t) (iblk m c 3 t) (iblk m c 4 t) (iblk m c 5 t) (iblk m c 6 t) r = pa m c (rowAt t r) := by
  funext l
  have e := congr (congr (congrArg proj (yb_eq m c t r)) (funext fun k => iblk5_at m c t k)) (funext fun k => iblk6_at m c t k l)
  exact e
theorem place_eq (t : Fin cfg0.N) (r : Fin 1024) : placeAt t r = placeOf (rowAt t r) :=
  Fin.ext (by show t.val % 2 * 1024 + r.val = (t.val * 1024 + r.val) % 2048; omega)
theorem turned_congr {P P' : Fin 2560 → EReal} {a a' b b' : Fin 128 → EReal} (l : Fin 2560) (h1 : P = P') (h2 : a = a') (h3 : b = b') :
    turned P a b l = turned P' a' b' l := by rw [h1, h2, h3]
/-- A block's turned column is the arrays'. -/
theorem tb_eq (c : Dev nD) (t : Fin cfg0.N) (r : Fin 1024) (l : Fin 2560) :
    turned (pb (iblk m c 0 t) (iblk m c 1 t) (iblk m c 2 t) (iblk m c 3 t) (iblk m c 4 t) (iblk m c 5 t) (iblk m c 6 t) r) (fun j => iblk m c 7 t (ix2 (n0 := 1024) (n1 := 128) r j)) (fun j => iblk m c 8 t (ix2 (n0 := 1024) (n1 := 128) r j)) l = ta m c (rowAt t r) l := by
  unfold ta
  rw [← place_eq]
  have e := turned_congr l (pb_eq m c t r) (funext fun j => iblk7_at m c t r j) (funext fun j => iblk8_at m c t r j)
  exact e
theorem late_eq (t : Fin cfg0.N) (h : t.val % 2 = 1) (r : Fin 128) : lateOf (cacheAt t r) = rowAt t (tailRow r) :=
  Fin.ext (by show (t.val / 2 * 128 + r.val) / 128 * 2048 + 1920 + (t.val / 2 * 128 + r.val) % 128 = t.val * 1024 + (896 + r.val); omega)

/-- The array of output 9. -/
def G9 (c : Dev nD) : Vec Ideal S32768x1024 .f32 := fun i => (ya m c (i 0) (i 1) : EReal)
theorem flushed9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  funext y
  obtain ⟨r, l, rfl⟩ : ∃ (r : Fin 1024) (l : Fin 1024), (y : S1024x1024.Idx) = ix2 r l := ⟨y 0, y 1, funext fun a => match a with | ⟨0, _⟩ => rfl | ⟨1, _⟩ => rfl⟩
  refine Eq.trans ?_ (congrArg (G9 m c) (emb4 t r l)).symm
  refine Eq.trans (out9 (iblk m c 0 t) (iblk m c 1 t) (iblk m c 2 t) (iblk m c 3 t) (iblk m c 4 t) (iblk m c 5 t) (iblk m c 6 t) (iblk m c 7 t) (iblk m c 8 t) r l) ?_
  exact congrFun (yb_eq m c t r) l
theorem covered9 (i : S32768x1024.Idx) :
    ∃ t : Fin cfg0.N, (cfg0.win 9).flush t = true ∧ i ∈ ((cfg0.win 9).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_9 _, ?_⟩
  have h := ((cfg0.win 9).blk t).view.emb_mem_set (ix2 (n0 := 1024) (n1 := 1024) ⟨(i 0).val % 1024, Nat.mod_lt _ (by decide)⟩ (i 1))
  have e : ((cfg0.win 9).blk t).view.emb (ix2 (n0 := 1024) (n1 := 1024) ⟨(i 0).val % 1024, Nat.mod_lt _ (by decide)⟩ (i 1)) = i := (emb4 t ⟨(i 0).val % 1024, Nat.mod_lt _ (by decide)⟩ (i 1)).trans (show ix2 (n0 := 32768) (n1 := 1024) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final9 (c : Dev nD) : (dats m 0 c).arrAt 9 cfg0.N = G9 m c :=
  (dats m 0 c).arrAt_eq_of_cover 9 (G9 m c) (fun t _ => flushed9 m c t) covered9

/-- The array of output 10. -/
def G10 (c : Dev nD) : Vec Ideal S32768x1024 .bf16 := fun i => (ta m c (i 0) (qcol (i 1)) * scale : EReal)
theorem flushed10 (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  funext y
  obtain ⟨r, l, rfl⟩ : ∃ (r : Fin 1024) (l : Fin 1024), (y : S1024x1024.Idx) = ix2 r l := ⟨y 0, y 1, funext fun a => match a with | ⟨0, _⟩ => rfl | ⟨1, _⟩ => rfl⟩
  refine Eq.trans ?_ (congrArg (G10 m c) (emb4 t r l)).symm
  refine Eq.trans (out10 (iblk m c 0 t) (iblk m c 1 t) (iblk m c 2 t) (iblk m c 3 t) (iblk m c 4 t) (iblk m c 5 t) (iblk m c 6 t) (iblk m c 7 t) (iblk m c 8 t) (ix2 r l)) ?_
  exact congrArg (fun z : EReal => z * scale) (tb_eq m c t r (qcol l))
theorem covered10 (i : S32768x1024.Idx) :
    ∃ t : Fin cfg0.N, (cfg0.win 10).flush t = true ∧ i ∈ ((cfg0.win 10).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_10 _, ?_⟩
  have h := ((cfg0.win 10).blk t).view.emb_mem_set (ix2 (n0 := 1024) (n1 := 1024) ⟨(i 0).val % 1024, Nat.mod_lt _ (by decide)⟩ (i 1))
  have e : ((cfg0.win 10).blk t).view.emb (ix2 (n0 := 1024) (n1 := 1024) ⟨(i 0).val % 1024, Nat.mod_lt _ (by decide)⟩ (i 1)) = i := (emb4 t ⟨(i 0).val % 1024, Nat.mod_lt _ (by decide)⟩ (i 1)).trans (show ix2 (n0 := 32768) (n1 := 1024) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final10 (c : Dev nD) : (dats m 0 c).arrAt 10 cfg0.N = G10 m c :=
  (dats m 0 c).arrAt_eq_of_cover 10 (G10 m c) (fun t _ => flushed10 m c t) covered10

/-- The array of output 11. -/
def G11 (c : Dev nD) : Vec Ideal S32768x256 .bf16 := fun i => (ta m c (i 0) (kcol (i 1)) : EReal)
theorem flushed11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  funext y
  obtain ⟨r, l, rfl⟩ : ∃ (r : Fin 1024) (l : Fin 256), (y : S1024x256.Idx) = ix2 r l := ⟨y 0, y 1, funext fun a => match a with | ⟨0, _⟩ => rfl | ⟨1, _⟩ => rfl⟩
  refine Eq.trans ?_ (congrArg (G11 m c) (emb11 t r l)).symm
  refine Eq.trans (out11 (iblk m c 0 t) (iblk m c 1 t) (iblk m c 2 t) (iblk m c 3 t) (iblk m c 4 t) (iblk m c 5 t) (iblk m c 6 t) (iblk m c 7 t) (iblk m c 8 t) r l) ?_
  exact tb_eq m c t r (kcol l)
theorem covered11 (i : S32768x256.Idx) :
    ∃ t : Fin cfg0.N, (cfg0.win 11).flush t = true ∧ i ∈ ((cfg0.win 11).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_11 _, ?_⟩
  have h := ((cfg0.win 11).blk t).view.emb_mem_set (ix2 (n0 := 1024) (n1 := 256) ⟨(i 0).val % 1024, Nat.mod_lt _ (by decide)⟩ (i 1))
  have e : ((cfg0.win 11).blk t).view.emb (ix2 (n0 := 1024) (n1 := 256) ⟨(i 0).val % 1024, Nat.mod_lt _ (by decide)⟩ (i 1)) = i := (emb11 t ⟨(i 0).val % 1024, Nat.mod_lt _ (by decide)⟩ (i 1)).trans (show ix2 (n0 := 32768) (n1 := 256) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final11 (c : Dev nD) : (dats m 0 c).arrAt 11 cfg0.N = G11 m c :=
  (dats m 0 c).arrAt_eq_of_cover 11 (G11 m c) (fun t _ => flushed11 m c t) covered11

/-- The array of output 12. -/
def G12 (c : Dev nD) : Vec Ideal S32768x256 .bf16 := fun i => (pa m c (i 0) (vcol (i 1)) : EReal)
theorem flushed12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  funext y
  obtain ⟨r, l, rfl⟩ : ∃ (r : Fin 1024) (l : Fin 256), (y : S1024x256.Idx) = ix2 r l := ⟨y 0, y 1, funext fun a => match a with | ⟨0, _⟩ => rfl | ⟨1, _⟩ => rfl⟩
  refine Eq.trans ?_ (congrArg (G12 m c) (emb11 t r l)).symm
  refine Eq.trans (out12 (iblk m c 0 t) (iblk m c 1 t) (iblk m c 2 t) (iblk m c 3 t) (iblk m c 4 t) (iblk m c 5 t) (iblk m c 6 t) (iblk m c 7 t) (iblk m c 8 t) r l) ?_
  exact congrFun (pb_eq m c t r) (vcol l)
theorem covered12 (i : S32768x256.Idx) :
    ∃ t : Fin cfg0.N, (cfg0.win 12).flush t = true ∧ i ∈ ((cfg0.win 12).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_12 _, ?_⟩
  have h := ((cfg0.win 12).blk t).view.emb_mem_set (ix2 (n0 := 1024) (n1 := 256) ⟨(i 0).val % 1024, Nat.mod_lt _ (by decide)⟩ (i 1))
  have e : ((cfg0.win 12).blk t).view.emb (ix2 (n0 := 1024) (n1 := 256) ⟨(i 0).val % 1024, Nat.mod_lt _ (by decide)⟩ (i 1)) = i := (emb11 t ⟨(i 0).val % 1024, Nat.mod_lt _ (by decide)⟩ (i 1)).trans (show ix2 (n0 := 32768) (n1 := 256) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final12 (c : Dev nD) : (dats m 0 c).arrAt 12 cfg0.N = G12 m c :=
  (dats m 0 c).arrAt_eq_of_cover 12 (G12 m c) (fun t _ => flushed12 m c t) covered12

/-- The array of output 13. -/
def G13 (c : Dev nD) : Vec Ideal S32768x1024 .bf16 := fun i => (silu (pa m c (i 0) (gcol (i 1))) : EReal)
theorem flushed13 (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  funext y
  obtain ⟨r, l, rfl⟩ : ∃ (r : Fin 1024) (l : Fin 1024), (y : S1024x1024.Idx) = ix2 r l := ⟨y 0, y 1, funext fun a => match a with | ⟨0, _⟩ => rfl | ⟨1, _⟩ => rfl⟩
  refine Eq.trans ?_ (congrArg (G13 m c) (emb4 t r l)).symm
  refine Eq.trans (out13 (iblk m c 0 t) (iblk m c 1 t) (iblk m c 2 t) (iblk m c 3 t) (iblk m c 4 t) (iblk m c 5 t) (iblk m c 6 t) (iblk m c 7 t) (iblk m c 8 t) (ix2 r l)) ?_
  exact congrArg silu (congrFun (pb_eq m c t r) (gcol l))
theorem covered13 (i : S32768x1024.Idx) :
    ∃ t : Fin cfg0.N, (cfg0.win 13).flush t = true ∧ i ∈ ((cfg0.win 13).blk t).view.set := by
  have h0 : (i 0).val < 32768 := (i 0).isLt
  obtain ⟨t, ht⟩ : ∃ t : Fin cfg0.N, t.val = (i 0).val / 1024 := ⟨⟨(i 0).val / 1024, by show _ < 32; omega⟩, rfl⟩
  refine ⟨t, flush0_13 _, ?_⟩
  have h := ((cfg0.win 13).blk t).view.emb_mem_set (ix2 (n0 := 1024) (n1 := 1024) ⟨(i 0).val % 1024, Nat.mod_lt _ (by decide)⟩ (i 1))
  have e : ((cfg0.win 13).blk t).view.emb (ix2 (n0 := 1024) (n1 := 1024) ⟨(i 0).val % 1024, Nat.mod_lt _ (by decide)⟩ (i 1)) = i := (emb4 t ⟨(i 0).val % 1024, Nat.mod_lt _ (by decide)⟩ (i 1)).trans (show ix2 (n0 := 32768) (n1 := 1024) (rowAt t ⟨(i 0).val % 1024, Nat.mod_lt _ (by decide)⟩) (i 1) = i from by
    funext a; apply Fin.ext
    match a with
    | ⟨0, _⟩ => show t.val * 1024 + (i 0).val % 1024 = (i 0).val; omega
    | ⟨1, _⟩ => rfl)
  rw [e] at h
  exact h
theorem final13 (c : Dev nD) : (dats m 0 c).arrAt 13 cfg0.N = G13 m c :=
  (dats m 0 c).arrAt_eq_of_cover 13 (G13 m c) (fun t _ => flushed13 m c t) covered13

/-- The array of output 14. -/
def G14 (c : Dev nD) : Vec Ideal S2048x256 .f32 := fun i => (ta m c (lateOf (i 0)) (kcol (i 1)) : EReal)
theorem flushed14 (c : Dev nD) (t : Fin cfg0.N) (hodd : t.val % 2 = 1) :
    (dats m 0 c).flushed 14 t = ((cfg0.win 14).blk t).view.read (Elt Ideal) (G14 m c) := by
  show (cfg0.win 14).cut (grid0.coords t) ((dats m 0 c).after 14 t) = _
  rw [after0_14]
  funext y
  obtain ⟨r, l, rfl⟩ : ∃ (r : Fin 128) (l : Fin 256), (y : S128x256.Idx) = ix2 r l := ⟨y 0, y 1, funext fun a => match a with | ⟨0, _⟩ => rfl | ⟨1, _⟩ => rfl⟩
  refine Eq.trans ?_ (congrArg (G14 m c) (emb14 t r l)).symm
  refine Eq.trans (out14 (iblk m c 0 t) (iblk m c 1 t) (iblk m c 2 t) (iblk m c 3 t) (iblk m c 4 t) (iblk m c 5 t) (iblk m c 6 t) (iblk m c 7 t) (iblk m c 8 t) r l) ?_
  exact (tb_eq m c t (tailRow r) (kcol l)).trans (congrArg (fun z => ta m c z (kcol l)) (late_eq t hodd r).symm)
theorem covered14 (i : S2048x256.Idx) :
    ∃ t : Fin cfg0.N, (cfg0.win 14).flush t = true ∧ i ∈ ((cfg0.win 14).blk t).view.set := by
  have h0 : (i 0).val < 2048 := (i 0).isLt
  obtain ⟨t, ht⟩ : ∃ t : Fin cfg0.N, t.val = (i 0).val / 128 * 2 + 1 := ⟨⟨(i 0).val / 128 * 2 + 1, by show _ < 32; omega⟩, rfl⟩
  refine ⟨t, (flush0_14 _).mpr (by omega), ?_⟩
  have h := ((cfg0.win 14).blk t).view.emb_mem_set (ix2 (n0 := 128) (n1 := 256) ⟨(i 0).val % 128, Nat.mod_lt _ (by decide)⟩ (i 1))
  have e : ((cfg0.win 14).blk t).view.emb (ix2 (n0 := 128) (n1 := 256) ⟨(i 0).val % 128, Nat.mod_lt _ (by decide)⟩ (i 1)) = i := (emb14 t ⟨(i 0).val % 128, Nat.mod_lt _ (by decide)⟩ (i 1)).trans (show ix2 (n0 := 2048) (n1 := 256) (cacheAt t ⟨(i 0).val % 128, Nat.mod_lt _ (by decide)⟩) (i 1) = i from by
    funext a; apply Fin.ext
    match a with
    | ⟨0, _⟩ => show t.val / 2 * 128 + (i 0).val % 128 = (i 0).val; omega
    | ⟨1, _⟩ => rfl)
  rw [e] at h
  exact h
theorem final14 (c : Dev nD) : (dats m 0 c).arrAt 14 cfg0.N = G14 m c :=
  (dats m 0 c).arrAt_eq_of_cover 14 (G14 m c) (fun t hf => flushed14 m c t ((flush0_14 t).mp hf)) covered14

/-- The array of output 15. -/
def G15 (c : Dev nD) : Vec Ideal S2048x256 .f32 := fun i => (pa m c (lateOf (i 0)) (vcol (i 1)) : EReal)
theorem flushed15 (c : Dev nD) (t : Fin cfg0.N) (hodd : t.val % 2 = 1) :
    (dats m 0 c).flushed 15 t = ((cfg0.win 15).blk t).view.read (Elt Ideal) (G15 m c) := by
  show (cfg0.win 15).cut (grid0.coords t) ((dats m 0 c).after 15 t) = _
  rw [after0_15]
  funext y
  obtain ⟨r, l, rfl⟩ : ∃ (r : Fin 128) (l : Fin 256), (y : S128x256.Idx) = ix2 r l := ⟨y 0, y 1, funext fun a => match a with | ⟨0, _⟩ => rfl | ⟨1, _⟩ => rfl⟩
  refine Eq.trans ?_ (congrArg (G15 m c) (emb14 t r l)).symm
  refine Eq.trans (out15 (iblk m c 0 t) (iblk m c 1 t) (iblk m c 2 t) (iblk m c 3 t) (iblk m c 4 t) (iblk m c 5 t) (iblk m c 6 t) (iblk m c 7 t) (iblk m c 8 t) r l) ?_
  exact (congrFun (pb_eq m c t (tailRow r)) (vcol l)).trans (congrArg (fun z => pa m c z (vcol l)) (late_eq t hodd r).symm)
theorem covered15 (i : S2048x256.Idx) :
    ∃ t : Fin cfg0.N, (cfg0.win 15).flush t = true ∧ i ∈ ((cfg0.win 15).blk t).view.set := by
  have h0 : (i 0).val < 2048 := (i 0).isLt
  obtain ⟨t, ht⟩ : ∃ t : Fin cfg0.N, t.val = (i 0).val / 128 * 2 + 1 := ⟨⟨(i 0).val / 128 * 2 + 1, by show _ < 32; omega⟩, rfl⟩
  refine ⟨t, (flush0_15 _).mpr (by omega), ?_⟩
  have h := ((cfg0.win 15).blk t).view.emb_mem_set (ix2 (n0 := 128) (n1 := 256) ⟨(i 0).val % 128, Nat.mod_lt _ (by decide)⟩ (i 1))
  have e : ((cfg0.win 15).blk t).view.emb (ix2 (n0 := 128) (n1 := 256) ⟨(i 0).val % 128, Nat.mod_lt _ (by decide)⟩ (i 1)) = i := (emb14 t ⟨(i 0).val % 128, Nat.mod_lt _ (by decide)⟩ (i 1)).trans (show ix2 (n0 := 2048) (n1 := 256) (cacheAt t ⟨(i 0).val % 128, Nat.mod_lt _ (by decide)⟩) (i 1) = i from by
    funext a; apply Fin.ext
    match a with
    | ⟨0, _⟩ => show t.val / 2 * 128 + (i 0).val % 128 = (i 0).val; omega
    | ⟨1, _⟩ => rfl)
  rw [e] at h
  exact h
theorem final15 (c : Dev nD) : (dats m 0 c).arrAt 15 cfg0.N = G15 m c :=
  (dats m 0 c).arrAt_eq_of_cover 15 (G15 m c) (fun t hf => flushed15 m c t ((flush0_15 t).mp hf)) covered15

end Cert.Kernel4Ideal.MrgC
-- ==== Proof.MergeC.Spec.lean ====
/-
  The merge into mixer C's inputs as mathematics: a row of the mixed outputs times the output weights is scaled, added to the
  residual stream, scaled again, multiplied by the input weights; the columns of the queries and keys are turned by an angle
  that depends on the place and the column.
-/
module

public import proofs.«01_k».proof.Proof.MergeC.Out

@[expose] public section

set_option maxRecDepth 16384

noncomputable section

namespace Cert.Kernel4Ideal.MrgC

open Idealize.ShloMosaic Idealize.ShloMosaic.TcCoe
open Cert.Kernel2Ideal.Proj (rms proj silu scale)
open Cert.Kernel3Ideal.Mrg (merged unpair)
open Cert.Kernel4Ideal

/-- The angle of pair `j` at place `s`: the place times a power of the base. -/
def angle (s : Fin 2048) (j : Fin 32) : EReal :=
  FloatOps.sitofp (F := Ideal) FTy.f32 (BitVec.ofNat 32 s.val) *
    Ideal.pow (Ideal.ofBits FTy.f32 1176256512#32)
      (-FloatOps.sitofp (F := Ideal) FTy.f32 (BitVec.ofNat 32 j.val) * Ideal.ofBits FTy.f32 1023410176#32)
/-- The pair of column `l`. -/
def pairNo (l : Fin 2560) : Fin 32 := ⟨l.val % 32, Nat.mod_lt _ (by decide)⟩
/-- Column `l` of `P` turned at place `s`: the first half of a head takes its mate's sine with a minus. -/
def rp (P : Fin 2560 → EReal) (s : Fin 2048) (l : Fin 2560) : EReal :=
  turn (P l) (P (mateOf l)) (Ideal.cos (angle s (pairNo l)))
    (if l.val % 64 < 32 then -Ideal.sin (angle s (pairNo l)) else Ideal.sin (angle s (pairNo l)))

theorem gcol_lt (l : Fin 2560) : l.val - 1536 < 1024 := by omega
/-- The weights' column behind the kernel's column `l`: the queries and gates lie in the order of pairs. -/
def wcol (l : Fin 2560) : Fin 2560 :=
  if h : l.val < 1024 then qcol (unpair ⟨l.val, h⟩) else if l.val < 1536 then l else gcol (unpair ⟨l.val - 1536, gcol_lt l⟩)
theorem wcol_mate : ∀ l : Fin 2560, wcol (mateOf l) = mateOf (wcol l) := by decide +kernel
theorem wcol_lane : ∀ l : Fin 2560, (wcol l).val % 64 = l.val % 64 := by decide +kernel
theorem wcol_q : ∀ n : Fin 1024, wcol (qcol n) = qcol (unpair n) := by decide +kernel
theorem wcol_k : ∀ n : Fin 256, wcol (kcol n) = kcol n := by decide +kernel
theorem wcol_v : ∀ n : Fin 256, wcol (vcol n) = vcol n := by decide +kernel
theorem wcol_g : ∀ n : Fin 1024, wcol (gcol n) = gcol (unpair n) := by decide +kernel

variable (A B : Vec Ideal S16x2048x512 .f32) (W : Vec Ideal S1024x1024 .f32) (gp : Vec Ideal S1024 .f32)
  (X : Vec Ideal S16x2048x1024 .f32) (g2 : Vec Ideal S1024 .f32) (Wi : Vec Ideal S1024x2560 .f32)

/-- The residual stream after the merge. -/
def yrow (b : Fin 16) (s : Fin 2048) (n : Fin 1024) : EReal :=
  merged (fun k => X (ix3 b s k)) (outp (fun k => A (ix3 b s k)) (fun k => B (ix3 b s k)) (fun k j => W (ix2 k j)))
    (fun k => gp (ix1 k)) n
/-- Its projection to mixer C's columns. -/
def prow (b : Fin 16) (s : Fin 2048) (l : Fin 2560) : EReal :=
  proj (yrow A B W gp X b s) (fun k => g2 (ix1 k)) (fun k => Wi (ix2 k l))
/-- Row `j` of a batch's last 128. -/
def endRow (j : Fin 128) : Fin 2048 := ⟨1920 + j.val, by omega⟩
/-- Column `d` of key-value head `h`. -/
def kvAt (h : Fin 4) (d : Fin 64) : Fin 256 := ⟨h.val * 64 + d.val, by omega⟩
/-- Column `d` of query head `h`. -/
def qAt (h : Fin 16) (d : Fin 64) : Fin 1024 := ⟨h.val * 64 + d.val, by omega⟩

end Cert.Kernel4Ideal.MrgC
-- ==== Proof.MergeC.Host.lean ====
/-
  The host's operations around the merge into mixer C's inputs, read at an index: what the call is given, and what becomes of
  its results.
-/
module

public import proofs.«01_k».proof.Proof.MergeC.Blocks
public import proofs.«01_k».proof.Proof.MergeC.Spec
public import Idealize.ShloMosaic.Lib.StableHlo.ReadAt
public import Idealize.ShloMosaic.Lib.Pointwise

@[expose] public section

set_option maxRecDepth 16384

noncomputable section

namespace Cert.Kernel4Ideal.MrgC

open Cert.Kernel4Ideal Cert.Kernel4Ideal.Gen
open Idealize.ShloMosaic Idealize.ShloMosaic.TcCoe
open Idealize.SL Idealize.SL.Sem
open Cert.Kernel2Ideal.Proj (rms proj silu scale)
open Cert.Kernel3Ideal.Mrg (merged rowOf unpair)

variable (m : (ℓ : Loc nD τ sig) → Buf (Elt Ideal) ℓ)

theorem V_v11 (c : Dev nD) (b : Fin 16) (s : Fin 2048) (k : Fin 512) :
    V m c main_v11 (ix2 (rowOf b s) k) = (m ((c.tc : Thread nD τ).loc main_arg0) (ix3 b s k) : EReal) := by
  unfold V
  after_reads_at
  have hb := b.isLt
  have hs := s.isLt
  have e : (ix3 ⟨(rowOf b s).val / 2048, by have := (rowOf b s).isLt; omega⟩ ⟨(rowOf b s).val % 2048, Nat.mod_lt _ (by decide)⟩ k : S16x2048x512.Idx)
      = ix3 b s k := by
    funext a; apply Fin.ext
    match a with
    | ⟨0, _⟩ => show (b.val * 2048 + s.val) / 2048 = b.val; omega
    | ⟨1, _⟩ => show (b.val * 2048 + s.val) % 2048 = s.val; omega
    | ⟨2, _⟩ => rfl
  exact congrArg (m (c, Proc.tc.devRef main_arg0)) e
theorem V_v13 (c : Dev nD) (b : Fin 16) (s : Fin 2048) (k : Fin 512) :
    V m c main_v13 (ix2 (rowOf b s) k) = (m ((c.tc : Thread nD τ).loc main_arg1) (ix3 b s k) : EReal) := by
  unfold V
  after_reads_at
  have hb := b.isLt
  have hs := s.isLt
  have e : (ix3 ⟨(rowOf b s).val / 2048, by have := (rowOf b s).isLt; omega⟩ ⟨(rowOf b s).val % 2048, Nat.mod_lt _ (by decide)⟩ k : S16x2048x512.Idx)
      = ix3 b s k := by
    funext a; apply Fin.ext
    match a with
    | ⟨0, _⟩ => show (b.val * 2048 + s.val) / 2048 = b.val; omega
    | ⟨1, _⟩ => show (b.val * 2048 + s.val) % 2048 = s.val; omega
    | ⟨2, _⟩ => rfl
  exact congrArg (m (c, Proc.tc.devRef main_arg1)) e
theorem V_v16 (c : Dev nD) (b : Fin 16) (s : Fin 2048) (k : Fin 1024) :
    V m c main_v16 (ix2 (rowOf b s) k) = (m ((c.tc : Thread nD τ).loc main_arg4) (ix3 b s k) : EReal) := by
  unfold V
  after_reads_at
  have hb := b.isLt
  have hs := s.isLt
  have e : (ix3 ⟨(rowOf b s).val / 2048, by have := (rowOf b s).isLt; omega⟩ ⟨(rowOf b s).val % 2048, Nat.mod_lt _ (by decide)⟩ k : S16x2048x1024.Idx)
      = ix3 b s k := by
    funext a; apply Fin.ext
    match a with
    | ⟨0, _⟩ => show (b.val * 2048 + s.val) / 2048 = b.val; omega
    | ⟨1, _⟩ => show (b.val * 2048 + s.val) % 2048 = s.val; omega
    | ⟨2, _⟩ => rfl
  exact congrArg (m (c, Proc.tc.devRef main_arg4)) e
theorem V_v14 (c : Dev nD) (k n : Fin 1024) :
    V m c main_v14 (ix2 k n) = (m ((c.tc : Thread nD τ).loc main_arg2) (ix2 k n) : EReal) := by
  unfold V
  after_reads_at
theorem V_v15 (c : Dev nD) (k : Fin 1024) :
    V m c main_v15 (ix2 0 k) = (m ((c.tc : Thread nD τ).loc main_arg3) (ix1 k) : EReal) := by
  unfold V
  after_reads_at
theorem V_v40 (c : Dev nD) (k : Fin 1024) :
    V m c main_v40 (ix2 0 k) = (m ((c.tc : Thread nD τ).loc main_arg5) (ix1 k) : EReal) := by
  unfold V
  after_reads_at
theorem V_v41q (c : Dev nD) (k n : Fin 1024) :
    V m c main_v41 (ix2 k (qcol n)) = (m ((c.tc : Thread nD τ).loc main_arg6) (ix2 k (qcol (unpair n))) : EReal) := by
  unfold V
  after_reads_at
  rw [dif_pos (show (qcol n).val < 1024 from n.isLt)]
  after_reads_at
  rfl
theorem V_v41m (c : Dev nD) (k : Fin 1024) (l : Fin 2560) (h1 : ¬ l.val < 1024) (h2 : l.val < 1536) (h3 : l.val - 1024 < 512) :
    V m c main_v41 (ix2 k l) = (m ((c.tc : Thread nD τ).loc main_arg6) (ix2 k l) : EReal) := by
  unfold V
  after_reads_at
  rw [dif_neg h1, dif_pos h3]
  after_reads_at
  have e : (ix2 k ⟨1024 + (l.val - 1024), by omega⟩ : S1024x2560.Idx) = ix2 k l := by
    congr 1; apply Fin.ext; show 1024 + (l.val - 1024) = l.val; omega
  exact congrArg (m (c, Proc.tc.devRef main_arg6)) e
theorem gate_lt (n : Fin 1024) : 1536 + (((gcol n).val - 1024 - 512) / 512 * 512 + ((gcol n).val - 1024 - 512) / 64 % 2 * 256
      + ((gcol n).val - 1024 - 512) / 128 % 4 * 64 + ((gcol n).val - 1024 - 512) % 64) < 2560 := by
  have e0 : (gcol n).val - 1024 - 512 = n.val := by show 1536 + n.val - 1024 - 512 = n.val; omega
  rw [e0]
  omega
theorem V_v41g (c : Dev nD) (k n : Fin 1024) :
    V m c main_v41 (ix2 k (gcol n)) = (m ((c.tc : Thread nD τ).loc main_arg6) (ix2 k (gcol (unpair n))) : EReal) := by
  have h1 : ¬ (gcol n).val < 1024 := by show ¬ 1536 + n.val < 1024; omega
  have h2 : ¬ (gcol n).val - 1024 < 512 := by show ¬ 1536 + n.val - 1024 < 512; omega
  unfold V
  after_reads_at
  rw [dif_neg h1, dif_neg h2]
  after_reads_at
  have e : (ix2 k ⟨1536 + (((gcol n).val - 1024 - 512) / 512 * 512 + ((gcol n).val - 1024 - 512) / 64 % 2 * 256
      + ((gcol n).val - 1024 - 512) / 128 % 4 * 64 + ((gcol n).val - 1024 - 512) % 64), gate_lt n⟩ : S1024x2560.Idx) = ix2 k (gcol (unpair n)) := by
    congr 1
    apply Fin.ext
    show 1536 + ((1536 + n.val - 1024 - 512) / 512 * 512 + (1536 + n.val - 1024 - 512) / 64 % 2 * 256
      + (1536 + n.val - 1024 - 512) / 128 % 4 * 64 + (1536 + n.val - 1024 - 512) % 64)
      = 1536 + (n.val / 512 * 512 + n.val / 64 % 2 * 256 + n.val / 128 % 4 * 64 + n.val % 64)
    have e0 : 1536 + n.val - 1024 - 512 = n.val := by omega
    rw [e0]
  exact congrArg (m (c, Proc.tc.devRef main_arg6)) e
/-- The input weights the call is given. -/
theorem V_v41 (c : Dev nD) (k : Fin 1024) (l : Fin 2560) :
    V m c main_v41 (ix2 k l) = (m ((c.tc : Thread nD τ).loc main_arg6) (ix2 k (wcol l)) : EReal) := by
  unfold wcol
  split
  · rename_i h
    exact V_v41q m c k ⟨l.val, h⟩
  · rename_i h
    split
    · rename_i h'
      exact V_v41m m c k l h h' (by omega)
    · rename_i h'
      have e : gcol ⟨l.val - 1536, gcol_lt l⟩ = l := by apply Fin.ext; show 1536 + (l.val - 1536) = l.val; omega
      have r := V_v41g m c k ⟨l.val - 1536, gcol_lt l⟩
      rw [e] at r
      exact r

/-- The pair of lane `l`. -/
def lanePair (l : Fin 128) : Fin 32 := ⟨l.val % 32, Nat.mod_lt _ (by decide)⟩
theorem V_v33 (c : Dev nD) (s : Fin 2048) (l : Fin 128) :
    V m c main_v33 (ix2 s l) = (Ideal.cos (angle s (lanePair l)) : EReal) := by
  unfold V
  after_reads_at
  rfl
theorem half : ∀ l : Fin 128, IntOp.cmpi CmpIPredicate.slt (IntOp.remsi ArithUnit.host (BitVec.ofNat 32 l.val) 64#32) 32#32
    = if l.val % 64 < 32 then 1#1 else 0#1 := by decide +kernel
theorem V_v39 (c : Dev nD) (s : Fin 2048) (l : Fin 128) :
    V m c main_v39 (ix2 s l)
      = (if l.val % 64 < 32 then -Ideal.sin (angle s (lanePair l)) else Ideal.sin (angle s (lanePair l)) : EReal) := by
  unfold V
  after_reads_at
  rw [half l]
  split <;> rfl

theorem arr_inj : Function.Injective (Pipeline.arrRef spec0) := by decide

/-- The arrays at the region's end. -/
def Z (c : Dev nD) : Valuation τ sig (Elt Ideal) :=
  Pipeline.withArrays spec0 c (V0 m c) fun w => (dats m 0 c).arrAt w cfg0.N

theorem Z_9 (c : Dev nD) : Z m c (Proc.devRef .tc main_v42_0) = G9 m c :=
  (Pipeline.withArrays_arr spec0 arr_inj c (V0 m c) (fun w => (dats m 0 c).arrAt w cfg0.N) 9).trans (final9 m c)
theorem Z_10 (c : Dev nD) : Z m c (Proc.devRef .tc main_v42_1) = G10 m c :=
  (Pipeline.withArrays_arr spec0 arr_inj c (V0 m c) (fun w => (dats m 0 c).arrAt w cfg0.N) 10).trans (final10 m c)
theorem Z_11 (c : Dev nD) : Z m c (Proc.devRef .tc main_v42_2) = G11 m c :=
  (Pipeline.withArrays_arr spec0 arr_inj c (V0 m c) (fun w => (dats m 0 c).arrAt w cfg0.N) 11).trans (final11 m c)
theorem Z_12 (c : Dev nD) : Z m c (Proc.devRef .tc main_v42_3) = G12 m c :=
  (Pipeline.withArrays_arr spec0 arr_inj c (V0 m c) (fun w => (dats m 0 c).arrAt w cfg0.N) 12).trans (final12 m c)
theorem Z_13 (c : Dev nD) : Z m c (Proc.devRef .tc main_v42_4) = G13 m c :=
  (Pipeline.withArrays_arr spec0 arr_inj c (V0 m c) (fun w => (dats m 0 c).arrAt w cfg0.N) 13).trans (final13 m c)
theorem Z_14 (c : Dev nD) : Z m c (Proc.devRef .tc main_v42_5) = G14 m c :=
  (Pipeline.withArrays_arr spec0 arr_inj c (V0 m c) (fun w => (dats m 0 c).arrAt w cfg0.N) 14).trans (final14 m c)
theorem Z_15 (c : Dev nD) : Z m c (Proc.devRef .tc main_v42_6) = G15 m c :=
  (Pipeline.withArrays_arr spec0 arr_inj c (V0 m c) (fun w => (dats m 0 c).arrAt w cfg0.N) 15).trans (final15 m c)

theorem late_row (b : Fin 16) (j : Fin 128) (h : b.val * 128 + j.val < 2048) : lateOf ⟨b.val * 128 + j.val, h⟩ = rowOf b (endRow j) := by
  apply Fin.ext
  show (b.val * 128 + j.val) / 128 * 2048 + 1920 + (b.val * 128 + j.val) % 128 = b.val * 2048 + (1920 + j.val)
  have := j.isLt
  omega

theorem tail_43 (c : Dev nD) (b : Fin 16) (s : Fin 2048) (l : Fin 1024) :
    Pipeline.afterTail₀ cfgs (dats m) 0 (V0 m) [hostOps1] c main_v43 (ix3 b s l) = (ya m c (rowOf b s) l : EReal) := by
  have h0 : (StableHlo.after ([hostOps1] : List (List (HloOp τ sig (Elt Ideal)))).flatten (Z m c) (Proc.devRef .tc main_v43) (ix3 b s l) : EReal)
      = Z m c (Proc.devRef .tc main_v42_0) (ix2 (rowOf b s) l) := by
    generalize Z m c = Y
    simp only [hostOps1, List.flatten_cons, List.flatten_nil, List.append_nil, List.cons_append, List.nil_append]
    after_reads_at
    rfl
  refine Eq.trans h0 ?_
  rw [Z_9]
  rfl
theorem tail_44 (c : Dev nD) (b : Fin 16) (s : Fin 2048) (l : Fin 1024) :
    Pipeline.afterTail₀ cfgs (dats m) 0 (V0 m) [hostOps1] c main_v44 (ix3 b s l) = (ta m c (rowOf b s) (qcol l) * scale : EReal) := by
  have h0 : (StableHlo.after ([hostOps1] : List (List (HloOp τ sig (Elt Ideal)))).flatten (Z m c) (Proc.devRef .tc main_v44) (ix3 b s l) : EReal)
      = Z m c (Proc.devRef .tc main_v42_1) (ix2 (rowOf b s) l) := by
    generalize Z m c = Y
    simp only [hostOps1, List.flatten_cons, List.flatten_nil, List.append_nil, List.cons_append, List.nil_append]
    after_reads_at
    rfl
  refine Eq.trans h0 ?_
  rw [Z_10]
  rfl
theorem tail_45 (c : Dev nD) (b : Fin 16) (s : Fin 2048) (l : Fin 256) :
    Pipeline.afterTail₀ cfgs (dats m) 0 (V0 m) [hostOps1] c main_v45 (ix3 b s l) = (ta m c (rowOf b s) (kcol l) : EReal) := by
  have h0 : (StableHlo.after ([hostOps1] : List (List (HloOp τ sig (Elt Ideal)))).flatten (Z m c) (Proc.devRef .tc main_v45) (ix3 b s l) : EReal)
      = Z m c (Proc.devRef .tc main_v42_2) (ix2 (rowOf b s) l) := by
    generalize Z m c = Y
    simp only [hostOps1, List.flatten_cons, List.flatten_nil, List.append_nil, List.cons_append, List.nil_append]
    after_reads_at
    rfl
  refine Eq.trans h0 ?_
  rw [Z_11]
  rfl
theorem tail_46 (c : Dev nD) (b : Fin 16) (s : Fin 2048) (l : Fin 256) :
    Pipeline.afterTail₀ cfgs (dats m) 0 (V0 m) [hostOps1] c main_v46 (ix3 b s l) = (pa m c (rowOf b s) (vcol l) : EReal) := by
  have h0 : (StableHlo.after ([hostOps1] : List (List (HloOp τ sig (Elt Ideal)))).flatten (Z m c) (Proc.devRef .tc main_v46) (ix3 b s l) : EReal)
      = Z m c (Proc.devRef .tc main_v42_3) (ix2 (rowOf b s) l) := by
    generalize Z m c = Y
    simp only [hostOps1, List.flatten_cons, List.flatten_nil, List.append_nil, List.cons_append, List.nil_append]
    after_reads_at
    rfl
  refine Eq.trans h0 ?_
  rw [Z_12]
  rfl
theorem tail_47 (c : Dev nD) (b : Fin 16) (s : Fin 2048) (l : Fin 1024) :
    Pipeline.afterTail₀ cfgs (dats m) 0 (V0 m) [hostOps1] c main_v47 (ix3 b s l) = (silu (pa m c (rowOf b s) (gcol l)) : EReal) := by
  have h0 : (StableHlo.after ([hostOps1] : List (List (HloOp τ sig (Elt Ideal)))).flatten (Z m c) (Proc.devRef .tc main_v47) (ix3 b s l) : EReal)
      = Z m c (Proc.devRef .tc main_v42_4) (ix2 (rowOf b s) l) := by
    generalize Z m c = Y
    simp only [hostOps1, List.flatten_cons, List.flatten_nil, List.append_nil, List.cons_append, List.nil_append]
    after_reads_at
    rfl
  refine Eq.trans h0 ?_
  rw [Z_13]
  rfl
/-- Row `j` of batch `b`'s cached rows. -/
def lateAt (b : Fin 16) (j : Fin 128) : Fin 2048 := ⟨b.val * 128 + j.val, by omega⟩
theorem tail_48 (c : Dev nD) (b : Fin 16) (s : Fin 128) (h : Fin 4) (d : Fin 64) :
    Pipeline.afterTail₀ cfgs (dats m) 0 (V0 m) [hostOps1] c main_v48 (ix4 b s h d) = (ta m c (rowOf b (endRow s)) (kcol (kvAt h d)) : EReal) := by
  have h0 : (StableHlo.after ([hostOps1] : List (List (HloOp τ sig (Elt Ideal)))).flatten (Z m c) (Proc.devRef .tc main_v48) (ix4 b s h d) : EReal)
      = Z m c (Proc.devRef .tc main_v42_5) (ix2 (lateAt b s) (kvAt h d)) := by
    generalize Z m c = Y
    simp only [hostOps1, List.flatten_cons, List.flatten_nil, List.append_nil, List.cons_append, List.nil_append]
    after_reads_at
    rfl
  refine Eq.trans h0 ?_
  rw [Z_14]
  have e : lateOf (lateAt b s) = rowOf b (endRow s) := late_row b s (lateAt b s).isLt
  rw [← e]
  rfl
theorem tail_49 (c : Dev nD) (b : Fin 16) (s : Fin 128) (h : Fin 4) (d : Fin 64) :
    Pipeline.afterTail₀ cfgs (dats m) 0 (V0 m) [hostOps1] c main_v49 (ix4 b s h d) = (pa m c (rowOf b (endRow s)) (vcol (kvAt h d)) : EReal) := by
  have h0 : (StableHlo.after ([hostOps1] : List (List (HloOp τ sig (Elt Ideal)))).flatten (Z m c) (Proc.devRef .tc main_v49) (ix4 b s h d) : EReal)
      = Z m c (Proc.devRef .tc main_v42_6) (ix2 (lateAt b s) (kvAt h d)) := by
    generalize Z m c = Y
    simp only [hostOps1, List.flatten_cons, List.flatten_nil, List.append_nil, List.cons_append, List.nil_append]
    after_reads_at
    rfl
  refine Eq.trans h0 ?_
  rw [Z_15]
  have e : lateOf (lateAt b s) = rowOf b (endRow s) := late_row b s (lateAt b s).isLt
  rw [← e]
  rfl

/-! The call's values, from the program's arguments. -/

theorem ya_eq (c : Dev nD) (b : Fin 16) (s : Fin 2048) :
    ya m c (rowOf b s) = yrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s := by
  funext n
  unfold ya yrow
  have e1 : (fun k => V m c main_v16 (ix2 (rowOf b s) k) : Fin 1024 → EReal) = fun k => m ((c.tc : Thread nD τ).loc main_arg4) (ix3 b s k) := funext fun k => V_v16 m c b s k
  have e2 : (fun k => V m c main_v11 (ix2 (rowOf b s) k) : Fin 512 → EReal) = fun k => m ((c.tc : Thread nD τ).loc main_arg0) (ix3 b s k) := funext fun k => V_v11 m c b s k
  have e3 : (fun k => V m c main_v13 (ix2 (rowOf b s) k) : Fin 512 → EReal) = fun k => m ((c.tc : Thread nD τ).loc main_arg1) (ix3 b s k) := funext fun k => V_v13 m c b s k
  have e4 : (fun k j => V m c main_v14 (ix2 k j) : Fin 1024 → Fin 1024 → EReal) = fun k j => m ((c.tc : Thread nD τ).loc main_arg2) (ix2 k j) := funext fun k => funext fun j => V_v14 m c k j
  have e5 : (fun k => V m c main_v15 (ix2 0 k) : Fin 1024 → EReal) = fun k => m ((c.tc : Thread nD τ).loc main_arg3) (ix1 k) := funext fun k => V_v15 m c k
  exact congr (congr (congr (congrArg merged e1) (congr (congr (congrArg outp e2) e3) e4)) e5) rfl

theorem pa_eq (c : Dev nD) (b : Fin 16) (s : Fin 2048) (l : Fin 2560) :
    pa m c (rowOf b s) l = prow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) b s (wcol l) := by
  unfold pa prow
  exact congr (congr (congrArg proj (ya_eq m c b s)) (funext fun k => V_v40 m c k)) (funext fun k => V_v41 m c k l)

theorem place_row (b : Fin 16) (s : Fin 2048) : placeOf (rowOf b s) = s := by
  apply Fin.ext
  show (b.val * 2048 + s.val) % 2048 = s.val
  have := s.isLt
  omega
theorem lane_pair (l : Fin 2560) : lanePair (laneOf l) = pairNo (wcol l) := by
  apply Fin.ext
  show l.val % 128 % 32 = (wcol l).val % 32
  have := wcol_lane l
  omega
theorem lane_half (l : Fin 2560) : (laneOf l).val % 64 = (wcol l).val % 64 := by
  rw [wcol_lane]
  show l.val % 128 % 64 = l.val % 64
  omega

theorem ta_eq (c : Dev nD) (b : Fin 16) (s : Fin 2048) (l : Fin 2560) :
    ta m c (rowOf b s) l = rp (prow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) b s) s (wcol l) := by
  unfold ta turned rp
  rw [place_row]
  beta_reduce
  rw [V_v33, V_v39, pa_eq, pa_eq, wcol_mate, lane_pair, lane_half]

end Cert.Kernel4Ideal.MrgC
-- ==== Proof.MergeC.RefVal.lean ====
/-
  The merge reference, element by element: the two mixers' rows side by side times the output weights, scaled and added to
  the residual stream; scaled again and projected; queries and keys turned by halves.
-/
module

public import proofs.«01_k».proof.Proof.MergeC.Spec
public import proofs.«01_k».proof.Proof.AttnA.Scores
public import proofs.«01_k».proof.Proof.Gen.Reference4Ideal.Run
public import Idealize.ShloMosaic.Lib.Pointwise
public import Idealize.ShloMosaic.Lib.Quiescent

@[expose] public section

set_option maxRecDepth 16384

noncomputable section

namespace Cert.Reference4Ideal.MrgC

open Cert.Reference4Ideal Cert.Reference4Ideal.Gen
open Idealize.ShloMosaic Idealize.ShloMosaic.TcCoe Idealize.SL.Sem
open Cert.Kernel2Ideal.Proj (rms proj scale silu)
open Cert.Kernel3Ideal.Mrg (merged unpair)
open Cert.Kernel4Ideal.MrgC (angle pairNo rp turn mateOf qcol kcol vcol gcol outp yrow prow endRow kvAt qAt lo hi)

/-- The frame claim's conclusion. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2.2.2.2.2, sem_eq_zero_of_no_sems (by decide) r.2⟩) (Cert.Reference4Ideal.Value.run m ρ)

variable (A B : Vec Ideal S16x2048x512 .f32) (W : Vec Ideal S1024x1024 .f32) (gp : Vec Ideal S1024 .f32)
  (X : Vec Ideal S16x2048x1024 .f32) (g2 : Vec Ideal S1024 .f32) (Wi : Vec Ideal S1024x2560 .f32)

/-- The mixed rows times the output weights, whole. -/
def hT : FVec Ideal S16x2048x1024 .f32 := Host.dotGeneral (φ₁ := .f32) (φ₂ := .f32) dot_S16x2048x1024_S1024x1024_S16x2048x1024_2_0_01_1_n_n none (concatenate S16x2048x1024 2 [⟨S16x2048x512, A⟩, ⟨S16x2048x512, B⟩] concatenates_S16x2048x512_S16x2048x512_S16x2048x1024_d2) W
theorem hT_at (b : Fin 16) (s : Fin 2048) (n : Fin 1024) :
    hT A B W (ix3 b s n) = outp (fun k => A (ix3 b s k)) (fun k => B (ix3 b s k)) (fun k j => W (ix2 k j)) n := by
  pointwise [hT]
  rfl
/-- The residual stream after the merge, whole. -/
def yT : FVec Ideal S16x2048x1024 .f32 := addf X (mulf (mulf (hT A B W) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (hT A B W) (hT A B W)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 gp)))
theorem yT_at (b : Fin 16) (s : Fin 2048) (n : Fin 1024) : yT A B W gp X (ix3 b s n) = yrow A B W gp X b s n := by
  pointwise [yT]
  simp only [hT_at]
  rfl
/-- The projection, whole. -/
def uT : FVec Ideal S16x2048x2560 .f32 := Host.dotGeneral (φ₁ := .f32) (φ₂ := .f32) dot_S16x2048x1024_S1024x2560_S16x2048x2560_2_0_01_1_n_n none (mulf (mulf (yT A B W gp X) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (yT A B W gp X) (yT A B W gp X)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g2))) Wi
theorem uT_at (b : Fin 16) (s : Fin 2048) (n : Fin 2560) :
    uT A B W gp X g2 Wi (ix3 b s n) = prow A B W gp X g2 Wi b s n := by
  pointwise [uT]
  simp only [yT_at]
  rfl
/-- The cosines of the angles. -/
def cosT : FVec Ideal S2048x1x32 .f32 := broadcastInDim S2048x1x32 ![0, 2] bcast_S2048x32_S2048x1x32_0_2 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32))))))))
theorem cosT_at (s : Fin 2048) (j : Fin 32) : (cosT (ix3 s 0 j) : EReal) = Ideal.cos (angle s j) := by
  pointwise [cosT]
  rfl
/-- The sines of the angles. -/
def sinT : FVec Ideal S2048x1x32 .f32 := broadcastInDim S2048x1x32 ![0, 2] bcast_S2048x32_S2048x1x32_0_2 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32))))))))
theorem sinT_at (s : Fin 2048) (j : Fin 32) : (sinT (ix3 s 0 j) : EReal) = Ideal.sin (angle s j) := by
  pointwise [sinT]
  rfl

theorem rp_first (P : Fin 2560 → EReal) (s : Fin 2048) (l l' : Fin 2560) (j : Fin 32) (h : l.val % 64 < 32) (hm : l'.val = l.val + 32) (hj : j.val = l.val % 32) :
    P l * Ideal.cos (angle s j) - P l' * Ideal.sin (angle s j) = rp P s l := by
  unfold rp turn
  have e1 : l' = mateOf l := by apply Fin.ext; unfold mateOf; rw [dif_pos h]; exact hm
  have e2 : j = pairNo l := Fin.ext hj
  rw [if_pos h, ← e1, ← e2, sub_eq_add_neg, mul_neg]
theorem rp_second (P : Fin 2560 → EReal) (s : Fin 2048) (l l' : Fin 2560) (j : Fin 32) (h : ¬ l.val % 64 < 32) (hm : l'.val = l.val - 32) (hj : j.val = l.val % 32) :
    P l * Ideal.cos (angle s j) + P l' * Ideal.sin (angle s j) = rp P s l := by
  unfold rp turn
  have e1 : l' = mateOf l := by apply Fin.ext; unfold mateOf; rw [dif_neg h]; exact hm
  have e2 : j = pairNo l := Fin.ext hj
  rw [if_neg h, ← e1, ← e2]

/-- The turned queries, by heads. -/
def qT : FVec Ideal S16x2048x16x64 .f32 := concatenate S16x2048x16x64 3 [⟨S16x2048x16x32, (subf (mulf (extractStridedSlice S16x2048x16x32 ![0, 0, 0, 0] (shapeCast S16x2048x16x64 (extractStridedSlice S16x2048x1024 ![0, 0, 0] (uT A B W gp X g2 Wi) slices_S16x2048x2560_S16x2048x1024_0_0_0) shapeCasts_S16x2048x1024_S16x2048x16x64) slices_S16x2048x16x64_S16x2048x16x32_0_0_0_0) (broadcastInDim S16x2048x16x32 ![0, 1, 2, 3] bcast_S1x2048x1x32_S16x2048x16x32_0_1_2_3 (broadcastInDim S1x2048x1x32 ![1, 2, 3] bcast_S2048x1x32_S1x2048x1x32_1_2_3 (cosT)))) (mulf (extractStridedSlice S16x2048x16x32 ![0, 0, 0, 32] (shapeCast S16x2048x16x64 (extractStridedSlice S16x2048x1024 ![0, 0, 0] (uT A B W gp X g2 Wi) slices_S16x2048x2560_S16x2048x1024_0_0_0) shapeCasts_S16x2048x1024_S16x2048x16x64) slices_S16x2048x16x64_S16x2048x16x32_0_0_0_32) (broadcastInDim S16x2048x16x32 ![0, 1, 2, 3] bcast_S1x2048x1x32_S16x2048x16x32_0_1_2_3 (broadcastInDim S1x2048x1x32 ![1, 2, 3] bcast_S2048x1x32_S1x2048x1x32_1_2_3 (sinT)))))⟩, ⟨S16x2048x16x32, (addf (mulf (extractStridedSlice S16x2048x16x32 ![0, 0, 0, 32] (shapeCast S16x2048x16x64 (extractStridedSlice S16x2048x1024 ![0, 0, 0] (uT A B W gp X g2 Wi) slices_S16x2048x2560_S16x2048x1024_0_0_0) shapeCasts_S16x2048x1024_S16x2048x16x64) slices_S16x2048x16x64_S16x2048x16x32_0_0_0_32) (broadcastInDim S16x2048x16x32 ![0, 1, 2, 3] bcast_S1x2048x1x32_S16x2048x16x32_0_1_2_3 (broadcastInDim S1x2048x1x32 ![1, 2, 3] bcast_S2048x1x32_S1x2048x1x32_1_2_3 (cosT)))) (mulf (extractStridedSlice S16x2048x16x32 ![0, 0, 0, 0] (shapeCast S16x2048x16x64 (extractStridedSlice S16x2048x1024 ![0, 0, 0] (uT A B W gp X g2 Wi) slices_S16x2048x2560_S16x2048x1024_0_0_0) shapeCasts_S16x2048x1024_S16x2048x16x64) slices_S16x2048x16x64_S16x2048x16x32_0_0_0_0) (broadcastInDim S16x2048x16x32 ![0, 1, 2, 3] bcast_S1x2048x1x32_S16x2048x16x32_0_1_2_3 (broadcastInDim S1x2048x1x32 ![1, 2, 3] bcast_S2048x1x32_S1x2048x1x32_1_2_3 (sinT)))))⟩] concatenates_S16x2048x16x32_S16x2048x16x32_S16x2048x16x64_d3
theorem qT_at (b : Fin 16) (s : Fin 2048) (h : Fin 16) (d : Fin 64) :
    (qT A B W gp X g2 Wi (ix4 b s h d) : EReal) = rp (prow A B W gp X g2 Wi b s) s (qcol (qAt h d)) := by
  pointwise [qT]
  have hd := d.isLt
  split
  · rename_i hlt
    simp only [uT_at, cosT_at, sinT_at]
    have e := rp_first (prow A B W gp X g2 Wi b s) s (qcol (qAt h d)) ⟨h.val * 64 + (32 + d.val), by omega⟩ ⟨d.val, hlt⟩
      (by show (h.val * 64 + d.val) % 64 < 32; omega) (by show h.val * 64 + (32 + d.val) = h.val * 64 + d.val + 32; omega)
      (by show d.val = (h.val * 64 + d.val) % 32; omega)
    exact e
  · rename_i hlt
    simp only [uT_at, cosT_at, sinT_at]
    have e0 : (⟨h.val * 64 + (32 + (d.val - 32)), by omega⟩ : Fin 2560) = qcol (qAt h d) :=
      Fin.ext (by show h.val * 64 + (32 + (d.val - 32)) = h.val * 64 + d.val; omega)
    have e := rp_second (prow A B W gp X g2 Wi b s) s (qcol (qAt h d)) ⟨h.val * 64 + (d.val - 32), by omega⟩ ⟨d.val - 32, by omega⟩
      (by show ¬ (h.val * 64 + d.val) % 64 < 32; omega) (by show h.val * 64 + (d.val - 32) = h.val * 64 + d.val - 32; omega)
      (by show d.val - 32 = (h.val * 64 + d.val) % 32; omega)
    rw [e0]
    exact e
/-- The turned keys, by heads. -/
def kT : FVec Ideal S16x2048x4x64 .f32 := concatenate S16x2048x4x64 3 [⟨S16x2048x4x32, (subf (mulf (extractStridedSlice S16x2048x4x32 ![0, 0, 0, 0] (shapeCast S16x2048x4x64 (extractStridedSlice S16x2048x256 ![0, 0, 1024] (uT A B W gp X g2 Wi) slices_S16x2048x2560_S16x2048x256_0_0_1024) shapeCasts_S16x2048x256_S16x2048x4x64) slices_S16x2048x4x64_S16x2048x4x32_0_0_0_0) (broadcastInDim S16x2048x4x32 ![0, 1, 2, 3] bcast_S1x2048x1x32_S16x2048x4x32_0_1_2_3 (broadcastInDim S1x2048x1x32 ![1, 2, 3] bcast_S2048x1x32_S1x2048x1x32_1_2_3 (cosT)))) (mulf (extractStridedSlice S16x2048x4x32 ![0, 0, 0, 32] (shapeCast S16x2048x4x64 (extractStridedSlice S16x2048x256 ![0, 0, 1024] (uT A B W gp X g2 Wi) slices_S16x2048x2560_S16x2048x256_0_0_1024) shapeCasts_S16x2048x256_S16x2048x4x64) slices_S16x2048x4x64_S16x2048x4x32_0_0_0_32) (broadcastInDim S16x2048x4x32 ![0, 1, 2, 3] bcast_S1x2048x1x32_S16x2048x4x32_0_1_2_3 (broadcastInDim S1x2048x1x32 ![1, 2, 3] bcast_S2048x1x32_S1x2048x1x32_1_2_3 (sinT)))))⟩, ⟨S16x2048x4x32, (addf (mulf (extractStridedSlice S16x2048x4x32 ![0, 0, 0, 32] (shapeCast S16x2048x4x64 (extractStridedSlice S16x2048x256 ![0, 0, 1024] (uT A B W gp X g2 Wi) slices_S16x2048x2560_S16x2048x256_0_0_1024) shapeCasts_S16x2048x256_S16x2048x4x64) slices_S16x2048x4x64_S16x2048x4x32_0_0_0_32) (broadcastInDim S16x2048x4x32 ![0, 1, 2, 3] bcast_S1x2048x1x32_S16x2048x4x32_0_1_2_3 (broadcastInDim S1x2048x1x32 ![1, 2, 3] bcast_S2048x1x32_S1x2048x1x32_1_2_3 (cosT)))) (mulf (extractStridedSlice S16x2048x4x32 ![0, 0, 0, 0] (shapeCast S16x2048x4x64 (extractStridedSlice S16x2048x256 ![0, 0, 1024] (uT A B W gp X g2 Wi) slices_S16x2048x2560_S16x2048x256_0_0_1024) shapeCasts_S16x2048x256_S16x2048x4x64) slices_S16x2048x4x64_S16x2048x4x32_0_0_0_0) (broadcastInDim S16x2048x4x32 ![0, 1, 2, 3] bcast_S1x2048x1x32_S16x2048x4x32_0_1_2_3 (broadcastInDim S1x2048x1x32 ![1, 2, 3] bcast_S2048x1x32_S1x2048x1x32_1_2_3 (sinT)))))⟩] concatenates_S16x2048x4x32_S16x2048x4x32_S16x2048x4x64_d3
theorem kT_at (b : Fin 16) (s : Fin 2048) (h : Fin 4) (d : Fin 64) :
    (kT A B W gp X g2 Wi (ix4 b s h d) : EReal) = rp (prow A B W gp X g2 Wi b s) s (kcol (kvAt h d)) := by
  pointwise [kT]
  have hd := d.isLt
  split
  · rename_i hlt
    simp only [uT_at, cosT_at, sinT_at]
    have e := rp_first (prow A B W gp X g2 Wi b s) s (kcol (kvAt h d)) ⟨1024 + (h.val * 64 + (32 + d.val)), by omega⟩ ⟨d.val, hlt⟩
      (by show (1024 + (h.val * 64 + d.val)) % 64 < 32; omega) (by show 1024 + (h.val * 64 + (32 + d.val)) = 1024 + (h.val * 64 + d.val) + 32; omega)
      (by show d.val = (1024 + (h.val * 64 + d.val)) % 32; omega)
    exact e
  · rename_i hlt
    simp only [uT_at, cosT_at, sinT_at]
    have e0 : (⟨1024 + (h.val * 64 + (32 + (d.val - 32))), by omega⟩ : Fin 2560) = kcol (kvAt h d) :=
      Fin.ext (by show 1024 + (h.val * 64 + (32 + (d.val - 32))) = 1024 + (h.val * 64 + d.val); omega)
    have e := rp_second (prow A B W gp X g2 Wi b s) s (kcol (kvAt h d)) ⟨1024 + (h.val * 64 + (d.val - 32)), by omega⟩ ⟨d.val - 32, by omega⟩
      (by show ¬ (1024 + (h.val * 64 + d.val)) % 64 < 32; omega) (by show 1024 + (h.val * 64 + (d.val - 32)) = 1024 + (h.val * 64 + d.val) - 32; omega)
      (by show d.val - 32 = (1024 + (h.val * 64 + d.val)) % 32; omega)
    rw [e0]
    exact e
/-- The result `main_v93`. -/
def res93 : FVec Ideal S16x2048x1024 .bf16 := truncf .bf16 (shapeCast S16x2048x1024 (transpose S16x2048x2x4x2x64 [0, 1, 2, 4, 3, 5] (shapeCast S16x2048x2x2x4x64 (mulf (qT A B W gp X g2 Wi) (broadcastInDim S16x2048x16x64 ![] bcast_S_S16x2048x16x64 (constant S_ .f32 0x3E38AA3B#32))) shapeCasts_S16x2048x16x64_S16x2048x2x2x4x64) transposes_S16x2048x2x2x4x64_S16x2048x2x4x2x64_0_1_2_4_3_5) shapeCasts_S16x2048x2x4x2x64_S16x2048x1024) bitsLt_bf16_f32
theorem res93_at (b : Fin 16) (s : Fin 2048) (n : Fin 1024) : (res93 A B W gp X g2 Wi (ix3 b s n) : EReal) = rp (prow A B W gp X g2 Wi b s) s (qcol (unpair n)) * scale := by
  pointwise [res93]
  simp only [uT_at, qT_at, kT_at]
  have e : qAt ⟨n.val / 512 * 8 + n.val / 64 % 2 * 4 + n.val / 128 % 4, by omega⟩ ⟨n.val % 64, by omega⟩ = unpair n :=
    Fin.ext (by
      show (n.val / 512 * 8 + n.val / 64 % 2 * 4 + n.val / 128 % 4) * 64 + n.val % 64
        = n.val / 512 * 512 + n.val / 64 % 2 * 256 + n.val / 128 % 4 * 64 + n.val % 64
      omega)
  rw [e]
  rfl
theorem run93 (m : (ℓ : Loc nD τ sig) → Buf (Elt Ideal) ℓ) (c : Dev nD) :
    Cert.Reference4Ideal.Value.res_main_v93 m c = res93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The result `main_v95`. -/
def res95 : FVec Ideal S16x2048x256 .bf16 := truncf .bf16 (shapeCast S16x2048x256 (kT A B W gp X g2 Wi) shapeCasts_S16x2048x4x64_S16x2048x256) bitsLt_bf16_f32
theorem res95_at (b : Fin 16) (s : Fin 2048) (n : Fin 256) : (res95 A B W gp X g2 Wi (ix3 b s n) : EReal) = rp (prow A B W gp X g2 Wi b s) s (kcol n) := by
  pointwise [res95]
  simp only [uT_at, qT_at, kT_at]
  have e : kvAt ⟨n.val / 64, by omega⟩ ⟨n.val % 64, by omega⟩ = n := Fin.ext (by show n.val / 64 * 64 + n.val % 64 = n.val; omega)
  rw [e]
theorem run95 (m : (ℓ : Loc nD τ sig) → Buf (Elt Ideal) ℓ) (c : Dev nD) :
    Cert.Reference4Ideal.Value.res_main_v95 m c = res95 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The result `main_v97`. -/
def res97 : FVec Ideal S16x2048x256 .bf16 := truncf .bf16 (shapeCast S16x2048x256 (shapeCast S16x2048x4x64 (extractStridedSlice S16x2048x256 ![0, 0, 1280] (uT A B W gp X g2 Wi) slices_S16x2048x2560_S16x2048x256_0_0_1280) shapeCasts_S16x2048x256_S16x2048x4x64) shapeCasts_S16x2048x4x64_S16x2048x256) bitsLt_bf16_f32
theorem res97_at (b : Fin 16) (s : Fin 2048) (n : Fin 256) : (res97 A B W gp X g2 Wi (ix3 b s n) : EReal) = prow A B W gp X g2 Wi b s (vcol n) := by
  pointwise [res97]
  simp only [uT_at, qT_at, kT_at]
  rfl
theorem run97 (m : (ℓ : Loc nD τ sig) → Buf (Elt Ideal) ℓ) (c : Dev nD) :
    Cert.Reference4Ideal.Value.res_main_v97 m c = res97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The result `main_v102`. -/
def res102 : FVec Ideal S16x2048x1024 .bf16 := truncf .bf16 (shapeCast S16x2048x1024 (transpose S16x2048x2x4x2x64 [0, 1, 2, 4, 3, 5] (shapeCast S16x2048x2x2x4x64 (mulf (extractStridedSlice S16x2048x1024 ![0, 0, 1536] (uT A B W gp X g2 Wi) slices_S16x2048x2560_S16x2048x1024_0_0_1536) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 1536] (uT A B W gp X g2 Wi) slices_S16x2048x2560_S16x2048x1024_0_0_1536)))))) shapeCasts_S16x2048x1024_S16x2048x2x2x4x64) transposes_S16x2048x2x2x4x64_S16x2048x2x4x2x64_0_1_2_4_3_5) shapeCasts_S16x2048x2x4x2x64_S16x2048x1024) bitsLt_bf16_f32
theorem res102_at (b : Fin 16) (s : Fin 2048) (n : Fin 1024) : (res102 A B W gp X g2 Wi (ix3 b s n) : EReal) = silu (prow A B W gp X g2 Wi b s (gcol (unpair n))) := by
  pointwise [res102]
  simp only [uT_at, qT_at, kT_at]
  rw [Cert.KernelIdeal.Attn.mul_sigmoid]
  rfl
theorem run102 (m : (ℓ : Loc nD τ sig) → Buf (Elt Ideal) ℓ) (c : Dev nD) :
    Cert.Reference4Ideal.Value.res_main_v102 m c = res102 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The result `main_v103`. -/
def res103 : FVec Ideal S16x128x4x64 .f32 := extractStridedSlice S16x128x4x64 ![0, 1920, 0, 0] (kT A B W gp X g2 Wi) slices_S16x2048x4x64_S16x128x4x64_0_1920_0_0
theorem res103_at (b : Fin 16) (s : Fin 128) (h : Fin 4) (d : Fin 64) : (res103 A B W gp X g2 Wi (ix4 b s h d) : EReal) = rp (prow A B W gp X g2 Wi b (endRow s)) (endRow s) (kcol (kvAt h d)) := by
  pointwise [res103]
  simp only [uT_at, qT_at, kT_at]
  rfl
theorem run103 (m : (ℓ : Loc nD τ sig) → Buf (Elt Ideal) ℓ) (c : Dev nD) :
    Cert.Reference4Ideal.Value.res_main_v103 m c = res103 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The result `main_v104`. -/
def res104 : FVec Ideal S16x128x4x64 .f32 := extractStridedSlice S16x128x4x64 ![0, 1920, 0, 0] (shapeCast S16x2048x4x64 (extractStridedSlice S16x2048x256 ![0, 0, 1280] (uT A B W gp X g2 Wi) slices_S16x2048x2560_S16x2048x256_0_0_1280) shapeCasts_S16x2048x256_S16x2048x4x64) slices_S16x2048x4x64_S16x128x4x64_0_1920_0_0
theorem res104_at (b : Fin 16) (s : Fin 128) (h : Fin 4) (d : Fin 64) : (res104 A B W gp X g2 Wi (ix4 b s h d) : EReal) = prow A B W gp X g2 Wi b (endRow s) (vcol (kvAt h d)) := by
  pointwise [res104]
  simp only [uT_at, qT_at, kT_at]
  rfl
theorem run104 (m : (ℓ : Loc nD τ sig) → Buf (Elt Ideal) ℓ) (c : Dev nD) :
    Cert.Reference4Ideal.Value.res_main_v104 m c = res104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Reference4Ideal.MrgC
-- ==== Proof.MergeC.Value.lean ====
/-
  The seven results of the merge into mixer C's inputs are the reference's, and both programs leave them: the fourth value
  claim.
-/
module

public import proofs.«01_k».proof.Defs
public import proofs.«01_k».proof.Proof.MergeC.Host
public import proofs.«01_k».proof.Proof.MergeC.RefVal

@[expose] public section

set_option maxRecDepth 16384

noncomputable section

namespace Cert.Kernel4Ideal.MrgC

open Cert.Kernel4Ideal Cert.Kernel4Ideal.Gen
open Idealize.ShloMosaic Idealize.ShloMosaic.TcCoe Idealize.SL.Sem

theorem app7 {α β γ δ ε ζ η θ : Type} (f : α → β → γ → δ → ε → ζ → η → θ) {a a' : α} {b b' : β} {c c' : γ} {d d' : δ} {e e' : ε} {i i' : ζ} {j j' : η}
    (h1 : a = a') (h2 : b = b') (h3 : c = c') (h4 : d = d') (h5 : e = e') (h6 : i = i') (h7 : j = j') :
    f a b c d e i j = f a' b' c' d' e' i' j' := by rw [h1, h2, h3, h4, h5, h6, h7]
theorem app5 {α β γ δ ε θ : Type} (f : α → β → γ → δ → ε → θ) {a a' : α} {b b' : β} {c c' : γ} {d d' : δ} {e e' : ε}
    (h1 : a = a') (h2 : b = b') (h3 : c = c') (h4 : d = d') (h5 : e = e') : f a b c d e = f a' b' c' d' e' := by
  rw [h1, h2, h3, h4, h5]

theorem val0 (m : (ℓ : Loc nD τ sig) → Buf (Elt Ideal) ℓ) (c : Dev nD) :
    Pipeline.afterTail₀ cfgs (dats m) 0 (V0 m) [hostOps1] c main_v43 = Cert.Reference4Ideal.MrgC.yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨b, s, l, rfl⟩ : ∃ (b : Fin 16) (s : Fin 2048) (l : Fin 1024), (i : S16x2048x1024.Idx) = ix3 b s l :=
    ⟨i 0, i 1, i 2, funext fun a => match a with | ⟨0, _⟩ => rfl | ⟨1, _⟩ => rfl | ⟨2, _⟩ => rfl⟩
  refine (tail_43 m c b s l).trans (Eq.trans ?_ (Cert.Reference4Ideal.MrgC.yT_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s l).symm)
  rw [ya_eq]
theorem val1 (m : (ℓ : Loc nD τ sig) → Buf (Elt Ideal) ℓ) (c : Dev nD) :
    Pipeline.afterTail₀ cfgs (dats m) 0 (V0 m) [hostOps1] c main_v44 = Cert.Reference4Ideal.MrgC.res93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, l, rfl⟩ : ∃ (b : Fin 16) (s : Fin 2048) (l : Fin 1024), (i : S16x2048x1024.Idx) = ix3 b s l :=
    ⟨i 0, i 1, i 2, funext fun a => match a with | ⟨0, _⟩ => rfl | ⟨1, _⟩ => rfl | ⟨2, _⟩ => rfl⟩
  refine (tail_44 m c b s l).trans (Eq.trans ?_ (Cert.Reference4Ideal.MrgC.res93_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s l).symm)
  rw [ta_eq, wcol_q]
theorem val2 (m : (ℓ : Loc nD τ sig) → Buf (Elt Ideal) ℓ) (c : Dev nD) :
    Pipeline.afterTail₀ cfgs (dats m) 0 (V0 m) [hostOps1] c main_v45 = Cert.Reference4Ideal.MrgC.res95 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, l, rfl⟩ : ∃ (b : Fin 16) (s : Fin 2048) (l : Fin 256), (i : S16x2048x256.Idx) = ix3 b s l :=
    ⟨i 0, i 1, i 2, funext fun a => match a with | ⟨0, _⟩ => rfl | ⟨1, _⟩ => rfl | ⟨2, _⟩ => rfl⟩
  refine (tail_45 m c b s l).trans (Eq.trans ?_ (Cert.Reference4Ideal.MrgC.res95_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s l).symm)
  rw [ta_eq, wcol_k]
theorem val3 (m : (ℓ : Loc nD τ sig) → Buf (Elt Ideal) ℓ) (c : Dev nD) :
    Pipeline.afterTail₀ cfgs (dats m) 0 (V0 m) [hostOps1] c main_v46 = Cert.Reference4Ideal.MrgC.res97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, l, rfl⟩ : ∃ (b : Fin 16) (s : Fin 2048) (l : Fin 256), (i : S16x2048x256.Idx) = ix3 b s l :=
    ⟨i 0, i 1, i 2, funext fun a => match a with | ⟨0, _⟩ => rfl | ⟨1, _⟩ => rfl | ⟨2, _⟩ => rfl⟩
  refine (tail_46 m c b s l).trans (Eq.trans ?_ (Cert.Reference4Ideal.MrgC.res97_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s l).symm)
  rw [pa_eq, wcol_v]
theorem val4 (m : (ℓ : Loc nD τ sig) → Buf (Elt Ideal) ℓ) (c : Dev nD) :
    Pipeline.afterTail₀ cfgs (dats m) 0 (V0 m) [hostOps1] c main_v47 = Cert.Reference4Ideal.MrgC.res102 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, l, rfl⟩ : ∃ (b : Fin 16) (s : Fin 2048) (l : Fin 1024), (i : S16x2048x1024.Idx) = ix3 b s l :=
    ⟨i 0, i 1, i 2, funext fun a => match a with | ⟨0, _⟩ => rfl | ⟨1, _⟩ => rfl | ⟨2, _⟩ => rfl⟩
  refine (tail_47 m c b s l).trans (Eq.trans ?_ (Cert.Reference4Ideal.MrgC.res102_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s l).symm)
  rw [pa_eq, wcol_g]
theorem val5 (m : (ℓ : Loc nD τ sig) → Buf (Elt Ideal) ℓ) (c : Dev nD) :
    Pipeline.afterTail₀ cfgs (dats m) 0 (V0 m) [hostOps1] c main_v48 = Cert.Reference4Ideal.MrgC.res103 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, h, d, rfl⟩ : ∃ (b : Fin 16) (s : Fin 128) (h : Fin 4) (d : Fin 64), (i : S16x128x4x64.Idx) = ix4 b s h d :=
    ⟨i 0, i 1, i 2, i 3, funext fun a => match a with | ⟨0, _⟩ => rfl | ⟨1, _⟩ => rfl | ⟨2, _⟩ => rfl | ⟨3, _⟩ => rfl⟩
  refine (tail_48 m c b s h d).trans (Eq.trans ?_ (Cert.Reference4Ideal.MrgC.res103_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s h d).symm)
  rw [ta_eq, wcol_k]
theorem val6 (m : (ℓ : Loc nD τ sig) → Buf (Elt Ideal) ℓ) (c : Dev nD) :
    Pipeline.afterTail₀ cfgs (dats m) 0 (V0 m) [hostOps1] c main_v49 = Cert.Reference4Ideal.MrgC.res104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, h, d, rfl⟩ : ∃ (b : Fin 16) (s : Fin 128) (h : Fin 4) (d : Fin 64), (i : S16x128x4x64.Idx) = ix4 b s h d :=
    ⟨i 0, i 1, i 2, i 3, funext fun a => match a with | ⟨0, _⟩ => rfl | ⟨1, _⟩ => rfl | ⟨2, _⟩ => rfl | ⟨3, _⟩ => rfl⟩
  refine (tail_49 m c b s h d).trans (Eq.trans ?_ (Cert.Reference4Ideal.MrgC.res104_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s h d).symm)
  rw [pa_eq, wcol_v]

/-- The kernel's call computes the reference over the reals. -/
theorem value : Cert.algebraic_Kernel4Ideal_Reference4Ideal := fun m g m' g' _ hm =>
  ⟨fun c => Cert.Reference4Ideal.MrgC.yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Cert.Reference4Ideal.MrgC.res93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference4Ideal.MrgC.res95 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference4Ideal.MrgC.res97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference4Ideal.MrgC.res102 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference4Ideal.MrgC.res103 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference4Ideal.MrgC.res104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    (θ_run defs _ _).mono (fun _ h c => ⟨((h c).2 main_v43 (Pipeline.mem_restRefs_of main_v43 (by decide) (by decide))).trans (val0 m c),
      ((h c).2 main_v44 (Pipeline.mem_restRefs_of main_v44 (by decide) (by decide))).trans (val1 m c),
      ((h c).2 main_v45 (Pipeline.mem_restRefs_of main_v45 (by decide) (by decide))).trans (val2 m c),
      ((h c).2 main_v46 (Pipeline.mem_restRefs_of main_v46 (by decide) (by decide))).trans (val3 m c),
      ((h c).2 main_v47 (Pipeline.mem_restRefs_of main_v47 (by decide) (by decide))).trans (val4 m c),
      ((h c).2 main_v48 (Pipeline.mem_restRefs_of main_v48 (by decide) (by decide))).trans (val5 m c),
      ((h c).2 main_v49 (Pipeline.mem_restRefs_of main_v49 (by decide) (by decide))).trans (val6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
      (run_main m g),
    (θ_run Cert.Reference4Ideal.defs _ _).mono (fun _ h c => ⟨(h c).1.trans (app5 Cert.Reference4Ideal.MrgC.yT (hm c).1 (hm c).2.1 (hm c).2.2.1 (hm c).2.2.2.1 (hm c).2.2.2.2.1),
      (h c).2.1.trans (((Cert.Reference4Ideal.MrgC.run93 m' c).trans (app7 Cert.Reference4Ideal.MrgC.res93 (hm c).1 (hm c).2.1 (hm c).2.2.1 (hm c).2.2.2.1 (hm c).2.2.2.2.1 (hm c).2.2.2.2.2.1 (hm c).2.2.2.2.2.2))),
      (h c).2.2.1.trans (((Cert.Reference4Ideal.MrgC.run95 m' c).trans (app7 Cert.Reference4Ideal.MrgC.res95 (hm c).1 (hm c).2.1 (hm c).2.2.1 (hm c).2.2.2.1 (hm c).2.2.2.2.1 (hm c).2.2.2.2.2.1 (hm c).2.2.2.2.2.2))),
      (h c).2.2.2.1.trans (((Cert.Reference4Ideal.MrgC.run97 m' c).trans (app7 Cert.Reference4Ideal.MrgC.res97 (hm c).1 (hm c).2.1 (hm c).2.2.1 (hm c).2.2.2.1 (hm c).2.2.2.2.1 (hm c).2.2.2.2.2.1 (hm c).2.2.2.2.2.2))),
      (h c).2.2.2.2.1.trans (((Cert.Reference4Ideal.MrgC.run102 m' c).trans (app7 Cert.Reference4Ideal.MrgC.res102 (hm c).1 (hm c).2.1 (hm c).2.2.1 (hm c).2.2.2.1 (hm c).2.2.2.2.1 (hm c).2.2.2.2.2.1 (hm c).2.2.2.2.2.2))),
      (h c).2.2.2.2.2.1.trans (((Cert.Reference4Ideal.MrgC.run103 m' c).trans (app7 Cert.Reference4Ideal.MrgC.res103 (hm c).1 (hm c).2.1 (hm c).2.2.1 (hm c).2.2.2.1 (hm c).2.2.2.2.1 (hm c).2.2.2.2.2.1 (hm c).2.2.2.2.2.2))),
      (h c).2.2.2.2.2.2.1.trans (((Cert.Reference4Ideal.MrgC.run104 m' c).trans (app7 Cert.Reference4Ideal.MrgC.res104 (hm c).1 (hm c).2.1 (hm c).2.2.1 (hm c).2.2.2.1 (hm c).2.2.2.2.1 (hm c).2.2.2.2.2.1 (hm c).2.2.2.2.2.2))),
      (h c).2.2.2.2.2.2.2⟩)
      (Cert.Reference4Ideal.Value.run m' g')⟩

end Cert.Kernel4Ideal.MrgC
-- ==== Proof.MergeS.Kern.lean ====
/-
  The last merge on the sample, element by element: the whole sample is one tile of 256 rows, and the row's arithmetic is the
  prompt's.
-/
module

public import proofs.«01_k».proof.Proof.Merge.Kern
public import proofs.«01_k».proof.Proof.Gen.Kernel5Ideal.Frame
public import proofs.«01_k».proof.Proof.Gen.Kernel5Ideal.Points
public import Idealize.ShloMosaic.Lib.Pipeline.Value
public import Idealize.ShloMosaic.Lib.Pipeline.Covers
public import Idealize.ShloMosaic.Lib.StableHlo.ReadAt
public import Idealize.ShloMosaic.Lib.Pointwise
public import Idealize.ShloMosaic.Lib.Tactic

@[expose] public section

set_option maxRecDepth 16384

noncomputable section

namespace Cert.Kernel5Ideal.MrgS

open Cert.Kernel5Ideal Cert.Kernel5Ideal.Gen
open Idealize.ShloMosaic Idealize.ShloMosaic.TcCoe
open Idealize.SL Idealize.SL.Sem
open Idealize.ShloMosaic.Pipeline (Dat Cfg Window)
open Cert.Kernel3Ideal.Mrg (merged times hz2 merged_congr times_congr unpair)

theorem pay1 (a : Vec Ideal S256x1024 .bf16) (w : Vec Ideal S1024x1024 .bf16) (x : Vec Ideal S256x1024 .f32)
    (g : Vec Ideal S1x1024 .f32) (r : Fin 256) (n : Fin 1024) :
    k0_pay1 (F := Ideal) a w x g (ix2 r n)
      = (merged (fun k => x (ix2 r k)) (times (fun k => a (ix2 r k)) (fun k n => w (ix2 k n))) (fun k => g (ix2 0 k)) n : EReal) := by
  pointwise [k0_pay1]
  rfl

theorem out (a : Vec Ideal S256x1024 .bf16) (w : Vec Ideal S1024x1024 .bf16) (g : Vec Ideal S1x1024 .f32)
    (x : Vec Ideal S256x1024 .f32) : out0_4 (F := Ideal) a w g x = k0_pay1 a w x g := by
  unfold out0_4 r0_0
  rw [View.canon_unit_zero hz2]
  unfold r0_1 r0_2
  simp only [View.ld_unit_zero (S := S256x1024) hz2, View.ld_unit_zero (S := S1024x1024) hz2, View.ld_unit_zero (S := S1x1024) hz2]

variable (m : (ℓ : Loc nD τ sig) → Buf (Elt Ideal) ℓ)

/-- Row `r` of point `t`'s rows. -/
def rowAt (t : Fin cfg0.N) (r : Fin 256) : Fin 256 := ⟨t.val * 256 + r.val, by have h : t.val < 1 := t.isLt; omega⟩
theorem tr0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)

theorem emb0 (t : Fin cfg0.N) (r : Fin 256) (k : Fin 1024) : ((cfg0.win 0).blk t).view.emb (ix2 (n0 := 256) (n1 := 1024) r k) = ix2 (n0 := 256) (n1 := 1024) (rowAt t r) k := by
  obtain ⟨e0, e1⟩ := tr0 t
  funext a; apply Fin.ext
  match a with
  | ⟨0, _⟩ => show cc0_transform_0 (grid0.coords t) (0 : Fin 2) * 256 + 1 * r.val = t.val * 256 + r.val; rw [e0]; omega
  | ⟨1, _⟩ => show cc0_transform_0 (grid0.coords t) (1 : Fin 2) * 1024 + 1 * k.val = k.val; rw [e1]; omega
theorem emb1 (t : Fin cfg0.N) (k n : Fin 1024) : ((cfg0.win 1).blk t).view.emb (ix2 (n0 := 1024) (n1 := 1024) k n) = ix2 (n0 := 1024) (n1 := 1024) k n := by
  funext a; apply Fin.ext
  match a with
  | ⟨0, _⟩ => show 0 * 1024 + 1 * k.val = k.val; omega
  | ⟨1, _⟩ => show 0 * 1024 + 1 * n.val = n.val; omega
theorem emb2 (t : Fin cfg0.N) (k : Fin 1024) : ((cfg0.win 2).blk t).view.emb (ix2 (n0 := 1) (n1 := 1024) 0 k) = ix2 (n0 := 1) (n1 := 1024) 0 k := by
  funext a; apply Fin.ext
  match a with
  | ⟨0, _⟩ => rfl
  | ⟨1, _⟩ => show 0 * 1024 + 1 * k.val = k.val; omega

theorem iblk0_at (c : Dev nD) (t : Fin cfg0.N) (r : Fin 256) (k : Fin 1024) :
    iblk m c 0 t (ix2 (n0 := 256) (n1 := 1024) r k) = V m c main_v1 (ix2 (n0 := 256) (n1 := 1024) (rowAt t r) k) :=
  congrArg (V m c main_v1) (emb0 t r k)
theorem iblk1_at (c : Dev nD) (t : Fin cfg0.N) (k n : Fin 1024) :
    iblk m c 1 t (ix2 (n0 := 1024) (n1 := 1024) k n) = V m c main_v5 (ix2 (n0 := 1024) (n1 := 1024) k n) :=
  congrArg (V m c main_v5) (emb1 t k n)
theorem iblk2_at (c : Dev nD) (t : Fin cfg0.N) (k : Fin 1024) :
    iblk m c 2 t (ix2 (n0 := 1) (n1 := 1024) 0 k) = V m c main_v6 (ix2 (n0 := 1) (n1 := 1024) 0 k) :=
  congrArg (V m c main_v6) (emb2 t k)
theorem iblk3_at (c : Dev nD) (t : Fin cfg0.N) (r : Fin 256) (k : Fin 1024) :
    iblk m c 3 t (ix2 (n0 := 256) (n1 := 1024) r k) = V m c main_v7 (ix2 (n0 := 256) (n1 := 1024) (rowAt t r) k) :=
  congrArg (V m c main_v7) (emb0 t r k)

/-- The result array. -/
def G4 (c : Dev nD) : Vec Ideal S256x1024 .f32 := fun i =>
  (merged (fun k => V m c main_v7 (ix2 (i 0) k)) (times (fun k => V m c main_v1 (ix2 (i 0) k)) (fun k n => V m c main_v5 (ix2 k n)))
    (fun k => V m c main_v6 (ix2 0 k)) (i 1) : EReal)
theorem flushed4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, out]
  funext y
  obtain ⟨r, n, rfl⟩ : ∃ (r : Fin 256) (n : Fin 1024), (y : S256x1024.Idx) = ix2 r n := ⟨y 0, y 1, funext fun a => match a with | ⟨0, _⟩ => rfl | ⟨1, _⟩ => rfl⟩
  refine Eq.trans ?_ (congrArg (G4 m c) (emb0 t r n)).symm
  refine Eq.trans (pay1 _ _ _ _ r n) ?_
  have e := merged_congr n (funext fun k => iblk3_at m c t r k)
    (times_congr (funext fun k => iblk0_at m c t r k) (funext fun k => funext fun n => iblk1_at m c t k n)) (funext fun k => iblk2_at m c t k)
  exact e
theorem covered4 (i : S256x1024.Idx) :
    ∃ t : Fin cfg0.N, (cfg0.win 4).flush t = true ∧ i ∈ ((cfg0.win 4).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_4 _, ?_⟩
  have h := ((cfg0.win 4).blk t).view.emb_mem_set (ix2 (n0 := 256) (n1 := 1024) ⟨(i 0).val % 256, Nat.mod_lt _ (by decide)⟩ (i 1))
  have e : ((cfg0.win 4).blk t).view.emb (ix2 (n0 := 256) (n1 := 1024) ⟨(i 0).val % 256, Nat.mod_lt _ (by decide)⟩ (i 1)) = i := (emb0 t ⟨(i 0).val % 256, Nat.mod_lt _ (by decide)⟩ (i 1)).trans (show ix2 (n0 := 256) (n1 := 1024) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final4 (c : Dev nD) : (dats m 0 c).arrAt 4 cfg0.N = G4 m c :=
  (dats m 0 c).arrAt_eq_of_cover 4 (G4 m c) (fun t _ => flushed4 m c t) covered4

/-! The host's operations around the call. -/

/-- Row `s` of batch `b`, among all rows. -/
def rowOf (b : Fin 8) (s : Fin 32) : Fin 256 := ⟨b.val * 32 + s.val, by omega⟩

theorem V_v1 (c : Dev nD) (b : Fin 8) (s : Fin 32) (k : Fin 1024) :
    V m c main_v1 (ix2 (rowOf b s) k) = (m ((c.tc : Thread nD τ).loc main_arg0) (ix3 b s k) : EReal) := by
  unfold V
  after_reads_at
  have hb := b.isLt
  have hs := s.isLt
  have e : (ix3 ⟨(rowOf b s).val / 32, by have := (rowOf b s).isLt; omega⟩ ⟨(rowOf b s).val % 32, Nat.mod_lt _ (by decide)⟩ k : S8x32x1024.Idx)
      = ix3 b s k := by
    funext a; apply Fin.ext
    match a with
    | ⟨0, _⟩ => show (b.val * 32 + s.val) / 32 = b.val; omega
    | ⟨1, _⟩ => show (b.val * 32 + s.val) % 32 = s.val; omega
    | ⟨2, _⟩ => rfl
  exact congrArg (m (c, Proc.tc.devRef main_arg0)) e
theorem V_v7 (c : Dev nD) (b : Fin 8) (s : Fin 32) (k : Fin 1024) :
    V m c main_v7 (ix2 (rowOf b s) k) = (m ((c.tc : Thread nD τ).loc main_arg3) (ix3 b s k) : EReal) := by
  unfold V
  after_reads_at
  have hb := b.isLt
  have hs := s.isLt
  have e : (ix3 ⟨(rowOf b s).val / 32, by have := (rowOf b s).isLt; omega⟩ ⟨(rowOf b s).val % 32, Nat.mod_lt _ (by decide)⟩ k : S8x32x1024.Idx)
      = ix3 b s k := by
    funext a; apply Fin.ext
    match a with
    | ⟨0, _⟩ => show (b.val * 32 + s.val) / 32 = b.val; omega
    | ⟨1, _⟩ => show (b.val * 32 + s.val) % 32 = s.val; omega
    | ⟨2, _⟩ => rfl
  exact congrArg (m (c, Proc.tc.devRef main_arg3)) e
theorem V_v6 (c : Dev nD) (k : Fin 1024) :
    V m c main_v6 (ix2 0 k) = (m ((c.tc : Thread nD τ).loc main_arg2) (ix1 k) : EReal) := by
  unfold V
  after_reads_at
theorem V_v5 (c : Dev nD) (k n : Fin 1024) :
    V m c main_v5 (ix2 k n) = (m ((c.tc : Thread nD τ).loc main_arg1) (ix2 (unpair k) n) : EReal) := by
  unfold V
  after_reads_at
  rfl

theorem arr_inj : Function.Injective (Pipeline.arrRef spec0) := by decide

/-- The arrays at the region's end. -/
def Z (c : Dev nD) : Valuation τ sig (Elt Ideal) :=
  Pipeline.withArrays spec0 c (V0 m c) fun w => (dats m 0 c).arrAt w cfg0.N
theorem Z_4 (c : Dev nD) : Z m c (Proc.devRef .tc main_v8) = G4 m c :=
  (Pipeline.withArrays_arr spec0 arr_inj c (V0 m c) (fun w => (dats m 0 c).arrAt w cfg0.N) 4).trans (final4 m c)
theorem tail_9 (c : Dev nD) (b : Fin 8) (s : Fin 32) (n : Fin 1024) :
    Pipeline.afterTail₀ cfgs (dats m) 0 (V0 m) [hostOps1] c main_v9 (ix3 b s n) = (G4 m c (ix2 (rowOf b s) n) : EReal) := by
  have h0 : (StableHlo.after ([hostOps1] : List (List (HloOp τ sig (Elt Ideal)))).flatten (Z m c) (Proc.devRef .tc main_v9) (ix3 b s n) : EReal)
      = Z m c (Proc.devRef .tc main_v8) (ix2 (rowOf b s) n) := by
    generalize Z m c = Y
    simp only [hostOps1, List.flatten_cons, List.flatten_nil, List.append_nil, List.cons_append, List.nil_append]
    after_reads_at
    rfl
  refine Eq.trans h0 ?_
  rw [Z_4]

end Cert.Kernel5Ideal.MrgS
-- ==== Proof.MergeS.Value.lean ====
/-
  The merge reference on the sample, element by element, and the value claim of the last merge on the sample.
-/
module

public import proofs.«01_k».proof.Defs
public import proofs.«01_k».proof.Proof.MergeS.Kern
public import proofs.«01_k».proof.Proof.Merge.Value
public import proofs.«01_k».proof.Proof.Gen.Reference5Ideal.Run
public import Idealize.ShloMosaic.Lib.Quiescent

@[expose] public section

set_option maxRecDepth 16384

noncomputable section

namespace Cert.Reference5Ideal.MrgS

open Cert.Reference5Ideal Cert.Reference5Ideal.Gen
open Idealize.ShloMosaic Idealize.ShloMosaic.TcCoe Idealize.SL.Sem
open Cert.Kernel3Ideal.Mrg (merged times pair)

/-- The frame claim's conclusion. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Cert.Reference5Ideal.Value.run m ρ)

variable (O : Vec Ideal S8x32x1024 .f32) (W : Vec Ideal S1024x1024 .f32) (g : Vec Ideal S1024 .f32) (X : Vec Ideal S8x32x1024 .f32)

/-- The attention output times the output weights, whole. -/
def hT : FVec Ideal S8x32x1024 .f32 := Host.dotGeneral (φ₁ := .f32) (φ₂ := .f32) dot_S8x32x1024_S1024x1024_S8x32x1024_2_0_01_1_n_n none (shapeCast S8x32x1024 (transpose S8x32x2x2x4x64 [0, 1, 2, 4, 3, 5] (shapeCast S8x32x2x4x2x64 O shapeCasts_S8x32x1024_S8x32x2x4x2x64) transposes_S8x32x2x4x2x64_S8x32x2x2x4x64_0_1_2_4_3_5) shapeCasts_S8x32x2x2x4x64_S8x32x1024) W

theorem hT_at (b : Fin 8) (s : Fin 32) (n : Fin 1024) :
    hT O W (ix3 b s n) = times (fun k => O (ix3 b s (pair k))) (fun k n => W (ix2 k n)) n := by
  pointwise [hT]
  rfl

/-- The result `main_v17`. -/
def res : FVec Ideal S8x32x1024 .f32 := addf X (mulf (mulf (hT O W) (broadcastInDim S8x32x1024 ![0, 1, 2] bcast_S8x32x1_S8x32x1024_0_1_2 (Host.rsqrt (addf (Host.divf (broadcastInDim S8x32x1 ![0, 1] bcast_S8x32_S8x32x1_0_1 (Host.reduceAdd (mulf (hT O W) (hT O W)) (constant S_ .f32 0x00000000#32) reducesTo_S8x32x1024_S8x32_d2 h_S_)) (broadcastInDim S8x32x1 ![] bcast_S_S8x32x1 (constant S_ .f32 0x44800000#32))) (broadcastInDim S8x32x1 ![] bcast_S_S8x32x1 (constant S_ .f32 0x358637BD#32)))))) (broadcastInDim S8x32x1024 ![0, 1, 2] bcast_S1x1x1024_S8x32x1024_0_1_2 (broadcastInDim S1x1x1024 ![2] bcast_S1024_S1x1x1024_2 g)))
theorem res_at (b : Fin 8) (s : Fin 32) (n : Fin 1024) : (res O W g X (ix3 b s n) : EReal)
    = merged (fun k => X (ix3 b s k)) (times (fun k => O (ix3 b s (pair k))) (fun k n => W (ix2 k n))) (fun k => g (ix1 k)) n := by
  pointwise [res]
  simp only [hT_at]
  rfl

end Cert.Reference5Ideal.MrgS

namespace Cert.Kernel5Ideal.MrgS

open Cert.Kernel5Ideal Cert.Kernel5Ideal.Gen
open Idealize.ShloMosaic Idealize.ShloMosaic.TcCoe Idealize.SL.Sem

open Cert.Kernel3Ideal.Mrg (merged times pair merged_congr times_congr times_unpair app4)

theorem val (m : (ℓ : Loc nD τ sig) → Buf (Elt Ideal) ℓ) (c : Dev nD) :
    Pipeline.afterTail₀ cfgs (dats m) 0 (V0 m) [hostOps1] c main_v9 = Cert.Reference5Ideal.MrgS.res (m ((c.tc : Thread nD τ).loc main_arg0)) (m ((c.tc : Thread nD τ).loc main_arg1)) (m ((c.tc : Thread nD τ).loc main_arg2)) (m ((c.tc : Thread nD τ).loc main_arg3)) := by
  funext i
  obtain ⟨b, s, n, rfl⟩ : ∃ (b : Fin 8) (s : Fin 32) (n : Fin 1024), (i : S8x32x1024.Idx) = ix3 b s n :=
    ⟨i 0, i 1, i 2, funext fun a => match a with | ⟨0, _⟩ => rfl | ⟨1, _⟩ => rfl | ⟨2, _⟩ => rfl⟩
  refine (tail_9 m c b s n).trans (Eq.trans ?_ (Cert.Reference5Ideal.MrgS.res_at (m ((c.tc : Thread nD τ).loc main_arg0)) (m ((c.tc : Thread nD τ).loc main_arg1)) (m ((c.tc : Thread nD τ).loc main_arg2)) (m ((c.tc : Thread nD τ).loc main_arg3)) b s n).symm)
  have e := merged_congr n (funext fun k => V_v7 m c b s k)
    ((times_congr (funext fun k => V_v1 m c b s k) (funext fun k => funext fun n => V_v5 m c k n)).trans
      (times_unpair (fun k => m ((c.tc : Thread nD τ).loc main_arg0) (ix3 b s k)) (fun k n => m ((c.tc : Thread nD τ).loc main_arg1) (ix2 k n))))
    (funext fun k => V_v6 m c k)
  exact e

/-- The last merge on the sample computes the reference over the reals. -/
theorem value : Cert.algebraic_Kernel5Ideal_Reference5Ideal := fun m g m' g' _ hm =>
  ⟨fun c => Cert.Reference5Ideal.MrgS.res (m ((c.tc : Thread nD τ).loc main_arg0)) (m ((c.tc : Thread nD τ).loc main_arg1)) (m ((c.tc : Thread nD τ).loc main_arg2)) (m ((c.tc : Thread nD τ).loc main_arg3)),
    (θ_run defs _ _).mono (fun _ h c => ⟨((h c).2 main_v9 (Pipeline.mem_restRefs_of main_v9 (by decide) (by decide))).trans (val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
      (run_main m g),
    (θ_run Cert.Reference5Ideal.defs _ _).mono (fun _ h c => ⟨(h c).1.trans (app4 Cert.Reference5Ideal.MrgS.res (hm c).1 (hm c).2.1 (hm c).2.2.1 (hm c).2.2.2), (h c).2⟩)
      (Cert.Reference5Ideal.Value.run m' g')⟩

end Cert.Kernel5Ideal.MrgS
-- ==== Proof.ProjS.Pay.lean ====
/-
  What the projection kernel's body computes on the sample's 256 rows, element by element, in the terms of the prompt's: a
  normalized row times a column of the weights, scaled (the queries), gated (the gates), or in another order of the axes.
-/
module

public import proofs.«01_k».proof.Proof.Gen.Kernel6Ideal.Skeleton
public import proofs.«01_k».proof.Proof.ProjAB.Blocks
public import Idealize.ShloMosaic.Lib.Pointwise

@[expose] public section

noncomputable section

namespace Cert.Kernel6Ideal.PrjS

open Cert.Kernel6Ideal Cert.Kernel6Ideal.Gen
open Cert.Kernel2Ideal.Proj (rms proj scale silu)
open Idealize.ShloMosaic

theorem pay6 (x : Vec Ideal S256x1024 .f32) (g : Vec Ideal S1x1024 .f32) (r : Fin 256) (k : Fin 1024) :
    k0_pay6 (F := Ideal) x g (ix2 r k) = (x (ix2 r k) * rms (fun j => x (ix2 r j)) * g (ix2 0 k) : EReal) := by
  pointwise [k0_pay6]
  rfl
theorem pay7 (x : Vec Ideal S256x1024 .f32) (g : Vec Ideal S1x1024 .f32) (w : Vec Ideal S1024x512 .bf16) (r : Fin 256) (l : Fin 512) :
    k0_pay7 (F := Ideal) x g w (ix2 r l) = (silu (proj (fun k => x (ix2 r k)) (fun k => g (ix2 0 k)) (fun k => w (ix2 k l))) : EReal) := by
  pointwise [k0_pay7]
  simp only [pay6]
  rw [zero_sub]
  rfl
theorem pay8 (x : Vec Ideal S256x1024 .f32) (g : Vec Ideal S1x1024 .f32) (w : Vec Ideal S1024x512 .bf16) (r : Fin 256) (l : Fin 512) :
    k0_pay8 (F := Ideal) x g w (ix2 r l) = (silu (proj (fun k => x (ix2 r k)) (fun k => g (ix2 0 k)) (fun k => w (ix2 k l))) : EReal) := by
  pointwise [k0_pay8]
  simp only [pay6]
  rw [zero_sub]
  rfl
theorem pay10 (x : Vec Ideal S256x1024 .f32) (g : Vec Ideal S1x1024 .f32) (w : Vec Ideal S1024x512 .bf16) (r : Fin 256) (l : Fin 512) :
    k0_pay10 (F := Ideal) (k0_pay6 x g) w (ix2 r l) = (proj (fun k => x (ix2 r k)) (fun k => g (ix2 0 k)) (fun k => w (ix2 k l)) : EReal) := by
  pointwise [k0_pay10, k0_pay9]
  simp only [pay6]
  rfl
theorem pay13 (x : Vec Ideal S256x1024 .f32) (g : Vec Ideal S1x1024 .f32) (w : Vec Ideal S1024x512 .bf16) (r : Fin 256) (l : Fin 512) :
    k0_pay13 (F := Ideal) (k0_pay6 x g) w (ix2 r l) = (proj (fun k => x (ix2 r k)) (fun k => g (ix2 0 k)) (fun k => w (ix2 k l)) : EReal) := by
  pointwise [k0_pay13, k0_pay12]
  simp only [pay6]
  rfl
theorem pay16 (x : Vec Ideal S256x1024 .f32) (g : Vec Ideal S1x1024 .f32) (w : Vec Ideal S1024x512 .bf16) (r : Fin 256) (l : Fin 512) :
    k0_pay16 (F := Ideal) (k0_pay6 x g) w (ix2 r l) = (proj (fun k => x (ix2 r k)) (fun k => g (ix2 0 k)) (fun k => w (ix2 k l)) : EReal) := by
  pointwise [k0_pay16, k0_pay15]
  simp only [pay6]
  rfl
theorem pay2 (x : Vec Ideal S256x1024 .f32) (g : Vec Ideal S1x1024 .f32) (w : Vec Ideal S1024x512 .bf16) (r : Fin 256) (l : Fin 512) :
    k0_pay2 (F := Ideal) (k0_pay6 x g) w (ix2 r l) = (proj (fun k => x (ix2 r k)) (fun k => g (ix2 0 k)) (fun k => w (ix2 k l)) : EReal) := by
  pointwise [k0_pay2, k0_pay1]
  simp only [pay6]
  rfl
theorem pay4 (x : Vec Ideal S256x1024 .f32) (g : Vec Ideal S1x1024 .f32) (w : Vec Ideal S1024x512 .bf16) (r : Fin 256) (l : Fin 512) :
    k0_pay4 (F := Ideal) (k0_pay6 x g) w (ix2 r l) = (proj (fun k => x (ix2 r k)) (fun k => g (ix2 0 k)) (fun k => w (ix2 k l)) * scale : EReal) := by
  pointwise [k0_pay4]
  simp only [pay6]
  rfl
theorem pay5 (x : Vec Ideal S256x1024 .f32) (g : Vec Ideal S1x1024 .f32) (w : Vec Ideal S1024x512 .bf16) (r : Fin 256) (l : Fin 512) :
    k0_pay5 (F := Ideal) (k0_pay6 x g) w (ix2 r l) = (proj (fun k => x (ix2 r k)) (fun k => g (ix2 0 k)) (fun k => w (ix2 k l)) * scale : EReal) := by
  pointwise [k0_pay5]
  simp only [pay6]
  rfl
theorem pay11 (x : Vec Ideal S256x1024 .f32) (g : Vec Ideal S1x1024 .f32) (w : Vec Ideal S1024x512 .bf16) (r : Fin 256) (l : Fin 512) :
    k0_pay11 (F := Ideal) (k0_pay6 x g) w (ix3 0 l r) = (proj (fun k => x (ix2 r k)) (fun k => g (ix2 0 k)) (fun k => w (ix2 k l)) : EReal) := by
  pointwise [k0_pay11, k0_pay9]
  simp only [pay6]
  rfl
theorem pay14 (x : Vec Ideal S256x1024 .f32) (g : Vec Ideal S1x1024 .f32) (w : Vec Ideal S1024x512 .bf16) (r : Fin 256) (l : Fin 512) :
    k0_pay14 (F := Ideal) (k0_pay6 x g) w (ix3 0 l r) = (proj (fun k => x (ix2 r k)) (fun k => g (ix2 0 k)) (fun k => w (ix2 k l)) : EReal) := by
  pointwise [k0_pay14, k0_pay12]
  simp only [pay6]
  rfl
theorem pay3 (x : Vec Ideal S256x1024 .f32) (g : Vec Ideal S1x1024 .f32) (w : Vec Ideal S1024x512 .bf16) (r : Fin 256) (l : Fin 512) :
    k0_pay3 (F := Ideal) (k0_pay6 x g) w (ix3 0 l r) = (proj (fun k => x (ix2 r k)) (fun k => g (ix2 0 k)) (fun k => w (ix2 k l)) : EReal) := by
  pointwise [k0_pay3, k0_pay1]
  simp only [pay6]
  rfl
theorem pay17 (x : Vec Ideal S256x1024 .f32) (g : Vec Ideal S1x1024 .f32) (w : Vec Ideal S1024x512 .bf16) (r : Fin 256) (l : Fin 512) :
    k0_pay17 (F := Ideal) (k0_pay6 x g) w (ix3 0 l r) = (proj (fun k => x (ix2 r k)) (fun k => g (ix2 0 k)) (fun k => w (ix2 k l)) : EReal) := by
  pointwise [k0_pay17, k0_pay15]
  simp only [pay6]
  rfl

end Cert.Kernel6Ideal.PrjS
-- ==== Proof.ProjS.Out.lean ====
/-
  What the body leaves in each of its twelve output blocks on the sample, from the blocks it reads: one product of the
  normalized rows with 512 columns of the weights.
-/
module

public import proofs.«01_k».proof.Proof.ProjS.Pay
public import proofs.«01_k».proof.Proof.Gen.Kernel6Ideal.Frame
public import Idealize.ShloMosaic.Lib.Pipeline.Value
public import Idealize.ShloMosaic.Lib.Pipeline.ValueKit.Tiles

@[expose] public section

noncomputable section

namespace Cert.Kernel6Ideal.PrjS

open Cert.Kernel6Ideal Cert.Kernel6Ideal.Gen
open Cert.Kernel2Ideal.Proj (cols ld_cols hz2 hz3)
open Idealize.ShloMosaic Idealize.ShloMosaic.TcCoe

variable (x0 : Vec Ideal S256x1024 .f32) (x1 : Vec Ideal S1x1024 .f32) (x2 : Vec Ideal S1024x4096 .bf16)

theorem ld_x : View.ld (Val := Elt Ideal) (e' := .f32) x0 r0_0 = x0 := by
  unfold r0_0; rw [View.ld_unit_zero (S := S256x1024) hz2]
theorem ld_g : View.ld (Val := Elt Ideal) (e' := .f32) x1 r0_1 = x1 := by
  unfold r0_1; rw [View.ld_unit_zero (S := S1x1024) hz2]
/-- The normalized rows of the blocks. -/
theorem norm_eq : k0_pay18 (F := Ideal) x0 x1 x2 = k0_pay6 x0 x1 := by
  unfold k0_pay18
  rw [ld_x, ld_g]

theorem ld_r10 : View.ld (Val := Elt Ideal) (e' := .bf16) x2 r0_10 = cols 0 x2 :=
  ld_cols 0 _ (by rfl) (by rfl) _ x2
theorem ld_r8 : View.ld (Val := Elt Ideal) (e' := .bf16) x2 r0_8 = cols 1 x2 :=
  ld_cols 1 _ (by rfl) (by rfl) _ x2
theorem ld_r9 : View.ld (Val := Elt Ideal) (e' := .bf16) x2 r0_9 = cols 2 x2 :=
  ld_cols 2 _ (by rfl) (by rfl) _ x2
theorem ld_r2 : View.ld (Val := Elt Ideal) (e' := .bf16) x2 r0_2 = cols 3 x2 :=
  ld_cols 3 _ (by rfl) (by rfl) _ x2
theorem ld_r11 : View.ld (Val := Elt Ideal) (e' := .bf16) x2 r0_11 = cols 4 x2 :=
  ld_cols 4 _ (by rfl) (by rfl) _ x2
theorem ld_r5 : View.ld (Val := Elt Ideal) (e' := .bf16) x2 r0_5 = cols 5 x2 :=
  ld_cols 5 _ (by rfl) (by rfl) _ x2
theorem ld_r7 : View.ld (Val := Elt Ideal) (e' := .bf16) x2 r0_7 = cols 6 x2 :=
  ld_cols 6 _ (by rfl) (by rfl) _ x2
theorem ld_r4 : View.ld (Val := Elt Ideal) (e' := .bf16) x2 r0_4 = cols 7 x2 :=
  ld_cols 7 _ (by rfl) (by rfl) _ x2
theorem out_3 : out0_3 (F := Ideal) x0 x1 x2 = k0_pay4 (k0_pay6 x0 x1) (cols 0 x2) := by
  unfold out0_3
  rw [View.canon_unit_zero hz2, norm_eq, ld_r10]
theorem out_4 : out0_4 (F := Ideal) x0 x1 x2 = k0_pay16 (k0_pay6 x0 x1) (cols 1 x2) := by
  unfold out0_4
  rw [View.canon_unit_zero hz2, norm_eq, ld_r8]
theorem out_5 : out0_5 (F := Ideal) x0 x1 x2 = k0_pay2 (k0_pay6 x0 x1) (cols 2 x2) := by
  unfold out0_5
  rw [View.canon_unit_zero hz2, norm_eq, ld_r9]
theorem out_6 : out0_6 (F := Ideal) x0 x1 x2 = k0_pay7 x0 x1 (cols 3 x2) := by
  unfold out0_6
  rw [View.canon_unit_zero hz2, ld_x, ld_g, ld_r2]
theorem out_7 : out0_7 (F := Ideal) x0 x1 x2 = k0_pay5 (k0_pay6 x0 x1) (cols 4 x2) := by
  unfold out0_7
  rw [View.canon_unit_zero hz2, norm_eq, ld_r11]
theorem out_8 : out0_8 (F := Ideal) x0 x1 x2 = k0_pay10 (k0_pay6 x0 x1) (cols 5 x2) := by
  unfold out0_8
  rw [View.canon_unit_zero hz2, norm_eq, ld_r5]
theorem out_9 : out0_9 (F := Ideal) x0 x1 x2 = k0_pay13 (k0_pay6 x0 x1) (cols 6 x2) := by
  unfold out0_9
  rw [View.canon_unit_zero hz2, norm_eq, ld_r7]
theorem out_10 : out0_10 (F := Ideal) x0 x1 x2 = k0_pay8 x0 x1 (cols 7 x2) := by
  unfold out0_10
  rw [View.canon_unit_zero hz2, ld_x, ld_g, ld_r4]
theorem out_11 : out0_11 (F := Ideal) x0 x1 x2 = k0_pay17 (k0_pay6 x0 x1) (cols 1 x2) := by
  unfold out0_11
  rw [View.canon_unit_zero hz3, norm_eq, ld_r8]
theorem out_12 : out0_12 (F := Ideal) x0 x1 x2 = k0_pay3 (k0_pay6 x0 x1) (cols 2 x2) := by
  unfold out0_12
  rw [View.canon_unit_zero hz3, norm_eq, ld_r9]
theorem out_13 : out0_13 (F := Ideal) x0 x1 x2 = k0_pay11 (k0_pay6 x0 x1) (cols 5 x2) := by
  unfold out0_13
  rw [View.canon_unit_zero hz3, norm_eq, ld_r5]
theorem out_14 : out0_14 (F := Ideal) x0 x1 x2 = k0_pay14 (k0_pay6 x0 x1) (cols 6 x2) := by
  unfold out0_14
  rw [View.canon_unit_zero hz3, norm_eq, ld_r7]

end Cert.Kernel6Ideal.PrjS
-- ==== Proof.ProjS.Blocks.lean ====
/-
  The projection kernel's twelve result arrays on the sample, index by index: the whole sample is one block of 256 rows.
-/
module

public import proofs.«01_k».proof.Proof.ProjS.Out
public import proofs.«01_k».proof.Proof.Gen.Kernel6Ideal.Points
public import Idealize.ShloMosaic.Lib.Pipeline.Covers

@[expose] public section

set_option maxRecDepth 16384

noncomputable section

namespace Cert.Kernel6Ideal.PrjS

open Cert.Kernel6Ideal Cert.Kernel6Ideal.Gen
open Idealize.ShloMosaic Idealize.ShloMosaic.TcCoe
open Cert.Kernel2Ideal.Proj (proj silu scale cols colOf)
open Idealize.SL Idealize.SL.Sem
open Idealize.ShloMosaic.Pipeline (Dat Cfg Window)

variable (m : (ℓ : Loc nD τ sig) → Buf (Elt Ideal) ℓ)

/-- Row `r` of point `t`'s rows. -/
def rowAt (t : Fin cfg0.N) (r : Fin 256) : Fin 256 := ⟨t.val * 256 + r.val, by have h : t.val < 1 := t.isLt; omega⟩
/-- Row `s` of batch `b`, among all rows. -/
def rowOf (b : Fin 8) (s : Fin 32) : Fin 256 := ⟨b.val * 32 + s.val, by omega⟩
/-- Element `l` of part `p` of row `r`'s projection, from the arrays the call is given. -/
def pr (c : Dev nD) (p : Fin 8) (r : Fin 256) (l : Fin 512) : EReal :=
  proj (fun k => V m c main_v0 (ix2 r k)) (fun k => V m c main_v1 (ix2 0 k)) (fun k => V m c main_v2 (ix2 k (colOf p l)))

theorem tr0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)
/-- Where an index of the block of rows lies. -/
theorem emb0 (t : Fin cfg0.N) (r : Fin 256) (k : Fin 1024) : ((cfg0.win 0).blk t).view.emb (ix2 (n0 := 256) (n1 := 1024) r k) = ix2 (n0 := 256) (n1 := 1024) (rowAt t r) k := by
  obtain ⟨e0, e1⟩ := tr0 t
  funext a; apply Fin.ext
  match a with
  | ⟨0, _⟩ => show cc0_transform_0 (grid0.coords t) (0 : Fin 2) * 256 + 1 * r.val = t.val * 256 + r.val; rw [e0]; omega
  | ⟨1, _⟩ => show cc0_transform_0 (grid0.coords t) (1 : Fin 2) * 1024 + 1 * k.val = k.val; rw [e1]; omega
theorem emb1 (t : Fin cfg0.N) (k : Fin 1024) : ((cfg0.win 1).blk t).view.emb (ix2 (n0 := 1) (n1 := 1024) 0 k) = ix2 (n0 := 1) (n1 := 1024) 0 k := by
  funext a; apply Fin.ext
  match a with
  | ⟨0, _⟩ => rfl
  | ⟨1, _⟩ => show 0 * 1024 + 1 * k.val = k.val; omega
theorem emb2 (t : Fin cfg0.N) (k : Fin 1024) (n : Fin 4096) : ((cfg0.win 2).blk t).view.emb (ix2 (n0 := 1024) (n1 := 4096) k n) = ix2 (n0 := 1024) (n1 := 4096) k n := by
  funext a; apply Fin.ext
  match a with
  | ⟨0, _⟩ => show 0 * 1024 + 1 * k.val = k.val; omega
  | ⟨1, _⟩ => show 0 * 4096 + 1 * n.val = n.val; omega
theorem tr11 : ∀ t : Fin cfg0.N, cc0_transform_11 (grid0.coords t) 0 = 0 ∧ cc0_transform_11 (grid0.coords t) 1 = 0 ∧ cc0_transform_11 (grid0.coords t) 2 = 0 :=
  (by decide +kernel : ∀ t : Fin grid0.N, cc0_transform_11 (grid0.coords t) 0 = 0 ∧ cc0_transform_11 (grid0.coords t) 1 = 0 ∧ cc0_transform_11 (grid0.coords t) 2 = 0)
theorem tr13 : ∀ t : Fin cfg0.N, cc0_transform_13 (grid0.coords t) 0 = 0 ∧ cc0_transform_13 (grid0.coords t) 1 = 0 ∧ cc0_transform_13 (grid0.coords t) 2 = 0 :=
  (by decide +kernel : ∀ t : Fin grid0.N, cc0_transform_13 (grid0.coords t) 0 = 0 ∧ cc0_transform_13 (grid0.coords t) 1 = 0 ∧ cc0_transform_13 (grid0.coords t) 2 = 0)
/-- Where an index of a block in the cache's order of the axes lies. -/
theorem emb11 (t : Fin cfg0.N) (l : Fin 512) (r : Fin 256) : ((cfg0.win 11).blk t).view.emb (ix3 (n0 := 1) (n1 := 512) (n2 := 256) 0 l r) = ix3 (n0 := 1) (n1 := 512) (n2 := 256) 0 l (rowAt t r) := by
  obtain ⟨e0, e1, e2⟩ := tr11 t
  have h : t.val < 1 := t.isLt
  funext a; apply Fin.ext
  match a with
  | ⟨0, _⟩ => show cc0_transform_11 (grid0.coords t) (0 : Fin 3) * 1 + 1 * 0 = 0; rw [e0]
  | ⟨1, _⟩ => show cc0_transform_11 (grid0.coords t) (1 : Fin 3) * 512 + 1 * l.val = l.val; rw [e1]; omega
  | ⟨2, _⟩ => show cc0_transform_11 (grid0.coords t) (2 : Fin 3) * 256 + 1 * r.val = t.val * 256 + r.val; rw [e2]; omega
theorem emb13 (t : Fin cfg0.N) (l : Fin 512) (r : Fin 256) : ((cfg0.win 13).blk t).view.emb (ix3 (n0 := 1) (n1 := 512) (n2 := 256) 0 l r) = ix3 (n0 := 1) (n1 := 512) (n2 := 256) 0 l (rowAt t r) := by
  obtain ⟨e0, e1, e2⟩ := tr13 t
  have h : t.val < 1 := t.isLt
  funext a; apply Fin.ext
  match a with
  | ⟨0, _⟩ => show cc0_transform_13 (grid0.coords t) (0 : Fin 3) * 1 + 1 * 0 = 0; rw [e0]
  | ⟨1, _⟩ => show cc0_transform_13 (grid0.coords t) (1 : Fin 3) * 512 + 1 * l.val = l.val; rw [e1]; omega
  | ⟨2, _⟩ => show cc0_transform_13 (grid0.coords t) (2 : Fin 3) * 256 + 1 * r.val = t.val * 256 + r.val; rw [e2]; omega
theorem emb3 (t : Fin cfg0.N) (r : Fin 256) (l : Fin 512) : ((cfg0.win 3).blk t).view.emb (ix2 (n0 := 256) (n1 := 512) r l) = ix2 (n0 := 256) (n1 := 512) (rowAt t r) l := by
  obtain ⟨e0, e1⟩ := tr0 t
  funext a; apply Fin.ext
  match a with
  | ⟨0, _⟩ => show cc0_transform_0 (grid0.coords t) (0 : Fin 2) * 256 + 1 * r.val = t.val * 256 + r.val; rw [e0]; omega
  | ⟨1, _⟩ => show cc0_transform_0 (grid0.coords t) (1 : Fin 2) * 512 + 1 * l.val = l.val; rw [e1]; omega
theorem iblk0_at (c : Dev nD) (t : Fin cfg0.N) (r : Fin 256) (k : Fin 1024) :
    iblk m c 0 t (ix2 (n0 := 256) (n1 := 1024) r k) = V m c main_v0 (ix2 (n0 := 256) (n1 := 1024) (rowAt t r) k) :=
  congrArg (V m c main_v0) (emb0 t r k)
theorem iblk1_at (c : Dev nD) (t : Fin cfg0.N) (k : Fin 1024) :
    iblk m c 1 t (ix2 (n0 := 1) (n1 := 1024) 0 k) = V m c main_v1 (ix2 (n0 := 1) (n1 := 1024) 0 k) :=
  congrArg (V m c main_v1) (emb1 t k)
theorem iblk2_at (c : Dev nD) (t : Fin cfg0.N) (k : Fin 1024) (n : Fin 4096) :
    iblk m c 2 t (ix2 (n0 := 1024) (n1 := 4096) k n) = V m c main_v2 (ix2 (n0 := 1024) (n1 := 4096) k n) :=
  congrArg (V m c main_v2) (emb2 t k n)

/-- A block's projection is the arrays'. -/
theorem blk_proj (c : Dev nD) (t : Fin cfg0.N) (p : Fin 8) (r : Fin 256) (l : Fin 512) :
    proj (fun k => iblk m c 0 t (ix2 (n0 := 256) (n1 := 1024) r k)) (fun k => iblk m c 1 t (ix2 (n0 := 1) (n1 := 1024) 0 k))
      (fun k => cols p (iblk m c 2 t) (ix2 (n0 := 1024) (n1 := 512) k l)) = pr m c p (rowAt t r) l := by
  exact congr (congr (congrArg proj (funext fun k => iblk0_at m c t r k)) (funext fun k => iblk1_at m c t k))
    (funext fun k => iblk2_at m c t k (colOf p l))

/-- The array of output 3. -/
def G3 (c : Dev nD) : Vec Ideal S256x512 .bf16 := fun i => (pr m c 0 (i 0) (i 1) * scale : EReal)
theorem flushed3 (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  funext y
  obtain ⟨r, l, rfl⟩ : ∃ (r : Fin 256) (l : Fin 512), (y : S256x512.Idx) = ix2 r l := ⟨y 0, y 1, funext fun a => match a with | ⟨0, _⟩ => rfl | ⟨1, _⟩ => rfl⟩
  refine Eq.trans ?_ (congrArg (G3 m c) (emb3 t r l)).symm
  show out0_3 (iblk m c 0 t) (iblk m c 1 t) (iblk m c 2 t) (ix2 r l) = (pr m c 0 (rowAt t r) l * scale : EReal)
  rw [out_3, pay4, blk_proj]
theorem covered3 (i : S256x512.Idx) :
    ∃ t : Fin cfg0.N, (cfg0.win 3).flush t = true ∧ i ∈ ((cfg0.win 3).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_3 _, ?_⟩
  have h := ((cfg0.win 3).blk t).view.emb_mem_set (ix2 (n0 := 256) (n1 := 512) ⟨(i 0).val % 256, Nat.mod_lt _ (by decide)⟩ (i 1))
  have e : ((cfg0.win 3).blk t).view.emb (ix2 (n0 := 256) (n1 := 512) ⟨(i 0).val % 256, Nat.mod_lt _ (by decide)⟩ (i 1)) = i := (emb3 t ⟨(i 0).val % 256, Nat.mod_lt _ (by decide)⟩ (i 1)).trans (show ix2 (n0 := 256) (n1 := 512) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final3 (c : Dev nD) : (dats m 0 c).arrAt 3 cfg0.N = G3 m c :=
  (dats m 0 c).arrAt_eq_of_cover 3 (G3 m c) (fun t _ => flushed3 m c t) covered3

/-- The array of output 4. -/
def G4 (c : Dev nD) : Vec Ideal S256x512 .bf16 := fun i => (pr m c 1 (i 0) (i 1) : EReal)
theorem flushed4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext y
  obtain ⟨r, l, rfl⟩ : ∃ (r : Fin 256) (l : Fin 512), (y : S256x512.Idx) = ix2 r l := ⟨y 0, y 1, funext fun a => match a with | ⟨0, _⟩ => rfl | ⟨1, _⟩ => rfl⟩
  refine Eq.trans ?_ (congrArg (G4 m c) (emb3 t r l)).symm
  show out0_4 (iblk m c 0 t) (iblk m c 1 t) (iblk m c 2 t) (ix2 r l) = (pr m c 1 (rowAt t r) l : EReal)
  rw [out_4, pay16, blk_proj]
theorem covered4 (i : S256x512.Idx) :
    ∃ t : Fin cfg0.N, (cfg0.win 4).flush t = true ∧ i ∈ ((cfg0.win 4).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_4 _, ?_⟩
  have h := ((cfg0.win 4).blk t).view.emb_mem_set (ix2 (n0 := 256) (n1 := 512) ⟨(i 0).val % 256, Nat.mod_lt _ (by decide)⟩ (i 1))
  have e : ((cfg0.win 4).blk t).view.emb (ix2 (n0 := 256) (n1 := 512) ⟨(i 0).val % 256, Nat.mod_lt _ (by decide)⟩ (i 1)) = i := (emb3 t ⟨(i 0).val % 256, Nat.mod_lt _ (by decide)⟩ (i 1)).trans (show ix2 (n0 := 256) (n1 := 512) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final4 (c : Dev nD) : (dats m 0 c).arrAt 4 cfg0.N = G4 m c :=
  (dats m 0 c).arrAt_eq_of_cover 4 (G4 m c) (fun t _ => flushed4 m c t) covered4

/-- The array of output 5. -/
def G5 (c : Dev nD) : Vec Ideal S256x512 .bf16 := fun i => (pr m c 2 (i 0) (i 1) : EReal)
theorem flushed5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext y
  obtain ⟨r, l, rfl⟩ : ∃ (r : Fin 256) (l : Fin 512), (y : S256x512.Idx) = ix2 r l := ⟨y 0, y 1, funext fun a => match a with | ⟨0, _⟩ => rfl | ⟨1, _⟩ => rfl⟩
  refine Eq.trans ?_ (congrArg (G5 m c) (emb3 t r l)).symm
  show out0_5 (iblk m c 0 t) (iblk m c 1 t) (iblk m c 2 t) (ix2 r l) = (pr m c 2 (rowAt t r) l : EReal)
  rw [out_5, pay2, blk_proj]
theorem covered5 (i : S256x512.Idx) :
    ∃ t : Fin cfg0.N, (cfg0.win 5).flush t = true ∧ i ∈ ((cfg0.win 5).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_5 _, ?_⟩
  have h := ((cfg0.win 5).blk t).view.emb_mem_set (ix2 (n0 := 256) (n1 := 512) ⟨(i 0).val % 256, Nat.mod_lt _ (by decide)⟩ (i 1))
  have e : ((cfg0.win 5).blk t).view.emb (ix2 (n0 := 256) (n1 := 512) ⟨(i 0).val % 256, Nat.mod_lt _ (by decide)⟩ (i 1)) = i := (emb3 t ⟨(i 0).val % 256, Nat.mod_lt _ (by decide)⟩ (i 1)).trans (show ix2 (n0 := 256) (n1 := 512) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final5 (c : Dev nD) : (dats m 0 c).arrAt 5 cfg0.N = G5 m c :=
  (dats m 0 c).arrAt_eq_of_cover 5 (G5 m c) (fun t _ => flushed5 m c t) covered5

/-- The array of output 6. -/
def G6 (c : Dev nD) : Vec Ideal S256x512 .bf16 := fun i => (silu (pr m c 3 (i 0) (i 1)) : EReal)
theorem flushed6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext y
  obtain ⟨r, l, rfl⟩ : ∃ (r : Fin 256) (l : Fin 512), (y : S256x512.Idx) = ix2 r l := ⟨y 0, y 1, funext fun a => match a with | ⟨0, _⟩ => rfl | ⟨1, _⟩ => rfl⟩
  refine Eq.trans ?_ (congrArg (G6 m c) (emb3 t r l)).symm
  show out0_6 (iblk m c 0 t) (iblk m c 1 t) (iblk m c 2 t) (ix2 r l) = (silu (pr m c 3 (rowAt t r) l) : EReal)
  rw [out_6, pay7, blk_proj]
theorem covered6 (i : S256x512.Idx) :
    ∃ t : Fin cfg0.N, (cfg0.win 6).flush t = true ∧ i ∈ ((cfg0.win 6).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_6 _, ?_⟩
  have h := ((cfg0.win 6).blk t).view.emb_mem_set (ix2 (n0 := 256) (n1 := 512) ⟨(i 0).val % 256, Nat.mod_lt _ (by decide)⟩ (i 1))
  have e : ((cfg0.win 6).blk t).view.emb (ix2 (n0 := 256) (n1 := 512) ⟨(i 0).val % 256, Nat.mod_lt _ (by decide)⟩ (i 1)) = i := (emb3 t ⟨(i 0).val % 256, Nat.mod_lt _ (by decide)⟩ (i 1)).trans (show ix2 (n0 := 256) (n1 := 512) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final6 (c : Dev nD) : (dats m 0 c).arrAt 6 cfg0.N = G6 m c :=
  (dats m 0 c).arrAt_eq_of_cover 6 (G6 m c) (fun t _ => flushed6 m c t) covered6

/-- The array of output 7. -/
def G7 (c : Dev nD) : Vec Ideal S256x512 .bf16 := fun i => (pr m c 4 (i 0) (i 1) * scale : EReal)
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext y
  obtain ⟨r, l, rfl⟩ : ∃ (r : Fin 256) (l : Fin 512), (y : S256x512.Idx) = ix2 r l := ⟨y 0, y 1, funext fun a => match a with | ⟨0, _⟩ => rfl | ⟨1, _⟩ => rfl⟩
  refine Eq.trans ?_ (congrArg (G7 m c) (emb3 t r l)).symm
  show out0_7 (iblk m c 0 t) (iblk m c 1 t) (iblk m c 2 t) (ix2 r l) = (pr m c 4 (rowAt t r) l * scale : EReal)
  rw [out_7, pay5, blk_proj]
theorem covered7 (i : S256x512.Idx) :
    ∃ t : Fin cfg0.N, (cfg0.win 7).flush t = true ∧ i ∈ ((cfg0.win 7).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_7 _, ?_⟩
  have h := ((cfg0.win 7).blk t).view.emb_mem_set (ix2 (n0 := 256) (n1 := 512) ⟨(i 0).val % 256, Nat.mod_lt _ (by decide)⟩ (i 1))
  have e : ((cfg0.win 7).blk t).view.emb (ix2 (n0 := 256) (n1 := 512) ⟨(i 0).val % 256, Nat.mod_lt _ (by decide)⟩ (i 1)) = i := (emb3 t ⟨(i 0).val % 256, Nat.mod_lt _ (by decide)⟩ (i 1)).trans (show ix2 (n0 := 256) (n1 := 512) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final7 (c : Dev nD) : (dats m 0 c).arrAt 7 cfg0.N = G7 m c :=
  (dats m 0 c).arrAt_eq_of_cover 7 (G7 m c) (fun t _ => flushed7 m c t) covered7

/-- The array of output 8. -/
def G8 (c : Dev nD) : Vec Ideal S256x512 .bf16 := fun i => (pr m c 5 (i 0) (i 1) : EReal)
theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  funext y
  obtain ⟨r, l, rfl⟩ : ∃ (r : Fin 256) (l : Fin 512), (y : S256x512.Idx) = ix2 r l := ⟨y 0, y 1, funext fun a => match a with | ⟨0, _⟩ => rfl | ⟨1, _⟩ => rfl⟩
  refine Eq.trans ?_ (congrArg (G8 m c) (emb3 t r l)).symm
  show out0_8 (iblk m c 0 t) (iblk m c 1 t) (iblk m c 2 t) (ix2 r l) = (pr m c 5 (rowAt t r) l : EReal)
  rw [out_8, pay10, blk_proj]
theorem covered8 (i : S256x512.Idx) :
    ∃ t : Fin cfg0.N, (cfg0.win 8).flush t = true ∧ i ∈ ((cfg0.win 8).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_8 _, ?_⟩
  have h := ((cfg0.win 8).blk t).view.emb_mem_set (ix2 (n0 := 256) (n1 := 512) ⟨(i 0).val % 256, Nat.mod_lt _ (by decide)⟩ (i 1))
  have e : ((cfg0.win 8).blk t).view.emb (ix2 (n0 := 256) (n1 := 512) ⟨(i 0).val % 256, Nat.mod_lt _ (by decide)⟩ (i 1)) = i := (emb3 t ⟨(i 0).val % 256, Nat.mod_lt _ (by decide)⟩ (i 1)).trans (show ix2 (n0 := 256) (n1 := 512) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final8 (c : Dev nD) : (dats m 0 c).arrAt 8 cfg0.N = G8 m c :=
  (dats m 0 c).arrAt_eq_of_cover 8 (G8 m c) (fun t _ => flushed8 m c t) covered8

/-- The array of output 9. -/
def G9 (c : Dev nD) : Vec Ideal S256x512 .bf16 := fun i => (pr m c 6 (i 0) (i 1) : EReal)
theorem flushed9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  funext y
  obtain ⟨r, l, rfl⟩ : ∃ (r : Fin 256) (l : Fin 512), (y : S256x512.Idx) = ix2 r l := ⟨y 0, y 1, funext fun a => match a with | ⟨0, _⟩ => rfl | ⟨1, _⟩ => rfl⟩
  refine Eq.trans ?_ (congrArg (G9 m c) (emb3 t r l)).symm
  show out0_9 (iblk m c 0 t) (iblk m c 1 t) (iblk m c 2 t) (ix2 r l) = (pr m c 6 (rowAt t r) l : EReal)
  rw [out_9, pay13, blk_proj]
theorem covered9 (i : S256x512.Idx) :
    ∃ t : Fin cfg0.N, (cfg0.win 9).flush t = true ∧ i ∈ ((cfg0.win 9).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_9 _, ?_⟩
  have h := ((cfg0.win 9).blk t).view.emb_mem_set (ix2 (n0 := 256) (n1 := 512) ⟨(i 0).val % 256, Nat.mod_lt _ (by decide)⟩ (i 1))
  have e : ((cfg0.win 9).blk t).view.emb (ix2 (n0 := 256) (n1 := 512) ⟨(i 0).val % 256, Nat.mod_lt _ (by decide)⟩ (i 1)) = i := (emb3 t ⟨(i 0).val % 256, Nat.mod_lt _ (by decide)⟩ (i 1)).trans (show ix2 (n0 := 256) (n1 := 512) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final9 (c : Dev nD) : (dats m 0 c).arrAt 9 cfg0.N = G9 m c :=
  (dats m 0 c).arrAt_eq_of_cover 9 (G9 m c) (fun t _ => flushed9 m c t) covered9

/-- The array of output 10. -/
def G10 (c : Dev nD) : Vec Ideal S256x512 .bf16 := fun i => (silu (pr m c 7 (i 0) (i 1)) : EReal)
theorem flushed10 (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  funext y
  obtain ⟨r, l, rfl⟩ : ∃ (r : Fin 256) (l : Fin 512), (y : S256x512.Idx) = ix2 r l := ⟨y 0, y 1, funext fun a => match a with | ⟨0, _⟩ => rfl | ⟨1, _⟩ => rfl⟩
  refine Eq.trans ?_ (congrArg (G10 m c) (emb3 t r l)).symm
  show out0_10 (iblk m c 0 t) (iblk m c 1 t) (iblk m c 2 t) (ix2 r l) = (silu (pr m c 7 (rowAt t r) l) : EReal)
  rw [out_10, pay8, blk_proj]
theorem covered10 (i : S256x512.Idx) :
    ∃ t : Fin cfg0.N, (cfg0.win 10).flush t = true ∧ i ∈ ((cfg0.win 10).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_10 _, ?_⟩
  have h := ((cfg0.win 10).blk t).view.emb_mem_set (ix2 (n0 := 256) (n1 := 512) ⟨(i 0).val % 256, Nat.mod_lt _ (by decide)⟩ (i 1))
  have e : ((cfg0.win 10).blk t).view.emb (ix2 (n0 := 256) (n1 := 512) ⟨(i 0).val % 256, Nat.mod_lt _ (by decide)⟩ (i 1)) = i := (emb3 t ⟨(i 0).val % 256, Nat.mod_lt _ (by decide)⟩ (i 1)).trans (show ix2 (n0 := 256) (n1 := 512) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final10 (c : Dev nD) : (dats m 0 c).arrAt 10 cfg0.N = G10 m c :=
  (dats m 0 c).arrAt_eq_of_cover 10 (G10 m c) (fun t _ => flushed10 m c t) covered10

/-- The array of output 11. -/
def G11 (c : Dev nD) : Vec Ideal S1x512x256 .f32 := fun i => (pr m c 1 (i 2) (i 1) : EReal)
theorem flushed11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  funext y
  obtain ⟨l, r, rfl⟩ : ∃ (l : Fin 512) (r : Fin 256), (y : S1x512x256.Idx) = ix3 0 l r := ⟨y 1, y 2, funext fun a => match a with | ⟨0, _⟩ => Fin.ext (by have h : (y 0).val < 1 := (y 0).isLt; show (y 0).val = 0; omega) | ⟨1, _⟩ => rfl | ⟨2, _⟩ => rfl⟩
  refine Eq.trans ?_ (congrArg (G11 m c) (emb11 t l r)).symm
  show out0_11 (iblk m c 0 t) (iblk m c 1 t) (iblk m c 2 t) (ix3 0 l r) = (pr m c 1 (rowAt t r) l : EReal)
  rw [out_11, pay17, blk_proj]
theorem covered11 (i : S1x512x256.Idx) :
    ∃ t : Fin cfg0.N, (cfg0.win 11).flush t = true ∧ i ∈ ((cfg0.win 11).blk t).view.set := by
  have h0 : (i 0).val < 1 := (i 0).isLt
  have hN : 0 < cfg0.N := by decide
  refine ⟨⟨0, hN⟩, flush0_11 _, ?_⟩
  have h := ((cfg0.win 11).blk ⟨0, hN⟩).view.emb_mem_set (ix3 (n0 := 1) (n1 := 512) (n2 := 256) 0 (i 1) (i 2))
  have e : ((cfg0.win 11).blk ⟨0, hN⟩).view.emb (ix3 (n0 := 1) (n1 := 512) (n2 := 256) 0 (i 1) (i 2)) = i := (emb11 ⟨0, hN⟩ (i 1) (i 2)).trans (show ix3 (n0 := 1) (n1 := 512) (n2 := 256) 0 (i 1) (rowAt ⟨0, hN⟩ (i 2)) = i from by
    funext a; apply Fin.ext
    match a with
    | ⟨0, _⟩ => show 0 = (i 0).val; omega
    | ⟨1, _⟩ => rfl
    | ⟨2, _⟩ => show 0 * 256 + (i 2).val = (i 2).val; omega)
  rw [e] at h
  exact h
theorem final11 (c : Dev nD) : (dats m 0 c).arrAt 11 cfg0.N = G11 m c :=
  (dats m 0 c).arrAt_eq_of_cover 11 (G11 m c) (fun t _ => flushed11 m c t) covered11

/-- The array of output 12. -/
def G12 (c : Dev nD) : Vec Ideal S1x512x256 .f32 := fun i => (pr m c 2 (i 2) (i 1) : EReal)
theorem flushed12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  funext y
  obtain ⟨l, r, rfl⟩ : ∃ (l : Fin 512) (r : Fin 256), (y : S1x512x256.Idx) = ix3 0 l r := ⟨y 1, y 2, funext fun a => match a with | ⟨0, _⟩ => Fin.ext (by have h : (y 0).val < 1 := (y 0).isLt; show (y 0).val = 0; omega) | ⟨1, _⟩ => rfl | ⟨2, _⟩ => rfl⟩
  refine Eq.trans ?_ (congrArg (G12 m c) (emb11 t l r)).symm
  show out0_12 (iblk m c 0 t) (iblk m c 1 t) (iblk m c 2 t) (ix3 0 l r) = (pr m c 2 (rowAt t r) l : EReal)
  rw [out_12, pay3, blk_proj]
theorem covered12 (i : S1x512x256.Idx) :
    ∃ t : Fin cfg0.N, (cfg0.win 12).flush t = true ∧ i ∈ ((cfg0.win 12).blk t).view.set := by
  have h0 : (i 0).val < 1 := (i 0).isLt
  have hN : 0 < cfg0.N := by decide
  refine ⟨⟨0, hN⟩, flush0_12 _, ?_⟩
  have h := ((cfg0.win 12).blk ⟨0, hN⟩).view.emb_mem_set (ix3 (n0 := 1) (n1 := 512) (n2 := 256) 0 (i 1) (i 2))
  have e : ((cfg0.win 12).blk ⟨0, hN⟩).view.emb (ix3 (n0 := 1) (n1 := 512) (n2 := 256) 0 (i 1) (i 2)) = i := (emb11 ⟨0, hN⟩ (i 1) (i 2)).trans (show ix3 (n0 := 1) (n1 := 512) (n2 := 256) 0 (i 1) (rowAt ⟨0, hN⟩ (i 2)) = i from by
    funext a; apply Fin.ext
    match a with
    | ⟨0, _⟩ => show 0 = (i 0).val; omega
    | ⟨1, _⟩ => rfl
    | ⟨2, _⟩ => show 0 * 256 + (i 2).val = (i 2).val; omega)
  rw [e] at h
  exact h
theorem final12 (c : Dev nD) : (dats m 0 c).arrAt 12 cfg0.N = G12 m c :=
  (dats m 0 c).arrAt_eq_of_cover 12 (G12 m c) (fun t _ => flushed12 m c t) covered12

/-- The array of output 13. -/
def G13 (c : Dev nD) : Vec Ideal S1x512x256 .f32 := fun i => (pr m c 5 (i 2) (i 1) : EReal)
theorem flushed13 (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  funext y
  obtain ⟨l, r, rfl⟩ : ∃ (l : Fin 512) (r : Fin 256), (y : S1x512x256.Idx) = ix3 0 l r := ⟨y 1, y 2, funext fun a => match a with | ⟨0, _⟩ => Fin.ext (by have h : (y 0).val < 1 := (y 0).isLt; show (y 0).val = 0; omega) | ⟨1, _⟩ => rfl | ⟨2, _⟩ => rfl⟩
  refine Eq.trans ?_ (congrArg (G13 m c) (emb13 t l r)).symm
  show out0_13 (iblk m c 0 t) (iblk m c 1 t) (iblk m c 2 t) (ix3 0 l r) = (pr m c 5 (rowAt t r) l : EReal)
  rw [out_13, pay11, blk_proj]
theorem covered13 (i : S1x512x256.Idx) :
    ∃ t : Fin cfg0.N, (cfg0.win 13).flush t = true ∧ i ∈ ((cfg0.win 13).blk t).view.set := by
  have h0 : (i 0).val < 1 := (i 0).isLt
  have hN : 0 < cfg0.N := by decide
  refine ⟨⟨0, hN⟩, flush0_13 _, ?_⟩
  have h := ((cfg0.win 13).blk ⟨0, hN⟩).view.emb_mem_set (ix3 (n0 := 1) (n1 := 512) (n2 := 256) 0 (i 1) (i 2))
  have e : ((cfg0.win 13).blk ⟨0, hN⟩).view.emb (ix3 (n0 := 1) (n1 := 512) (n2 := 256) 0 (i 1) (i 2)) = i := (emb13 ⟨0, hN⟩ (i 1) (i 2)).trans (show ix3 (n0 := 1) (n1 := 512) (n2 := 256) 0 (i 1) (rowAt ⟨0, hN⟩ (i 2)) = i from by
    funext a; apply Fin.ext
    match a with
    | ⟨0, _⟩ => show 0 = (i 0).val; omega
    | ⟨1, _⟩ => rfl
    | ⟨2, _⟩ => show 0 * 256 + (i 2).val = (i 2).val; omega)
  rw [e] at h
  exact h
theorem final13 (c : Dev nD) : (dats m 0 c).arrAt 13 cfg0.N = G13 m c :=
  (dats m 0 c).arrAt_eq_of_cover 13 (G13 m c) (fun t _ => flushed13 m c t) covered13

/-- The array of output 14. -/
def G14 (c : Dev nD) : Vec Ideal S1x512x256 .f32 := fun i => (pr m c 6 (i 2) (i 1) : EReal)
theorem flushed14 (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  funext y
  obtain ⟨l, r, rfl⟩ : ∃ (l : Fin 512) (r : Fin 256), (y : S1x512x256.Idx) = ix3 0 l r := ⟨y 1, y 2, funext fun a => match a with | ⟨0, _⟩ => Fin.ext (by have h : (y 0).val < 1 := (y 0).isLt; show (y 0).val = 0; omega) | ⟨1, _⟩ => rfl | ⟨2, _⟩ => rfl⟩
  refine Eq.trans ?_ (congrArg (G14 m c) (emb13 t l r)).symm
  show out0_14 (iblk m c 0 t) (iblk m c 1 t) (iblk m c 2 t) (ix3 0 l r) = (pr m c 6 (rowAt t r) l : EReal)
  rw [out_14, pay14, blk_proj]
theorem covered14 (i : S1x512x256.Idx) :
    ∃ t : Fin cfg0.N, (cfg0.win 14).flush t = true ∧ i ∈ ((cfg0.win 14).blk t).view.set := by
  have h0 : (i 0).val < 1 := (i 0).isLt
  have hN : 0 < cfg0.N := by decide
  refine ⟨⟨0, hN⟩, flush0_14 _, ?_⟩
  have h := ((cfg0.win 14).blk ⟨0, hN⟩).view.emb_mem_set (ix3 (n0 := 1) (n1 := 512) (n2 := 256) 0 (i 1) (i 2))
  have e : ((cfg0.win 14).blk ⟨0, hN⟩).view.emb (ix3 (n0 := 1) (n1 := 512) (n2 := 256) 0 (i 1) (i 2)) = i := (emb13 ⟨0, hN⟩ (i 1) (i 2)).trans (show ix3 (n0 := 1) (n1 := 512) (n2 := 256) 0 (i 1) (rowAt ⟨0, hN⟩ (i 2)) = i from by
    funext a; apply Fin.ext
    match a with
    | ⟨0, _⟩ => show 0 = (i 0).val; omega
    | ⟨1, _⟩ => rfl
    | ⟨2, _⟩ => show 0 * 256 + (i 2).val = (i 2).val; omega)
  rw [e] at h
  exact h
theorem final14 (c : Dev nD) : (dats m 0 c).arrAt 14 cfg0.N = G14 m c :=
  (dats m 0 c).arrAt_eq_of_cover 14 (G14 m c) (fun t _ => flushed14 m c t) covered14

end Cert.Kernel6Ideal.PrjS
-- ==== Proof.ProjS.Host.lean ====
/-
  The host's operations around the projection kernel on the sample, read at an index: what it is given, and what becomes of
  its results.
-/
module

public import proofs.«01_k».proof.Proof.ProjS.Blocks
public import Idealize.ShloMosaic.Lib.StableHlo.ReadAt
public import Idealize.ShloMosaic.Lib.Pointwise

@[expose] public section

noncomputable section

namespace Cert.Kernel6Ideal.PrjS

open Cert.Kernel6Ideal Cert.Kernel6Ideal.Gen
open Idealize.ShloMosaic Idealize.ShloMosaic.TcCoe
open Cert.Kernel2Ideal.Proj (scale silu)
open Idealize.SL Idealize.SL.Sem

variable (m : (ℓ : Loc nD τ sig) → Buf (Elt Ideal) ℓ)

/-- Lane `d` of head `h`. -/
def laneAt (h : Fin 8) (d : Fin 64) : Fin 512 := ⟨h.val * 64 + d.val, by omega⟩

theorem V_v0 (c : Dev nD) (b : Fin 8) (s : Fin 32) (k : Fin 1024) :
    V m c main_v0 (ix2 (rowOf b s) k) = (m ((c.tc : Thread nD τ).loc main_arg0) (ix3 b s k) : EReal) := by
  unfold V
  after_reads_at
  have hb := b.isLt
  have hs := s.isLt
  have e : (ix3 ⟨(rowOf b s).val / 32, by have := (rowOf b s).isLt; omega⟩ ⟨(rowOf b s).val % 32, Nat.mod_lt _ (by decide)⟩ k : S8x32x1024.Idx)
      = ix3 b s k := by
    funext a; apply Fin.ext
    match a with
    | ⟨0, _⟩ => show (b.val * 32 + s.val) / 32 = b.val; omega
    | ⟨1, _⟩ => show (b.val * 32 + s.val) % 32 = s.val; omega
    | ⟨2, _⟩ => rfl
  exact congrArg (m (c, Proc.tc.devRef main_arg0)) e
theorem V_v1 (c : Dev nD) (k : Fin 1024) :
    V m c main_v1 (ix2 0 k) = (m ((c.tc : Thread nD τ).loc main_arg1) (ix1 k) : EReal) := by
  unfold V
  after_reads_at
theorem V_v2 (c : Dev nD) (k : Fin 1024) (n : Fin 4096) :
    V m c main_v2 (ix2 k n) = (m ((c.tc : Thread nD τ).loc main_arg2) (ix2 k n) : EReal) := by
  unfold V
  after_reads_at

theorem arr_inj : Function.Injective (Pipeline.arrRef spec0) := by decide

/-- The arrays at the region's end. -/
def Z (c : Dev nD) : Valuation τ sig (Elt Ideal) :=
  Pipeline.withArrays spec0 c (V0 m c) fun w => (dats m 0 c).arrAt w cfg0.N

theorem Z_3 (c : Dev nD) : Z m c (Proc.devRef .tc main_v3_0) = G3 m c :=
  (Pipeline.withArrays_arr spec0 arr_inj c (V0 m c) (fun w => (dats m 0 c).arrAt w cfg0.N) 3).trans (final3 m c)
theorem Z_4 (c : Dev nD) : Z m c (Proc.devRef .tc main_v3_1) = G4 m c :=
  (Pipeline.withArrays_arr spec0 arr_inj c (V0 m c) (fun w => (dats m 0 c).arrAt w cfg0.N) 4).trans (final4 m c)
theorem Z_5 (c : Dev nD) : Z m c (Proc.devRef .tc main_v3_2) = G5 m c :=
  (Pipeline.withArrays_arr spec0 arr_inj c (V0 m c) (fun w => (dats m 0 c).arrAt w cfg0.N) 5).trans (final5 m c)
theorem Z_6 (c : Dev nD) : Z m c (Proc.devRef .tc main_v3_3) = G6 m c :=
  (Pipeline.withArrays_arr spec0 arr_inj c (V0 m c) (fun w => (dats m 0 c).arrAt w cfg0.N) 6).trans (final6 m c)
theorem Z_7 (c : Dev nD) : Z m c (Proc.devRef .tc main_v3_4) = G7 m c :=
  (Pipeline.withArrays_arr spec0 arr_inj c (V0 m c) (fun w => (dats m 0 c).arrAt w cfg0.N) 7).trans (final7 m c)
theorem Z_8 (c : Dev nD) : Z m c (Proc.devRef .tc main_v3_5) = G8 m c :=
  (Pipeline.withArrays_arr spec0 arr_inj c (V0 m c) (fun w => (dats m 0 c).arrAt w cfg0.N) 8).trans (final8 m c)
theorem Z_9 (c : Dev nD) : Z m c (Proc.devRef .tc main_v3_6) = G9 m c :=
  (Pipeline.withArrays_arr spec0 arr_inj c (V0 m c) (fun w => (dats m 0 c).arrAt w cfg0.N) 9).trans (final9 m c)
theorem Z_10 (c : Dev nD) : Z m c (Proc.devRef .tc main_v3_7) = G10 m c :=
  (Pipeline.withArrays_arr spec0 arr_inj c (V0 m c) (fun w => (dats m 0 c).arrAt w cfg0.N) 10).trans (final10 m c)
theorem Z_11 (c : Dev nD) : Z m c (Proc.devRef .tc main_v3_8) = G11 m c :=
  (Pipeline.withArrays_arr spec0 arr_inj c (V0 m c) (fun w => (dats m 0 c).arrAt w cfg0.N) 11).trans (final11 m c)
theorem Z_12 (c : Dev nD) : Z m c (Proc.devRef .tc main_v3_9) = G12 m c :=
  (Pipeline.withArrays_arr spec0 arr_inj c (V0 m c) (fun w => (dats m 0 c).arrAt w cfg0.N) 12).trans (final12 m c)
theorem Z_13 (c : Dev nD) : Z m c (Proc.devRef .tc main_v3_10) = G13 m c :=
  (Pipeline.withArrays_arr spec0 arr_inj c (V0 m c) (fun w => (dats m 0 c).arrAt w cfg0.N) 13).trans (final13 m c)
theorem Z_14 (c : Dev nD) : Z m c (Proc.devRef .tc main_v3_11) = G14 m c :=
  (Pipeline.withArrays_arr spec0 arr_inj c (V0 m c) (fun w => (dats m 0 c).arrAt w cfg0.N) 14).trans (final14 m c)
theorem tail_4 (c : Dev nD) (b : Fin 8) (s : Fin 32) (l : Fin 512) :
    Pipeline.afterTail₀ cfgs (dats m) 0 (V0 m) [hostOps1] c main_v4 (ix3 b s l) = (pr m c 0 (rowOf b s) l * scale : EReal) := by
  have h0 : (StableHlo.after ([hostOps1] : List (List (HloOp τ sig (Elt Ideal)))).flatten (Z m c) (Proc.devRef .tc main_v4) (ix3 b s l) : EReal)
      = Z m c (Proc.devRef .tc main_v3_0) (ix2 (rowOf b s) l) := by
    generalize Z m c = Y
    simp only [hostOps1, List.flatten_cons, List.flatten_nil, List.append_nil, List.cons_append, List.nil_append]
    after_reads_at
    rfl
  refine Eq.trans h0 ?_
  rw [Z_3]
  rfl
theorem tail_5 (c : Dev nD) (b : Fin 8) (s : Fin 32) (l : Fin 512) :
    Pipeline.afterTail₀ cfgs (dats m) 0 (V0 m) [hostOps1] c main_v5 (ix3 b s l) = (pr m c 1 (rowOf b s) l : EReal) := by
  have h0 : (StableHlo.after ([hostOps1] : List (List (HloOp τ sig (Elt Ideal)))).flatten (Z m c) (Proc.devRef .tc main_v5) (ix3 b s l) : EReal)
      = Z m c (Proc.devRef .tc main_v3_1) (ix2 (rowOf b s) l) := by
    generalize Z m c = Y
    simp only [hostOps1, List.flatten_cons, List.flatten_nil, List.append_nil, List.cons_append, List.nil_append]
    after_reads_at
    rfl
  refine Eq.trans h0 ?_
  rw [Z_4]
  rfl
theorem tail_6 (c : Dev nD) (b : Fin 8) (s : Fin 32) (l : Fin 512) :
    Pipeline.afterTail₀ cfgs (dats m) 0 (V0 m) [hostOps1] c main_v6 (ix3 b s l) = (pr m c 2 (rowOf b s) l : EReal) := by
  have h0 : (StableHlo.after ([hostOps1] : List (List (HloOp τ sig (Elt Ideal)))).flatten (Z m c) (Proc.devRef .tc main_v6) (ix3 b s l) : EReal)
      = Z m c (Proc.devRef .tc main_v3_2) (ix2 (rowOf b s) l) := by
    generalize Z m c = Y
    simp only [hostOps1, List.flatten_cons, List.flatten_nil, List.append_nil, List.cons_append, List.nil_append]
    after_reads_at
    rfl
  refine Eq.trans h0 ?_
  rw [Z_5]
  rfl
theorem tail_7 (c : Dev nD) (b : Fin 8) (s : Fin 32) (l : Fin 512) :
    Pipeline.afterTail₀ cfgs (dats m) 0 (V0 m) [hostOps1] c main_v7 (ix3 b s l) = (silu (pr m c 3 (rowOf b s) l) : EReal) := by
  have h0 : (StableHlo.after ([hostOps1] : List (List (HloOp τ sig (Elt Ideal)))).flatten (Z m c) (Proc.devRef .tc main_v7) (ix3 b s l) : EReal)
      = Z m c (Proc.devRef .tc main_v3_3) (ix2 (rowOf b s) l) := by
    generalize Z m c = Y
    simp only [hostOps1, List.flatten_cons, List.flatten_nil, List.append_nil, List.cons_append, List.nil_append]
    after_reads_at
    rfl
  refine Eq.trans h0 ?_
  rw [Z_6]
  rfl
theorem tail_8 (c : Dev nD) (b : Fin 8) (s : Fin 32) (l : Fin 512) :
    Pipeline.afterTail₀ cfgs (dats m) 0 (V0 m) [hostOps1] c main_v8 (ix3 b s l) = (pr m c 4 (rowOf b s) l * scale : EReal) := by
  have h0 : (StableHlo.after ([hostOps1] : List (List (HloOp τ sig (Elt Ideal)))).flatten (Z m c) (Proc.devRef .tc main_v8) (ix3 b s l) : EReal)
      = Z m c (Proc.devRef .tc main_v3_4) (ix2 (rowOf b s) l) := by
    generalize Z m c = Y
    simp only [hostOps1, List.flatten_cons, List.flatten_nil, List.append_nil, List.cons_append, List.nil_append]
    after_reads_at
    rfl
  refine Eq.trans h0 ?_
  rw [Z_7]
  rfl
theorem tail_9 (c : Dev nD) (b : Fin 8) (s : Fin 32) (l : Fin 512) :
    Pipeline.afterTail₀ cfgs (dats m) 0 (V0 m) [hostOps1] c main_v9 (ix3 b s l) = (pr m c 5 (rowOf b s) l : EReal) := by
  have h0 : (StableHlo.after ([hostOps1] : List (List (HloOp τ sig (Elt Ideal)))).flatten (Z m c) (Proc.devRef .tc main_v9) (ix3 b s l) : EReal)
      = Z m c (Proc.devRef .tc main_v3_5) (ix2 (rowOf b s) l) := by
    generalize Z m c = Y
    simp only [hostOps1, List.flatten_cons, List.flatten_nil, List.append_nil, List.cons_append, List.nil_append]
    after_reads_at
    rfl
  refine Eq.trans h0 ?_
  rw [Z_8]
  rfl
theorem tail_10 (c : Dev nD) (b : Fin 8) (s : Fin 32) (l : Fin 512) :
    Pipeline.afterTail₀ cfgs (dats m) 0 (V0 m) [hostOps1] c main_v10 (ix3 b s l) = (pr m c 6 (rowOf b s) l : EReal) := by
  have h0 : (StableHlo.after ([hostOps1] : List (List (HloOp τ sig (Elt Ideal)))).flatten (Z m c) (Proc.devRef .tc main_v10) (ix3 b s l) : EReal)
      = Z m c (Proc.devRef .tc main_v3_6) (ix2 (rowOf b s) l) := by
    generalize Z m c = Y
    simp only [hostOps1, List.flatten_cons, List.flatten_nil, List.append_nil, List.cons_append, List.nil_append]
    after_reads_at
    rfl
  refine Eq.trans h0 ?_
  rw [Z_9]
  rfl
theorem tail_11 (c : Dev nD) (b : Fin 8) (s : Fin 32) (l : Fin 512) :
    Pipeline.afterTail₀ cfgs (dats m) 0 (V0 m) [hostOps1] c main_v11 (ix3 b s l) = (silu (pr m c 7 (rowOf b s) l) : EReal) := by
  have h0 : (StableHlo.after ([hostOps1] : List (List (HloOp τ sig (Elt Ideal)))).flatten (Z m c) (Proc.devRef .tc main_v11) (ix3 b s l) : EReal)
      = Z m c (Proc.devRef .tc main_v3_7) (ix2 (rowOf b s) l) := by
    generalize Z m c = Y
    simp only [hostOps1, List.flatten_cons, List.flatten_nil, List.append_nil, List.cons_append, List.nil_append]
    after_reads_at
    rfl
  refine Eq.trans h0 ?_
  rw [Z_10]
  rfl
theorem tail_14 (c : Dev nD) (b : Fin 8) (j : Fin 32) (h : Fin 8) (d : Fin 64) :
    Pipeline.afterTail₀ cfgs (dats m) 0 (V0 m) [hostOps1] c main_v14 (ix4 b j h d) = (pr m c 1 (rowOf b j) (laneAt h d) : EReal) := by
  have h0 : (StableHlo.after ([hostOps1] : List (List (HloOp τ sig (Elt Ideal)))).flatten (Z m c) (Proc.devRef .tc main_v14) (ix4 b j h d) : EReal)
      = Z m c (Proc.devRef .tc main_v3_8) (ix3 0 (laneAt h d) (rowOf b j)) := by
    generalize Z m c = Y
    simp only [hostOps1, List.flatten_cons, List.flatten_nil, List.append_nil, List.cons_append, List.nil_append]
    after_reads_at
    rfl
  refine Eq.trans h0 ?_
  rw [Z_11]
  rfl
theorem tail_17 (c : Dev nD) (b : Fin 8) (j : Fin 32) (h : Fin 8) (d : Fin 64) :
    Pipeline.afterTail₀ cfgs (dats m) 0 (V0 m) [hostOps1] c main_v17 (ix4 b j h d) = (pr m c 2 (rowOf b j) (laneAt h d) : EReal) := by
  have h0 : (StableHlo.after ([hostOps1] : List (List (HloOp τ sig (Elt Ideal)))).flatten (Z m c) (Proc.devRef .tc main_v17) (ix4 b j h d) : EReal)
      = Z m c (Proc.devRef .tc main_v3_9) (ix3 0 (laneAt h d) (rowOf b j)) := by
    generalize Z m c = Y
    simp only [hostOps1, List.flatten_cons, List.flatten_nil, List.append_nil, List.cons_append, List.nil_append]
    after_reads_at
    rfl
  refine Eq.trans h0 ?_
  rw [Z_12]
  rfl
theorem tail_20 (c : Dev nD) (b : Fin 8) (s : Fin 32) (h : Fin 8) (d : Fin 64) :
    Pipeline.afterTail₀ cfgs (dats m) 0 (V0 m) [hostOps1] c main_v20 (ix4 b s h d) = (pr m c 5 (rowOf b s) (laneAt h d) : EReal) := by
  have h0 : (StableHlo.after ([hostOps1] : List (List (HloOp τ sig (Elt Ideal)))).flatten (Z m c) (Proc.devRef .tc main_v20) (ix4 b s h d) : EReal)
      = Z m c (Proc.devRef .tc main_v3_10) (ix3 0 (laneAt h d) (rowOf b s)) := by
    generalize Z m c = Y
    simp only [hostOps1, List.flatten_cons, List.flatten_nil, List.append_nil, List.cons_append, List.nil_append]
    after_reads_at
    rfl
  refine Eq.trans h0 ?_
  rw [Z_13]
  rfl
theorem tail_23 (c : Dev nD) (b : Fin 8) (s : Fin 32) (h : Fin 8) (d : Fin 64) :
    Pipeline.afterTail₀ cfgs (dats m) 0 (V0 m) [hostOps1] c main_v23 (ix4 b s h d) = (pr m c 6 (rowOf b s) (laneAt h d) : EReal) := by
  have h0 : (StableHlo.after ([hostOps1] : List (List (HloOp τ sig (Elt Ideal)))).flatten (Z m c) (Proc.devRef .tc main_v23) (ix4 b s h d) : EReal)
      = Z m c (Proc.devRef .tc main_v3_11) (ix3 0 (laneAt h d) (rowOf b s)) := by
    generalize Z m c = Y
    simp only [hostOps1, List.flatten_cons, List.flatten_nil, List.append_nil, List.cons_append, List.nil_append]
    after_reads_at
    rfl
  refine Eq.trans h0 ?_
  rw [Z_14]
  rfl

end Cert.Kernel6Ideal.PrjS
-- ==== Proof.ProjS.RefVal.lean ====
/-
  The projection reference on the sample, element by element: a row of `x` scaled by the reciprocal root of its mean square and
  by the gain, times a column of the weights.
-/
module

public import proofs.«01_k».proof.Proof.ProjAB.Blocks
public import proofs.«01_k».proof.Proof.AttnA.Scores
public import proofs.«01_k».proof.Proof.Gen.Reference6Ideal.Run
public import Idealize.ShloMosaic.Lib.Pointwise
public import Idealize.ShloMosaic.Lib.Quiescent

@[expose] public section

noncomputable section

namespace Cert.Reference6Ideal.PrjS

open Cert.Reference6Ideal Cert.Reference6Ideal.Gen
open Idealize.ShloMosaic Idealize.ShloMosaic.TcCoe Idealize.SL.Sem
open Cert.Kernel2Ideal.Proj (rms proj scale silu colOf)

/-- The frame claim's conclusion. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2.2.2.2.2.2.2.2.2, sem_eq_zero_of_no_sems (by decide) r.2⟩) (Cert.Reference6Ideal.Value.run m ρ)

variable (X : Vec Ideal S8x32x1024 .f32) (g : Vec Ideal S1024 .f32) (W : Vec Ideal S1024x4096 .f32)

/-- Element `l` of part `p` of the projection of row `s` of batch `b`. -/
def el (p : Fin 8) (b : Fin 8) (s : Fin 32) (l : Fin 512) : EReal :=
  proj (fun k => X (ix3 b s k)) (fun k => g (ix1 k)) (fun k => W (ix2 k (colOf p l)))
/-- Lane `d` of head `h`. -/
def laneAt (h : Fin 8) (d : Fin 64) : Fin 512 := ⟨h.val * 64 + d.val, by omega⟩

/-- The projection, whole. -/
def uT : FVec Ideal S8x32x4096 .f32 := Host.dotGeneral (φ₂ := .f32) dot_S8x32x1024_S1024x4096_S8x32x4096_2_0_01_1_n_n none (mulf (mulf X (broadcastInDim S8x32x1024 ![0, 1, 2] bcast_S8x32x1_S8x32x1024_0_1_2 (Host.rsqrt (addf (Host.divf (broadcastInDim S8x32x1 ![0, 1] bcast_S8x32_S8x32x1_0_1 (Host.reduceAdd (mulf X X) (constant S_ .f32 0x00000000#32) reducesTo_S8x32x1024_S8x32_d2 h_S_)) (broadcastInDim S8x32x1 ![] bcast_S_S8x32x1 (constant S_ .f32 0x44800000#32))) (broadcastInDim S8x32x1 ![] bcast_S_S8x32x1 (constant S_ .f32 0x358637BD#32)))))) (broadcastInDim S8x32x1024 ![0, 1, 2] bcast_S1x1x1024_S8x32x1024_0_1_2 (broadcastInDim S1x1x1024 ![2] bcast_S1024_S1x1x1024_2 g))) W

theorem uT_at (b : Fin 8) (s : Fin 32) (n : Fin 4096) :
    uT X g W (ix3 b s n) = proj (fun k => X (ix3 b s k)) (fun k => g (ix1 k)) (fun k => W (ix2 k n)) := by
  pointwise [uT]
  rfl

/-- The result `main_v28`. -/
def res0 : FVec Ideal S8x32x512 .bf16 := truncf .bf16 (mulf (extractStridedSlice S8x32x512 ![0, 0, 0] (uT X g W) slices_S8x32x4096_S8x32x512_0_0_0) (broadcastInDim S8x32x512 ![] bcast_S_S8x32x512 (constant S_ .f32 0x3E38AA3B#32))) bitsLt_bf16_f32
theorem res0_at (b : Fin 8) (s : Fin 32) (l : Fin 512) : (res0 X g W (ix3 b s l) : EReal) = el X g W 0 b s l * scale := by
  pointwise [res0]
  simp only [uT_at]
  have e : (⟨l.val, by omega⟩ : Fin 4096) = colOf 0 l := Fin.ext (by show l.val = 0 * 512 + l.val; omega)
  simp only [e]
  rfl

/-- The result `main_v29`. -/
def res1 : FVec Ideal S8x32x512 .bf16 := truncf .bf16 (extractStridedSlice S8x32x512 ![0, 0, 512] (uT X g W) slices_S8x32x4096_S8x32x512_0_0_512) bitsLt_bf16_f32
theorem res1_at (b : Fin 8) (s : Fin 32) (l : Fin 512) : (res1 X g W (ix3 b s l) : EReal) = el X g W 1 b s l := by
  pointwise [res1]
  simp only [uT_at]
  rfl

/-- The result `main_v30`. -/
def res2 : FVec Ideal S8x32x512 .bf16 := truncf .bf16 (extractStridedSlice S8x32x512 ![0, 0, 1024] (uT X g W) slices_S8x32x4096_S8x32x512_0_0_1024) bitsLt_bf16_f32
theorem res2_at (b : Fin 8) (s : Fin 32) (l : Fin 512) : (res2 X g W (ix3 b s l) : EReal) = el X g W 2 b s l := by
  pointwise [res2]
  simp only [uT_at]
  rfl

/-- The result `main_v31`. -/
def res3 : FVec Ideal S8x32x512 .bf16 := truncf .bf16 (mulf (extractStridedSlice S8x32x512 ![0, 0, 1536] (uT X g W) slices_S8x32x4096_S8x32x512_0_0_1536) (Host.divf (broadcastInDim S8x32x512 ![] bcast_S_S8x32x512 (constant S_ .f32 0x3F800000#32)) (addf (broadcastInDim S8x32x512 ![] bcast_S_S8x32x512 (constant S_ .f32 0x3F800000#32)) (Host.exp (Host.negf (extractStridedSlice S8x32x512 ![0, 0, 1536] (uT X g W) slices_S8x32x4096_S8x32x512_0_0_1536)))))) bitsLt_bf16_f32
theorem res3_at (b : Fin 8) (s : Fin 32) (l : Fin 512) : (res3 X g W (ix3 b s l) : EReal) = silu (el X g W 3 b s l) := by
  pointwise [res3]
  simp only [uT_at]
  rw [Cert.KernelIdeal.Attn.mul_sigmoid]
  rfl

/-- The result `main_v32`. -/
def res4 : FVec Ideal S8x32x512 .bf16 := truncf .bf16 (mulf (extractStridedSlice S8x32x512 ![0, 0, 2048] (uT X g W) slices_S8x32x4096_S8x32x512_0_0_2048) (broadcastInDim S8x32x512 ![] bcast_S_S8x32x512 (constant S_ .f32 0x3E38AA3B#32))) bitsLt_bf16_f32
theorem res4_at (b : Fin 8) (s : Fin 32) (l : Fin 512) : (res4 X g W (ix3 b s l) : EReal) = el X g W 4 b s l * scale := by
  pointwise [res4]
  simp only [uT_at]
  rfl

/-- The result `main_v33`. -/
def res5 : FVec Ideal S8x32x512 .bf16 := truncf .bf16 (extractStridedSlice S8x32x512 ![0, 0, 2560] (uT X g W) slices_S8x32x4096_S8x32x512_0_0_2560) bitsLt_bf16_f32
theorem res5_at (b : Fin 8) (s : Fin 32) (l : Fin 512) : (res5 X g W (ix3 b s l) : EReal) = el X g W 5 b s l := by
  pointwise [res5]
  simp only [uT_at]
  rfl

/-- The result `main_v34`. -/
def res6 : FVec Ideal S8x32x512 .bf16 := truncf .bf16 (extractStridedSlice S8x32x512 ![0, 0, 3072] (uT X g W) slices_S8x32x4096_S8x32x512_0_0_3072) bitsLt_bf16_f32
theorem res6_at (b : Fin 8) (s : Fin 32) (l : Fin 512) : (res6 X g W (ix3 b s l) : EReal) = el X g W 6 b s l := by
  pointwise [res6]
  simp only [uT_at]
  rfl

/-- The result `main_v35`. -/
def res7 : FVec Ideal S8x32x512 .bf16 := truncf .bf16 (mulf (extractStridedSlice S8x32x512 ![0, 0, 3584] (uT X g W) slices_S8x32x4096_S8x32x512_0_0_3584) (Host.divf (broadcastInDim S8x32x512 ![] bcast_S_S8x32x512 (constant S_ .f32 0x3F800000#32)) (addf (broadcastInDim S8x32x512 ![] bcast_S_S8x32x512 (constant S_ .f32 0x3F800000#32)) (Host.exp (Host.negf (extractStridedSlice S8x32x512 ![0, 0, 3584] (uT X g W) slices_S8x32x4096_S8x32x512_0_0_3584)))))) bitsLt_bf16_f32
theorem res7_at (b : Fin 8) (s : Fin 32) (l : Fin 512) : (res7 X g W (ix3 b s l) : EReal) = silu (el X g W 7 b s l) := by
  pointwise [res7]
  simp only [uT_at]
  rw [Cert.KernelIdeal.Attn.mul_sigmoid]
  rfl

/-- The result `main_v36`. -/
def res8 : FVec Ideal S8x32x8x64 .f32 := shapeCast S8x32x8x64 (extractStridedSlice S8x32x512 ![0, 0, 512] (uT X g W) slices_S8x32x4096_S8x32x512_0_0_512) shapeCasts_S8x32x512_S8x32x8x64
theorem res8_at (b : Fin 8) (s : Fin 32) (h : Fin 8) (d : Fin 64) : (res8 X g W (ix4 b s h d) : EReal) = el X g W 1 b s (laneAt h d) := by
  pointwise [res8]
  simp only [uT_at]
  rfl

/-- The result `main_v37`. -/
def res9 : FVec Ideal S8x32x8x64 .f32 := shapeCast S8x32x8x64 (extractStridedSlice S8x32x512 ![0, 0, 1024] (uT X g W) slices_S8x32x4096_S8x32x512_0_0_1024) shapeCasts_S8x32x512_S8x32x8x64
theorem res9_at (b : Fin 8) (s : Fin 32) (h : Fin 8) (d : Fin 64) : (res9 X g W (ix4 b s h d) : EReal) = el X g W 2 b s (laneAt h d) := by
  pointwise [res9]
  simp only [uT_at]
  rfl

/-- The result `main_v38`. -/
def res10 : FVec Ideal S8x32x8x64 .f32 := shapeCast S8x32x8x64 (extractStridedSlice S8x32x512 ![0, 0, 2560] (uT X g W) slices_S8x32x4096_S8x32x512_0_0_2560) shapeCasts_S8x32x512_S8x32x8x64
theorem res10_at (b : Fin 8) (s : Fin 32) (h : Fin 8) (d : Fin 64) : (res10 X g W (ix4 b s h d) : EReal) = el X g W 5 b s (laneAt h d) := by
  pointwise [res10]
  simp only [uT_at]
  rfl

/-- The result `main_v39`. -/
def res11 : FVec Ideal S8x32x8x64 .f32 := shapeCast S8x32x8x64 (extractStridedSlice S8x32x512 ![0, 0, 3072] (uT X g W) slices_S8x32x4096_S8x32x512_0_0_3072) shapeCasts_S8x32x512_S8x32x8x64
theorem res11_at (b : Fin 8) (s : Fin 32) (h : Fin 8) (d : Fin 64) : (res11 X g W (ix4 b s h d) : EReal) = el X g W 6 b s (laneAt h d) := by
  pointwise [res11]
  simp only [uT_at]
  rfl

end Cert.Reference6Ideal.PrjS
-- ==== Proof.ProjS.Value.lean ====
/-
  The projection kernel's twelve results on the sample are the reference's, and both programs leave them.
-/
module

public import proofs.«01_k».proof.Defs
public import proofs.«01_k».proof.Proof.ProjAB.Value
public import proofs.«01_k».proof.Proof.ProjS.Host
public import proofs.«01_k».proof.Proof.ProjS.RefVal

@[expose] public section

set_option maxRecDepth 16384

noncomputable section

namespace Cert.Kernel6Ideal.PrjS

open Cert.Kernel6Ideal Cert.Kernel6Ideal.Gen
open Cert.Kernel2Ideal.Proj (app3 proj colOf)
open Idealize.ShloMosaic Idealize.ShloMosaic.TcCoe Idealize.SL.Sem

/-- An element of the kernel's projection is the reference's. -/
theorem pr_eq (m : (ℓ : Loc nD τ sig) → Buf (Elt Ideal) ℓ) (c : Dev nD) (p : Fin 8) (b : Fin 8) (s : Fin 32) (l : Fin 512) :
    pr m c p (rowOf b s) l = Cert.Reference6Ideal.PrjS.el (m ((c.tc : Thread nD τ).loc main_arg0)) (m ((c.tc : Thread nD τ).loc main_arg1))
      (m ((c.tc : Thread nD τ).loc main_arg2)) p b s l := by
  have e := app3 proj (funext fun k => V_v0 m c b s k) (funext fun k => V_v1 m c k) (funext fun k => V_v2 m c k (colOf p l))
  exact e

theorem val0 (m : (ℓ : Loc nD τ sig) → Buf (Elt Ideal) ℓ) (c : Dev nD) :
    Pipeline.afterTail₀ cfgs (dats m) 0 (V0 m) [hostOps1] c main_v4 = Cert.Reference6Ideal.PrjS.res0 (m ((c.tc : Thread nD τ).loc main_arg0)) (m ((c.tc : Thread nD τ).loc main_arg1)) (m ((c.tc : Thread nD τ).loc main_arg2)) := by
  funext i
  obtain ⟨b, s, l, rfl⟩ : ∃ (b : Fin 8) (s : Fin 32) (l : Fin 512), (i : S8x32x512.Idx) = ix3 b s l :=
    ⟨i 0, i 1, i 2, funext fun a => match a with | ⟨0, _⟩ => rfl | ⟨1, _⟩ => rfl | ⟨2, _⟩ => rfl⟩
  refine (tail_4 m c b s l).trans (Eq.trans ?_ (Cert.Reference6Ideal.PrjS.res0_at (m ((c.tc : Thread nD τ).loc main_arg0)) (m ((c.tc : Thread nD τ).loc main_arg1)) (m ((c.tc : Thread nD τ).loc main_arg2)) b s l).symm)
  rw [pr_eq]
theorem val1 (m : (ℓ : Loc nD τ sig) → Buf (Elt Ideal) ℓ) (c : Dev nD) :
    Pipeline.afterTail₀ cfgs (dats m) 0 (V0 m) [hostOps1] c main_v5 = Cert.Reference6Ideal.PrjS.res1 (m ((c.tc : Thread nD τ).loc main_arg0)) (m ((c.tc : Thread nD τ).loc main_arg1)) (m ((c.tc : Thread nD τ).loc main_arg2)) := by
  funext i
  obtain ⟨b, s, l, rfl⟩ : ∃ (b : Fin 8) (s : Fin 32) (l : Fin 512), (i : S8x32x512.Idx) = ix3 b s l :=
    ⟨i 0, i 1, i 2, funext fun a => match a with | ⟨0, _⟩ => rfl | ⟨1, _⟩ => rfl | ⟨2, _⟩ => rfl⟩
  refine (tail_5 m c b s l).trans (Eq.trans ?_ (Cert.Reference6Ideal.PrjS.res1_at (m ((c.tc : Thread nD τ).loc main_arg0)) (m ((c.tc : Thread nD τ).loc main_arg1)) (m ((c.tc : Thread nD τ).loc main_arg2)) b s l).symm)
  rw [pr_eq]
theorem val2 (m : (ℓ : Loc nD τ sig) → Buf (Elt Ideal) ℓ) (c : Dev nD) :
    Pipeline.afterTail₀ cfgs (dats m) 0 (V0 m) [hostOps1] c main_v6 = Cert.Reference6Ideal.PrjS.res2 (m ((c.tc : Thread nD τ).loc main_arg0)) (m ((c.tc : Thread nD τ).loc main_arg1)) (m ((c.tc : Thread nD τ).loc main_arg2)) := by
  funext i
  obtain ⟨b, s, l, rfl⟩ : ∃ (b : Fin 8) (s : Fin 32) (l : Fin 512), (i : S8x32x512.Idx) = ix3 b s l :=
    ⟨i 0, i 1, i 2, funext fun a => match a with | ⟨0, _⟩ => rfl | ⟨1, _⟩ => rfl | ⟨2, _⟩ => rfl⟩
  refine (tail_6 m c b s l).trans (Eq.trans ?_ (Cert.Reference6Ideal.PrjS.res2_at (m ((c.tc : Thread nD τ).loc main_arg0)) (m ((c.tc : Thread nD τ).loc main_arg1)) (m ((c.tc : Thread nD τ).loc main_arg2)) b s l).symm)
  rw [pr_eq]
theorem val3 (m : (ℓ : Loc nD τ sig) → Buf (Elt Ideal) ℓ) (c : Dev nD) :
    Pipeline.afterTail₀ cfgs (dats m) 0 (V0 m) [hostOps1] c main_v7 = Cert.Reference6Ideal.PrjS.res3 (m ((c.tc : Thread nD τ).loc main_arg0)) (m ((c.tc : Thread nD τ).loc main_arg1)) (m ((c.tc : Thread nD τ).loc main_arg2)) := by
  funext i
  obtain ⟨b, s, l, rfl⟩ : ∃ (b : Fin 8) (s : Fin 32) (l : Fin 512), (i : S8x32x512.Idx) = ix3 b s l :=
    ⟨i 0, i 1, i 2, funext fun a => match a with | ⟨0, _⟩ => rfl | ⟨1, _⟩ => rfl | ⟨2, _⟩ => rfl⟩
  refine (tail_7 m c b s l).trans (Eq.trans ?_ (Cert.Reference6Ideal.PrjS.res3_at (m ((c.tc : Thread nD τ).loc main_arg0)) (m ((c.tc : Thread nD τ).loc main_arg1)) (m ((c.tc : Thread nD τ).loc main_arg2)) b s l).symm)
  rw [pr_eq]
theorem val4 (m : (ℓ : Loc nD τ sig) → Buf (Elt Ideal) ℓ) (c : Dev nD) :
    Pipeline.afterTail₀ cfgs (dats m) 0 (V0 m) [hostOps1] c main_v8 = Cert.Reference6Ideal.PrjS.res4 (m ((c.tc : Thread nD τ).loc main_arg0)) (m ((c.tc : Thread nD τ).loc main_arg1)) (m ((c.tc : Thread nD τ).loc main_arg2)) := by
  funext i
  obtain ⟨b, s, l, rfl⟩ : ∃ (b : Fin 8) (s : Fin 32) (l : Fin 512), (i : S8x32x512.Idx) = ix3 b s l :=
    ⟨i 0, i 1, i 2, funext fun a => match a with | ⟨0, _⟩ => rfl | ⟨1, _⟩ => rfl | ⟨2, _⟩ => rfl⟩
  refine (tail_8 m c b s l).trans (Eq.trans ?_ (Cert.Reference6Ideal.PrjS.res4_at (m ((c.tc : Thread nD τ).loc main_arg0)) (m ((c.tc : Thread nD τ).loc main_arg1)) (m ((c.tc : Thread nD τ).loc main_arg2)) b s l).symm)
  rw [pr_eq]
theorem val5 (m : (ℓ : Loc nD τ sig) → Buf (Elt Ideal) ℓ) (c : Dev nD) :
    Pipeline.afterTail₀ cfgs (dats m) 0 (V0 m) [hostOps1] c main_v9 = Cert.Reference6Ideal.PrjS.res5 (m ((c.tc : Thread nD τ).loc main_arg0)) (m ((c.tc : Thread nD τ).loc main_arg1)) (m ((c.tc : Thread nD τ).loc main_arg2)) := by
  funext i
  obtain ⟨b, s, l, rfl⟩ : ∃ (b : Fin 8) (s : Fin 32) (l : Fin 512), (i : S8x32x512.Idx) = ix3 b s l :=
    ⟨i 0, i 1, i 2, funext fun a => match a with | ⟨0, _⟩ => rfl | ⟨1, _⟩ => rfl | ⟨2, _⟩ => rfl⟩
  refine (tail_9 m c b s l).trans (Eq.trans ?_ (Cert.Reference6Ideal.PrjS.res5_at (m ((c.tc : Thread nD τ).loc main_arg0)) (m ((c.tc : Thread nD τ).loc main_arg1)) (m ((c.tc : Thread nD τ).loc main_arg2)) b s l).symm)
  rw [pr_eq]
theorem val6 (m : (ℓ : Loc nD τ sig) → Buf (Elt Ideal) ℓ) (c : Dev nD) :
    Pipeline.afterTail₀ cfgs (dats m) 0 (V0 m) [hostOps1] c main_v10 = Cert.Reference6Ideal.PrjS.res6 (m ((c.tc : Thread nD τ).loc main_arg0)) (m ((c.tc : Thread nD τ).loc main_arg1)) (m ((c.tc : Thread nD τ).loc main_arg2)) := by
  funext i
  obtain ⟨b, s, l, rfl⟩ : ∃ (b : Fin 8) (s : Fin 32) (l : Fin 512), (i : S8x32x512.Idx) = ix3 b s l :=
    ⟨i 0, i 1, i 2, funext fun a => match a with | ⟨0, _⟩ => rfl | ⟨1, _⟩ => rfl | ⟨2, _⟩ => rfl⟩
  refine (tail_10 m c b s l).trans (Eq.trans ?_ (Cert.Reference6Ideal.PrjS.res6_at (m ((c.tc : Thread nD τ).loc main_arg0)) (m ((c.tc : Thread nD τ).loc main_arg1)) (m ((c.tc : Thread nD τ).loc main_arg2)) b s l).symm)
  rw [pr_eq]
theorem val7 (m : (ℓ : Loc nD τ sig) → Buf (Elt Ideal) ℓ) (c : Dev nD) :
    Pipeline.afterTail₀ cfgs (dats m) 0 (V0 m) [hostOps1] c main_v11 = Cert.Reference6Ideal.PrjS.res7 (m ((c.tc : Thread nD τ).loc main_arg0)) (m ((c.tc : Thread nD τ).loc main_arg1)) (m ((c.tc : Thread nD τ).loc main_arg2)) := by
  funext i
  obtain ⟨b, s, l, rfl⟩ : ∃ (b : Fin 8) (s : Fin 32) (l : Fin 512), (i : S8x32x512.Idx) = ix3 b s l :=
    ⟨i 0, i 1, i 2, funext fun a => match a with | ⟨0, _⟩ => rfl | ⟨1, _⟩ => rfl | ⟨2, _⟩ => rfl⟩
  refine (tail_11 m c b s l).trans (Eq.trans ?_ (Cert.Reference6Ideal.PrjS.res7_at (m ((c.tc : Thread nD τ).loc main_arg0)) (m ((c.tc : Thread nD τ).loc main_arg1)) (m ((c.tc : Thread nD τ).loc main_arg2)) b s l).symm)
  rw [pr_eq]
theorem val8 (m : (ℓ : Loc nD τ sig) → Buf (Elt Ideal) ℓ) (c : Dev nD) :
    Pipeline.afterTail₀ cfgs (dats m) 0 (V0 m) [hostOps1] c main_v14 = Cert.Reference6Ideal.PrjS.res8 (m ((c.tc : Thread nD τ).loc main_arg0)) (m ((c.tc : Thread nD τ).loc main_arg1)) (m ((c.tc : Thread nD τ).loc main_arg2)) := by
  funext i
  obtain ⟨b, s, h, d, rfl⟩ : ∃ (b : Fin 8) (s : Fin 32) (h : Fin 8) (d : Fin 64), (i : S8x32x8x64.Idx) = ix4 b s h d :=
    ⟨i 0, i 1, i 2, i 3, funext fun a => match a with | ⟨0, _⟩ => rfl | ⟨1, _⟩ => rfl | ⟨2, _⟩ => rfl | ⟨3, _⟩ => rfl⟩
  refine (tail_14 m c b s h d).trans (Eq.trans ?_ (Cert.Reference6Ideal.PrjS.res8_at (m ((c.tc : Thread nD τ).loc main_arg0)) (m ((c.tc : Thread nD τ).loc main_arg1)) (m ((c.tc : Thread nD τ).loc main_arg2)) b s h d).symm)
  rw [pr_eq]
  rfl
theorem val9 (m : (ℓ : Loc nD τ sig) → Buf (Elt Ideal) ℓ) (c : Dev nD) :
    Pipeline.afterTail₀ cfgs (dats m) 0 (V0 m) [hostOps1] c main_v17 = Cert.Reference6Ideal.PrjS.res9 (m ((c.tc : Thread nD τ).loc main_arg0)) (m ((c.tc : Thread nD τ).loc main_arg1)) (m ((c.tc : Thread nD τ).loc main_arg2)) := by
  funext i
  obtain ⟨b, s, h, d, rfl⟩ : ∃ (b : Fin 8) (s : Fin 32) (h : Fin 8) (d : Fin 64), (i : S8x32x8x64.Idx) = ix4 b s h d :=
    ⟨i 0, i 1, i 2, i 3, funext fun a => match a with | ⟨0, _⟩ => rfl | ⟨1, _⟩ => rfl | ⟨2, _⟩ => rfl | ⟨3, _⟩ => rfl⟩
  refine (tail_17 m c b s h d).trans (Eq.trans ?_ (Cert.Reference6Ideal.PrjS.res9_at (m ((c.tc : Thread nD τ).loc main_arg0)) (m ((c.tc : Thread nD τ).loc main_arg1)) (m ((c.tc : Thread nD τ).loc main_arg2)) b s h d).symm)
  rw [pr_eq]
  rfl
theorem val10 (m : (ℓ : Loc nD τ sig) → Buf (Elt Ideal) ℓ) (c : Dev nD) :
    Pipeline.afterTail₀ cfgs (dats m) 0 (V0 m) [hostOps1] c main_v20 = Cert.Reference6Ideal.PrjS.res10 (m ((c.tc : Thread nD τ).loc main_arg0)) (m ((c.tc : Thread nD τ).loc main_arg1)) (m ((c.tc : Thread nD τ).loc main_arg2)) := by
  funext i
  obtain ⟨b, s, h, d, rfl⟩ : ∃ (b : Fin 8) (s : Fin 32) (h : Fin 8) (d : Fin 64), (i : S8x32x8x64.Idx) = ix4 b s h d :=
    ⟨i 0, i 1, i 2, i 3, funext fun a => match a with | ⟨0, _⟩ => rfl | ⟨1, _⟩ => rfl | ⟨2, _⟩ => rfl | ⟨3, _⟩ => rfl⟩
  refine (tail_20 m c b s h d).trans (Eq.trans ?_ (Cert.Reference6Ideal.PrjS.res10_at (m ((c.tc : Thread nD τ).loc main_arg0)) (m ((c.tc : Thread nD τ).loc main_arg1)) (m ((c.tc : Thread nD τ).loc main_arg2)) b s h d).symm)
  rw [pr_eq]
  rfl
theorem val11 (m : (ℓ : Loc nD τ sig) → Buf (Elt Ideal) ℓ) (c : Dev nD) :
    Pipeline.afterTail₀ cfgs (dats m) 0 (V0 m) [hostOps1] c main_v23 = Cert.Reference6Ideal.PrjS.res11 (m ((c.tc : Thread nD τ).loc main_arg0)) (m ((c.tc : Thread nD τ).loc main_arg1)) (m ((c.tc : Thread nD τ).loc main_arg2)) := by
  funext i
  obtain ⟨b, s, h, d, rfl⟩ : ∃ (b : Fin 8) (s : Fin 32) (h : Fin 8) (d : Fin 64), (i : S8x32x8x64.Idx) = ix4 b s h d :=
    ⟨i 0, i 1, i 2, i 3, funext fun a => match a with | ⟨0, _⟩ => rfl | ⟨1, _⟩ => rfl | ⟨2, _⟩ => rfl | ⟨3, _⟩ => rfl⟩
  refine (tail_23 m c b s h d).trans (Eq.trans ?_ (Cert.Reference6Ideal.PrjS.res11_at (m ((c.tc : Thread nD τ).loc main_arg0)) (m ((c.tc : Thread nD τ).loc main_arg1)) (m ((c.tc : Thread nD τ).loc main_arg2)) b s h d).symm)
  rw [pr_eq]
  rfl

/-- The kernel's call computes the reference over the reals. -/
theorem value : Cert.algebraic_Kernel6Ideal_Reference6Ideal := fun m g m' g' _ hm =>
  ⟨fun c => Cert.Reference6Ideal.PrjS.res0 (m ((c.tc : Thread nD τ).loc main_arg0)) (m ((c.tc : Thread nD τ).loc main_arg1)) (m ((c.tc : Thread nD τ).loc main_arg2)),
    fun c => Cert.Reference6Ideal.PrjS.res1 (m ((c.tc : Thread nD τ).loc main_arg0)) (m ((c.tc : Thread nD τ).loc main_arg1)) (m ((c.tc : Thread nD τ).loc main_arg2)),
    fun c => Cert.Reference6Ideal.PrjS.res2 (m ((c.tc : Thread nD τ).loc main_arg0)) (m ((c.tc : Thread nD τ).loc main_arg1)) (m ((c.tc : Thread nD τ).loc main_arg2)),
    fun c => Cert.Reference6Ideal.PrjS.res3 (m ((c.tc : Thread nD τ).loc main_arg0)) (m ((c.tc : Thread nD τ).loc main_arg1)) (m ((c.tc : Thread nD τ).loc main_arg2)),
    fun c => Cert.Reference6Ideal.PrjS.res4 (m ((c.tc : Thread nD τ).loc main_arg0)) (m ((c.tc : Thread nD τ).loc main_arg1)) (m ((c.tc : Thread nD τ).loc main_arg2)),
    fun c => Cert.Reference6Ideal.PrjS.res5 (m ((c.tc : Thread nD τ).loc main_arg0)) (m ((c.tc : Thread nD τ).loc main_arg1)) (m ((c.tc : Thread nD τ).loc main_arg2)),
    fun c => Cert.Reference6Ideal.PrjS.res6 (m ((c.tc : Thread nD τ).loc main_arg0)) (m ((c.tc : Thread nD τ).loc main_arg1)) (m ((c.tc : Thread nD τ).loc main_arg2)),
    fun c => Cert.Reference6Ideal.PrjS.res7 (m ((c.tc : Thread nD τ).loc main_arg0)) (m ((c.tc : Thread nD τ).loc main_arg1)) (m ((c.tc : Thread nD τ).loc main_arg2)),
    fun c => Cert.Reference6Ideal.PrjS.res8 (m ((c.tc : Thread nD τ).loc main_arg0)) (m ((c.tc : Thread nD τ).loc main_arg1)) (m ((c.tc : Thread nD τ).loc main_arg2)),
    fun c => Cert.Reference6Ideal.PrjS.res9 (m ((c.tc : Thread nD τ).loc main_arg0)) (m ((c.tc : Thread nD τ).loc main_arg1)) (m ((c.tc : Thread nD τ).loc main_arg2)),
    fun c => Cert.Reference6Ideal.PrjS.res10 (m ((c.tc : Thread nD τ).loc main_arg0)) (m ((c.tc : Thread nD τ).loc main_arg1)) (m ((c.tc : Thread nD τ).loc main_arg2)),
    fun c => Cert.Reference6Ideal.PrjS.res11 (m ((c.tc : Thread nD τ).loc main_arg0)) (m ((c.tc : Thread nD τ).loc main_arg1)) (m ((c.tc : Thread nD τ).loc main_arg2)),
    (θ_run defs _ _).mono (fun _ h c => ⟨((h c).2 main_v4 (Pipeline.mem_restRefs_of main_v4 (by decide) (by decide))).trans (val0 m c),
      ((h c).2 main_v5 (Pipeline.mem_restRefs_of main_v5 (by decide) (by decide))).trans (val1 m c),
      ((h c).2 main_v6 (Pipeline.mem_restRefs_of main_v6 (by decide) (by decide))).trans (val2 m c),
      ((h c).2 main_v7 (Pipeline.mem_restRefs_of main_v7 (by decide) (by decide))).trans (val3 m c),
      ((h c).2 main_v8 (Pipeline.mem_restRefs_of main_v8 (by decide) (by decide))).trans (val4 m c),
      ((h c).2 main_v9 (Pipeline.mem_restRefs_of main_v9 (by decide) (by decide))).trans (val5 m c),
      ((h c).2 main_v10 (Pipeline.mem_restRefs_of main_v10 (by decide) (by decide))).trans (val6 m c),
      ((h c).2 main_v11 (Pipeline.mem_restRefs_of main_v11 (by decide) (by decide))).trans (val7 m c),
      ((h c).2 main_v14 (Pipeline.mem_restRefs_of main_v14 (by decide) (by decide))).trans (val8 m c),
      ((h c).2 main_v17 (Pipeline.mem_restRefs_of main_v17 (by decide) (by decide))).trans (val9 m c),
      ((h c).2 main_v20 (Pipeline.mem_restRefs_of main_v20 (by decide) (by decide))).trans (val10 m c),
      ((h c).2 main_v23 (Pipeline.mem_restRefs_of main_v23 (by decide) (by decide))).trans (val11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
      (run_main m g),
    (θ_run Cert.Reference6Ideal.defs _ _).mono (fun _ h c => ⟨(h c).1.trans (app3 Cert.Reference6Ideal.PrjS.res0 (hm c).1 (hm c).2.1 (hm c).2.2),
      (h c).2.1.trans (app3 Cert.Reference6Ideal.PrjS.res1 (hm c).1 (hm c).2.1 (hm c).2.2),
      (h c).2.2.1.trans (app3 Cert.Reference6Ideal.PrjS.res2 (hm c).1 (hm c).2.1 (hm c).2.2),
      (h c).2.2.2.1.trans (app3 Cert.Reference6Ideal.PrjS.res3 (hm c).1 (hm c).2.1 (hm c).2.2),
      (h c).2.2.2.2.1.trans (app3 Cert.Reference6Ideal.PrjS.res4 (hm c).1 (hm c).2.1 (hm c).2.2),
      (h c).2.2.2.2.2.1.trans (app3 Cert.Reference6Ideal.PrjS.res5 (hm c).1 (hm c).2.1 (hm c).2.2),
      (h c).2.2.2.2.2.2.1.trans (app3 Cert.Reference6Ideal.PrjS.res6 (hm c).1 (hm c).2.1 (hm c).2.2),
      (h c).2.2.2.2.2.2.2.1.trans (app3 Cert.Reference6Ideal.PrjS.res7 (hm c).1 (hm c).2.1 (hm c).2.2),
      (h c).2.2.2.2.2.2.2.2.1.trans (app3 Cert.Reference6Ideal.PrjS.res8 (hm c).1 (hm c).2.1 (hm c).2.2),
      (h c).2.2.2.2.2.2.2.2.2.1.trans (app3 Cert.Reference6Ideal.PrjS.res9 (hm c).1 (hm c).2.1 (hm c).2.2),
      (h c).2.2.2.2.2.2.2.2.2.2.1.trans (app3 Cert.Reference6Ideal.PrjS.res10 (hm c).1 (hm c).2.1 (hm c).2.2),
      (h c).2.2.2.2.2.2.2.2.2.2.2.1.trans (app3 Cert.Reference6Ideal.PrjS.res11 (hm c).1 (hm c).2.1 (hm c).2.2),
      (h c).2.2.2.2.2.2.2.2.2.2.2.2⟩)
      (Cert.Reference6Ideal.Value.run m' g')⟩

end Cert.Kernel6Ideal.PrjS
-- ==== Proof.MergeCS.Pay.lean ====
/-
  What the body of the merge into mixer C's inputs computes on the sample's tile, element by element. A stored row is the residual row plus the
  normalized output projection; the row after it is normalized again and multiplied into a column of the input weights;
  queries and keys are turned, each element with its mate half a head away, by the position's cosine and sine.
-/
module

public import proofs.«01_k».proof.Proof.Gen.Kernel7Ideal.Skeleton
public import proofs.«01_k».proof.Proof.MergeC.Spec

@[expose] public section

noncomputable section

namespace Cert.Kernel7Ideal.MrgS

open Cert.Kernel7Ideal Cert.Kernel7Ideal.Gen
open Cert.Kernel2Ideal.Proj (rms proj silu scale)
open Cert.Kernel3Ideal.Mrg (merged)
open Cert.Kernel4Ideal.MrgC (mate lo hi outp turn lane lane_zero lane2 rowcol)
open Idealize.ShloMosaic

theorem pay3 (a : Vec Ideal S256x512 .bf16) (w0 : Vec Ideal S512x1024 .bf16) (b : Vec Ideal S256x512 .bf16) (w1 : Vec Ideal S512x1024 .bf16)
    (x : Vec Ideal S256x1024 .f32) (g : Vec Ideal S1x1024 .f32) (r : Fin 256) (n : Fin 1024) :
    k0_pay3 (F := Ideal) a w0 b w1 x g (ix2 r n)
      = (merged (fun k => x (ix2 r k))
          (fun j => ∑ k : Fin 512, (a (ix2 r k) : EReal) * (w0 (ix2 k j) : EReal) + ∑ k : Fin 512, (b (ix2 r k) : EReal) * (w1 (ix2 k j) : EReal))
          (fun k => g (ix2 0 k)) n : EReal) := by
  pointwise [k0_pay3]
  rfl
theorem pay4 (a : Vec Ideal S256x512 .bf16) (w0 : Vec Ideal S512x1024 .bf16) (b : Vec Ideal S256x512 .bf16) (w1 : Vec Ideal S512x1024 .bf16)
    (x : Vec Ideal S256x1024 .f32) (g : Vec Ideal S1x1024 .f32) (g2 : Vec Ideal S1x1024 .f32) (r : Fin 256) (n : Fin 1024) :
    k0_pay5 (F := Ideal) (k0_pay3 a w0 b w1 x g) (k0_pay4 a w0 b w1 x g) g2 (ix2 r n)
      = ((k0_pay3 (F := Ideal) a w0 b w1 x g (ix2 r n) : EReal)
          * rms (fun k => k0_pay3 (F := Ideal) a w0 b w1 x g (ix2 r k)) * g2 (ix2 0 n) : EReal) := by
  pointwise [k0_pay5, k0_pay4]
  rfl
theorem pay6 (c : Vec Ideal S256x128 .f32) : k0_pay6 (F := Ideal) c = c := by
  funext j
  rw [← ix2_eta j]
  pointwise [k0_pay6]
theorem pay7 (c : Vec Ideal S256x128 .f32) : k0_pay7 (F := Ideal) c = c := by
  funext j
  rw [← ix2_eta j]
  pointwise [k0_pay7]

/-- The mask of the first halves of heads, at a lane. -/
theorem mask_lane : ∀ l : Fin 128, (k0_pay8 (ix2 0 l) : BitVec 1) = if l.val % 64 < 32 then 1#1 else 0#1 := by
  intro l
  pointwise [k0_pay8]
  revert l
  decide +kernel
theorem mask_row (r : Fin 256) (l : Fin 128) : (k0_pay8 (ix2 r l) : BitVec 1) = k0_pay8 (ix2 0 l) := by
  pointwise [k0_pay8]

/-- The turn of a block of 128 lanes, as the body writes it. -/
def rope (v cs sn : FVec Ideal S256x128 .f32) : FVec Ideal S256x128 .f32 :=
  addf (mulf v cs) (mulf (select k0_pay8 (dynamicRotate 1 96#32 none v rotates_S256x128_d1) (dynamicRotate 1 32#32 none v rotates_S256x128_d1)) sn)

theorem rope_at (v cs sn : FVec Ideal S256x128 .f32) (r : Fin 256) (l : Fin 128) :
    rope v cs sn (ix2 r l) = turn (v (ix2 r l)) (v (ix2 r (mate l))) (cs (ix2 r l)) (sn (ix2 r l)) := by
  unfold rope turn mate
  pointwise
  rw [mask_row, mask_lane]
  by_cases h : l.val % 64 < 32
  · have e : (⟨(l.val + 128 - 96) % 128, Nat.mod_lt _ (by decide)⟩ : Fin 128) = ⟨l.val + 32, by omega⟩ := Fin.ext (by show (l.val + 128 - 96) % 128 = l.val + 32; omega)
    rw [if_pos h, dif_pos h, e]
    rfl
  · have e : (⟨(l.val + 128 - 32) % 128, Nat.mod_lt _ (by decide)⟩ : Fin 128) = ⟨l.val - 32, by omega⟩ := Fin.ext (by show (l.val + 128 - 32) % 128 = l.val - 32; omega)
    rw [if_neg h, dif_neg h, e]
    rfl

theorem pay12 (cs sn : Vec Ideal S256x128 .f32) (v : Vec Ideal S256x512 .f32) (r : Fin 256) (l : Fin 128) :
    k0_pay12 (F := Ideal) cs sn k0_pay8 v (ix2 r l)
      = (turn (v (ix2 r (lane 1 l))) (v (ix2 r (lane 1 (mate l)))) (cs (ix2 r l)) (sn (ix2 r l)) * scale : EReal) := by
  have e : k0_pay12 (F := Ideal) cs sn k0_pay8 v (ix2 r l)
      = (rope (extractStridedSlice S256x128 ![0, 128] v slices_S256x512_o0_128_S256x128) cs sn (ix2 r l) * scale : EReal) := rfl
  rw [e, rope_at]
  pointwise
  rfl
theorem pay13 (cs sn : Vec Ideal S256x128 .f32) (v : Vec Ideal S256x512 .f32) (r : Fin 256) (l : Fin 128) :
    k0_pay13 (F := Ideal) cs sn k0_pay8 v (ix2 r l)
      = (turn (v (ix2 r (lane 2 l))) (v (ix2 r (lane 2 (mate l)))) (cs (ix2 r l)) (sn (ix2 r l)) * scale : EReal) := by
  have e : k0_pay13 (F := Ideal) cs sn k0_pay8 v (ix2 r l)
      = (rope (extractStridedSlice S256x128 ![0, 256] v slices_S256x512_o0_256_S256x128) cs sn (ix2 r l) * scale : EReal) := rfl
  rw [e, rope_at]
  pointwise
  rfl
theorem pay14 (cs sn : Vec Ideal S256x128 .f32) (v : Vec Ideal S256x512 .f32) (r : Fin 256) (l : Fin 128) :
    k0_pay14 (F := Ideal) cs sn k0_pay8 v (ix2 r l)
      = (turn (v (ix2 r (lane 3 l))) (v (ix2 r (lane 3 (mate l)))) (cs (ix2 r l)) (sn (ix2 r l)) * scale : EReal) := by
  have e : k0_pay14 (F := Ideal) cs sn k0_pay8 v (ix2 r l)
      = (rope (extractStridedSlice S256x128 ![0, 384] v slices_S256x512_o0_384_S256x128) cs sn (ix2 r l) * scale : EReal) := rfl
  rw [e, rope_at]
  pointwise
  rfl
theorem pay11 (y : Vec Ideal S256x1024 .f32) (q : Vec Ideal S256x1 .f32) (g : Vec Ideal S1x1024 .f32) (cs sn : Vec Ideal S256x128 .f32) (w : Vec Ideal S1024x512 .bf16) (r : Fin 256) (l : Fin 128) :
    k0_pay11 (F := Ideal) (k0_pay10 y q g cs sn w) (Scalar.ofBits .f32 0x3E38AA3B#32) (ix2 r l)
      = (turn (k0_pay9 (F := Ideal) y q g w (ix2 r (lane 0 l))) (k0_pay9 (F := Ideal) y q g w (ix2 r (lane 0 (mate l)))) (cs (ix2 r l)) (sn (ix2 r l)) * scale : EReal) := by
  have e : k0_pay11 (F := Ideal) (k0_pay10 y q g cs sn w) (Scalar.ofBits .f32 0x3E38AA3B#32) (ix2 r l)
      = (rope (extractStridedSlice S256x128 ![0, 0] (k0_pay9 y q g w) slices_S256x512_o0_0_S256x128) (k0_pay6 cs) (k0_pay7 sn) (ix2 r l) * scale : EReal) := rfl
  rw [e, rope_at, pay6, pay7]
  generalize k0_pay9 y q g w = v
  pointwise
  rw [lane_zero, lane_zero]
theorem pay9 (y : Vec Ideal S256x1024 .f32) (q : Vec Ideal S256x1 .f32) (g : Vec Ideal S1x1024 .f32) (w : Vec Ideal S1024x512 .bf16) (r : Fin 256) (l : Fin 512) :
    k0_pay9 (F := Ideal) y q g w (ix2 r l) = (rowcol (fun k => k0_pay5 (F := Ideal) y q g (ix2 r k)) (fun k => w (ix2 k l)) : EReal) := by
  unfold k0_pay9
  generalize k0_pay5 y q g = X
  pointwise
  rfl
theorem pay15 (X : Vec Ideal S256x1024 .bf16) (w : Vec Ideal S1024x512 .bf16) (r : Fin 256) (l : Fin 512) :
    k0_pay15 (F := Ideal) X w (ix2 r l) = (rowcol (fun k => X (ix2 r k)) (fun k => w (ix2 k l)) : EReal) := by
  pointwise [k0_pay15]
  rfl
theorem pay25 (X : Vec Ideal S256x1024 .bf16) (w : Vec Ideal S1024x256 .bf16) (r : Fin 256) (l : Fin 256) :
    k0_pay25 (F := Ideal) X w (ix2 r l) = (rowcol (fun k => X (ix2 r k)) (fun k => w (ix2 k l)) : EReal) := by
  pointwise [k0_pay25]
  rfl
theorem pay26 (X : Vec Ideal S256x1024 .bf16) (w : Vec Ideal S1024x256 .bf16) (r : Fin 256) (l : Fin 256) :
    k0_pay26 (F := Ideal) X w (ix2 r l) = (rowcol (fun k => X (ix2 r k)) (fun k => w (ix2 k l)) : EReal) := pay25 X w r l
theorem pay1 (X : Vec Ideal S256x1024 .bf16) (w : Vec Ideal S1024x512 .bf16) (r : Fin 256) (l : Fin 512) :
    k0_pay1 (F := Ideal) X w (ix2 r l) = (silu (rowcol (fun k => X (ix2 r k)) (fun k => w (ix2 k l))) : EReal) := by
  pointwise [k0_pay1]
  rw [zero_sub]
  rfl
theorem pay2 (X : Vec Ideal S256x1024 .bf16) (w : Vec Ideal S1024x512 .bf16) (r : Fin 256) (l : Fin 512) :
    k0_pay2 (F := Ideal) X w (ix2 r l) = (silu (rowcol (fun k => X (ix2 r k)) (fun k => w (ix2 k l))) : EReal) := by
  pointwise [k0_pay2]
  rw [zero_sub]
  rfl
theorem pay16 (X : Vec Ideal S256x1024 .bf16) (cs sn : Vec Ideal S256x128 .f32) (w : Vec Ideal S1024x512 .bf16) (r : Fin 256) (l : Fin 128) :
    k0_pay16 (F := Ideal) X cs sn k0_pay8 w (ix2 r l)
      = (turn (k0_pay15 (F := Ideal) X w (ix2 r (lane 0 l))) (k0_pay15 (F := Ideal) X w (ix2 r (lane 0 (mate l)))) (cs (ix2 r l)) (sn (ix2 r l)) * scale : EReal) := by
  have e : k0_pay16 (F := Ideal) X cs sn k0_pay8 w (ix2 r l)
      = (rope (extractStridedSlice S256x128 ![0, 0] (k0_pay15 X w) slices_S256x512_o0_0_S256x128) cs sn (ix2 r l) * scale : EReal) := rfl
  rw [e, rope_at]
  generalize k0_pay15 X w = v
  pointwise
  rw [lane_zero, lane_zero]
theorem pay17 (X : Vec Ideal S256x1024 .bf16) (cs sn : Vec Ideal S256x128 .f32) (w : Vec Ideal S1024x512 .bf16) (r : Fin 256) (l : Fin 128) :
    k0_pay17 (F := Ideal) X cs sn k0_pay8 w (ix2 r l)
      = (turn (k0_pay15 (F := Ideal) X w (ix2 r (lane 1 l))) (k0_pay15 (F := Ideal) X w (ix2 r (lane 1 (mate l)))) (cs (ix2 r l)) (sn (ix2 r l)) * scale : EReal) := by
  have e : k0_pay17 (F := Ideal) X cs sn k0_pay8 w (ix2 r l)
      = (rope (extractStridedSlice S256x128 ![0, 128] (k0_pay15 X w) slices_S256x512_o0_128_S256x128) cs sn (ix2 r l) * scale : EReal) := rfl
  rw [e, rope_at]
  generalize k0_pay15 X w = v
  pointwise
  rfl
theorem pay18 (X : Vec Ideal S256x1024 .bf16) (cs sn : Vec Ideal S256x128 .f32) (w : Vec Ideal S1024x512 .bf16) (r : Fin 256) (l : Fin 128) :
    k0_pay18 (F := Ideal) X cs sn k0_pay8 w (ix2 r l)
      = (turn (k0_pay15 (F := Ideal) X w (ix2 r (lane 2 l))) (k0_pay15 (F := Ideal) X w (ix2 r (lane 2 (mate l)))) (cs (ix2 r l)) (sn (ix2 r l)) * scale : EReal) := by
  have e : k0_pay18 (F := Ideal) X cs sn k0_pay8 w (ix2 r l)
      = (rope (extractStridedSlice S256x128 ![0, 256] (k0_pay15 X w) slices_S256x512_o0_256_S256x128) cs sn (ix2 r l) * scale : EReal) := rfl
  rw [e, rope_at]
  generalize k0_pay15 X w = v
  pointwise
  rfl
theorem pay22 (X : Vec Ideal S256x1024 .bf16) (cs sn : Vec Ideal S256x128 .f32) (w : Vec Ideal S1024x512 .bf16) (r : Fin 256) (l : Fin 128) :
    k0_pay22 (F := Ideal) cs sn k0_pay8 (k0_pay19 X w) (k0_pay20 X w) (k0_pay21 X w) (ix2 r l)
      = (turn (k0_pay15 (F := Ideal) X w (ix2 r (lane 3 l))) (k0_pay15 (F := Ideal) X w (ix2 r (lane 3 (mate l)))) (cs (ix2 r l)) (sn (ix2 r l)) * scale : EReal) := by
  have e : k0_pay22 (F := Ideal) cs sn k0_pay8 (k0_pay19 X w) (k0_pay20 X w) (k0_pay21 X w) (ix2 r l)
      = (rope (extractStridedSlice S256x128 ![0, 384] (k0_pay15 X w) slices_S256x512_o0_384_S256x128) cs sn (ix2 r l) * scale : EReal) := rfl
  rw [e, rope_at]
  generalize k0_pay15 X w = v
  pointwise
  rfl
/-- The keys' block: two halves of 128 lanes, each turned. -/
theorem pay23 (X : Vec Ideal S256x1024 .bf16) (cs sn : Vec Ideal S256x128 .f32) (w : Vec Ideal S1024x256 .bf16) (r : Fin 256) (n : Fin 2) (l : Fin 128) :
    k0_pay23 (F := Ideal) X cs sn k0_pay8 w (ix2 r (lane2 n l))
      = (turn (k0_pay25 (F := Ideal) X w (ix2 r (lane2 n l))) (k0_pay25 (F := Ideal) X w (ix2 r (lane2 n (mate l)))) (cs (ix2 r l)) (sn (ix2 r l)) : EReal) := by
  have e : k0_pay23 (F := Ideal) X cs sn k0_pay8 w
      = concatenate S256x256 1 [⟨S256x128, rope (extractStridedSlice S256x128 ![0, 0] (k0_pay25 X w) slices_S256x256_o0_0_S256x128) cs sn⟩,
          ⟨S256x128, rope (extractStridedSlice S256x128 ![0, 128] (k0_pay25 X w) slices_S256x256_o0_128_S256x128) cs sn⟩] concatenates_S256x128_S256x128_S256x256_d1 := rfl
  rw [e]
  generalize k0_pay25 X w = v
  have h0 := rope_at (extractStridedSlice S256x128 ![0, 0] v slices_S256x256_o0_0_S256x128) cs sn r l
  have h1 := rope_at (extractStridedSlice S256x128 ![0, 128] v slices_S256x256_o0_128_S256x128) cs sn r l
  revert h0 h1
  generalize rope (extractStridedSlice S256x128 ![0, 0] v slices_S256x256_o0_0_S256x128) cs sn = A
  generalize rope (extractStridedSlice S256x128 ![0, 128] v slices_S256x256_o0_128_S256x128) cs sn = B
  pointwise
  intro h0 h1
  obtain h | h : n = 0 ∨ n = 1 := by omega
  · subst h
    have e : ∀ l : Fin 128, lane2 0 l = ⟨l.val, by omega⟩ := fun l => Fin.ext (by show 128 * 0 + l.val = l.val; omega)
    rw [e, e, dif_pos l.isLt]
    exact h0
  · subst h
    have hn : ¬ (lane2 1 l).val < 128 := by show ¬ 128 * 1 + l.val < 128; omega
    have e : (⟨(lane2 1 l).val - 128, by have := (lane2 1 l).isLt; omega⟩ : Fin 128) = l := Fin.ext (by show 128 * 1 + l.val - 128 = l.val; omega)
    rw [dif_neg hn, e]
    exact h1

end Cert.Kernel7Ideal.MrgS
-- ==== Proof.MergeCS.Out.lean ====
/-
  What the body leaves in each of its seven output blocks on the sample, from the blocks it reads: the residual row; the turned and
  scaled queries; the turned keys, twice; the values, twice; and the gates.
-/
module

public import proofs.«01_k».proof.Proof.MergeCS.Pay
public import proofs.«01_k».proof.Proof.Gen.Kernel7Ideal.Frame
public import Idealize.ShloMosaic.Lib.Pipeline.Value
public import Idealize.ShloMosaic.Lib.Pipeline.ValueKit.Tiles

@[expose] public section

noncomputable section

namespace Cert.Kernel7Ideal.MrgS

open Cert.Kernel7Ideal Cert.Kernel7Ideal.Gen
open Cert.Kernel2Ideal.Proj (rms proj silu scale)
open Cert.Kernel3Ideal.Mrg (merged)
open Cert.Kernel4Ideal.MrgC (mate lo hi outp turn lane lane_zero lane2 rowcol hz2 laneOf mateOf turned turned_eq qcol kcol vcol gcol)
open Idealize.ShloMosaic

section
variable (x0 x1 : Vec Ideal S256x512 .bf16) (x2 : Vec Ideal S1024x1024 .bf16) (x3 : Vec Ideal S1x1024 .f32)
  (x4 : Vec Ideal S256x1024 .f32) (x5 : Vec Ideal S1x1024 .f32) (x6 : Vec Ideal S1024x2560 .bf16) (x7 x8 : Vec Ideal S256x128 .f32)

/-- The residual row `r` of the blocks. -/
def yb (r : Fin 256) (n : Fin 1024) : EReal :=
  merged (fun k => x4 (ix2 r k)) (outp (fun k => x0 (ix2 r k)) (fun k => x1 (ix2 r k)) (fun k j => x2 (ix2 k j))) (fun k => x3 (ix2 0 k)) n
/-- The normalized residual row `r` into column `c` of the input weights. -/
def pb (r : Fin 256) (c : Fin 2560) : EReal :=
  proj (yb x0 x1 x2 x3 x4 r) (fun k => x5 (ix2 0 k)) (fun k => x6 (ix2 k c))

theorem y_at (r : Fin 256) (n : Fin 1024) : k0_pay27 (F := Ideal) x0 x1 x2 x3 x4 x5 x6 x7 x8 (ix2 r n) = yb x0 x1 x2 x3 x4 r n := by
  have l0 : ∀ x : Vec Ideal S256x512 .bf16, View.ld (Val := Elt Ideal) (e' := .bf16) x r0_0 = x := fun x => by
    unfold r0_0; rw [View.ld_unit_zero (S := S256x512) hz2]
  have l3 : View.ld (Val := Elt Ideal) (e' := .f32) x4 r0_3 = x4 := by
    unfold r0_3; rw [View.ld_unit_zero (S := S256x1024) hz2]
  have l4 : View.ld (Val := Elt Ideal) (e' := .f32) x3 r0_4 = x3 := by
    unfold r0_4; rw [View.ld_unit_zero (S := S1x1024) hz2]
  unfold k0_pay27
  rw [pay3, l0, l0, l3, l4]
  have e1 : ∀ k j, View.ld (Val := Elt Ideal) (e' := .bf16) x2 r0_1 (ix2 k j) = x2 (ix2 (lo k) j) := fun k j =>
    View.ld_unit_apply_of (Val := Elt Ideal) (e := .bf16) x2 _ _ _ _ (ix2 (lo k) j) fun a =>
      match a with | ⟨0, _⟩ => (Nat.zero_add _).symm | ⟨1, _⟩ => (Nat.zero_add _).symm
  have e2 : ∀ k j, View.ld (Val := Elt Ideal) (e' := .bf16) x2 r0_2 (ix2 k j) = x2 (ix2 (hi k) j) := fun k j =>
    View.ld_unit_apply_of (Val := Elt Ideal) (e := .bf16) x2 _ _ _ _ (ix2 (hi k) j) fun a =>
      match a with | ⟨0, _⟩ => rfl | ⟨1, _⟩ => (Nat.zero_add _).symm
  simp only [e1, e2]
  rfl

theorem x_at (r : Fin 256) (n : Fin 1024) : k0_pay29 (F := Ideal) x0 x1 x2 x3 x4 x5 x6 x7 x8 (ix2 r n)
    = (yb x0 x1 x2 x3 x4 r n * rms (yb x0 x1 x2 x3 x4 r) * x5 (ix2 0 n) : EReal) := by
  have h := pay4 (View.ld x0 r0_0) (View.ld x2 r0_1) (View.ld x1 r0_0) (View.ld x2 r0_2) (View.ld x4 r0_3) (View.ld x3 r0_4) (View.ld x5 r0_4) r n
  have hy := y_at x0 x1 x2 x3 x4 x5 x6 x7 x8 r
  unfold k0_pay27 at hy
  simp only [hy] at h
  refine Eq.trans h ?_
  unfold r0_4
  rw [View.ld_unit_zero (S := S1x1024) hz2]

theorem row_w (off : ℕ) (inb) (r : Fin 256) (l : Fin 512) (h : off + l.val < 2560) :
    rowcol (fun k => k0_pay29 (F := Ideal) x0 x1 x2 x3 x4 x5 x6 x7 x8 (ix2 r k)) (fun k => View.ld (Val := Elt Ideal) (e' := .bf16) x6 (Rect.unit (s := S1024x2560) ![0, off] S1024x512.size inb) (ix2 k l))
      = pb x0 x1 x2 x3 x4 x5 x6 r ⟨off + l.val, h⟩ := by
  have e1 : ∀ k : Fin 1024, View.ld (Val := Elt Ideal) (e' := .bf16) x6 (Rect.unit (s := S1024x2560) ![0, off] S1024x512.size inb) (ix2 k l) = x6 (ix2 k ⟨off + l.val, h⟩) := fun k =>
    View.ld_unit_apply_of (Val := Elt Ideal) (e := .bf16) x6 _ _ _ _ (ix2 k ⟨off + l.val, h⟩) fun a =>
      match a with | ⟨0, _⟩ => (Nat.zero_add _).symm | ⟨1, _⟩ => rfl
  simp only [e1, x_at]
  rfl
theorem row_n (off : ℕ) (inb) (r : Fin 256) (l : Fin 256) (h : off + l.val < 2560) :
    rowcol (fun k => k0_pay29 (F := Ideal) x0 x1 x2 x3 x4 x5 x6 x7 x8 (ix2 r k)) (fun k => View.ld (Val := Elt Ideal) (e' := .bf16) x6 (Rect.unit (s := S1024x2560) ![0, off] S1024x256.size inb) (ix2 k l))
      = pb x0 x1 x2 x3 x4 x5 x6 r ⟨off + l.val, h⟩ := by
  have e1 : ∀ k : Fin 1024, View.ld (Val := Elt Ideal) (e' := .bf16) x6 (Rect.unit (s := S1024x2560) ![0, off] S1024x256.size inb) (ix2 k l) = x6 (ix2 k ⟨off + l.val, h⟩) := fun k =>
    View.ld_unit_apply_of (Val := Elt Ideal) (e := .bf16) x6 _ _ _ _ (ix2 k ⟨off + l.val, h⟩) fun a =>
      match a with | ⟨0, _⟩ => (Nat.zero_add _).symm | ⟨1, _⟩ => rfl
  simp only [e1, x_at]
  rfl
theorem cos_eq : k0_pay30 (F := Ideal) x0 x1 x2 x3 x4 x5 x6 x7 x8 = x7 := by
  unfold k0_pay30 r0_5
  rw [pay6, View.ld_unit_zero (S := S256x128) hz2]
theorem sin_eq : k0_pay31 (F := Ideal) x0 x1 x2 x3 x4 x5 x6 x7 x8 = x8 := by
  unfold k0_pay31 r0_5
  rw [pay7, View.ld_unit_zero (S := S256x128) hz2]

theorem out9 (r : Fin 256) (n : Fin 1024) : out0_9 (F := Ideal) x0 x1 x2 x3 x4 x5 x6 x7 x8 (ix2 r n) = yb x0 x1 x2 x3 x4 r n := by
  unfold out0_9
  rw [View.canon_unit_zero hz2]
  exact y_at x0 x1 x2 x3 x4 x5 x6 x7 x8 r n

theorem out12 (r : Fin 256) (l : Fin 256) : out0_12 (F := Ideal) x0 x1 x2 x3 x4 x5 x6 x7 x8 (ix2 r l) = pb x0 x1 x2 x3 x4 x5 x6 r (vcol l) := by
  unfold out0_12
  rw [View.canon_unit_zero hz2, pay26]
  exact row_n x0 x1 x2 x3 x4 x5 x6 x7 x8 1280 _ r l _
theorem key_at (r : Fin 256) (l : Fin 256) :
    k0_pay23 (F := Ideal) (k0_pay29 x0 x1 x2 x3 x4 x5 x6 x7 x8) x7 x8 k0_pay8 (View.ld x6 r0_16) (ix2 r l)
      = turned (pb x0 x1 x2 x3 x4 x5 x6 r) (fun j => x7 (ix2 r j)) (fun j => x8 (ix2 r j)) (kcol l) := by
  obtain ⟨n, j, rfl⟩ : ∃ n j, l = lane2 n j :=
    ⟨⟨l.val / 128, by omega⟩, ⟨l.val % 128, by omega⟩, Fin.ext (by show l.val = 128 * (l.val / 128) + l.val % 128; omega)⟩
  rw [pay23, pay25, pay25, row_n x0 x1 x2 x3 x4 x5 x6 x7 x8 1024 _ r _ (by have := (lane2 n j).isLt; omega), row_n x0 x1 x2 x3 x4 x5 x6 x7 x8 1024 _ r _ (by have := (lane2 n (mate j)).isLt; omega)]
  exact turned_eq (pb x0 x1 x2 x3 x4 x5 x6 r) (fun j => x7 (ix2 r j)) (fun j => x8 (ix2 r j)) (kcol (lane2 n j)) _ _ (1024 + 128 * n.val) j (by omega)
    (by show 1024 + (128 * n.val + j.val) = _; omega) (by show 1024 + (128 * n.val + j.val) = _; omega)
    (by show 1024 + (128 * n.val + (mate j).val) = _; omega)
theorem out11 (r : Fin 256) (l : Fin 256) : out0_11 (F := Ideal) x0 x1 x2 x3 x4 x5 x6 x7 x8 (ix2 r l)
    = turned (pb x0 x1 x2 x3 x4 x5 x6 r) (fun j => x7 (ix2 r j)) (fun j => x8 (ix2 r j)) (kcol l) := by
  unfold out0_11
  rw [View.canon_unit_zero hz2, cos_eq, sin_eq]
  exact key_at x0 x1 x2 x3 x4 x5 x6 x7 x8 r l
theorem out14 (r : Fin 256) (l : Fin 256) : out0_14 (F := Ideal) x0 x1 x2 x3 x4 x5 x6 x7 x8 (ix2 r l)
    = turned (pb x0 x1 x2 x3 x4 x5 x6 r) (fun j => x7 (ix2 r j)) (fun j => x8 (ix2 r j)) (kcol l) := by
  unfold out0_14
  rw [View.canon_unit_zero hz2, cos_eq, sin_eq]
  exact key_at x0 x1 x2 x3 x4 x5 x6 x7 x8 r l
theorem out15 (r : Fin 256) (l : Fin 256) : out0_15 (F := Ideal) x0 x1 x2 x3 x4 x5 x6 x7 x8 (ix2 r l) = pb x0 x1 x2 x3 x4 x5 x6 r (vcol l) := by
  unfold out0_15
  rw [View.canon_unit_zero hz2, pay25]
  exact row_n x0 x1 x2 x3 x4 x5 x6 x7 x8 1280 _ r l _

theorem out13 (y : S256x1024.Idx) : out0_13 (F := Ideal) x0 x1 x2 x3 x4 x5 x6 x7 x8 y = silu (pb x0 x1 x2 x3 x4 x5 x6 (y 0) (gcol (y 1))) := by
  canon_tiles x h using cover0_13 (F := Ideal) _ _ y
  · obtain ⟨r, l, rfl⟩ : ∃ r l, x = ix2 r l := ⟨x 0, x 1, eq_ix2 x⟩
    have e0 : y 0 = r := Fin.ext h0
    have e1 : (⟨2048 + l.val, by omega⟩ : Fin 2560) = gcol (y 1) := Fin.ext (by
      have h1' : (y 1).val = 512 + l.val := h1
      show 2048 + l.val = 1536 + (y 1).val
      omega)
    rw [pay2, e0, ← e1, row_w x0 x1 x2 x3 x4 x5 x6 x7 x8 2048 _ r l _]
  · obtain ⟨r, l, rfl⟩ : ∃ r l, x = ix2 r l := ⟨x 0, x 1, eq_ix2 x⟩
    have e0 : y 0 = r := Fin.ext h0
    have e1 : (⟨1536 + l.val, by omega⟩ : Fin 2560) = gcol (y 1) := Fin.ext (by
      have h1' : (y 1).val = 0 + l.val := h1.trans (Nat.zero_add _).symm
      show 1536 + l.val = 1536 + (y 1).val
      omega)
    rw [pay1, e0, ← e1, row_w x0 x1 x2 x3 x4 x5 x6 x7 x8 1536 _ r l _]

theorem q_fin (y : S256x1024.Idx) (r : Fin 256) (l : Fin 128) (off : ℕ) (a b : Fin 2560) (h0 : (y 0).val = r.val) (h1 : (y 1).val = off + l.val)
    (ho : off % 128 = 0) (ha : a.val = off + l.val) (hb : b.val = off + (mate l).val) :
    (turn (pb x0 x1 x2 x3 x4 x5 x6 r a) (pb x0 x1 x2 x3 x4 x5 x6 r b) (x7 (ix2 r l)) (x8 (ix2 r l)) * scale : EReal)
      = turned (pb x0 x1 x2 x3 x4 x5 x6 (y 0)) (fun j => x7 (ix2 (y 0) j)) (fun j => x8 (ix2 (y 0) j)) (qcol (y 1)) * scale := by
  have e0 : y 0 = r := Fin.ext h0
  rw [e0]
  exact congrArg (fun z : EReal => z * scale) (turned_eq (pb x0 x1 x2 x3 x4 x5 x6 r) (fun j => x7 (ix2 r j)) (fun j => x8 (ix2 r j)) (qcol (y 1)) a b off l ho h1 ha hb)
theorem q0_at (r : Fin 256) (l : Fin 512) :
    k0_pay9 (F := Ideal) (k0_pay27 x0 x1 x2 x3 x4 x5 x6 x7 x8) (k0_pay28 x0 x1 x2 x3 x4 x5 x6 x7 x8) (View.ld x5 r0_4) (View.ld x6 r0_6) (ix2 r l) = pb x0 x1 x2 x3 x4 x5 x6 r ⟨0 + l.val, by omega⟩ :=
  (pay9 _ _ _ _ r l).trans (row_w x0 x1 x2 x3 x4 x5 x6 x7 x8 0 _ r l _)
theorem q1_at (r : Fin 256) (l : Fin 512) :
    k0_pay15 (F := Ideal) (k0_pay29 x0 x1 x2 x3 x4 x5 x6 x7 x8) (View.ld x6 r0_11) (ix2 r l) = pb x0 x1 x2 x3 x4 x5 x6 r ⟨512 + l.val, by omega⟩ :=
  (pay15 _ _ r l).trans (row_w x0 x1 x2 x3 x4 x5 x6 x7 x8 512 _ r l _)

theorem out10 (y : S256x1024.Idx) : out0_10 (F := Ideal) x0 x1 x2 x3 x4 x5 x6 x7 x8 y
    = turned (pb x0 x1 x2 x3 x4 x5 x6 (y 0)) (fun j => x7 (ix2 (y 0) j)) (fun j => x8 (ix2 (y 0) j)) (qcol (y 1)) * scale := by
  unfold out0_10
  rw [cos_eq, sin_eq]
  canon_tiles x h using cover0_10 (F := Ideal) _ _ _ _ _ _ _ _ y
  · obtain ⟨r, l, rfl⟩ : ∃ r l, x = ix2 r l := ⟨x 0, x 1, eq_ix2 x⟩
    refine Eq.trans (pay22 (k0_pay29 x0 x1 x2 x3 x4 x5 x6 x7 x8) x7 x8 (View.ld x6 r0_11) r l) ?_
    rw [q1_at, q1_at]
    exact q_fin x0 x1 x2 x3 x4 x5 x6 x7 x8 y r l 896 _ _ h0 h1 (by decide)
      (by show 512 + (128 * 3 + l.val) = 896 + l.val; omega) (by show 512 + (128 * 3 + (mate l).val) = 896 + (mate l).val; omega)
  · obtain ⟨r, l, rfl⟩ : ∃ r l, x = ix2 r l := ⟨x 0, x 1, eq_ix2 x⟩
    refine Eq.trans (pay18 (k0_pay29 x0 x1 x2 x3 x4 x5 x6 x7 x8) x7 x8 (View.ld x6 r0_11) r l) ?_
    rw [q1_at, q1_at]
    exact q_fin x0 x1 x2 x3 x4 x5 x6 x7 x8 y r l 768 _ _ h0 h1 (by decide)
      (by show 512 + (128 * 2 + l.val) = 768 + l.val; omega) (by show 512 + (128 * 2 + (mate l).val) = 768 + (mate l).val; omega)
  · obtain ⟨r, l, rfl⟩ : ∃ r l, x = ix2 r l := ⟨x 0, x 1, eq_ix2 x⟩
    refine Eq.trans (pay17 (k0_pay29 x0 x1 x2 x3 x4 x5 x6 x7 x8) x7 x8 (View.ld x6 r0_11) r l) ?_
    rw [q1_at, q1_at]
    exact q_fin x0 x1 x2 x3 x4 x5 x6 x7 x8 y r l 640 _ _ h0 h1 (by decide)
      (by show 512 + (128 * 1 + l.val) = 640 + l.val; omega) (by show 512 + (128 * 1 + (mate l).val) = 640 + (mate l).val; omega)
  · obtain ⟨r, l, rfl⟩ : ∃ r l, x = ix2 r l := ⟨x 0, x 1, eq_ix2 x⟩
    refine Eq.trans (pay16 (k0_pay29 x0 x1 x2 x3 x4 x5 x6 x7 x8) x7 x8 (View.ld x6 r0_11) r l) ?_
    rw [q1_at, q1_at]
    exact q_fin x0 x1 x2 x3 x4 x5 x6 x7 x8 y r l 512 _ _ h0 h1 (by decide)
      (by show 512 + (128 * 0 + l.val) = 512 + l.val; omega) (by show 512 + (128 * 0 + (mate l).val) = 512 + (mate l).val; omega)
  · obtain ⟨r, l, rfl⟩ : ∃ r l, x = ix2 r l := ⟨x 0, x 1, eq_ix2 x⟩
    refine Eq.trans (pay14 x7 x8 (k0_pay33 x0 x1 x2 x3 x4 x5 x6 x7 x8) r l) ?_
    unfold k0_pay33
    rw [q0_at, q0_at]
    exact q_fin x0 x1 x2 x3 x4 x5 x6 x7 x8 y r l 384 _ _ h0 h1 (by decide)
      (by show 0 + (128 * 3 + l.val) = 384 + l.val; omega) (by show 0 + (128 * 3 + (mate l).val) = 384 + (mate l).val; omega)
  · obtain ⟨r, l, rfl⟩ : ∃ r l, x = ix2 r l := ⟨x 0, x 1, eq_ix2 x⟩
    refine Eq.trans (pay13 x7 x8 (k0_pay33 x0 x1 x2 x3 x4 x5 x6 x7 x8) r l) ?_
    unfold k0_pay33
    rw [q0_at, q0_at]
    exact q_fin x0 x1 x2 x3 x4 x5 x6 x7 x8 y r l 256 _ _ h0 h1 (by decide)
      (by show 0 + (128 * 2 + l.val) = 256 + l.val; omega) (by show 0 + (128 * 2 + (mate l).val) = 256 + (mate l).val; omega)
  · obtain ⟨r, l, rfl⟩ : ∃ r l, x = ix2 r l := ⟨x 0, x 1, eq_ix2 x⟩
    refine Eq.trans (pay12 x7 x8 (k0_pay33 x0 x1 x2 x3 x4 x5 x6 x7 x8) r l) ?_
    unfold k0_pay33
    rw [q0_at, q0_at]
    exact q_fin x0 x1 x2 x3 x4 x5 x6 x7 x8 y r l 128 _ _ h0 h1 (by decide)
      (by show 0 + (128 * 1 + l.val) = 128 + l.val; omega) (by show 0 + (128 * 1 + (mate l).val) = 128 + (mate l).val; omega)
  · obtain ⟨r, l, rfl⟩ : ∃ r l, x = ix2 r l := ⟨x 0, x 1, eq_ix2 x⟩
    refine Eq.trans (pay11 (k0_pay27 x0 x1 x2 x3 x4 x5 x6 x7 x8) (k0_pay28 x0 x1 x2 x3 x4 x5 x6 x7 x8) (View.ld x5 r0_4) (View.ld x7 r0_5) (View.ld x8 r0_5) (View.ld x6 r0_6) r l) ?_
    rw [q0_at, q0_at]
    unfold r0_5
    rw [View.ld_unit_zero (S := S256x128) hz2, View.ld_unit_zero (S := S256x128) hz2]
    exact q_fin x0 x1 x2 x3 x4 x5 x6 x7 x8 y r l 0 _ _ h0 (h1.trans (Nat.zero_add _).symm) (by decide)
      (by show 0 + (128 * 0 + l.val) = 0 + l.val; omega) (by show 0 + (128 * 0 + (mate l).val) = 0 + (mate l).val; omega)
end

end Cert.Kernel7Ideal.MrgS
-- ==== Proof.MergeCS.Blocks.lean ====
/-
  The seven result arrays of the merge into mixer C's inputs on the sample, index by index: the whole sample is one block of 256
  rows, and the angles have a row for each of its rows.
-/
module

public import proofs.«01_k».proof.Proof.MergeC.Blocks
public import proofs.«01_k».proof.Proof.MergeCS.Out
public import proofs.«01_k».proof.Proof.Gen.Kernel7Ideal.Points
public import Idealize.ShloMosaic.Lib.Pipeline.Covers

@[expose] public section

set_option maxRecDepth 16384

noncomputable section

namespace Cert.Kernel7Ideal.MrgS

open Cert.Kernel7Ideal Cert.Kernel7Ideal.Gen
open Idealize.ShloMosaic Idealize.ShloMosaic.TcCoe
open Idealize.SL Idealize.SL.Sem
open Idealize.ShloMosaic.Pipeline (Dat Cfg Window)
open Cert.Kernel2Ideal.Proj (rms proj silu scale)
open Cert.Kernel3Ideal.Mrg (merged)
open Cert.Kernel4Ideal.MrgC (outp turned qcol kcol vcol gcol turned_congr)

variable (m : (ℓ : Loc nD τ sig) → Buf (Elt Ideal) ℓ)

/-- Row `r` of point `t`'s rows. -/
def rowAt (t : Fin cfg0.N) (r : Fin 256) : Fin 256 := ⟨t.val * 256 + r.val, by have h : t.val < 1 := t.isLt; omega⟩
/-- Residual row `r`, from the arrays the call is given. -/
def ya (c : Dev nD) (r : Fin 256) (n : Fin 1024) : EReal :=
  merged (fun k => V m c main_v16 (ix2 r k))
    (outp (fun k => V m c main_v11 (ix2 r k)) (fun k => V m c main_v13 (ix2 r k)) (fun k j => V m c main_v14 (ix2 k j)))
    (fun k => V m c main_v15 (ix2 0 k)) n
/-- The normalized residual row `r` into column `l` of the input weights. -/
def pa (c : Dev nD) (r : Fin 256) (l : Fin 2560) : EReal :=
  proj (ya m c r) (fun k => V m c main_v44 (ix2 0 k)) (fun k => V m c main_v45 (ix2 k l))
/-- Column `l` of row `r`, turned by the row's angles. -/
def ta (c : Dev nD) (r : Fin 256) (l : Fin 2560) : EReal :=
  turned (pa m c r) (fun j => V m c main_v37 (ix2 r j)) (fun j => V m c main_v43 (ix2 r j)) l

theorem tr0 : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)
theorem tr7 : ∀ t : Fin cfg0.N, cc0_transform_7 (grid0.coords t) 0 = 0 ∧ cc0_transform_7 (grid0.coords t) 1 = 0 :=
  (by decide +kernel : ∀ t : Fin grid0.N, cc0_transform_7 (grid0.coords t) 0 = 0 ∧ cc0_transform_7 (grid0.coords t) 1 = 0)
theorem tr14 : ∀ t : Fin cfg0.N, cc0_transform_14 (grid0.coords t) 0 = t.val ∧ cc0_transform_14 (grid0.coords t) 1 = 0 :=
  (by decide +kernel : ∀ t : Fin grid0.N, cc0_transform_14 (grid0.coords t) 0 = t.val ∧ cc0_transform_14 (grid0.coords t) 1 = 0)

/-- Where an index of a block of 512-wide rows lies. -/
theorem emb0 (t : Fin cfg0.N) (r : Fin 256) (k : Fin 512) : ((cfg0.win 0).blk t).view.emb (ix2 (n0 := 256) (n1 := 512) r k) = ix2 (n0 := 256) (n1 := 512) (rowAt t r) k := by
  obtain ⟨e0, e1⟩ := tr0 t
  funext a; apply Fin.ext
  match a with
  | ⟨0, _⟩ => show cc0_transform_0 (grid0.coords t) (0 : Fin 2) * 256 + 1 * r.val = t.val * 256 + r.val; rw [e0]; omega
  | ⟨1, _⟩ => show cc0_transform_0 (grid0.coords t) (1 : Fin 2) * 512 + 1 * k.val = k.val; rw [e1]; omega
/-- Where an index of a block of 1024-wide rows lies. -/
theorem emb4 (t : Fin cfg0.N) (r : Fin 256) (k : Fin 1024) : ((cfg0.win 4).blk t).view.emb (ix2 (n0 := 256) (n1 := 1024) r k) = ix2 (n0 := 256) (n1 := 1024) (rowAt t r) k := by
  obtain ⟨e0, e1⟩ := tr0 t
  funext a; apply Fin.ext
  match a with
  | ⟨0, _⟩ => show cc0_transform_0 (grid0.coords t) (0 : Fin 2) * 256 + 1 * r.val = t.val * 256 + r.val; rw [e0]; omega
  | ⟨1, _⟩ => show cc0_transform_0 (grid0.coords t) (1 : Fin 2) * 1024 + 1 * k.val = k.val; rw [e1]; omega
/-- Where an index of a block of 256-wide rows lies. -/
theorem emb11 (t : Fin cfg0.N) (r : Fin 256) (k : Fin 256) : ((cfg0.win 11).blk t).view.emb (ix2 (n0 := 256) (n1 := 256) r k) = ix2 (n0 := 256) (n1 := 256) (rowAt t r) k := by
  obtain ⟨e0, e1⟩ := tr0 t
  funext a; apply Fin.ext
  match a with
  | ⟨0, _⟩ => show cc0_transform_0 (grid0.coords t) (0 : Fin 2) * 256 + 1 * r.val = t.val * 256 + r.val; rw [e0]; omega
  | ⟨1, _⟩ => show cc0_transform_0 (grid0.coords t) (1 : Fin 2) * 256 + 1 * k.val = k.val; rw [e1]; omega
/-- Where an index of a block of angles lies. -/
theorem emb7 (t : Fin cfg0.N) (r : Fin 256) (k : Fin 128) : ((cfg0.win 7).blk t).view.emb (ix2 (n0 := 256) (n1 := 128) r k) = ix2 (n0 := 256) (n1 := 128) (rowAt t r) k := by
  obtain ⟨e0, e1⟩ := tr7 t
  funext a; apply Fin.ext
  match a with
  | ⟨0, _⟩ => show cc0_transform_7 (grid0.coords t) (0 : Fin 2) * 256 + 1 * r.val = (rowAt t r).val; rw [e0]; have h : t.val < 1 := t.isLt; show _ = t.val * 256 + r.val; omega
  | ⟨1, _⟩ => show cc0_transform_7 (grid0.coords t) (1 : Fin 2) * 128 + 1 * k.val = k.val; rw [e1]; omega
/-- Where an index of a block of 256-wide rows kept in full lies. -/
theorem emb14 (t : Fin cfg0.N) (r : Fin 256) (k : Fin 256) : ((cfg0.win 14).blk t).view.emb (ix2 (n0 := 256) (n1 := 256) r k) = ix2 (n0 := 256) (n1 := 256) (rowAt t r) k := by
  obtain ⟨e0, e1⟩ := tr14 t
  funext a; apply Fin.ext
  match a with
  | ⟨0, _⟩ => show cc0_transform_14 (grid0.coords t) (0 : Fin 2) * 256 + 1 * r.val = t.val * 256 + r.val; rw [e0]; omega
  | ⟨1, _⟩ => show cc0_transform_14 (grid0.coords t) (1 : Fin 2) * 256 + 1 * k.val = k.val; rw [e1]; omega
theorem emb2 (t : Fin cfg0.N) (k : Fin 1024) (n : Fin 1024) : ((cfg0.win 2).blk t).view.emb (ix2 (n0 := 1024) (n1 := 1024) k n) = ix2 (n0 := 1024) (n1 := 1024) k n := by
  funext a; apply Fin.ext
  match a with
  | ⟨0, _⟩ => show 0 * 1024 + 1 * k.val = k.val; omega
  | ⟨1, _⟩ => show 0 * 1024 + 1 * n.val = n.val; omega
theorem emb6 (t : Fin cfg0.N) (k : Fin 1024) (n : Fin 2560) : ((cfg0.win 6).blk t).view.emb (ix2 (n0 := 1024) (n1 := 2560) k n) = ix2 (n0 := 1024) (n1 := 2560) k n := by
  funext a; apply Fin.ext
  match a with
  | ⟨0, _⟩ => show 0 * 1024 + 1 * k.val = k.val; omega
  | ⟨1, _⟩ => show 0 * 2560 + 1 * n.val = n.val; omega
theorem emb3 (t : Fin cfg0.N) (k : Fin 1024) : ((cfg0.win 3).blk t).view.emb (ix2 (n0 := 1) (n1 := 1024) 0 k) = ix2 (n0 := 1) (n1 := 1024) 0 k := by
  funext a; apply Fin.ext
  match a with
  | ⟨0, _⟩ => rfl
  | ⟨1, _⟩ => show 0 * 1024 + 1 * k.val = k.val; omega

theorem iblk0_at (c : Dev nD) (t : Fin cfg0.N) (r : Fin 256) (k : Fin 512) :
    iblk m c 0 t (ix2 (n0 := 256) (n1 := 512) r k) = V m c main_v11 (ix2 (n0 := 256) (n1 := 512) (rowAt t r) k) :=
  congrArg (V m c main_v11) (emb0 t r k)
theorem iblk1_at (c : Dev nD) (t : Fin cfg0.N) (r : Fin 256) (k : Fin 512) :
    iblk m c 1 t (ix2 (n0 := 256) (n1 := 512) r k) = V m c main_v13 (ix2 (n0 := 256) (n1 := 512) (rowAt t r) k) :=
  congrArg (V m c main_v13) (emb0 t r k)
theorem iblk4_at (c : Dev nD) (t : Fin cfg0.N) (r : Fin 256) (k : Fin 1024) :
    iblk m c 4 t (ix2 (n0 := 256) (n1 := 1024) r k) = V m c main_v16 (ix2 (n0 := 256) (n1 := 1024) (rowAt t r) k) :=
  congrArg (V m c main_v16) (emb4 t r k)
theorem iblk2_at (c : Dev nD) (t : Fin cfg0.N) (r : Fin 1024) (k : Fin 1024) :
    iblk m c 2 t (ix2 (n0 := 1024) (n1 := 1024) r k) = V m c main_v14 (ix2 (n0 := 1024) (n1 := 1024) r k) :=
  congrArg (V m c main_v14) (emb2 t r k)
theorem iblk6_at (c : Dev nD) (t : Fin cfg0.N) (r : Fin 1024) (k : Fin 2560) :
    iblk m c 6 t (ix2 (n0 := 1024) (n1 := 2560) r k) = V m c main_v45 (ix2 (n0 := 1024) (n1 := 2560) r k) :=
  congrArg (V m c main_v45) (emb6 t r k)
theorem iblk7_at (c : Dev nD) (t : Fin cfg0.N) (r : Fin 256) (k : Fin 128) :
    iblk m c 7 t (ix2 (n0 := 256) (n1 := 128) r k) = V m c main_v37 (ix2 (n0 := 256) (n1 := 128) (rowAt t r) k) :=
  congrArg (V m c main_v37) (emb7 t r k)
theorem iblk8_at (c : Dev nD) (t : Fin cfg0.N) (r : Fin 256) (k : Fin 128) :
    iblk m c 8 t (ix2 (n0 := 256) (n1 := 128) r k) = V m c main_v43 (ix2 (n0 := 256) (n1 := 128) (rowAt t r) k) :=
  congrArg (V m c main_v43) (emb7 t r k)
theorem iblk3_at (c : Dev nD) (t : Fin cfg0.N) (k : Fin 1024) :
    iblk m c 3 t (ix2 (n0 := 1) (n1 := 1024) 0 k) = V m c main_v15 (ix2 (n0 := 1) (n1 := 1024) 0 k) :=
  congrArg (V m c main_v15) (emb3 t k)
theorem iblk5_at (c : Dev nD) (t : Fin cfg0.N) (k : Fin 1024) :
    iblk m c 5 t (ix2 (n0 := 1) (n1 := 1024) 0 k) = V m c main_v44 (ix2 (n0 := 1) (n1 := 1024) 0 k) :=
  congrArg (V m c main_v44) (emb3 t k)

/-- A block's residual row is the arrays'. -/
theorem yb_eq (c : Dev nD) (t : Fin cfg0.N) (r : Fin 256) : yb (iblk m c 0 t) (iblk m c 1 t) (iblk m c 2 t) (iblk m c 3 t) (iblk m c 4 t) r = ya m c (rowAt t r) := by
  have e := congr (congr (congrArg merged (funext fun k => iblk4_at m c t r k))
    (congr (congr (congrArg outp (funext fun k => iblk0_at m c t r k)) (funext fun k => iblk1_at m c t r k)) (funext fun k => funext fun j => iblk2_at m c t k j)))
    (funext fun k => iblk3_at m c t k)
  exact e
/-- A block's row of products is the arrays'. -/
theorem pb_eq (c : Dev nD) (t : Fin cfg0.N) (r : Fin 256) : pb (iblk m c 0 t) (iblk m c 1 t) (iblk m c 2 t) (iblk m c 3 t) (iblk m c 4 t) (iblk m c 5 t) (iblk m c 6 t) r = pa m c (rowAt t r) := by
  funext l
  have e := congr (congr (congrArg proj (yb_eq m c t r)) (funext fun k => iblk5_at m c t k)) (funext fun k => iblk6_at m c t k l)
  exact e
/-- A block's turned column is the arrays'. -/
theorem tb_eq (c : Dev nD) (t : Fin cfg0.N) (r : Fin 256) (l : Fin 2560) :
    turned (pb (iblk m c 0 t) (iblk m c 1 t) (iblk m c 2 t) (iblk m c 3 t) (iblk m c 4 t) (iblk m c 5 t) (iblk m c 6 t) r) (fun j => iblk m c 7 t (ix2 (n0 := 256) (n1 := 128) r j)) (fun j => iblk m c 8 t (ix2 (n0 := 256) (n1 := 128) r j)) l = ta m c (rowAt t r) l := by
  unfold ta
  have e := turned_congr l (pb_eq m c t r) (funext fun j => iblk7_at m c t r j) (funext fun j => iblk8_at m c t r j)
  exact e
/-- The array of output 9. -/
def G9 (c : Dev nD) : Vec Ideal S256x1024 .f32 := fun i => (ya m c (i 0) (i 1) : EReal)
theorem flushed9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  funext y
  obtain ⟨r, l, rfl⟩ : ∃ (r : Fin 256) (l : Fin 1024), (y : S256x1024.Idx) = ix2 r l := ⟨y 0, y 1, funext fun a => match a with | ⟨0, _⟩ => rfl | ⟨1, _⟩ => rfl⟩
  refine Eq.trans ?_ (congrArg (G9 m c) (emb4 t r l)).symm
  refine Eq.trans (out9 (iblk m c 0 t) (iblk m c 1 t) (iblk m c 2 t) (iblk m c 3 t) (iblk m c 4 t) (iblk m c 5 t) (iblk m c 6 t) (iblk m c 7 t) (iblk m c 8 t) r l) ?_
  exact congrFun (yb_eq m c t r) l
theorem covered9 (i : S256x1024.Idx) :
    ∃ t : Fin cfg0.N, (cfg0.win 9).flush t = true ∧ i ∈ ((cfg0.win 9).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_9 _, ?_⟩
  have h := ((cfg0.win 9).blk t).view.emb_mem_set (ix2 (n0 := 256) (n1 := 1024) ⟨(i 0).val % 256, Nat.mod_lt _ (by decide)⟩ (i 1))
  have e : ((cfg0.win 9).blk t).view.emb (ix2 (n0 := 256) (n1 := 1024) ⟨(i 0).val % 256, Nat.mod_lt _ (by decide)⟩ (i 1)) = i := (emb4 t ⟨(i 0).val % 256, Nat.mod_lt _ (by decide)⟩ (i 1)).trans (show ix2 (n0 := 256) (n1 := 1024) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final9 (c : Dev nD) : (dats m 0 c).arrAt 9 cfg0.N = G9 m c :=
  (dats m 0 c).arrAt_eq_of_cover 9 (G9 m c) (fun t _ => flushed9 m c t) covered9

/-- The array of output 10. -/
def G10 (c : Dev nD) : Vec Ideal S256x1024 .bf16 := fun i => (ta m c (i 0) (qcol (i 1)) * scale : EReal)
theorem flushed10 (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  funext y
  obtain ⟨r, l, rfl⟩ : ∃ (r : Fin 256) (l : Fin 1024), (y : S256x1024.Idx) = ix2 r l := ⟨y 0, y 1, funext fun a => match a with | ⟨0, _⟩ => rfl | ⟨1, _⟩ => rfl⟩
  refine Eq.trans ?_ (congrArg (G10 m c) (emb4 t r l)).symm
  refine Eq.trans (out10 (iblk m c 0 t) (iblk m c 1 t) (iblk m c 2 t) (iblk m c 3 t) (iblk m c 4 t) (iblk m c 5 t) (iblk m c 6 t) (iblk m c 7 t) (iblk m c 8 t) (ix2 r l)) ?_
  exact congrArg (fun z : EReal => z * scale) (tb_eq m c t r (qcol l))
theorem covered10 (i : S256x1024.Idx) :
    ∃ t : Fin cfg0.N, (cfg0.win 10).flush t = true ∧ i ∈ ((cfg0.win 10).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_10 _, ?_⟩
  have h := ((cfg0.win 10).blk t).view.emb_mem_set (ix2 (n0 := 256) (n1 := 1024) ⟨(i 0).val % 256, Nat.mod_lt _ (by decide)⟩ (i 1))
  have e : ((cfg0.win 10).blk t).view.emb (ix2 (n0 := 256) (n1 := 1024) ⟨(i 0).val % 256, Nat.mod_lt _ (by decide)⟩ (i 1)) = i := (emb4 t ⟨(i 0).val % 256, Nat.mod_lt _ (by decide)⟩ (i 1)).trans (show ix2 (n0 := 256) (n1 := 1024) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final10 (c : Dev nD) : (dats m 0 c).arrAt 10 cfg0.N = G10 m c :=
  (dats m 0 c).arrAt_eq_of_cover 10 (G10 m c) (fun t _ => flushed10 m c t) covered10

/-- The array of output 11. -/
def G11 (c : Dev nD) : Vec Ideal S256x256 .bf16 := fun i => (ta m c (i 0) (kcol (i 1)) : EReal)
theorem flushed11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  funext y
  obtain ⟨r, l, rfl⟩ : ∃ (r : Fin 256) (l : Fin 256), (y : S256x256.Idx) = ix2 r l := ⟨y 0, y 1, funext fun a => match a with | ⟨0, _⟩ => rfl | ⟨1, _⟩ => rfl⟩
  refine Eq.trans ?_ (congrArg (G11 m c) (emb11 t r l)).symm
  refine Eq.trans (out11 (iblk m c 0 t) (iblk m c 1 t) (iblk m c 2 t) (iblk m c 3 t) (iblk m c 4 t) (iblk m c 5 t) (iblk m c 6 t) (iblk m c 7 t) (iblk m c 8 t) r l) ?_
  exact tb_eq m c t r (kcol l)
theorem covered11 (i : S256x256.Idx) :
    ∃ t : Fin cfg0.N, (cfg0.win 11).flush t = true ∧ i ∈ ((cfg0.win 11).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_11 _, ?_⟩
  have h := ((cfg0.win 11).blk t).view.emb_mem_set (ix2 (n0 := 256) (n1 := 256) ⟨(i 0).val % 256, Nat.mod_lt _ (by decide)⟩ (i 1))
  have e : ((cfg0.win 11).blk t).view.emb (ix2 (n0 := 256) (n1 := 256) ⟨(i 0).val % 256, Nat.mod_lt _ (by decide)⟩ (i 1)) = i := (emb11 t ⟨(i 0).val % 256, Nat.mod_lt _ (by decide)⟩ (i 1)).trans (show ix2 (n0 := 256) (n1 := 256) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final11 (c : Dev nD) : (dats m 0 c).arrAt 11 cfg0.N = G11 m c :=
  (dats m 0 c).arrAt_eq_of_cover 11 (G11 m c) (fun t _ => flushed11 m c t) covered11

/-- The array of output 12. -/
def G12 (c : Dev nD) : Vec Ideal S256x256 .bf16 := fun i => (pa m c (i 0) (vcol (i 1)) : EReal)
theorem flushed12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  funext y
  obtain ⟨r, l, rfl⟩ : ∃ (r : Fin 256) (l : Fin 256), (y : S256x256.Idx) = ix2 r l := ⟨y 0, y 1, funext fun a => match a with | ⟨0, _⟩ => rfl | ⟨1, _⟩ => rfl⟩
  refine Eq.trans ?_ (congrArg (G12 m c) (emb11 t r l)).symm
  refine Eq.trans (out12 (iblk m c 0 t) (iblk m c 1 t) (iblk m c 2 t) (iblk m c 3 t) (iblk m c 4 t) (iblk m c 5 t) (iblk m c 6 t) (iblk m c 7 t) (iblk m c 8 t) r l) ?_
  exact congrFun (pb_eq m c t r) (vcol l)
theorem covered12 (i : S256x256.Idx) :
    ∃ t : Fin cfg0.N, (cfg0.win 12).flush t = true ∧ i ∈ ((cfg0.win 12).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_12 _, ?_⟩
  have h := ((cfg0.win 12).blk t).view.emb_mem_set (ix2 (n0 := 256) (n1 := 256) ⟨(i 0).val % 256, Nat.mod_lt _ (by decide)⟩ (i 1))
  have e : ((cfg0.win 12).blk t).view.emb (ix2 (n0 := 256) (n1 := 256) ⟨(i 0).val % 256, Nat.mod_lt _ (by decide)⟩ (i 1)) = i := (emb11 t ⟨(i 0).val % 256, Nat.mod_lt _ (by decide)⟩ (i 1)).trans (show ix2 (n0 := 256) (n1 := 256) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final12 (c : Dev nD) : (dats m 0 c).arrAt 12 cfg0.N = G12 m c :=
  (dats m 0 c).arrAt_eq_of_cover 12 (G12 m c) (fun t _ => flushed12 m c t) covered12

/-- The array of output 13. -/
def G13 (c : Dev nD) : Vec Ideal S256x1024 .bf16 := fun i => (silu (pa m c (i 0) (gcol (i 1))) : EReal)
theorem flushed13 (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  funext y
  obtain ⟨r, l, rfl⟩ : ∃ (r : Fin 256) (l : Fin 1024), (y : S256x1024.Idx) = ix2 r l := ⟨y 0, y 1, funext fun a => match a with | ⟨0, _⟩ => rfl | ⟨1, _⟩ => rfl⟩
  refine Eq.trans ?_ (congrArg (G13 m c) (emb4 t r l)).symm
  refine Eq.trans (out13 (iblk m c 0 t) (iblk m c 1 t) (iblk m c 2 t) (iblk m c 3 t) (iblk m c 4 t) (iblk m c 5 t) (iblk m c 6 t) (iblk m c 7 t) (iblk m c 8 t) (ix2 r l)) ?_
  exact congrArg silu (congrFun (pb_eq m c t r) (gcol l))
theorem covered13 (i : S256x1024.Idx) :
    ∃ t : Fin cfg0.N, (cfg0.win 13).flush t = true ∧ i ∈ ((cfg0.win 13).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_13 _, ?_⟩
  have h := ((cfg0.win 13).blk t).view.emb_mem_set (ix2 (n0 := 256) (n1 := 1024) ⟨(i 0).val % 256, Nat.mod_lt _ (by decide)⟩ (i 1))
  have e : ((cfg0.win 13).blk t).view.emb (ix2 (n0 := 256) (n1 := 1024) ⟨(i 0).val % 256, Nat.mod_lt _ (by decide)⟩ (i 1)) = i := (emb4 t ⟨(i 0).val % 256, Nat.mod_lt _ (by decide)⟩ (i 1)).trans (show ix2 (n0 := 256) (n1 := 1024) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final13 (c : Dev nD) : (dats m 0 c).arrAt 13 cfg0.N = G13 m c :=
  (dats m 0 c).arrAt_eq_of_cover 13 (G13 m c) (fun t _ => flushed13 m c t) covered13

/-- The array of output 14. -/
def G14 (c : Dev nD) : Vec Ideal S256x256 .f32 := fun i => (ta m c (i 0) (kcol (i 1)) : EReal)
theorem flushed14 (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  funext y
  obtain ⟨r, l, rfl⟩ : ∃ (r : Fin 256) (l : Fin 256), (y : S256x256.Idx) = ix2 r l := ⟨y 0, y 1, funext fun a => match a with | ⟨0, _⟩ => rfl | ⟨1, _⟩ => rfl⟩
  refine Eq.trans ?_ (congrArg (G14 m c) (emb14 t r l)).symm
  refine Eq.trans (out14 (iblk m c 0 t) (iblk m c 1 t) (iblk m c 2 t) (iblk m c 3 t) (iblk m c 4 t) (iblk m c 5 t) (iblk m c 6 t) (iblk m c 7 t) (iblk m c 8 t) r l) ?_
  exact tb_eq m c t r (kcol l)
theorem covered14 (i : S256x256.Idx) :
    ∃ t : Fin cfg0.N, (cfg0.win 14).flush t = true ∧ i ∈ ((cfg0.win 14).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_14 _, ?_⟩
  have h := ((cfg0.win 14).blk t).view.emb_mem_set (ix2 (n0 := 256) (n1 := 256) ⟨(i 0).val % 256, Nat.mod_lt _ (by decide)⟩ (i 1))
  have e : ((cfg0.win 14).blk t).view.emb (ix2 (n0 := 256) (n1 := 256) ⟨(i 0).val % 256, Nat.mod_lt _ (by decide)⟩ (i 1)) = i := (emb14 t ⟨(i 0).val % 256, Nat.mod_lt _ (by decide)⟩ (i 1)).trans (show ix2 (n0 := 256) (n1 := 256) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final14 (c : Dev nD) : (dats m 0 c).arrAt 14 cfg0.N = G14 m c :=
  (dats m 0 c).arrAt_eq_of_cover 14 (G14 m c) (fun t _ => flushed14 m c t) covered14

/-- The array of output 15. -/
def G15 (c : Dev nD) : Vec Ideal S256x256 .f32 := fun i => (pa m c (i 0) (vcol (i 1)) : EReal)
theorem flushed15 (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15]
  funext y
  obtain ⟨r, l, rfl⟩ : ∃ (r : Fin 256) (l : Fin 256), (y : S256x256.Idx) = ix2 r l := ⟨y 0, y 1, funext fun a => match a with | ⟨0, _⟩ => rfl | ⟨1, _⟩ => rfl⟩
  refine Eq.trans ?_ (congrArg (G15 m c) (emb14 t r l)).symm
  refine Eq.trans (out15 (iblk m c 0 t) (iblk m c 1 t) (iblk m c 2 t) (iblk m c 3 t) (iblk m c 4 t) (iblk m c 5 t) (iblk m c 6 t) (iblk m c 7 t) (iblk m c 8 t) r l) ?_
  exact congrFun (pb_eq m c t r) (vcol l)
theorem covered15 (i : S256x256.Idx) :
    ∃ t : Fin cfg0.N, (cfg0.win 15).flush t = true ∧ i ∈ ((cfg0.win 15).blk t).view.set := by
  have h0 : (i 0).val < 256 := (i 0).isLt
  obtain ⟨t, ht⟩ : ∃ t : Fin cfg0.N, t.val = (i 0).val / 256 := ⟨⟨(i 0).val / 256, by show _ < 1; omega⟩, rfl⟩
  refine ⟨t, flush0_15 _, ?_⟩
  have h := ((cfg0.win 15).blk t).view.emb_mem_set (ix2 (n0 := 256) (n1 := 256) ⟨(i 0).val % 256, Nat.mod_lt _ (by decide)⟩ (i 1))
  have e : ((cfg0.win 15).blk t).view.emb (ix2 (n0 := 256) (n1 := 256) ⟨(i 0).val % 256, Nat.mod_lt _ (by decide)⟩ (i 1)) = i := (emb14 t ⟨(i 0).val % 256, Nat.mod_lt _ (by decide)⟩ (i 1)).trans (show ix2 (n0 := 256) (n1 := 256) (rowAt t ⟨(i 0).val % 256, Nat.mod_lt _ (by decide)⟩) (i 1) = i from by
    funext a; apply Fin.ext
    match a with
    | ⟨0, _⟩ => show t.val * 256 + (i 0).val % 256 = (i 0).val; omega
    | ⟨1, _⟩ => rfl)
  rw [e] at h
  exact h
theorem final15 (c : Dev nD) : (dats m 0 c).arrAt 15 cfg0.N = G15 m c :=
  (dats m 0 c).arrAt_eq_of_cover 15 (G15 m c) (fun t _ => flushed15 m c t) covered15

end Cert.Kernel7Ideal.MrgS
-- ==== Proof.MergeCS.Spec.lean ====
/-
  The merge into mixer C's inputs as mathematics, on the sample: the prompt's arithmetic, with the places counted from the end of
  the past.
-/
module

public import proofs.«01_k».proof.Proof.MergeC.Spec
public import proofs.«01_k».proof.Proof.MergeCS.Out

@[expose] public section

noncomputable section

namespace Cert.Kernel7Ideal.MrgS

open Idealize.ShloMosaic Idealize.ShloMosaic.TcCoe
open Cert.Kernel2Ideal.Proj (proj)
open Cert.Kernel3Ideal.Mrg (merged)
open Cert.Kernel4Ideal.MrgC (outp turn mateOf pairNo)
open Cert.Kernel7Ideal

/-- The angle of pair `j` at place `s` of the sample, which 2048 past places precede: the place times a power of the base. -/
def angle (s : Fin 32) (j : Fin 32) : EReal :=
  FloatOps.sitofp (F := Ideal) FTy.f32 (2048#32 + BitVec.ofNat 32 s.val) *
    Ideal.pow (Ideal.ofBits FTy.f32 1176256512#32)
      (-FloatOps.sitofp (F := Ideal) FTy.f32 (BitVec.ofNat 32 j.val) * Ideal.ofBits FTy.f32 1023410176#32)
/-- Column `l` of `P` turned at place `s`: the first half of a head takes its mate's sine with a minus. -/
def rp (P : Fin 2560 → EReal) (s : Fin 32) (l : Fin 2560) : EReal :=
  turn (P l) (P (mateOf l)) (Ideal.cos (angle s (pairNo l)))
    (if l.val % 64 < 32 then -Ideal.sin (angle s (pairNo l)) else Ideal.sin (angle s (pairNo l)))

variable (A B : Vec Ideal S8x32x512 .f32) (W : Vec Ideal S1024x1024 .f32) (gp : Vec Ideal S1024 .f32)
  (X : Vec Ideal S8x32x1024 .f32) (g2 : Vec Ideal S1024 .f32) (Wi : Vec Ideal S1024x2560 .f32)

/-- Row `s` of batch `b`, among all rows. -/
def rowOf (b : Fin 8) (s : Fin 32) : Fin 256 := ⟨b.val * 32 + s.val, by omega⟩
/-- The residual stream after the merge. -/
def yrow (b : Fin 8) (s : Fin 32) (n : Fin 1024) : EReal :=
  merged (fun k => X (ix3 b s k)) (outp (fun k => A (ix3 b s k)) (fun k => B (ix3 b s k)) (fun k j => W (ix2 k j)))
    (fun k => gp (ix1 k)) n
/-- Its projection to mixer C's columns. -/
def prow (b : Fin 8) (s : Fin 32) (l : Fin 2560) : EReal :=
  proj (yrow A B W gp X b s) (fun k => g2 (ix1 k)) (fun k => Wi (ix2 k l))

end Cert.Kernel7Ideal.MrgS
-- ==== Proof.MergeCS.Host.lean ====
/-
  The host's operations around the merge into mixer C's inputs on the sample, read at an index: what the call is given, and what
  becomes of its results.
-/
module

public import proofs.«01_k».proof.Proof.MergeCS.Blocks
public import proofs.«01_k».proof.Proof.MergeCS.Spec
public import proofs.«01_k».proof.Proof.MergeC.Host
public import Idealize.ShloMosaic.Lib.StableHlo.ReadAt
public import Idealize.ShloMosaic.Lib.Pointwise

@[expose] public section

set_option maxRecDepth 16384

noncomputable section

namespace Cert.Kernel7Ideal.MrgS

open Cert.Kernel7Ideal Cert.Kernel7Ideal.Gen
open Idealize.ShloMosaic Idealize.ShloMosaic.TcCoe
open Idealize.SL Idealize.SL.Sem
open Cert.Kernel2Ideal.Proj (rms proj silu scale)
open Cert.Kernel3Ideal.Mrg (merged unpair)
open Cert.Kernel4Ideal.MrgC (outp turned qcol kcol vcol gcol wcol wcol_mate gcol_lt gate_lt pairNo lanePair lane_pair lane_half half mateOf laneOf kvAt)

variable (m : (ℓ : Loc nD τ sig) → Buf (Elt Ideal) ℓ)

theorem V_v11 (c : Dev nD) (b : Fin 8) (s : Fin 32) (k : Fin 512) :
    V m c main_v11 (ix2 (rowOf b s) k) = (m ((c.tc : Thread nD τ).loc main_arg0) (ix3 b s k) : EReal) := by
  unfold V
  after_reads_at
  have hb := b.isLt
  have hs := s.isLt
  have e : (ix3 ⟨(rowOf b s).val / 32, by have := (rowOf b s).isLt; omega⟩ ⟨(rowOf b s).val % 32, Nat.mod_lt _ (by decide)⟩ k : S8x32x512.Idx)
      = ix3 b s k := by
    funext a; apply Fin.ext
    match a with
    | ⟨0, _⟩ => show (b.val * 32 + s.val) / 32 = b.val; omega
    | ⟨1, _⟩ => show (b.val * 32 + s.val) % 32 = s.val; omega
    | ⟨2, _⟩ => rfl
  exact congrArg (m (c, Proc.tc.devRef main_arg0)) e
theorem V_v13 (c : Dev nD) (b : Fin 8) (s : Fin 32) (k : Fin 512) :
    V m c main_v13 (ix2 (rowOf b s) k) = (m ((c.tc : Thread nD τ).loc main_arg1) (ix3 b s k) : EReal) := by
  unfold V
  after_reads_at
  have hb := b.isLt
  have hs := s.isLt
  have e : (ix3 ⟨(rowOf b s).val / 32, by have := (rowOf b s).isLt; omega⟩ ⟨(rowOf b s).val % 32, Nat.mod_lt _ (by decide)⟩ k : S8x32x512.Idx)
      = ix3 b s k := by
    funext a; apply Fin.ext
    match a with
    | ⟨0, _⟩ => show (b.val * 32 + s.val) / 32 = b.val; omega
    | ⟨1, _⟩ => show (b.val * 32 + s.val) % 32 = s.val; omega
    | ⟨2, _⟩ => rfl
  exact congrArg (m (c, Proc.tc.devRef main_arg1)) e
theorem V_v16 (c : Dev nD) (b : Fin 8) (s : Fin 32) (k : Fin 1024) :
    V m c main_v16 (ix2 (rowOf b s) k) = (m ((c.tc : Thread nD τ).loc main_arg4) (ix3 b s k) : EReal) := by
  unfold V
  after_reads_at
  have hb := b.isLt
  have hs := s.isLt
  have e : (ix3 ⟨(rowOf b s).val / 32, by have := (rowOf b s).isLt; omega⟩ ⟨(rowOf b s).val % 32, Nat.mod_lt _ (by decide)⟩ k : S8x32x1024.Idx)
      = ix3 b s k := by
    funext a; apply Fin.ext
    match a with
    | ⟨0, _⟩ => show (b.val * 32 + s.val) / 32 = b.val; omega
    | ⟨1, _⟩ => show (b.val * 32 + s.val) % 32 = s.val; omega
    | ⟨2, _⟩ => rfl
  exact congrArg (m (c, Proc.tc.devRef main_arg4)) e
theorem V_v14 (c : Dev nD) (k n : Fin 1024) :
    V m c main_v14 (ix2 k n) = (m ((c.tc : Thread nD τ).loc main_arg2) (ix2 k n) : EReal) := by
  unfold V
  after_reads_at
theorem V_v15 (c : Dev nD) (k : Fin 1024) :
    V m c main_v15 (ix2 0 k) = (m ((c.tc : Thread nD τ).loc main_arg3) (ix1 k) : EReal) := by
  unfold V
  after_reads_at
theorem V_v44 (c : Dev nD) (k : Fin 1024) :
    V m c main_v44 (ix2 0 k) = (m ((c.tc : Thread nD τ).loc main_arg5) (ix1 k) : EReal) := by
  unfold V
  after_reads_at
theorem V_v45q (c : Dev nD) (k n : Fin 1024) :
    V m c main_v45 (ix2 k (qcol n)) = (m ((c.tc : Thread nD τ).loc main_arg6) (ix2 k (qcol (unpair n))) : EReal) := by
  unfold V
  after_reads_at
  rw [dif_pos (show (qcol n).val < 1024 from n.isLt)]
  after_reads_at
  rfl
theorem V_v45m (c : Dev nD) (k : Fin 1024) (l : Fin 2560) (h1 : ¬ l.val < 1024) (h2 : l.val < 1536) (h3 : l.val - 1024 < 512) :
    V m c main_v45 (ix2 k l) = (m ((c.tc : Thread nD τ).loc main_arg6) (ix2 k l) : EReal) := by
  unfold V
  after_reads_at
  rw [dif_neg h1, dif_pos h3]
  after_reads_at
  have e : (ix2 k ⟨1024 + (l.val - 1024), by omega⟩ : S1024x2560.Idx) = ix2 k l := by
    congr 1; apply Fin.ext; show 1024 + (l.val - 1024) = l.val; omega
  exact congrArg (m (c, Proc.tc.devRef main_arg6)) e
theorem V_v45g (c : Dev nD) (k n : Fin 1024) :
    V m c main_v45 (ix2 k (gcol n)) = (m ((c.tc : Thread nD τ).loc main_arg6) (ix2 k (gcol (unpair n))) : EReal) := by
  have h1 : ¬ (gcol n).val < 1024 := by show ¬ 1536 + n.val < 1024; omega
  have h2 : ¬ (gcol n).val - 1024 < 512 := by show ¬ 1536 + n.val - 1024 < 512; omega
  unfold V
  after_reads_at
  rw [dif_neg h1, dif_neg h2]
  after_reads_at
  have e : (ix2 k ⟨1536 + (((gcol n).val - 1024 - 512) / 512 * 512 + ((gcol n).val - 1024 - 512) / 64 % 2 * 256
      + ((gcol n).val - 1024 - 512) / 128 % 4 * 64 + ((gcol n).val - 1024 - 512) % 64), gate_lt n⟩ : S1024x2560.Idx) = ix2 k (gcol (unpair n)) := by
    congr 1
    apply Fin.ext
    show 1536 + ((1536 + n.val - 1024 - 512) / 512 * 512 + (1536 + n.val - 1024 - 512) / 64 % 2 * 256
      + (1536 + n.val - 1024 - 512) / 128 % 4 * 64 + (1536 + n.val - 1024 - 512) % 64)
      = 1536 + (n.val / 512 * 512 + n.val / 64 % 2 * 256 + n.val / 128 % 4 * 64 + n.val % 64)
    have e0 : 1536 + n.val - 1024 - 512 = n.val := by omega
    rw [e0]
  exact congrArg (m (c, Proc.tc.devRef main_arg6)) e
/-- The input weights the call is given. -/
theorem V_v45 (c : Dev nD) (k : Fin 1024) (l : Fin 2560) :
    V m c main_v45 (ix2 k l) = (m ((c.tc : Thread nD τ).loc main_arg6) (ix2 k (wcol l)) : EReal) := by
  unfold wcol
  split
  · rename_i h
    exact V_v45q m c k ⟨l.val, h⟩
  · rename_i h
    split
    · rename_i h'
      exact V_v45m m c k l h h' (by omega)
    · rename_i h'
      have e : gcol ⟨l.val - 1536, gcol_lt l⟩ = l := by apply Fin.ext; show 1536 + (l.val - 1536) = l.val; omega
      have r := V_v45g m c k ⟨l.val - 1536, gcol_lt l⟩
      rw [e] at r
      exact r

/-- The place of a row of the sample, as the host computes it. -/
theorem rowPos : ∀ r : Fin 256, IntOp.remsi ArithUnit.host (BitVec.ofNat 32 r.val) 32#32 = BitVec.ofNat 32 (r.val % 32) := by decide +kernel
theorem row_mod (b : Fin 8) (s : Fin 32) : (rowOf b s).val % 32 = s.val := by
  show (b.val * 32 + s.val) % 32 = s.val
  have := s.isLt
  omega
theorem V_v37 (c : Dev nD) (b : Fin 8) (s : Fin 32) (l : Fin 128) :
    V m c main_v37 (ix2 (rowOf b s) l) = (Ideal.cos (angle s (lanePair l)) : EReal) := by
  unfold V
  after_reads_at
  rw [rowPos, row_mod]
  rfl
theorem V_v43 (c : Dev nD) (b : Fin 8) (s : Fin 32) (l : Fin 128) :
    V m c main_v43 (ix2 (rowOf b s) l)
      = (if l.val % 64 < 32 then -Ideal.sin (angle s (lanePair l)) else Ideal.sin (angle s (lanePair l)) : EReal) := by
  unfold V
  after_reads_at
  rw [half l, rowPos, row_mod]
  split <;> rfl

theorem arr_inj : Function.Injective (Pipeline.arrRef spec0) := by decide

/-- The arrays at the region's end. -/
def Z (c : Dev nD) : Valuation τ sig (Elt Ideal) :=
  Pipeline.withArrays spec0 c (V0 m c) fun w => (dats m 0 c).arrAt w cfg0.N

theorem Z_9 (c : Dev nD) : Z m c (Proc.devRef .tc main_v46_0) = G9 m c :=
  (Pipeline.withArrays_arr spec0 arr_inj c (V0 m c) (fun w => (dats m 0 c).arrAt w cfg0.N) 9).trans (final9 m c)
theorem Z_10 (c : Dev nD) : Z m c (Proc.devRef .tc main_v46_1) = G10 m c :=
  (Pipeline.withArrays_arr spec0 arr_inj c (V0 m c) (fun w => (dats m 0 c).arrAt w cfg0.N) 10).trans (final10 m c)
theorem Z_11 (c : Dev nD) : Z m c (Proc.devRef .tc main_v46_2) = G11 m c :=
  (Pipeline.withArrays_arr spec0 arr_inj c (V0 m c) (fun w => (dats m 0 c).arrAt w cfg0.N) 11).trans (final11 m c)
theorem Z_12 (c : Dev nD) : Z m c (Proc.devRef .tc main_v46_3) = G12 m c :=
  (Pipeline.withArrays_arr spec0 arr_inj c (V0 m c) (fun w => (dats m 0 c).arrAt w cfg0.N) 12).trans (final12 m c)
theorem Z_13 (c : Dev nD) : Z m c (Proc.devRef .tc main_v46_4) = G13 m c :=
  (Pipeline.withArrays_arr spec0 arr_inj c (V0 m c) (fun w => (dats m 0 c).arrAt w cfg0.N) 13).trans (final13 m c)
theorem Z_14 (c : Dev nD) : Z m c (Proc.devRef .tc main_v46_5) = G14 m c :=
  (Pipeline.withArrays_arr spec0 arr_inj c (V0 m c) (fun w => (dats m 0 c).arrAt w cfg0.N) 14).trans (final14 m c)
theorem Z_15 (c : Dev nD) : Z m c (Proc.devRef .tc main_v46_6) = G15 m c :=
  (Pipeline.withArrays_arr spec0 arr_inj c (V0 m c) (fun w => (dats m 0 c).arrAt w cfg0.N) 15).trans (final15 m c)

theorem tail_47 (c : Dev nD) (b : Fin 8) (s : Fin 32) (l : Fin 1024) :
    Pipeline.afterTail₀ cfgs (dats m) 0 (V0 m) [hostOps1] c main_v47 (ix3 b s l) = (ya m c (rowOf b s) l : EReal) := by
  have h0 : (StableHlo.after ([hostOps1] : List (List (HloOp τ sig (Elt Ideal)))).flatten (Z m c) (Proc.devRef .tc main_v47) (ix3 b s l) : EReal)
      = Z m c (Proc.devRef .tc main_v46_0) (ix2 (rowOf b s) l) := by
    generalize Z m c = Y
    simp only [hostOps1, List.flatten_cons, List.flatten_nil, List.append_nil, List.cons_append, List.nil_append]
    after_reads_at
    rfl
  refine Eq.trans h0 ?_
  rw [Z_9]
  rfl
theorem tail_48 (c : Dev nD) (b : Fin 8) (s : Fin 32) (l : Fin 1024) :
    Pipeline.afterTail₀ cfgs (dats m) 0 (V0 m) [hostOps1] c main_v48 (ix3 b s l) = (ta m c (rowOf b s) (qcol l) * scale : EReal) := by
  have h0 : (StableHlo.after ([hostOps1] : List (List (HloOp τ sig (Elt Ideal)))).flatten (Z m c) (Proc.devRef .tc main_v48) (ix3 b s l) : EReal)
      = Z m c (Proc.devRef .tc main_v46_1) (ix2 (rowOf b s) l) := by
    generalize Z m c = Y
    simp only [hostOps1, List.flatten_cons, List.flatten_nil, List.append_nil, List.cons_append, List.nil_append]
    after_reads_at
    rfl
  refine Eq.trans h0 ?_
  rw [Z_10]
  rfl
theorem tail_49 (c : Dev nD) (b : Fin 8) (s : Fin 32) (l : Fin 256) :
    Pipeline.afterTail₀ cfgs (dats m) 0 (V0 m) [hostOps1] c main_v49 (ix3 b s l) = (ta m c (rowOf b s) (kcol l) : EReal) := by
  have h0 : (StableHlo.after ([hostOps1] : List (List (HloOp τ sig (Elt Ideal)))).flatten (Z m c) (Proc.devRef .tc main_v49) (ix3 b s l) : EReal)
      = Z m c (Proc.devRef .tc main_v46_2) (ix2 (rowOf b s) l) := by
    generalize Z m c = Y
    simp only [hostOps1, List.flatten_cons, List.flatten_nil, List.append_nil, List.cons_append, List.nil_append]
    after_reads_at
    rfl
  refine Eq.trans h0 ?_
  rw [Z_11]
  rfl
theorem tail_50 (c : Dev nD) (b : Fin 8) (s : Fin 32) (l : Fin 256) :
    Pipeline.afterTail₀ cfgs (dats m) 0 (V0 m) [hostOps1] c main_v50 (ix3 b s l) = (pa m c (rowOf b s) (vcol l) : EReal) := by
  have h0 : (StableHlo.after ([hostOps1] : List (List (HloOp τ sig (Elt Ideal)))).flatten (Z m c) (Proc.devRef .tc main_v50) (ix3 b s l) : EReal)
      = Z m c (Proc.devRef .tc main_v46_3) (ix2 (rowOf b s) l) := by
    generalize Z m c = Y
    simp only [hostOps1, List.flatten_cons, List.flatten_nil, List.append_nil, List.cons_append, List.nil_append]
    after_reads_at
    rfl
  refine Eq.trans h0 ?_
  rw [Z_12]
  rfl
theorem tail_51 (c : Dev nD) (b : Fin 8) (s : Fin 32) (l : Fin 1024) :
    Pipeline.afterTail₀ cfgs (dats m) 0 (V0 m) [hostOps1] c main_v51 (ix3 b s l) = (silu (pa m c (rowOf b s) (gcol l)) : EReal) := by
  have h0 : (StableHlo.after ([hostOps1] : List (List (HloOp τ sig (Elt Ideal)))).flatten (Z m c) (Proc.devRef .tc main_v51) (ix3 b s l) : EReal)
      = Z m c (Proc.devRef .tc main_v46_4) (ix2 (rowOf b s) l) := by
    generalize Z m c = Y
    simp only [hostOps1, List.flatten_cons, List.flatten_nil, List.append_nil, List.cons_append, List.nil_append]
    after_reads_at
    rfl
  refine Eq.trans h0 ?_
  rw [Z_13]
  rfl
theorem tail_52 (c : Dev nD) (b : Fin 8) (s : Fin 32) (h : Fin 4) (d : Fin 64) :
    Pipeline.afterTail₀ cfgs (dats m) 0 (V0 m) [hostOps1] c main_v52 (ix4 b s h d) = (ta m c (rowOf b s) (kcol (kvAt h d)) : EReal) := by
  have h0 : (StableHlo.after ([hostOps1] : List (List (HloOp τ sig (Elt Ideal)))).flatten (Z m c) (Proc.devRef .tc main_v52) (ix4 b s h d) : EReal)
      = Z m c (Proc.devRef .tc main_v46_5) (ix2 (rowOf b s) (kvAt h d)) := by
    generalize Z m c = Y
    simp only [hostOps1, List.flatten_cons, List.flatten_nil, List.append_nil, List.cons_append, List.nil_append]
    after_reads_at
    rfl
  refine Eq.trans h0 ?_
  rw [Z_14]
  rfl
theorem tail_53 (c : Dev nD) (b : Fin 8) (s : Fin 32) (h : Fin 4) (d : Fin 64) :
    Pipeline.afterTail₀ cfgs (dats m) 0 (V0 m) [hostOps1] c main_v53 (ix4 b s h d) = (pa m c (rowOf b s) (vcol (kvAt h d)) : EReal) := by
  have h0 : (StableHlo.after ([hostOps1] : List (List (HloOp τ sig (Elt Ideal)))).flatten (Z m c) (Proc.devRef .tc main_v53) (ix4 b s h d) : EReal)
      = Z m c (Proc.devRef .tc main_v46_6) (ix2 (rowOf b s) (kvAt h d)) := by
    generalize Z m c = Y
    simp only [hostOps1, List.flatten_cons, List.flatten_nil, List.append_nil, List.cons_append, List.nil_append]
    after_reads_at
    rfl
  refine Eq.trans h0 ?_
  rw [Z_15]
  rfl

/-! The call's values, from the program's arguments. -/

theorem ya_eq (c : Dev nD) (b : Fin 8) (s : Fin 32) :
    ya m c (rowOf b s) = yrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s := by
  funext n
  unfold ya yrow
  have e1 : (fun k => V m c main_v16 (ix2 (rowOf b s) k) : Fin 1024 → EReal) = fun k => m ((c.tc : Thread nD τ).loc main_arg4) (ix3 b s k) := funext fun k => V_v16 m c b s k
  have e2 : (fun k => V m c main_v11 (ix2 (rowOf b s) k) : Fin 512 → EReal) = fun k => m ((c.tc : Thread nD τ).loc main_arg0) (ix3 b s k) := funext fun k => V_v11 m c b s k
  have e3 : (fun k => V m c main_v13 (ix2 (rowOf b s) k) : Fin 512 → EReal) = fun k => m ((c.tc : Thread nD τ).loc main_arg1) (ix3 b s k) := funext fun k => V_v13 m c b s k
  have e4 : (fun k j => V m c main_v14 (ix2 k j) : Fin 1024 → Fin 1024 → EReal) = fun k j => m ((c.tc : Thread nD τ).loc main_arg2) (ix2 k j) := funext fun k => funext fun j => V_v14 m c k j
  have e5 : (fun k => V m c main_v15 (ix2 0 k) : Fin 1024 → EReal) = fun k => m ((c.tc : Thread nD τ).loc main_arg3) (ix1 k) := funext fun k => V_v15 m c k
  exact congr (congr (congr (congrArg merged e1) (congr (congr (congrArg outp e2) e3) e4)) e5) rfl

theorem pa_eq (c : Dev nD) (b : Fin 8) (s : Fin 32) (l : Fin 2560) :
    pa m c (rowOf b s) l = prow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) b s (wcol l) := by
  unfold pa prow
  exact congr (congr (congrArg proj (ya_eq m c b s)) (funext fun k => V_v44 m c k)) (funext fun k => V_v45 m c k l)

theorem ta_eq (c : Dev nD) (b : Fin 8) (s : Fin 32) (l : Fin 2560) :
    ta m c (rowOf b s) l = rp (prow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) b s) s (wcol l) := by
  unfold ta turned rp
  beta_reduce
  rw [V_v37, V_v43, pa_eq, pa_eq, wcol_mate, lane_pair, lane_half]

end Cert.Kernel7Ideal.MrgS
-- ==== Proof.MergeCS.RefVal.lean ====
/-
  The merge reference on the sample, element by element: the two mixers' rows side by side times the output weights, scaled and added to
  the residual stream; scaled again and projected; queries and keys turned by halves.
-/
module

public import proofs.«01_k».proof.Proof.MergeCS.Spec
public import proofs.«01_k».proof.Proof.AttnA.Scores
public import proofs.«01_k».proof.Proof.Gen.Reference7Ideal.Run
public import Idealize.ShloMosaic.Lib.Pointwise
public import Idealize.ShloMosaic.Lib.Quiescent

@[expose] public section

set_option maxRecDepth 16384

noncomputable section

namespace Cert.Reference7Ideal.MrgS

open Cert.Reference7Ideal Cert.Reference7Ideal.Gen
open Idealize.ShloMosaic Idealize.ShloMosaic.TcCoe Idealize.SL.Sem
open Cert.Kernel2Ideal.Proj (rms proj scale silu)
open Cert.Kernel3Ideal.Mrg (merged unpair)
open Cert.Kernel4Ideal.MrgC (pairNo turn mateOf qcol kcol vcol gcol outp kvAt qAt lo hi)
open Cert.Kernel7Ideal.MrgS (angle rp yrow prow)

/-- The frame claim's conclusion. -/
theorem frame_all (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2.2.2.2.2, sem_eq_zero_of_no_sems (by decide) r.2⟩) (Cert.Reference7Ideal.Value.run m ρ)

variable (A B : Vec Ideal S8x32x512 .f32) (W : Vec Ideal S1024x1024 .f32) (gp : Vec Ideal S1024 .f32)
  (X : Vec Ideal S8x32x1024 .f32) (g2 : Vec Ideal S1024 .f32) (Wi : Vec Ideal S1024x2560 .f32)

/-- The mixed rows times the output weights, whole. -/
def hT : FVec Ideal S8x32x1024 .f32 := Host.dotGeneral (φ₁ := .f32) (φ₂ := .f32) dot_S8x32x1024_S1024x1024_S8x32x1024_2_0_01_1_n_n none (concatenate S8x32x1024 2 [⟨S8x32x512, A⟩, ⟨S8x32x512, B⟩] concatenates_S8x32x512_S8x32x512_S8x32x1024_d2) W
theorem hT_at (b : Fin 8) (s : Fin 32) (n : Fin 1024) :
    hT A B W (ix3 b s n) = outp (fun k => A (ix3 b s k)) (fun k => B (ix3 b s k)) (fun k j => W (ix2 k j)) n := by
  pointwise [hT]
  rfl
/-- The residual stream after the merge, whole. -/
def yT : FVec Ideal S8x32x1024 .f32 := addf X (mulf (mulf (hT A B W) (broadcastInDim S8x32x1024 ![0, 1, 2] bcast_S8x32x1_S8x32x1024_0_1_2 (Host.rsqrt (addf (Host.divf (broadcastInDim S8x32x1 ![0, 1] bcast_S8x32_S8x32x1_0_1 (Host.reduceAdd (mulf (hT A B W) (hT A B W)) (constant S_ .f32 0x00000000#32) reducesTo_S8x32x1024_S8x32_d2 h_S_)) (broadcastInDim S8x32x1 ![] bcast_S_S8x32x1 (constant S_ .f32 0x44800000#32))) (broadcastInDim S8x32x1 ![] bcast_S_S8x32x1 (constant S_ .f32 0x358637BD#32)))))) (broadcastInDim S8x32x1024 ![0, 1, 2] bcast_S1x1x1024_S8x32x1024_0_1_2 (broadcastInDim S1x1x1024 ![2] bcast_S1024_S1x1x1024_2 gp)))
theorem yT_at (b : Fin 8) (s : Fin 32) (n : Fin 1024) : yT A B W gp X (ix3 b s n) = yrow A B W gp X b s n := by
  pointwise [yT]
  simp only [hT_at]
  rfl
/-- The projection, whole. -/
def uT : FVec Ideal S8x32x2560 .f32 := Host.dotGeneral (φ₁ := .f32) (φ₂ := .f32) dot_S8x32x1024_S1024x2560_S8x32x2560_2_0_01_1_n_n none (mulf (mulf (yT A B W gp X) (broadcastInDim S8x32x1024 ![0, 1, 2] bcast_S8x32x1_S8x32x1024_0_1_2 (Host.rsqrt (addf (Host.divf (broadcastInDim S8x32x1 ![0, 1] bcast_S8x32_S8x32x1_0_1 (Host.reduceAdd (mulf (yT A B W gp X) (yT A B W gp X)) (constant S_ .f32 0x00000000#32) reducesTo_S8x32x1024_S8x32_d2 h_S_)) (broadcastInDim S8x32x1 ![] bcast_S_S8x32x1 (constant S_ .f32 0x44800000#32))) (broadcastInDim S8x32x1 ![] bcast_S_S8x32x1 (constant S_ .f32 0x358637BD#32)))))) (broadcastInDim S8x32x1024 ![0, 1, 2] bcast_S1x1x1024_S8x32x1024_0_1_2 (broadcastInDim S1x1x1024 ![2] bcast_S1024_S1x1x1024_2 g2))) Wi
theorem uT_at (b : Fin 8) (s : Fin 32) (n : Fin 2560) :
    uT A B W gp X g2 Wi (ix3 b s n) = prow A B W gp X g2 Wi b s n := by
  pointwise [uT]
  simp only [yT_at]
  rfl
/-- The cosines of the angles. -/
def cosT : FVec Ideal S32x1x32 .f32 := broadcastInDim S32x1x32 ![0, 2] bcast_S32x32_S32x1x32_0_2 (Host.cos (mulf (broadcastInDim S32x32 ![0, 1] bcast_S32x1_S32x32_0_1 (broadcastInDim S32x1 ![0] bcast_S32_S32x1_0 (sitofp .f32 (addi (broadcastInDim S32 ![] bcast_S_S32 (constantI S_ 32 2048#32)) (iotaInDim S32 32 0))))) (broadcastInDim S32x32 ![0, 1] bcast_S1x32_S32x32_0_1 (broadcastInDim S1x32 ![1] bcast_S32_S1x32_1 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32))))))))
theorem cosT_at (s : Fin 32) (j : Fin 32) : (cosT (ix3 s 0 j) : EReal) = Ideal.cos (angle s j) := by
  pointwise [cosT]
  rfl
/-- The sines of the angles. -/
def sinT : FVec Ideal S32x1x32 .f32 := broadcastInDim S32x1x32 ![0, 2] bcast_S32x32_S32x1x32_0_2 (Host.sin (mulf (broadcastInDim S32x32 ![0, 1] bcast_S32x1_S32x32_0_1 (broadcastInDim S32x1 ![0] bcast_S32_S32x1_0 (sitofp .f32 (addi (broadcastInDim S32 ![] bcast_S_S32 (constantI S_ 32 2048#32)) (iotaInDim S32 32 0))))) (broadcastInDim S32x32 ![0, 1] bcast_S1x32_S32x32_0_1 (broadcastInDim S1x32 ![1] bcast_S32_S1x32_1 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32))))))))
theorem sinT_at (s : Fin 32) (j : Fin 32) : (sinT (ix3 s 0 j) : EReal) = Ideal.sin (angle s j) := by
  pointwise [sinT]
  rfl

theorem rp_first (P : Fin 2560 → EReal) (s : Fin 32) (l l' : Fin 2560) (j : Fin 32) (h : l.val % 64 < 32) (hm : l'.val = l.val + 32) (hj : j.val = l.val % 32) :
    P l * Ideal.cos (angle s j) - P l' * Ideal.sin (angle s j) = rp P s l := by
  unfold rp turn
  have e1 : l' = mateOf l := by apply Fin.ext; unfold mateOf; rw [dif_pos h]; exact hm
  have e2 : j = pairNo l := Fin.ext hj
  rw [if_pos h, ← e1, ← e2, sub_eq_add_neg, mul_neg]
theorem rp_second (P : Fin 2560 → EReal) (s : Fin 32) (l l' : Fin 2560) (j : Fin 32) (h : ¬ l.val % 64 < 32) (hm : l'.val = l.val - 32) (hj : j.val = l.val % 32) :
    P l * Ideal.cos (angle s j) + P l' * Ideal.sin (angle s j) = rp P s l := by
  unfold rp turn
  have e1 : l' = mateOf l := by apply Fin.ext; unfold mateOf; rw [dif_neg h]; exact hm
  have e2 : j = pairNo l := Fin.ext hj
  rw [if_neg h, ← e1, ← e2]

/-- The turned queries, by heads. -/
def qT : FVec Ideal S8x32x16x64 .f32 := concatenate S8x32x16x64 3 [⟨S8x32x16x32, (subf (mulf (extractStridedSlice S8x32x16x32 ![0, 0, 0, 0] (shapeCast S8x32x16x64 (extractStridedSlice S8x32x1024 ![0, 0, 0] (uT A B W gp X g2 Wi) slices_S8x32x2560_S8x32x1024_0_0_0) shapeCasts_S8x32x1024_S8x32x16x64) slices_S8x32x16x64_S8x32x16x32_0_0_0_0) (broadcastInDim S8x32x16x32 ![0, 1, 2, 3] bcast_S1x32x1x32_S8x32x16x32_0_1_2_3 (broadcastInDim S1x32x1x32 ![1, 2, 3] bcast_S32x1x32_S1x32x1x32_1_2_3 (cosT)))) (mulf (extractStridedSlice S8x32x16x32 ![0, 0, 0, 32] (shapeCast S8x32x16x64 (extractStridedSlice S8x32x1024 ![0, 0, 0] (uT A B W gp X g2 Wi) slices_S8x32x2560_S8x32x1024_0_0_0) shapeCasts_S8x32x1024_S8x32x16x64) slices_S8x32x16x64_S8x32x16x32_0_0_0_32) (broadcastInDim S8x32x16x32 ![0, 1, 2, 3] bcast_S1x32x1x32_S8x32x16x32_0_1_2_3 (broadcastInDim S1x32x1x32 ![1, 2, 3] bcast_S32x1x32_S1x32x1x32_1_2_3 (sinT)))))⟩, ⟨S8x32x16x32, (addf (mulf (extractStridedSlice S8x32x16x32 ![0, 0, 0, 32] (shapeCast S8x32x16x64 (extractStridedSlice S8x32x1024 ![0, 0, 0] (uT A B W gp X g2 Wi) slices_S8x32x2560_S8x32x1024_0_0_0) shapeCasts_S8x32x1024_S8x32x16x64) slices_S8x32x16x64_S8x32x16x32_0_0_0_32) (broadcastInDim S8x32x16x32 ![0, 1, 2, 3] bcast_S1x32x1x32_S8x32x16x32_0_1_2_3 (broadcastInDim S1x32x1x32 ![1, 2, 3] bcast_S32x1x32_S1x32x1x32_1_2_3 (cosT)))) (mulf (extractStridedSlice S8x32x16x32 ![0, 0, 0, 0] (shapeCast S8x32x16x64 (extractStridedSlice S8x32x1024 ![0, 0, 0] (uT A B W gp X g2 Wi) slices_S8x32x2560_S8x32x1024_0_0_0) shapeCasts_S8x32x1024_S8x32x16x64) slices_S8x32x16x64_S8x32x16x32_0_0_0_0) (broadcastInDim S8x32x16x32 ![0, 1, 2, 3] bcast_S1x32x1x32_S8x32x16x32_0_1_2_3 (broadcastInDim S1x32x1x32 ![1, 2, 3] bcast_S32x1x32_S1x32x1x32_1_2_3 (sinT)))))⟩] concatenates_S8x32x16x32_S8x32x16x32_S8x32x16x64_d3
theorem qT_at (b : Fin 8) (s : Fin 32) (h : Fin 16) (d : Fin 64) :
    (qT A B W gp X g2 Wi (ix4 b s h d) : EReal) = rp (prow A B W gp X g2 Wi b s) s (qcol (qAt h d)) := by
  pointwise [qT]
  have hd := d.isLt
  split
  · rename_i hlt
    simp only [uT_at, cosT_at, sinT_at]
    have e := rp_first (prow A B W gp X g2 Wi b s) s (qcol (qAt h d)) ⟨h.val * 64 + (32 + d.val), by omega⟩ ⟨d.val, hlt⟩
      (by show (h.val * 64 + d.val) % 64 < 32; omega) (by show h.val * 64 + (32 + d.val) = h.val * 64 + d.val + 32; omega)
      (by show d.val = (h.val * 64 + d.val) % 32; omega)
    exact e
  · rename_i hlt
    simp only [uT_at, cosT_at, sinT_at]
    have e0 : (⟨h.val * 64 + (32 + (d.val - 32)), by omega⟩ : Fin 2560) = qcol (qAt h d) :=
      Fin.ext (by show h.val * 64 + (32 + (d.val - 32)) = h.val * 64 + d.val; omega)
    have e := rp_second (prow A B W gp X g2 Wi b s) s (qcol (qAt h d)) ⟨h.val * 64 + (d.val - 32), by omega⟩ ⟨d.val - 32, by omega⟩
      (by show ¬ (h.val * 64 + d.val) % 64 < 32; omega) (by show h.val * 64 + (d.val - 32) = h.val * 64 + d.val - 32; omega)
      (by show d.val - 32 = (h.val * 64 + d.val) % 32; omega)
    rw [e0]
    exact e
/-- The turned keys, by heads. -/
def kT : FVec Ideal S8x32x4x64 .f32 := concatenate S8x32x4x64 3 [⟨S8x32x4x32, (subf (mulf (extractStridedSlice S8x32x4x32 ![0, 0, 0, 0] (shapeCast S8x32x4x64 (extractStridedSlice S8x32x256 ![0, 0, 1024] (uT A B W gp X g2 Wi) slices_S8x32x2560_S8x32x256_0_0_1024) shapeCasts_S8x32x256_S8x32x4x64) slices_S8x32x4x64_S8x32x4x32_0_0_0_0) (broadcastInDim S8x32x4x32 ![0, 1, 2, 3] bcast_S1x32x1x32_S8x32x4x32_0_1_2_3 (broadcastInDim S1x32x1x32 ![1, 2, 3] bcast_S32x1x32_S1x32x1x32_1_2_3 (cosT)))) (mulf (extractStridedSlice S8x32x4x32 ![0, 0, 0, 32] (shapeCast S8x32x4x64 (extractStridedSlice S8x32x256 ![0, 0, 1024] (uT A B W gp X g2 Wi) slices_S8x32x2560_S8x32x256_0_0_1024) shapeCasts_S8x32x256_S8x32x4x64) slices_S8x32x4x64_S8x32x4x32_0_0_0_32) (broadcastInDim S8x32x4x32 ![0, 1, 2, 3] bcast_S1x32x1x32_S8x32x4x32_0_1_2_3 (broadcastInDim S1x32x1x32 ![1, 2, 3] bcast_S32x1x32_S1x32x1x32_1_2_3 (sinT)))))⟩, ⟨S8x32x4x32, (addf (mulf (extractStridedSlice S8x32x4x32 ![0, 0, 0, 32] (shapeCast S8x32x4x64 (extractStridedSlice S8x32x256 ![0, 0, 1024] (uT A B W gp X g2 Wi) slices_S8x32x2560_S8x32x256_0_0_1024) shapeCasts_S8x32x256_S8x32x4x64) slices_S8x32x4x64_S8x32x4x32_0_0_0_32) (broadcastInDim S8x32x4x32 ![0, 1, 2, 3] bcast_S1x32x1x32_S8x32x4x32_0_1_2_3 (broadcastInDim S1x32x1x32 ![1, 2, 3] bcast_S32x1x32_S1x32x1x32_1_2_3 (cosT)))) (mulf (extractStridedSlice S8x32x4x32 ![0, 0, 0, 0] (shapeCast S8x32x4x64 (extractStridedSlice S8x32x256 ![0, 0, 1024] (uT A B W gp X g2 Wi) slices_S8x32x2560_S8x32x256_0_0_1024) shapeCasts_S8x32x256_S8x32x4x64) slices_S8x32x4x64_S8x32x4x32_0_0_0_0) (broadcastInDim S8x32x4x32 ![0, 1, 2, 3] bcast_S1x32x1x32_S8x32x4x32_0_1_2_3 (broadcastInDim S1x32x1x32 ![1, 2, 3] bcast_S32x1x32_S1x32x1x32_1_2_3 (sinT)))))⟩] concatenates_S8x32x4x32_S8x32x4x32_S8x32x4x64_d3
theorem kT_at (b : Fin 8) (s : Fin 32) (h : Fin 4) (d : Fin 64) :
    (kT A B W gp X g2 Wi (ix4 b s h d) : EReal) = rp (prow A B W gp X g2 Wi b s) s (kcol (kvAt h d)) := by
  pointwise [kT]
  have hd := d.isLt
  split
  · rename_i hlt
    simp only [uT_at, cosT_at, sinT_at]
    have e := rp_first (prow A B W gp X g2 Wi b s) s (kcol (kvAt h d)) ⟨1024 + (h.val * 64 + (32 + d.val)), by omega⟩ ⟨d.val, hlt⟩
      (by show (1024 + (h.val * 64 + d.val)) % 64 < 32; omega) (by show 1024 + (h.val * 64 + (32 + d.val)) = 1024 + (h.val * 64 + d.val) + 32; omega)
      (by show d.val = (1024 + (h.val * 64 + d.val)) % 32; omega)
    exact e
  · rename_i hlt
    simp only [uT_at, cosT_at, sinT_at]
    have e0 : (⟨1024 + (h.val * 64 + (32 + (d.val - 32))), by omega⟩ : Fin 2560) = kcol (kvAt h d) :=
      Fin.ext (by show 1024 + (h.val * 64 + (32 + (d.val - 32))) = 1024 + (h.val * 64 + d.val); omega)
    have e := rp_second (prow A B W gp X g2 Wi b s) s (kcol (kvAt h d)) ⟨1024 + (h.val * 64 + (d.val - 32)), by omega⟩ ⟨d.val - 32, by omega⟩
      (by show ¬ (1024 + (h.val * 64 + d.val)) % 64 < 32; omega) (by show 1024 + (h.val * 64 + (d.val - 32)) = 1024 + (h.val * 64 + d.val) - 32; omega)
      (by show d.val - 32 = (1024 + (h.val * 64 + d.val)) % 32; omega)
    rw [e0]
    exact e
/-- The result `main_v95`. -/
def res95 : FVec Ideal S8x32x1024 .bf16 := truncf .bf16 (shapeCast S8x32x1024 (transpose S8x32x2x4x2x64 [0, 1, 2, 4, 3, 5] (shapeCast S8x32x2x2x4x64 (mulf (qT A B W gp X g2 Wi) (broadcastInDim S8x32x16x64 ![] bcast_S_S8x32x16x64 (constant S_ .f32 0x3E38AA3B#32))) shapeCasts_S8x32x16x64_S8x32x2x2x4x64) transposes_S8x32x2x2x4x64_S8x32x2x4x2x64_0_1_2_4_3_5) shapeCasts_S8x32x2x4x2x64_S8x32x1024) bitsLt_bf16_f32
theorem res95_at (b : Fin 8) (s : Fin 32) (n : Fin 1024) : (res95 A B W gp X g2 Wi (ix3 b s n) : EReal) = rp (prow A B W gp X g2 Wi b s) s (qcol (unpair n)) * scale := by
  pointwise [res95]
  simp only [uT_at, qT_at, kT_at]
  have e : qAt ⟨n.val / 512 * 8 + n.val / 64 % 2 * 4 + n.val / 128 % 4, by omega⟩ ⟨n.val % 64, by omega⟩ = unpair n :=
    Fin.ext (by
      show (n.val / 512 * 8 + n.val / 64 % 2 * 4 + n.val / 128 % 4) * 64 + n.val % 64
        = n.val / 512 * 512 + n.val / 64 % 2 * 256 + n.val / 128 % 4 * 64 + n.val % 64
      omega)
  rw [e]
  rfl
theorem run95 (m : (ℓ : Loc nD τ sig) → Buf (Elt Ideal) ℓ) (c : Dev nD) :
    Cert.Reference7Ideal.Value.res_main_v95 m c = res95 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The result `main_v97`. -/
def res97 : FVec Ideal S8x32x256 .bf16 := truncf .bf16 (shapeCast S8x32x256 (kT A B W gp X g2 Wi) shapeCasts_S8x32x4x64_S8x32x256) bitsLt_bf16_f32
theorem res97_at (b : Fin 8) (s : Fin 32) (n : Fin 256) : (res97 A B W gp X g2 Wi (ix3 b s n) : EReal) = rp (prow A B W gp X g2 Wi b s) s (kcol n) := by
  pointwise [res97]
  simp only [uT_at, qT_at, kT_at]
  have e : kvAt ⟨n.val / 64, by omega⟩ ⟨n.val % 64, by omega⟩ = n := Fin.ext (by show n.val / 64 * 64 + n.val % 64 = n.val; omega)
  rw [e]
theorem run97 (m : (ℓ : Loc nD τ sig) → Buf (Elt Ideal) ℓ) (c : Dev nD) :
    Cert.Reference7Ideal.Value.res_main_v97 m c = res97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The result `main_v99`. -/
def res99 : FVec Ideal S8x32x256 .bf16 := truncf .bf16 (shapeCast S8x32x256 (shapeCast S8x32x4x64 (extractStridedSlice S8x32x256 ![0, 0, 1280] (uT A B W gp X g2 Wi) slices_S8x32x2560_S8x32x256_0_0_1280) shapeCasts_S8x32x256_S8x32x4x64) shapeCasts_S8x32x4x64_S8x32x256) bitsLt_bf16_f32
theorem res99_at (b : Fin 8) (s : Fin 32) (n : Fin 256) : (res99 A B W gp X g2 Wi (ix3 b s n) : EReal) = prow A B W gp X g2 Wi b s (vcol n) := by
  pointwise [res99]
  simp only [uT_at, qT_at, kT_at]
  rfl
theorem run99 (m : (ℓ : Loc nD τ sig) → Buf (Elt Ideal) ℓ) (c : Dev nD) :
    Cert.Reference7Ideal.Value.res_main_v99 m c = res99 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The result `main_v104`. -/
def res104 : FVec Ideal S8x32x1024 .bf16 := truncf .bf16 (shapeCast S8x32x1024 (transpose S8x32x2x4x2x64 [0, 1, 2, 4, 3, 5] (shapeCast S8x32x2x2x4x64 (mulf (extractStridedSlice S8x32x1024 ![0, 0, 1536] (uT A B W gp X g2 Wi) slices_S8x32x2560_S8x32x1024_0_0_1536) (Host.divf (broadcastInDim S8x32x1024 ![] bcast_S_S8x32x1024 (constant S_ .f32 0x3F800000#32)) (addf (broadcastInDim S8x32x1024 ![] bcast_S_S8x32x1024 (constant S_ .f32 0x3F800000#32)) (Host.exp (Host.negf (extractStridedSlice S8x32x1024 ![0, 0, 1536] (uT A B W gp X g2 Wi) slices_S8x32x2560_S8x32x1024_0_0_1536)))))) shapeCasts_S8x32x1024_S8x32x2x2x4x64) transposes_S8x32x2x2x4x64_S8x32x2x4x2x64_0_1_2_4_3_5) shapeCasts_S8x32x2x4x2x64_S8x32x1024) bitsLt_bf16_f32
theorem res104_at (b : Fin 8) (s : Fin 32) (n : Fin 1024) : (res104 A B W gp X g2 Wi (ix3 b s n) : EReal) = silu (prow A B W gp X g2 Wi b s (gcol (unpair n))) := by
  pointwise [res104]
  simp only [uT_at, qT_at, kT_at]
  rw [Cert.KernelIdeal.Attn.mul_sigmoid]
  rfl
theorem run104 (m : (ℓ : Loc nD τ sig) → Buf (Elt Ideal) ℓ) (c : Dev nD) :
    Cert.Reference7Ideal.Value.res_main_v104 m c = res104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
/-- The values by heads. -/
def vT : FVec Ideal S8x32x4x64 .f32 := shapeCast S8x32x4x64 (extractStridedSlice S8x32x256 ![0, 0, 1280] (uT A B W gp X g2 Wi) slices_S8x32x2560_S8x32x256_0_0_1280) shapeCasts_S8x32x256_S8x32x4x64
theorem vT_at (b : Fin 8) (s : Fin 32) (h : Fin 4) (d : Fin 64) : (vT A B W gp X g2 Wi (ix4 b s h d) : EReal) = prow A B W gp X g2 Wi b s (vcol (kvAt h d)) := by
  pointwise [vT]
  simp only [uT_at]
  rfl
theorem run88 (m : (ℓ : Loc nD τ sig) → Buf (Elt Ideal) ℓ) (c : Dev nD) :
    Cert.Reference7Ideal.Value.res_main_v88 m c = kT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl
theorem run89 (m : (ℓ : Loc nD τ sig) → Buf (Elt Ideal) ℓ) (c : Dev nD) :
    Cert.Reference7Ideal.Value.res_main_v89 m c = vT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Reference7Ideal.MrgS
-- ==== Proof.MergeCS.Value.lean ====
/-
  The seven results of the merge into mixer C's inputs on the sample are the reference's, and both programs leave them.
-/
module

public import proofs.«01_k».proof.Defs
public import proofs.«01_k».proof.Proof.MergeC.Value
public import proofs.«01_k».proof.Proof.MergeCS.Host
public import proofs.«01_k».proof.Proof.MergeCS.RefVal

@[expose] public section

set_option maxRecDepth 16384

noncomputable section

namespace Cert.Kernel7Ideal.MrgS

open Cert.Kernel7Ideal Cert.Kernel7Ideal.Gen
open Cert.Kernel4Ideal.MrgC (app7 app5 wcol_q wcol_k wcol_v wcol_g)
open Idealize.ShloMosaic Idealize.ShloMosaic.TcCoe Idealize.SL.Sem

theorem val0 (m : (ℓ : Loc nD τ sig) → Buf (Elt Ideal) ℓ) (c : Dev nD) :
    Pipeline.afterTail₀ cfgs (dats m) 0 (V0 m) [hostOps1] c main_v47 = Cert.Reference7Ideal.MrgS.yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨b, s, l, rfl⟩ : ∃ (b : Fin 8) (s : Fin 32) (l : Fin 1024), (i : S8x32x1024.Idx) = ix3 b s l :=
    ⟨i 0, i 1, i 2, funext fun a => match a with | ⟨0, _⟩ => rfl | ⟨1, _⟩ => rfl | ⟨2, _⟩ => rfl⟩
  refine (tail_47 m c b s l).trans (Eq.trans ?_ (Cert.Reference7Ideal.MrgS.yT_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s l).symm)
  rw [ya_eq]
theorem val1 (m : (ℓ : Loc nD τ sig) → Buf (Elt Ideal) ℓ) (c : Dev nD) :
    Pipeline.afterTail₀ cfgs (dats m) 0 (V0 m) [hostOps1] c main_v48 = Cert.Reference7Ideal.MrgS.res95 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, l, rfl⟩ : ∃ (b : Fin 8) (s : Fin 32) (l : Fin 1024), (i : S8x32x1024.Idx) = ix3 b s l :=
    ⟨i 0, i 1, i 2, funext fun a => match a with | ⟨0, _⟩ => rfl | ⟨1, _⟩ => rfl | ⟨2, _⟩ => rfl⟩
  refine (tail_48 m c b s l).trans (Eq.trans ?_ (Cert.Reference7Ideal.MrgS.res95_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s l).symm)
  rw [ta_eq, wcol_q]
theorem val2 (m : (ℓ : Loc nD τ sig) → Buf (Elt Ideal) ℓ) (c : Dev nD) :
    Pipeline.afterTail₀ cfgs (dats m) 0 (V0 m) [hostOps1] c main_v49 = Cert.Reference7Ideal.MrgS.res97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, l, rfl⟩ : ∃ (b : Fin 8) (s : Fin 32) (l : Fin 256), (i : S8x32x256.Idx) = ix3 b s l :=
    ⟨i 0, i 1, i 2, funext fun a => match a with | ⟨0, _⟩ => rfl | ⟨1, _⟩ => rfl | ⟨2, _⟩ => rfl⟩
  refine (tail_49 m c b s l).trans (Eq.trans ?_ (Cert.Reference7Ideal.MrgS.res97_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s l).symm)
  rw [ta_eq, wcol_k]
theorem val3 (m : (ℓ : Loc nD τ sig) → Buf (Elt Ideal) ℓ) (c : Dev nD) :
    Pipeline.afterTail₀ cfgs (dats m) 0 (V0 m) [hostOps1] c main_v50 = Cert.Reference7Ideal.MrgS.res99 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, l, rfl⟩ : ∃ (b : Fin 8) (s : Fin 32) (l : Fin 256), (i : S8x32x256.Idx) = ix3 b s l :=
    ⟨i 0, i 1, i 2, funext fun a => match a with | ⟨0, _⟩ => rfl | ⟨1, _⟩ => rfl | ⟨2, _⟩ => rfl⟩
  refine (tail_50 m c b s l).trans (Eq.trans ?_ (Cert.Reference7Ideal.MrgS.res99_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s l).symm)
  rw [pa_eq, wcol_v]
theorem val4 (m : (ℓ : Loc nD τ sig) → Buf (Elt Ideal) ℓ) (c : Dev nD) :
    Pipeline.afterTail₀ cfgs (dats m) 0 (V0 m) [hostOps1] c main_v51 = Cert.Reference7Ideal.MrgS.res104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, l, rfl⟩ : ∃ (b : Fin 8) (s : Fin 32) (l : Fin 1024), (i : S8x32x1024.Idx) = ix3 b s l :=
    ⟨i 0, i 1, i 2, funext fun a => match a with | ⟨0, _⟩ => rfl | ⟨1, _⟩ => rfl | ⟨2, _⟩ => rfl⟩
  refine (tail_51 m c b s l).trans (Eq.trans ?_ (Cert.Reference7Ideal.MrgS.res104_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s l).symm)
  rw [pa_eq, wcol_g]
theorem val5 (m : (ℓ : Loc nD τ sig) → Buf (Elt Ideal) ℓ) (c : Dev nD) :
    Pipeline.afterTail₀ cfgs (dats m) 0 (V0 m) [hostOps1] c main_v52 = Cert.Reference7Ideal.MrgS.kT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, h, d, rfl⟩ : ∃ (b : Fin 8) (s : Fin 32) (h : Fin 4) (d : Fin 64), (i : S8x32x4x64.Idx) = ix4 b s h d :=
    ⟨i 0, i 1, i 2, i 3, funext fun a => match a with | ⟨0, _⟩ => rfl | ⟨1, _⟩ => rfl | ⟨2, _⟩ => rfl | ⟨3, _⟩ => rfl⟩
  refine (tail_52 m c b s h d).trans (Eq.trans ?_ (Cert.Reference7Ideal.MrgS.kT_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s h d).symm)
  rw [ta_eq, wcol_k]
theorem val6 (m : (ℓ : Loc nD τ sig) → Buf (Elt Ideal) ℓ) (c : Dev nD) :
    Pipeline.afterTail₀ cfgs (dats m) 0 (V0 m) [hostOps1] c main_v53 = Cert.Reference7Ideal.MrgS.vT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, h, d, rfl⟩ : ∃ (b : Fin 8) (s : Fin 32) (h : Fin 4) (d : Fin 64), (i : S8x32x4x64.Idx) = ix4 b s h d :=
    ⟨i 0, i 1, i 2, i 3, funext fun a => match a with | ⟨0, _⟩ => rfl | ⟨1, _⟩ => rfl | ⟨2, _⟩ => rfl | ⟨3, _⟩ => rfl⟩
  refine (tail_53 m c b s h d).trans (Eq.trans ?_ (Cert.Reference7Ideal.MrgS.vT_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s h d).symm)
  rw [pa_eq, wcol_v]

/-- The kernel's call computes the reference over the reals. -/
theorem value : Cert.algebraic_Kernel7Ideal_Reference7Ideal := fun m g m' g' _ hm =>
  ⟨fun c => Cert.Reference7Ideal.MrgS.yT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Cert.Reference7Ideal.MrgS.res95 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference7Ideal.MrgS.res97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference7Ideal.MrgS.res99 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference7Ideal.MrgS.res104 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference7Ideal.MrgS.kT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference7Ideal.MrgS.vT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    (θ_run defs _ _).mono (fun _ h c => ⟨((h c).2 main_v47 (Pipeline.mem_restRefs_of main_v47 (by decide) (by decide))).trans (val0 m c),
      ((h c).2 main_v48 (Pipeline.mem_restRefs_of main_v48 (by decide) (by decide))).trans (val1 m c),
      ((h c).2 main_v49 (Pipeline.mem_restRefs_of main_v49 (by decide) (by decide))).trans (val2 m c),
      ((h c).2 main_v50 (Pipeline.mem_restRefs_of main_v50 (by decide) (by decide))).trans (val3 m c),
      ((h c).2 main_v51 (Pipeline.mem_restRefs_of main_v51 (by decide) (by decide))).trans (val4 m c),
      ((h c).2 main_v52 (Pipeline.mem_restRefs_of main_v52 (by decide) (by decide))).trans (val5 m c),
      ((h c).2 main_v53 (Pipeline.mem_restRefs_of main_v53 (by decide) (by decide))).trans (val6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
      (run_main m g),
    (θ_run Cert.Reference7Ideal.defs _ _).mono (fun _ h c => ⟨(h c).1.trans (app5 Cert.Reference7Ideal.MrgS.yT (hm c).1 (hm c).2.1 (hm c).2.2.1 (hm c).2.2.2.1 (hm c).2.2.2.2.1),
      (h c).2.1.trans (((Cert.Reference7Ideal.MrgS.run95 m' c).trans (app7 Cert.Reference7Ideal.MrgS.res95 (hm c).1 (hm c).2.1 (hm c).2.2.1 (hm c).2.2.2.1 (hm c).2.2.2.2.1 (hm c).2.2.2.2.2.1 (hm c).2.2.2.2.2.2))),
      (h c).2.2.1.trans (((Cert.Reference7Ideal.MrgS.run97 m' c).trans (app7 Cert.Reference7Ideal.MrgS.res97 (hm c).1 (hm c).2.1 (hm c).2.2.1 (hm c).2.2.2.1 (hm c).2.2.2.2.1 (hm c).2.2.2.2.2.1 (hm c).2.2.2.2.2.2))),
      (h c).2.2.2.1.trans (((Cert.Reference7Ideal.MrgS.run99 m' c).trans (app7 Cert.Reference7Ideal.MrgS.res99 (hm c).1 (hm c).2.1 (hm c).2.2.1 (hm c).2.2.2.1 (hm c).2.2.2.2.1 (hm c).2.2.2.2.2.1 (hm c).2.2.2.2.2.2))),
      (h c).2.2.2.2.1.trans (((Cert.Reference7Ideal.MrgS.run104 m' c).trans (app7 Cert.Reference7Ideal.MrgS.res104 (hm c).1 (hm c).2.1 (hm c).2.2.1 (hm c).2.2.2.1 (hm c).2.2.2.2.1 (hm c).2.2.2.2.2.1 (hm c).2.2.2.2.2.2))),
      (h c).2.2.2.2.2.1.trans (((Cert.Reference7Ideal.MrgS.run88 m' c).trans (app7 Cert.Reference7Ideal.MrgS.kT (hm c).1 (hm c).2.1 (hm c).2.2.1 (hm c).2.2.2.1 (hm c).2.2.2.2.1 (hm c).2.2.2.2.2.1 (hm c).2.2.2.2.2.2))),
      (h c).2.2.2.2.2.2.1.trans (((Cert.Reference7Ideal.MrgS.run89 m' c).trans (app7 Cert.Reference7Ideal.MrgS.vT (hm c).1 (hm c).2.1 (hm c).2.2.1 (hm c).2.2.2.1 (hm c).2.2.2.2.1 (hm c).2.2.2.2.2.1 (hm c).2.2.2.2.2.2))),
      (h c).2.2.2.2.2.2.2⟩)
      (Cert.Reference7Ideal.Value.run m' g')⟩

end Cert.Kernel7Ideal.MrgS
-- ==== Proof.lean ====
module

public import proofs.«01_k».proof.Defs
public import proofs.«01_k».proof.Proof.AttnA.FrameK
public import proofs.«01_k».proof.Proof.Gen.Kernel2.Frame
public import proofs.«01_k».proof.Proof.AttnA.FrameI
public import proofs.«01_k».proof.Proof.AttnA.Reference
public import proofs.«01_k».proof.Proof.AttnA.Value
public import proofs.«01_k».proof.Proof.Gen.Kernel3.Frame
public import proofs.«01_k».proof.Proof.Gen.Kernel4.Frame
public import proofs.«01_k».proof.Proof.ProjAB.Value
public import proofs.«01_k».proof.Proof.Merge.Value
public import proofs.«01_k».proof.Proof.MergeC.Value
public import proofs.«01_k».proof.Proof.Gen.Kernel5.Frame
public import proofs.«01_k».proof.Proof.Gen.Kernel6.Frame
public import proofs.«01_k».proof.Proof.Gen.Kernel7.Frame
public import proofs.«01_k».proof.Proof.MergeS.Value
public import proofs.«01_k».proof.Proof.ProjS.Value
public import proofs.«01_k».proof.Proof.MergeCS.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.facts,
  fun m g _ => Cert.Kernel.Attn.frame_all m g,
  fun m g _ => Cert.KernelIdeal.Attn.frame_all m g,
  fun m g _ => Cert.KernelIdeal.Attn.frame_all m g,
  fun m g _ => Cert.ReferenceIdeal.Attn.frame_all m g,
  fun m g _ => Cert.ReferenceIdeal.Attn.frame_all m g,
  fun m g _ => Cert.Kernel2.Gen.frame m g,
  fun m g _ => Cert.Kernel2Ideal.Gen.frame m g,
  fun m g _ => Cert.Reference2Ideal.Proj.frame_all m g,
  fun m g _ => Cert.Kernel3.Gen.frame m g,
  fun m g _ => Cert.Kernel3Ideal.Gen.frame m g,
  fun m g _ => Cert.Reference3Ideal.Mrg.frame_all m g,
  fun m g _ => Cert.Kernel4.Gen.frame m g,
  fun m g _ => Cert.Kernel4Ideal.Gen.frame m g,
  fun m g _ => Cert.Reference4Ideal.MrgC.frame_all m g,
  fun m g _ => Cert.Kernel5.Gen.frame m g,
  fun m g _ => Cert.Kernel5Ideal.Gen.frame m g,
  fun m g _ => Cert.Reference5Ideal.MrgS.frame_all m g,
  fun m g _ => Cert.Kernel6.Gen.frame m g,
  fun m g _ => Cert.Kernel6Ideal.Gen.frame m g,
  fun m g _ => Cert.Reference6Ideal.PrjS.frame_all m g,
  fun m g _ => Cert.Kernel7.Gen.frame m g,
  fun m g _ => Cert.Kernel7Ideal.Gen.frame m g,
  fun m g _ => Cert.Reference7Ideal.MrgS.frame_all m g,
  IdealRules.named_const.statement Cert.KernelIdeal.κ "log2e" _ _ _ rfl,
  Cert.KernelIdeal.Attn.value,
  trivial,
  Cert.Kernel2Ideal.Proj.value,
  trivial,
  Cert.Kernel3Ideal.Mrg.value,
  trivial,
  Cert.Kernel4Ideal.MrgC.value,
  trivial,
  Cert.Kernel5Ideal.MrgS.value,
  trivial,
  Cert.Kernel6Ideal.PrjS.value,
  trivial,
  Cert.Kernel7Ideal.MrgS.value⟩

end Cert.Proof

end
